-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_KernelBIdeal_finite_b [hPre_finite_b : Cert.Pre_finite_b.Facts] (m : (ℓ : Loc Cert.KernelBIdeal.nD Cert.KernelBIdeal.τ Cert.KernelBIdeal.sig) → Buf (Elt Ideal) ℓ) : Prop :=
  ∀ c : Dev Cert.KernelBIdeal.nD,
    (Cert.Pre_finite_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7)) (m ((c.tc : Thread Cert.KernelBIdeal.nD Cert.KernelBIdeal.τ).loc Cert.KernelBIdeal.main_arg8))) = (fun _ => 1#1)

def Pre_ReferenceBIdeal (m : (ℓ : Loc Cert.ReferenceBIdeal.nD Cert.ReferenceBIdeal.τ Cert.ReferenceBIdeal.sig) → Buf (Elt Ideal) ℓ) : Prop :=
  True

def Pre_ReferenceBIdeal_finite_b [hPre_finite_b : Cert.Pre_finite_b.Facts] (m : (ℓ : Loc Cert.ReferenceBIdeal.nD Cert.ReferenceBIdeal.τ Cert.ReferenceBIdeal.sig) → Buf (Elt Ideal) ℓ) : Prop :=
  ∀ c : Dev Cert.ReferenceBIdeal.nD,
    (Cert.Pre_finite_b.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4)) (m ((c.tc : Thread Cert.ReferenceBIdeal.nD Cert.ReferenceBIdeal.τ).loc Cert.ReferenceBIdeal.main_arg5)) (m ((c.tc : Thread Cert.ReferenceBIdeal.nD Cert.ReferenceBIdeal.τ).loc Cert.ReferenceBIdeal.main_arg6)) (m ((c.tc : Thread Cert.ReferenceBIdeal.nD Cert.ReferenceBIdeal.τ).loc Cert.ReferenceBIdeal.main_arg7)) (m ((c.tc : Thread Cert.ReferenceBIdeal.nD Cert.ReferenceBIdeal.τ).loc Cert.ReferenceBIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2)
      ∧ r.2.mem ((c.tc : Thread Cert.KernelB.nD Cert.KernelB.τ).loc Cert.KernelB.main_arg3) = m ((c.tc : Thread Cert.KernelB.nD Cert.KernelB.τ).loc Cert.KernelB.main_arg3)
      ∧ r.2.mem ((c.tc : Thread Cert.KernelB.nD Cert.KernelB.τ).loc Cert.KernelB.main_arg4) = m ((c.tc : Thread Cert.KernelB.nD Cert.KernelB.τ).loc Cert.KernelB.main_arg4)
      ∧ r.2.mem ((c.tc : Thread Cert.KernelB.nD Cert.KernelB.τ).loc Cert.KernelB.main_arg5) = m ((c.tc : Thread Cert.KernelB.nD Cert.KernelB.τ).loc Cert.KernelB.main_arg5)
      ∧ r.2.mem ((c.tc : Thread Cert.KernelB.nD Cert.KernelB.τ).loc Cert.KernelB.main_arg6) = m ((c.tc : Thread Cert.KernelB.nD Cert.KernelB.τ).loc Cert.KernelB.main_arg6)
      ∧ r.2.mem ((c.tc : Thread Cert.KernelB.nD Cert.KernelB.τ).loc Cert.KernelB.main_arg7) = m ((c.tc : Thread Cert.KernelB.nD Cert.KernelB.τ).loc Cert.KernelB.main_arg7)
      ∧ r.2.mem ((c.tc : Thread Cert.KernelB.nD Cert.KernelB.τ).loc Cert.KernelB.main_arg8) = m ((c.tc : Thread Cert.KernelB.nD Cert.KernelB.τ).loc Cert.KernelB.main_arg8))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
      ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
      ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6)
      ∧ r.2.mem ((c.tc : Thread Cert.KernelBIdeal.nD Cert.KernelBIdeal.τ).loc Cert.KernelBIdeal.main_arg7) = m ((c.tc : Thread Cert.KernelBIdeal.nD Cert.KernelBIdeal.τ).loc Cert.KernelBIdeal.main_arg7)
      ∧ r.2.mem ((c.tc : Thread Cert.KernelBIdeal.nD Cert.KernelBIdeal.τ).loc Cert.KernelBIdeal.main_arg8) = m ((c.tc : Thread Cert.KernelBIdeal.nD Cert.KernelBIdeal.τ).loc Cert.KernelBIdeal.main_arg8))
      ∧ r.2.sem = fun _ => 0)

def quiescent_KernelBIdeal_pre_finite_b [hKernelBIdeal : Cert.KernelBIdeal.Facts] [hPre_finite_b : Cert.Pre_finite_b.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal_finite_b m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
      ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
      ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6)
      ∧ r.2.mem ((c.tc : Thread Cert.KernelBIdeal.nD Cert.KernelBIdeal.τ).loc Cert.KernelBIdeal.main_arg7) = m ((c.tc : Thread Cert.KernelBIdeal.nD Cert.KernelBIdeal.τ).loc Cert.KernelBIdeal.main_arg7)
      ∧ r.2.mem ((c.tc : Thread Cert.KernelBIdeal.nD Cert.KernelBIdeal.τ).loc Cert.KernelBIdeal.main_arg8) = m ((c.tc : Thread Cert.KernelBIdeal.nD Cert.KernelBIdeal.τ).loc Cert.KernelBIdeal.main_arg8))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3)
      ∧ r.2.mem ((c.tc : Thread Cert.ReferenceBIdeal.nD Cert.ReferenceBIdeal.τ).loc Cert.ReferenceBIdeal.main_arg4) = m ((c.tc : Thread Cert.ReferenceBIdeal.nD Cert.ReferenceBIdeal.τ).loc Cert.ReferenceBIdeal.main_arg4)
      ∧ r.2.mem ((c.tc : Thread Cert.ReferenceBIdeal.nD Cert.ReferenceBIdeal.τ).loc Cert.ReferenceBIdeal.main_arg5) = m ((c.tc : Thread Cert.ReferenceBIdeal.nD Cert.ReferenceBIdeal.τ).loc Cert.ReferenceBIdeal.main_arg5)
      ∧ r.2.mem ((c.tc : Thread Cert.ReferenceBIdeal.nD Cert.ReferenceBIdeal.τ).loc Cert.ReferenceBIdeal.main_arg6) = m ((c.tc : Thread Cert.ReferenceBIdeal.nD Cert.ReferenceBIdeal.τ).loc Cert.ReferenceBIdeal.main_arg6)
      ∧ r.2.mem ((c.tc : Thread Cert.ReferenceBIdeal.nD Cert.ReferenceBIdeal.τ).loc Cert.ReferenceBIdeal.main_arg7) = m ((c.tc : Thread Cert.ReferenceBIdeal.nD Cert.ReferenceBIdeal.τ).loc Cert.ReferenceBIdeal.main_arg7)
      ∧ r.2.mem ((c.tc : Thread Cert.ReferenceBIdeal.nD Cert.ReferenceBIdeal.τ).loc Cert.ReferenceBIdeal.main_arg8) = m ((c.tc : Thread Cert.ReferenceBIdeal.nD Cert.ReferenceBIdeal.τ).loc Cert.ReferenceBIdeal.main_arg8))
      ∧ r.2.sem = fun _ => 0)

def quiescent_ReferenceBIdeal_pre_finite_b [hReferenceBIdeal : Cert.ReferenceBIdeal.Facts] [hPre_finite_b : Cert.Pre_finite_b.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal_finite_b m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3)
      ∧ r.2.mem ((c.tc : Thread Cert.ReferenceBIdeal.nD Cert.ReferenceBIdeal.τ).loc Cert.ReferenceBIdeal.main_arg4) = m ((c.tc : Thread Cert.ReferenceBIdeal.nD Cert.ReferenceBIdeal.τ).loc Cert.ReferenceBIdeal.main_arg4)
      ∧ r.2.mem ((c.tc : Thread Cert.ReferenceBIdeal.nD Cert.ReferenceBIdeal.τ).loc Cert.ReferenceBIdeal.main_arg5) = m ((c.tc : Thread Cert.ReferenceBIdeal.nD Cert.ReferenceBIdeal.τ).loc Cert.ReferenceBIdeal.main_arg5)
      ∧ r.2.mem ((c.tc : Thread Cert.ReferenceBIdeal.nD Cert.ReferenceBIdeal.τ).loc Cert.ReferenceBIdeal.main_arg6) = m ((c.tc : Thread Cert.ReferenceBIdeal.nD Cert.ReferenceBIdeal.τ).loc Cert.ReferenceBIdeal.main_arg6)
      ∧ r.2.mem ((c.tc : Thread Cert.ReferenceBIdeal.nD Cert.ReferenceBIdeal.τ).loc Cert.ReferenceBIdeal.main_arg7) = m ((c.tc : Thread Cert.ReferenceBIdeal.nD Cert.ReferenceBIdeal.τ).loc Cert.ReferenceBIdeal.main_arg7)
      ∧ r.2.mem ((c.tc : Thread Cert.ReferenceBIdeal.nD Cert.ReferenceBIdeal.τ).loc Cert.ReferenceBIdeal.main_arg8) = m ((c.tc : Thread Cert.ReferenceBIdeal.nD Cert.ReferenceBIdeal.τ).loc Cert.ReferenceBIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v55) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelB_KernelBIdeal : Prop :=
  IdealRules.named_const.Statement Cert.KernelBIdeal.κ "neg_inf" .f32 0xF149F2CA#32 ⊥
  ∧ IdealRules.named_const.Statement Cert.KernelBIdeal.κ "pos_inf" .f32 0x7F7FFFFF#32 ⊤
  ∧ IdealRules.named_const.Statement Cert.KernelBIdeal.κ "log2e" .f32 0x3FB8AA3B#32 (((Real.log 2)⁻¹ : ℝ) : EReal)

def algebraic_KernelBIdeal_ReferenceBIdeal_pre_finite_b [hKernelBIdeal : Cert.KernelBIdeal.Facts] [hReferenceBIdeal : Cert.ReferenceBIdeal.Facts] [hPre_finite_b : Cert.Pre_finite_b.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal_finite_b m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)
      ∧ m' ((c.tc : Thread Cert.ReferenceBIdeal.nD Cert.ReferenceBIdeal.τ).loc Cert.ReferenceBIdeal.main_arg3) = m ((c.tc : Thread Cert.KernelBIdeal.nD Cert.KernelBIdeal.τ).loc Cert.KernelBIdeal.main_arg3)
      ∧ m' ((c.tc : Thread Cert.ReferenceBIdeal.nD Cert.ReferenceBIdeal.τ).loc Cert.ReferenceBIdeal.main_arg4) = m ((c.tc : Thread Cert.KernelBIdeal.nD Cert.KernelBIdeal.τ).loc Cert.KernelBIdeal.main_arg4)
      ∧ m' ((c.tc : Thread Cert.ReferenceBIdeal.nD Cert.ReferenceBIdeal.τ).loc Cert.ReferenceBIdeal.main_arg5) = m ((c.tc : Thread Cert.KernelBIdeal.nD Cert.KernelBIdeal.τ).loc Cert.KernelBIdeal.main_arg5)
      ∧ m' ((c.tc : Thread Cert.ReferenceBIdeal.nD Cert.ReferenceBIdeal.τ).loc Cert.ReferenceBIdeal.main_arg6) = m ((c.tc : Thread Cert.KernelBIdeal.nD Cert.KernelBIdeal.τ).loc Cert.KernelBIdeal.main_arg6)
      ∧ m' ((c.tc : Thread Cert.ReferenceBIdeal.nD Cert.ReferenceBIdeal.τ).loc Cert.ReferenceBIdeal.main_arg7) = m ((c.tc : Thread Cert.KernelBIdeal.nD Cert.KernelBIdeal.τ).loc Cert.KernelBIdeal.main_arg7)
      ∧ m' ((c.tc : Thread Cert.ReferenceBIdeal.nD Cert.ReferenceBIdeal.τ).loc Cert.ReferenceBIdeal.main_arg8) = m ((c.tc : Thread Cert.KernelBIdeal.nD Cert.KernelBIdeal.τ).loc Cert.KernelBIdeal.main_arg8)) →
    ∃ (v0 : (c : Dev Cert.KernelBIdeal.nD) → Buf (Elt Ideal) ((c.tc : Thread Cert.KernelBIdeal.nD Cert.KernelBIdeal.τ).loc Cert.KernelBIdeal.main_v75)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v75) = v0 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
          ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
          ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
          ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
          ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6)
          ∧ r.2.mem ((c.tc : Thread Cert.KernelBIdeal.nD Cert.KernelBIdeal.τ).loc Cert.KernelBIdeal.main_arg7) = m ((c.tc : Thread Cert.KernelBIdeal.nD Cert.KernelBIdeal.τ).loc Cert.KernelBIdeal.main_arg7)
          ∧ r.2.mem ((c.tc : Thread Cert.KernelBIdeal.nD Cert.KernelBIdeal.τ).loc Cert.KernelBIdeal.main_arg8) = m ((c.tc : Thread Cert.KernelBIdeal.nD Cert.KernelBIdeal.τ).loc Cert.KernelBIdeal.main_arg8))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v166) = v0 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2)
          ∧ r.2.mem ((c.tc : Thread Cert.ReferenceBIdeal.nD Cert.ReferenceBIdeal.τ).loc Cert.ReferenceBIdeal.main_arg3) = m' ((c.tc : Thread Cert.ReferenceBIdeal.nD Cert.ReferenceBIdeal.τ).loc Cert.ReferenceBIdeal.main_arg3)
          ∧ r.2.mem ((c.tc : Thread Cert.ReferenceBIdeal.nD Cert.ReferenceBIdeal.τ).loc Cert.ReferenceBIdeal.main_arg4) = m' ((c.tc : Thread Cert.ReferenceBIdeal.nD Cert.ReferenceBIdeal.τ).loc Cert.ReferenceBIdeal.main_arg4)
          ∧ r.2.mem ((c.tc : Thread Cert.ReferenceBIdeal.nD Cert.ReferenceBIdeal.τ).loc Cert.ReferenceBIdeal.main_arg5) = m' ((c.tc : Thread Cert.ReferenceBIdeal.nD Cert.ReferenceBIdeal.τ).loc Cert.ReferenceBIdeal.main_arg5)
          ∧ r.2.mem ((c.tc : Thread Cert.ReferenceBIdeal.nD Cert.ReferenceBIdeal.τ).loc Cert.ReferenceBIdeal.main_arg6) = m' ((c.tc : Thread Cert.ReferenceBIdeal.nD Cert.ReferenceBIdeal.τ).loc Cert.ReferenceBIdeal.main_arg6)
          ∧ r.2.mem ((c.tc : Thread Cert.ReferenceBIdeal.nD Cert.ReferenceBIdeal.τ).loc Cert.ReferenceBIdeal.main_arg7) = m' ((c.tc : Thread Cert.ReferenceBIdeal.nD Cert.ReferenceBIdeal.τ).loc Cert.ReferenceBIdeal.main_arg7)
          ∧ r.2.mem ((c.tc : Thread Cert.ReferenceBIdeal.nD Cert.ReferenceBIdeal.τ).loc Cert.ReferenceBIdeal.main_arg8) = m' ((c.tc : Thread Cert.ReferenceBIdeal.nD Cert.ReferenceBIdeal.τ).loc Cert.ReferenceBIdeal.main_arg8))

def Claim : Prop :=
  ∃ (hKernel : Cert.Kernel.Facts) (hKernelIdeal : Cert.KernelIdeal.Facts) (hReferenceIdeal : Cert.ReferenceIdeal.Facts) (hKernelB : Cert.KernelB.Facts) (hKernelBIdeal : Cert.KernelBIdeal.Facts) (hReferenceBIdeal : Cert.ReferenceBIdeal.Facts) (hPre_finite_b : Cert.Pre_finite_b.Facts),
    quiescent_Kernel (hKernel := hKernel)
    ∧ quiescent_KernelIdeal (hKernelIdeal := hKernelIdeal)
    ∧ quiescent_ReferenceIdeal (hReferenceIdeal := hReferenceIdeal)
    ∧ quiescent_KernelB (hKernelB := hKernelB)
    ∧ quiescent_KernelBIdeal (hKernelBIdeal := hKernelBIdeal)
    ∧ quiescent_KernelBIdeal_pre_finite_b (hKernelBIdeal := hKernelBIdeal) (hPre_finite_b := hPre_finite_b)
    ∧ quiescent_ReferenceBIdeal (hReferenceBIdeal := hReferenceBIdeal)
    ∧ quiescent_ReferenceBIdeal_pre_finite_b (hReferenceBIdeal := hReferenceBIdeal) (hPre_finite_b := hPre_finite_b)
    ∧ preserves_Kernel_KernelIdeal
    ∧ algebraic_KernelIdeal_ReferenceIdeal (hKernelIdeal := hKernelIdeal) (hReferenceIdeal := hReferenceIdeal)
    ∧ preserves_KernelB_KernelBIdeal
    ∧ algebraic_KernelBIdeal_ReferenceBIdeal_pre_finite_b (hKernelBIdeal := hKernelBIdeal) (hReferenceBIdeal := hReferenceBIdeal) (hPre_finite_b := hPre_finite_b)
-- ==== Pre_finite_b.lean ====
abbrev S4x8192x1024 : Shape := ⟨3, ![4, 8192, 1024]⟩
abbrev S1024 : Shape := ⟨1, ![1024]⟩
abbrev S1024x512 : Shape := ⟨2, ![1024, 512]⟩
abbrev S64 : Shape := ⟨1, ![64]⟩
abbrev S1x1024 : Shape := ⟨2, ![1, 1024]⟩
abbrev S1x1024x2048 : Shape := ⟨3, ![1, 1024, 2048]⟩
abbrev S1x64 : Shape := ⟨2, ![1, 64]⟩
abbrev S1x16 : Shape := ⟨2, ![1, 16]⟩
abbrev S1x1024x1024 : Shape := ⟨3, ![1, 1024, 1024]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  bcast_S_S1x64 : S_.BroadcastsInDim S1x64 (![] : Fin 0 → Fin S1x64.rank)
  reducesTo_S1x64_S_d0_1 : S1x64.ReducesTo [0, 1] S_
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S4x8192x1024 .f32) (main_arg1 : FVec F S1024 .f32) (main_arg2 : FVec F S1024x512 .f32) (main_arg3 : FVec F S64 .f32) (main_arg4 : FVec F S1x1024 .f32) (main_arg5 : FVec F S1x1024x2048 .f32) (main_arg6 : FVec F S1x64 .f32) (main_arg7 : FVec F S1x16 .f32) (main_arg8 : FVec F S1x1024x1024 .f32) : IVec S_ 1 :=
  let main_v0 : FVec F S64 .f32 := Host.absf main_arg3
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  let main_v4 : FVec F S1x64 .f32 := Host.absf main_arg6
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x16 .f32 := Host.absf main_arg7
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  main_v13
-- ==== Kernel.lean ====
abbrev S4x8192x1024 : Shape := ⟨3, ![4, 8192, 1024]⟩
abbrev S1x1024 : Shape := ⟨2, ![1, 1024]⟩
abbrev S1x1024x4096 : Shape := ⟨3, ![1, 1024, 4096]⟩
abbrev S1x3x1x1024 : Shape := ⟨4, ![1, 3, 1, 1024]⟩
abbrev S1x1024x1024 : Shape := ⟨3, ![1, 1024, 1024]⟩
abbrev S1024x512 : Shape := ⟨2, ![1024, 512]⟩
abbrev S1x1024x2048 : Shape := ⟨3, ![1, 1024, 2048]⟩
abbrev S1024 : Shape := ⟨1, ![1024]⟩
abbrev S1024x4096 : Shape := ⟨2, ![1024, 4096]⟩
abbrev S3x1x1024 : Shape := ⟨3, ![3, 1, 1024]⟩
abbrev S1024x1024 : Shape := ⟨2, ![1024, 1024]⟩
abbrev S1024x2048 : Shape := ⟨2, ![1024, 2048]⟩
abbrev S32x512 : Shape := ⟨2, ![32, 512]⟩
abbrev S32x2048 : Shape := ⟨2, ![32, 2048]⟩
abbrev S32x1024 : Shape := ⟨2, ![32, 1024]⟩
abbrev S1032x1024 : Shape := ⟨2, ![1032, 1024]⟩
abbrev S8x1024 : Shape := ⟨2, ![8, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S1x1x1024 : Shape := ⟨3, ![1, 1, 1024]⟩

abbrev nBuf : Space → Nat
  | .hbm => 19
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x4096, .f32⟩
  | .hbm, ⟨3, _⟩ => ⟨S1x3x1x1024, .f32⟩
  | .hbm, ⟨4, _⟩ => ⟨S1x1024x1024, .f32⟩
  | .hbm, ⟨5, _⟩ => ⟨S1024x512, .f32⟩
  | .hbm, ⟨6, _⟩ => ⟨S1x1024x2048, .f32⟩
  | .hbm, ⟨7, _⟩ => ⟨S1x1024x1024, .f32⟩
  | .hbm, ⟨8, _⟩ => ⟨S1024, .f32⟩
  | .hbm, ⟨9, _⟩ => ⟨S1024x4096, .f32⟩
  | .hbm, ⟨10, _⟩ => ⟨S3x1x1024, .f32⟩
  | .hbm, ⟨11, _⟩ => ⟨S1024x1024, .f32⟩
  | .hbm, ⟨12, _⟩ => ⟨S1024x2048, .f32⟩
  | .hbm, ⟨13, _⟩ => ⟨S1024x1024, .f32⟩
  | .hbm, ⟨14, _⟩ => ⟨S1x1024, .f32⟩
  | .hbm, ⟨15, _⟩ => ⟨S4x8192x1024, .f32⟩
  | .hbm, ⟨16, _⟩ => ⟨S1024x512, .bf16⟩
  | .hbm, ⟨17, _⟩ => ⟨S1024x2048, .bf16⟩
  | .hbm, ⟨18, _⟩ => ⟨S1024x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x4096, .f32⟩
  | .local _ .vmem, ⟨4, _⟩ => ⟨S3x1x1024, .f32⟩
  | .local _ .vmem, ⟨5, _⟩ => ⟨S1024x1024, .f32⟩
  | .local _ .vmem, ⟨6, _⟩ => ⟨S32x512, .f32⟩
  | .local _ .vmem, ⟨7, _⟩ => ⟨S32x512, .f32⟩
  | .local _ .vmem, ⟨8, _⟩ => ⟨S32x2048, .f32⟩
  | .local _ .vmem, ⟨9, _⟩ => ⟨S32x2048, .f32⟩
  | .local _ .vmem, ⟨10, _⟩ => ⟨S32x1024, .f32⟩
  | .local _ .vmem, ⟨11, _⟩ => ⟨S32x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S32x512, .bf16⟩
  | .local _ .vmem, ⟨15, _⟩ => ⟨S32x512, .bf16⟩
  | .local _ .vmem, ⟨16, _⟩ => ⟨S32x2048, .bf16⟩
  | .local _ .vmem, ⟨17, _⟩ => ⟨S32x2048, .bf16⟩
  | .local _ .vmem, ⟨18, _⟩ => ⟨S32x1024, .bf16⟩
  | .local _ .vmem, ⟨19, _⟩ => ⟨S32x1024, .bf16⟩
  | .local _ .vmem, ⟨20, _⟩ => ⟨S1032x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4x8192x1024 : Shape := ⟨3, ![4, 8192, 1024]⟩
abbrev S1x1024 : Shape := ⟨2, ![1, 1024]⟩
abbrev S1x1024x4096 : Shape := ⟨3, ![1, 1024, 4096]⟩
abbrev S1x3x1x1024 : Shape := ⟨4, ![1, 3, 1, 1024]⟩
abbrev S1x1024x1024 : Shape := ⟨3, ![1, 1024, 1024]⟩
abbrev S1024x512 : Shape := ⟨2, ![1024, 512]⟩
abbrev S1x1024x2048 : Shape := ⟨3, ![1, 1024, 2048]⟩
abbrev S1024 : Shape := ⟨1, ![1024]⟩
abbrev S1024x4096 : Shape := ⟨2, ![1024, 4096]⟩
abbrev S3x1x1024 : Shape := ⟨3, ![3, 1, 1024]⟩
abbrev S1024x1024 : Shape := ⟨2, ![1024, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩
abbrev S4x8194x1024 : Shape := ⟨3, ![4, 8194, 1024]⟩
abbrev S1024x2048 : Shape := ⟨2, ![1024, 2048]⟩

abbrev nBuf : Space → Nat
  | .hbm => 78
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x4096, .f32⟩
  | .hbm, ⟨3, _⟩ => ⟨S1x3x1x1024, .f32⟩
  | .hbm, ⟨4, _⟩ => ⟨S1x1024x1024, .f32⟩
  | .hbm, ⟨5, _⟩ => ⟨S1024x512, .f32⟩
  | .hbm, ⟨6, _⟩ => ⟨S1x1024x2048, .f32⟩
  | .hbm, ⟨7, _⟩ => ⟨S1x1024x1024, .f32⟩
  | .hbm, ⟨8, _⟩ => ⟨S1024, .f32⟩
  | .hbm, ⟨9, _⟩ => ⟨S1024x4096, .f32⟩
  | .hbm, ⟨10, _⟩ => ⟨S3x1x1024, .f32⟩
  | .hbm, ⟨11, _⟩ => ⟨S1024x1024, .f32⟩
  | .hbm, ⟨12, _⟩ => ⟨S4x8192x1024, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S1x1x1024, .f32⟩
  | .hbm, ⟨26, _⟩ => ⟨S4x8192x1024, .f32⟩
  | .hbm, ⟨27, _⟩ => ⟨S4x8192x1024, .f32⟩
  | .hbm, ⟨28, _⟩ => ⟨S4x8192x4096, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S_, .i32⟩
  | .hbm, ⟨35, _⟩ => ⟨S_, .f32⟩
  | .hbm, ⟨36, _⟩ => ⟨S4x8194x1024, .f32⟩
  | .hbm, ⟨37, _⟩ => ⟨S4x8192x1024, .f32⟩
  | .hbm, ⟨38, _⟩ => ⟨S1x1x1024, .f32⟩
  | .hbm, ⟨39, _⟩ => ⟨S1x1024, .f32⟩
  | .hbm, ⟨40, _⟩ => ⟨S1x1x1024, .f32⟩
  | .hbm, ⟨41, _⟩ => ⟨S4x8192x1024, .f32⟩
  | .hbm, ⟨42, _⟩ => ⟨S4x8192x1024, .f32⟩
  | .hbm, ⟨43, _⟩ => ⟨S_, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S1x1x1024, .f32⟩
  | .hbm, ⟨48, _⟩ => ⟨S1x1024, .f32⟩
  | .hbm, ⟨49, _⟩ => ⟨S1x1x1024, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S1x1x1024, .f32⟩
  | .hbm, ⟨55, _⟩ => ⟨S1x1024, .f32⟩
  | .hbm, ⟨56, _⟩ => ⟨S1x1x1024, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | .hbm, ⟨61, _⟩ => ⟨S4x8192x1024, .f32⟩
  | .hbm, ⟨62, _⟩ => ⟨S4x8192x1024, .f32⟩
  | .hbm, ⟨63, _⟩ => ⟨S_, .f32⟩
  | .hbm, ⟨64, _⟩ => ⟨S4x8192x1024, .f32⟩
  | .hbm, ⟨65, _⟩ => ⟨S4x8192x1024, .f32⟩
  | .hbm, ⟨66, _⟩ => ⟨S_, .f32⟩
  | .hbm, ⟨67, _⟩ => ⟨S4x8192x1024, .f32⟩
  | .hbm, ⟨68, _⟩ => ⟨S4x8192x1024, .f32⟩
  | .hbm, ⟨69, _⟩ => ⟨S4x8192x1024, .f32⟩
  | .hbm, ⟨70, _⟩ => ⟨S4x8192x1024, .f32⟩
  | .hbm, ⟨71, _⟩ => ⟨S4x8192x1024, .f32⟩
  | .hbm, ⟨72, _⟩ => ⟨S4x8192x1024, .f32⟩
  | .hbm, ⟨73, _⟩ => ⟨S1024x512, .bf16⟩
  | .hbm, ⟨74, _⟩ => ⟨S1024x2048, .f32⟩
  | .hbm, ⟨75, _⟩ => ⟨S1024x2048, .bf16⟩
  | .hbm, ⟨76, _⟩ => ⟨S1024x1024, .f32⟩
  | .hbm, ⟨77, _⟩ => ⟨S1024x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== KernelB.lean ====
abbrev S4x8192x1024 : Shape := ⟨3, ![4, 8192, 1024]⟩
abbrev S1024 : Shape := ⟨1, ![1024]⟩
abbrev S1024x512 : Shape := ⟨2, ![1024, 512]⟩
abbrev S64 : Shape := ⟨1, ![64]⟩
abbrev S1x1024 : Shape := ⟨2, ![1, 1024]⟩
abbrev S1x1024x2048 : Shape := ⟨3, ![1, 1024, 2048]⟩
abbrev S1x64 : Shape := ⟨2, ![1, 64]⟩
abbrev S1x16 : Shape := ⟨2, ![1, 16]⟩
abbrev S1x1024x1024 : Shape := ⟨3, ![1, 1024, 1024]⟩
abbrev S128 : Shape := ⟨1, ![128]⟩
abbrev S256 : Shape := ⟨1, ![256]⟩
abbrev S1x256 : Shape := ⟨2, ![1, 256]⟩
abbrev S1024x2048 : Shape := ⟨2, ![1024, 2048]⟩
abbrev S16 : Shape := ⟨1, ![16]⟩
abbrev S1024x1024 : Shape := ⟨2, ![1024, 1024]⟩
abbrev S_ : Shape := ⟨0, ![]⟩
abbrev S8192 : Shape := ⟨1, ![8192]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8x8192 : Shape := ⟨2, ![8, 8192]⟩
abbrev S8x16x512 : Shape := ⟨3, ![8, 16, 512]⟩
abbrev S16x8x512 : Shape := ⟨3, ![16, 8, 512]⟩
abbrev S128x1 : Shape := ⟨2, ![128, 1]⟩
abbrev S8192x128 : Shape := ⟨2, ![8192, 128]⟩
abbrev S24 : Shape := ⟨1, ![24]⟩
abbrev S32 : Shape := ⟨1, ![32]⟩
abbrev S1x32 : Shape := ⟨2, ![1, 32]⟩
abbrev S4x32 : Shape := ⟨2, ![4, 32]⟩
abbrev S1x128 : Shape := ⟨2, ![1, 128]⟩
abbrev S256x1 : Shape := ⟨2, ![256, 1]⟩
abbrev S256x256 : Shape := ⟨2, ![256, 256]⟩
abbrev S64x1 : Shape := ⟨2, ![64, 1]⟩
abbrev S2x8x512 : Shape := ⟨3, ![2, 8, 512]⟩
abbrev S1024x128 : Shape := ⟨2, ![1024, 128]⟩
abbrev S4x256x1152 : Shape := ⟨3, ![4, 256, 1152]⟩
abbrev S4x1152x256 : Shape := ⟨3, ![4, 1152, 256]⟩
abbrev S1024x256 : Shape := ⟨2, ![1024, 256]⟩
abbrev S4x1152x128 : Shape := ⟨3, ![4, 1152, 128]⟩
abbrev S4x256x128 : Shape := ⟨3, ![4, 256, 128]⟩
abbrev S4x128x128 : Shape := ⟨3, ![4, 128, 128]⟩
abbrev S512x128 : Shape := ⟨2, ![512, 128]⟩
abbrev S128x256 : Shape := ⟨2, ![128, 256]⟩
abbrev S128x128 : Shape := ⟨2, ![128, 128]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S512x256 : Shape := ⟨2, ![512, 256]⟩
abbrev S256x512 : Shape := ⟨2, ![256, 512]⟩
abbrev S1x8x512 : Shape := ⟨3, ![1, 8, 512]⟩
abbrev S8x512 : Shape := ⟨2, ![8, 512]⟩
abbrev S64x512 : Shape := ⟨2, ![64, 512]⟩
abbrev S1x512 : Shape := ⟨2, ![1, 512]⟩
abbrev S24x512 : Shape := ⟨2, ![24, 512]⟩
abbrev S32x512 : Shape := ⟨2, ![32, 512]⟩
abbrev S1x256x512 : Shape := ⟨3, ![1, 256, 512]⟩
abbrev S1x512x128 : Shape := ⟨3, ![1, 512, 128]⟩
abbrev S1x256x256 : Shape := ⟨3, ![1, 256, 256]⟩
abbrev S1 : Shape := ⟨1, ![1]⟩
abbrev S128x1024 : Shape := ⟨2, ![128, 1024]⟩
abbrev S1x512x512 : Shape := ⟨3, ![1, 512, 512]⟩

abbrev nBuf : Space → Nat
  | .hbm => 111
  | .vmem => 24
  | .smem => 1
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x512, .f32⟩
  | .hbm, ⟨3, _⟩ => ⟨S64, .f32⟩
  | .hbm, ⟨4, _⟩ => ⟨S1x1024, .f32⟩
  | .hbm, ⟨5, _⟩ => ⟨S1x1024x2048, .f32⟩
  | .hbm, ⟨6, _⟩ => ⟨S1x64, .f32⟩
  | .hbm, ⟨7, _⟩ => ⟨S1x16, .f32⟩
  | .hbm, ⟨8, _⟩ => ⟨S1x1024x1024, .f32⟩
  | .hbm, ⟨9, _⟩ => ⟨S128, .i32⟩
  | .hbm, ⟨10, _⟩ => ⟨S128, .i1⟩
  | .hbm, ⟨11, _⟩ => ⟨S128, .i1⟩
  | .hbm, ⟨12, _⟩ => ⟨S128, .i32⟩
  | .hbm, ⟨13, _⟩ => ⟨S128, .i1⟩
  | .hbm, ⟨14, _⟩ => ⟨S256, .i32⟩
  | .hbm, ⟨15, _⟩ => ⟨S1x256, .i32⟩
  | .hbm, ⟨16, _⟩ => ⟨S1024, .f32⟩
  | .hbm, ⟨17, _⟩ => ⟨S1024x2048, .f32⟩
  | .hbm, ⟨18, _⟩ => ⟨S64, .f32⟩
  | .hbm, ⟨19, _⟩ => ⟨S16, .f32⟩
  | .hbm, ⟨20, _⟩ => ⟨S1024x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S8192x1, .f32⟩
  | .hbm, ⟨41, _⟩ => ⟨S1x8, .f32⟩
  | .hbm, ⟨42, _⟩ => ⟨S8192x8, .f32⟩
  | .hbm, ⟨43, _⟩ => ⟨S8192x8, .f32⟩
  | .hbm, ⟨44, _⟩ => ⟨S8192x8, .f32⟩
  | .hbm, ⟨45, _⟩ => ⟨S8192x8, .f32⟩
  | .hbm, ⟨46, _⟩ => ⟨S8192x8, .f32⟩
  | .hbm, ⟨47, _⟩ => ⟨S8x8192, .f32⟩
  | .hbm, ⟨48, _⟩ => ⟨S8x16x512, .f32⟩
  | .hbm, ⟨49, _⟩ => ⟨S16x8x512, .f32⟩
  | .hbm, ⟨50, _⟩ => ⟨S8x8192, .f32⟩
  | .hbm, ⟨51, _⟩ => ⟨S8x16x512, .f32⟩
  | .hbm, ⟨52, _⟩ => ⟨S16x8x512, .f32⟩
  | .hbm, ⟨53, _⟩ => ⟨S_, .i32⟩
  | .hbm, ⟨54, _⟩ => ⟨S128, .i32⟩
  | .hbm, ⟨55, _⟩ => ⟨S128, .i32⟩
  | .hbm, ⟨56, _⟩ => ⟨S128, .i32⟩
  | .hbm, ⟨57, _⟩ => ⟨S128x1, .i32⟩
  | .hbm, ⟨58, _⟩ => ⟨S8192x128, .f32⟩
  | .hbm, ⟨59, _⟩ => ⟨S_, .f32⟩
  | .hbm, ⟨60, _⟩ => ⟨S_, .f32⟩
  | .hbm, ⟨61, _⟩ => ⟨S8192x128, .i1⟩
  | .hbm, ⟨62, _⟩ => ⟨S8192x128, .f32⟩
  | .hbm, ⟨63, _⟩ => ⟨S8192x128, .f32⟩
  | .hbm, ⟨64, _⟩ => ⟨S8192x128, .f32⟩
  | .hbm, ⟨65, _⟩ => ⟨S8192x128, .f32⟩
  | .hbm, ⟨66, _⟩ => ⟨S_, .i32⟩
  | .hbm, ⟨67, _⟩ => ⟨S128, .i32⟩
  | .hbm, ⟨68, _⟩ => ⟨S128, .i32⟩
  | .hbm, ⟨69, _⟩ => ⟨S128, .i32⟩
  | .hbm, ⟨70, _⟩ => ⟨S128x1, .i32⟩
  | .hbm, ⟨71, _⟩ => ⟨S8192x128, .f32⟩
  | .hbm, ⟨72, _⟩ => ⟨S_, .f32⟩
  | .hbm, ⟨73, _⟩ => ⟨S_, .f32⟩
  | .hbm, ⟨74, _⟩ => ⟨S8192x128, .i1⟩
  | .hbm, ⟨75, _⟩ => ⟨S8192x128, .f32⟩
  | .hbm, ⟨76, _⟩ => ⟨S8192x128, .f32⟩
  | .hbm, ⟨77, _⟩ => ⟨S8192x128, .f32⟩
  | .hbm, ⟨78, _⟩ => ⟨S8192x128, .f32⟩
  | .hbm, ⟨79, _⟩ => ⟨S8, .f32⟩
  | .hbm, ⟨80, _⟩ => ⟨S24, .f32⟩
  | .hbm, ⟨81, _⟩ => ⟨S32, .f32⟩
  | .hbm, ⟨82, _⟩ => ⟨S8, .f32⟩
  | .hbm, ⟨83, _⟩ => ⟨S24, .f32⟩
  | .hbm, ⟨84, _⟩ => ⟨S32, .f32⟩
  | .hbm, ⟨85, _⟩ => ⟨S1x32, .f32⟩
  | .hbm, ⟨86, _⟩ => ⟨S4x32, .f32⟩
  | .hbm, ⟨87, _⟩ => ⟨S128, .f32⟩
  | .hbm, ⟨88, _⟩ => ⟨S1x128, .f32⟩
  | .hbm, ⟨89, _⟩ => ⟨S1x32, .f32⟩
  | .hbm, ⟨90, _⟩ => ⟨S4x32, .f32⟩
  | .hbm, ⟨91, _⟩ => ⟨S128, .f32⟩
  | .hbm, ⟨92, _⟩ => ⟨S1x128, .f32⟩
  | .hbm, ⟨93, _⟩ => ⟨S256, .i32⟩
  | .hbm, ⟨94, _⟩ => ⟨S256x1, .i32⟩
  | .hbm, ⟨95, _⟩ => ⟨S256x256, .i32⟩
  | .hbm, ⟨96, _⟩ => ⟨S256x256, .i32⟩
  | .hbm, ⟨97, _⟩ => ⟨S256x256, .i1⟩
  | .hbm, ⟨98, _⟩ => ⟨S_, .f32⟩
  | .hbm, ⟨99, _⟩ => ⟨S_, .f32⟩
  | .hbm, ⟨100, _⟩ => ⟨S256x256, .f32⟩
  | .hbm, ⟨101, _⟩ => ⟨S256x256, .f32⟩
  | .hbm, ⟨102, _⟩ => ⟨S256x256, .f32⟩
  | .hbm, ⟨103, _⟩ => ⟨S256x256, .bf16⟩
  | .hbm, ⟨104, _⟩ => ⟨S1x1024, .f32⟩
  | .hbm, ⟨105, _⟩ => ⟨S1x1024, .f32⟩
  | .hbm, ⟨106, _⟩ => ⟨S1024x512, .bf16⟩
  | .hbm, ⟨107, _⟩ => ⟨S64x1, .f32⟩
  | .hbm, ⟨108, _⟩ => ⟨S1024x2048, .bf16⟩
  | .hbm, ⟨109, _⟩ => ⟨S1024x1024, .bf16⟩
  | .hbm, ⟨110, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024, .f32⟩
  | .local _ .vmem, ⟨4, _⟩ => ⟨S1024x512, .bf16⟩
  | .local _ .vmem, ⟨5, _⟩ => ⟨S64x1, .f32⟩
  | .local _ .vmem, ⟨6, _⟩ => ⟨S2x8x512, .f32⟩
  | .local _ .vmem, ⟨7, _⟩ => ⟨S2x8x512, .f32⟩
  | .local _ .vmem, ⟨8, _⟩ => ⟨S2x8x512, .f32⟩
  | .local _ .vmem, ⟨9, _⟩ => ⟨S2x8x512, .f32⟩
  | .local _ .vmem, ⟨10, _⟩ => ⟨S1024x2048, .bf16⟩
  | .local _ .vmem, ⟨11, _⟩ => ⟨S256x256, .bf16⟩
  | .local _ .vmem, ⟨12, _⟩ => ⟨S1x128, .f32⟩
  | .local _ .vmem, ⟨13, _⟩ => ⟨S1x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x1024, .bf16⟩
  | .local _ .vmem, ⟨19, _⟩ => ⟨S1x1024x1024, .f32⟩
  | .local _ .vmem, ⟨20, _⟩ => ⟨S1x1024x1024, .f32⟩
  | .local _ .vmem, ⟨21, _⟩ => ⟨S4x256x1152, .bf16⟩
  | .local _ .vmem, ⟨22, _⟩ => ⟨S4x1152x256, .bf16⟩
  | .local _ .vmem, ⟨23, _⟩ => ⟨S1024x1024, .bf16⟩
  | .local _ .smem, ⟨0, _⟩ => ⟨S16, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_c_4 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_cst_5 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_6 : Ref sig .tc := ⟨.hbm, 27, rfl⟩
abbrev main_v10 : Ref sig .tc := ⟨.hbm, 28, rfl⟩
abbrev main_v11 : Ref sig .tc := ⟨.hbm, 29, rfl⟩
abbrev main_cst_7 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_8 : Ref sig .tc := ⟨.hbm, 34, rfl⟩
abbrev main_v15 : Ref sig .tc := ⟨.hbm, 35, rfl⟩
abbrev main_v16 : Ref sig .tc := ⟨.hbm, 36, rfl⟩
abbrev main_cst_9 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_10 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_11 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_12 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_13 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_14 : Ref sig .tc := ⟨.hbm, 98, rfl⟩
abbrev main_cst_15 : Ref sig .tc := ⟨.hbm, 99, rfl⟩
abbrev main_call2_v0 : Ref sig .tc := ⟨.hbm, 100, rfl⟩
abbrev main_call2_v1 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_stg13_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 1 → Memref sig .tc .smem S16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelBIdeal.lean ====
variable {F : FTy → Type} [FloatOps F] [Named F]
def κ : String → Option EReal := fun
  | "log2e" => some (((Real.log 2)⁻¹ : ℝ) : EReal)
  | "neg_inf" => some ⊥
  | "pos_inf" => some ⊤
  | _ => none
-- ==== ReferenceBIdeal.lean ====
abbrev S4x8192x1024 : Shape := ⟨3, ![4, 8192, 1024]⟩
abbrev S1024 : Shape := ⟨1, ![1024]⟩
abbrev S1024x512 : Shape := ⟨2, ![1024, 512]⟩
abbrev S64 : Shape := ⟨1, ![64]⟩
abbrev S1x1024 : Shape := ⟨2, ![1, 1024]⟩
abbrev S1x1024x2048 : Shape := ⟨3, ![1, 1024, 2048]⟩
abbrev S1x64 : Shape := ⟨2, ![1, 64]⟩
abbrev S1x16 : Shape := ⟨2, ![1, 16]⟩
abbrev S1x1024x1024 : Shape := ⟨3, ![1, 1024, 1024]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S1x8192x1x8 : Shape := ⟨4, ![1, 8192, 1, 8]⟩
abbrev S4x8192 : Shape := ⟨2, ![4, 8192]⟩
abbrev S4x8192x1 : Shape := ⟨3, ![4, 8192, 1]⟩
abbrev S1x1x1024 : Shape := ⟨3, ![1, 1, 1024]⟩
abbrev S4x8192x512 : Shape := ⟨3, ![4, 8192, 512]⟩
abbrev S4x8192x256 : Shape := ⟨3, ![4, 8192, 256]⟩
abbrev S4x8192x4x64 : Shape := ⟨4, ![4, 8192, 4, 64]⟩
abbrev S4x8192x4 : Shape := ⟨3, ![4, 8192, 4]⟩
abbrev S4x8192x4x1 : Shape := ⟨4, ![4, 8192, 4, 1]⟩
abbrev S1x1x1x64 : Shape := ⟨4, ![1, 1, 1, 64]⟩
abbrev S4x8192x4x8 : Shape := ⟨4, ![4, 8192, 4, 8]⟩
abbrev S4x8192x4x48 : Shape := ⟨4, ![4, 8192, 4, 48]⟩
abbrev S4x64x128x4x64 : Shape := ⟨5, ![4, 64, 128, 4, 64]⟩
abbrev S4x1x128x4x64 : Shape := ⟨5, ![4, 1, 128, 4, 64]⟩
abbrev S4x63x128x4x64 : Shape := ⟨5, ![4, 63, 128, 4, 64]⟩
abbrev S4x64x256x4x64 : Shape := ⟨5, ![4, 64, 256, 4, 64]⟩
abbrev S1024x2048 : Shape := ⟨2, ![1024, 2048]⟩
abbrev S16 : Shape := ⟨1, ![16]⟩
abbrev S1024x1024 : Shape := ⟨2, ![1024, 1024]⟩
abbrev S4x8192x2048 : Shape := ⟨3, ![4, 8192, 2048]⟩
abbrev S4x8192x16x64 : Shape := ⟨4, ![4, 8192, 16, 64]⟩
abbrev S4x8192x16 : Shape := ⟨3, ![4, 8192, 16]⟩
abbrev S4x8192x16x1 : Shape := ⟨4, ![4, 8192, 16, 1]⟩
abbrev S4x8192x16x8 : Shape := ⟨4, ![4, 8192, 16, 8]⟩
abbrev S4x8192x16x48 : Shape := ⟨4, ![4, 8192, 16, 48]⟩
abbrev S4x64x128x4x4x64 : Shape := ⟨6, ![4, 64, 128, 4, 4, 64]⟩
abbrev S1x1x4x4x1x1 : Shape := ⟨6, ![1, 1, 4, 4, 1, 1]⟩
abbrev S4x64x4x256x128x4 : Shape := ⟨6, ![4, 64, 4, 256, 128, 4]⟩
abbrev S4x64x4x4x128x256 : Shape := ⟨6, ![4, 64, 4, 4, 128, 256]⟩
abbrev S64x128x256 : Shape := ⟨3, ![64, 128, 256]⟩
abbrev S1x64x1x1x128x256 : Shape := ⟨6, ![1, 64, 1, 1, 128, 256]⟩
abbrev S4x64x4x4x128 : Shape := ⟨5, ![4, 64, 4, 4, 128]⟩
abbrev S4x64x4x4x128x1 : Shape := ⟨6, ![4, 64, 4, 4, 128, 1]⟩
abbrev S4x64x4x64x4x128 : Shape := ⟨6, ![4, 64, 4, 64, 4, 128]⟩

abbrev nBuf : Space → Nat
  | .hbm => 204
  | .vmem => 0
  | .smem => 0
  | _ => 0

abbrev hbmTy0_0 (i : Nat) : BufTy := match i % 128 with
  | 0 => ⟨S4x8192x1024, .f32⟩
  | 1 => ⟨S1024, .f32⟩
  | 2 => ⟨S1024x512, .f32⟩
  | 3 => ⟨S64, .f32⟩
  | 4 => ⟨S1x1024, .f32⟩
  | 5 => ⟨S1x1024x2048, .f32⟩
  | 6 => ⟨S1x64, .f32⟩
  | 7 => ⟨S1x16, .f32⟩
  | 8 => ⟨S1x1024x1024, .f32⟩
  | 9 => ⟨S8192, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S8, .f32⟩
  | 18 => ⟨S_, .f32⟩
  | 19 => ⟨S8, .f32⟩
  | 20 => ⟨S8, .f32⟩
  | 21 => ⟨S_, .f32⟩
  | 22 => ⟨S8, .f32⟩
  | 23 => ⟨S8, .f32⟩
  | 24 => ⟨S8192x1, .f32⟩
  | 25 => ⟨S1x8, .f32⟩
  | 26 => ⟨S8192x8, .f32⟩
  | 27 => ⟨S8192x8, .f32⟩
  | 28 => ⟨S8192x8, .f32⟩
  | 29 => ⟨S8192x8, .f32⟩
  | 30 => ⟨S1x8192x1x8, .f32⟩
  | 31 => ⟨S8192x8, .f32⟩
  | 32 => ⟨S1x8192x1x8, .f32⟩
  | 33 => ⟨S4x8192x1024, .f32⟩
  | 34 => ⟨S_, .f32⟩
  | 35 => ⟨S4x8192, .f32⟩
  | 36 => ⟨S4x8192x1, .f32⟩
  | 37 => ⟨S_, .f32⟩
  | 38 => ⟨S4x8192x1, .f32⟩
  | 39 => ⟨S4x8192x1, .f32⟩
  | 40 => ⟨S_, .f32⟩
  | 41 => ⟨S4x8192x1, .f32⟩
  | 42 => ⟨S4x8192x1, .f32⟩
  | 43 => ⟨S4x8192x1, .f32⟩
  | 44 => ⟨S4x8192x1024, .f32⟩
  | 45 => ⟨S4x8192x1024, .f32⟩
  | 46 => ⟨S1x1x1024, .f32⟩
  | 47 => ⟨S4x8192x1024, .f32⟩
  | 48 => ⟨S4x8192x1024, .f32⟩
  | 49 => ⟨S4x8192x512, .f32⟩
  | 50 => ⟨S4x8192x256, .f32⟩
  | 51 => ⟨S4x8192x256, .f32⟩
  | 52 => ⟨S4x8192x4x64, .f32⟩
  | 53 => ⟨S4x8192x4x64, .f32⟩
  | 54 => ⟨S_, .f32⟩
  | 55 => ⟨S4x8192x4, .f32⟩
  | 56 => ⟨S4x8192x4x1, .f32⟩
  | 57 => ⟨S_, .f32⟩
  | 58 => ⟨S4x8192x4x1, .f32⟩
  | 59 => ⟨S4x8192x4x1, .f32⟩
  | 60 => ⟨S_, .f32⟩
  | 61 => ⟨S4x8192x4x1, .f32⟩
  | 62 => ⟨S4x8192x4x1, .f32⟩
  | 63 => ⟨S4x8192x4x1, .f32⟩
  | 64 => ⟨S4x8192x4x64, .f32⟩
  | 65 => ⟨S4x8192x4x64, .f32⟩
  | 66 => ⟨S1x1x1x64, .f32⟩
  | 67 => ⟨S4x8192x4x64, .f32⟩
  | 68 => ⟨S4x8192x4x64, .f32⟩
  | 69 => ⟨S4x8192x4x8, .f32⟩
  | 70 => ⟨S4x8192x4x8, .f32⟩
  | 71 => ⟨S4x8192x4x48, .f32⟩
  | 72 => ⟨S4x8192x4x8, .f32⟩
  | 73 => ⟨S4x8192x4x8, .f32⟩
  | 74 => ⟨S4x8192x4x8, .f32⟩
  | 75 => ⟨S4x8192x4x8, .f32⟩
  | 76 => ⟨S4x8192x4x8, .f32⟩
  | 77 => ⟨S4x8192x4x8, .f32⟩
  | 78 => ⟨S4x8192x4x8, .f32⟩
  | 79 => ⟨S4x8192x4x8, .f32⟩
  | 80 => ⟨S4x8192x4x8, .f32⟩
  | 81 => ⟨S4x8192x4x8, .f32⟩
  | 82 => ⟨S4x8192x4x64, .f32⟩
  | 83 => ⟨S4x64x128x4x64, .f32⟩
  | 84 => ⟨S4x1x128x4x64, .f32⟩
  | 85 => ⟨S_, .f32⟩
  | 86 => ⟨S4x1x128x4x64, .f32⟩
  | 87 => ⟨S4x63x128x4x64, .f32⟩
  | 88 => ⟨S4x64x128x4x64, .f32⟩
  | 89 => ⟨S4x64x256x4x64, .f32⟩
  | 90 => ⟨S4x64x128x4x64, .f32⟩
  | 91 => ⟨S4x1x128x4x64, .f32⟩
  | 92 => ⟨S_, .f32⟩
  | 93 => ⟨S4x1x128x4x64, .f32⟩
  | 94 => ⟨S4x63x128x4x64, .f32⟩
  | 95 => ⟨S4x64x128x4x64, .f32⟩
  | 96 => ⟨S4x64x256x4x64, .f32⟩
  | 97 => ⟨S1024, .f32⟩
  | 98 => ⟨S1024x2048, .f32⟩
  | 99 => ⟨S64, .f32⟩
  | 100 => ⟨S16, .f32⟩
  | 101 => ⟨S1024x1024, .f32⟩
  | 102 => ⟨S1x1x1024, .f32⟩
  | 103 => ⟨S4x8192x1024, .f32⟩
  | 104 => ⟨S4x8192x1024, .f32⟩
  | 105 => ⟨S4x8192x2048, .f32⟩
  | 106 => ⟨S4x8192x1024, .f32⟩
  | 107 => ⟨S4x8192x1024, .f32⟩
  | 108 => ⟨S4x8192x16x64, .f32⟩
  | 109 => ⟨S4x8192x16x64, .f32⟩
  | 110 => ⟨S_, .f32⟩
  | 111 => ⟨S4x8192x16, .f32⟩
  | 112 => ⟨S4x8192x16x1, .f32⟩
  | 113 => ⟨S_, .f32⟩
  | 114 => ⟨S4x8192x16x1, .f32⟩
  | 115 => ⟨S4x8192x16x1, .f32⟩
  | 116 => ⟨S_, .f32⟩
  | 117 => ⟨S4x8192x16x1, .f32⟩
  | 118 => ⟨S4x8192x16x1, .f32⟩
  | 119 => ⟨S4x8192x16x1, .f32⟩
  | 120 => ⟨S4x8192x16x64, .f32⟩
  | 121 => ⟨S4x8192x16x64, .f32⟩
  | 122 => ⟨S1x1x1x64, .f32⟩
  | 123 => ⟨S4x8192x16x64, .f32⟩
  | 124 => ⟨S4x8192x16x64, .f32⟩
  | 125 => ⟨S4x8192x16x8, .f32⟩
  | 126 => ⟨S4x8192x16x8, .f32⟩
  | 127 => ⟨S4x8192x16x48, .f32⟩
  | _ => ⟨S4x8192x1024, .f32⟩

abbrev hbmTy0_1 (i : Nat) : BufTy := match i % 128 with
  | 0 => ⟨S4x8192x16x8, .f32⟩
  | 1 => ⟨S4x8192x16x8, .f32⟩
  | 2 => ⟨S4x8192x16x8, .f32⟩
  | 3 => ⟨S4x8192x16x8, .f32⟩
  | 4 => ⟨S4x8192x16x8, .f32⟩
  | 5 => ⟨S4x8192x16x8, .f32⟩
  | 6 => ⟨S4x8192x16x8, .f32⟩
  | 7 => ⟨S4x8192x16x8, .f32⟩
  | 8 => ⟨S4x8192x16x8, .f32⟩
  | 9 => ⟨S4x8192x16x8, .f32⟩
  | 10 => ⟨S4x8192x16x64, .f32⟩
  | 11 => ⟨S4x64x128x4x4x64, .f32⟩
  | 12 => ⟨S1x1x4x4x1x1, .f32⟩
  | 13 => ⟨S4x64x4x256x128x4, .f32⟩
  | 14 => ⟨S4x64x4x4x128x256, .f32⟩
  | 15 => ⟨S_, .f32⟩
  | 16 => ⟨S4x64x4x4x128x256, .f32⟩
  | 17 => ⟨S4x64x4x4x128x256, .f32⟩
  | 18 => ⟨S64x128x256, .i32⟩
  | 19 => ⟨S64x128x256, .i32⟩
  | 20 => ⟨S64x128x256, .i32⟩
  | 21 => ⟨S_, .i32⟩
  | 22 => ⟨S64x128x256, .i32⟩
  | 23 => ⟨S64x128x256, .i32⟩
  | 24 => ⟨S64x128x256, .i1⟩
  | 25 => ⟨S_, .i32⟩
  | 26 => ⟨S64x128x256, .i32⟩
  | 27 => ⟨S64x128x256, .i32⟩
  | 28 => ⟨S64x128x256, .i1⟩
  | 29 => ⟨S64x128x256, .i1⟩
  | 30 => ⟨S_, .i32⟩
  | 31 => ⟨S64x128x256, .i32⟩
  | 32 => ⟨S64x128x256, .i1⟩
  | 33 => ⟨S_, .i32⟩
  | 34 => ⟨S64x128x256, .i32⟩
  | 35 => ⟨S64x128x256, .i1⟩
  | 36 => ⟨S64x128x256, .i1⟩
  | 37 => ⟨S64x128x256, .i1⟩
  | 38 => ⟨S1x64x1x1x128x256, .i1⟩
  | 39 => ⟨S_, .f32⟩
  | 40 => ⟨S_, .f32⟩
  | 41 => ⟨S4x64x4x4x128x256, .i1⟩
  | 42 => ⟨S4x64x4x4x128x256, .f32⟩
  | 43 => ⟨S4x64x4x4x128x256, .f32⟩
  | 44 => ⟨S_, .f32⟩
  | 45 => ⟨S4x64x4x4x128, .f32⟩
  | 46 => ⟨S4x64x4x4x128x1, .f32⟩
  | 47 => ⟨S4x64x4x4x128x1, .f32⟩
  | 48 => ⟨S4x64x4x4x128x1, .f32⟩
  | 49 => ⟨S4x64x4x4x128x256, .f32⟩
  | 50 => ⟨S4x64x4x4x128x256, .f32⟩
  | 51 => ⟨S4x64x4x4x128x256, .f32⟩
  | 52 => ⟨S_, .f32⟩
  | 53 => ⟨S4x64x4x4x128, .f32⟩
  | 54 => ⟨S4x64x4x4x128x1, .f32⟩
  | 55 => ⟨S4x64x4x4x128x1, .f32⟩
  | 56 => ⟨S4x64x4x4x128x1, .f32⟩
  | 57 => ⟨S4x64x4x4x128x1, .f32⟩
  | 58 => ⟨S4x64x4x4x128x1, .f32⟩
  | 59 => ⟨S4x64x4x4x128x256, .f32⟩
  | 60 => ⟨S4x64x4x4x128x256, .f32⟩
  | 61 => ⟨S4x64x4x64x4x128, .f32⟩
  | 62 => ⟨S4x64x128x4x4x64, .f32⟩
  | 63 => ⟨S4x8192x1024, .f32⟩
  | 64 => ⟨S4x8192x1024, .f32⟩
  | 65 => ⟨S4x8192x1024, .f32⟩
  | 66 => ⟨S_, .f32⟩
  | 67 => ⟨S4x8192x1024, .f32⟩
  | 68 => ⟨S4x8192x1024, .f32⟩
  | 69 => ⟨S_, .f32⟩
  | 70 => ⟨S4x8192x1024, .f32⟩
  | 71 => ⟨S4x8192x1024, .f32⟩
  | 72 => ⟨S4x8192x1024, .f32⟩
  | 73 => ⟨S4x8192x1024, .f32⟩
  | 74 => ⟨S4x8192x1024, .f32⟩
  | 75 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_9 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_10 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_11 : Ref sig .tc := ⟨.hbm, 110, rfl⟩
abbrev main_v89 : Ref sig .tc := ⟨.hbm, 111, rfl⟩
abbrev main_v90 : Ref sig .tc := ⟨.hbm, 112, rfl⟩
abbrev main_cst_12 : Ref sig .tc := ⟨.hbm, 113, rfl⟩
abbrev main_v91 : Ref sig .tc := ⟨.hbm, 114, rfl⟩
abbrev main_v92 : Ref sig .tc := ⟨.hbm, 115, rfl⟩
abbrev main_cst_13 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_cst_14 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_c : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_c_15 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_c_16 : Ref sig .tc := ⟨.hbm, 158, rfl⟩
abbrev main_v131 : Ref sig .tc := ⟨.hbm, 159, rfl⟩
abbrev main_v132 : Ref sig .tc := ⟨.hbm, 160, rfl⟩
abbrev main_c_17 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_cst_18 : Ref sig .tc := ⟨.hbm, 167, rfl⟩
abbrev main_call0_v0 : Ref sig .tc := ⟨.hbm, 168, rfl⟩
abbrev main_call0_v1 : Ref sig .tc := ⟨.hbm, 169, rfl⟩
abbrev main_call0_v2 : Ref sig .tc := ⟨.hbm, 170, rfl⟩
abbrev main_v138 : Ref sig .tc := ⟨.hbm, 171, rfl⟩
abbrev main_cst_19 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_cst_20 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_cst_21 : Ref sig .tc := ⟨.hbm, 194, rfl⟩
abbrev main_v159 : Ref sig .tc := ⟨.hbm, 195, rfl⟩
abbrev main_v160 : Ref sig .tc := ⟨.hbm, 196, rfl⟩
abbrev main_cst_22 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩

abbrev nD : Nat := 1
abbrev τ : Topo := Topo.v7x

variable {F : FTy → Type} [FloatOps F]
-- ==== Proof.A.Math.lean ====
/-
  What layer A computes, row by row, over the extended reals: the normalized row, its four projections, the product of
  two of them that the convolution runs over, the gate, and the row of the result.
-/
module

public import Idealize.ShloMosaic.Lib.Pointwise

@[expose] public section

noncomputable section

namespace Cert.YocoA

open Idealize.ShloMosaic

/-- The row length 1024 of the mean, as the programs print it. -/
abbrev rowLen : EReal := Ideal.ofBits .f32 0x44800000#32

/-- The epsilon of the normalization, as the programs print it. -/
abbrev eps : EReal := Ideal.ofBits .f32 0x358637BD#32

/-- The normalized row: the row over its root mean square, times the gain. -/
def hid (X g : Fin 1024 → EReal) (k : Fin 1024) : EReal :=
  X k * Ideal.rsqrt (Ideal.div (∑ q : Fin 1024, X q * X q) rowLen + eps) * g k

/-- Column `o + l` of the row's projection by the input weights. -/
def proj (h : Fin 1024 → EReal) (W : Fin 1024 → Fin 4096 → EReal) (o : Fin 4096) : EReal :=
  ∑ k : Fin 1024, h k * W k o

/-- A column of one of the four quarters of the input weights. -/
def col (q : Fin 4) (l : Fin 1024) : Fin 4096 := ⟨1024 * q.val + l.val, by have := q.isLt; have := l.isLt; omega⟩

/-- The product of the second and third projections: what the convolution runs over. -/
def cu (h : Fin 1024 → EReal) (W : Fin 1024 → Fin 4096 → EReal) (l : Fin 1024) : EReal :=
  proj h W (col 1 l) * proj h W (col 2 l)

/-- The convolution of width 3 at one column: `v0` is this row's product, `v1`, `v2` those of the two rows before. -/
def conv (c0 c1 c2 v0 v1 v2 : EReal) : EReal := c2 * v0 + c1 * v1 + c0 * v2

/-- One row of the result at column `n`. -/
def yrow (X h : Fin 1024 → EReal) (W : Fin 1024 → Fin 4096 → EReal) (Wo : Fin 1024 → Fin 1024 → EReal)
    (cv : Fin 1024 → EReal) (n : Fin 1024) : EReal :=
  X n + ∑ l : Fin 1024, (proj h W (col 0 l)
    * (cv l * (proj h W (col 3 l) * Ideal.logistic (proj h W (col 3 l))))) * Wo l n

end Cert.YocoA

end
-- ==== Proof.A.Pay.lean ====
/-
  The values the body of layer A computes, read at an index: each chunk of 512 rows computes the row functions of
  `Cert.YocoA` on its own rows.
-/
module

public import proofs.«01_k».proof.Proof.Gen.KernelIdeal.Skeleton
public import proofs.«01_k».proof.Proof.A.Math

@[expose] public section

set_option maxRecDepth 16384

noncomputable section

namespace Cert.YocoA

open Idealize.ShloMosaic Cert.KernelIdeal Cert.KernelIdeal.Gen

/-- The first chunk's normalized rows. -/
theorem pay3_apply (v6 : Vec Ideal S1x512x1024 .f32) (v18 : Vec Ideal S1x1024 .f32) (r : Fin 512) (k : Fin 1024) :
    k0_pay3 v6 v18 (ix2 r k) = hid (fun q => v6 (ix3 0 r q)) (fun q => v18 (ix2 0 q)) k := by
  pointwise [k0_pay3, hid, rowLen, eps]

/-- The second chunk's normalized rows. -/
theorem pay5_apply (v23 : Vec Ideal S1x512x1024 .f32) (v35 : Vec Ideal S1x1024 .f32) (r : Fin 512) (k : Fin 1024) :
    k0_pay5 (k0_pay4 v23) v35 (ix2 r k) = hid (fun q => v23 (ix3 0 r q)) (fun q => v35 (ix2 0 q)) k := by
  pointwise [k0_pay5, k0_pay4, hid, rowLen, eps]

/-- The first chunk's products, over any rows `h`. -/
theorem pay7_apply (h : FVec Ideal S512x1024 .bf16) (w : Vec Ideal S1024x2048 .f32) (r : Fin 512) (l : Fin 1024) :
    k0_pay7 h w (ix2 r l) = (∑ k : Fin 1024, h (ix2 r k) * w (ix2 k ⟨l.val, by omega⟩))
      * (∑ k : Fin 1024, h (ix2 r k) * w (ix2 k ⟨1024 + l.val, by omega⟩)) := by
  pointwise [k0_pay7, k0_pay6]

theorem pay9_apply (v34 : FVec Ideal S512x1024 .f32) (v35 : Vec Ideal S1x1024 .f32) (w : Vec Ideal S1024x2048 .f32) (r : Fin 512) (l : Fin 1024) :
    k0_pay10 (k0_pay9 v34 v35 w) (ix2 r l) = (∑ k : Fin 1024, k0_pay5 v34 v35 (ix2 r k) * w (ix2 k ⟨l.val, by omega⟩))
      * (∑ k : Fin 1024, k0_pay5 v34 v35 (ix2 r k) * w (ix2 k ⟨1024 + l.val, by omega⟩)) := by
  generalize hh : k0_pay5 v34 v35 = h
  pointwise [k0_pay10, k0_pay9, k0_pay6, hh]

/-- The first chunk's convolution. -/
theorem pay8_apply (c2 : Vec Ideal S1x1x1024 .f32) (v0 : Vec Ideal S512x1024 .f32) (c1 : Vec Ideal S1x1x1024 .f32)
    (v1 : Vec Ideal S512x1024 .f32) (c0 : Vec Ideal S1x1x1024 .f32) (v2 : Vec Ideal S512x1024 .f32) (r : Fin 512) (l : Fin 1024) :
    k0_pay8 c2 v0 c1 v1 c0 v2 (ix2 r l)
      = conv (c0 (ix3 0 0 l)) (c1 (ix3 0 0 l)) (c2 (ix3 0 0 l)) (v0 (ix2 r l)) (v1 (ix2 r l)) (v2 (ix2 r l)) := by
  pointwise [k0_pay8, conv]

/-- The second chunk's gate. -/
theorem pay12_apply (h : FVec Ideal S512x1024 .bf16) (c2 : Vec Ideal S1x1x1024 .f32) (v0 : Vec Ideal S512x1024 .f32) (c1 : Vec Ideal S1x1x1024 .f32)
    (v1 : Vec Ideal S512x1024 .f32) (c0 : Vec Ideal S1x1x1024 .f32) (v2 : Vec Ideal S512x1024 .f32) (w : Vec Ideal S1024x1024 .f32) (r : Fin 512) (l : Fin 1024) :
    k0_pay12 h c2 v0 c1 v1 c0 v2 w (ix2 r l)
      = conv (c0 (ix3 0 0 l)) (c1 (ix3 0 0 l)) (c2 (ix3 0 0 l)) (v0 (ix2 r l)) (v1 (ix2 r l)) (v2 (ix2 r l))
        * ((∑ k : Fin 1024, h (ix2 r k) * w (ix2 k l)) * Ideal.logistic (∑ k : Fin 1024, h (ix2 r k) * w (ix2 k l))) := by
  pointwise [k0_pay12, k0_pay11, conv]

/-- The first chunk's gated rows. -/
theorem pay14_apply (h : FVec Ideal S512x1024 .bf16) (cv : FVec Ideal S512x1024 .f32) (wz wb : Vec Ideal S1024x1024 .f32) (r : Fin 512) (l : Fin 1024) :
    k0_pay14 h cv wz wb (ix2 r l)
      = (∑ k : Fin 1024, h (ix2 r k) * wb (ix2 k l)) * (cv (ix2 r l)
        * ((∑ k : Fin 1024, h (ix2 r k) * wz (ix2 k l)) * Ideal.logistic (∑ k : Fin 1024, h (ix2 r k) * wz (ix2 k l)))) := by
  pointwise [k0_pay14, k0_pay11, k0_pay13]

/-- The first chunk's result rows. -/
theorem pay16_apply (y : FVec Ideal S512x1024 .bf16) (wo : Vec Ideal S1024x1024 .f32) (x : Vec Ideal S1x512x1024 .f32) (r : Fin 512) (n : Fin 1024) :
    k0_pay16 y wo x (ix3 0 r n) = x (ix3 0 r n) + ∑ l : Fin 1024, y (ix2 r l) * wo (ix2 l n) := by
  pointwise [k0_pay16, k0_pay15]

/-- The second chunk's result rows. -/
theorem pay17_apply (h : FVec Ideal S512x1024 .bf16) (g : FVec Ideal S512x1024 .f32) (wb wo : Vec Ideal S1024x1024 .f32)
    (x : Vec Ideal S1x512x1024 .f32) (r : Fin 512) (n : Fin 1024) :
    k0_pay17 h g (k0_pay13 wb) (constant S512x1024 .f32 0x00000000#32) wo x (ix3 0 r n)
      = x (ix3 0 r n) + ∑ l : Fin 1024, ((∑ k : Fin 1024, h (ix2 r k) * wb (ix2 k l)) * g (ix2 r l)) * wo (ix2 l n) := by
  pointwise [k0_pay17, k0_pay13, k0_pay15]

end Cert.YocoA

end
-- ==== Proof.Pieces.lean ====
/-
  A buffer after a list of stores, read at an index: the store that holds the index gives the value, a store that does
  not is passed over, and a load from such a buffer reads it at the load's indices.
-/
module

public import Idealize.ShloMosaic.Lib.Pipeline.FrameBody
public import Idealize.ShloMosaic.Lib.Pipeline.ValueKit.Tiles

@[expose] public section

namespace Cert.YocoPieces

open Idealize.ShloMosaic

section
variable {Val : EltTy → Type} {S : Shape} {e : EltTy} [∀ e, Nonempty (Val e)]

/-- The last store, where it holds the index. -/
theorem canon_hit {off size : Fin S.rank → ℕ} {inb : ∀ a, off a + size a ≤ S.size a}
    (w : (⟨S.rank, size⟩ : Shape).Idx → Val e) (L : List (View.Piece Val S e)) (y : S.Idx)
    (x : (⟨S.rank, size⟩ : Shape).Idx) (h : ∀ a, (y a : ℕ) = off a + x a) :
    View.canon ((⟨Rect.unit off size inb, w⟩ : View.Piece Val S e) :: L) y = w x := by
  have hy : y = (Rect.unit off size inb).emb x := funext fun a => Fin.ext (by
    rw [Rect.emb_apply]; show (y a : ℕ) = off a + 1 * (x a : ℕ); rw [h a]; omega)
  rw [hy]
  exact View.canon_cons_emb (Rect.unit off size inb) w L x

/-- A store that misses the index along one axis is passed over. -/
theorem canon_skip {off size : Fin S.rank → ℕ} {inb : ∀ a, off a + size a ≤ S.size a}
    (w : (⟨S.rank, size⟩ : Shape).Idx → Val e) (L : List (View.Piece Val S e)) (y : S.Idx)
    (a : Fin S.rank) (h : (y a : ℕ) < off a ∨ off a + size a ≤ (y a : ℕ)) :
    View.canon ((⟨Rect.unit off size inb, w⟩ : View.Piece Val S e) :: L) y = View.canon L y := by
  refine View.canon_cons_of_not_mem _ _ fun hm => ?_
  have hm' : y ∈ (Rect.unit off size inb).set := hm
  rw [Rect.mem_set_unit] at hm'
  have := hm' a
  omega

/-- A load reads the stored contents at its own indices. -/
theorem readCov_at {sig : RefSig} {κ : Kind} {sp : Space} (v : View sig κ sp S e) (L : List (View.Piece Val S e))
    (B : LoadRect S) (j : B.shape.Idx) : v.readCov L B j = View.canon L (B.idx j) :=
  View.read_writes_junk_apply_eq_canon v (B.idx j) L

/-- A load through a unit rectangle reads the stored contents at the index `y` its offsets give. -/
theorem readCov_unit {sig : RefSig} {κ : Kind} {sp : Space} (v : View sig κ sp S e) (L : List (View.Piece Val S e))
    {off size : Fin S.rank → ℕ} {inb : ∀ a, off a + size a ≤ S.size a} (j : (⟨S.rank, size⟩ : Shape).Idx) (y : S.Idx)
    (h : ∀ a, (y a : ℕ) = off a + j a) : v.readCov L (Rect.unit off size inb).toLoadRect j = View.canon L y := by
  rw [readCov_at]
  exact congrArg _ (funext fun a => Fin.ext ((Rect.idx_unit_val off size inb j a).trans (h a).symm))

/-- A load through a unit rectangle reads the contents at the index `y` its offsets give. -/
theorem ld_at (X : S.Idx → Val e) {off size : Fin S.rank → ℕ} {inb : ∀ a, off a + size a ≤ S.size a}
    (j : (⟨S.rank, size⟩ : Shape).Idx) (y : S.Idx) (h : ∀ a, (y a : ℕ) = off a + j a) :
    View.ld X (Rect.unit off size inb) j = X y :=
  View.ld_unit_apply_of X off size inb j y h

end

end Cert.YocoPieces
-- ==== Proof.A.Block.lean ====
/-
  What the body of layer A leaves after one block of 1024 rows, over any 8 carried rows `P`: the buffer of products, and
  the rows of the result.
-/
module

public import proofs.«01_k».proof.Proof.A.Pay
public import proofs.«01_k».proof.Proof.Pieces

@[expose] public section

set_option maxRecDepth 16384

noncomputable section

namespace Cert.YocoA

open Idealize.ShloMosaic Cert.KernelIdeal Cert.KernelIdeal.Gen Cert.YocoPieces

section
variable {F : FTy → Type} [FloatOps F]
variable {κ : Kind} {sp : Space} (v : View sig κ sp S1032x1024 .f32) (P : FVec F S8x1024 .f32)
  (x0 : Vec F S1x1024x1024 .f32) (x1 : Vec F S1x1024 .f32) (x2 : Vec F S1024x4096 .f32)
  (x3 : Vec F S3x1x1024 .f32) (x4 : Vec F S1024x1024 .f32)

/-- The first 512 rows of the block. -/
def xa : Vec F S1x512x1024 .f32 := View.ld x0 (Rect.unit (s := S1x1024x1024) ![0, 0, 0] S1x512x1024.size inb_S1x1024x1024_S1x512x1024_0_0_0)
/-- The last 512 rows of the block. -/
def xb : Vec F S1x512x1024 .f32 := View.ld x0 (Rect.unit (s := S1x1024x1024) ![0, 512, 0] S1x512x1024.size inb_S1x1024x1024_S1x512x1024_0_512_0)
/-- The gain. -/
def gn : Vec F S1x1024 .f32 := View.ld x1 (Rect.unit (s := S1x1024) ![0, 0] S1x1024.size inb_S1x1024_S1x1024_0_0)
/-- The second and third quarters of the input weights. -/
def wcu : Vec F S1024x2048 .f32 := View.ld x2 (Rect.unit (s := S1024x4096) ![0, 1024] S1024x2048.size inb_S1024x4096_S1024x2048_0_1024)
/-- The last quarter. -/
def wz : Vec F S1024x1024 .f32 := View.ld x2 (Rect.unit (s := S1024x4096) ![0, 3072] S1024x1024.size inb_S1024x4096_S1024x1024_0_3072)
/-- The first quarter. -/
def wb : Vec F S1024x1024 .f32 := View.ld x2 (Rect.unit (s := S1024x4096) ![0, 0] S1024x1024.size inb_S1024x4096_S1024x1024_0_0)
/-- The taps of the convolution. -/
def tap0 : Vec F S1x1x1024 .f32 := View.ld x3 (Rect.unit (s := S3x1x1024) ![0, 0, 0] S1x1x1024.size inb_S3x1x1024_S1x1x1024_0_0_0)
def tap1 : Vec F S1x1x1024 .f32 := View.ld x3 (Rect.unit (s := S3x1x1024) ![1, 0, 0] S1x1x1024.size inb_S3x1x1024_S1x1x1024_1_0_0)
def tap2 : Vec F S1x1x1024 .f32 := View.ld x3 (Rect.unit (s := S3x1x1024) ![2, 0, 0] S1x1x1024.size inb_S3x1x1024_S1x1x1024_2_0_0)
/-- The output weights. -/
def wo : Vec F S1024x1024 .f32 := View.ld x4 (Rect.unit (s := S1024x1024) ![0, 0] S1024x1024.size inb_S1024x1024_S1024x1024_0_0)
/-- The stores into the buffer of products up to the first chunk's. -/
abbrev L1 : List (View.Piece (Elt F) S1032x1024 .f32) :=
  [⟨Rect.unit (s := S1032x1024) ![8, 0] S512x1024.size inb_S1032x1024_S512x1024_8_0, k0_pay7 (k0_pay3 (xa x0) (gn x1)) (wcu x2)⟩,
   ⟨Rect.unit (s := S1032x1024) ![0, 0] S8x1024.size inb_S1032x1024_S8x1024_0_0, P⟩]
/-- The stores into the buffer of products. -/
abbrev L2 : List (View.Piece (Elt F) S1032x1024 .f32) :=
  ⟨Rect.unit (s := S1032x1024) ![520, 0] S512x1024.size inb_S1032x1024_S512x1024_520_0, k0_pay10 (k0_pay9 (k0_pay4 (xb x0)) (gn x1) (wcu x2))⟩ :: L1 P x0 x1 x2
/-- The stores into the result block. -/
abbrev LO : List (View.Piece (Elt F) S1x1024x1024 .f32) :=
  [⟨Rect.unit (s := S1x1024x1024) ![0, 512, 0] S1x512x1024.size inb_S1x1024x1024_S1x512x1024_0_512_0,
    k0_pay17 (k0_pay5 (k0_pay4 (xb x0)) (gn x1))
      (k0_pay12 (k0_pay5 (k0_pay4 (xb x0)) (gn x1)) (tap2 x3)
        (v.readCov (L2 P x0 x1 x2) (Rect.unit (s := S1032x1024) ![520, 0] S512x1024.size inb_S1032x1024_S512x1024_520_0).toLoadRect) (tap1 x3)
        (v.readCov (L2 P x0 x1 x2) (Rect.unit (s := S1032x1024) ![519, 0] S512x1024.size inb_S1032x1024_S512x1024_519_0).toLoadRect) (tap0 x3)
        (v.readCov (L2 P x0 x1 x2) (Rect.unit (s := S1032x1024) ![518, 0] S512x1024.size inb_S1032x1024_S512x1024_518_0).toLoadRect) (wz x2))
      (k0_pay13 (wb x2)) (constant S512x1024 .f32 0x00000000#32) (wo x4) (xb x0)⟩,
   ⟨Rect.unit (s := S1x1024x1024) ![0, 0, 0] S1x512x1024.size inb_S1x1024x1024_S1x512x1024_0_0_0,
    k0_pay16 (k0_pay14 (k0_pay3 (xa x0) (gn x1))
      (k0_pay8 (tap2 x3)
        (v.readCov (L1 P x0 x1 x2) (Rect.unit (s := S1032x1024) ![8, 0] S512x1024.size inb_S1032x1024_S512x1024_8_0).toLoadRect) (tap1 x3)
        (v.readCov (L1 P x0 x1 x2) (Rect.unit (s := S1032x1024) ![7, 0] S512x1024.size inb_S1032x1024_S512x1024_7_0).toLoadRect) (tap0 x3)
        (v.readCov (L1 P x0 x1 x2) (Rect.unit (s := S1032x1024) ![6, 0] S512x1024.size inb_S1032x1024_S512x1024_6_0).toLoadRect))
      (wz x2) (wb x2)) (wo x4) (xa x0)⟩]
end

section
variable {κ : Kind} {sp : Space} (v : View sig κ sp S1032x1024 .f32) (P : FVec Ideal S8x1024 .f32)
  (x0 : Vec Ideal S1x1024x1024 .f32) (x1 : Vec Ideal S1x1024 .f32) (x2 : Vec Ideal S1024x4096 .f32)
  (x3 : Vec Ideal S3x1x1024 .f32) (x4 : Vec Ideal S1024x1024 .f32)

/-- The block's row `r`. -/
abbrev brow (r : Fin 1024) : Fin 1024 → EReal := fun q => x0 (ix3 0 r q)
/-- The block's row `r`, normalized. -/
abbrev bhid (r : Fin 1024) : Fin 1024 → EReal := hid (brow x0 r) fun q => x1 (ix2 0 q)
/-- The input weights. -/
abbrev bwin : Fin 1024 → Fin 4096 → EReal := fun k o => x2 (ix2 k o)

/-- The buffer of products at row `R`: the carried rows, then the block's. -/
def vb (R : Fin 1032) (l : Fin 1024) : EReal :=
  if h : R.val < 8 then P (ix2 ⟨R.val, h⟩ l) else cu (bhid x0 x1 ⟨R.val - 8, by omega⟩) (bwin x2) l

theorem xa_at (r : Fin 512) (q : Fin 1024) : xa x0 (ix3 0 r q) = x0 (ix3 0 ⟨r.val, by omega⟩ q) :=
  ld_at x0 _ _ fun a => match a with
    | ⟨0, _⟩ => rfl
    | ⟨1, _⟩ => (Nat.zero_add _).symm
    | ⟨2, _⟩ => (Nat.zero_add _).symm
theorem xb_at (r : Fin 512) (q : Fin 1024) : xb x0 (ix3 0 r q) = x0 (ix3 0 ⟨512 + r.val, by omega⟩ q) :=
  ld_at x0 _ _ fun a => match a with
    | ⟨0, _⟩ => rfl
    | ⟨1, _⟩ => rfl
    | ⟨2, _⟩ => (Nat.zero_add _).symm
theorem gn_at (q : Fin 1024) : gn x1 (ix2 0 q) = x1 (ix2 0 q) :=
  ld_at x1 _ _ fun a => match a with
    | ⟨0, _⟩ => rfl
    | ⟨1, _⟩ => (Nat.zero_add _).symm
theorem wcu_at (k : Fin 1024) (o : Fin 2048) : wcu x2 (ix2 k o) = x2 (ix2 k ⟨1024 + o.val, by omega⟩) :=
  ld_at x2 _ _ fun a => match a with
    | ⟨0, _⟩ => (Nat.zero_add _).symm
    | ⟨1, _⟩ => rfl
theorem wz_at (k : Fin 1024) (l : Fin 1024) : wz x2 (ix2 k l) = x2 (ix2 k (col 3 l)) :=
  ld_at x2 _ _ fun a => match a with
    | ⟨0, _⟩ => (Nat.zero_add _).symm
    | ⟨1, _⟩ => rfl
theorem wb_at (k : Fin 1024) (l : Fin 1024) : wb x2 (ix2 k l) = x2 (ix2 k (col 0 l)) :=
  ld_at x2 _ _ fun a => match a with
    | ⟨0, _⟩ => (Nat.zero_add _).symm
    | ⟨1, _⟩ => rfl
theorem wo_at (l n : Fin 1024) : wo x4 (ix2 l n) = x4 (ix2 l n) :=
  ld_at x4 _ _ fun a => match a with
    | ⟨0, _⟩ => (Nat.zero_add _).symm
    | ⟨1, _⟩ => (Nat.zero_add _).symm
theorem tap0_at (l : Fin 1024) : tap0 x3 (ix3 0 0 l) = x3 (ix3 0 0 l) :=
  ld_at x3 _ _ fun a => match a with
    | ⟨0, _⟩ => rfl
    | ⟨1, _⟩ => rfl
    | ⟨2, _⟩ => (Nat.zero_add _).symm
theorem tap1_at (l : Fin 1024) : tap1 x3 (ix3 0 0 l) = x3 (ix3 1 0 l) :=
  ld_at x3 _ _ fun a => match a with
    | ⟨0, _⟩ => rfl
    | ⟨1, _⟩ => rfl
    | ⟨2, _⟩ => (Nat.zero_add _).symm
theorem tap2_at (l : Fin 1024) : tap2 x3 (ix3 0 0 l) = x3 (ix3 2 0 l) :=
  ld_at x3 _ _ fun a => match a with
    | ⟨0, _⟩ => rfl
    | ⟨1, _⟩ => rfl
    | ⟨2, _⟩ => (Nat.zero_add _).symm

/-- The first chunk's normalized rows are the block's. -/
theorem h1_at (r : Fin 512) (k : Fin 1024) :
    k0_pay3 (xa x0) (gn x1) (ix2 r k) = bhid x0 x1 ⟨r.val, by omega⟩ k := by
  rw [pay3_apply]
  simp only [xa_at, gn_at]
/-- So are the second chunk's. -/
theorem h2_at (r : Fin 512) (k : Fin 1024) :
    k0_pay5 (k0_pay4 (xb x0)) (gn x1) (ix2 r k) = bhid x0 x1 ⟨512 + r.val, by omega⟩ k := by
  rw [pay5_apply]
  simp only [xb_at, gn_at]

theorem col_two (l : Fin 1024) (h : 1024 + (1024 + l.val) < 4096) : (⟨1024 + (1024 + l.val), h⟩ : Fin 4096) = col 2 l :=
  Fin.ext (by show 1024 + (1024 + l.val) = 1024 * 2 + l.val; omega)
theorem col_one (l : Fin 1024) (h : 1024 + l.val < 4096) : (⟨1024 + l.val, h⟩ : Fin 4096) = col 1 l :=
  Fin.ext (by show 1024 + l.val = 1024 * 1 + l.val; omega)

/-- The first chunk's products. -/
theorem p7_at (r : Fin 512) (l : Fin 1024) :
    k0_pay7 (k0_pay3 (xa x0) (gn x1)) (wcu x2) (ix2 r l) = cu (bhid x0 x1 ⟨r.val, by omega⟩) (bwin x2) l := by
  rw [pay7_apply]
  simp only [h1_at, wcu_at, col_two, col_one]
  rfl
/-- The second chunk's products. -/
theorem p9_at (r : Fin 512) (l : Fin 1024) :
    k0_pay10 (k0_pay9 (k0_pay4 (xb x0)) (gn x1) (wcu x2)) (ix2 r l) = cu (bhid x0 x1 ⟨512 + r.val, by omega⟩) (bwin x2) l := by
  rw [pay9_apply]
  simp only [h2_at, wcu_at, col_two, col_one]
  rfl

/-- After the first chunk the buffer holds the carried rows and the first chunk's. -/
theorem L1_at (R : Fin 1032) (hR : R.val < 520) (l : Fin 1024) :
    View.canon (L1 P x0 x1 x2) (ix2 R l) = vb P x0 x1 x2 R l := by
  unfold vb
  by_cases h : R.val < 8
  · rw [dif_pos h, canon_skip _ _ _ 0 (Or.inl h), canon_hit _ _ _ (ix2 ⟨R.val, h⟩ l)]
    exact fun a => match a with
      | ⟨0, _⟩ => (Nat.zero_add _).symm
      | ⟨1, _⟩ => (Nat.zero_add _).symm
  · rw [dif_neg h, canon_hit _ _ _ (ix2 (⟨R.val - 8, by omega⟩ : Fin 512) l), p7_at]
    exact fun a => match a with
      | ⟨0, _⟩ => by show R.val = 8 + (R.val - 8); omega
      | ⟨1, _⟩ => (Nat.zero_add _).symm

/-- After both chunks it holds the carried rows and the block's. -/
theorem L2_at (R : Fin 1032) (l : Fin 1024) :
    View.canon (L2 P x0 x1 x2) (ix2 R l) = vb P x0 x1 x2 R l := by
  by_cases h : R.val < 520
  · rw [canon_skip _ _ _ 0 (Or.inl h), L1_at P x0 x1 x2 R h]
  · unfold vb
    rw [dif_neg (by omega), canon_hit _ _ _ (ix2 (⟨R.val - 520, by omega⟩ : Fin 512) l), p9_at]
    · congr 2
      exact Fin.ext (by show 512 + (R.val - 520) = R.val - 8; omega)
    · exact fun a => match a with
      | ⟨0, _⟩ => by show R.val = 520 + (R.val - 520); omega
      | ⟨1, _⟩ => (Nat.zero_add _).symm

/-- One row of the block's result, over the buffer of products. -/
def bout (r : Fin 1024) (n : Fin 1024) : EReal :=
  yrow (brow x0 r) (bhid x0 x1 r) (bwin x2) (fun l n => x4 (ix2 l n))
    (fun l => conv (x3 (ix3 0 0 l)) (x3 (ix3 1 0 l)) (x3 (ix3 2 0 l))
      (vb P x0 x1 x2 ⟨8 + r.val, by omega⟩ l) (vb P x0 x1 x2 ⟨7 + r.val, by omega⟩ l) (vb P x0 x1 x2 ⟨6 + r.val, by omega⟩ l)) n

/-- The result block, row by row. -/
theorem LO_at (r n : Fin 1024) : View.canon (LO v P x0 x1 x2 x3 x4) (ix3 0 r n) = bout P x0 x1 x2 x3 x4 r n := by
  by_cases h : r.val < 512
  · rw [canon_skip _ _ _ 1 (Or.inl h), canon_hit _ _ _ (ix3 0 (⟨r.val, h⟩ : Fin 512) n), pay16_apply]
    · simp only [pay14_apply, pay8_apply, xa_at, h1_at, wo_at, wz_at, wb_at, tap0_at, tap1_at, tap2_at]
      have e8 : ∀ l, v.readCov (L1 P x0 x1 x2) (Rect.unit (s := S1032x1024) ![8, 0] S512x1024.size inb_S1032x1024_S512x1024_8_0).toLoadRect (ix2 (⟨r.val, h⟩ : Fin 512) l)
          = vb P x0 x1 x2 ⟨8 + r.val, by omega⟩ l := fun l => by
        rw [readCov_unit v _ _ (ix2 (⟨8 + r.val, by omega⟩ : Fin 1032) l), L1_at _ _ _ _ _ (by show 8 + r.val < 520; omega)]
        exact fun a => match a with
          | ⟨0, _⟩ => rfl
          | ⟨1, _⟩ => (Nat.zero_add _).symm
      have e7 : ∀ l, v.readCov (L1 P x0 x1 x2) (Rect.unit (s := S1032x1024) ![7, 0] S512x1024.size inb_S1032x1024_S512x1024_7_0).toLoadRect (ix2 (⟨r.val, h⟩ : Fin 512) l)
          = vb P x0 x1 x2 ⟨7 + r.val, by omega⟩ l := fun l => by
        rw [readCov_unit v _ _ (ix2 (⟨7 + r.val, by omega⟩ : Fin 1032) l), L1_at _ _ _ _ _ (by show 7 + r.val < 520; omega)]
        exact fun a => match a with
          | ⟨0, _⟩ => rfl
          | ⟨1, _⟩ => (Nat.zero_add _).symm
      have e6 : ∀ l, v.readCov (L1 P x0 x1 x2) (Rect.unit (s := S1032x1024) ![6, 0] S512x1024.size inb_S1032x1024_S512x1024_6_0).toLoadRect (ix2 (⟨r.val, h⟩ : Fin 512) l)
          = vb P x0 x1 x2 ⟨6 + r.val, by omega⟩ l := fun l => by
        rw [readCov_unit v _ _ (ix2 (⟨6 + r.val, by omega⟩ : Fin 1032) l), L1_at _ _ _ _ _ (by show 6 + r.val < 520; omega)]
        exact fun a => match a with
          | ⟨0, _⟩ => rfl
          | ⟨1, _⟩ => (Nat.zero_add _).symm
      simp only [e8, e7, e6]
      rfl
    · exact fun a => match a with
      | ⟨0, _⟩ => rfl
      | ⟨1, _⟩ => (Nat.zero_add _).symm
      | ⟨2, _⟩ => (Nat.zero_add _).symm
  · obtain ⟨s, hs⟩ : ∃ s : Fin 512, r.val = 512 + s.val := ⟨⟨r.val - 512, by omega⟩, by show r.val = 512 + (r.val - 512); omega⟩
    obtain rfl : r = ⟨512 + s.val, by clear hs h; omega⟩ := Fin.ext hs
    rw [canon_hit _ _ _ (ix3 0 s n), pay17_apply]
    · simp only [pay12_apply, xb_at, h2_at, wo_at, wz_at, wb_at, tap0_at, tap1_at, tap2_at]
      have e8 : ∀ l, v.readCov (L2 P x0 x1 x2) (Rect.unit (s := S1032x1024) ![520, 0] S512x1024.size inb_S1032x1024_S512x1024_520_0).toLoadRect (ix2 s l)
          = vb P x0 x1 x2 ⟨8 + (512 + s.val), by omega⟩ l := fun l => by
        rw [readCov_unit v _ _ (ix2 (⟨8 + (512 + s.val), by omega⟩ : Fin 1032) l), L2_at]
        exact fun a => match a with
          | ⟨0, _⟩ => by show 8 + (512 + s.val) = 520 + s.val; omega
          | ⟨1, _⟩ => (Nat.zero_add _).symm
      have e7 : ∀ l, v.readCov (L2 P x0 x1 x2) (Rect.unit (s := S1032x1024) ![519, 0] S512x1024.size inb_S1032x1024_S512x1024_519_0).toLoadRect (ix2 s l)
          = vb P x0 x1 x2 ⟨7 + (512 + s.val), by omega⟩ l := fun l => by
        rw [readCov_unit v _ _ (ix2 (⟨7 + (512 + s.val), by omega⟩ : Fin 1032) l), L2_at]
        exact fun a => match a with
          | ⟨0, _⟩ => by show 7 + (512 + s.val) = 519 + s.val; omega
          | ⟨1, _⟩ => (Nat.zero_add _).symm
      have e6 : ∀ l, v.readCov (L2 P x0 x1 x2) (Rect.unit (s := S1032x1024) ![518, 0] S512x1024.size inb_S1032x1024_S512x1024_518_0).toLoadRect (ix2 s l)
          = vb P x0 x1 x2 ⟨6 + (512 + s.val), by omega⟩ l := fun l => by
        rw [readCov_unit v _ _ (ix2 (⟨6 + (512 + s.val), by omega⟩ : Fin 1032) l), L2_at]
        exact fun a => match a with
          | ⟨0, _⟩ => by show 6 + (512 + s.val) = 518 + s.val; omega
          | ⟨1, _⟩ => (Nat.zero_add _).symm
      simp only [e8, e7, e6]
      rfl
    · exact fun a => match a with
      | ⟨0, _⟩ => rfl
      | ⟨1, _⟩ => rfl
      | ⟨2, _⟩ => (Nat.zero_add _).symm

end

end Cert.YocoA

end
-- ==== Proof.A.Run.lean ====
/-
  The stores of layer A's body at a point: at a sequence's first block (`A`) the carried rows are zeros, afterwards (`B`)
  they are the last 8 rows of the buffer the point before left.
-/
module

public import proofs.«01_k».proof.Proof.Gen.KernelIdeal.Frame.RunA
public import proofs.«01_k».proof.Proof.Gen.KernelIdeal.Frame.RunB
public import proofs.«01_k».proof.Proof.A.Block

@[expose] public section

set_option maxRecDepth 16384

noncomputable section

namespace Cert.YocoA

open Idealize.ShloMosaic Cert.KernelIdeal Cert.KernelIdeal.Gen Cert.YocoPieces

variable {F : FTy → Type} [FloatOps F] (c : Dev nD) (i : grid0.Coords)
  (arg2 : Memref sig .tc .vmem S1x1024x1024 .f32) (harg2 : arg2.IsWhole)
  (arg3 : Memref sig .tc .vmem S1x1024 .f32) (harg3 : arg3.IsWhole)
  (arg4 : Memref sig .tc .vmem S1024x4096 .f32) (harg4 : arg4.IsWhole)
  (arg5 : Memref sig .tc .vmem S3x1x1024 .f32) (harg5 : arg5.IsWhole)
  (arg6 : Memref sig .tc .vmem S1024x1024 .f32) (harg6 : arg6.IsWhole)
  (arg7 : Memref sig .tc .vmem S32x512 .f32) (harg7 : arg7.IsWhole)
  (arg8 : Memref sig .tc .vmem S32x2048 .f32) (harg8 : arg8.IsWhole)
  (arg9 : Memref sig .tc .vmem S32x1024 .f32) (harg9 : arg9.IsWhole)
  (arg10 : Memref sig .tc .vmem S1x1024x1024 .f32) (harg10 : arg10.IsWhole)
  (arg11 : Memref sig .tc .vmem S32x512 .bf16) (harg11 : arg11.IsWhole)
  (arg12 : Memref sig .tc .vmem S32x2048 .bf16) (harg12 : arg12.IsWhole)
  (arg13 : Memref sig .tc .vmem S32x1024 .bf16) (harg13 : arg13.IsWhole)
  (arg14 : Memref sig .tc .vmem S1032x1024 .f32) (harg14 : arg14.IsWhole)
  (x0 : Vec F S1x1024x1024 .f32)
  (x1 : Vec F S1x1024 .f32)
  (x2 : Vec F S1024x4096 .f32)
  (x3 : Vec F S3x1x1024 .f32)
  (x4 : Vec F S1024x1024 .f32)
  (x5 : Vec F S32x512 .f32)
  (x6 : Vec F S32x2048 .f32)
  (x7 : Vec F S32x1024 .f32)
  (xs0 : Vec F S1032x1024 .f32)

/-- The rows a later block starts from: the last 8 of the buffer. -/
def kept (xs0 : Vec F S1032x1024 .f32) : FVec F S8x1024 .f32 :=
  k0_pay2 (View.ld xs0 (Rect.unit (s := S1032x1024) ![1024, 0] S8x1024.size inb_S1032x1024_S8x1024_1024_0))

theorem res_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1 = LO arg14.view k0_pay1 x0 x1 x2 x3 x4 := by
  unfold kernelRun0_A
  dsimp only
  sl_unfold_words
  simp only [View.readAt_eq_ld, harg2.read_unread, harg3.read_unread, harg4.read_unread, harg5.read_unread, harg6.read_unread]
  rfl

theorem buf_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.2.1 = L2 k0_pay1 x0 x1 x2 := by
  unfold kernelRun0_A
  dsimp only
  sl_unfold_words
  simp only [View.readAt_eq_ld, harg2.read_unread, harg3.read_unread, harg4.read_unread, harg5.read_unread, harg6.read_unread]
  rfl

theorem cast5_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1
      = [⟨Rect.unit (s := S32x512) ![0, 0] S32x512.size inb_S32x512_S32x512_0_0, k0_pay18 (View.ld x5 (Rect.unit (s := S32x512) ![0, 0] S32x512.size inb_S32x512_S32x512_0_0))⟩] := by
  unfold kernelRun0_A
  dsimp only
  sl_unfold_words
  simp only [View.readAt_eq_ld, harg7.read_unread]

theorem cast6_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1
      = [⟨Rect.unit (s := S32x2048) ![0, 0] S32x2048.size inb_S32x2048_S32x2048_0_0, k0_pay19 (View.ld x6 (Rect.unit (s := S32x2048) ![0, 0] S32x2048.size inb_S32x2048_S32x2048_0_0))⟩] := by
  unfold kernelRun0_A
  dsimp only
  sl_unfold_words
  simp only [View.readAt_eq_ld, harg8.read_unread]

theorem cast7_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.1
      = [⟨Rect.unit (s := S32x1024) ![0, 0] S32x1024.size inb_S32x1024_S32x1024_0_0, k0_pay20 (View.ld x7 (Rect.unit (s := S32x1024) ![0, 0] S32x1024.size inb_S32x1024_S32x1024_0_0))⟩] := by
  unfold kernelRun0_A
  dsimp only
  sl_unfold_words
  simp only [View.readAt_eq_ld, harg9.read_unread]

theorem res_B (hc0 : ¬cond0_0 i) (hc1 : cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).1 = LO arg14.view (kept xs0) x0 x1 x2 x3 x4 := by
  unfold kernelRun0_B
  dsimp only
  sl_unfold_words
  simp only [View.readAt_eq_ld, harg2.read_unread, harg3.read_unread, harg4.read_unread, harg5.read_unread, harg6.read_unread, harg14.read_unread]
  rfl

theorem buf_B (hc0 : ¬cond0_0 i) (hc1 : cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.2.2.1 = L2 (kept xs0) x0 x1 x2 := by
  unfold kernelRun0_B
  dsimp only
  sl_unfold_words
  simp only [View.readAt_eq_ld, harg2.read_unread, harg3.read_unread, harg4.read_unread, harg5.read_unread, harg6.read_unread, harg14.read_unread]
  rfl

theorem cast5_B (hc0 : ¬cond0_0 i) (hc1 : cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.1
      = [⟨Rect.unit (s := S32x512) ![0, 0] S32x512.size inb_S32x512_S32x512_0_0, k0_pay18 (View.ld x5 (Rect.unit (s := S32x512) ![0, 0] S32x512.size inb_S32x512_S32x512_0_0))⟩] := by
  unfold kernelRun0_B
  dsimp only
  sl_unfold_words
  simp only [View.readAt_eq_ld, harg7.read_unread]

theorem cast6_B (hc0 : ¬cond0_0 i) (hc1 : cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.1
      = [⟨Rect.unit (s := S32x2048) ![0, 0] S32x2048.size inb_S32x2048_S32x2048_0_0, k0_pay19 (View.ld x6 (Rect.unit (s := S32x2048) ![0, 0] S32x2048.size inb_S32x2048_S32x2048_0_0))⟩] := by
  unfold kernelRun0_B
  dsimp only
  sl_unfold_words
  simp only [View.readAt_eq_ld, harg8.read_unread]

theorem cast7_B (hc0 : ¬cond0_0 i) (hc1 : cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.2.1
      = [⟨Rect.unit (s := S32x1024) ![0, 0] S32x1024.size inb_S32x1024_S32x1024_0_0, k0_pay20 (View.ld x7 (Rect.unit (s := S32x1024) ![0, 0] S32x1024.size inb_S32x1024_S32x1024_0_0))⟩] := by
  unfold kernelRun0_B
  dsimp only
  sl_unfold_words
  simp only [View.readAt_eq_ld, harg9.read_unread]

end Cert.YocoA
-- ==== Proof.A.Blocks.lean ====
/-
  The blocks layer A's body reads at a point, as entries of the arrays the program starts from.
-/
module

public import proofs.«01_k».proof.Proof.Gen.KernelIdeal.Frame.Runs
public import proofs.«01_k».proof.Proof.A.Block
public import Idealize.ShloMosaic.Lib.StableHlo.ReadAt

@[expose] public section

set_option maxRecDepth 16384

noncomputable section

namespace Cert.YocoA

open Idealize.ShloMosaic Cert.KernelIdeal Cert.KernelIdeal.Gen

variable (m : (ℓ : Loc nD τ sig) → Buf (Elt Ideal) ℓ) (c : Dev nD)

/-- The arrays the program starts from. -/
abbrev a0 : Vec Ideal S4x8192x1024 .f32 := m (c.tc.loc main_arg0)
abbrev a1 : Vec Ideal S1x1024 .f32 := m (c.tc.loc main_arg1)
abbrev a2 : Vec Ideal S1x1024x4096 .f32 := m (c.tc.loc main_arg2)
abbrev a3 : Vec Ideal S1x3x1x1024 .f32 := m (c.tc.loc main_arg3)
abbrev a4 : Vec Ideal S1x1024x1024 .f32 := m (c.tc.loc main_arg4)
abbrev a5 : Vec Ideal S1024x512 .f32 := m (c.tc.loc main_arg5)
abbrev a6 : Vec Ideal S1x1024x2048 .f32 := m (c.tc.loc main_arg6)
abbrev a7 : Vec Ideal S1x1024x1024 .f32 := m (c.tc.loc main_arg7)

theorem host6 (q : Fin 1024) : (V m c main_v6 : Vec Ideal S1x1024 .f32) (ix2 0 q) = a1 m c (ix2 0 q) := by
  unfold V
  after_reads_at

theorem host1 (k : Fin 1024) (o : Fin 4096) :
    (V m c main_v1 : Vec Ideal S1024x4096 .f32) (ix2 k o) = a2 m c (ix3 0 k o) := by
  unfold V
  after_reads_at

theorem host2 (s : Fin 3) (l : Fin 1024) :
    (V m c main_v2 : Vec Ideal S3x1x1024 .f32) (ix3 s 0 l) = a3 m c (ix4 0 s 0 l) := by
  unfold V
  after_reads_at

theorem host3 (k : Fin 1024) (o : Fin 1024) :
    (V m c main_v3 : Vec Ideal S1024x1024 .f32) (ix2 k o) = a4 m c (ix3 0 k o) := by
  unfold V
  after_reads_at

theorem host4 (k : Fin 1024) (o : Fin 2048) :
    (V m c main_v4 : Vec Ideal S1024x2048 .f32) (ix2 k o) = a6 m c (ix3 0 k o) := by
  unfold V
  after_reads_at

theorem host5 (k : Fin 1024) (o : Fin 1024) :
    (V m c main_v5 : Vec Ideal S1024x1024 .f32) (ix2 k o) = a7 m c (ix3 0 k o) := by
  unfold V
  after_reads_at

/-- The block each window shows at point `t`: batch `t / 8`, tile `t % 8`; whole arrays; slabs of 32 rows. -/
theorem at0 (t : Fin cfg0.N) : win0_0.index t 0 = t.val / 8 ∧ win0_0.index t 1 = t.val % 8 ∧ win0_0.index t 2 = 0 := by
  revert t; decide +kernel
theorem at1 (t : Fin cfg0.N) : win0_1.index t 0 = 0 ∧ win0_1.index t 1 = 0 := by
  revert t; decide +kernel
theorem at2 (t : Fin cfg0.N) : win0_2.index t 0 = 0 ∧ win0_2.index t 1 = 0 := by
  revert t; decide +kernel
theorem at3 (t : Fin cfg0.N) : win0_3.index t 0 = 0 ∧ win0_3.index t 1 = 0 ∧ win0_3.index t 2 = 0 := by
  revert t; decide +kernel
theorem at4 (t : Fin cfg0.N) : win0_4.index t 0 = 0 ∧ win0_4.index t 1 = 0 := by
  revert t; decide +kernel
theorem at5 (t : Fin cfg0.N) : win0_5.index t 0 = t.val ∧ win0_5.index t 1 = 0 := by
  revert t; decide +kernel
theorem at6 (t : Fin cfg0.N) : win0_6.index t 0 = t.val ∧ win0_6.index t 1 = 0 := by
  revert t; decide +kernel
theorem at7 (t : Fin cfg0.N) : win0_7.index t 0 = t.val ∧ win0_7.index t 1 = 0 := by
  revert t; decide +kernel

variable (t : Fin cfg0.N)

theorem blk0 (r q : Fin 1024) (b : Fin 4) (R : Fin 8192) (hb : b.val = t.val / 8) (hR : R.val = 1024 * (t.val % 8) + r.val) :
    (iblk m c 0 t : Vec Ideal S1x1024x1024 .f32) (ix3 0 r q) = a0 m c (ix3 b R q) := by
  have hi := at0 t
  unfold iblk
  rw [View.read_apply]
  show V m c main_arg0 _ = _
  rw [V_main_arg0]
  show m _ _ = m _ _
  congr 1
  funext a
  apply Fin.ext
  match a with
  | ⟨0, _⟩ => show win0_0.index t 0 * 1 + 1 * 0 = b.val; rw [hi.1]; omega
  | ⟨1, _⟩ => show win0_0.index t 1 * 1024 + 1 * r.val = R.val; rw [hi.2.1]; omega
  | ⟨2, _⟩ => show win0_0.index t 2 * 1024 + 1 * q.val = q.val; rw [hi.2.2]; omega

theorem blk1 (q : Fin 1024) : (iblk m c 1 t : Vec Ideal S1x1024 .f32) (ix2 0 q) = a1 m c (ix2 0 q) := by
  have hi := at1 t
  rw [← host6]
  unfold iblk
  rw [View.read_apply]
  show V m c main_v6 _ = V m c main_v6 _
  congr 1
  funext a
  apply Fin.ext
  match a with
  | ⟨0, _⟩ => show win0_1.index t 0 * 1 + 1 * 0 = 0; rw [hi.1]
  | ⟨1, _⟩ => show win0_1.index t 1 * 1024 + 1 * q.val = q.val; rw [hi.2]; omega

theorem blk2 (k : Fin 1024) (o : Fin 4096) : (iblk m c 2 t : Vec Ideal S1024x4096 .f32) (ix2 k o) = a2 m c (ix3 0 k o) := by
  have hi := at2 t
  rw [← host1]
  unfold iblk
  rw [View.read_apply]
  show V m c main_v1 _ = V m c main_v1 _
  congr 1
  funext a
  apply Fin.ext
  match a with
  | ⟨0, _⟩ => show win0_2.index t 0 * 1024 + 1 * k.val = k.val; rw [hi.1]; omega
  | ⟨1, _⟩ => show win0_2.index t 1 * 4096 + 1 * o.val = o.val; rw [hi.2]; omega

theorem blk3 (s : Fin 3) (l : Fin 1024) : (iblk m c 3 t : Vec Ideal S3x1x1024 .f32) (ix3 s 0 l) = a3 m c (ix4 0 s 0 l) := by
  have hi := at3 t
  rw [← host2]
  unfold iblk
  rw [View.read_apply]
  show V m c main_v2 _ = V m c main_v2 _
  congr 1
  funext a
  apply Fin.ext
  match a with
  | ⟨0, _⟩ => show win0_3.index t 0 * 3 + 1 * s.val = s.val; rw [hi.1]; omega
  | ⟨1, _⟩ => show win0_3.index t 1 * 1 + 1 * 0 = 0; rw [hi.2.1]
  | ⟨2, _⟩ => show win0_3.index t 2 * 1024 + 1 * l.val = l.val; rw [hi.2.2]; omega

theorem blk4 (k n : Fin 1024) : (iblk m c 4 t : Vec Ideal S1024x1024 .f32) (ix2 k n) = a4 m c (ix3 0 k n) := by
  have hi := at4 t
  rw [← host3]
  unfold iblk
  rw [View.read_apply]
  show V m c main_v3 _ = V m c main_v3 _
  congr 1
  funext a
  apply Fin.ext
  match a with
  | ⟨0, _⟩ => show win0_4.index t 0 * 1024 + 1 * k.val = k.val; rw [hi.1]; omega
  | ⟨1, _⟩ => show win0_4.index t 1 * 1024 + 1 * n.val = n.val; rw [hi.2]; omega

theorem blk5 (k : Fin 32) (n : Fin 512) (K : Fin 1024) (hK : K.val = 32 * t.val + k.val) :
    (iblk m c 5 t : Vec Ideal S32x512 .f32) (ix2 k n) = a5 m c (ix2 K n) := by
  have hi := at5 t
  unfold iblk
  rw [View.read_apply]
  show V m c main_arg5 _ = _
  rw [V_main_arg5]
  show m _ _ = m _ _
  congr 1
  funext a
  apply Fin.ext
  match a with
  | ⟨0, _⟩ => show win0_5.index t 0 * 32 + 1 * k.val = K.val; rw [hi.1]; omega
  | ⟨1, _⟩ => show win0_5.index t 1 * 512 + 1 * n.val = n.val; rw [hi.2]; omega

theorem blk6 (k : Fin 32) (n : Fin 2048) (K : Fin 1024) (hK : K.val = 32 * t.val + k.val) :
    (iblk m c 6 t : Vec Ideal S32x2048 .f32) (ix2 k n) = a6 m c (ix3 0 K n) := by
  have hi := at6 t
  rw [← host4]
  unfold iblk
  rw [View.read_apply]
  show V m c main_v4 _ = V m c main_v4 _
  congr 1
  funext a
  apply Fin.ext
  match a with
  | ⟨0, _⟩ => show win0_6.index t 0 * 32 + 1 * k.val = K.val; rw [hi.1]; omega
  | ⟨1, _⟩ => show win0_6.index t 1 * 2048 + 1 * n.val = n.val; rw [hi.2]; omega

theorem blk7 (k : Fin 32) (n : Fin 1024) (K : Fin 1024) (hK : K.val = 32 * t.val + k.val) :
    (iblk m c 7 t : Vec Ideal S32x1024 .f32) (ix2 k n) = a7 m c (ix3 0 K n) := by
  have hi := at7 t
  rw [← host5]
  unfold iblk
  rw [View.read_apply]
  show V m c main_v5 _ = V m c main_v5 _
  congr 1
  funext a
  apply Fin.ext
  match a with
  | ⟨0, _⟩ => show win0_7.index t 0 * 32 + 1 * k.val = K.val; rw [hi.1]; omega
  | ⟨1, _⟩ => show win0_7.index t 1 * 1024 + 1 * n.val = n.val; rw [hi.2]; omega

end Cert.YocoA
-- ==== Proof.A.Ref.lean ====
/-
  What the reference of layer A computes, read at an index: the row functions of `Cert.YocoA` on the rows of the whole
  array, the rows before the first being zero.
-/
module

public import proofs.«01_k».proof.Proof.Gen.ReferenceIdeal.Read
public import proofs.«01_k».proof.Proof.A.Math

@[expose] public section

set_option maxRecDepth 16384

noncomputable section

namespace Cert.YocoA

open Idealize.ShloMosaic Cert.ReferenceIdeal Cert.ReferenceIdeal.Gen Cert.ReferenceIdeal.Read

section
variable (x0 : Vec Ideal S4x8192x1024 .f32) (x1 : Vec Ideal S1x1024 .f32) (x2 : Vec Ideal S1x1024x4096 .f32)
  (x3 : Vec Ideal S1x3x1x1024 .f32) (x4 : Vec Ideal S1x1024x1024 .f32)

/-- Row `R` of batch `b`. -/
abbrev row (b : Fin 4) (R : Fin 8192) : Fin 1024 → EReal := fun q => x0 (ix3 b R q)
/-- Row `R` of batch `b`, normalized. -/
abbrev hrow (b : Fin 4) (R : Fin 8192) : Fin 1024 → EReal := hid (row x0 b R) fun q => x1 (ix2 0 q)
/-- The input weights. -/
abbrev win : Fin 1024 → Fin 4096 → EReal := fun k o => x2 (ix3 0 k o)
/-- The output weights. -/
abbrev wout : Fin 1024 → Fin 1024 → EReal := fun l n => x4 (ix3 0 l n)

/-- The product at the row `s` rows before row `R`, zero where there is none. -/
def back (b : Fin 4) (R : Fin 8192) (s : ℕ) (l : Fin 1024) : EReal :=
  if s ≤ R.val then cu (hrow x0 x1 b ⟨R.val - s, by omega⟩) (win x2) l else 0

/-- Row `R` of the result. -/
def out (b : Fin 4) (R : Fin 8192) (n : Fin 1024) : EReal :=
  yrow (row x0 b R) (hrow x0 x1 b R) (win x2) (wout x4)
    (fun l => conv (x3 (ix4 0 0 0 l)) (x3 (ix4 0 1 0 l)) (x3 (ix4 0 2 0 l))
      (back x0 x1 x2 b R 0 l) (back x0 x1 x2 b R 1 l) (back x0 x1 x2 b R 2 l)) n

theorem ref_h (b : Fin 4) (R : Fin 8192) (k : Fin 1024) :
    val_main_v16 (F := Ideal) x0 x1 (ix3 b R k) = hrow x0 x1 b R k := by
  pointwise [val_main_v16, val_main_v15, val_main_v14, val_main_v13, val_main_v12, val_main_v11, val_main_v10,
    val_main_v9, val_main_v8, val_main_v7, val_main_v6, val_main_v5, val_main_v4, val_main_v0, val_main_cst,
    val_main_cst_0, val_main_cst_1, hrow, hid, row, rowLen, eps]

theorem ref_proj (b : Fin 4) (R : Fin 8192) (o : Fin 4096) :
    val_main_v17 (F := Ideal) x0 x1 x2 (ix3 b R o) = proj (hrow x0 x1 b R) (win x2) o := by
  pointwise [val_main_v17, val_main_v1, ref_h, proj, win]

theorem ref_cu (b : Fin 4) (R : Fin 8192) (l : Fin 1024) :
    val_main_v22 (F := Ideal) x0 x1 x2 (ix3 b R l) = cu (hrow x0 x1 b R) (win x2) l := by
  pointwise [val_main_v22, val_main_v19, val_main_v20, ref_proj, cu, col]

theorem ref_pad (b : Fin 4) (Q : Fin 8194) (R : Fin 8192) (s : ℕ) (hQ : Q.val + s = R.val + 2) (l : Fin 1024) :
    val_main_v23 (F := Ideal) x0 x1 x2 (ix3 b Q l) = back x0 x1 x2 b R s l := by
  unfold val_main_v23 back
  by_cases hs : s ≤ R.val
  · rw [if_pos hs, ← ref_cu, pad_apply, dif_pos]
    · congr 1
      funext a
      apply Fin.ext
      match a with
      | ⟨0, _⟩ => show (b.val - 0) / 1 = b.val; omega
      | ⟨1, _⟩ => show (Q.val - 2) / 1 = R.val - s; omega
      | ⟨2, _⟩ => show (l.val - 0) / 1 = l.val; omega
    · intro a
      have hb := b.isLt; have hl := l.isLt; have hR := R.isLt
      match a with
      | ⟨0, _⟩ => exact ⟨Nat.zero_le _, Nat.mod_one _, by show (b.val - 0) / 1 < 4; omega⟩
      | ⟨1, _⟩ => exact ⟨by show 2 ≤ Q.val; omega, Nat.mod_one _, by show (Q.val - 2) / 1 < 8192; omega⟩
      | ⟨2, _⟩ => exact ⟨Nat.zero_le _, Nat.mod_one _, by show (l.val - 0) / 1 < 1024; omega⟩
  · rw [if_neg hs, pad_apply, dif_neg]
    · unfold val_main_call0_v0 val_main_c
      pointwise
      show (((0#32 : BitVec 32).toInt : ℝ) : EReal) = 0
      simp
    · intro h
      have := (h ⟨1, by decide⟩).1
      have h2 : 2 ≤ Q.val := this
      omega

theorem ref_out (b : Fin 4) (R : Fin 8192) (n : Fin 1024) :
    val_main_v50 (F := Ideal) x0 x1 x2 x3 x4 (ix3 b R n) = out x0 x1 x2 x3 x4 b R n := by
  have e0 : ∀ l, val_main_v24 (F := Ideal) x0 x1 x2 (ix3 b R l) = back x0 x1 x2 b R 2 l := fun l => by
    rw [← ref_pad x0 x1 x2 b ⟨R.val, by omega⟩ R 2 rfl l]; pointwise [val_main_v24]
  have e1 : ∀ l, val_main_v32 (F := Ideal) x0 x1 x2 (ix3 b R l) = back x0 x1 x2 b R 1 l := fun l => by
    rw [← ref_pad x0 x1 x2 b ⟨1 + R.val, by omega⟩ R 1 (by show 1 + R.val + 1 = _; omega) l]; pointwise [val_main_v32]
  have e2 : ∀ l, val_main_v39 (F := Ideal) x0 x1 x2 (ix3 b R l) = back x0 x1 x2 b R 0 l := fun l => by
    rw [← ref_pad x0 x1 x2 b ⟨2 + R.val, by omega⟩ R 0 (by show 2 + R.val + 0 = _; omega) l]; pointwise [val_main_v39]
  have e : ∀ l, val_main_v48 (F := Ideal) x0 x1 x2 x3 (ix3 b R l)
      = proj (hrow x0 x1 b R) (win x2) (col 0 l) * (conv (x3 (ix4 0 0 0 l)) (x3 (ix4 0 1 0 l)) (x3 (ix4 0 2 0 l))
      (back x0 x1 x2 b R 0 l) (back x0 x1 x2 b R 1 l) (back x0 x1 x2 b R 2 l)
        * (proj (hrow x0 x1 b R) (win x2) (col 3 l) * Ideal.logistic (proj (hrow x0 x1 b R) (win x2) (col 3 l)))) := fun l => by
    have hc : ∀ c0 c1 c2 v0 v1 v2 : EReal, conv c0 c1 c2 v0 v1 v2 = v2 * c0 + v1 * c1 + v0 * c2 := fun c0 c1 c2 v0 v1 v2 => by
      unfold conv
      rw [mul_comm c2, mul_comm c1, mul_comm c0, add_comm (v0 * c2), add_comm (v1 * c1 + v0 * c2), add_assoc]
    rw [← mul_assoc, hc]
    pointwise [val_main_v48, val_main_v47, val_main_call1_v5, val_main_call1_v4, val_main_call1_v3, val_main_call1_v2,
      val_main_call1_v1, val_main_call1_v0, val_main_call1_cst, val_main_call1_cst_0, val_main_v46, val_main_v45, val_main_v44,
      val_main_v43, val_main_v42, val_main_v41, val_main_v40, val_main_v38, val_main_v37, val_main_v36, val_main_v35, val_main_v34,
      val_main_v33, val_main_v31, val_main_v30, val_main_cst_2, val_main_v29, val_main_v28, val_main_v27, val_main_v26, val_main_v25,
      val_main_v21, val_main_v18, val_main_v2, ref_proj, e0, e1, e2, col, Ideal.logistic]
  pointwise [val_main_v50, val_main_v49, val_main_v3, e, out, yrow]

end

end Cert.YocoA

end
-- ==== Proof.A.Array.lean ====
/-
  What layer A's program leaves in its results, entry by entry, over the arrays it starts from.
-/
module

public import proofs.«01_k».proof.Proof.Gen.KernelIdeal.Value
public import proofs.«01_k».proof.Proof.A.Run
public import proofs.«01_k».proof.Proof.A.Blocks
public import proofs.«01_k».proof.Proof.A.Ref

@[expose] public section

set_option maxRecDepth 16384

noncomputable section

namespace Cert.YocoA

open Idealize.ShloMosaic Cert.KernelIdeal Cert.KernelIdeal.Gen Cert.KernelIdeal.Value Cert.YocoPieces

theorem kept_at (xs0 : Vec Ideal S1032x1024 .f32) (e : Fin 8) (l : Fin 1024) :
    kept xs0 (ix2 e l) = xs0 (ix2 ⟨1024 + e.val, by omega⟩ l) := by
  have h := ld_at (inb := inb_S1032x1024_S8x1024_1024_0) xs0 (ix2 e l : S8x1024.Idx) (ix2 (⟨1024 + e.val, by omega⟩ : Fin 1032) l) fun a => match a with
    | ⟨0, _⟩ => rfl
    | ⟨1, _⟩ => (Nat.zero_add _).symm
  rw [← h]
  unfold kept
  pointwise [k0_pay2]

theorem zeros_at (e : Fin 8) (l : Fin 1024) : k0_pay1 (F := Ideal) (ix2 e l) = 0 := by
  pointwise [k0_pay1]

variable (m : (ℓ : Loc nD τ sig) → Buf (Elt Ideal) ℓ) (c : Dev nD) (t : Fin cfg0.N)

/-- What point `t` leaves: the result block, the three slabs, the buffer of products. -/
abbrev left (n : ℕ) (hn : n < cfg0.N) := outsAt0 m c n hn

theorem hN (t : Fin cfg0.N) : t.val < 32 := lt_of_lt_of_eq t.isLt (show cfg0.N = 32 from N_0)

theorem at_res_A (h0 : t.val % 8 = 0) (h1 : ¬1 ≤ t.val % 8) :
    (left m c t.val t.isLt).1 = View.canon (LO scM0_0.view k0_pay1 (iblk m c 0 t) (iblk m c 1 t) (iblk m c 2 t) (iblk m c 3 t) (iblk m c 4 t)) := by
  unfold left
  rw [outsAt0_A m c t h0 h1]
  dsimp only
  unfold out0_A_8
  funext y
  rw [View.read_writes_junk_apply_eq_canon, res_A]

theorem at_res_B (h0 : ¬t.val % 8 = 0) (h1 : 1 ≤ t.val % 8) :
    (left m c t.val t.isLt).1 = View.canon (LO scM0_0.view (kept (left m c (t.val - 1) (Nat.lt_of_le_of_lt (Nat.sub_le _ _) t.isLt)).2.2.2.2) (iblk m c 0 t) (iblk m c 1 t) (iblk m c 2 t) (iblk m c 3 t) (iblk m c 4 t)) := by
  unfold left
  rw [outsAt0_B m c t h0 h1]
  dsimp only
  unfold out0_B_8
  funext y
  rw [View.read_writes_junk_apply_eq_canon, res_B]

theorem at_buf_A (h0 : t.val % 8 = 0) (h1 : ¬1 ≤ t.val % 8) :
    (left m c t.val t.isLt).2.2.2.2 = View.canon (L2 k0_pay1 (iblk m c 0 t) (iblk m c 1 t) (iblk m c 2 t)) := by
  unfold left
  rw [outsAt0_A m c t h0 h1]
  dsimp only
  unfold sout0_A_0
  funext y
  rw [View.read_writes_junk_apply_eq_canon, buf_A]

theorem at_buf_B (h0 : ¬t.val % 8 = 0) (h1 : 1 ≤ t.val % 8) :
    (left m c t.val t.isLt).2.2.2.2 = View.canon (L2 (kept (left m c (t.val - 1) (Nat.lt_of_le_of_lt (Nat.sub_le _ _) t.isLt)).2.2.2.2) (iblk m c 0 t) (iblk m c 1 t) (iblk m c 2 t)) := by
  unfold left
  rw [outsAt0_B m c t h0 h1]
  dsimp only
  unfold sout0_B_0
  funext y
  rw [View.read_writes_junk_apply_eq_canon, buf_B]

theorem at_cast5_A (h0 : t.val % 8 = 0) (h1 : ¬1 ≤ t.val % 8) :
    (left m c t.val t.isLt).2.1 = View.canon (s := S32x512) (e := .bf16) [⟨Rect.unit (s := S32x512) ![0, 0] S32x512.size inb_S32x512_S32x512_0_0, k0_pay18 (View.ld (iblk m c 5 t) (Rect.unit (s := S32x512) ![0, 0] S32x512.size inb_S32x512_S32x512_0_0))⟩] := by
  unfold left
  rw [outsAt0_A m c t h0 h1]
  dsimp only
  unfold out0_A_9
  funext y
  rw [View.read_writes_junk_apply_eq_canon, cast5_A]
  rfl

theorem at_cast5_B (h0 : ¬t.val % 8 = 0) (h1 : 1 ≤ t.val % 8) :
    (left m c t.val t.isLt).2.1 = View.canon (s := S32x512) (e := .bf16) [⟨Rect.unit (s := S32x512) ![0, 0] S32x512.size inb_S32x512_S32x512_0_0, k0_pay18 (View.ld (iblk m c 5 t) (Rect.unit (s := S32x512) ![0, 0] S32x512.size inb_S32x512_S32x512_0_0))⟩] := by
  unfold left
  rw [outsAt0_B m c t h0 h1]
  dsimp only
  unfold out0_B_9
  funext y
  rw [View.read_writes_junk_apply_eq_canon, cast5_B]
  rfl

theorem at_cast6_A (h0 : t.val % 8 = 0) (h1 : ¬1 ≤ t.val % 8) :
    (left m c t.val t.isLt).2.2.1 = View.canon (s := S32x2048) (e := .bf16) [⟨Rect.unit (s := S32x2048) ![0, 0] S32x2048.size inb_S32x2048_S32x2048_0_0, k0_pay19 (View.ld (iblk m c 6 t) (Rect.unit (s := S32x2048) ![0, 0] S32x2048.size inb_S32x2048_S32x2048_0_0))⟩] := by
  unfold left
  rw [outsAt0_A m c t h0 h1]
  dsimp only
  unfold out0_A_10
  funext y
  rw [View.read_writes_junk_apply_eq_canon, cast6_A]
  rfl

theorem at_cast6_B (h0 : ¬t.val % 8 = 0) (h1 : 1 ≤ t.val % 8) :
    (left m c t.val t.isLt).2.2.1 = View.canon (s := S32x2048) (e := .bf16) [⟨Rect.unit (s := S32x2048) ![0, 0] S32x2048.size inb_S32x2048_S32x2048_0_0, k0_pay19 (View.ld (iblk m c 6 t) (Rect.unit (s := S32x2048) ![0, 0] S32x2048.size inb_S32x2048_S32x2048_0_0))⟩] := by
  unfold left
  rw [outsAt0_B m c t h0 h1]
  dsimp only
  unfold out0_B_10
  funext y
  rw [View.read_writes_junk_apply_eq_canon, cast6_B]
  rfl

theorem at_cast7_A (h0 : t.val % 8 = 0) (h1 : ¬1 ≤ t.val % 8) :
    (left m c t.val t.isLt).2.2.2.1 = View.canon (s := S32x1024) (e := .bf16) [⟨Rect.unit (s := S32x1024) ![0, 0] S32x1024.size inb_S32x1024_S32x1024_0_0, k0_pay20 (View.ld (iblk m c 7 t) (Rect.unit (s := S32x1024) ![0, 0] S32x1024.size inb_S32x1024_S32x1024_0_0))⟩] := by
  unfold left
  rw [outsAt0_A m c t h0 h1]
  dsimp only
  unfold out0_A_11
  funext y
  rw [View.read_writes_junk_apply_eq_canon, cast7_A]
  rfl

theorem at_cast7_B (h0 : ¬t.val % 8 = 0) (h1 : 1 ≤ t.val % 8) :
    (left m c t.val t.isLt).2.2.2.1 = View.canon (s := S32x1024) (e := .bf16) [⟨Rect.unit (s := S32x1024) ![0, 0] S32x1024.size inb_S32x1024_S32x1024_0_0, k0_pay20 (View.ld (iblk m c 7 t) (Rect.unit (s := S32x1024) ![0, 0] S32x1024.size inb_S32x1024_S32x1024_0_0))⟩] := by
  unfold left
  rw [outsAt0_B m c t h0 h1]
  dsimp only
  unfold out0_B_11
  funext y
  rw [View.read_writes_junk_apply_eq_canon, cast7_B]
  rfl

section
variable (b : Fin 4) (R : Fin 8192) (r : Fin 1024) (hb : b.val = t.val / 8) (hR : R.val = 1024 * (t.val % 8) + r.val)
include hb hR

theorem brow_eq : brow (iblk m c 0 t) r = row (a0 m c) b R := funext fun q => blk0 m c t r q b R hb hR
theorem bhid_eq : bhid (iblk m c 0 t) (iblk m c 1 t) r = hrow (a0 m c) (a1 m c) b R := by
  unfold bhid hrow
  rw [brow_eq m c t b R r hb hR]
  congr 1
  exact funext fun q => blk1 m c t q
omit hb hR in
theorem bwin_eq : bwin (iblk m c 2 t) = win (a2 m c) := funext fun k => funext fun o => blk2 m c t k o

theorem vb_eq (P : FVec Ideal S8x1024 .f32) (l : Fin 1024) :
    vb P (iblk m c 0 t) (iblk m c 1 t) (iblk m c 2 t) ⟨8 + r.val, by omega⟩ l = back (a0 m c) (a1 m c) (a2 m c) b R 0 l := by
  unfold vb back
  rw [dif_neg (by show ¬8 + r.val < 8; omega), if_pos (Nat.zero_le _),
    bhid_eq m c t b R ⟨8 + r.val - 8, by omega⟩ hb (by show R.val = 1024 * (t.val % 8) + (8 + r.val - 8); omega), bwin_eq]
  rfl

/-- The buffer after point `t`: below its first 8 rows, the tile's products. -/
theorem buf_at (l : Fin 1024) :
    (left m c t.val t.isLt).2.2.2.2 (ix2 ⟨8 + r.val, by omega⟩ l) = back (a0 m c) (a1 m c) (a2 m c) b R 0 l := by
  by_cases h0 : t.val % 8 = 0
  · rw [at_buf_A m c t h0 (by omega), L2_at, vb_eq m c t b R r hb hR]
  · rw [at_buf_B m c t h0 (by omega), L2_at, vb_eq m c t b R r hb hR]
end

section
variable (b : Fin 4) (R : Fin 8192) (r : Fin 1024) (hb : b.val = t.val / 8) (hR : R.val = 1024 * (t.val % 8) + r.val)
include hb hR

/-- The carried rows `P` of point `t`: what a row `s` before the tile's row `r` reads when it falls before the tile. -/
theorem vb_back (P : FVec Ideal S8x1024 .f32)
    (hP : ∀ (e : Fin 8) (s : ℕ) (l : Fin 1024), s ≤ 2 → 8 + r.val - s = e.val → P (ix2 e l) = back (a0 m c) (a1 m c) (a2 m c) b R s l)
    (s : ℕ) (hs : s ≤ 2) (Q : Fin 1032) (hQ : Q.val = 8 + r.val - s) (l : Fin 1024) :
    vb P (iblk m c 0 t) (iblk m c 1 t) (iblk m c 2 t) Q l = back (a0 m c) (a1 m c) (a2 m c) b R s l := by
  by_cases h : Q.val < 8
  · unfold vb
    rw [dif_pos h]
    exact hP ⟨Q.val, h⟩ s l hs hQ.symm
  · have hsr : s ≤ r.val := by omega
    have hQ' : Q = ⟨8 + (r.val - s), by omega⟩ := Fin.ext (by show Q.val = 8 + (r.val - s); omega)
    rw [hQ']
    rw [vb_eq m c t b ⟨R.val - s, by omega⟩ ⟨r.val - s, by omega⟩ hb (by show R.val - s = 1024 * (t.val % 8) + (r.val - s); omega)]
    unfold back
    rw [if_pos (Nat.zero_le _), if_pos (by omega)]
    rfl

theorem bout_eq (P : FVec Ideal S8x1024 .f32)
    (hP : ∀ (e : Fin 8) (s : ℕ) (l : Fin 1024), s ≤ 2 → 8 + r.val - s = e.val → P (ix2 e l) = back (a0 m c) (a1 m c) (a2 m c) b R s l)
    (n : Fin 1024) :
    bout P (iblk m c 0 t) (iblk m c 1 t) (iblk m c 2 t) (iblk m c 3 t) (iblk m c 4 t) r n
      = out (a0 m c) (a1 m c) (a2 m c) (a3 m c) (a4 m c) b R n := by
  have e : ∀ (s : ℕ) (hs : s ≤ 2) (Q : Fin 1032) (hQ : Q.val = 8 + r.val - s) (l : Fin 1024),
      vb P (iblk m c 0 t) (iblk m c 1 t) (iblk m c 2 t) Q l = back (a0 m c) (a1 m c) (a2 m c) b R s l :=
    vb_back m c t b R r hb hR P hP
  unfold bout out
  rw [brow_eq m c t b R r hb hR, bhid_eq m c t b R r hb hR, bwin_eq]
  congr 1
  · exact funext fun k => funext fun o => blk4 m c t k o
  · funext l
    rw [e 0 (by omega) _ (by show 8 + r.val = 8 + r.val - 0; omega), e 1 (by omega) _ (by show 7 + r.val = 8 + r.val - 1; omega),
      e 2 (by omega) _ (by show 6 + r.val = 8 + r.val - 2; omega), blk3, blk3, blk3]

/-- The result block after point `t`. -/
theorem res_at (n : Fin 1024) :
    (left m c t.val t.isLt).1 (ix3 0 r n) = out (a0 m c) (a1 m c) (a2 m c) (a3 m c) (a4 m c) b R n := by
  by_cases h0 : t.val % 8 = 0
  · rw [at_res_A m c t h0 (by omega), LO_at]
    refine bout_eq m c t b R r hb hR _ (fun e s l hs he => ?_) n
    rw [zeros_at]
    unfold back
    rw [if_neg (by have := e.isLt; omega)]
  · rw [at_res_B m c t h0 (by omega), LO_at]
    refine bout_eq m c t b R r hb hR _ (fun e s l hs he => ?_) n
    have ht := hN t
    have hlt : t.val - 1 < cfg0.N := Nat.lt_of_le_of_lt (Nat.sub_le _ _) t.isLt
    have h8 := e.isLt
    rw [kept_at]
    have hx := buf_at m c ⟨t.val - 1, hlt⟩ b ⟨R.val - s, by omega⟩ ⟨1016 + e.val, by omega⟩
      (by show b.val = (t.val - 1) / 8; omega)
      (by show R.val - s = 1024 * ((t.val - 1) % 8) + (1016 + e.val); omega) l
    have hq : (⟨8 + (1016 + e.val), by omega⟩ : Fin 1032) = ⟨1024 + e.val, by omega⟩ := Fin.ext (by show 8 + (1016 + e.val) = 1024 + e.val; omega)
    rw [hq] at hx
    refine hx.trans ?_
    unfold back
    rw [if_pos (Nat.zero_le _), if_pos (by omega)]
    rfl
end

theorem cast5_at (k : Fin 32) (n : Fin 512) (K : Fin 1024) (hK : K.val = 32 * t.val + k.val) :
    (left m c t.val t.isLt).2.1 (ix2 k n) = a5 m c (ix2 K n) := by
  have e : (left m c t.val t.isLt).2.1 (ix2 k n) = k0_pay18 (View.ld (iblk m c 5 t) (Rect.unit (s := S32x512) ![0, 0] S32x512.size inb_S32x512_S32x512_0_0)) (ix2 k n) := by
    by_cases h0 : t.val % 8 = 0
    · rw [at_cast5_A m c t h0 (by omega), canon_hit _ _ _ (ix2 k n)]
      exact fun a => match a with
        | ⟨0, _⟩ => (Nat.zero_add _).symm
        | ⟨1, _⟩ => (Nat.zero_add _).symm
    · rw [at_cast5_B m c t h0 (by omega), canon_hit _ _ _ (ix2 k n)]
      exact fun a => match a with
        | ⟨0, _⟩ => (Nat.zero_add _).symm
        | ⟨1, _⟩ => (Nat.zero_add _).symm
  have l : View.ld (iblk m c 5 t : Vec Ideal S32x512 .f32) (Rect.unit (s := S32x512) ![0, 0] S32x512.size inb_S32x512_S32x512_0_0) (ix2 k n) = (iblk m c 5 t : Vec Ideal S32x512 .f32) (ix2 k n) :=
    ld_at _ _ _ fun a => match a with
      | ⟨0, _⟩ => (Nat.zero_add _).symm
      | ⟨1, _⟩ => (Nat.zero_add _).symm
  rw [e, ← blk5 m c t k n K hK, ← l]
  pointwise [k0_pay18]

theorem cast6_at (k : Fin 32) (n : Fin 2048) (K : Fin 1024) (hK : K.val = 32 * t.val + k.val) :
    (left m c t.val t.isLt).2.2.1 (ix2 k n) = a6 m c (ix3 0 K n) := by
  have e : (left m c t.val t.isLt).2.2.1 (ix2 k n) = k0_pay19 (View.ld (iblk m c 6 t) (Rect.unit (s := S32x2048) ![0, 0] S32x2048.size inb_S32x2048_S32x2048_0_0)) (ix2 k n) := by
    by_cases h0 : t.val % 8 = 0
    · rw [at_cast6_A m c t h0 (by omega), canon_hit _ _ _ (ix2 k n)]
      exact fun a => match a with
        | ⟨0, _⟩ => (Nat.zero_add _).symm
        | ⟨1, _⟩ => (Nat.zero_add _).symm
    · rw [at_cast6_B m c t h0 (by omega), canon_hit _ _ _ (ix2 k n)]
      exact fun a => match a with
        | ⟨0, _⟩ => (Nat.zero_add _).symm
        | ⟨1, _⟩ => (Nat.zero_add _).symm
  have l : View.ld (iblk m c 6 t : Vec Ideal S32x2048 .f32) (Rect.unit (s := S32x2048) ![0, 0] S32x2048.size inb_S32x2048_S32x2048_0_0) (ix2 k n) = (iblk m c 6 t : Vec Ideal S32x2048 .f32) (ix2 k n) :=
    ld_at _ _ _ fun a => match a with
      | ⟨0, _⟩ => (Nat.zero_add _).symm
      | ⟨1, _⟩ => (Nat.zero_add _).symm
  rw [e, ← blk6 m c t k n K hK, ← l]
  pointwise [k0_pay19]

theorem cast7_at (k : Fin 32) (n : Fin 1024) (K : Fin 1024) (hK : K.val = 32 * t.val + k.val) :
    (left m c t.val t.isLt).2.2.2.1 (ix2 k n) = a7 m c (ix3 0 K n) := by
  have e : (left m c t.val t.isLt).2.2.2.1 (ix2 k n) = k0_pay20 (View.ld (iblk m c 7 t) (Rect.unit (s := S32x1024) ![0, 0] S32x1024.size inb_S32x1024_S32x1024_0_0)) (ix2 k n) := by
    by_cases h0 : t.val % 8 = 0
    · rw [at_cast7_A m c t h0 (by omega), canon_hit _ _ _ (ix2 k n)]
      exact fun a => match a with
        | ⟨0, _⟩ => (Nat.zero_add _).symm
        | ⟨1, _⟩ => (Nat.zero_add _).symm
    · rw [at_cast7_B m c t h0 (by omega), canon_hit _ _ _ (ix2 k n)]
      exact fun a => match a with
        | ⟨0, _⟩ => (Nat.zero_add _).symm
        | ⟨1, _⟩ => (Nat.zero_add _).symm
  have l : View.ld (iblk m c 7 t : Vec Ideal S32x1024 .f32) (Rect.unit (s := S32x1024) ![0, 0] S32x1024.size inb_S32x1024_S32x1024_0_0) (ix2 k n) = (iblk m c 7 t : Vec Ideal S32x1024 .f32) (ix2 k n) :=
    ld_at _ _ _ fun a => match a with
      | ⟨0, _⟩ => (Nat.zero_add _).symm
      | ⟨1, _⟩ => (Nat.zero_add _).symm
  rw [e, ← blk7 m c t k n K hK, ← l]
  pointwise [k0_pay20]

/-- The first result, entry by entry. -/
theorem G8_at (b : Fin 4) (R : Fin 8192) (n : Fin 1024) :
    (G8 m c : Vec Ideal S4x8192x1024 .f32) (ix3 b R n) = out (a0 m c) (a1 m c) (a2 m c) (a3 m c) (a4 m c) b R n := by
  have hp : pt8Of (ix3 b R n) = 8 * b.val + R.val / 1024 := by
    show 8 * (b.val / 1 - 0) + 1 * (R.val / 1024 - 0) + 1 * (n.val / 1024 - 0) = _
    omega
  have hlt : 8 * b.val + R.val / 1024 < cfg0.N := by rw [show cfg0.N = 32 from N_0]; omega
  have hh : pt8Of (ix3 b R n) < cfg0.N := by rw [hp]; exact hlt
  unfold G8
  rw [dif_pos hh, ← outsAt0_sweep m c _ hh]
  have hl : loc8Of (ix3 b R n) = ix3 0 (⟨R.val % 1024, by omega⟩ : Fin 1024) n := by
    funext a
    apply Fin.ext
    match a with
    | ⟨0, _⟩ => show b.val % 1 = 0; omega
    | ⟨1, _⟩ => show R.val % 1024 = R.val % 1024; rfl
    | ⟨2, _⟩ => show n.val % 1024 = n.val; omega
  rw [hl]
  have := res_at m c ⟨8 * b.val + R.val / 1024, hlt⟩ b R ⟨R.val % 1024, by omega⟩
    (by show b.val = (8 * b.val + R.val / 1024) / 8; omega)
    (by show R.val = 1024 * ((8 * b.val + R.val / 1024) % 8) + R.val % 1024; omega) n
  rw [← this]
  simp only [hp, left]

theorem G9_at (K : Fin 1024) (n : Fin 512) : (G9 m c : Vec Ideal S1024x512 .bf16) (ix2 K n) = a5 m c (ix2 K n) := by
  have hp : pt9Of (ix2 K n) = K.val / 32 := by
    show 1 * (K.val / 32 - 0) + 1 * (n.val / 512 - 0) = _
    omega
  have hlt : K.val / 32 < cfg0.N := by rw [show cfg0.N = 32 from N_0]; omega
  have hh : pt9Of (ix2 K n) < cfg0.N := by rw [hp]; exact hlt
  unfold G9
  rw [dif_pos hh, ← outsAt0_sweep m c _ hh]
  have hl : loc9Of (ix2 K n) = ix2 (⟨K.val % 32, by omega⟩ : Fin 32) n := by
    funext a
    apply Fin.ext
    match a with
    | ⟨0, _⟩ => show K.val % 32 = K.val % 32; rfl
    | ⟨1, _⟩ => show n.val % 512 = n.val; omega
  rw [hl]
  have := cast5_at m c ⟨K.val / 32, hlt⟩ ⟨K.val % 32, by omega⟩ n K (by show K.val = 32 * (K.val / 32) + K.val % 32; omega)
  rw [← this]
  simp only [hp, left]

theorem G10_at (K : Fin 1024) (n : Fin 2048) : (G10 m c : Vec Ideal S1024x2048 .bf16) (ix2 K n) = a6 m c (ix3 0 K n) := by
  have hp : pt10Of (ix2 K n) = K.val / 32 := by
    show 1 * (K.val / 32 - 0) + 1 * (n.val / 2048 - 0) = _
    omega
  have hlt : K.val / 32 < cfg0.N := by rw [show cfg0.N = 32 from N_0]; omega
  have hh : pt10Of (ix2 K n) < cfg0.N := by rw [hp]; exact hlt
  unfold G10
  rw [dif_pos hh, ← outsAt0_sweep m c _ hh]
  have hl : loc10Of (ix2 K n) = ix2 (⟨K.val % 32, by omega⟩ : Fin 32) n := by
    funext a
    apply Fin.ext
    match a with
    | ⟨0, _⟩ => show K.val % 32 = K.val % 32; rfl
    | ⟨1, _⟩ => show n.val % 2048 = n.val; omega
  rw [hl]
  have := cast6_at m c ⟨K.val / 32, hlt⟩ ⟨K.val % 32, by omega⟩ n K (by show K.val = 32 * (K.val / 32) + K.val % 32; omega)
  rw [← this]
  simp only [hp, left]

theorem G11_at (K : Fin 1024) (n : Fin 1024) : (G11 m c : Vec Ideal S1024x1024 .bf16) (ix2 K n) = a7 m c (ix3 0 K n) := by
  have hp : pt11Of (ix2 K n) = K.val / 32 := by
    show 1 * (K.val / 32 - 0) + 1 * (n.val / 1024 - 0) = _
    omega
  have hlt : K.val / 32 < cfg0.N := by rw [show cfg0.N = 32 from N_0]; omega
  have hh : pt11Of (ix2 K n) < cfg0.N := by rw [hp]; exact hlt
  unfold G11
  rw [dif_pos hh, ← outsAt0_sweep m c _ hh]
  have hl : loc11Of (ix2 K n) = ix2 (⟨K.val % 32, by omega⟩ : Fin 32) n := by
    funext a
    apply Fin.ext
    match a with
    | ⟨0, _⟩ => show K.val % 32 = K.val % 32; rfl
    | ⟨1, _⟩ => show n.val % 1024 = n.val; omega
  rw [hl]
  have := cast7_at m c ⟨K.val / 32, hlt⟩ ⟨K.val % 32, by omega⟩ n K (by show K.val = 32 * (K.val / 32) + K.val % 32; omega)
  rw [← this]
  simp only [hp, left]

end Cert.YocoA
-- ==== Proof.A.Claim.lean ====
/-
  Layer A: from the same arrays the kernel's idealization and the reference's end with the same results.
-/
module

public import proofs.«01_k».proof.Defs
public import proofs.«01_k».proof.Proof.A.Array
public import proofs.«01_k».proof.Proof.Gen.ReferenceIdeal.Run

@[expose] public section

set_option maxRecDepth 16384

noncomputable section

namespace Cert.YocoA

open Idealize.ShloMosaic Idealize.SL.Sem Cert.KernelIdeal.Value

variable (m : (ℓ : Loc Cert.KernelIdeal.nD Cert.KernelIdeal.τ Cert.KernelIdeal.sig) → Buf (Elt Ideal) ℓ) (c : Dev Cert.KernelIdeal.nD)

theorem first_eq : Cert.ReferenceIdeal.Read.val_main_v50 (F := Ideal) (a0 m c) (a1 m c) (a2 m c) (a3 m c) (a4 m c)
    = (G8 m c : Vec Ideal Cert.KernelIdeal.S4x8192x1024 .f32) := by
  funext j
  idx_vars j
  exact (ref_out _ _ _ _ _ _ _ _).trans (G8_at m c _ _ _).symm

theorem second_eq : Cert.ReferenceIdeal.Read.val_main_v51 (F := Ideal) (a5 m c) = (G9 m c : Vec Ideal Cert.KernelIdeal.S1024x512 .bf16) := by
  funext j
  idx_vars j
  rw [G9_at]
  pointwise [Cert.ReferenceIdeal.Read.val_main_v51]

theorem third_eq : Cert.ReferenceIdeal.Read.val_main_v53 (F := Ideal) (a6 m c) = (G10 m c : Vec Ideal Cert.KernelIdeal.S1024x2048 .bf16) := by
  funext j
  idx_vars j
  rw [G10_at]
  pointwise [Cert.ReferenceIdeal.Read.val_main_v53, Cert.ReferenceIdeal.Read.val_main_v52]

theorem fourth_eq : Cert.ReferenceIdeal.Read.val_main_v55 (F := Ideal) (a7 m c) = (G11 m c : Vec Ideal Cert.KernelIdeal.S1024x1024 .bf16) := by
  funext j
  idx_vars j
  rw [G11_at]
  pointwise [Cert.ReferenceIdeal.Read.val_main_v55, Cert.ReferenceIdeal.Read.val_main_v54]

theorem algebraic : Cert.algebraic_KernelIdeal_ReferenceIdeal := by
  intro m g m' g' _ hm
  refine ⟨G8 m, G9 m, G10 m, G11 m, Cert.KernelIdeal.Value.run m g, ?_⟩
  refine (θ_run _ _ _).mono (fun r h c => ?_) (Cert.ReferenceIdeal.Value.run m' g')
  obtain ⟨e0, e1, e2, e3, hargs⟩ := h c
  obtain ⟨h0, h1, h2, h3, h4, h5, h6, h7⟩ := hm c
  refine ⟨e0.trans ?_, e1.trans ?_, e2.trans ?_, e3.trans ?_, hargs⟩
  · rw [Cert.ReferenceIdeal.Read.val_main_v50_eq, h0, h1, h2, h3, h4]
    exact first_eq m c
  · rw [Cert.ReferenceIdeal.Read.val_main_v51_eq, h5]
    exact second_eq m c
  · rw [Cert.ReferenceIdeal.Read.val_main_v53_eq, h6]
    exact third_eq m c
  · rw [Cert.ReferenceIdeal.Read.val_main_v55_eq, h7]
    exact fourth_eq m c

end Cert.YocoA
-- ==== Proof.B.Body.lean ====
/-
  The body of layer B as a few functions of whole blocks: the normalized rows, the keys and values a chunk of 512 rows
  stores, a group's queries, a query block's scores, their softmax weights, the attention of a pair of heads, and the
  gated output. The body applies each of them several times.
-/
module

public import proofs.«01_k».proof.Proof.Gen.KernelBIdeal.Skeleton

@[expose] public section

set_option maxRecDepth 16384

noncomputable section

namespace Cert.YocoB

open Idealize.ShloMosaic Cert.KernelBIdeal Cert.KernelBIdeal.Gen

variable {F : FTy → Type} [FloatOps F] [Named F]

/-- A chunk's normalized rows times a gain. -/
def hV (x : Vec F S1x512x1024 .f32) (g : Vec F S1x1024 .f32) : FVec F S512x1024 .bf16 :=
  have v82 : FVec F S512x1024 .f32 := shapeCast S512x1024 x shapeCasts_S1x512x1024_S512x1024
  have v83 : FVec F S512x1024 .f32 := mulf v82 v82
  have v84 : FVec F S512 .f32 := multiReduction .add [1] S512 v83 0x00000000#32 reduces_S512x1024_S512 (.inl rfl) rfl
  have v85 : FVec F S512x1 .f32 := shapeCast S512x1 v84 shapeCasts_S512_S512x1
  have cst_27 : F .f32 := Scalar.ofBits .f32 0x44800000#32
  have v86 : FVec F S512x1 .f32 := broadcast S512x1 cst_27
  have v87 : FVec F S512x1 .f32 := divf v85 v86
  have cst_28 : F .f32 := Scalar.ofBits .f32 0x358637BD#32
  have v88 : FVec F S512x1 .f32 := broadcast S512x1 cst_28
  have v89 : FVec F S512x1 .f32 := addf v87 v88
  have v90 : FVec F S512x1 .f32 := rsqrt v89
  have v91 : FVec F S512x1024 .f32 := broadcastTo S512x1024 v90 broadcasts_S512x1_S512x1024
  have v92 : FVec F S512x1024 .f32 := mulf v82 v91
  have v99 : FVec F S1x1024 .f32 := shapeCast S1x1024 g shapeCasts_S1x1024_S1x1024
  have v100 : FVec F S512x1024 .f32 := broadcastTo S512x1024 v99 broadcasts_S1x1024_S512x1024
  have v101 : FVec F S512x1024 .f32 := mulf v92 v100
  truncf .bf16 v101 bitsLt_bf16_f32

/-- A chunk's products with the shared weights: 256 columns of keys, 256 of values. -/
def kvV (h : FVec F S512x1024 .bf16) (w : Vec F S1024x512 .bf16) : FVec F S512x512 .f32 :=
  have v104 : FVec F S1024x512 .bf16 := shapeCast S1024x512 w shapeCasts_S1024x512_S1024x512
  have cst_35 : FVec F S512x512 .f32 := constant S512x512 .f32 0x00000000#32
  matmul dot_S512x1024_S1024x512_S512x512_1_0_0_1_n_n none h v104 cst_35

/-- A head's keys, transposed. -/
def khV (k : FVec F S64x512 .f32) (kg : Vec F S64x1 .f32) : FVec F S64x512 .f32 :=
  have v113 : FVec F S64x512 .f32 := mulf k k
  have v114 : FVec F S512 .f32 := multiReduction .add [0] S512 v113 0x00000000#32 reduces_S64x512_S512 (.inl rfl) rfl
  have v115 : FVec F S1x512 .f32 := shapeCast S1x512 v114 shapeCasts_S512_S1x512
  have cst_43 : F .f32 := Scalar.ofBits .f32 0x42800000#32
  have v116 : FVec F S1x512 .f32 := broadcast S1x512 cst_43
  have v117 : FVec F S1x512 .f32 := divf v115 v116
  have cst_44 : F .f32 := Scalar.ofBits .f32 0x358637BD#32
  have v118 : FVec F S1x512 .f32 := broadcast S1x512 cst_44
  have v119 : FVec F S1x512 .f32 := addf v117 v118
  have v120 : FVec F S1x512 .f32 := rsqrt v119
  have v121 : FVec F S64x512 .f32 := broadcastTo S64x512 v120 broadcasts_S1x512_S64x512
  have v122 : FVec F S64x512 .f32 := mulf k v121
  have v124 : FVec F S64x1 .f32 := shapeCast S64x1 kg shapeCasts_S64x1_S64x1
  have v125 : FVec F S64x512 .f32 := broadcastTo S64x512 v124 broadcasts_S64x1_S64x512
  mulf v122 v125

/-- A head's rotated keys as stored: 32 rows of the first half four times, then of the second half. -/
def ktV (k : FVec F S64x512 .f32) (co : Vec F S1x8x512 .f32) (si : Vec F S1x8x512 .f32) : FVec F S1x256x512 .bf16 :=
  have v127 : FVec F S8x512 .f32 := extractStridedSlice S8x512 ![0, 0] k slices_S64x512_o0_0_S8x512
  have v109 : FVec F S8x512 .f32 := shapeCast S8x512 co shapeCasts_S1x8x512_S8x512
  have v129 : FVec F S8x512 .f32 := mulf v127 v109
  have v128 : FVec F S8x512 .f32 := extractStridedSlice S8x512 ![8, 0] k slices_S64x512_o8_0_S8x512
  have v111 : FVec F S8x512 .f32 := shapeCast S8x512 si shapeCasts_S1x8x512_S8x512
  have v130 : FVec F S8x512 .f32 := mulf v128 v111
  have v131 : FVec F S8x512 .f32 := subf v129 v130
  have v132 : FVec F S24x512 .f32 := extractStridedSlice S24x512 ![16, 0] k slices_S64x512_o16_0_S24x512
  have v133 : FVec F S32x512 .f32 := concatenate S32x512 0 [⟨S8x512, v131⟩, ⟨S24x512, v132⟩] concatenates_S8x512_S24x512_S32x512_d0
  have v134 : FVec F S8x512 .f32 := mulf v128 v109
  have v135 : FVec F S8x512 .f32 := mulf v127 v111
  have v136 : FVec F S8x512 .f32 := addf v134 v135
  have v137 : FVec F S24x512 .f32 := extractStridedSlice S24x512 ![40, 0] k slices_S64x512_o40_0_S24x512
  have v138 : FVec F S32x512 .f32 := concatenate S32x512 0 [⟨S8x512, v136⟩, ⟨S24x512, v137⟩] concatenates_S8x512_S24x512_S32x512_d0
  have v139 : FVec F S256x512 .f32 := concatenate S256x512 0 [⟨S32x512, v133⟩, ⟨S32x512, v133⟩, ⟨S32x512, v133⟩, ⟨S32x512, v133⟩, ⟨S32x512, v138⟩, ⟨S32x512, v138⟩, ⟨S32x512, v138⟩, ⟨S32x512, v138⟩] concatenates_S32x512_S32x512_S32x512_S32x512_S32x512_S32x512_S32x512_S32x512_S256x512_d0
  have v140 : FVec F S256x512 .bf16 := truncf .bf16 v139 bitsLt_bf16_f32
  shapeCast S1x256x512 v140 shapeCasts_S256x512_S1x256x512

/-- Two heads' values, the first head's twice. -/
def veV (v : FVec F S512x128 .f32) : FVec F S1x512x128 .bf16 :=
  have v12 : IVec S512x128 1 := k0_pay13
  have v253 : FVec F S512x128 .f32 := dynamicRotate 1 64#32 none v rotates_S512x128_d1
  have v254 : FVec F S512x128 .f32 := select v12 v v253
  have v255 : FVec F S512x128 .bf16 := truncf .bf16 v254 bitsLt_bf16_f32
  shapeCast S1x512x128 v255 shapeCasts_S512x128_S1x512x128

/-- Two heads' values, the second head's twice. -/
def voV (v : FVec F S512x128 .f32) : FVec F S1x512x128 .bf16 :=
  have v12 : IVec S512x128 1 := k0_pay13
  have v253 : FVec F S512x128 .f32 := dynamicRotate 1 64#32 none v rotates_S512x128_d1
  have v259 : FVec F S512x128 .f32 := select v12 v253 v
  have v260 : FVec F S512x128 .bf16 := truncf .bf16 v259 bitsLt_bf16_f32
  shapeCast S1x512x128 v260 shapeCasts_S512x128_S1x512x128

/-- A chunk's products with 512 columns of a weight. -/
def mmV (h : FVec F S512x1024 .bf16) (w : Vec F S1024x512 .bf16) : FVec F S512x512 .f32 :=
  have cst_86 : FVec F S512x512 .f32 := constant S512x512 .f32 0x00000000#32
  matmul dot_S512x1024_S1024x512_S512x512_1_0_0_1_n_n none h w cst_86

/-- Each of four heads' inverse root mean square, from two halves of the heads, on its lanes. -/
def rsV (c0 : FVec F S512x128 .f32) (c1 : FVec F S512x128 .f32) : FVec F S512x128 .f32 :=
  have v17 : IVec S512x128 1 := k0_pay14
  have v272 : FVec F S512x128 .f32 := mulf c0 c0
  have v273 : FVec F S512x128 .f32 := mulf c1 c1
  have v274 : FVec F S512x128 .f32 := addf v272 v273
  have cst_91 : F .f32 := Scalar.ofBits .f32 0x00000000#32
  have v275 : FVec F S512x128 .f32 := broadcast S512x128 cst_91
  have v276 : FVec F S512x128 .f32 := select v17 v274 v275
  have v277 : FVec F S512 .f32 := multiReduction .add [1] S512 v276 0x00000000#32 reduces_S512x128_S512 (.inl rfl) rfl
  have v278 : FVec F S512x1 .f32 := shapeCast S512x1 v277 shapeCasts_S512_S512x1
  have v299 : FVec F S512x1 .f32 := shapeCast S512x1 v278 shapeCasts_S512x1_S512x1
  have v300 : FVec F S512x128 .f32 := broadcastTo S512x128 v299 broadcasts_S512x1_S512x128
  have v22 : IVec S512x128 1 := k0_pay15
  have cst_93 : F .f32 := Scalar.ofBits .f32 0x00000000#32
  have v279 : FVec F S512x128 .f32 := broadcast S512x128 cst_93
  have v280 : FVec F S512x128 .f32 := select v22 v274 v279
  have v281 : FVec F S512 .f32 := multiReduction .add [1] S512 v280 0x00000000#32 reduces_S512x128_S512 (.inl rfl) rfl
  have v282 : FVec F S512x1 .f32 := shapeCast S512x1 v281 shapeCasts_S512_S512x1
  have v296 : FVec F S512x1 .f32 := shapeCast S512x1 v282 shapeCasts_S512x1_S512x1
  have v297 : FVec F S512x128 .f32 := broadcastTo S512x128 v296 broadcasts_S512x1_S512x128
  have v27 : IVec S512x128 1 := k0_pay16
  have cst_95 : F .f32 := Scalar.ofBits .f32 0x00000000#32
  have v283 : FVec F S512x128 .f32 := broadcast S512x128 cst_95
  have v284 : FVec F S512x128 .f32 := select v27 v274 v283
  have v285 : FVec F S512 .f32 := multiReduction .add [1] S512 v284 0x00000000#32 reduces_S512x128_S512 (.inl rfl) rfl
  have v286 : FVec F S512x1 .f32 := shapeCast S512x1 v285 shapeCasts_S512_S512x1
  have v291 : FVec F S512x1 .f32 := shapeCast S512x1 v286 shapeCasts_S512x1_S512x1
  have v292 : FVec F S512x128 .f32 := broadcastTo S512x128 v291 broadcasts_S512x1_S512x128
  have v32 : IVec S512x128 1 := k0_pay17
  have cst_97 : F .f32 := Scalar.ofBits .f32 0x00000000#32
  have v287 : FVec F S512x128 .f32 := broadcast S512x128 cst_97
  have v288 : FVec F S512x128 .f32 := select v32 v274 v287
  have v289 : FVec F S512 .f32 := multiReduction .add [1] S512 v288 0x00000000#32 reduces_S512x128_S512 (.inl rfl) rfl
  have v290 : FVec F S512x1 .f32 := shapeCast S512x1 v289 shapeCasts_S512_S512x1
  have v293 : FVec F S512x1 .f32 := shapeCast S512x1 v290 shapeCasts_S512x1_S512x1
  have v294 : FVec F S512x128 .f32 := broadcastTo S512x128 v293 broadcasts_S512x1_S512x128
  have v295 : FVec F S512x128 .f32 := select v27 v292 v294
  have v298 : FVec F S512x128 .f32 := select v22 v297 v295
  have v301 : FVec F S512x128 .f32 := select v17 v300 v298
  have cst_99 : F .f32 := Scalar.ofBits .f32 0x3C800000#32
  have v302 : FVec F S512x128 .f32 := broadcast S512x128 cst_99
  have v303 : FVec F S512x128 .f32 := mulf v301 v302
  have cst_100 : F .f32 := Scalar.ofBits .f32 0x358637BD#32
  have v304 : FVec F S512x128 .f32 := broadcast S512x128 cst_100
  have v305 : FVec F S512x128 .f32 := addf v303 v304
  rsqrt v305

/-- A group's queries: two halves of four heads, normalized per head, scaled and rotated. -/
def qV (c0 : FVec F S512x128 .f32) (c1 : FVec F S512x128 .f32) (cq : Vec F S512x128 .f32) (sq : Vec F S512x128 .f32) (qa : Vec F S1x128 .f32) (qb : Vec F S1x128 .f32) : FVec F S512x256 .bf16 :=
  have v306 : FVec F S512x128 .f32 := rsV c0 c1
  have v307 : FVec F S512x128 .f32 := mulf c0 v306
  have v309 : FVec F S1x128 .f32 := shapeCast S1x128 qa shapeCasts_S1x128_S1x128
  have v310 : FVec F S512x128 .f32 := broadcastTo S512x128 v309 broadcasts_S1x128_S512x128
  have v311 : FVec F S512x128 .f32 := mulf v307 v310
  have v267 : FVec F S512x128 .f32 := shapeCast S512x128 cq shapeCasts_S512x128_S512x128
  have v317 : FVec F S512x128 .f32 := mulf v311 v267
  have v312 : FVec F S512x128 .f32 := mulf c1 v306
  have v314 : FVec F S1x128 .f32 := shapeCast S1x128 qb shapeCasts_S1x128_S1x128
  have v315 : FVec F S512x128 .f32 := broadcastTo S512x128 v314 broadcasts_S1x128_S512x128
  have v316 : FVec F S512x128 .f32 := mulf v312 v315
  have v269 : FVec F S512x128 .f32 := shapeCast S512x128 sq shapeCasts_S512x128_S512x128
  have v318 : FVec F S512x128 .f32 := mulf v316 v269
  have v319 : FVec F S512x128 .f32 := subf v317 v318
  have v320 : FVec F S512x128 .f32 := mulf v316 v267
  have v321 : FVec F S512x128 .f32 := mulf v311 v269
  have v322 : FVec F S512x128 .f32 := addf v320 v321
  have v323 : FVec F S512x256 .f32 := concatenate S512x256 1 [⟨S512x128, v319⟩, ⟨S512x128, v322⟩] concatenates_S512x128_S512x128_S512x256_d1
  truncf .bf16 v323 bitsLt_bf16_f32

/-- A query block's scores for the four heads of a group. -/
def scV (q : FVec F S128x256 .bf16) (kw : Vec F S1x256x256 .bf16) : FVec F S512x256 .f32 :=
  have v33 : IVec S128x256 32 := iota .tc S128x256 32 [1] iota_S128x256_d1_w32
  have v34 : BitVec 1 := Scalar.cmpi .eq 128#32 0#32
  have v35 : BitVec 32 := Scalar.select v34 1#32 128#32
  have v36 : IVec S128x256 32 := broadcast S128x256 v35
  have v54 : IVec S128x256 1 := k0_pay20 v33 v35 v36
  have cst_163 : F .bf16 := Scalar.ofBits .bf16 0x0000#16
  have v519 : FVec F S128x256 .bf16 := broadcast S128x256 cst_163
  have v520 : FVec F S128x256 .bf16 := select v54 q v519
  have v59 : IVec S128x256 1 := k0_pay21 v33 v35 v36
  have cst_164 : F .bf16 := Scalar.ofBits .bf16 0x0000#16
  have v521 : FVec F S128x256 .bf16 := broadcast S128x256 cst_164
  have v522 : FVec F S128x256 .bf16 := select v59 q v521
  have v64 : IVec S128x256 1 := k0_pay22 v33 v35 v36
  have cst_165 : F .bf16 := Scalar.ofBits .bf16 0x0000#16
  have v523 : FVec F S128x256 .bf16 := broadcast S128x256 cst_165
  have v524 : FVec F S128x256 .bf16 := select v64 q v523
  have v69 : IVec S128x256 1 := k0_pay23 v33 v35 v36
  have cst_166 : F .bf16 := Scalar.ofBits .bf16 0x0000#16
  have v525 : FVec F S128x256 .bf16 := broadcast S128x256 cst_166
  have v526 : FVec F S128x256 .bf16 := select v69 q v525
  have v527 : FVec F S512x256 .bf16 := concatenate S512x256 0 [⟨S128x256, v520⟩, ⟨S128x256, v522⟩, ⟨S128x256, v524⟩, ⟨S128x256, v526⟩] concatenates_S128x256_S128x256_S128x256_S128x256_S512x256_d0
  have v529 : FVec F S256x256 .bf16 := shapeCast S256x256 kw shapeCasts_S1x256x256_S256x256
  have cst_170 : FVec F S512x256 .f32 := constant S512x256 .f32 0x00000000#32
  matmul dot_S512x256_S256x256_S512x256_1_0_0_1_n_n none v527 v529 cst_170

/-- The scores of the keys before a sequence's first row are lowered to the floor. -/
def cutV (first : BitVec 1) (s : FVec F S128x128 .f32) : FVec F S128x128 .f32 :=
  have cst_187 : F .f32 := Named.named κ "neg_inf" 0xF149F2CA#32
  have cst_188 : F .f32 := Named.named κ "pos_inf" 0x7F7FFFFF#32
  have v559 : F .f32 := Scalar.select first cst_187 cst_188
  have v560 : FVec F S128x128 .f32 := broadcast S128x128 v559
  minimumf s v560

/-- The scores in the window: each lane holds one key, of the block before or of the own block. -/
def smV (sp : FVec F S128x128 .f32) (so : FVec F S128x128 .f32) : FVec F S128x128 .f32 :=
  have v80 : IVec S128x128 1 := k0_pay26
  select v80 sp so

/-- The rows' largest scores. -/
def mxV (s : FVec F S128x128 .f32) : FVec F S128x1 .f32 :=
  have v563 : FVec F S128 .f32 := multiReduction .maximumf [1] S128 s 0xFF800000#32 reduces_S128x128_S128 (.inl rfl) rfl
  shapeCast S128x1 v563 shapeCasts_S128_S128x1

/-- The rows' weights, spread over the 256 keys. -/
def prV (s : FVec F S128x128 .f32) (m : FVec F S128x1 .f32) : FVec F S128x256 .bf16 :=
  have v80 : IVec S128x128 1 := k0_pay26
  have v565 : FVec F S128x128 .f32 := broadcastTo S128x128 m broadcasts_S128x1_S128x128
  have v566 : FVec F S128x128 .f32 := subf s v565
  have v567 : FVec F S128x128 .f32 := exp2 v566
  have v568 : FVec F S128x128 .bf16 := truncf .bf16 v567 bitsLt_bf16_f32
  have cst_190 : F .bf16 := Scalar.ofBits .bf16 0x0000#16
  have v569 : FVec F S128x128 .bf16 := broadcast S128x128 cst_190
  have v570 : FVec F S128x128 .bf16 := select v80 v568 v569
  have v571 : FVec F S128x128 .bf16 := select v80 v569 v568
  concatenate S128x256 1 [⟨S128x128, v570⟩, ⟨S128x128, v571⟩] concatenates_S128x128_S128x128_S128x256_d1

/-- The weights of the four heads times the values and the ones. -/
def ovV (p0 : FVec F S128x256 .bf16) (p1 : FVec F S128x256 .bf16) (p2 : FVec F S128x256 .bf16) (p3 : FVec F S128x256 .bf16) (vw : Vec F S1x256x256 .bf16) : FVec F S512x256 .f32 :=
  have v621 : FVec F S512x256 .bf16 := concatenate S512x256 0 [⟨S128x256, p0⟩, ⟨S128x256, p1⟩, ⟨S128x256, p2⟩, ⟨S128x256, p3⟩] concatenates_S128x256_S128x256_S128x256_S128x256_S512x256_d0
  have v623 : FVec F S256x256 .bf16 := shapeCast S256x256 vw shapeCasts_S1x256x256_S256x256
  have cst_206 : FVec F S512x256 .f32 := constant S512x256 .f32 0x00000000#32
  matmul dot_S512x256_S256x256_S512x256_1_0_0_1_n_n none v621 v623 cst_206

/-- A pair of heads' attention. -/
def atV (o0 : FVec F S128x256 .f32) (o1 : FVec F S128x256 .f32) (s0 : F .f32) (s1 : F .f32) (m0 : FVec F S128x1 .f32) (m1 : FVec F S128x1 .f32) : FVec F S128x128 .f32 :=
  have v72 : IVec S128x128 1 := k0_pay24
  have v646 : FVec F S128x128 .f32 := extractStridedSlice S128x128 ![0, 0] o0 slices_S128x256_o0_0_S128x128
  have v647 : FVec F S128x128 .f32 := extractStridedSlice S128x128 ![0, 0] o1 slices_S128x256_o0_0_S128x128
  have v648 : FVec F S128x128 .f32 := select v72 v646 v647
  have cst_211 : F .f32 := Scalar.ofBits .f32 0x3F800000#32
  have v649 : FVec F S128x128 .f32 := broadcast S128x128 cst_211
  have v634 : FVec F S128x128 .f32 := extractStridedSlice S128x128 ![0, 128] o0 slices_S128x256_o0_128_S128x128
  have v635 : FVec F S128x128 .f32 := extractStridedSlice S128x128 ![0, 128] o1 slices_S128x256_o0_128_S128x128
  have v636 : FVec F S128x128 .f32 := select v72 v634 v635
  have v75 : IVec S1x128 1 := k0_pay25
  have cst_208 : F .f32 := Named.named κ "log2e" 0x3FB8AA3B#32
  have v626 : F .f32 := Scalar.mulf s0 cst_208
  have v629 : FVec F S1x128 .f32 := broadcast S1x128 v626
  have cst_210 : F .f32 := Named.named κ "log2e" 0x3FB8AA3B#32
  have v628 : F .f32 := Scalar.mulf s1 cst_210
  have v630 : FVec F S1x128 .f32 := broadcast S1x128 v628
  have v631 : FVec F S1x128 .f32 := select v75 v629 v630
  have v642 : FVec F S128x128 .f32 := broadcastTo S128x128 v631 broadcasts_S1x128_S128x128
  have v637 : FVec F S128x1 .f32 := shapeCast S128x1 m0 shapeCasts_S128x1_S128x1
  have v638 : FVec F S128x128 .f32 := broadcastTo S128x128 v637 broadcasts_S128x1_S128x128
  have v639 : FVec F S128x1 .f32 := shapeCast S128x1 m1 shapeCasts_S128x1_S128x1
  have v640 : FVec F S128x128 .f32 := broadcastTo S128x128 v639 broadcasts_S128x1_S128x128
  have v641 : FVec F S128x128 .f32 := select v72 v638 v640
  have v643 : FVec F S128x128 .f32 := subf v642 v641
  have v644 : FVec F S128x128 .f32 := exp2 v643
  have v645 : FVec F S128x128 .f32 := addf v636 v644
  have v650 : FVec F S128x128 .f32 := divf v649 v645
  mulf v648 v650

/-- A chunk's gates. -/
def gtV (z : FVec F S512x512 .f32) : FVec F S512x512 .f32 :=
  have v830 : FVec F S512x512 .f32 := logistic z
  mulf z v830

/-- A chunk's output on 512 columns. -/
def outV (x : Vec F S1x512x512 .f32) (y : FVec F S512x1024 .bf16) (w : Vec F S1024x512 .bf16) : FVec F S1x512x512 .f32 :=
  have v3354 : FVec F S512x512 .f32 := shapeCast S512x512 x shapeCasts_S1x512x512_S512x512
  have v3356 : FVec F S1024x512 .bf16 := shapeCast S1024x512 w shapeCasts_S1024x512_S1024x512
  have cst_908 : FVec F S512x512 .f32 := constant S512x512 .f32 0x00000000#32
  have v3357 : FVec F S512x512 .f32 := matmul dot_S512x1024_S1024x512_S512x512_1_0_0_1_n_n none y v3356 cst_908
  have v3358 : FVec F S512x512 .f32 := addf v3354 v3357
  shapeCast S1x512x512 v3358 shapeCasts_S512x512_S1x512x512

/-- 256 columns of the queries' weights, in the order the packed queries take them. -/
def wqV (w : Vec F S1024x256 .bf16) (p : Vec F S256x256 .bf16) : FVec F S1024x256 .bf16 :=
  have v4977 : FVec F S1024x256 .bf16 := shapeCast S1024x256 w shapeCasts_S1024x256_S1024x256
  have v4979 : FVec F S256x256 .bf16 := shapeCast S256x256 p shapeCasts_S256x256_S256x256
  have cst_1320 : FVec F S1024x256 .f32 := constant S1024x256 .f32 0x00000000#32
  have v4980 : FVec F S1024x256 .f32 := matmul dot_S1024x256_S256x256_S1024x256_1_0_0_1_n_n none v4977 v4979 cst_1320
  have v4981 : FVec F S1024x256 .bf16 := truncf .bf16 v4980 bitsLt_bf16_f32
  shapeCast S1024x256 v4981 shapeCasts_S1024x256_S1024x256

/-- Four query blocks of a group's queries. -/
def rowsV (q : FVec F S512x256 .bf16) : Fin 4 → FVec F S128x256 .bf16
  | 0 => extractStridedSlice S128x256 ![0, 0] q slices_S512x256_o0_0_S128x256
  | 1 => extractStridedSlice S128x256 ![128, 0] q slices_S512x256_o128_0_S128x256
  | 2 => extractStridedSlice S128x256 ![256, 0] q slices_S512x256_o256_0_S128x256
  | 3 => extractStridedSlice S128x256 ![384, 0] q slices_S512x256_o384_0_S128x256

/-- The scores of one of the four heads with the keys of the block before. -/
def prevV (s : FVec F S512x256 .f32) : Fin 4 → FVec F S128x128 .f32
  | 0 => extractStridedSlice S128x128 ![0, 0] s slices_S512x256_o0_0_S128x128
  | 1 => extractStridedSlice S128x128 ![128, 0] s slices_S512x256_o128_0_S128x128
  | 2 => extractStridedSlice S128x128 ![256, 0] s slices_S512x256_o256_0_S128x128
  | 3 => extractStridedSlice S128x128 ![384, 0] s slices_S512x256_o384_0_S128x128

/-- The scores of one of the four heads with the keys of the own block. -/
def ownV (s : FVec F S512x256 .f32) : Fin 4 → FVec F S128x128 .f32
  | 0 => extractStridedSlice S128x128 ![0, 128] s slices_S512x256_o0_128_S128x128
  | 1 => extractStridedSlice S128x128 ![128, 128] s slices_S512x256_o128_128_S128x128
  | 2 => extractStridedSlice S128x128 ![256, 128] s slices_S512x256_o256_128_S128x128
  | 3 => extractStridedSlice S128x128 ![384, 128] s slices_S512x256_o384_128_S128x128

/-- The four groups' queries of a chunk. -/
def queV (h : FVec F S512x1024 .bf16) (w0 w1 : Vec F S1024x512 .bf16) (cq sq : Vec F S512x128 .f32) (qa qb : Vec F S1x128 .f32) :
    Fin 4 → FVec F S512x256 .bf16
  | 0 => qV (extractStridedSlice S512x128 ![0, 0] (mmV h w0) slices_S512x512_o0_0_S512x128) (extractStridedSlice S512x128 ![0, 128] (mmV h w0) slices_S512x512_o0_128_S512x128) cq sq qa qb
  | 1 => qV (extractStridedSlice S512x128 ![0, 256] (mmV h w0) slices_S512x512_o0_256_S512x128) (extractStridedSlice S512x128 ![0, 384] (mmV h w0) slices_S512x512_o0_384_S512x128) cq sq qa qb
  | 2 => qV (extractStridedSlice S512x128 ![0, 0] (mmV h w1) slices_S512x512_o0_0_S512x128) (extractStridedSlice S512x128 ![0, 128] (mmV h w1) slices_S512x512_o0_128_S512x128) cq sq qa qb
  | 3 => qV (extractStridedSlice S512x128 ![0, 256] (mmV h w1) slices_S512x512_o0_256_S512x128) (extractStridedSlice S512x128 ![0, 384] (mmV h w1) slices_S512x512_o0_384_S512x128) cq sq qa qb

/-- The attention of a query block in a group: the heads' window scores are `sm`. -/
def atSm (sm : Fin 4 → FVec F S128x128 .f32) (vw : Vec F S1x256x256 .bf16) (sk : Fin 4 → F .f32) : Fin 2 → FVec F S128x128 .f32 :=
  let o := ovV (prV (sm 0) (mxV (sm 0))) (prV (sm 1) (mxV (sm 1))) (prV (sm 2) (mxV (sm 2))) (prV (sm 3) (mxV (sm 3))) vw
  fun | 0 => atV (extractStridedSlice S128x256 ![0, 0] o slices_S512x256_o0_0_S128x256) (extractStridedSlice S128x256 ![128, 0] o slices_S512x256_o128_0_S128x256) (sk 0) (sk 1) (mxV (sm 0)) (mxV (sm 1))
      | 1 => atV (extractStridedSlice S128x256 ![256, 0] o slices_S512x256_o256_0_S128x256) (extractStridedSlice S128x256 ![384, 0] o slices_S512x256_o384_0_S128x256) (sk 2) (sk 3) (mxV (sm 2)) (mxV (sm 3))

/-- The attention of a query block in a group, from its queries and its windows of keys and values. -/
def atTile (q : FVec F S128x256 .bf16) (kw vw : Vec F S1x256x256 .bf16) (cut : FVec F S128x128 .f32 → FVec F S128x128 .f32) (sk : Fin 4 → F .f32) :
    Fin 2 → FVec F S128x128 .f32 :=
  atSm (fun hh => smV (cut (prevV (scV q kw) hh)) (ownV (scV q kw) hh)) vw sk

/-- A query block's attention over all heads. -/
def atRow (t : Fin 4 → Fin 2 → FVec F S128x128 .f32) : FVec F S128x1024 .f32 :=
  concatenate S128x1024 1 [⟨S128x128, t 0 0⟩, ⟨S128x128, t 0 1⟩, ⟨S128x128, t 1 0⟩, ⟨S128x128, t 1 1⟩, ⟨S128x128, t 2 0⟩, ⟨S128x128, t 2 1⟩, ⟨S128x128, t 3 0⟩, ⟨S128x128, t 3 1⟩] concatenates_S128x128_S128x128_S128x128_S128x128_S128x128_S128x128_S128x128_S128x128_S128x1024_d1

/-- A chunk's gated attention. -/
def gaV (t : Fin 4 → Fin 4 → Fin 2 → FVec F S128x128 .f32) (z0 z1 : FVec F S512x512 .f32) : FVec F S512x1024 .bf16 :=
  truncf .bf16 (mulf (concatenate S512x1024 0 [⟨S128x1024, atRow (t 0)⟩, ⟨S128x1024, atRow (t 1)⟩, ⟨S128x1024, atRow (t 2)⟩, ⟨S128x1024, atRow (t 3)⟩] concatenates_S128x1024_S128x1024_S128x1024_S128x1024_S512x1024_d0)
    (concatenate S512x1024 1 [⟨S512x512, gtV z0⟩, ⟨S512x512, gtV z1⟩] concatenates_S512x512_S512x512_S512x1024_d1)) bitsLt_bf16_f32

/-- A chunk's gated attention, from the blocks it loads: `cut` is what its first query block does to the scores of the block before. -/
def chunkV (x : Vec F S1x512x1024 .f32) (g : Vec F S1x1024 .f32) (wq0 wq1 wz0 wz1 : Vec F S1024x512 .bf16) (cq sq : Vec F S512x128 .f32) (qa qb : Vec F S1x128 .f32)
    (kw vw : Fin 4 → Fin 4 → Vec F S1x256x256 .bf16) (cut : Fin 4 → FVec F S128x128 .f32 → FVec F S128x128 .f32) (sk : Fin 4 → Fin 4 → F .f32) : FVec F S512x1024 .bf16 :=
  gaV (fun b n => atTile (rowsV (queV (hV x g) wq0 wq1 cq sq qa qb n) b) (kw b n) (vw b n) (cut b) (sk n)) (mmV (hV x g) wz0) (mmV (hV x g) wz1)

end Cert.YocoB

end
-- ==== Proof.B.Stores.lean ====
/-
  The stores of a point of layer B as lists, in terms of the blocks the point loads: the keys, the values, the permuted
  query weights and the output.
-/
module

public import proofs.«01_k».proof.Proof.B.Body

@[expose] public section

set_option maxRecDepth 16384

noncomputable section

namespace Cert.YocoB

open Idealize.ShloMosaic Cert.KernelBIdeal Cert.KernelBIdeal.Gen

variable {F : FTy → Type} [FloatOps F] [Named F]

theorem one_pos_S1 : 0 < S1.numel := by rw [numel1_S1]; decide

/-- One of two. -/
def pair {α : Type} (a0 a1 : α) : Fin 2 → α
  | 0 => a0
  | 1 => a1

/-- One of four. -/
def four {α : Type} (a0 a1 a2 a3 : α) : Fin 4 → α
  | 0 => a0
  | 1 => a1
  | 2 => a2
  | 3 => a3

/-- The keys a chunk stores for each of the four heads. -/
def ktG (kv : FVec F S512x512 .f32) (kg : Vec F S64x1 .f32) (co si : Vec F S1x8x512 .f32) : Fin 4 → FVec F S1x256x512 .bf16
  | 0 => ktV (khV (extractStridedSlice S64x512 ![0, 0] (transpose S256x512 [1, 0] (extractStridedSlice S512x256 ![0, 0] kv slices_S512x512_o0_0_S512x256) transposes_S512x256_p1_0_S256x512) slices_S256x512_o0_0_S64x512) kg) co si
  | 1 => ktV (khV (extractStridedSlice S64x512 ![64, 0] (transpose S256x512 [1, 0] (extractStridedSlice S512x256 ![0, 0] kv slices_S512x512_o0_0_S512x256) transposes_S512x256_p1_0_S256x512) slices_S256x512_o64_0_S64x512) kg) co si
  | 2 => ktV (khV (extractStridedSlice S64x512 ![128, 0] (transpose S256x512 [1, 0] (extractStridedSlice S512x256 ![0, 0] kv slices_S512x512_o0_0_S512x256) transposes_S512x256_p1_0_S256x512) slices_S256x512_o128_0_S64x512) kg) co si
  | 3 => ktV (khV (extractStridedSlice S64x512 ![192, 0] (transpose S256x512 [1, 0] (extractStridedSlice S512x256 ![0, 0] kv slices_S512x512_o0_0_S512x256) transposes_S512x256_p1_0_S256x512) slices_S256x512_o192_0_S64x512) kg) co si

/-- The values a chunk stores for each of the four heads. -/
def vG (kv : FVec F S512x512 .f32) : Fin 4 → FVec F S1x512x128 .bf16
  | 0 => veV (extractStridedSlice S512x128 ![0, 256] kv slices_S512x512_o0_256_S512x128)
  | 1 => voV (extractStridedSlice S512x128 ![0, 256] kv slices_S512x512_o0_256_S512x128)
  | 2 => veV (extractStridedSlice S512x128 ![0, 384] kv slices_S512x512_o0_384_S512x128)
  | 3 => voV (extractStridedSlice S512x128 ![0, 384] kv slices_S512x512_o0_384_S512x128)

/-- The first chunk's keys over the stores `L`. -/
def LK0 (k : Fin 4 → FVec F S1x256x512 .bf16) (L : List (View.Piece (Elt F) S4x256x1152 .bf16)) : List (View.Piece (Elt F) S4x256x1152 .bf16) :=
  ⟨Rect.unit (s := S4x256x1152) ![3, 0, 128] S1x256x512.size inb_S4x256x1152_S1x256x512_3_0_128, k 3⟩ :: ⟨Rect.unit (s := S4x256x1152) ![2, 0, 128] S1x256x512.size inb_S4x256x1152_S1x256x512_2_0_128, k 2⟩ :: ⟨Rect.unit (s := S4x256x1152) ![1, 0, 128] S1x256x512.size inb_S4x256x1152_S1x256x512_1_0_128, k 1⟩ :: ⟨Rect.unit (s := S4x256x1152) ![0, 0, 128] S1x256x512.size inb_S4x256x1152_S1x256x512_0_0_128, k 0⟩ :: L

/-- The second chunk's keys over the stores `L`. -/
def LK1 (k : Fin 4 → FVec F S1x256x512 .bf16) (L : List (View.Piece (Elt F) S4x256x1152 .bf16)) : List (View.Piece (Elt F) S4x256x1152 .bf16) :=
  ⟨Rect.unit (s := S4x256x1152) ![3, 0, 640] S1x256x512.size inb_S4x256x1152_S1x256x512_3_0_640, k 3⟩ :: ⟨Rect.unit (s := S4x256x1152) ![2, 0, 640] S1x256x512.size inb_S4x256x1152_S1x256x512_2_0_640, k 2⟩ :: ⟨Rect.unit (s := S4x256x1152) ![1, 0, 640] S1x256x512.size inb_S4x256x1152_S1x256x512_1_0_640, k 1⟩ :: ⟨Rect.unit (s := S4x256x1152) ![0, 0, 640] S1x256x512.size inb_S4x256x1152_S1x256x512_0_0_640, k 0⟩ :: L

/-- The first chunk's values over the stores `L`. -/
def LV0 (v : Fin 4 → FVec F S1x512x128 .bf16) (L : List (View.Piece (Elt F) S4x1152x256 .bf16)) : List (View.Piece (Elt F) S4x1152x256 .bf16) :=
  ⟨Rect.unit (s := S4x1152x256) ![3, 128, 0] S1x512x128.size inb_S4x1152x256_S1x512x128_3_128_0, v 3⟩ :: ⟨Rect.unit (s := S4x1152x256) ![2, 128, 0] S1x512x128.size inb_S4x1152x256_S1x512x128_2_128_0, v 2⟩ :: ⟨Rect.unit (s := S4x1152x256) ![1, 128, 0] S1x512x128.size inb_S4x1152x256_S1x512x128_1_128_0, v 1⟩ :: ⟨Rect.unit (s := S4x1152x256) ![0, 128, 0] S1x512x128.size inb_S4x1152x256_S1x512x128_0_128_0, v 0⟩ :: L

/-- The second chunk's values over the stores `L`. -/
def LV1 (v : Fin 4 → FVec F S1x512x128 .bf16) (L : List (View.Piece (Elt F) S4x1152x256 .bf16)) : List (View.Piece (Elt F) S4x1152x256 .bf16) :=
  ⟨Rect.unit (s := S4x1152x256) ![3, 640, 0] S1x512x128.size inb_S4x1152x256_S1x512x128_3_640_0, v 3⟩ :: ⟨Rect.unit (s := S4x1152x256) ![2, 640, 0] S1x512x128.size inb_S4x1152x256_S1x512x128_2_640_0, v 2⟩ :: ⟨Rect.unit (s := S4x1152x256) ![1, 640, 0] S1x512x128.size inb_S4x1152x256_S1x512x128_1_640_0, v 1⟩ :: ⟨Rect.unit (s := S4x1152x256) ![0, 640, 0] S1x512x128.size inb_S4x1152x256_S1x512x128_0_640_0, v 0⟩ :: L

/-- The keys of the block before the tile's first row. -/
def baseK (k : FVec F S4x256x128 .bf16) : List (View.Piece (Elt F) S4x256x1152 .bf16) :=
  [⟨Rect.unit (s := S4x256x1152) ![0, 0, 0] S4x256x128.size inb_S4x256x1152_S4x256x128_0_0_0, k⟩]

/-- The values of the block before the tile's first row, over the stores `L`. -/
def baseV (v : FVec F S4x128x128 .bf16) (L : List (View.Piece (Elt F) S4x1152x256 .bf16)) : List (View.Piece (Elt F) S4x1152x256 .bf16) :=
  ⟨Rect.unit (s := S4x1152x256) ![0, 0, 0] S4x128x128.size inb_S4x1152x256_S4x128x128_0_0_0, v⟩ :: L

/-- The ones beside the values. -/
def onesV : List (View.Piece (Elt F) S4x1152x256 .bf16) :=
  [⟨Rect.unit (s := S4x1152x256) ![0, 0, 128] S4x1152x128.size inb_S4x1152x256_S4x1152x128_0_0_128, k0_pay8⟩]

/-- The permuted query weights, 256 columns for each group. -/
def LQ (w : Fin 4 → Vec F S1024x256 .bf16) (p : Vec F S256x256 .bf16) : List (View.Piece (Elt F) S1024x1024 .bf16) :=
  [⟨Rect.unit (s := S1024x1024) ![0, 768] S1024x256.size inb_S1024x1024_S1024x256_0_768, wqV (w 3) p⟩,
   ⟨Rect.unit (s := S1024x1024) ![0, 512] S1024x256.size inb_S1024x1024_S1024x256_0_512, wqV (w 2) p⟩,
   ⟨Rect.unit (s := S1024x1024) ![0, 256] S1024x256.size inb_S1024x1024_S1024x256_0_256, wqV (w 1) p⟩,
   ⟨Rect.unit (s := S1024x1024) ![0, 0] S1024x256.size inb_S1024x1024_S1024x256_0_0, wqV (w 0) p⟩]

/-- The output's stores: two chunks of rows, each in two halves of columns. -/
def LOut (y0 y1 : FVec F S512x1024 .bf16) (o00 o01 o10 o11 : Vec F S1x512x512 .f32) (w0 w1 : Vec F S1024x512 .bf16) : List (View.Piece (Elt F) S1x1024x1024 .f32) :=
  [⟨Rect.unit (s := S1x1024x1024) ![0, 512, 512] S1x512x512.size inb_S1x1024x1024_S1x512x512_0_512_512, outV o11 y1 w1⟩,
   ⟨Rect.unit (s := S1x1024x1024) ![0, 512, 0] S1x512x512.size inb_S1x1024x1024_S1x512x512_0_512_0, outV o10 y1 w0⟩,
   ⟨Rect.unit (s := S1x1024x1024) ![0, 0, 512] S1x512x512.size inb_S1x1024x1024_S1x512x512_0_0_512, outV o01 y0 w1⟩,
   ⟨Rect.unit (s := S1x1024x1024) ![0, 0, 0] S1x512x512.size inb_S1x1024x1024_S1x512x512_0_0_0, outV o00 y0 w0⟩]

end Cert.YocoB

end
-- ==== Proof.B.Args.lean ====
/-
  The blocks a grid point of layer B works on, and the loads every grid point makes of them.
-/
module

public import Idealize.ShloMosaic.Lib.Pipeline.Frame
public import proofs.«01_k».proof.Proof.B.Stores

@[expose] public section

set_option maxRecDepth 16384

noncomputable section

namespace Cert.YocoB

open Idealize.ShloMosaic Cert.KernelBIdeal Cert.KernelBIdeal.Gen

/-- The blocks of a grid point and what is in them. -/
structure Args (F : FTy → Type) where
  c : Dev nD
  i : grid0.Coords
  m2 : Memref sig .tc .vmem S1x1024x1024 .f32
  h2 : m2.IsWhole
  m3 : Memref sig .tc .vmem S1x1024 .f32
  h3 : m3.IsWhole
  m4 : Memref sig .tc .vmem S1x1024 .f32
  h4 : m4.IsWhole
  m5 : Memref sig .tc .vmem S1024x512 .bf16
  h5 : m5.IsWhole
  m6 : Memref sig .tc .vmem S64x1 .f32
  h6 : m6.IsWhole
  m7 : Memref sig .tc .vmem S2x8x512 .f32
  h7 : m7.IsWhole
  m8 : Memref sig .tc .vmem S2x8x512 .f32
  h8 : m8.IsWhole
  m9 : Memref sig .tc .vmem S1024x2048 .bf16
  h9 : m9.IsWhole
  m10 : Memref sig .tc .vmem S256x256 .bf16
  h10 : m10.IsWhole
  m11 : Memref sig .tc .vmem S1x128 .f32
  h11 : m11.IsWhole
  m12 : Memref sig .tc .vmem S1x128 .f32
  h12 : m12.IsWhole
  m13 : Memref sig .tc .vmem S1024x128 .f32
  h13 : m13.IsWhole
  m14 : Memref sig .tc .vmem S1024x128 .f32
  h14 : m14.IsWhole
  m15 : Memref sig .tc .smem S16 .f32
  h15 : m15.IsWhole
  m16 : Memref sig .tc .vmem S1024x1024 .bf16
  h16 : m16.IsWhole
  m17 : Memref sig .tc .vmem S1x1024x1024 .f32
  h17 : m17.IsWhole
  m18 : Memref sig .tc .vmem S4x256x1152 .bf16
  h18 : m18.IsWhole
  m19 : Memref sig .tc .vmem S4x1152x256 .bf16
  h19 : m19.IsWhole
  m20 : Memref sig .tc .vmem S1024x1024 .bf16
  h20 : m20.IsWhole
  x0 : Vec F S1x1024x1024 .f32
  x1 : Vec F S1x1024 .f32
  x2 : Vec F S1x1024 .f32
  x3 : Vec F S1024x512 .bf16
  x4 : Vec F S64x1 .f32
  x5 : Vec F S2x8x512 .f32
  x6 : Vec F S2x8x512 .f32
  x7 : Vec F S1024x2048 .bf16
  x8 : Vec F S256x256 .bf16
  x9 : Vec F S1x128 .f32
  x10 : Vec F S1x128 .f32
  x11 : Vec F S1024x128 .f32
  x12 : Vec F S1024x128 .f32
  x13 : Vec F S16 .f32
  x14 : Vec F S1024x1024 .bf16
  s0 : Vec F S4x256x1152 .bf16
  s1 : Vec F S4x1152x256 .bf16
  s2 : Vec F S1024x1024 .bf16

variable {F : FTy → Type} [FloatOps F] [Named F] (r : Args F)

/-- The sinks. -/
def Args.sk : Fin 4 → Fin 4 → F .f32 :=
  four (four (View.readAt (Elt F) r.m15.view (Rect.unit (s := S16) ![0] S1.size inb_S16_S1_0).toLoadRect (Memref.IsWhole.unread r.h15 r.x13) (Shape.Idx.first one_pos_S1)) (View.readAt (Elt F) r.m15.view (Rect.unit (s := S16) ![1] S1.size inb_S16_S1_1).toLoadRect (Memref.IsWhole.unread r.h15 r.x13) (Shape.Idx.first one_pos_S1)) (View.readAt (Elt F) r.m15.view (Rect.unit (s := S16) ![2] S1.size inb_S16_S1_2).toLoadRect (Memref.IsWhole.unread r.h15 r.x13) (Shape.Idx.first one_pos_S1)) (View.readAt (Elt F) r.m15.view (Rect.unit (s := S16) ![3] S1.size inb_S16_S1_3).toLoadRect (Memref.IsWhole.unread r.h15 r.x13) (Shape.Idx.first one_pos_S1)))
    (four (View.readAt (Elt F) r.m15.view (Rect.unit (s := S16) ![4] S1.size inb_S16_S1_4).toLoadRect (Memref.IsWhole.unread r.h15 r.x13) (Shape.Idx.first one_pos_S1)) (View.readAt (Elt F) r.m15.view (Rect.unit (s := S16) ![5] S1.size inb_S16_S1_5).toLoadRect (Memref.IsWhole.unread r.h15 r.x13) (Shape.Idx.first one_pos_S1)) (View.readAt (Elt F) r.m15.view (Rect.unit (s := S16) ![6] S1.size inb_S16_S1_6).toLoadRect (Memref.IsWhole.unread r.h15 r.x13) (Shape.Idx.first one_pos_S1)) (View.readAt (Elt F) r.m15.view (Rect.unit (s := S16) ![7] S1.size inb_S16_S1_7).toLoadRect (Memref.IsWhole.unread r.h15 r.x13) (Shape.Idx.first one_pos_S1)))
    (four (View.readAt (Elt F) r.m15.view (Rect.unit (s := S16) ![8] S1.size inb_S16_S1_8).toLoadRect (Memref.IsWhole.unread r.h15 r.x13) (Shape.Idx.first one_pos_S1)) (View.readAt (Elt F) r.m15.view (Rect.unit (s := S16) ![9] S1.size inb_S16_S1_9).toLoadRect (Memref.IsWhole.unread r.h15 r.x13) (Shape.Idx.first one_pos_S1)) (View.readAt (Elt F) r.m15.view (Rect.unit (s := S16) ![10] S1.size inb_S16_S1_10).toLoadRect (Memref.IsWhole.unread r.h15 r.x13) (Shape.Idx.first one_pos_S1)) (View.readAt (Elt F) r.m15.view (Rect.unit (s := S16) ![11] S1.size inb_S16_S1_11).toLoadRect (Memref.IsWhole.unread r.h15 r.x13) (Shape.Idx.first one_pos_S1)))
    (four (View.readAt (Elt F) r.m15.view (Rect.unit (s := S16) ![12] S1.size inb_S16_S1_12).toLoadRect (Memref.IsWhole.unread r.h15 r.x13) (Shape.Idx.first one_pos_S1)) (View.readAt (Elt F) r.m15.view (Rect.unit (s := S16) ![13] S1.size inb_S16_S1_13).toLoadRect (Memref.IsWhole.unread r.h15 r.x13) (Shape.Idx.first one_pos_S1)) (View.readAt (Elt F) r.m15.view (Rect.unit (s := S16) ![14] S1.size inb_S16_S1_14).toLoadRect (Memref.IsWhole.unread r.h15 r.x13) (Shape.Idx.first one_pos_S1)) (View.readAt (Elt F) r.m15.view (Rect.unit (s := S16) ![15] S1.size inb_S16_S1_15).toLoadRect (Memref.IsWhole.unread r.h15 r.x13) (Shape.Idx.first one_pos_S1)))

/-! What a grid point loads of each of its two chunks. -/
def Args.xc0 : Vec F S1x512x1024 .f32 := (View.readAt (Elt F) r.m2.view (Rect.unit (s := S1x1024x1024) ![0, 0, 0] S1x512x1024.size inb_S1x1024x1024_S1x512x1024_0_0_0).toLoadRect (Memref.IsWhole.unread r.h2 r.x0))
def Args.co0 : Vec F S1x8x512 .f32 := (View.readAt (Elt F) r.m7.view (Rect.unit (s := S2x8x512) ![0, 0, 0] S1x8x512.size inb_S2x8x512_S1x8x512_0_0_0).toLoadRect (Memref.IsWhole.unread r.h7 r.x5))
def Args.si0 : Vec F S1x8x512 .f32 := (View.readAt (Elt F) r.m8.view (Rect.unit (s := S2x8x512) ![0, 0, 0] S1x8x512.size inb_S2x8x512_S1x8x512_0_0_0).toLoadRect (Memref.IsWhole.unread r.h8 r.x6))
def Args.cq0 : Vec F S512x128 .f32 := (View.readAt (Elt F) r.m13.view (Rect.unit (s := S1024x128) ![0, 0] S512x128.size inb_S1024x128_S512x128_0_0).toLoadRect (Memref.IsWhole.unread r.h13 r.x11))
def Args.sq0 : Vec F S512x128 .f32 := (View.readAt (Elt F) r.m14.view (Rect.unit (s := S1024x128) ![0, 0] S512x128.size inb_S1024x128_S512x128_0_0).toLoadRect (Memref.IsWhole.unread r.h14 r.x12))
def Args.xo00 : Vec F S1x512x512 .f32 := (View.readAt (Elt F) r.m2.view (Rect.unit (s := S1x1024x1024) ![0, 0, 0] S1x512x512.size inb_S1x1024x1024_S1x512x512_0_0_0).toLoadRect (Memref.IsWhole.unread r.h2 r.x0))
def Args.xo01 : Vec F S1x512x512 .f32 := (View.readAt (Elt F) r.m2.view (Rect.unit (s := S1x1024x1024) ![0, 0, 512] S1x512x512.size inb_S1x1024x1024_S1x512x512_0_0_512).toLoadRect (Memref.IsWhole.unread r.h2 r.x0))
def Args.xc1 : Vec F S1x512x1024 .f32 := (View.readAt (Elt F) r.m2.view (Rect.unit (s := S1x1024x1024) ![0, 512, 0] S1x512x1024.size inb_S1x1024x1024_S1x512x1024_0_512_0).toLoadRect (Memref.IsWhole.unread r.h2 r.x0))
def Args.co1 : Vec F S1x8x512 .f32 := (View.readAt (Elt F) r.m7.view (Rect.unit (s := S2x8x512) ![1, 0, 0] S1x8x512.size inb_S2x8x512_S1x8x512_1_0_0).toLoadRect (Memref.IsWhole.unread r.h7 r.x5))
def Args.si1 : Vec F S1x8x512 .f32 := (View.readAt (Elt F) r.m8.view (Rect.unit (s := S2x8x512) ![1, 0, 0] S1x8x512.size inb_S2x8x512_S1x8x512_1_0_0).toLoadRect (Memref.IsWhole.unread r.h8 r.x6))
def Args.cq1 : Vec F S512x128 .f32 := (View.readAt (Elt F) r.m13.view (Rect.unit (s := S1024x128) ![512, 0] S512x128.size inb_S1024x128_S512x128_512_0).toLoadRect (Memref.IsWhole.unread r.h13 r.x11))
def Args.sq1 : Vec F S512x128 .f32 := (View.readAt (Elt F) r.m14.view (Rect.unit (s := S1024x128) ![512, 0] S512x128.size inb_S1024x128_S512x128_512_0).toLoadRect (Memref.IsWhole.unread r.h14 r.x12))
def Args.xo10 : Vec F S1x512x512 .f32 := (View.readAt (Elt F) r.m2.view (Rect.unit (s := S1x1024x1024) ![0, 512, 0] S1x512x512.size inb_S1x1024x1024_S1x512x512_0_512_0).toLoadRect (Memref.IsWhole.unread r.h2 r.x0))
def Args.xo11 : Vec F S1x512x512 .f32 := (View.readAt (Elt F) r.m2.view (Rect.unit (s := S1x1024x1024) ![0, 512, 512] S1x512x512.size inb_S1x1024x1024_S1x512x512_0_512_512).toLoadRect (Memref.IsWhole.unread r.h2 r.x0))
def Args.wo0 : Vec F S1024x512 .bf16 := (View.readAt (Elt F) r.m16.view (Rect.unit (s := S1024x1024) ![0, 0] S1024x512.size inb_S1024x1024_S1024x512_0_0).toLoadRect (Memref.IsWhole.unread r.h16 r.x14))
def Args.wo1 : Vec F S1024x512 .bf16 := (View.readAt (Elt F) r.m16.view (Rect.unit (s := S1024x1024) ![0, 512] S1024x512.size inb_S1024x1024_S1024x512_0_512).toLoadRect (Memref.IsWhole.unread r.h16 r.x14))
def Args.wz0 : Vec F S1024x512 .bf16 := shapeCast S1024x512 (View.readAt (Elt F) r.m9.view (Rect.unit (s := S1024x2048) ![0, 1024] S1024x512.size inb_S1024x2048_S1024x512_0_1024).toLoadRect (Memref.IsWhole.unread r.h9 r.x7)) shapeCasts_S1024x512_S1024x512
def Args.wz1 : Vec F S1024x512 .bf16 := shapeCast S1024x512 (View.readAt (Elt F) r.m9.view (Rect.unit (s := S1024x2048) ![0, 1536] S1024x512.size inb_S1024x2048_S1024x512_0_1536).toLoadRect (Memref.IsWhole.unread r.h9 r.x7)) shapeCasts_S1024x512_S1024x512
def Args.ws0 : Vec F S1024x512 .bf16 := (View.readAt (Elt F) r.m20.view (Rect.unit (s := S1024x1024) ![0, 0] S1024x512.size inb_S1024x1024_S1024x512_0_0).toLoadRect (Memref.IsWhole.unread r.h20 r.s2))
def Args.ws1 : Vec F S1024x512 .bf16 := (View.readAt (Elt F) r.m20.view (Rect.unit (s := S1024x1024) ![0, 512] S1024x512.size inb_S1024x1024_S1024x512_0_512).toLoadRect (Memref.IsWhole.unread r.h20 r.s2))
def Args.wi0 : Vec F S1024x256 .bf16 := (View.readAt (Elt F) r.m9.view (Rect.unit (s := S1024x2048) ![0, 0] S1024x256.size inb_S1024x2048_S1024x256_0_0).toLoadRect (Memref.IsWhole.unread r.h9 r.x7))
def Args.wi1 : Vec F S1024x256 .bf16 := (View.readAt (Elt F) r.m9.view (Rect.unit (s := S1024x2048) ![0, 256] S1024x256.size inb_S1024x2048_S1024x256_0_256).toLoadRect (Memref.IsWhole.unread r.h9 r.x7))
def Args.wi2 : Vec F S1024x256 .bf16 := (View.readAt (Elt F) r.m9.view (Rect.unit (s := S1024x2048) ![0, 512] S1024x256.size inb_S1024x2048_S1024x256_0_512).toLoadRect (Memref.IsWhole.unread r.h9 r.x7))
def Args.wi3 : Vec F S1024x256 .bf16 := (View.readAt (Elt F) r.m9.view (Rect.unit (s := S1024x2048) ![0, 768] S1024x256.size inb_S1024x2048_S1024x256_0_768).toLoadRect (Memref.IsWhole.unread r.h9 r.x7))
def Args.pm : Vec F S256x256 .bf16 := (View.readAt (Elt F) r.m10.view (Rect.unit (s := S256x256) ![0, 0] S256x256.size inb_S256x256_S256x256_0_0).toLoadRect (Memref.IsWhole.unread r.h10 r.x8))
def Args.lk : Vec F S1x1024 .f32 := (View.readAt (Elt F) r.m3.view (Rect.unit (s := S1x1024) ![0, 0] S1x1024.size inb_S1x1024_S1x1024_0_0).toLoadRect (Memref.IsWhole.unread r.h3 r.x1))
def Args.lb : Vec F S1x1024 .f32 := (View.readAt (Elt F) r.m4.view (Rect.unit (s := S1x1024) ![0, 0] S1x1024.size inb_S1x1024_S1x1024_0_0).toLoadRect (Memref.IsWhole.unread r.h4 r.x2))
def Args.wk : Vec F S1024x512 .bf16 := (View.readAt (Elt F) r.m5.view (Rect.unit (s := S1024x512) ![0, 0] S1024x512.size inb_S1024x512_S1024x512_0_0).toLoadRect (Memref.IsWhole.unread r.h5 r.x3))
def Args.kg : Vec F S64x1 .f32 := (View.readAt (Elt F) r.m6.view (Rect.unit (s := S64x1) ![0, 0] S64x1.size inb_S64x1_S64x1_0_0).toLoadRect (Memref.IsWhole.unread r.h6 r.x4))
def Args.qa : Vec F S1x128 .f32 := (View.readAt (Elt F) r.m11.view (Rect.unit (s := S1x128) ![0, 0] S1x128.size inb_S1x128_S1x128_0_0).toLoadRect (Memref.IsWhole.unread r.h11 r.x9))
def Args.qb : Vec F S1x128 .f32 := (View.readAt (Elt F) r.m12.view (Rect.unit (s := S1x128) ![0, 0] S1x128.size inb_S1x128_S1x128_0_0).toLoadRect (Memref.IsWhole.unread r.h12 r.x10))

/-- The keys and values of a chunk. -/
def Args.kv0 : FVec F S512x512 .f32 := kvV (hV r.xc0 r.lk) r.wk
def Args.kv1 : FVec F S512x512 .f32 := kvV (hV r.xc1 r.lk) r.wk

/-- The four columns of the queries' weights in packed order. -/
def Args.lq := LQ (four r.wi0 r.wi1 r.wi2 r.wi3) r.pm

/-- The lists of pieces the key scratch is written with. -/
def Args.lk0 (base : Vec F S4x256x128 .bf16) := LK0 (ktG r.kv0 r.kg r.co0 r.si0) (baseK base)
def Args.lk1 (base : Vec F S4x256x128 .bf16) := LK1 (ktG r.kv1 r.kg r.co1 r.si1) (r.lk0 base)
/-- The lists of pieces the value scratch is written with. -/
def Args.lv0 (base : Vec F S4x128x128 .bf16) (L : List (View.Piece (Elt F) S4x1152x256 .bf16)) := LV0 (vG r.kv0) (baseV base L)
def Args.lv1 (base : Vec F S4x128x128 .bf16) (L : List (View.Piece (Elt F) S4x1152x256 .bf16)) := LV1 (vG r.kv1) (r.lv0 base L)

end Cert.YocoB

end
-- ==== Proof.B.Math.lean ====
/-
  What layer B computes, row by row, over the extended reals: the normalized heads, the partial rotation, and the
  attention over a window with a sink. A head over its root mean square is real whatever the head, and on real scores
  both programs' softmaxes weigh the values by the same quotients of real sums.
-/
module

public import proofs.«01_k».proof.Proof.A.Math

@[expose] public section

noncomputable section

namespace Cert.YocoB

open Idealize.ShloMosaic

/-- A value that is a real number. -/
def Real' (x : EReal) : Prop := ∃ r : ℝ, x = (r : EReal)

theorem Real'.coe (r : ℝ) : Real' (r : EReal) := ⟨r, rfl⟩
theorem Real'.mul {x y : EReal} (hx : Real' x) (hy : Real' y) : Real' (x * y) := by
  obtain ⟨a, rfl⟩ := hx; obtain ⟨b, rfl⟩ := hy; exact ⟨a * b, (EReal.coe_mul a b).symm⟩
theorem Real'.add {x y : EReal} (hx : Real' x) (hy : Real' y) : Real' (x + y) := by
  obtain ⟨a, rfl⟩ := hx; obtain ⟨b, rfl⟩ := hy; exact ⟨a + b, (EReal.coe_add a b).symm⟩
theorem Real'.sub {x y : EReal} (hx : Real' x) (hy : Real' y) : Real' (x - y) := by
  obtain ⟨a, rfl⟩ := hx; obtain ⟨b, rfl⟩ := hy; exact ⟨a - b, (EReal.coe_sub a b).symm⟩
theorem Real'.zero : Real' 0 := ⟨0, rfl⟩
theorem Real'.sum {ι : Type} (s : Finset ι) {f : ι → EReal} (h : ∀ i, Real' (f i)) : Real' (∑ i ∈ s, f i) := by
  classical
  induction s using Finset.induction_on with
  | empty => simpa using Real'.zero
  | insert a s ha ih => rw [Finset.sum_insert ha]; exact (h a).add ih

/-- The sum of real values, as a real. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, ← EReal.coe_add]

/-- The inverse root mean square of real values over a positive length is real. -/
theorem real_rms {ι : Type} [Fintype ι] (f : ι → EReal) (h : ∀ i, Real' (f i)) (n e : ℝ) (hn : 0 < n) (he : 0 < e) :
    Real' (Ideal.rsqrt (Ideal.div (∑ i, f i * f i) (n : EReal) + (e : EReal))) := by
  choose g hg using h
  have hs : (∑ i, f i * f i) = ((∑ i, g i * g i : ℝ) : EReal) := by
    rw [← coe_sum]; refine Finset.sum_congr rfl fun i _ => ?_; rw [hg i, EReal.coe_mul]
  have hp : 0 ≤ ∑ i, g i * g i := Finset.sum_nonneg fun i _ => mul_self_nonneg _
  have hd : Ideal.div (((∑ i, g i * g i : ℝ)) : EReal) (n : EReal) = (((∑ i, g i * g i) / n : ℝ) : EReal) := by
    unfold Ideal.div
    rw [if_neg (by exact_mod_cast hn.ne'), ← EReal.coe_inv, ← EReal.coe_mul, div_eq_mul_inv]
  rw [hs, hd, ← EReal.coe_add]
  have hpos : 0 < (∑ i, g i * g i) / n + e := by positivity
  have h1 : ¬ ((∑ i, g i * g i) / n + e < 0) := not_lt.mpr hpos.le
  have h2 : ¬ ((∑ i, g i * g i) / n + e = 0) := hpos.ne'
  refine ⟨(Real.sqrt ((∑ i, g i * g i) / n + e))⁻¹, ?_⟩
  show (if (∑ i, g i * g i) / n + e < 0 then (⊥ : EReal) else if (∑ i, g i * g i) / n + e = 0 then ⊤ else _) = _
  rw [if_neg h1, if_neg h2]

theorem sq_nonneg_ext (x : EReal) : 0 ≤ x * x := by
  induction x with
  | bot => simp
  | top => simp
  | coe r => exact_mod_cast mul_self_nonneg r

theorem sq_top {x : EReal} (h : ¬ Real' x) : x * x = ⊤ := by
  induction x with
  | bot => exact EReal.bot_mul_bot
  | top => exact EReal.top_mul_top
  | coe r => exact absurd ⟨r, rfl⟩ h

/-- A value over the root mean square is real, infinite values over an infinite one being zero. -/
theorem real_rms_mul {ι : Type} [Fintype ι] (f : ι → EReal) (n e : ℝ) (hn : 0 < n) (he : 0 < e) (i : ι) :
    Real' (f i * Ideal.rsqrt (Ideal.div (∑ i, f i * f i) (n : EReal) + (e : EReal))) := by
  by_cases h : ∀ i, Real' (f i)
  · exact (h i).mul (real_rms f h n e hn he)
  · obtain ⟨j, hj⟩ := not_forall.mp h
    have hs : ∑ i, f i * f i = ⊤ := by
      refine top_le_iff.mp ?_
      rw [← sq_top hj]
      exact Finset.single_le_sum (f := fun i => f i * f i) (fun i _ => sq_nonneg_ext (f i)) (Finset.mem_univ j)
    have hd : Ideal.div ⊤ (n : EReal) = ⊤ := by
      unfold Ideal.div
      rw [if_neg (by exact_mod_cast hn.ne'), ← EReal.coe_inv]
      exact EReal.top_mul_coe_of_pos (inv_pos.mpr hn)
    rw [hs, hd, EReal.top_add_coe]
    show Real' (f i * 0)
    rw [mul_zero]
    exact Real'.zero

/-- A sum of any values times a nonnegative real. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The length 64 of a head, as the programs print it. -/
abbrev headLen : EReal := Ideal.ofBits .f32 0x42800000#32

/-- A head over its root mean square, times the gain. -/
def unit64 (t g : Fin 64 → EReal) (e : Fin 64) : EReal :=
  t e * Ideal.rsqrt (Ideal.div (∑ q : Fin 64, t q * t q) headLen + YocoA.eps) * g e

/-- The rotation of a head's first 16 dimensions in pairs 8 apart. -/
def rope (c s : Fin 8 → EReal) (t : Fin 64 → EReal) (e : Fin 64) : EReal :=
  if h : e.val < 8 then t e * c ⟨e.val, h⟩ - t ⟨e.val + 8, by omega⟩ * s ⟨e.val, h⟩
  else if h' : e.val < 16 then t e * c ⟨e.val - 8, by omega⟩ + t ⟨e.val - 8, by omega⟩ * s ⟨e.val - 8, by omega⟩
  else t e

theorem real_rope {c s : Fin 8 → EReal} {t : Fin 64 → EReal} (hc : ∀ j, Real' (c j)) (hs : ∀ j, Real' (s j))
    (ht : ∀ e, Real' (t e)) (e : Fin 64) : Real' (rope c s t e) := by
  unfold rope
  split
  · exact ((ht _).mul (hc _)).sub ((ht _).mul (hs _))
  · split
    · exact ((ht _).mul (hc _)).add ((ht _).mul (hs _))
    · exact ht _

/-- Scaling a real head before the rotation scales the rotated head. -/
theorem rope_scale {c s : Fin 8 → EReal} {t : Fin 64 → EReal} (hc : ∀ j, Real' (c j)) (hs : ∀ j, Real' (s j))
    (ht : ∀ e, Real' (t e)) (k : ℝ) (e : Fin 64) :
    rope c s (fun e => t e * (k : EReal)) e = rope c s t e * (k : EReal) := by
  choose c' hc' using hc
  choose s' hs' using hs
  choose t' ht' using ht
  unfold rope
  simp only [hc', hs', ht']
  split
  · norm_cast; ring
  · split
    · norm_cast; ring
    · rfl

/-- The weight of key `i` in the softmax with a sink over the keys of a mask. -/
def wt {ι : Type} [Fintype ι] (ok : ι → Prop) [DecidablePred ok] (s : ι → ℝ) (σ : ℝ) (i : ι) : ℝ :=
  (if ok i then Real.exp (s i) else 0) / ((∑ i, if ok i then Real.exp (s i) else 0) + Real.exp σ)

/-- Any shift of the exponents cancels. -/
theorem wt_shift {ι : Type} [Fintype ι] (ok : ι → Prop) [DecidablePred ok] (s : ι → ℝ) (σ M : ℝ) (i : ι) :
    (if ok i then Real.exp (s i - M) else 0) / ((∑ i, if ok i then Real.exp (s i - M) else 0) + Real.exp (σ - M)) = wt ok s σ i := by
  have e1 : ∀ i, (if ok i then Real.exp (s i - M) else 0) = (if ok i then Real.exp (s i) else 0) * Real.exp (-M) := fun i => by
    split
    · rw [sub_eq_add_neg, Real.exp_add]
    · simp
  have e2 : Real.exp (σ - M) = Real.exp σ * Real.exp (-M) := by rw [sub_eq_add_neg, Real.exp_add]
  simp only [e1, e2]
  rw [← Finset.sum_mul, ← add_mul]
  exact mul_div_mul_right _ _ (Real.exp_pos _).ne'

/-- A row times a matrix, at a column. -/
def lin {n : ℕ} (h : Fin 1024 → EReal) (W : Fin 1024 → Fin n → EReal) (o : Fin n) : EReal := ∑ k : Fin 1024, h k * W k o

/-- Head `g` of a row's keys. -/
def keyRow (c s : Fin 8 → EReal) (h : Fin 1024 → EReal) (W : Fin 1024 → Fin 512 → EReal) (kg : Fin 64 → EReal)
    (g : Fin 4) (e : Fin 64) : EReal :=
  rope c s (unit64 (fun e => lin h W ⟨g.val * 64 + e.val, by omega⟩) kg) e

/-- Head `g` of a row's values. -/
def valRow (h : Fin 1024 → EReal) (W : Fin 1024 → Fin 512 → EReal) (g : Fin 4) (e : Fin 64) : EReal :=
  lin h W ⟨256 + (g.val * 64 + e.val), by omega⟩

/-- Head `d` of a row's queries. -/
def qryRow (c s : Fin 8 → EReal) (h : Fin 1024 → EReal) (W : Fin 1024 → Fin 2048 → EReal) (qg : Fin 64 → EReal)
    (d : Fin 16) (e : Fin 64) : EReal :=
  rope c s (unit64 (fun e => lin h W ⟨d.val * 64 + e.val, by omega⟩) qg) e

/-- A row's gate at a column. -/
def gateRow (h : Fin 1024 → EReal) (W : Fin 1024 → Fin 2048 → EReal) (l : Fin 1024) : EReal :=
  lin h W ⟨1024 + l.val, by omega⟩ * Ideal.logistic (lin h W ⟨1024 + l.val, by omega⟩)

/-- The rows a block of 128 queries sees: the block before, zero before the first, then the own block. -/
def bandRow (f : Fin 8192 → Fin 64 → EReal) (blk : Fin 64) (c : Fin 256) (e : Fin 64) : EReal :=
  if h : c.val < 128 then if hb : blk.val = 0 then 0 else f ⟨128 * (blk.val - 1) + c.val, by omega⟩ e
  else f ⟨128 * blk.val + (c.val - 128), by omega⟩ e

theorem real_band {f : Fin 8192 → Fin 64 → EReal} (hf : ∀ n e, Real' (f n e)) (blk : Fin 64) (c : Fin 256) (e : Fin 64) :
    Real' (bandRow f blk c e) := by
  unfold bandRow
  split
  · split
    · exact Real'.zero
    · exact hf _ _
  · exact hf _ _

/-- The keys that query `a` of a block sees: the 128 up to itself, from the sequence's first row on. -/
def Sees (blk : Fin 64) (a : Fin 128) (c : Fin 256) : Prop :=
  c.val ≤ a.val + 128 ∧ a.val < c.val ∧ (0 < blk.val ∨ 128 ≤ c.val)

instance (blk : Fin 64) (a : Fin 128) : DecidablePred (Sees blk a) := fun c => by unfold Sees; infer_instance

/-- The score of key `c` for a query, as a real number. -/
def score (q : Fin 64 → EReal) (k : Fin 256 → Fin 64 → EReal) (c : Fin 256) : ℝ :=
  (∑ e : Fin 64, q e * k c e).toReal / 8

/-- The attention with a sink over the keys a query sees: the values, each times its weight. -/
def attn (ok : Fin 256 → Prop) [DecidablePred ok] (s : Fin 256 → ℝ) (v : Fin 256 → EReal) (σ : ℝ) : EReal :=
  ∑ c, v c * ((wt ok s σ c : ℝ) : EReal)

end Cert.YocoB

end
-- ==== Proof.B.Mask.lean ====
/-
  The masks of layer B's kernel at an index, and the order its packed queries and keys are in.
-/
module

public import proofs.«01_k».proof.Proof.B.Args
public import proofs.«01_k».proof.Proof.B.Math

@[expose] public section

set_option maxRecDepth 16384

noncomputable section

namespace Cert.YocoB

open Idealize.ShloMosaic Cert.KernelBIdeal Cert.KernelBIdeal.Gen

theorem m13 (r : Fin 512) (c : Fin 128) : k0_pay13 (ix2 r c) = if c.val < 64 then 1#1 else 0#1 := by
  pointwise [k0_pay13]
  revert c; decide +kernel
theorem m14 (r : Fin 512) (c : Fin 128) : k0_pay14 (ix2 r c) = if c.val / 32 = 0 then 1#1 else 0#1 := by
  pointwise [k0_pay14]
  revert c; decide +kernel
theorem m15 (r : Fin 512) (c : Fin 128) : k0_pay15 (ix2 r c) = if c.val / 32 = 1 then 1#1 else 0#1 := by
  pointwise [k0_pay15]
  revert c; decide +kernel
theorem m16 (r : Fin 512) (c : Fin 128) : k0_pay16 (ix2 r c) = if c.val / 32 = 2 then 1#1 else 0#1 := by
  pointwise [k0_pay16]
  revert c; decide +kernel
theorem m17 (r : Fin 512) (c : Fin 128) : k0_pay17 (ix2 r c) = if c.val / 32 = 3 then 1#1 else 0#1 := by
  pointwise [k0_pay17]
  revert c; decide +kernel
theorem m24 (r : Fin 128) (c : Fin 128) : k0_pay24 (ix2 r c) = if c.val < 64 then 1#1 else 0#1 := by
  pointwise [k0_pay24]
  revert c; decide +kernel
theorem m25 (r : Fin 1) (c : Fin 128) : k0_pay25 (ix2 r c) = if c.val < 64 then 1#1 else 0#1 := by
  pointwise [k0_pay25]
  revert c; decide +kernel
theorem m26 (r : Fin 128) (c : Fin 128) : k0_pay26 (ix2 r c) = if r.val < c.val then 1#1 else 0#1 := by
  pointwise [k0_pay26]
  revert r c; decide +kernel

theorem sel_ite {α : Type} (P : Prop) [Decidable P] (x y : α) : Scalar.select (if P then 1#1 else 0#1) x y = if P then x else y := by
  unfold Scalar.select; split <;> simp

/-- The lane of packed column `x` in its half. -/
abbrev lane (x : Fin 256) : Fin 128 := ⟨x.val % 128, by omega⟩
/-- The head, of four, that a packed column belongs to. -/
abbrev phd (x : Fin 256) : Fin 4 := ⟨x.val % 128 / 32, by omega⟩
/-- The dimension of the head that a packed column holds. -/
def pdim (x : Fin 256) : Fin 64 :=
  if x.val < 128 then if x.val % 32 < 8 then ⟨x.val % 32, by omega⟩ else ⟨x.val % 32 + 8, by omega⟩
  else if x.val % 32 < 8 then ⟨x.val % 32 + 8, by omega⟩ else ⟨x.val % 32 + 32, by omega⟩
/-- The packed column of a head's dimension. -/
def pcol (d : Fin 4) (e : Fin 64) : Fin 256 :=
  if h : e.val < 8 then ⟨32 * d.val + e.val, by omega⟩ else if h1 : e.val < 16 then ⟨128 + 32 * d.val + (e.val - 8), by omega⟩
  else if h2 : e.val < 40 then ⟨32 * d.val + (e.val - 8), by omega⟩ else ⟨128 + 32 * d.val + (e.val - 32), by omega⟩

theorem pcol_pdim : ∀ (d : Fin 4) (x : Fin 256), phd x = d → pcol d (pdim x) = x := by decide +kernel
theorem pdim_pcol : ∀ (d : Fin 4) (e : Fin 64), pdim (pcol d e) = e := by decide +kernel
theorem phd_pcol : ∀ (d : Fin 4) (e : Fin 64), phd (pcol d e) = d := by decide +kernel

/-- A sum over the packed columns of one head is a sum over the head's dimensions. -/
theorem sum_packed (d : Fin 4) (f : Fin 256 → EReal) : (∑ x : Fin 256, if phd x = d then f x else 0) = ∑ e : Fin 64, f (pcol d e) := by
  rw [← Finset.sum_filter]
  refine Finset.sum_nbij' pdim (pcol d) ?_ ?_ ?_ ?_ ?_
  · intro x _; exact Finset.mem_univ _
  · intro e _; exact Finset.mem_filter.mpr ⟨Finset.mem_univ _, phd_pcol d e⟩
  · intro x hx; exact pcol_pdim d x (Finset.mem_filter.mp hx).2
  · intro e _; exact pdim_pcol d e
  · intro x hx; rw [pcol_pdim d x (Finset.mem_filter.mp hx).2]

theorem m20 (r : Fin 128) (c : Fin 256) : k0_pay20 (iota Kind.tc S128x256 32 [1] iota_S128x256_d1_w32)
    (Scalar.select (Scalar.cmpi CmpIPredicate.eq 128#32 0#32) 1#32 128#32)
    (broadcast S128x256 (Scalar.select (Scalar.cmpi CmpIPredicate.eq 128#32 0#32) 1#32 128#32)) (ix2 r c) = if phd c = 0 then 1#1 else 0#1 := by
  pointwise [k0_pay20, k0_pay19]
  revert c; decide +kernel
theorem m21 (r : Fin 128) (c : Fin 256) : k0_pay21 (iota Kind.tc S128x256 32 [1] iota_S128x256_d1_w32)
    (Scalar.select (Scalar.cmpi CmpIPredicate.eq 128#32 0#32) 1#32 128#32)
    (broadcast S128x256 (Scalar.select (Scalar.cmpi CmpIPredicate.eq 128#32 0#32) 1#32 128#32)) (ix2 r c) = if phd c = 1 then 1#1 else 0#1 := by
  pointwise [k0_pay21, k0_pay19]
  revert c; decide +kernel
theorem m22 (r : Fin 128) (c : Fin 256) : k0_pay22 (iota Kind.tc S128x256 32 [1] iota_S128x256_d1_w32)
    (Scalar.select (Scalar.cmpi CmpIPredicate.eq 128#32 0#32) 1#32 128#32)
    (broadcast S128x256 (Scalar.select (Scalar.cmpi CmpIPredicate.eq 128#32 0#32) 1#32 128#32)) (ix2 r c) = if phd c = 2 then 1#1 else 0#1 := by
  pointwise [k0_pay22, k0_pay19]
  revert c; decide +kernel
theorem m23 (r : Fin 128) (c : Fin 256) : k0_pay23 (iota Kind.tc S128x256 32 [1] iota_S128x256_d1_w32)
    (Scalar.select (Scalar.cmpi CmpIPredicate.eq 128#32 0#32) 1#32 128#32)
    (broadcast S128x256 (Scalar.select (Scalar.cmpi CmpIPredicate.eq 128#32 0#32) 1#32 128#32)) (ix2 r c) = if phd c = 3 then 1#1 else 0#1 := by
  pointwise [k0_pay23, k0_pay19]
  revert c; decide +kernel

end Cert.YocoB

end
-- ==== Proof.B.Pay.lean ====
/-
  What the body of layer B computes from its blocks, at an index.
-/
module

public import proofs.«01_k».proof.Proof.B.Mask
public import proofs.«01_k».proof.Proof.B.Math

@[expose] public section

set_option maxRecDepth 16384

noncomputable section

namespace Cert.YocoB

open Idealize.ShloMosaic Cert.KernelBIdeal Cert.KernelBIdeal.Gen

theorem hV_at (x : Vec Ideal S1x512x1024 .f32) (g : Vec Ideal S1x1024 .f32) (r : Fin 512) (k : Fin 1024) :
    hV x g (ix2 r k) = YocoA.hid (fun q => x (ix3 0 r q)) (fun q => g (ix2 0 q)) k := by
  pointwise [hV, YocoA.hid, YocoA.rowLen, YocoA.eps]

theorem kvV_at (h : FVec Ideal S512x1024 .bf16) (w : Vec Ideal S1024x512 .bf16) (r o : Fin 512) :
    kvV h w (ix2 r o) = lin (fun k => h (ix2 r k)) (fun k o => w (ix2 k o)) o := by
  pointwise [kvV, lin]

theorem mmV_at (h : FVec Ideal S512x1024 .bf16) (w : Vec Ideal S1024x512 .bf16) (r o : Fin 512) :
    mmV h w (ix2 r o) = lin (fun k => h (ix2 r k)) (fun k o => w (ix2 k o)) o := by
  pointwise [mmV, lin]

theorem khV_at (k : FVec Ideal S64x512 .f32) (kg : Vec Ideal S64x1 .f32) (e : Fin 64) (c : Fin 512) :
    khV k kg (ix2 e c) = unit64 (fun e => k (ix2 e c)) (fun e => kg (ix2 e 0)) e := by
  pointwise [khV, unit64, headLen, YocoA.eps]

/-- Four copies of one half, then four of the other. -/
theorem halves_at (A B : FVec Ideal S32x512 .f32) (p : Fin 256) (c : Fin 512) :
    concatenate S256x512 0 [⟨S32x512, A⟩, ⟨S32x512, A⟩, ⟨S32x512, A⟩, ⟨S32x512, A⟩, ⟨S32x512, B⟩, ⟨S32x512, B⟩, ⟨S32x512, B⟩, ⟨S32x512, B⟩]
      concatenates_S32x512_S32x512_S32x512_S32x512_S32x512_S32x512_S32x512_S32x512_S256x512_d0 (ix2 p c)
      = if p.val < 128 then A (ix2 ⟨p.val % 32, by omega⟩ c) else B (ix2 ⟨p.val % 32, by omega⟩ c) := by
  have kA : p.val < 128 → ∀ u : Fin 32, u.val = p.val % 32 → A (ix2 u c) = if p.val < 128 then A (ix2 ⟨p.val % 32, by omega⟩ c) else B (ix2 ⟨p.val % 32, by omega⟩ c) := by
    intro hp u hu
    rw [if_pos hp]
    exact congrArg (fun z => A (ix2 z c)) (Fin.ext hu)
  have kB : ¬ p.val < 128 → ∀ u : Fin 32, u.val = p.val % 32 → B (ix2 u c) = if p.val < 128 then A (ix2 ⟨p.val % 32, by omega⟩ c) else B (ix2 ⟨p.val % 32, by omega⟩ c) := by
    intro hp u hu
    rw [if_neg hp]
    exact congrArg (fun z => B (ix2 z c)) (Fin.ext hu)
  pointwise []
  split
  · exact kA (by omega) _ (by show p.val = _; omega)
  split
  · exact kA (by omega) _ (by show p.val - 32 = _; omega)
  split
  · exact kA (by omega) _ (by show p.val - 32 - 32 = _; omega)
  split
  · exact kA (by omega) _ (by show p.val - 32 - 32 - 32 = _; omega)
  split
  · exact kB (by omega) _ (by show p.val - 32 - 32 - 32 - 32 = _; omega)
  split
  · exact kB (by omega) _ (by show p.val - 32 - 32 - 32 - 32 - 32 = _; omega)
  split
  · exact kB (by omega) _ (by show p.val - 32 - 32 - 32 - 32 - 32 - 32 = _; omega)
  · exact kB (by omega) _ (by show p.val - 32 - 32 - 32 - 32 - 32 - 32 - 32 = _; omega)

theorem ktV_at (k : FVec Ideal S64x512 .f32) (co si : Vec Ideal S1x8x512 .f32) (p : Fin 256) (c : Fin 512) :
    ktV k co si (ix3 0 p c) = rope (fun j => co (ix3 0 j c)) (fun j => si (ix3 0 j c)) (fun e => k (ix2 e c)) (pdim p) := by
  unfold ktV
  pointwise [halves_at]
  have kx : ∀ e e' : Fin 64, e.val = e'.val → k (ix2 e c) = k (ix2 e' c) := fun e e' h => congrArg (fun z => k (ix2 z c)) (Fin.ext h)
  unfold pdim
  by_cases h1 : p.val < 128 <;> by_cases h2 : p.val % 32 < 8
  · rw [if_pos h1, if_pos h1, dif_pos h2, if_pos h2]
    unfold rope
    rw [dif_pos h2, kx ⟨8 + p.val % 32, by omega⟩ ⟨p.val % 32 + 8, by omega⟩ (Nat.add_comm _ _)]
  · rw [if_pos h1, if_pos h1, dif_neg h2, if_neg h2]
    unfold rope
    rw [dif_neg (by show ¬ p.val % 32 + 8 < 8; omega), dif_neg (by show ¬ p.val % 32 + 8 < 16; omega)]
    exact kx _ _ (by show 16 + (p.val % 32 - 8) = p.val % 32 + 8; omega)
  · rw [if_neg h1, if_neg h1, dif_pos h2, if_pos h2]
    unfold rope
    rw [dif_neg (by show ¬ p.val % 32 + 8 < 8; omega), dif_pos (by show p.val % 32 + 8 < 16; omega),
      kx ⟨8 + p.val % 32, by omega⟩ ⟨p.val % 32 + 8, by omega⟩ (Nat.add_comm _ _)]
    simp only [Nat.add_sub_cancel]
  · rw [if_neg h1, if_neg h1, dif_neg h2, if_neg h2]
    unfold rope
    rw [dif_neg (by show ¬ p.val % 32 + 32 < 8; omega), dif_neg (by show ¬ p.val % 32 + 32 < 16; omega)]
    exact kx _ _ (by show 40 + (p.val % 32 - 8) = p.val % 32 + 32; omega)

theorem veV_at (v : FVec Ideal S512x128 .f32) (r : Fin 512) (c : Fin 128) : veV v (ix3 0 r c) = v (ix2 r ⟨c.val % 64, by omega⟩) := by
  pointwise [veV, m13, sel_ite]
  split <;> refine congrArg (fun z => v (ix2 r z)) (Fin.ext ?_)
  · show c.val = c.val % 64; omega
  · show (c.val + 128 - 64) % 128 = c.val % 64; omega

theorem voV_at (v : FVec Ideal S512x128 .f32) (r : Fin 512) (c : Fin 128) : voV v (ix3 0 r c) = v (ix2 r ⟨64 + c.val % 64, by omega⟩) := by
  pointwise [voV, m13, sel_ite]
  split <;> refine congrArg (fun z => v (ix2 r z)) (Fin.ext ?_)
  · show (c.val + 128 - 64) % 128 = 64 + c.val % 64; omega
  · show c.val = 64 + c.val % 64; omega

theorem scV_at (q : FVec Ideal S128x256 .bf16) (kw : Vec Ideal S1x256x256 .bf16) (d : Fin 4) (a : Fin 128) (c : Fin 256) :
    scV q kw (ix2 ⟨128 * d.val + a.val, by omega⟩ c) = ∑ e : Fin 64, q (ix2 a (pcol d e)) * kw (ix3 0 (pcol d e) c) := by
  rw [← sum_packed d fun x => q (ix2 a x) * kw (ix3 0 x c)]
  pointwise [scV]
  refine Finset.sum_congr rfl fun x _ => ?_
  have key : ∀ (d' : Fin 4) (u : Fin 128), d' = d → u = a →
      (if phd x = d' then q (ix2 u x) else 0) * kw (ix3 0 x c) = if phd x = d then q (ix2 a x) * kw (ix3 0 x c) else 0 := by
    rintro d' u rfl rfl; split
    · rfl
    · exact zero_mul _
  split
  · rw [m20, sel_ite]; exact key 0 ⟨128 * d.val + a.val, by omega⟩ (Fin.ext (by show 0 = d.val; omega)) (Fin.ext (by show 128 * d.val + a.val = a.val; omega))
  split
  · rw [m21, sel_ite]; exact key 1 ⟨128 * d.val + a.val - 128, by omega⟩ (Fin.ext (by show 1 = d.val; omega)) (Fin.ext (by show 128 * d.val + a.val - 128 = a.val; omega))
  split
  · rw [m22, sel_ite]; exact key 2 ⟨128 * d.val + a.val - 128 - 128, by omega⟩ (Fin.ext (by show 2 = d.val; omega)) (Fin.ext (by show 128 * d.val + a.val - 128 - 128 = a.val; omega))
  · rw [m23, sel_ite]; exact key 3 ⟨128 * d.val + a.val - 128 - 128 - 128, by omega⟩ (Fin.ext (by show 3 = d.val; omega)) (Fin.ext (by show 128 * d.val + a.val - 128 - 128 - 128 = a.val; omega))

theorem prV_at (s : FVec Ideal S128x128 .f32) (m : FVec Ideal S128x1 .f32) (a : Fin 128) (c : Fin 256) :
    prV s m (ix2 a c) = if h : c.val < 128 then if a.val < c.val then Ideal.exp2 (s (ix2 a ⟨c.val, h⟩) - m (ix2 a 0)) else 0
      else if a.val < c.val - 128 then 0 else Ideal.exp2 (s (ix2 a ⟨c.val - 128, by omega⟩) - m (ix2 a 0)) := by
  pointwise [prV, m26, sel_ite]
  rfl

theorem ovV_at (p : Fin 4 → FVec Ideal S128x256 .bf16) (vw : Vec Ideal S1x256x256 .bf16) (d : Fin 4) (a : Fin 128) (l : Fin 256) :
    ovV (p 0) (p 1) (p 2) (p 3) vw (ix2 ⟨128 * d.val + a.val, by omega⟩ l) = ∑ x : Fin 256, p d (ix2 a x) * vw (ix3 0 x l) := by
  pointwise [ovV]
  refine Finset.sum_congr rfl fun x _ => ?_
  have key : ∀ (d' : Fin 4) (u : Fin 128), d' = d → u = a → p d' (ix2 u x) * vw (ix3 0 x l) = p d (ix2 a x) * vw (ix3 0 x l) := by
    rintro d' u rfl rfl; rfl
  split
  · exact key 0 _ (Fin.ext (by show 0 = d.val; omega)) (Fin.ext (by show 128 * d.val + a.val = a.val; omega))
  split
  · exact key 1 _ (Fin.ext (by show 1 = d.val; omega)) (Fin.ext (by show 128 * d.val + a.val - 128 = a.val; omega))
  split
  · exact key 2 _ (Fin.ext (by show 2 = d.val; omega)) (Fin.ext (by show 128 * d.val + a.val - 128 - 128 = a.val; omega))
  · exact key 3 _ (Fin.ext (by show 3 = d.val; omega)) (Fin.ext (by show 128 * d.val + a.val - 128 - 128 - 128 = a.val; omega))

theorem mxV_at (s : FVec Ideal S128x128 .f32) (a : Fin 128) :
    mxV s (ix2 a 0) = Finset.fold max (Ideal.ofBits .f32 0xFF800000#32) (fun x : Fin 128 => s (ix2 a x)) Finset.univ := by
  pointwise [mxV]

theorem smV_at (s t : FVec Ideal S128x128 .f32) (a c : Fin 128) : smV s t (ix2 a c) = if a.val < c.val then s (ix2 a c) else t (ix2 a c) := by
  pointwise [smV, m26, sel_ite]

theorem cutV_at (f : BitVec 1) (s : FVec Ideal S128x128 .f32) (a c : Fin 128) : cutV f s (ix2 a c) = if f = 1#1 then ⊥ else s (ix2 a c) := by
  pointwise [cutV]
  have h1 : Named.named (F := Ideal) (φ := .f32) κ "neg_inf" 0xF149F2CA#32 = ⊥ := IdealRules.named_const.ideal_named_scalar _ _ _ _ rfl
  have h2 : Named.named (F := Ideal) (φ := .f32) κ "pos_inf" 0x7F7FFFFF#32 = ⊤ := IdealRules.named_const.ideal_named_scalar _ _ _ _ rfl
  rw [h1, h2]
  unfold Scalar.select
  by_cases h : f = 1#1
  · subst h; exact min_eq_right bot_le
  · rw [if_neg h]
    have h0 : ¬ (f = 1) := h
    simp only [h0, if_false]
    exact min_eq_left le_top

/-- The factor that turns natural exponents into binary ones. -/
abbrev l2e : EReal := Named.named (F := Ideal) (φ := .f32) κ "log2e" 0x3FB8AA3B#32

theorem atV_at (o0 o1 : FVec Ideal S128x256 .f32) (s0 s1 : EReal) (m0 m1 : FVec Ideal S128x1 .f32) (a l : Fin 128) :
    atV (F := Ideal) o0 o1 s0 s1 m0 m1 (ix2 a l)
      = (if l.val < 64 then o0 (ix2 a ⟨l.val, by omega⟩) else o1 (ix2 a ⟨l.val, by omega⟩))
        * Ideal.div 1 ((if l.val < 64 then o0 (ix2 a ⟨128 + l.val, by omega⟩) else o1 (ix2 a ⟨128 + l.val, by omega⟩))
          + Ideal.exp2 ((if l.val < 64 then s0 * l2e else s1 * l2e) - (if l.val < 64 then m0 (ix2 a 0) else m1 (ix2 a 0)))) := by
  pointwise [atV, m24, m25, sel_ite]
  rfl

theorem gtV_at (z : FVec Ideal S512x512 .f32)  (a l : Fin 512) : gtV z (ix2 a l) = z (ix2 a l) * Ideal.logistic (z (ix2 a l)) := by
  pointwise [gtV]

theorem outV_at (x : Vec Ideal S1x512x512 .f32) (y : FVec Ideal S512x1024 .bf16) (w : Vec Ideal S1024x512 .bf16) (a l : Fin 512) :
   outV x y w (ix3 0 a l) = x (ix3 0 a l) + ∑ k : Fin 1024, y (ix2 a k) * w (ix2 k l) := by
  pointwise [outV]

theorem wqV_at (w : Vec Ideal S1024x256 .bf16) (p : Vec Ideal S256x256 .bf16) (k : Fin 1024) (l : Fin 256) :
   wqV w p (ix2 k l) = ∑ c : Fin 256, w (ix2 k c) * p (ix2 c l) := by
  pointwise [wqV]

theorem qV_at (c0 c1 cq sq : FVec Ideal S512x128 .f32) (qa qb : Vec Ideal S1x128 .f32) (r : Fin 512) (p : Fin 256) :
    qV c0 c1 cq sq qa qb (ix2 r p) = if p.val < 128 then
        c0 (ix2 r (lane p)) * rsV c0 c1 (ix2 r (lane p)) * qa (ix2 0 (lane p)) * cq (ix2 r (lane p))
          - c1 (ix2 r (lane p)) * rsV c0 c1 (ix2 r (lane p)) * qb (ix2 0 (lane p)) * sq (ix2 r (lane p))
      else c1 (ix2 r (lane p)) * rsV c0 c1 (ix2 r (lane p)) * qb (ix2 0 (lane p)) * cq (ix2 r (lane p))
          + c0 (ix2 r (lane p)) * rsV c0 c1 (ix2 r (lane p)) * qa (ix2 0 (lane p)) * sq (ix2 r (lane p)) := by
  pointwise [qV]
  split
  · rename_i h
    have e : (⟨p.val, h⟩ : Fin 128) = lane p := Fin.ext (by show p.val = p.val % 128; omega)
    rw [e]
  · rename_i h
    have e : (⟨p.val - 128, by omega⟩ : Fin 128) = lane p := Fin.ext (by show p.val - 128 = p.val % 128; omega)
    rw [e]

theorem rsV_at (c0 c1 : FVec Ideal S512x128 .f32) (r : Fin 512) (l : Fin 128) :
    rsV c0 c1 (ix2 r l) = Ideal.rsqrt ((∑ x : Fin 128, if x.val / 32 = l.val / 32 then c0 (ix2 r x) * c0 (ix2 r x) + c1 (ix2 r x) * c1 (ix2 r x) else 0)
      * Ideal.ofBits .f32 0x3C800000#32 + YocoA.eps) := by
  pointwise [rsV, m14, m15, m16, m17, sel_ite]
  split
  · rename_i h; rw [h]
  split
  · rename_i h; rw [h]
  split
  · rename_i h; rw [h]
  · have h : l.val / 32 = 3 := by omega
    rw [h]

theorem atRow_at (t : Fin 4 → Fin 2 → FVec Ideal S128x128 .f32) (a : Fin 128) (l : Fin 1024) :
    atRow t (ix2 a l) = t ⟨l.val / 256, by omega⟩ ⟨l.val % 256 / 128, by omega⟩ (ix2 a ⟨l.val % 128, by omega⟩) := by
  have key : ∀ (n n' : Fin 4) (p p' : Fin 2) (u u' : Fin 128), n = n' → p = p' → u = u' → t n p (ix2 a u) = t n' p' (ix2 a u') := by
    rintro n _ p _ u _ rfl rfl rfl; rfl
  pointwise [atRow]
  split_ifs <;> refine key _ _ _ _ _ _ (Fin.ext ?_) (Fin.ext ?_) (Fin.ext ?_) <;> simp <;> omega

theorem gaV_at (t : Fin 4 → Fin 4 → Fin 2 → FVec Ideal S128x128 .f32) (z0 z1 : FVec Ideal S512x512 .f32) (a : Fin 512) (l : Fin 1024) :
    gaV t z0 z1 (ix2 a l) = atRow (t ⟨a.val / 128, by omega⟩) (ix2 ⟨a.val % 128, by omega⟩ l)
      * (if h : l.val < 512 then gtV z0 (ix2 a ⟨l.val, h⟩) else gtV z1 (ix2 a ⟨l.val - 512, by omega⟩)) := by
  have key : ∀ (n n' : Fin 4) (u u' : Fin 128), n = n' → u = u' → atRow (t n) (ix2 u l) = atRow (t n') (ix2 u' l) := by
    rintro n _ u _ rfl rfl; rfl
  pointwise [gaV]
  congr 1
  split_ifs <;> refine key _ _ _ _ (Fin.ext ?_) (Fin.ext ?_) <;> simp <;> omega

end Cert.YocoB

end
-- ==== Proof.B.Soft.lean ====
/-
  Both programs' softmaxes with a sink on real scores: exponents of two after scaling by the inverse of log 2, and natural
  exponents, give the same attention, whatever the values.
-/
module

public import proofs.«01_k».proof.Proof.B.Math

@[expose] public section

noncomputable section

namespace Cert.YocoB

open Idealize.ShloMosaic

theorem floor_bot : Ideal.ofBits .f32 0xFF800000#32 = ⊥ := by simp [Ideal.ofBits, Ideal.ieee]
theorem bits_one : Ideal.ofBits .f32 0x3F800000#32 = 1 := by
  simp [Ideal.ofBits, Ideal.ieee, -EReal.coe_mul]; norm_num
theorem bits_one16 : Ideal.ofBits .bf16 0x3F80#16 = 1 := by
  simp [Ideal.ofBits, Ideal.ieee, -EReal.coe_mul]; norm_num
theorem bits_64 : Ideal.ofBits .f32 0x42800000#32 = ((64 : ℝ) : EReal) := by
  simp [Ideal.ofBits, Ideal.ieee, -EReal.coe_mul]; norm_num
theorem bits_64th : Ideal.ofBits .f32 0x3C800000#32 = ((1 / 64 : ℝ) : EReal) := by
  simp [Ideal.ofBits, Ideal.ieee, -EReal.coe_mul]; norm_num
theorem bits_8th : Ideal.ofBits .f32 0x3E000000#32 = ((1 / 8 : ℝ) : EReal) := by
  simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num
theorem eps_pos : YocoA.eps = ((8796093 * 2 ^ (-43 : ℤ) : ℝ) : EReal) := by
  simp [YocoA.eps, Ideal.ofBits, Ideal.ieee, -EReal.coe_mul]

theorem Real'.eq {x : EReal} (h : Real' x) : x = ((x.toReal : ℝ) : EReal) := by
  obtain ⟨r, rfl⟩ := h; rfl

/-- The largest of finitely many values is real when all are real or the floor and one is real. -/
theorem real_fold {ι : Type} [Fintype ι] (f : ι → EReal) (h : ∀ i, Real' (f i) ∨ f i = ⊥) (i0 : ι) (h0 : Real' (f i0)) :
    Real' (Finset.fold max ⊥ f Finset.univ) := by
  have e : Finset.fold max ⊥ f Finset.univ = Finset.univ.sup f := rfl
  rw [e]
  have ht : Finset.univ.sup f < ⊤ := by
    refine (Finset.sup_lt_iff bot_lt_top).mpr fun i _ => ?_
    rcases h i with ⟨r, hr⟩ | hr
    · rw [hr]; exact EReal.coe_lt_top r
    · rw [hr]; exact bot_lt_top
  have hb : ⊥ < Finset.univ.sup f := by
    refine lt_of_lt_of_le ?_ (Finset.le_sup (Finset.mem_univ i0))
    obtain ⟨r, hr⟩ := h0; rw [hr]; exact EReal.bot_lt_coe r
  exact ⟨_, (EReal.coe_toReal ht.ne hb.ne').symm⟩

theorem exp2_real (r : ℝ) : Ideal.exp2 (r : EReal) = ((Real.exp (r * Real.log 2) : ℝ) : EReal) := by
  show ((Real.rpow 2 r : ℝ) : EReal) = _
  congr 1
  show (2 : ℝ) ^ r = _
  rw [Real.rpow_def_of_pos (by norm_num), mul_comm]

theorem exp2_bot (r : ℝ) : Ideal.exp2 (⊥ - (r : EReal)) = 0 := by
  rw [EReal.bot_sub]; rfl

theorem exp_bot (r : ℝ) : Ideal.exp (⊥ - (r : EReal)) = 0 := by
  rw [EReal.bot_sub]; rfl

theorem div_real (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem log2_ne : Real.log 2 ≠ 0 := (Real.log_pos (by norm_num)).ne'

section
variable (ok : Fin 256 → Prop) [DecidablePred ok] (s : Fin 256 → ℝ) (σ M : ℝ)

/-- The natural softmax. -/
theorem soft_nat (t V : Fin 256 → EReal) (ht : ∀ c, t c = if ok c then (s c : EReal) else ⊥) :
    (∑ c, V c * Ideal.div (Ideal.exp (t c - (M : EReal))) ((∑ c, Ideal.exp (t c - (M : EReal))) + Ideal.exp ((σ : EReal) - (M : EReal))))
      = attn ok s V σ := by
  have e1 : ∀ c, Ideal.exp (t c - (M : EReal)) = (((if ok c then Real.exp (s c - M) else 0) : ℝ) : EReal) := fun c => by
    rw [ht]
    split
    · rw [← EReal.coe_sub]; rfl
    · exact exp_bot M
  have e2 : Ideal.exp ((σ : EReal) - (M : EReal)) = ((Real.exp (σ - M) : ℝ) : EReal) := by rw [← EReal.coe_sub]; rfl
  have hpos : (∑ c, if ok c then Real.exp (s c - M) else 0) + Real.exp (σ - M) ≠ 0 := by
    refine (add_pos_of_nonneg_of_pos (Finset.sum_nonneg fun c _ => ?_) (Real.exp_pos _)).ne'
    split
    · exact (Real.exp_pos _).le
    · exact le_rfl
  simp only [e1, e2]
  rw [coe_sum, ← EReal.coe_add]
  simp only [div_real _ _ hpos]
  unfold attn
  exact Finset.sum_congr rfl fun c _ => by rw [wt_shift]

/-- The softmax in exponents of two, with the sum of the weights taken after. -/
theorem soft_two (P V W : Fin 256 → EReal)
    (hP : ∀ c, P c = if ok c then Ideal.exp2 ((((s c) * (Real.log 2)⁻¹ : ℝ) : EReal) - (M : EReal)) else 0)
    (hw : ∀ c, W c = 1) :
    (∑ c, P c * V c) * Ideal.div 1 ((∑ c, P c * W c) + Ideal.exp2 (((σ * (Real.log 2)⁻¹ : ℝ) : EReal) - (M : EReal)))
      = attn ok s V σ := by
  have e0 : ∀ r : ℝ, Ideal.exp2 (((r * (Real.log 2)⁻¹ : ℝ) : EReal) - (M : EReal)) = ((Real.exp (r - M * Real.log 2) : ℝ) : EReal) := fun r => by
    rw [← EReal.coe_sub, exp2_real]
    congr 2
    rw [sub_mul, mul_assoc, inv_mul_cancel₀ log2_ne, mul_one]
  have e1 : ∀ c, P c = (((if ok c then Real.exp (s c - M * Real.log 2) else 0) : ℝ) : EReal) := fun c => by
    rw [hP, e0]; split <;> rfl
  have hpos : 0 < (∑ c, if ok c then Real.exp (s c - M * Real.log 2) else 0) + Real.exp (σ - M * Real.log 2) := by
    refine add_pos_of_nonneg_of_pos (Finset.sum_nonneg fun c _ => ?_) (Real.exp_pos _)
    split
    · exact (Real.exp_pos _).le
    · exact le_rfl
  have ed : (∑ c, P c * W c) + Ideal.exp2 (((σ * (Real.log 2)⁻¹ : ℝ) : EReal) - (M : EReal))
      = (((∑ c, if ok c then Real.exp (s c - M * Real.log 2) else 0) + Real.exp (σ - M * Real.log 2) : ℝ) : EReal) := by
    simp only [e1, e0, hw, mul_one]
    rw [coe_sum, ← EReal.coe_add]
  rw [ed, ← EReal.coe_one, div_real _ _ hpos.ne', sum_mul_real _ _ _ (div_nonneg zero_le_one hpos.le)]
  unfold attn
  refine Finset.sum_congr rfl fun c _ => ?_
  rw [e1, mul_comm _ (V c), mul_assoc, ← EReal.coe_mul, mul_one_div, wt_shift]

end

end Cert.YocoB

end
-- ==== Proof.B.Tile.lean ====
/-
  The attention of a query block and a pair of heads, from its packed queries, its window of keys and its window of values.
-/
module

public import proofs.«01_k».proof.Proof.B.Pay
public import proofs.«01_k».proof.Proof.B.Soft

@[expose] public section

set_option maxRecDepth 16384

noncomputable section

namespace Cert.YocoB

open Idealize.ShloMosaic Cert.KernelBIdeal Cert.KernelBIdeal.Gen

theorem l2e_eq : l2e = (((Real.log 2)⁻¹ : ℝ) : EReal) := IdealRules.named_const.ideal_named_scalar _ _ _ _ rfl

/-- An eighth of the inverse of log 2. -/
abbrev k8 : ℝ := (1 / 8) * (Real.log 2)⁻¹

theorem prevV_at (s : FVec Ideal S512x256 .f32) (d : Fin 4) (a c : Fin 128) :
    prevV s d (ix2 a c) = s (ix2 ⟨128 * d.val + a.val, by omega⟩ ⟨c.val, by omega⟩) := by
  match d with
  | 0 => pointwise [prevV]
  | 1 => pointwise [prevV]
  | 2 => pointwise [prevV]
  | 3 => pointwise [prevV]

theorem ownV_at (s : FVec Ideal S512x256 .f32) (d : Fin 4) (a c : Fin 128) :
    ownV s d (ix2 a c) = s (ix2 ⟨128 * d.val + a.val, by omega⟩ ⟨128 + c.val, by omega⟩) := by
  match d with
  | 0 => pointwise [ownV]
  | 1 => pointwise [ownV]
  | 2 => pointwise [ownV]
  | 3 => pointwise [ownV]

section
variable (blk : Fin 64) (q : FVec Ideal S128x256 .bf16) (kw vw : Vec Ideal S1x256x256 .bf16)
  (cut : FVec Ideal S128x128 .f32 → FVec Ideal S128x128 .f32) (sk : Fin 4 → EReal)
  (Q : Fin 4 → Fin 128 → Fin 64 → EReal) (K V : Fin 256 → Fin 64 → EReal)

/-- The scores in the window of head `d`. -/
abbrev winS (d : Fin 4) : FVec Ideal S128x128 .f32 := smV (cut (prevV (scV q kw) d)) (ownV (scV q kw) d)

/-- A score is the problem's over log 2. -/
theorem score_at (hQ : ∀ d a e, Real' (Q d a e)) (hK : ∀ c e, Real' (K c e))
    (hq : ∀ d a e, q (ix2 a (pcol d e)) = Q d a e * (k8 : EReal)) (hk : ∀ p c, kw (ix3 0 p c) = K c (pdim p))
    (d : Fin 4) (a : Fin 128) (c : Fin 256) :
    scV q kw (ix2 ⟨128 * d.val + a.val, by omega⟩ c) = ((score (Q d a) K c * (Real.log 2)⁻¹ : ℝ) : EReal) := by
  rw [scV_at]
  choose Q' hQ' using hQ
  choose K' hK' using hK
  unfold score
  simp only [hq, hk, pdim_pcol, hQ', hK', ← EReal.coe_mul, coe_sum, EReal.toReal_coe]
  congr 1
  rw [Finset.sum_div, Finset.sum_mul]
  refine Finset.sum_congr rfl fun e _ => ?_
  simp only [k8]
  ring

variable (hsc : ∀ (d : Fin 4) (a : Fin 128) (c : Fin 256),
    scV q kw (ix2 ⟨128 * d.val + a.val, by omega⟩ c) = ((score (Q d a) K c * (Real.log 2)⁻¹ : ℝ) : EReal))
  (hcut : ∀ s a c, cut s (ix2 a c) = if blk.val = 0 then ⊥ else s (ix2 a c))

include hsc hcut in
theorem winS_at (d : Fin 4) (a c : Fin 128) : winS q kw cut d (ix2 a c)
    = if a.val < c.val then if blk.val = 0 then ⊥ else ((score (Q d a) K ⟨c.val, by omega⟩ * (Real.log 2)⁻¹ : ℝ) : EReal)
      else ((score (Q d a) K ⟨128 + c.val, by omega⟩ * (Real.log 2)⁻¹ : ℝ) : EReal) := by
  unfold winS
  rw [smV_at, hcut, prevV_at, ownV_at, hsc, hsc]

include hsc hcut in
theorem mx_real (d : Fin 4) (a : Fin 128) : Real' (mxV (winS q kw cut d) (ix2 a 0)) := by
  rw [mxV_at, floor_bot]
  refine real_fold _ (fun c => ?_) (0 : Fin 128) ?_
  · rw [winS_at blk q kw cut Q K hsc hcut]
    split
    · split
      · exact .inr rfl
      · exact .inl ⟨_, rfl⟩
    · exact .inl ⟨_, rfl⟩
  · rw [winS_at blk q kw cut Q K hsc hcut, if_neg (by simp)]
    exact ⟨_, rfl⟩

include hsc hcut in
theorem pr_at (d : Fin 4) (a : Fin 128) (M : ℝ) (hM : mxV (winS q kw cut d) (ix2 a 0) = (M : EReal)) (c : Fin 256) :
    prV (winS q kw cut d) (mxV (winS q kw cut d)) (ix2 a c)
      = if Sees blk a c then Ideal.exp2 (((score (Q d a) K c * (Real.log 2)⁻¹ : ℝ) : EReal) - (M : EReal)) else 0 := by
  rw [prV_at, hM]
  by_cases h : c.val < 128
  · rw [dif_pos h]
    by_cases h1 : a.val < c.val
    · rw [if_pos h1, winS_at blk q kw cut Q K hsc hcut, if_pos h1]
      by_cases h2 : blk.val = 0
      · rw [if_pos h2, exp2_bot, if_neg]
        rintro ⟨_, _, h3⟩
        omega
      · rw [if_neg h2, if_pos]
        exact ⟨by omega, h1, by omega⟩
    · rw [if_neg h1, if_neg]
      rintro ⟨_, h3, _⟩
      omega
  · rw [dif_neg h]
    by_cases h1 : a.val < c.val - 128
    · rw [if_pos h1, if_neg]
      rintro ⟨h3, _, _⟩
      omega
    · rw [if_neg h1, winS_at blk q kw cut Q K hsc hcut, if_neg h1, if_pos]
      · have e : (⟨128 + (c.val - 128), by omega⟩ : Fin 256) = c := Fin.ext (by show 128 + (c.val - 128) = c.val; omega)
        rw [e]
      · exact ⟨by omega, by omega, by omega⟩

/-- The weights times the values and the ones. -/
abbrev winO : FVec Ideal S512x256 .f32 :=
  ovV (prV (winS q kw cut 0) (mxV (winS q kw cut 0))) (prV (winS q kw cut 1) (mxV (winS q kw cut 1)))
    (prV (winS q kw cut 2) (mxV (winS q kw cut 2))) (prV (winS q kw cut 3) (mxV (winS q kw cut 3))) vw

variable (hσ : ∀ d, Real' (sk d))

include hsc hcut hσ in
theorem head_at (hv : ∀ (c l : Fin 256), vw (ix3 0 c l) = if l.val < 128 then V c ⟨l.val % 64, by omega⟩ else 1) (d : Fin 4) (a l : Fin 128) :
    winO q kw vw cut (ix2 ⟨128 * d.val + a.val, by omega⟩ ⟨l.val, by omega⟩)
      * Ideal.div 1 (winO q kw vw cut (ix2 ⟨128 * d.val + a.val, by omega⟩ ⟨128 + l.val, by omega⟩)
        + Ideal.exp2 (sk d * l2e - mxV (winS q kw cut d) (ix2 a 0)))
      = attn (Sees blk a) (score (Q d a) K) (fun c => V c ⟨l.val % 64, by omega⟩) (sk d).toReal := by
  obtain ⟨M, hM⟩ := mx_real blk q kw cut Q K hsc hcut d a
  have ho : ∀ x : Fin 256, winO q kw vw cut (ix2 ⟨128 * d.val + a.val, by omega⟩ x)
      = ∑ c : Fin 256, prV (winS q kw cut d) (mxV (winS q kw cut d)) (ix2 a c) * vw (ix3 0 c x) := fun x =>
    ovV_at (fun d => prV (winS q kw cut d) (mxV (winS q kw cut d))) vw d a x
  have hvl : ∀ c : Fin 256, vw (ix3 0 c ⟨l.val, by omega⟩) = V c ⟨l.val % 64, by omega⟩ := fun c => by
    rw [hv, if_pos (by show l.val < 128; omega)]
  rw [ho, ho, hM, (hσ d).eq, l2e_eq, ← EReal.coe_mul]
  simp only [hvl]
  refine soft_two (Sees blk a) (score (Q d a) K) _ M _ (fun c => V c ⟨l.val % 64, by omega⟩) _
    (pr_at blk q kw cut Q K hsc hcut d a M hM) (fun c => ?_)
  rw [hv, if_neg (by show ¬ 128 + l.val < 128; omega)]

include hsc hcut hσ in
/-- A query block's attention for a pair of heads. -/
theorem tile_of (hv : ∀ (c l : Fin 256), vw (ix3 0 c l) = if l.val < 128 then V c ⟨l.val % 64, by omega⟩ else 1) (p : Fin 2) (a l : Fin 128) :
    atTile (F := Ideal) q kw vw cut sk p (ix2 a l)
      = attn (Sees blk a) (score (Q ⟨2 * p.val + l.val / 64, by omega⟩ a) K) (fun c => V c ⟨l.val % 64, by omega⟩)
          (sk ⟨2 * p.val + l.val / 64, by omega⟩).toReal := by
  have key : ∀ (d d' : Fin 4) (u w : Fin 512) (x y : Fin 256), d = d' → u.val = 128 * d.val + a.val → w.val = 128 * d.val + a.val →
      x.val = l.val → y.val = 128 + l.val →
      winO q kw vw cut (ix2 u x) * Ideal.div 1 (winO q kw vw cut (ix2 w y) + Ideal.exp2 (sk d * l2e - mxV (winS q kw cut d) (ix2 a 0)))
      = attn (Sees blk a) (score (Q d' a) K) (fun c => V c ⟨l.val % 64, by omega⟩) (sk d').toReal := by
    intro d d' u w x y hd hu hw hx hy
    subst hd
    refine Eq.trans ?_ (head_at blk q kw vw cut sk Q K V hsc hcut hσ hv d a l)
    exact congrArg₂ (· * ·) (congrArg₂ (fun u x => winO q kw vw cut (ix2 u x)) (Fin.ext hu) (Fin.ext hx))
      (congrArg (fun z => Ideal.div 1 (z + Ideal.exp2 (sk d * l2e - mxV (winS q kw cut d) (ix2 a 0))))
        (congrArg₂ (fun u x => winO q kw vw cut (ix2 u x)) (Fin.ext hw) (Fin.ext hy)))
  match p with
  | 0 =>
    show atV (F := Ideal) (extractStridedSlice S128x256 ![0, 0] (winO q kw vw cut) slices_S512x256_o0_0_S128x256)
      (extractStridedSlice S128x256 ![128, 0] (winO q kw vw cut) slices_S512x256_o128_0_S128x256) (sk 0) (sk 1)
      (mxV (winS q kw cut 0)) (mxV (winS q kw cut 1)) (ix2 a l) = _
    rw [atV_at]
    by_cases h : l.val < 64
    · simp only [if_pos h]
      pointwise []
      refine key 0 _ _ _ _ _ (Fin.ext ?_) ?_ ?_ ?_ ?_ <;> simp <;> omega
    · simp only [if_neg h]
      pointwise []
      refine key 1 _ _ _ _ _ (Fin.ext ?_) ?_ ?_ ?_ ?_ <;> simp <;> omega
  | 1 =>
    show atV (F := Ideal) (extractStridedSlice S128x256 ![256, 0] (winO q kw vw cut) slices_S512x256_o256_0_S128x256)
      (extractStridedSlice S128x256 ![384, 0] (winO q kw vw cut) slices_S512x256_o384_0_S128x256) (sk 2) (sk 3)
      (mxV (winS q kw cut 2)) (mxV (winS q kw cut 3)) (ix2 a l) = _
    rw [atV_at]
    by_cases h : l.val < 64
    · simp only [if_pos h]
      pointwise []
      refine key 2 _ _ _ _ _ (Fin.ext ?_) ?_ ?_ ?_ ?_ <;> simp <;> omega
    · simp only [if_neg h]
      pointwise []
      refine key 3 _ _ _ _ _ (Fin.ext ?_) ?_ ?_ ?_ ?_ <;> simp <;> omega

end

end Cert.YocoB

end
-- ==== Proof.B.Que.lean ====
/-
  A chunk's packed queries: head `4 g + d` of a row, normalized, rotated and scaled, in the packed order.
-/
module

public import proofs.«01_k».proof.Proof.B.Tile

@[expose] public section

set_option maxRecDepth 16384

noncomputable section

namespace Cert.YocoB

open Idealize.ShloMosaic Cert.KernelBIdeal Cert.KernelBIdeal.Gen

/-- A normalized head times a real gain is real, whatever the head. -/
theorem real_unit (T : Fin 64 → EReal) {g : Fin 64 → EReal} (hg : ∀ e, Real' (g e)) (e : Fin 64) : Real' (unit64 T g e) := by
  unfold unit64
  refine Real'.mul ?_ (hg e)
  rw [headLen, bits_64, eps_pos]
  exact real_rms_mul T 64 _ (by norm_num) (by positivity) e

/-- A packed column of the rotated head, from the two halves' unrotated columns. -/
theorem packed_rope (C S : Fin 8 → EReal) (U : Fin 64 → EReal) (hC : ∀ j, Real' (C j)) (hS : ∀ j, Real' (S j)) (hU : ∀ e, Real' (U e))
    (p : Fin 256) :
    (if p.val < 128 then
        U (pdim ⟨p.val % 128, by omega⟩) * ((if p.val % 128 % 32 < 8 then C ⟨p.val % 128 % 8, by omega⟩ else 1) * (k8 : EReal))
          - U (pdim ⟨128 + p.val % 128, by omega⟩) * ((if p.val % 128 % 32 < 8 then S ⟨p.val % 128 % 8, by omega⟩ else 0) * (k8 : EReal))
      else U (pdim ⟨128 + p.val % 128, by omega⟩) * ((if p.val % 128 % 32 < 8 then C ⟨p.val % 128 % 8, by omega⟩ else 1) * (k8 : EReal))
          + U (pdim ⟨p.val % 128, by omega⟩) * ((if p.val % 128 % 32 < 8 then S ⟨p.val % 128 % 8, by omega⟩ else 0) * (k8 : EReal)))
      = rope C S U (pdim p) * (k8 : EReal) := by
  choose C' hC' using hC
  choose S' hS' using hS
  choose U' hU' using hU
  obtain rfl : C = fun j => (C' j : EReal) := funext hC'
  obtain rfl : S = fun j => (S' j : EReal) := funext hS'
  obtain rfl : U = fun j => (U' j : EReal) := funext hU'
  have kU : ∀ u u' : Fin 64, u.val = u'.val → U' u = U' u' := fun u u' h => congrArg U' (Fin.ext h)
  have kC : ∀ u u' : Fin 8, u.val = u'.val → C' u = C' u' := fun u u' h => congrArg C' (Fin.ext h)
  have kS : ∀ u u' : Fin 8, u.val = u'.val → S' u = S' u' := fun u u' h => congrArg S' (Fin.ext h)
  have h32 : p.val % 128 % 32 = p.val % 32 := by omega
  have h32' : (128 + p.val % 128) % 32 = p.val % 32 := by omega
  have lo : p.val % 128 < 128 := by omega
  have hi : ¬ 128 + p.val % 128 < 128 := by omega
  by_cases h1 : p.val < 128 <;> by_cases h2 : p.val % 32 < 8
  · have e1 : pdim ⟨p.val % 128, by omega⟩ = ⟨p.val % 32, by omega⟩ := by unfold pdim; simp only [h32, if_pos lo, if_pos h2]
    have e2 : pdim ⟨128 + p.val % 128, by omega⟩ = ⟨p.val % 32 + 8, by omega⟩ := by unfold pdim; simp only [h32', if_neg hi, if_pos h2]
    have e3 : pdim p = ⟨p.val % 32, by omega⟩ := by unfold pdim; simp only [if_pos h1, if_pos h2]
    rw [if_pos h1, e1, e2, e3, h32, if_pos h2, if_pos h2]
    unfold rope
    rw [dif_pos h2]
    dsimp only
    rw [kC ⟨p.val % 128 % 8, by omega⟩ ⟨p.val % 32, h2⟩ (by show p.val % 128 % 8 = p.val % 32; omega),
      kS ⟨p.val % 128 % 8, by omega⟩ ⟨p.val % 32, h2⟩ (by show p.val % 128 % 8 = p.val % 32; omega)]
    norm_cast; ring
  · have e1 : pdim ⟨p.val % 128, by omega⟩ = ⟨p.val % 32 + 8, by omega⟩ := by unfold pdim; simp only [h32, if_pos lo, if_neg h2]
    have e3 : pdim p = ⟨p.val % 32 + 8, by omega⟩ := by unfold pdim; simp only [if_pos h1, if_neg h2]
    rw [if_pos h1, e1, e3, h32, if_neg h2, if_neg h2]
    unfold rope
    rw [dif_neg (by show ¬ p.val % 32 + 8 < 8; omega), dif_neg (by show ¬ p.val % 32 + 8 < 16; omega), one_mul, zero_mul, mul_zero, sub_zero]
  · have e1 : pdim ⟨p.val % 128, by omega⟩ = ⟨p.val % 32, by omega⟩ := by unfold pdim; simp only [h32, if_pos lo, if_pos h2]
    have e2 : pdim ⟨128 + p.val % 128, by omega⟩ = ⟨p.val % 32 + 8, by omega⟩ := by unfold pdim; simp only [h32', if_neg hi, if_pos h2]
    have e3 : pdim p = ⟨p.val % 32 + 8, by omega⟩ := by unfold pdim; simp only [if_neg h1, if_pos h2]
    rw [if_neg h1, e1, e2, e3, h32, if_pos h2, if_pos h2]
    unfold rope
    rw [dif_neg (by show ¬ p.val % 32 + 8 < 8; omega), dif_pos (by show p.val % 32 + 8 < 16; omega)]
    dsimp only
    rw [kC ⟨p.val % 128 % 8, by omega⟩ ⟨p.val % 32 + 8 - 8, by omega⟩ (by show p.val % 128 % 8 = p.val % 32 + 8 - 8; omega),
      kS ⟨p.val % 128 % 8, by omega⟩ ⟨p.val % 32 + 8 - 8, by omega⟩ (by show p.val % 128 % 8 = p.val % 32 + 8 - 8; omega),
      kU ⟨p.val % 32, by omega⟩ ⟨p.val % 32 + 8 - 8, by omega⟩ (by show p.val % 32 = p.val % 32 + 8 - 8; omega)]
    norm_cast; ring
  · have e2 : pdim ⟨128 + p.val % 128, by omega⟩ = ⟨p.val % 32 + 32, by omega⟩ := by unfold pdim; simp only [h32', if_neg hi, if_neg h2]
    have e3 : pdim p = ⟨p.val % 32 + 32, by omega⟩ := by unfold pdim; simp only [if_neg h1, if_neg h2]
    rw [if_neg h1, e2, e3, h32, if_neg h2, if_neg h2]
    unfold rope
    rw [dif_neg (by show ¬ p.val % 32 + 32 < 8; omega), dif_neg (by show ¬ p.val % 32 + 32 < 16; omega), one_mul, zero_mul, mul_zero, add_zero]

/-- The sum over a quarter of both halves is the sum over a head. -/
theorem sum_quarter (f : Fin 256 → EReal) (d : Fin 4) :
    (∑ x : Fin 128, if x.val / 32 = d.val then f ⟨x.val, by omega⟩ + f ⟨128 + x.val, by omega⟩ else 0) = ∑ e : Fin 64, f (pcol d e) := by
  rw [← sum_packed]
  refine Eq.trans ?_ (Fin.sum_univ_add (a := 128) (b := 128) (fun x : Fin 256 => if phd x = d then f x else 0)).symm
  rw [← Finset.sum_add_distrib]
  refine Finset.sum_congr rfl fun x _ => ?_
  have c1 : phd (Fin.castAdd 128 x) = d ↔ x.val / 32 = d.val := by
    rw [Fin.ext_iff]; show x.val % 128 / 32 = d.val ↔ _; omega
  have c2 : phd (Fin.natAdd 128 x) = d ↔ x.val / 32 = d.val := by
    rw [Fin.ext_iff]; show (128 + x.val) % 128 / 32 = d.val ↔ _; omega
  by_cases h : x.val / 32 = d.val
  · rw [if_pos h]
    show _ = (if phd (Fin.castAdd 128 x) = d then f (Fin.castAdd 128 x) else 0) + (if phd (Fin.natAdd 128 x) = d then f (Fin.natAdd 128 x) else 0)
    rw [if_pos (c1.mpr h), if_pos (c2.mpr h)]
    rfl
  · rw [if_neg h]
    show _ = (if phd (Fin.castAdd 128 x) = d then f (Fin.castAdd 128 x) else 0) + (if phd (Fin.natAdd 128 x) = d then f (Fin.natAdd 128 x) else 0)
    rw [if_neg (fun h' => h (c1.mp h')), if_neg (fun h' => h (c2.mp h')), add_zero]

theorem cols0 (X : FVec Ideal S512x512 .f32) (r : Fin 512) (l : Fin 128) :
    extractStridedSlice S512x128 ![0, 0] X slices_S512x512_o0_0_S512x128 (ix2 r l) = X (ix2 r ⟨l.val, by omega⟩) := by
  pointwise []

theorem cols128 (X : FVec Ideal S512x512 .f32) (r : Fin 512) (l : Fin 128) :
    extractStridedSlice S512x128 ![0, 128] X slices_S512x512_o0_128_S512x128 (ix2 r l) = X (ix2 r ⟨128 + l.val, by omega⟩) := by
  pointwise []

theorem cols256 (X : FVec Ideal S512x512 .f32) (r : Fin 512) (l : Fin 128) :
    extractStridedSlice S512x128 ![0, 256] X slices_S512x512_o0_256_S512x128 (ix2 r l) = X (ix2 r ⟨256 + l.val, by omega⟩) := by
  pointwise []

theorem cols384 (X : FVec Ideal S512x512 .f32) (r : Fin 512) (l : Fin 128) :
    extractStridedSlice S512x128 ![0, 384] X slices_S512x512_o0_384_S512x128 (ix2 r l) = X (ix2 r ⟨384 + l.val, by omega⟩) := by
  pointwise []

section
variable (r : Fin 512) (T : Fin 4 → Fin 64 → EReal) (qg : Fin 64 → EReal) (C S : Fin 8 → EReal)
  (hg : ∀ e, Real' (qg e)) (hC : ∀ j, Real' (C j)) (hS : ∀ j, Real' (S j))

theorem rs_of (c0 c1 : FVec Ideal S512x128 .f32)
    (h0 : ∀ l : Fin 128, c0 (ix2 r l) = T ⟨l.val / 32, by omega⟩ (pdim ⟨l.val, by omega⟩))
    (h1 : ∀ l : Fin 128, c1 (ix2 r l) = T ⟨l.val / 32, by omega⟩ (pdim ⟨128 + l.val, by omega⟩)) (l : Fin 128) :
    rsV c0 c1 (ix2 r l) = Ideal.rsqrt (Ideal.div (∑ e : Fin 64, T ⟨l.val / 32, by omega⟩ e * T ⟨l.val / 32, by omega⟩ e) headLen + YocoA.eps) := by
  rw [rsV_at]
  have e : (∑ x : Fin 128, if x.val / 32 = l.val / 32 then c0 (ix2 r x) * c0 (ix2 r x) + c1 (ix2 r x) * c1 (ix2 r x) else 0)
      = ∑ e : Fin 64, T ⟨l.val / 32, by omega⟩ e * T ⟨l.val / 32, by omega⟩ e := by
    have e' := sum_quarter (fun x => T ⟨l.val / 32, by omega⟩ (pdim x) * T ⟨l.val / 32, by omega⟩ (pdim x)) ⟨l.val / 32, by omega⟩
    simp only [pdim_pcol] at e'
    rw [← e']
    refine Finset.sum_congr rfl fun x _ => ?_
    split
    · rename_i h
      rw [h0, h1]
      simp only [h]
    · rfl
  rw [e]
  rw [headLen, bits_64, bits_64th, Ideal.div_coe (by norm_num)]

include hg hC hS in
theorem qV_of (c0 c1 cq sq : FVec Ideal S512x128 .f32) (qa qb : Vec Ideal S1x128 .f32)
    (h0 : ∀ l : Fin 128, c0 (ix2 r l) = T ⟨l.val / 32, by omega⟩ (pdim ⟨l.val, by omega⟩))
    (h1 : ∀ l : Fin 128, c1 (ix2 r l) = T ⟨l.val / 32, by omega⟩ (pdim ⟨128 + l.val, by omega⟩))
    (hcq : ∀ l : Fin 128, cq (ix2 r l) = (if l.val % 32 < 8 then C ⟨l.val % 8, by omega⟩ else 1) * (k8 : EReal))
    (hsq : ∀ l : Fin 128, sq (ix2 r l) = (if l.val % 32 < 8 then S ⟨l.val % 8, by omega⟩ else 0) * (k8 : EReal))
    (hqa : ∀ l : Fin 128, qa (ix2 0 l) = qg (pdim ⟨l.val, by omega⟩))
    (hqb : ∀ l : Fin 128, qb (ix2 0 l) = qg (pdim ⟨128 + l.val, by omega⟩)) (p : Fin 256) :
    qV c0 c1 cq sq qa qb (ix2 r p) = rope C S (unit64 (T (phd p)) qg) (pdim p) * (k8 : EReal) := by
  rw [qV_at, h0, h1, hcq, hsq, hqa, hqb, rs_of r T c0 c1 h0 h1]
  exact packed_rope C S (unit64 (T (phd p)) qg) hC hS (real_unit _ hg) p

/-- The column of the queries' weights that packed column `x` is made of. -/
def qsrc (x : Fin 1024) : Fin 2048 :=
  ⟨x.val / 256 * 256 + x.val % 256 % 128 / 32 * 64 + (pdim ⟨x.val % 256, by omega⟩).val, by omega⟩

/-- The product of a row with a packed column of the weights. -/
theorem lin_at (h : FVec Ideal S512x1024 .bf16) (W : Fin 1024 → Fin 2048 → EReal) (g : Fin 4)
    (w : Vec Ideal S1024x512 .bf16) (x : Fin 512) (y : Fin 1024) (p : Fin 256) (hw : ∀ k, w (ix2 k x) = W k (qsrc y))
    (h1 : y.val / 256 = g.val) (h2 : y.val % 256 = p.val) :
    mmV h w (ix2 r x) = lin (fun k => h (ix2 r k)) W ⟨(4 * g.val + p.val % 128 / 32) * 64 + (pdim p).val, by omega⟩ := by
  have e1 : mmV h w (ix2 r x) = lin (fun k => h (ix2 r k)) W (qsrc y) := by
    rw [mmV_at]
    unfold lin
    exact Finset.sum_congr rfl fun k _ => congrArg _ (hw k)
  rw [e1]
  refine congrArg _ (Fin.ext ?_)
  have e' : (⟨y.val % 256, by omega⟩ : Fin 256) = p := Fin.ext h2
  unfold qsrc
  show y.val / 256 * 256 + y.val % 256 % 128 / 32 * 64 + (pdim ⟨y.val % 256, by omega⟩).val = (4 * g.val + p.val % 128 / 32) * 64 + (pdim p).val
  rw [e', h1, h2]; omega

include hg hC hS in
/-- A group's packed queries, from the products of its two halves. -/
theorem group_of (h : FVec Ideal S512x1024 .bf16) (cq sq : Vec Ideal S512x128 .f32) (qa qb : Vec Ideal S1x128 .f32)
    (W : Fin 1024 → Fin 2048 → EReal)
    (hcq : ∀ l : Fin 128, cq (ix2 r l) = (if l.val % 32 < 8 then C ⟨l.val % 8, by omega⟩ else 1) * (k8 : EReal))
    (hsq : ∀ l : Fin 128, sq (ix2 r l) = (if l.val % 32 < 8 then S ⟨l.val % 8, by omega⟩ else 0) * (k8 : EReal))
    (hqa : ∀ l : Fin 128, qa (ix2 0 l) = qg (pdim ⟨l.val, by omega⟩))
    (hqb : ∀ l : Fin 128, qb (ix2 0 l) = qg (pdim ⟨128 + l.val, by omega⟩)) (g : Fin 4) (d : Fin 4) (e : Fin 64)
    (c0 c1 : FVec Ideal S512x128 .f32)
    (h0 : ∀ l : Fin 128, c0 (ix2 r l) = lin (fun k => h (ix2 r k)) W ⟨(4 * g.val + l.val % 128 / 32) * 64 + (pdim ⟨l.val, by omega⟩).val, by omega⟩)
    (h1 : ∀ l : Fin 128, c1 (ix2 r l) = lin (fun k => h (ix2 r k)) W ⟨(4 * g.val + (128 + l.val) % 128 / 32) * 64 + (pdim ⟨128 + l.val, by omega⟩).val, by omega⟩) :
    qV c0 c1 cq sq qa qb (ix2 r (pcol d e)) = qryRow C S (fun k => h (ix2 r k)) W qg ⟨4 * g.val + d.val, by omega⟩ e * (k8 : EReal) := by
  rw [qV_of r (fun (d : Fin 4) (e : Fin 64) => lin (fun k => h (ix2 r k)) W ⟨(4 * g.val + d.val) * 64 + e.val, by omega⟩) qg C S hg hC hS c0 c1 cq sq qa qb
    (fun l => (h0 l).trans (congrArg _ (Fin.ext (by show (4 * g.val + l.val % 128 / 32) * 64 + _ = (4 * g.val + l.val / 32) * 64 + _; omega))))
    (fun l => (h1 l).trans (congrArg _ (Fin.ext (by show (4 * g.val + (128 + l.val) % 128 / 32) * 64 + _ = (4 * g.val + l.val / 32) * 64 + _; omega))))
    hcq hsq hqa hqb, phd_pcol, pdim_pcol]
  rfl

theorem half00 (h : FVec Ideal S512x1024 .bf16) (W : Fin 1024 → Fin 2048 → EReal) (w : Vec Ideal S1024x512 .bf16)
    (hw : ∀ k (x : Fin 512), w (ix2 k x) = W k (qsrc ⟨x.val, by omega⟩)) (l : Fin 128) :
    extractStridedSlice S512x128 ![0, 0] (mmV h w) slices_S512x512_o0_0_S512x128 (ix2 r l)
      = lin (fun k => h (ix2 r k)) W ⟨(4 * (⟨0, by omega⟩ : Fin 4).val + l.val % 128 / 32) * 64 + (pdim ⟨l.val, by omega⟩).val, by simp only; omega⟩ := by
  rw [cols0]
  have e := lin_at r h W ⟨0, by omega⟩ w ⟨l.val, by omega⟩ ⟨l.val, by omega⟩ ⟨l.val, by omega⟩ (fun k => hw k ⟨l.val, by omega⟩)
    (by show (l.val) / 256 = 0; omega) (by show (l.val) % 256 = l.val; omega)
  exact e

theorem half01 (h : FVec Ideal S512x1024 .bf16) (W : Fin 1024 → Fin 2048 → EReal) (w : Vec Ideal S1024x512 .bf16)
    (hw : ∀ k (x : Fin 512), w (ix2 k x) = W k (qsrc ⟨x.val, by omega⟩)) (l : Fin 128) :
    extractStridedSlice S512x128 ![0, 128] (mmV h w) slices_S512x512_o0_128_S512x128 (ix2 r l)
      = lin (fun k => h (ix2 r k)) W ⟨(4 * (⟨0, by omega⟩ : Fin 4).val + (128 + l.val) % 128 / 32) * 64 + (pdim ⟨128 + l.val, by omega⟩).val, by simp only; omega⟩ := by
  rw [cols128]
  have e := lin_at r h W ⟨0, by omega⟩ w ⟨128 + l.val, by omega⟩ ⟨128 + l.val, by omega⟩ ⟨128 + l.val, by omega⟩ (fun k => hw k ⟨128 + l.val, by omega⟩)
    (by show (128 + l.val) / 256 = 0; omega) (by show (128 + l.val) % 256 = 128 + l.val; omega)
  exact e

theorem half10 (h : FVec Ideal S512x1024 .bf16) (W : Fin 1024 → Fin 2048 → EReal) (w : Vec Ideal S1024x512 .bf16)
    (hw : ∀ k (x : Fin 512), w (ix2 k x) = W k (qsrc ⟨x.val, by omega⟩)) (l : Fin 128) :
    extractStridedSlice S512x128 ![0, 256] (mmV h w) slices_S512x512_o0_256_S512x128 (ix2 r l)
      = lin (fun k => h (ix2 r k)) W ⟨(4 * (⟨1, by omega⟩ : Fin 4).val + l.val % 128 / 32) * 64 + (pdim ⟨l.val, by omega⟩).val, by simp only; omega⟩ := by
  rw [cols256]
  have e := lin_at r h W ⟨1, by omega⟩ w ⟨256 + l.val, by omega⟩ ⟨256 + l.val, by omega⟩ ⟨l.val, by omega⟩ (fun k => hw k ⟨256 + l.val, by omega⟩)
    (by show (256 + l.val) / 256 = 1; omega) (by show (256 + l.val) % 256 = l.val; omega)
  exact e

theorem half11 (h : FVec Ideal S512x1024 .bf16) (W : Fin 1024 → Fin 2048 → EReal) (w : Vec Ideal S1024x512 .bf16)
    (hw : ∀ k (x : Fin 512), w (ix2 k x) = W k (qsrc ⟨x.val, by omega⟩)) (l : Fin 128) :
    extractStridedSlice S512x128 ![0, 384] (mmV h w) slices_S512x512_o0_384_S512x128 (ix2 r l)
      = lin (fun k => h (ix2 r k)) W ⟨(4 * (⟨1, by omega⟩ : Fin 4).val + (128 + l.val) % 128 / 32) * 64 + (pdim ⟨128 + l.val, by omega⟩).val, by simp only; omega⟩ := by
  rw [cols384]
  have e := lin_at r h W ⟨1, by omega⟩ w ⟨384 + l.val, by omega⟩ ⟨384 + l.val, by omega⟩ ⟨128 + l.val, by omega⟩ (fun k => hw k ⟨384 + l.val, by omega⟩)
    (by show (384 + l.val) / 256 = 1; omega) (by show (384 + l.val) % 256 = 128 + l.val; omega)
  exact e

theorem half20 (h : FVec Ideal S512x1024 .bf16) (W : Fin 1024 → Fin 2048 → EReal) (w : Vec Ideal S1024x512 .bf16)
    (hw : ∀ k (x : Fin 512), w (ix2 k x) = W k (qsrc ⟨512 + x.val, by omega⟩)) (l : Fin 128) :
    extractStridedSlice S512x128 ![0, 0] (mmV h w) slices_S512x512_o0_0_S512x128 (ix2 r l)
      = lin (fun k => h (ix2 r k)) W ⟨(4 * (⟨2, by omega⟩ : Fin 4).val + l.val % 128 / 32) * 64 + (pdim ⟨l.val, by omega⟩).val, by simp only; omega⟩ := by
  rw [cols0]
  have e := lin_at r h W ⟨2, by omega⟩ w ⟨l.val, by omega⟩ ⟨512 + (l.val), by omega⟩ ⟨l.val, by omega⟩ (fun k => hw k ⟨l.val, by omega⟩)
    (by show (512 + (l.val)) / 256 = 2; omega) (by show (512 + (l.val)) % 256 = l.val; omega)
  exact e

theorem half21 (h : FVec Ideal S512x1024 .bf16) (W : Fin 1024 → Fin 2048 → EReal) (w : Vec Ideal S1024x512 .bf16)
    (hw : ∀ k (x : Fin 512), w (ix2 k x) = W k (qsrc ⟨512 + x.val, by omega⟩)) (l : Fin 128) :
    extractStridedSlice S512x128 ![0, 128] (mmV h w) slices_S512x512_o0_128_S512x128 (ix2 r l)
      = lin (fun k => h (ix2 r k)) W ⟨(4 * (⟨2, by omega⟩ : Fin 4).val + (128 + l.val) % 128 / 32) * 64 + (pdim ⟨128 + l.val, by omega⟩).val, by simp only; omega⟩ := by
  rw [cols128]
  have e := lin_at r h W ⟨2, by omega⟩ w ⟨128 + l.val, by omega⟩ ⟨512 + (128 + l.val), by omega⟩ ⟨128 + l.val, by omega⟩ (fun k => hw k ⟨128 + l.val, by omega⟩)
    (by show (512 + (128 + l.val)) / 256 = 2; omega) (by show (512 + (128 + l.val)) % 256 = 128 + l.val; omega)
  exact e

theorem half30 (h : FVec Ideal S512x1024 .bf16) (W : Fin 1024 → Fin 2048 → EReal) (w : Vec Ideal S1024x512 .bf16)
    (hw : ∀ k (x : Fin 512), w (ix2 k x) = W k (qsrc ⟨512 + x.val, by omega⟩)) (l : Fin 128) :
    extractStridedSlice S512x128 ![0, 256] (mmV h w) slices_S512x512_o0_256_S512x128 (ix2 r l)
      = lin (fun k => h (ix2 r k)) W ⟨(4 * (⟨3, by omega⟩ : Fin 4).val + l.val % 128 / 32) * 64 + (pdim ⟨l.val, by omega⟩).val, by simp only; omega⟩ := by
  rw [cols256]
  have e := lin_at r h W ⟨3, by omega⟩ w ⟨256 + l.val, by omega⟩ ⟨512 + (256 + l.val), by omega⟩ ⟨l.val, by omega⟩ (fun k => hw k ⟨256 + l.val, by omega⟩)
    (by show (512 + (256 + l.val)) / 256 = 3; omega) (by show (512 + (256 + l.val)) % 256 = l.val; omega)
  exact e

theorem half31 (h : FVec Ideal S512x1024 .bf16) (W : Fin 1024 → Fin 2048 → EReal) (w : Vec Ideal S1024x512 .bf16)
    (hw : ∀ k (x : Fin 512), w (ix2 k x) = W k (qsrc ⟨512 + x.val, by omega⟩)) (l : Fin 128) :
    extractStridedSlice S512x128 ![0, 384] (mmV h w) slices_S512x512_o0_384_S512x128 (ix2 r l)
      = lin (fun k => h (ix2 r k)) W ⟨(4 * (⟨3, by omega⟩ : Fin 4).val + (128 + l.val) % 128 / 32) * 64 + (pdim ⟨128 + l.val, by omega⟩).val, by simp only; omega⟩ := by
  rw [cols384]
  have e := lin_at r h W ⟨3, by omega⟩ w ⟨384 + l.val, by omega⟩ ⟨512 + (384 + l.val), by omega⟩ ⟨128 + l.val, by omega⟩ (fun k => hw k ⟨384 + l.val, by omega⟩)
    (by show (512 + (384 + l.val)) / 256 = 3; omega) (by show (512 + (384 + l.val)) % 256 = 128 + l.val; omega)
  exact e

include hg hC hS in
theorem queV_of (h : FVec Ideal S512x1024 .bf16) (w0 w1 : Vec Ideal S1024x512 .bf16) (cq sq : Vec Ideal S512x128 .f32) (qa qb : Vec Ideal S1x128 .f32)
    (W : Fin 1024 → Fin 2048 → EReal)
    (hw0 : ∀ k (x : Fin 512), w0 (ix2 k x) = W k (qsrc ⟨x.val, by omega⟩))
    (hw1 : ∀ k (x : Fin 512), w1 (ix2 k x) = W k (qsrc ⟨512 + x.val, by omega⟩))
    (hcq : ∀ l : Fin 128, cq (ix2 r l) = (if l.val % 32 < 8 then C ⟨l.val % 8, by omega⟩ else 1) * (k8 : EReal))
    (hsq : ∀ l : Fin 128, sq (ix2 r l) = (if l.val % 32 < 8 then S ⟨l.val % 8, by omega⟩ else 0) * (k8 : EReal))
    (hqa : ∀ l : Fin 128, qa (ix2 0 l) = qg (pdim ⟨l.val, by omega⟩))
    (hqb : ∀ l : Fin 128, qb (ix2 0 l) = qg (pdim ⟨128 + l.val, by omega⟩)) (g : Fin 4) (d : Fin 4) (e : Fin 64) :
    queV (F := Ideal) h w0 w1 cq sq qa qb g (ix2 r (pcol d e))
      = qryRow C S (fun k => h (ix2 r k)) W qg ⟨4 * g.val + d.val, by omega⟩ e * (k8 : EReal) := by
  have hg4 : g = ⟨0, by omega⟩ ∨ g = ⟨1, by omega⟩ ∨ g = ⟨2, by omega⟩ ∨ g = ⟨3, by omega⟩ := by clear * -; revert g; decide
  rcases hg4 with rfl | rfl | rfl | rfl
  · exact group_of r qg C S hg hC hS h cq sq qa qb W hcq hsq hqa hqb ⟨0, by omega⟩ d e _ _ (half00 r h W w0 hw0) (half01 r h W w0 hw0)
  · exact group_of r qg C S hg hC hS h cq sq qa qb W hcq hsq hqa hqb ⟨1, by omega⟩ d e _ _ (half10 r h W w0 hw0) (half11 r h W w0 hw0)
  · exact group_of r qg C S hg hC hS h cq sq qa qb W hcq hsq hqa hqb ⟨2, by omega⟩ d e _ _ (half20 r h W w1 hw1) (half21 r h W w1 hw1)
  · exact group_of r qg C S hg hC hS h cq sq qa qb W hcq hsq hqa hqb ⟨3, by omega⟩ d e _ _ (half30 r h W w1 hw1) (half31 r h W w1 hw1)

end

end Cert.YocoB

end
-- ==== Proof.B.Lay.lean ====
/-
  The layer on one sequence as plain formulas, and what a grid point of the kernel computes of it.
-/
module

public import proofs.«01_k».proof.Proof.B.Tile
public import proofs.«01_k».proof.Proof.B.Que

@[expose] public section

set_option maxRecDepth 16384

noncomputable section

namespace Cert.YocoB

open Idealize.ShloMosaic Cert.KernelBIdeal Cert.KernelBIdeal.Gen

/-- What the layer is given on one sequence. -/
structure Lay where
  X : Fin 8192 → Fin 1024 → EReal
  lk : Fin 1024 → EReal
  lb : Fin 1024 → EReal
  wkv : Fin 1024 → Fin 512 → EReal
  kg : Fin 64 → EReal
  qg : Fin 64 → EReal
  co : Fin 8192 → Fin 8 → EReal
  si : Fin 8192 → Fin 8 → EReal
  win : Fin 1024 → Fin 2048 → EReal
  sk : Fin 16 → EReal
  wo : Fin 1024 → Fin 1024 → EReal

/-- The gains of the heads, the rotation and the sinks are real; then so are the scores, whatever the rest. -/
structure Lay.Fine (D : Lay) : Prop where
  kg : ∀ e, Real' (D.kg e)
  qg : ∀ e, Real' (D.qg e)
  co : ∀ n j, Real' (D.co n j)
  si : ∀ n j, Real' (D.si n j)
  sk : ∀ h, Real' (D.sk h)

variable (D : Lay)

/-- The rows the keys and values are made of. -/
def Lay.hk (n : Fin 8192) : Fin 1024 → EReal := YocoA.hid (D.X n) D.lk
/-- The rows the queries and gates are made of. -/
def Lay.hq (n : Fin 8192) : Fin 1024 → EReal := YocoA.hid (D.X n) D.lb
/-- The keys. -/
def Lay.keys (g : Fin 4) (n : Fin 8192) : Fin 64 → EReal := keyRow (D.co n) (D.si n) (D.hk n) D.wkv D.kg g
/-- The values. -/
def Lay.vals (g : Fin 4) (n : Fin 8192) : Fin 64 → EReal := valRow (D.hk n) D.wkv g
/-- The queries. -/
def Lay.qrys (d : Fin 16) (n : Fin 8192) : Fin 64 → EReal := qryRow (D.co n) (D.si n) (D.hq n) D.win D.qg d

/-- The attention of a row at a column. -/
def Lay.att (n : Fin 8192) (l : Fin 1024) : EReal :=
  attn (Sees ⟨n.val / 128, by omega⟩ ⟨n.val % 128, by omega⟩)
    (score (D.qrys ⟨l.val / 64, by omega⟩ n) (bandRow (D.keys ⟨l.val / 256, by omega⟩) ⟨n.val / 128, by omega⟩))
    (fun c => bandRow (D.vals ⟨l.val / 256, by omega⟩) ⟨n.val / 128, by omega⟩ c ⟨l.val % 64, by omega⟩)
    (D.sk ⟨l.val / 64, by omega⟩).toReal

/-- The layer's output. -/
def Lay.out (n : Fin 8192) (o : Fin 1024) : EReal :=
  D.X n o + ∑ l : Fin 1024, D.att n l * gateRow (D.hq n) D.win l * D.wo l o

section
variable {D} (h : D.Fine)
include h

theorem Lay.Fine.keys (g : Fin 4) (n : Fin 8192) (e : Fin 64) : Real' (D.keys g n e) := by
  unfold Lay.keys keyRow
  exact real_rope (h.co n) (h.si n) (fun e' => real_unit _ h.kg e') e
theorem Lay.Fine.qrys (d : Fin 16) (n : Fin 8192) (e : Fin 64) : Real' (D.qrys d n e) := by
  unfold Lay.qrys qryRow
  exact real_rope (h.co n) (h.si n) (fun e' => real_unit _ h.qg e') e
end

/-- The rows a tile of 1024 rows works with: the block of 128 before it, zero before the first tile, then its own. -/
def scrRow (f : Fin 8192 → Fin 64 → EReal) (j : Fin 8) (x : Fin 1152) (e : Fin 64) : EReal :=
  if h : x.val < 128 then if hj : j.val = 0 then 0 else f ⟨1024 * (j.val - 1) + 896 + x.val, by omega⟩ e
  else f ⟨1024 * j.val + (x.val - 128), by omega⟩ e

/-- What a query block sees of its tile's rows. -/
theorem band_scr (f : Fin 8192 → Fin 64 → EReal) (j : Fin 8) (blk : Fin 64) (u : ℕ) (hb : blk.val = 8 * j.val + u) (hu8 : u < 8) (c : Fin 256) (x : Fin 1152) (hx : x.val = 128 * u + c.val) (e : Fin 64) :
    scrRow f j x e = bandRow f blk c e := by
  unfold scrRow bandRow
  have key : ∀ n n' : Fin 8192, n.val = n'.val → f n e = f n' e := fun n n' h => congrArg (fun z => f z e) (Fin.ext h)
  by_cases h : x.val < 128
  · rw [dif_pos h, dif_pos (show c.val < 128 by omega)]
    by_cases hj : j.val = 0
    · rw [dif_pos hj, dif_pos (show blk.val = 0 by omega)]
    · rw [dif_neg hj, dif_neg (show ¬blk.val = 0 by omega)]
      exact key _ _ (by show 1024 * (j.val - 1) + 896 + x.val = 128 * (blk.val - 1) + c.val; omega)
  · rw [dif_neg h]
    by_cases hc : c.val < 128
    · rw [dif_pos hc, dif_neg (show ¬blk.val = 0 by omega)]
      exact key _ _ (by show 1024 * j.val + (x.val - 128) = 128 * (blk.val - 1) + c.val; omega)
    · rw [dif_neg hc]
      exact key _ _ (by show 1024 * j.val + (x.val - 128) = 128 * blk.val + (c.val - 128); omega)

/-- The block before a tile's first is the last of the tile before. -/
theorem scr_prev (f : Fin 8192 → Fin 64 → EReal) (j j' : Fin 8) (h : j.val = j'.val + 1) (c : Fin 1152) (hc : c.val < 128) (c' : Fin 1152)
    (h' : c'.val = 1024 + c.val) (e : Fin 64) : scrRow f j c e = scrRow f j' c' e := by
  unfold scrRow
  rw [dif_pos hc, dif_neg (by omega), dif_neg (by omega)]
  exact congrArg (fun z => f z e) (Fin.ext (by show 1024 * (j.val - 1) + 896 + c.val = 1024 * j'.val + (c'.val - 128); omega))

theorem rowsV_at (q : FVec Ideal S512x256 .bf16) (b : Fin 4) (a : Fin 128) (x : Fin 256) :
    rowsV q b (ix2 a x) = q (ix2 ⟨128 * b.val + a.val, by omega⟩ x) := by
  have key : ∀ u u' : Fin 512, u.val = u'.val → q (ix2 u x) = q (ix2 u' x) := fun u u' h => congrArg (fun z => q (ix2 z x)) (Fin.ext h)
  match b with
  | 0 => unfold rowsV; pointwise []
  | 1 => unfold rowsV; pointwise []
  | 2 => unfold rowsV; pointwise []
  | 3 => unfold rowsV; pointwise []

/-- A query block's attention for a pair of heads, from its chunk's queries and windows. -/
theorem tile_att (h : D.Fine) (blk : Fin 64) (b : Fin 4) (n : Fin 4) (row : Fin 128 → Fin 8192) (hrow : ∀ a, (row a).val = 128 * blk.val + a.val)
    (q : FVec Ideal S512x256 .bf16) (kw vw : Vec Ideal S1x256x256 .bf16) (cut : FVec Ideal S128x128 .f32 → FVec Ideal S128x128 .f32) (sk : Fin 4 → EReal)
    (hq : ∀ (a : Fin 128) d e, q (ix2 ⟨128 * b.val + a.val, by omega⟩ (pcol d e)) = D.qrys ⟨4 * n.val + d.val, by omega⟩ (row a) e * (k8 : EReal))
    (hk : ∀ p c, kw (ix3 0 p c) = bandRow (D.keys n) blk c (pdim p))
    (hv : ∀ c l, vw (ix3 0 c l) = if l.val < 128 then bandRow (D.vals n) blk c ⟨l.val % 64, by omega⟩ else 1)
    (hcut : ∀ s a c, cut s (ix2 a c) = if blk.val = 0 then ⊥ else s (ix2 a c))
    (hsk : ∀ d, sk d = D.sk ⟨4 * n.val + d.val, by omega⟩) (p : Fin 2) (a l : Fin 128) (L : Fin 1024) (hL : L.val = 256 * n.val + 128 * p.val + l.val) :
    atTile (F := Ideal) (rowsV q b) kw vw cut sk p (ix2 a l) = D.att (row a) L := by
  have hQ : ∀ (d : Fin 4) (a : Fin 128) e, Real' ((fun d a => D.qrys ⟨4 * n.val + d.val, by omega⟩ (row a)) d a e) := fun d a e => h.qrys _ _ e
  have hK : ∀ c e, Real' (bandRow (D.keys n) blk c e) := fun c e => real_band (fun m e => h.keys n m e) blk c e
  have hσ : ∀ d, Real' (sk d) := fun d => by rw [hsk]; exact h.sk _
  have hsc := score_at (rowsV q b) kw (fun d a => D.qrys ⟨4 * n.val + d.val, by omega⟩ (row a)) (bandRow (D.keys n) blk) hQ hK
    (fun d a e => (rowsV_at q b a _).trans (hq a d e)) hk
  rw [tile_of blk (rowsV q b) kw vw cut sk (fun d a => D.qrys ⟨4 * n.val + d.val, by omega⟩ (row a)) (bandRow (D.keys n) blk) (bandRow (D.vals n) blk) hsc hcut hσ hv p a l]
  have e1 : (⟨(row a).val / 128, by omega⟩ : Fin 64) = blk := Fin.ext (by show (row a).val / 128 = blk.val; rw [hrow]; omega)
  have e2 : (⟨(row a).val % 128, by omega⟩ : Fin 128) = a := Fin.ext (by show (row a).val % 128 = a.val; rw [hrow]; omega)
  have e3 : (⟨L.val / 64, by omega⟩ : Fin 16) = ⟨4 * n.val + (2 * p.val + l.val / 64), by omega⟩ := Fin.ext (by show L.val / 64 = 4 * n.val + (2 * p.val + l.val / 64); omega)
  have e4 : (⟨L.val / 256, by omega⟩ : Fin 4) = n := Fin.ext (by show L.val / 256 = n.val; omega)
  have e5 : (⟨L.val % 64, by omega⟩ : Fin 64) = ⟨l.val % 64, by omega⟩ := Fin.ext (by show L.val % 64 = l.val % 64; omega)
  unfold Lay.att
  rw [e1, e2, e3, e4, e5, hsk]

/-- A chunk's output row. -/
theorem chunk_out (N : Fin 8192) (a : Fin 512) (t : Fin 4 → Fin 4 → Fin 2 → FVec Ideal S128x128 .f32)
    (ht : ∀ n p (l : Fin 128), t ⟨a.val / 128, by omega⟩ n p (ix2 ⟨a.val % 128, by omega⟩ l) = D.att N ⟨256 * n.val + 128 * p.val + l.val, by omega⟩)
    (hh : FVec Ideal S512x1024 .bf16) (hN : ∀ k, hh (ix2 a k) = D.hq N k)
    (z0 z1 : Vec Ideal S1024x512 .bf16) (hz0 : ∀ k (l : Fin 512), z0 (ix2 k l) = D.win k ⟨1024 + l.val, by omega⟩)
    (hz1 : ∀ k (l : Fin 512), z1 (ix2 k l) = D.win k ⟨1536 + l.val, by omega⟩)
    (x : Vec Ideal S1x512x512 .f32) (w : Vec Ideal S1024x512 .bf16) (o : Fin 512) (O : Fin 1024)
    (hx : x (ix3 0 a o) = D.X N O) (hw : ∀ k, w (ix2 k o) = D.wo k O) :
    outV (F := Ideal) x (gaV t (mmV hh z0) (mmV hh z1)) w (ix3 0 a o) = D.out N O := by
  rw [outV_at, hx]
  unfold Lay.out
  congr 1
  refine Finset.sum_congr rfl fun l _ => ?_
  rw [hw, gaV_at, atRow_at, ht]
  have eL : (⟨256 * (l.val / 256) + 128 * (l.val % 256 / 128) + l.val % 128, by omega⟩ : Fin 1024) = l :=
    Fin.ext (by show 256 * (l.val / 256) + 128 * (l.val % 256 / 128) + l.val % 128 = l.val; omega)
  dsimp only
  rw [eL]
  congr 2
  unfold gateRow lin
  by_cases hl : l.val < 512
  · rw [dif_pos hl, gtV_at, mmV_at]
    unfold lin
    simp only [hN, hz0]
  · rw [dif_neg hl, gtV_at, mmV_at]
    unfold lin
    simp only [hN, hz1]
    have e : (⟨1536 + (l.val - 512), by omega⟩ : Fin 2048) = ⟨1024 + l.val, by omega⟩ := Fin.ext (by show 1536 + (l.val - 512) = 1024 + l.val; omega)
    rw [e]

end Cert.YocoB

end
-- ==== Proof.B.Wins.lean ====
/-
  What the scratch of layer B holds at an index after a grid point's stores, and what its windows read.
-/
module

public import proofs.«01_k».proof.Proof.Pieces
public import Idealize.ShloMosaic.Lib.Pointwise.Index
public import proofs.«01_k».proof.Proof.B.Args

@[expose] public section

set_option maxRecDepth 16384

noncomputable section

namespace Cert.YocoB

open Idealize.ShloMosaic Cert.KernelBIdeal Cert.KernelBIdeal.Gen Cert.YocoPieces

variable {F : FTy → Type} [FloatOps F] [Named F]

/-- Stores over contents `X` read as stores over the one store of `X`. -/
theorem read_over {S : Shape} {e : EltTy} {sig : RefSig} {κ : Kind} {sp : Space} (v : View sig κ sp S e) (f : v.ty.Contents (Elt F)) (X : S.Idx → Elt F e)
    (hX : v.read (Elt F) f = X) (inb : ∀ a : Fin S.rank, 0 + S.size a ≤ S.size a) (y : S.Idx) :
    ∀ L : List (View.Piece (Elt F) S e), v.read (Elt F) (v.writes (Elt F) f L) y
      = View.canon (L ++ [(⟨Rect.unit (s := S) (fun _ => 0) S.size inb, X⟩ : View.Piece (Elt F) S e)]) y
  | [] => by
    rw [View.writes_nil, hX]
    exact (canon_hit (S := S) X [] y y (fun a => by omega)).symm
  | p :: L => by
    by_cases hy : y ∈ p.1.set
    · obtain ⟨r, w⟩ := p
      obtain ⟨x, rfl⟩ : ∃ x, r.emb x = y := r.exists_idx_of_mem hy
      rw [View.read_writes_cons_emb, List.cons_append, View.canon_cons_emb]
    · have hy' : y ∉ Finset.univ.map p.1.emb := by rwa [Rect.map_emb_univ]
      rw [View.writes_cons, View.read_slice_write_of_not_mem p.1 _ _ _ hy', List.cons_append, View.canon_cons_of_not_mem p _ hy]
      exact read_over v f X hX inb y L

/-- The contents of the value scratch as one store. -/
def wholeV (X : Vec F S4x1152x256 .bf16) : List (View.Piece (Elt F) S4x1152x256 .bf16) :=
  [⟨Rect.unit (s := S4x1152x256) (fun _ => 0) S4x1152x256.size (fun a => by omega), X⟩]

theorem wholeV_at (X : Vec F S4x1152x256 .bf16) (y : S4x1152x256.Idx) : View.canon (wholeV X) y = X y :=
  canon_hit (S := S4x1152x256) X [] y y (fun a => by omega)

theorem onesV_at (g : Fin 4) (x : Fin 1152) (l : Fin 256) (h : 128 ≤ l.val) :
    View.canon (onesV (F := F)) (ix3 g x l) = k0_pay8 (F := F) (ix3 g x ⟨l.val - 128, by omega⟩) :=
  canon_hit (S := S4x1152x256) _ [] _ (ix3 g x (⟨l.val - 128, by omega⟩ : Fin 128)) (fun a => by
    match a with
    | ⟨0, _⟩ => exact (Nat.zero_add g.val).symm
    | ⟨1, _⟩ => exact (Nat.zero_add x.val).symm
    | ⟨2, _⟩ => show l.val = 128 + (l.val - 128); omega)

/-- A load from whole contents. -/
theorem load_at {S : Shape} {e : EltTy} {sp : Space} {m : Memref sig .tc sp S e} (h : m.IsWhole) (X : S.Idx → Elt F e)
    {off size : Fin S.rank → ℕ} {inb : ∀ a, off a + size a ≤ S.size a} (j : (⟨S.rank, size⟩ : Shape).Idx) (y : S.Idx)
    (hy : ∀ a, (y a : ℕ) = off a + j a) :
    View.readAt (Elt F) m.view (Rect.unit off size inb).toLoadRect (h.unread X) j = X y := by
  rw [View.readAt_eq_ld, h.read_unread]
  exact ld_at X j y hy

section
variable (k : Fin 4 → FVec F S1x256x512 .bf16) (L : List (View.Piece (Elt F) S4x256x1152 .bf16)) (g : Fin 4) (p : Fin 256) (x : Fin 1152)

theorem LK1_skip (h : x.val < 640) : View.canon (LK1 k L) (ix3 g p x) = View.canon L (ix3 g p x) :=
  (canon_skip (S := S4x256x1152) _ _ _ 2 (Or.inl h)).trans ((canon_skip (S := S4x256x1152) _ _ _ 2 (Or.inl h)).trans
    ((canon_skip (S := S4x256x1152) _ _ _ 2 (Or.inl h)).trans (canon_skip (S := S4x256x1152) _ _ _ 2 (Or.inl h))))

theorem LK0_skip (h : x.val < 128) : View.canon (LK0 k L) (ix3 g p x) = View.canon L (ix3 g p x) :=
  (canon_skip (S := S4x256x1152) _ _ _ 2 (Or.inl h)).trans ((canon_skip (S := S4x256x1152) _ _ _ 2 (Or.inl h)).trans
    ((canon_skip (S := S4x256x1152) _ _ _ 2 (Or.inl h)).trans (canon_skip (S := S4x256x1152) _ _ _ 2 (Or.inl h))))

theorem hitK (g o : ℕ) (hg : g < 4) (inb : ∀ a : Fin 3, (![g, 0, o] : Fin 3 → ℕ) a + S1x256x512.size a ≤ S4x256x1152.size a) (w : FVec F S1x256x512 .bf16)
    (h : o ≤ x.val) (h' : x.val < o + 512) :
    View.canon ((⟨Rect.unit (s := S4x256x1152) ![g, 0, o] S1x256x512.size inb, w⟩ : View.Piece (Elt F) S4x256x1152 .bf16) :: L) (ix3 ⟨g, hg⟩ p x)
      = w (ix3 0 p ⟨x.val - o, by omega⟩) :=
  canon_hit (S := S4x256x1152) w L _ (ix3 (0 : Fin 1) p (⟨x.val - o, by omega⟩ : Fin 512)) (fun a => by
    match a with
    | ⟨0, _⟩ => exact (Nat.add_zero g).symm
    | ⟨1, _⟩ => exact (Nat.zero_add p.val).symm
    | ⟨2, _⟩ => show x.val = o + (x.val - o); omega)

theorem missK (g' o : ℕ) (hg : g' < g.val ∨ g.val < g') (inb : ∀ a : Fin 3, (![g', 0, o] : Fin 3 → ℕ) a + S1x256x512.size a ≤ S4x256x1152.size a) (w : FVec F S1x256x512 .bf16) :
    View.canon ((⟨Rect.unit (s := S4x256x1152) ![g', 0, o] S1x256x512.size inb, w⟩ : View.Piece (Elt F) S4x256x1152 .bf16) :: L) (ix3 g p x)
      = View.canon L (ix3 g p x) :=
by
  have e1 : ((ix3 g p x : S4x256x1152.Idx) (0 : Fin 3) : ℕ) = g.val := rfl
  have e2 : (![g', 0, o] : Fin 3 → ℕ) 0 = g' := rfl
  have e3 : (![g', 0, o] : Fin 3 → ℕ) 0 + S1x256x512.size 0 = g' + 1 := rfl
  rcases hg with h | h
  · exact canon_skip (S := S4x256x1152) _ _ _ (0 : Fin 3) (Or.inr (le_of_eq_of_le e3 (le_of_le_of_eq h e1.symm)))
  · exact canon_skip (S := S4x256x1152) _ _ _ (0 : Fin 3) (Or.inl (lt_of_eq_of_lt e1 (lt_of_lt_of_eq h e2.symm)))

theorem LK1_hit (h : 640 ≤ x.val) : View.canon (LK1 k L) (ix3 g p x) = k g (ix3 0 p ⟨x.val - 640, by omega⟩) := by
  unfold LK1
  match g with
  | 3 => exact hitK _ p x 3 640 _ _ _ h (by omega)
  | 2 => exact (missK _ 2 p x 3 640 (by decide) _ _).trans (hitK _ p x 2 640 _ _ _ h (by omega))
  | 1 => exact (missK _ 1 p x 3 640 (by decide) _ _).trans ((missK _ 1 p x 2 640 (by decide) _ _).trans (hitK _ p x 1 640 _ _ _ h (by omega)))
  | 0 => exact (missK _ 0 p x 3 640 (by decide) _ _).trans ((missK _ 0 p x 2 640 (by decide) _ _).trans ((missK _ 0 p x 1 640 (by decide) _ _).trans (hitK _ p x 0 640 _ _ _ h (by omega))))

theorem LK0_hit (h : 128 ≤ x.val) (h' : x.val < 640) : View.canon (LK0 k L) (ix3 g p x) = k g (ix3 0 p ⟨x.val - 128, by omega⟩) := by
  unfold LK0
  match g with
  | 3 => exact hitK _ p x 3 128 _ _ _ h (by omega)
  | 2 => exact (missK _ 2 p x 3 128 (by decide) _ _).trans (hitK _ p x 2 128 _ _ _ h (by omega))
  | 1 => exact (missK _ 1 p x 3 128 (by decide) _ _).trans ((missK _ 1 p x 2 128 (by decide) _ _).trans (hitK _ p x 1 128 _ _ _ h (by omega)))
  | 0 => exact (missK _ 0 p x 3 128 (by decide) _ _).trans ((missK _ 0 p x 2 128 (by decide) _ _).trans ((missK _ 0 p x 1 128 (by decide) _ _).trans (hitK _ p x 0 128 _ _ _ h (by omega))))

theorem baseK_at (b : FVec F S4x256x128 .bf16) (h : x.val < 128) : View.canon (baseK b) (ix3 g p x) = b (ix3 g p ⟨x.val, h⟩) :=
  canon_hit (S := S4x256x1152) (off := ![0, 0, 0]) (size := S4x256x128.size) (inb := inb_S4x256x1152_S4x256x128_0_0_0) (Val := Elt F) (e := .bf16) b [] (ix3 g p x) (ix3 g p (⟨x.val, h⟩ : Fin 128)) (fun a => by
    match a with
    | ⟨0, _⟩ => exact (Nat.zero_add g.val).symm
    | ⟨1, _⟩ => exact (Nat.zero_add p.val).symm
    | ⟨2, _⟩ => exact (Nat.zero_add x.val).symm)

/-- A window of keys. -/
theorem winK {sg : RefSig} {κ : Kind} {sp : Space} (v : View sg κ sp S4x256x1152 .bf16) (n o : ℕ) (hn : n < 4) (ho : o + 256 ≤ 1152)
    (inb : ∀ a : Fin 3, (![n, 0, o] : Fin 3 → ℕ) a + S1x256x256.size a ≤ S4x256x1152.size a) (c : Fin 256) :
    v.readCov L (Rect.unit (s := S4x256x1152) ![n, 0, o] S1x256x256.size inb).toLoadRect (ix3 0 p c) = View.canon L (ix3 ⟨n, hn⟩ p ⟨o + c.val, by omega⟩) :=
  readCov_unit (S := S4x256x1152) v L (ix3 (0 : Fin 1) p c) _ (fun a => by
    match a with
    | ⟨0, _⟩ => exact (Nat.add_zero n).symm
    | ⟨1, _⟩ => exact (Nat.zero_add p.val).symm
    | ⟨2, _⟩ => rfl)

theorem winK0 {sg : RefSig} {κ : Kind} {sp : Space} (v : View sg κ sp S4x256x1152 .bf16) (n o : ℕ) (hn : n < 4) (ho : o + 256 ≤ 640)
    (inb : ∀ a : Fin 3, (![n, 0, o] : Fin 3 → ℕ) a + S1x256x256.size a ≤ S4x256x1152.size a) (c : Fin 256) :
    v.readCov L (Rect.unit (s := S4x256x1152) ![n, 0, o] S1x256x256.size inb).toLoadRect (ix3 0 p c) = View.canon (LK1 k L) (ix3 ⟨n, hn⟩ p ⟨o + c.val, by omega⟩) :=
  (winK L p v n o hn (by omega) inb c).trans (LK1_skip k L _ p _ (by show o + c.val < 640; omega)).symm
end

section
variable (k : Fin 4 → FVec F S1x512x128 .bf16) (L : List (View.Piece (Elt F) S4x1152x256 .bf16)) (g : Fin 4) (x : Fin 1152) (l : Fin 256)

theorem LV1_skip (h : x.val < 640) : View.canon (LV1 k L) (ix3 g x l) = View.canon L (ix3 g x l) :=
  (canon_skip (S := S4x1152x256) _ _ _ 1 (Or.inl h)).trans ((canon_skip (S := S4x1152x256) _ _ _ 1 (Or.inl h)).trans
    ((canon_skip (S := S4x1152x256) _ _ _ 1 (Or.inl h)).trans (canon_skip (S := S4x1152x256) _ _ _ 1 (Or.inl h))))

theorem LV0_skip (h : x.val < 128) : View.canon (LV0 k L) (ix3 g x l) = View.canon L (ix3 g x l) :=
  (canon_skip (S := S4x1152x256) _ _ _ 1 (Or.inl h)).trans ((canon_skip (S := S4x1152x256) _ _ _ 1 (Or.inl h)).trans
    ((canon_skip (S := S4x1152x256) _ _ _ 1 (Or.inl h)).trans (canon_skip (S := S4x1152x256) _ _ _ 1 (Or.inl h))))

theorem LV1_lanes (h : 128 ≤ l.val) : View.canon (LV1 k L) (ix3 g x l) = View.canon L (ix3 g x l) :=
  (canon_skip (S := S4x1152x256) _ _ _ 2 (Or.inr h)).trans ((canon_skip (S := S4x1152x256) _ _ _ 2 (Or.inr h)).trans
    ((canon_skip (S := S4x1152x256) _ _ _ 2 (Or.inr h)).trans (canon_skip (S := S4x1152x256) _ _ _ 2 (Or.inr h))))

theorem LV0_lanes (h : 128 ≤ l.val) : View.canon (LV0 k L) (ix3 g x l) = View.canon L (ix3 g x l) :=
  (canon_skip (S := S4x1152x256) _ _ _ 2 (Or.inr h)).trans ((canon_skip (S := S4x1152x256) _ _ _ 2 (Or.inr h)).trans
    ((canon_skip (S := S4x1152x256) _ _ _ 2 (Or.inr h)).trans (canon_skip (S := S4x1152x256) _ _ _ 2 (Or.inr h))))

theorem baseV_lanes (b : FVec F S4x128x128 .bf16) (h : 128 ≤ l.val) : View.canon (baseV b L) (ix3 g x l) = View.canon L (ix3 g x l) :=
  canon_skip (S := S4x1152x256) _ _ _ 2 (Or.inr h)

theorem hitV (g o : ℕ) (hg : g < 4) (inb : ∀ a : Fin 3, (![g, o, 0] : Fin 3 → ℕ) a + S1x512x128.size a ≤ S4x1152x256.size a) (w : FVec F S1x512x128 .bf16)
    (h : o ≤ x.val) (h' : x.val < o + 512) (hl : l.val < 128) :
    View.canon ((⟨Rect.unit (s := S4x1152x256) ![g, o, 0] S1x512x128.size inb, w⟩ : View.Piece (Elt F) S4x1152x256 .bf16) :: L) (ix3 ⟨g, hg⟩ x l)
      = w (ix3 0 ⟨x.val - o, by omega⟩ ⟨l.val, hl⟩) :=
  canon_hit (S := S4x1152x256) w L _ (ix3 (0 : Fin 1) (⟨x.val - o, by omega⟩ : Fin 512) (⟨l.val, hl⟩ : Fin 128)) (fun a => by
    match a with
    | ⟨0, _⟩ => exact (Nat.add_zero g).symm
    | ⟨1, _⟩ => show x.val = o + (x.val - o); omega
    | ⟨2, _⟩ => exact (Nat.zero_add l.val).symm)

theorem missV (g' o : ℕ) (hg : g' < g.val ∨ g.val < g') (inb : ∀ a : Fin 3, (![g', o, 0] : Fin 3 → ℕ) a + S1x512x128.size a ≤ S4x1152x256.size a) (w : FVec F S1x512x128 .bf16) :
    View.canon ((⟨Rect.unit (s := S4x1152x256) ![g', o, 0] S1x512x128.size inb, w⟩ : View.Piece (Elt F) S4x1152x256 .bf16) :: L) (ix3 g x l)
      = View.canon L (ix3 g x l) :=
by
  have e1 : ((ix3 g x l : S4x1152x256.Idx) (0 : Fin 3) : ℕ) = g.val := rfl
  have e2 : (![g', o, 0] : Fin 3 → ℕ) 0 = g' := rfl
  have e3 : (![g', o, 0] : Fin 3 → ℕ) 0 + S1x512x128.size 0 = g' + 1 := rfl
  rcases hg with h | h
  · exact canon_skip (S := S4x1152x256) _ _ _ (0 : Fin 3) (Or.inr (le_of_eq_of_le e3 (le_of_le_of_eq h e1.symm)))
  · exact canon_skip (S := S4x1152x256) _ _ _ (0 : Fin 3) (Or.inl (lt_of_eq_of_lt e1 (lt_of_lt_of_eq h e2.symm)))

theorem LV1_hit (h : 640 ≤ x.val) (hl : l.val < 128) : View.canon (LV1 k L) (ix3 g x l) = k g (ix3 0 ⟨x.val - 640, by omega⟩ ⟨l.val, hl⟩) := by
  unfold LV1
  match g with
  | 3 => exact hitV _ x l 3 640 _ _ _ h (by omega) hl
  | 2 => exact (missV _ 2 x l 3 640 (by decide) _ _).trans (hitV _ x l 2 640 _ _ _ h (by omega) hl)
  | 1 => exact (missV _ 1 x l 3 640 (by decide) _ _).trans ((missV _ 1 x l 2 640 (by decide) _ _).trans (hitV _ x l 1 640 _ _ _ h (by omega) hl))
  | 0 => exact (missV _ 0 x l 3 640 (by decide) _ _).trans ((missV _ 0 x l 2 640 (by decide) _ _).trans ((missV _ 0 x l 1 640 (by decide) _ _).trans (hitV _ x l 0 640 _ _ _ h (by omega) hl)))

theorem LV0_hit (h : 128 ≤ x.val) (h' : x.val < 640) (hl : l.val < 128) : View.canon (LV0 k L) (ix3 g x l) = k g (ix3 0 ⟨x.val - 128, by omega⟩ ⟨l.val, hl⟩) := by
  unfold LV0
  match g with
  | 3 => exact hitV _ x l 3 128 _ _ _ h (by omega) hl
  | 2 => exact (missV _ 2 x l 3 128 (by decide) _ _).trans (hitV _ x l 2 128 _ _ _ h (by omega) hl)
  | 1 => exact (missV _ 1 x l 3 128 (by decide) _ _).trans ((missV _ 1 x l 2 128 (by decide) _ _).trans (hitV _ x l 1 128 _ _ _ h (by omega) hl))
  | 0 => exact (missV _ 0 x l 3 128 (by decide) _ _).trans ((missV _ 0 x l 2 128 (by decide) _ _).trans ((missV _ 0 x l 1 128 (by decide) _ _).trans (hitV _ x l 0 128 _ _ _ h (by omega) hl)))

theorem baseV_at (b : FVec F S4x128x128 .bf16) (h : x.val < 128) (hl : l.val < 128) : View.canon (baseV b L) (ix3 g x l) = b (ix3 g ⟨x.val, h⟩ ⟨l.val, hl⟩) :=
  canon_hit (S := S4x1152x256) (off := ![0, 0, 0]) (size := S4x128x128.size) (inb := inb_S4x1152x256_S4x128x128_0_0_0) (Val := Elt F) (e := .bf16) b L (ix3 g x l) (ix3 g (⟨x.val, h⟩ : Fin 128) (⟨l.val, hl⟩ : Fin 128)) (fun a => by
    match a with
    | ⟨0, _⟩ => exact (Nat.zero_add g.val).symm
    | ⟨1, _⟩ => exact (Nat.zero_add x.val).symm
    | ⟨2, _⟩ => exact (Nat.zero_add l.val).symm)

/-- A window of values. -/
theorem winV {sg : RefSig} {κ : Kind} {sp : Space} (v : View sg κ sp S4x1152x256 .bf16) (n o : ℕ) (hn : n < 4) (ho : o + 256 ≤ 1152)
    (inb : ∀ a : Fin 3, (![n, o, 0] : Fin 3 → ℕ) a + S1x256x256.size a ≤ S4x1152x256.size a) (c : Fin 256) :
    v.readCov L (Rect.unit (s := S4x1152x256) ![n, o, 0] S1x256x256.size inb).toLoadRect (ix3 0 c l) = View.canon L (ix3 ⟨n, hn⟩ ⟨o + c.val, by omega⟩ l) :=
  readCov_unit (S := S4x1152x256) v L (ix3 (0 : Fin 1) c l) _ (fun a => by
    match a with
    | ⟨0, _⟩ => exact (Nat.add_zero n).symm
    | ⟨1, _⟩ => rfl
    | ⟨2, _⟩ => exact (Nat.zero_add l.val).symm)

theorem winV0 {sg : RefSig} {κ : Kind} {sp : Space} (v : View sg κ sp S4x1152x256 .bf16) (n o : ℕ) (hn : n < 4) (ho : o + 256 ≤ 640)
    (inb : ∀ a : Fin 3, (![n, o, 0] : Fin 3 → ℕ) a + S1x256x256.size a ≤ S4x1152x256.size a) (c : Fin 256) :
    v.readCov L (Rect.unit (s := S4x1152x256) ![n, o, 0] S1x256x256.size inb).toLoadRect (ix3 0 c l) = View.canon (LV1 k L) (ix3 ⟨n, hn⟩ ⟨o + c.val, by omega⟩ l) :=
  (winV L l v n o hn (by omega) inb c).trans (LV1_skip k L _ _ l (by show o + c.val < 640; omega)).symm

/-- A window of values over earlier contents. -/
theorem winX {m : Memref sig .tc .vmem S4x1152x256 .bf16} (hm : m.IsWhole) (X : Vec F S4x1152x256 .bf16) (n o : ℕ) (hn : n < 4) (ho : o + 256 ≤ 1152)
    (inb : ∀ a : Fin 3, (![n, o, 0] : Fin 3 → ℕ) a + S1x256x256.size a ≤ S4x1152x256.size a) (c : Fin 256) :
    View.readAt (Elt F) m.view (Rect.unit (s := S4x1152x256) ![n, o, 0] S1x256x256.size inb).toLoadRect (m.view.writes (Elt F) (hm.unread X) L) (ix3 0 c l)
      = View.canon (L ++ wholeV X) (ix3 ⟨n, hn⟩ ⟨o + c.val, by omega⟩ l) := by
  refine Eq.trans ?_ (read_over m.view (hm.unread X) X (hm.read_unread X) _ _ L)
  rw [View.readAt_eq_ld]
  exact ld_at (S := S4x1152x256) _ (ix3 (0 : Fin 1) c l) _ (fun a => by
    match a with
    | ⟨0, _⟩ => exact (Nat.add_zero n).symm
    | ⟨1, _⟩ => rfl
    | ⟨2, _⟩ => exact (Nat.zero_add l.val).symm)

theorem winX0 {m : Memref sig .tc .vmem S4x1152x256 .bf16} (hm : m.IsWhole) (X : Vec F S4x1152x256 .bf16) (n o : ℕ) (hn : n < 4) (ho : o + 256 ≤ 640)
    (inb : ∀ a : Fin 3, (![n, o, 0] : Fin 3 → ℕ) a + S1x256x256.size a ≤ S4x1152x256.size a) (c : Fin 256) :
    View.readAt (Elt F) m.view (Rect.unit (s := S4x1152x256) ![n, o, 0] S1x256x256.size inb).toLoadRect (m.view.writes (Elt F) (hm.unread X) L) (ix3 0 c l)
      = View.canon (LV1 k (L ++ wholeV X)) (ix3 ⟨n, hn⟩ ⟨o + c.val, by omega⟩ l) :=
  (winX L l hm X n o hn (by omega) inb c).trans (LV1_skip k _ _ _ l (by show o + c.val < 640; omega)).symm
end

/-- A column of the packed query weights. -/
theorem LQ_at (w : Fin 4 → Vec F S1024x256 .bf16) (q : Vec F S256x256 .bf16) (k : Fin 1024) (x : Fin 1024) :
    View.canon (LQ w q) (ix2 k x) = wqV (w ⟨x.val / 256, by omega⟩) q (ix2 k ⟨x.val % 256, by omega⟩) := by
  have hit : ∀ (g : Fin 4) (o : ℕ) (inb : ∀ a : Fin 2, (![0, o] : Fin 2 → ℕ) a + S1024x256.size a ≤ S1024x1024.size a) (L : List (View.Piece (Elt F) S1024x1024 .bf16)),
      o = 256 * g.val → x.val / 256 = g.val →
      View.canon ((⟨Rect.unit (s := S1024x1024) ![0, o] S1024x256.size inb, wqV (w g) q⟩ : View.Piece (Elt F) S1024x1024 .bf16) :: L) (ix2 k x)
        = wqV (w ⟨x.val / 256, by omega⟩) q (ix2 k ⟨x.val % 256, by omega⟩) := by
    intro g o inb L ho hx
    have hg : (⟨x.val / 256, by omega⟩ : Fin 4) = g := Fin.ext hx
    rw [hg]
    exact canon_hit (S := S1024x1024) _ L _ (ix2 k (⟨x.val % 256, by omega⟩ : Fin 256)) (fun a => by
      match a with
      | ⟨0, _⟩ => exact (Nat.zero_add k.val).symm
      | ⟨1, _⟩ => show x.val = o + x.val % 256; omega)
  have miss : ∀ (o : ℕ) (inb : ∀ a : Fin 2, (![0, o] : Fin 2 → ℕ) a + S1024x256.size a ≤ S1024x1024.size a) (v : Vec F S1024x256 .bf16) (L : List (View.Piece (Elt F) S1024x1024 .bf16)),
      x.val < o →
      View.canon ((⟨Rect.unit (s := S1024x1024) ![0, o] S1024x256.size inb, v⟩ : View.Piece (Elt F) S1024x1024 .bf16) :: L) (ix2 k x) = View.canon L (ix2 k x) :=
    fun o inb v L h => canon_skip (S := S1024x1024) v L _ 1 (Or.inl h)
  unfold LQ
  by_cases h3 : 768 ≤ x.val
  · exact hit 3 768 _ _ rfl (by show x.val / 256 = 3; omega)
  · refine (miss 768 _ _ _ (by omega)).trans ?_
    by_cases h2 : 512 ≤ x.val
    · exact hit 2 512 _ _ rfl (by show x.val / 256 = 2; omega)
    · refine (miss 512 _ _ _ (by omega)).trans ?_
      by_cases h1 : 256 ≤ x.val
      · exact hit 1 256 _ _ rfl (by show x.val / 256 = 1; omega)
      · refine (miss 256 _ _ _ (by omega)).trans ?_
        exact hit 0 0 _ _ rfl (by show x.val / 256 = 0; omega)

/-- The output's stores at an index. -/
theorem LOut_at (y0 y1 : FVec F S512x1024 .bf16) (o00 o01 o10 o11 : Vec F S1x512x512 .f32) (w0 w1 : Vec F S1024x512 .bf16) (a : Fin 1024) (o : Fin 1024) :
    View.canon (LOut y0 y1 o00 o01 o10 o11 w0 w1) (ix3 0 a o)
      = outV (if a.val < 512 then (if o.val < 512 then o00 else o01) else (if o.val < 512 then o10 else o11)) (if a.val < 512 then y0 else y1)
          (if o.val < 512 then w0 else w1) (ix3 0 ⟨a.val % 512, by omega⟩ ⟨o.val % 512, by omega⟩) := by
  have hit : ∀ (p q : ℕ) (inb : ∀ a : Fin 3, (![0, p, q] : Fin 3 → ℕ) a + S1x512x512.size a ≤ S1x1024x1024.size a) (v : Vec F S1x512x512 .f32) (L : List (View.Piece (Elt F) S1x1024x1024 .f32)),
      a.val = p + a.val % 512 → o.val = q + o.val % 512 →
      View.canon ((⟨Rect.unit (s := S1x1024x1024) ![0, p, q] S1x512x512.size inb, v⟩ : View.Piece (Elt F) S1x1024x1024 .f32) :: L) (ix3 0 a o)
        = v (ix3 0 ⟨a.val % 512, by omega⟩ ⟨o.val % 512, by omega⟩) := by
    intro p q inb v L hp hq
    exact canon_hit (S := S1x1024x1024) v L _ (ix3 (0 : Fin 1) (⟨a.val % 512, by omega⟩ : Fin 512) (⟨o.val % 512, by omega⟩ : Fin 512)) (fun z => by
      match z with
      | ⟨0, _⟩ => rfl
      | ⟨1, _⟩ => exact hp
      | ⟨2, _⟩ => exact hq)
  have m1 : ∀ (p q : ℕ) (inb : ∀ a : Fin 3, (![0, p, q] : Fin 3 → ℕ) a + S1x512x512.size a ≤ S1x1024x1024.size a) (v : Vec F S1x512x512 .f32) (L : List (View.Piece (Elt F) S1x1024x1024 .f32)),
      a.val < p → View.canon ((⟨Rect.unit (s := S1x1024x1024) ![0, p, q] S1x512x512.size inb, v⟩ : View.Piece (Elt F) S1x1024x1024 .f32) :: L) (ix3 0 a o) = View.canon L (ix3 0 a o) :=
    fun p q inb v L h => canon_skip (S := S1x1024x1024) v L _ 1 (Or.inl h)
  have m2 : ∀ (p q : ℕ) (inb : ∀ a : Fin 3, (![0, p, q] : Fin 3 → ℕ) a + S1x512x512.size a ≤ S1x1024x1024.size a) (v : Vec F S1x512x512 .f32) (L : List (View.Piece (Elt F) S1x1024x1024 .f32)),
      o.val < q → View.canon ((⟨Rect.unit (s := S1x1024x1024) ![0, p, q] S1x512x512.size inb, v⟩ : View.Piece (Elt F) S1x1024x1024 .f32) :: L) (ix3 0 a o) = View.canon L (ix3 0 a o) :=
    fun p q inb v L h => canon_skip (S := S1x1024x1024) v L _ 2 (Or.inl h)
  unfold LOut
  by_cases ha : a.val < 512 <;> by_cases ho : o.val < 512
  · simp only [if_pos ha, if_pos ho]
    exact (m1 _ _ _ _ _ ha).trans ((m1 _ _ _ _ _ ha).trans ((m2 _ _ _ _ _ ho).trans (hit 0 0 _ _ _ (by omega) (by omega))))
  · simp only [if_pos ha, if_neg ho]
    exact (m1 _ _ _ _ _ ha).trans ((m1 _ _ _ _ _ ha).trans (hit 0 512 _ _ _ (by omega) (by omega)))
  · simp only [if_neg ha, if_pos ho]
    exact (m2 _ _ _ _ _ ho).trans (hit 512 0 _ _ _ (by omega) (by omega))
  · simp only [if_neg ha, if_neg ho]
    exact hit 512 512 _ _ _ (by omega) (by omega)

end Cert.YocoB

end
-- ==== Proof.B.Holds.lean ====
/-
  A grid point's arguments, in terms of the layer's formulas: what it loads of them.
-/
module

public import proofs.«01_k».proof.Proof.B.Lay
public import proofs.«01_k».proof.Proof.B.Wins

@[expose] public section

set_option maxRecDepth 16384

noncomputable section

namespace Cert.YocoB

open Idealize.ShloMosaic Cert.KernelBIdeal Cert.KernelBIdeal.Gen

/-- A grid point's arguments are the layer's, at tile `j`. -/
structure Holds (r : Args Ideal) (D : Lay) (j : Fin 8) : Prop where
  i1 : (r.i 1).val = j.val
  x0 : ∀ (a k : Fin 1024), r.x0 (ix3 0 a k) = D.X ⟨1024 * j.val + a.val, by omega⟩ k
  x1 : ∀ k : Fin 1024, r.x1 (ix2 0 k) = D.lk k
  x2 : ∀ k : Fin 1024, r.x2 (ix2 0 k) = D.lb k
  x3 : ∀ (k : Fin 1024) (o : Fin 512), r.x3 (ix2 k o) = D.wkv k o
  x4 : ∀ e : Fin 64, r.x4 (ix2 e 0) = D.kg e
  x5 : ∀ (i : Fin 2) (e : Fin 8) (a : Fin 512), r.x5 (ix3 i e a) = D.co ⟨1024 * j.val + 512 * i.val + a.val, by omega⟩ e
  x6 : ∀ (i : Fin 2) (e : Fin 8) (a : Fin 512), r.x6 (ix3 i e a) = D.si ⟨1024 * j.val + 512 * i.val + a.val, by omega⟩ e
  x7 : ∀ (k : Fin 1024) (o : Fin 2048), r.x7 (ix2 k o) = D.win k o
  x8 : ∀ c l : Fin 256, r.x8 (ix2 c l) = if c.val = l.val % 128 / 32 * 64 + (pdim l).val then 1 else 0
  x9 : ∀ l : Fin 128, r.x9 (ix2 0 l) = D.qg (pdim ⟨l.val, by omega⟩)
  x10 : ∀ l : Fin 128, r.x10 (ix2 0 l) = D.qg (pdim ⟨128 + l.val, by omega⟩)
  x11 : ∀ (a : Fin 1024) (l : Fin 128), r.x11 (ix2 a l)
    = (if l.val % 32 < 8 then D.co ⟨1024 * j.val + a.val, by omega⟩ ⟨l.val % 8, by omega⟩ else 1) * (k8 : EReal)
  x12 : ∀ (a : Fin 1024) (l : Fin 128), r.x12 (ix2 a l)
    = (if l.val % 32 < 8 then D.si ⟨1024 * j.val + a.val, by omega⟩ ⟨l.val % 8, by omega⟩ else 0) * (k8 : EReal)
  x13 : ∀ h : Fin 16, r.x13 (ix1 h) = D.sk h
  x14 : ∀ k o : Fin 1024, r.x14 (ix2 k o) = D.wo k o

variable {r : Args Ideal} {D : Lay} {j : Fin 8}

theorem ld2 {n k a b : ℕ} {e : EltTy} {sp : Space} {m : Memref sig .tc sp ⟨2, ![n, k]⟩ e} (h : m.IsWhole) (X : (⟨2, ![n, k]⟩ : Shape).Idx → Elt Ideal e)
    {o0 o1 : ℕ} {inb : ∀ x, (![o0, o1] : Fin 2 → ℕ) x + (![a, b] : Fin 2 → ℕ) x ≤ (⟨2, ![n, k]⟩ : Shape).size x} (u : Fin a) (v : Fin b) (u' : Fin n) (v' : Fin k)
    (hu : u'.val = o0 + u.val) (hv : v'.val = o1 + v.val) :
    View.readAt (Elt Ideal) m.view (Rect.unit (s := ⟨2, ![n, k]⟩) ![o0, o1] ![a, b] inb).toLoadRect (h.unread X) (ix2 u v) = X (ix2 u' v') :=
  load_at h X (ix2 u v) (ix2 u' v') (fun x => match x with
    | ⟨0, _⟩ => hu
    | ⟨1, _⟩ => hv)

theorem ld3 {n k l a b c : ℕ} {e : EltTy} {sp : Space} {m : Memref sig .tc sp ⟨3, ![n, k, l]⟩ e} (h : m.IsWhole) (X : (⟨3, ![n, k, l]⟩ : Shape).Idx → Elt Ideal e)
    {o0 o1 o2 : ℕ} {inb : ∀ x, (![o0, o1, o2] : Fin 3 → ℕ) x + (![a, b, c] : Fin 3 → ℕ) x ≤ (⟨3, ![n, k, l]⟩ : Shape).size x}
    (u : Fin a) (v : Fin b) (w : Fin c) (u' : Fin n) (v' : Fin k) (w' : Fin l)
    (hu : u'.val = o0 + u.val) (hv : v'.val = o1 + v.val) (hw : w'.val = o2 + w.val) :
    View.readAt (Elt Ideal) m.view (Rect.unit (s := ⟨3, ![n, k, l]⟩) ![o0, o1, o2] ![a, b, c] inb).toLoadRect (h.unread X) (ix3 u v w) = X (ix3 u' v' w') :=
  load_at h X (ix3 u v w) (ix3 u' v' w') (fun x => match x with
    | ⟨0, _⟩ => hu
    | ⟨1, _⟩ => hv
    | ⟨2, _⟩ => hw)

theorem cast_same (A : Vec Ideal S1024x512 .bf16) (k : Fin 1024) (l : Fin 512) :
    shapeCast S1024x512 A shapeCasts_S1024x512_S1024x512 (ix2 k l) = A (ix2 k l) := by
  pointwise []

theorem sk_at (r : Args Ideal) (o : ℕ) (ho : o < 16) (inb : ∀ a : Fin 1, (![o] : Fin 1 → ℕ) a + S1.size a ≤ S16.size a) :
    View.readAt (Elt Ideal) r.m15.view (Rect.unit (s := S16) ![o] S1.size inb).toLoadRect (Memref.IsWhole.unread r.h15 r.x13) (Shape.Idx.first one_pos_S1)
      = r.x13 (ix1 ⟨o, ho⟩) :=
  load_at (S := S16) (off := ![o]) (size := S1.size) r.h15 r.x13 (Shape.Idx.first one_pos_S1) (ix1 (⟨o, ho⟩ : Fin 16)) (fun a => by
    match a with
    | ⟨0, _⟩ =>
      have h0 : (Shape.Idx.first one_pos_S1 (0 : Fin 1)).val < 1 := (Shape.Idx.first one_pos_S1 (0 : Fin 1)).isLt
      show o = o + (Shape.Idx.first one_pos_S1 (0 : Fin 1)).val
      omega)

/-- The rows of the two chunks, as the layer counts them. -/
def rowN (j : Fin 8) (i : Fin 2) (a : Fin 512) : Fin 8192 := ⟨1024 * j.val + 512 * i.val + a.val, by omega⟩

section
variable (h : Holds r D j)
include h

theorem Holds.xc0 (a : Fin 512) (k : Fin 1024) : r.xc0 (ix3 0 a k) = D.X (rowN j 0 a) k :=
  (ld3 r.h2 r.x0 0 a k 0 ⟨a.val, by omega⟩ k rfl (by show a.val = 0 + a.val; omega) (by omega)).trans ((h.x0 _ _).trans
    (congrArg (fun n => D.X n k) (Fin.ext (by show 1024 * j.val + a.val = 1024 * j.val + 512 * 0 + a.val; omega))))
theorem Holds.xc1 (a : Fin 512) (k : Fin 1024) : r.xc1 (ix3 0 a k) = D.X (rowN j 1 a) k :=
  (ld3 r.h2 r.x0 0 a k 0 ⟨512 + a.val, by omega⟩ k rfl rfl (by omega)).trans ((h.x0 _ _).trans
    (congrArg (fun n => D.X n k) (Fin.ext (by show 1024 * j.val + (512 + a.val) = 1024 * j.val + 512 * 1 + a.val; omega))))
theorem Holds.co0 (e : Fin 8) (a : Fin 512) : r.co0 (ix3 0 e a) = D.co (rowN j 0 a) e :=
  (ld3 r.h7 r.x5 0 e a 0 e a rfl (by omega) (by omega)).trans (h.x5 _ _ _)
theorem Holds.co1 (e : Fin 8) (a : Fin 512) : r.co1 (ix3 0 e a) = D.co (rowN j 1 a) e :=
  (ld3 r.h7 r.x5 0 e a 1 e a rfl (by omega) (by omega)).trans (h.x5 _ _ _)
theorem Holds.si0 (e : Fin 8) (a : Fin 512) : r.si0 (ix3 0 e a) = D.si (rowN j 0 a) e :=
  (ld3 r.h8 r.x6 0 e a 0 e a rfl (by omega) (by omega)).trans (h.x6 _ _ _)
theorem Holds.si1 (e : Fin 8) (a : Fin 512) : r.si1 (ix3 0 e a) = D.si (rowN j 1 a) e :=
  (ld3 r.h8 r.x6 0 e a 1 e a rfl (by omega) (by omega)).trans (h.x6 _ _ _)
theorem Holds.cq0 (a : Fin 512) (l : Fin 128) : r.cq0 (ix2 a l) = (if l.val % 32 < 8 then D.co (rowN j 0 a) ⟨l.val % 8, by omega⟩ else 1) * (k8 : EReal) :=
  (ld2 r.h13 r.x11 a l ⟨a.val, by omega⟩ l (by show a.val = 0 + a.val; omega) (by omega)).trans ((h.x11 _ _).trans
    (congrArg (fun n => (if l.val % 32 < 8 then D.co n ⟨l.val % 8, by omega⟩ else 1) * (k8 : EReal)) (Fin.ext (by show 1024 * j.val + a.val = 1024 * j.val + 512 * 0 + a.val; omega))))
theorem Holds.cq1 (a : Fin 512) (l : Fin 128) : r.cq1 (ix2 a l) = (if l.val % 32 < 8 then D.co (rowN j 1 a) ⟨l.val % 8, by omega⟩ else 1) * (k8 : EReal) :=
  (ld2 r.h13 r.x11 a l ⟨512 + a.val, by omega⟩ l rfl (by omega)).trans ((h.x11 _ _).trans
    (congrArg (fun n => (if l.val % 32 < 8 then D.co n ⟨l.val % 8, by omega⟩ else 1) * (k8 : EReal)) (Fin.ext (by show 1024 * j.val + (512 + a.val) = 1024 * j.val + 512 * 1 + a.val; omega))))
theorem Holds.sq0 (a : Fin 512) (l : Fin 128) : r.sq0 (ix2 a l) = (if l.val % 32 < 8 then D.si (rowN j 0 a) ⟨l.val % 8, by omega⟩ else 0) * (k8 : EReal) :=
  (ld2 r.h14 r.x12 a l ⟨a.val, by omega⟩ l (by show a.val = 0 + a.val; omega) (by omega)).trans ((h.x12 _ _).trans
    (congrArg (fun n => (if l.val % 32 < 8 then D.si n ⟨l.val % 8, by omega⟩ else 0) * (k8 : EReal)) (Fin.ext (by show 1024 * j.val + a.val = 1024 * j.val + 512 * 0 + a.val; omega))))
theorem Holds.sq1 (a : Fin 512) (l : Fin 128) : r.sq1 (ix2 a l) = (if l.val % 32 < 8 then D.si (rowN j 1 a) ⟨l.val % 8, by omega⟩ else 0) * (k8 : EReal) :=
  (ld2 r.h14 r.x12 a l ⟨512 + a.val, by omega⟩ l rfl (by omega)).trans ((h.x12 _ _).trans
    (congrArg (fun n => (if l.val % 32 < 8 then D.si n ⟨l.val % 8, by omega⟩ else 0) * (k8 : EReal)) (Fin.ext (by show 1024 * j.val + (512 + a.val) = 1024 * j.val + 512 * 1 + a.val; omega))))
theorem Holds.lk (k : Fin 1024) : r.lk (ix2 0 k) = D.lk k := (ld2 r.h3 r.x1 0 k 0 k rfl (by omega)).trans (h.x1 k)
theorem Holds.lb (k : Fin 1024) : r.lb (ix2 0 k) = D.lb k := (ld2 r.h4 r.x2 0 k 0 k rfl (by omega)).trans (h.x2 k)
theorem Holds.wk (k : Fin 1024) (o : Fin 512) : r.wk (ix2 k o) = D.wkv k o := (ld2 r.h5 r.x3 k o k o (by omega) (by omega)).trans (h.x3 k o)
theorem Holds.kg (e : Fin 64) : r.kg (ix2 e 0) = D.kg e := (ld2 r.h6 r.x4 e 0 e 0 (by omega) rfl).trans (h.x4 e)
theorem Holds.qa (l : Fin 128) : r.qa (ix2 0 l) = D.qg (pdim ⟨l.val, by omega⟩) := (ld2 r.h11 r.x9 0 l 0 l rfl (by omega)).trans (h.x9 l)
theorem Holds.qb (l : Fin 128) : r.qb (ix2 0 l) = D.qg (pdim ⟨128 + l.val, by omega⟩) := (ld2 r.h12 r.x10 0 l 0 l rfl (by omega)).trans (h.x10 l)
theorem Holds.pm (c l : Fin 256) : r.pm (ix2 c l) = if c.val = l.val % 128 / 32 * 64 + (pdim l).val then 1 else 0 :=
  (ld2 r.h10 r.x8 c l c l (by omega) (by omega)).trans (h.x8 c l)
theorem Holds.wz0 (k : Fin 1024) (l : Fin 512) : r.wz0 (ix2 k l) = D.win k ⟨1024 + l.val, by omega⟩ :=
  (cast_same _ k l).trans ((ld2 r.h9 r.x7 k l k ⟨1024 + l.val, by omega⟩ (by omega) rfl).trans (h.x7 _ _))
theorem Holds.wz1 (k : Fin 1024) (l : Fin 512) : r.wz1 (ix2 k l) = D.win k ⟨1536 + l.val, by omega⟩ :=
  (cast_same _ k l).trans ((ld2 r.h9 r.x7 k l k ⟨1536 + l.val, by omega⟩ (by omega) rfl).trans (h.x7 _ _))
theorem Holds.wo0 (k : Fin 1024) (l : Fin 512) : r.wo0 (ix2 k l) = D.wo k ⟨l.val, by omega⟩ :=
  (ld2 r.h16 r.x14 k l k ⟨l.val, by omega⟩ (by omega) (by show l.val = 0 + l.val; omega)).trans (h.x14 _ _)
theorem Holds.wo1 (k : Fin 1024) (l : Fin 512) : r.wo1 (ix2 k l) = D.wo k ⟨512 + l.val, by omega⟩ :=
  (ld2 r.h16 r.x14 k l k ⟨512 + l.val, by omega⟩ (by omega) rfl).trans (h.x14 _ _)
theorem Holds.wi (g : Fin 4) (k : Fin 1024) (c : Fin 256) : four r.wi0 r.wi1 r.wi2 r.wi3 g (ix2 k c) = D.win k ⟨g.val * 256 + c.val, by omega⟩ :=
  match g with
  | 0 => (ld2 r.h9 r.x7 k c k ⟨0 * 256 + c.val, by omega⟩ (by omega) (by show 0 * 256 + c.val = 0 + c.val; omega)).trans (h.x7 _ _)
  | 1 => (ld2 r.h9 r.x7 k c k ⟨1 * 256 + c.val, by omega⟩ (by omega) (by show 1 * 256 + c.val = 256 + c.val; omega)).trans (h.x7 _ _)
  | 2 => (ld2 r.h9 r.x7 k c k ⟨2 * 256 + c.val, by omega⟩ (by omega) (by show 2 * 256 + c.val = 512 + c.val; omega)).trans (h.x7 _ _)
  | 3 => (ld2 r.h9 r.x7 k c k ⟨3 * 256 + c.val, by omega⟩ (by omega) (by show 3 * 256 + c.val = 768 + c.val; omega)).trans (h.x7 _ _)

theorem Holds.sk : ∀ n d : Fin 4, r.sk n d = D.sk ⟨4 * n.val + d.val, by omega⟩
  | 0, 0 => (sk_at r 0 (by decide) _).trans (h.x13 _)
  | 0, 1 => (sk_at r 1 (by decide) _).trans (h.x13 _)
  | 0, 2 => (sk_at r 2 (by decide) _).trans (h.x13 _)
  | 0, 3 => (sk_at r 3 (by decide) _).trans (h.x13 _)
  | 1, 0 => (sk_at r 4 (by decide) _).trans (h.x13 _)
  | 1, 1 => (sk_at r 5 (by decide) _).trans (h.x13 _)
  | 1, 2 => (sk_at r 6 (by decide) _).trans (h.x13 _)
  | 1, 3 => (sk_at r 7 (by decide) _).trans (h.x13 _)
  | 2, 0 => (sk_at r 8 (by decide) _).trans (h.x13 _)
  | 2, 1 => (sk_at r 9 (by decide) _).trans (h.x13 _)
  | 2, 2 => (sk_at r 10 (by decide) _).trans (h.x13 _)
  | 2, 3 => (sk_at r 11 (by decide) _).trans (h.x13 _)
  | 3, 0 => (sk_at r 12 (by decide) _).trans (h.x13 _)
  | 3, 1 => (sk_at r 13 (by decide) _).trans (h.x13 _)
  | 3, 2 => (sk_at r 14 (by decide) _).trans (h.x13 _)
  | 3, 3 => (sk_at r 15 (by decide) _).trans (h.x13 _)

theorem Holds.xkey (i q : Fin 2) (a o : Fin 512) (A O : Fin 1024) (hA : A.val = 512 * i.val + a.val) (hO : O.val = 512 * q.val + o.val) :
    r.x0 (ix3 0 A O) = D.X (rowN j i a) ⟨512 * q.val + o.val, by omega⟩ := by
  rw [h.x0]
  exact congrArg₂ D.X (Fin.ext (by show 1024 * j.val + A.val = 1024 * j.val + 512 * i.val + a.val; omega)) (Fin.ext hO)

theorem Holds.xo (a o : Fin 512) : ∀ i q : Fin 2,
    pair (pair r.xo00 r.xo01) (pair r.xo10 r.xo11) i q (ix3 0 a o) = D.X (rowN j i a) ⟨512 * q.val + o.val, by omega⟩
  | 0, 0 => (ld3 r.h2 r.x0 0 a o 0 ⟨a.val, by omega⟩ ⟨o.val, by omega⟩ rfl (by show a.val = 0 + a.val; omega) (by show o.val = 0 + o.val; omega)).trans
      (h.xkey 0 0 a o ⟨a.val, by omega⟩ ⟨o.val, by omega⟩ (by show a.val = 512 * 0 + a.val; omega) (by show o.val = 512 * 0 + o.val; omega))
  | 0, 1 => (ld3 r.h2 r.x0 0 a o 0 ⟨a.val, by omega⟩ ⟨512 + o.val, by omega⟩ rfl (by show a.val = 0 + a.val; omega) rfl).trans
      (h.xkey 0 1 a o ⟨a.val, by omega⟩ ⟨512 + o.val, by omega⟩ (by show a.val = 512 * 0 + a.val; omega) (by show 512 + o.val = 512 * 1 + o.val; omega))
  | 1, 0 => (ld3 r.h2 r.x0 0 a o 0 ⟨512 + a.val, by omega⟩ ⟨o.val, by omega⟩ rfl rfl (by show o.val = 0 + o.val; omega)).trans
      (h.xkey 1 0 a o ⟨512 + a.val, by omega⟩ ⟨o.val, by omega⟩ (by show 512 + a.val = 512 * 1 + a.val; omega) (by show o.val = 512 * 0 + o.val; omega))
  | 1, 1 => (ld3 r.h2 r.x0 0 a o 0 ⟨512 + a.val, by omega⟩ ⟨512 + o.val, by omega⟩ rfl rfl rfl).trans
      (h.xkey 1 1 a o ⟨512 + a.val, by omega⟩ ⟨512 + o.val, by omega⟩ (by show 512 + a.val = 512 * 1 + a.val; omega) (by show 512 + o.val = 512 * 1 + o.val; omega))

/-- The packed columns of the queries' weights. -/
theorem Holds.lq (k x : Fin 1024) : View.canon r.lq (ix2 k x) = D.win k (qsrc x) := by
  unfold Args.lq
  rw [LQ_at, wqV_at]
  have hs : x.val % 256 % 128 / 32 * 64 + (pdim ⟨x.val % 256, by omega⟩).val < 256 := by omega
  rw [Finset.sum_eq_single (⟨x.val % 256 % 128 / 32 * 64 + (pdim ⟨x.val % 256, by omega⟩).val, hs⟩ : Fin 256)]
  · rw [h.wi, h.pm, if_pos rfl, mul_one]
    exact congrArg _ (Fin.ext (by unfold qsrc; show x.val / 256 * 256 + (x.val % 256 % 128 / 32 * 64 + (pdim ⟨x.val % 256, by omega⟩).val) = x.val / 256 * 256 + x.val % 256 % 128 / 32 * 64 + (pdim ⟨x.val % 256, by omega⟩).val; omega))
  · intro c _ hc
    rw [h.pm, if_neg (fun e => hc (Fin.ext e)), mul_zero]
  · intro h'; exact absurd (Finset.mem_univ _) h'

end

end Cert.YocoB

end
-- ==== Proof.B.Point.lean ====
/-
  What a grid point leaves in its keys and values, and its attention and output, in the layer's formulas.
-/
module

public import proofs.«01_k».proof.Proof.B.Holds

@[expose] public section

set_option maxRecDepth 16384

noncomputable section

namespace Cert.YocoB

open Idealize.ShloMosaic Cert.KernelBIdeal Cert.KernelBIdeal.Gen

/-- The keys hold tile `j`'s rows. -/
def KOk (D : Lay) (j : Fin 8) (s : Vec Ideal S4x256x1152 .bf16) : Prop :=
  ∀ (g : Fin 4) (p : Fin 256) (x : Fin 1152), s (ix3 g p x) = scrRow (D.keys g) j x (pdim p)
/-- The values hold tile `j`'s rows, and ones beside them. -/
def VOk (D : Lay) (j : Fin 8) (s : Vec Ideal S4x1152x256 .bf16) : Prop :=
  ∀ (g : Fin 4) (x : Fin 1152) (l : Fin 256), s (ix3 g x l) = if l.val < 128 then scrRow (D.vals g) j x ⟨l.val % 64, by omega⟩ else 1
/-- The weights hold the packed columns. -/
def QOk (D : Lay) (s : Vec Ideal S1024x1024 .bf16) : Prop := ∀ k x : Fin 1024, s (ix2 k x) = D.win k (qsrc x)

theorem cols_k0 (kv : FVec Ideal S512x512 .f32) (e : Fin 64) (c : Fin 512) :
    extractStridedSlice S64x512 ![0, 0] (transpose S256x512 [1, 0] (extractStridedSlice S512x256 ![0, 0] kv slices_S512x512_o0_0_S512x256) transposes_S512x256_p1_0_S256x512) slices_S256x512_o0_0_S64x512 (ix2 e c)
      = kv (ix2 c ⟨e.val, by omega⟩) := by
  pointwise []
theorem cols_k1 (kv : FVec Ideal S512x512 .f32) (e : Fin 64) (c : Fin 512) :
    extractStridedSlice S64x512 ![64, 0] (transpose S256x512 [1, 0] (extractStridedSlice S512x256 ![0, 0] kv slices_S512x512_o0_0_S512x256) transposes_S512x256_p1_0_S256x512) slices_S256x512_o64_0_S64x512 (ix2 e c)
      = kv (ix2 c ⟨64 + e.val, by omega⟩) := by
  pointwise []
theorem cols_k2 (kv : FVec Ideal S512x512 .f32) (e : Fin 64) (c : Fin 512) :
    extractStridedSlice S64x512 ![128, 0] (transpose S256x512 [1, 0] (extractStridedSlice S512x256 ![0, 0] kv slices_S512x512_o0_0_S512x256) transposes_S512x256_p1_0_S256x512) slices_S256x512_o128_0_S64x512 (ix2 e c)
      = kv (ix2 c ⟨128 + e.val, by omega⟩) := by
  pointwise []
theorem cols_k3 (kv : FVec Ideal S512x512 .f32) (e : Fin 64) (c : Fin 512) :
    extractStridedSlice S64x512 ![192, 0] (transpose S256x512 [1, 0] (extractStridedSlice S512x256 ![0, 0] kv slices_S512x512_o0_0_S512x256) transposes_S512x256_p1_0_S256x512) slices_S256x512_o192_0_S64x512 (ix2 e c)
      = kv (ix2 c ⟨192 + e.val, by omega⟩) := by
  pointwise []
theorem cols_v0 (kv : FVec Ideal S512x512 .f32) (c : Fin 512) (o : Fin 128) :
    extractStridedSlice S512x128 ![0, 256] kv slices_S512x512_o0_256_S512x128 (ix2 c o) = kv (ix2 c ⟨256 + o.val, by omega⟩) := by
  pointwise []
theorem cols_v1 (kv : FVec Ideal S512x512 .f32) (c : Fin 512) (o : Fin 128) :
    extractStridedSlice S512x128 ![0, 384] kv slices_S512x512_o0_384_S512x128 (ix2 c o) = kv (ix2 c ⟨384 + o.val, by omega⟩) := by
  pointwise []

/-- A chunk's keys of one head, from the products. -/
theorem key_of (A : FVec Ideal S64x512 .f32) (kg : Vec Ideal S64x1 .f32) (co si : Vec Ideal S1x8x512 .f32) (c : Fin 512) (p : Fin 256)
    (C S : Fin 8 → EReal) (T G : Fin 64 → EReal) (hA : ∀ e, A (ix2 e c) = T e) (hG : ∀ e, kg (ix2 e 0) = G e)
    (hC : ∀ e, co (ix3 0 e c) = C e) (hS : ∀ e, si (ix3 0 e c) = S e) :
    ktV (F := Ideal) (khV A kg) co si (ix3 0 p c) = rope C S (unit64 T G) (pdim p) := by
  rw [ktV_at]
  simp only [khV_at, hA, hG, hC, hS]

theorem ktG_at (kv : FVec Ideal S512x512 .f32) (kg : Vec Ideal S64x1 .f32) (co si : Vec Ideal S1x8x512 .f32) (c : Fin 512) (p : Fin 256)
    (C S : Fin 8 → EReal) (H : Fin 1024 → EReal) (W : Fin 1024 → Fin 512 → EReal) (G : Fin 64 → EReal)
    (hk : ∀ o, kv (ix2 c o) = lin H W o) (hG : ∀ e, kg (ix2 e 0) = G e)
    (hC : ∀ e, co (ix3 0 e c) = C e) (hS : ∀ e, si (ix3 0 e c) = S e) : ∀ g : Fin 4,
    ktG (F := Ideal) kv kg co si g (ix3 0 p c) = keyRow C S H W G g (pdim p)
  | 0 => key_of _ kg co si c p C S _ G (fun e => (cols_k0 kv e c).trans ((hk _).trans (congrArg (lin H W) (Fin.ext (by show e.val = 0 * 64 + e.val; omega))))) hG hC hS
  | 1 => key_of _ kg co si c p C S _ G (fun e => (cols_k1 kv e c).trans ((hk _).trans (congrArg (lin H W) (Fin.ext (by show 64 + e.val = 1 * 64 + e.val; omega))))) hG hC hS
  | 2 => key_of _ kg co si c p C S _ G (fun e => (cols_k2 kv e c).trans ((hk _).trans (congrArg (lin H W) (Fin.ext (by show 128 + e.val = 2 * 64 + e.val; omega))))) hG hC hS
  | 3 => key_of _ kg co si c p C S _ G (fun e => (cols_k3 kv e c).trans ((hk _).trans (congrArg (lin H W) (Fin.ext (by show 192 + e.val = 3 * 64 + e.val; omega))))) hG hC hS

theorem vG_at (kv : FVec Ideal S512x512 .f32) (c : Fin 512) (l : Fin 128) (H : Fin 1024 → EReal) (W : Fin 1024 → Fin 512 → EReal)
    (hk : ∀ o, kv (ix2 c o) = lin H W o) : ∀ g : Fin 4,
    vG (F := Ideal) kv g (ix3 0 c l) = valRow H W g ⟨l.val % 64, by omega⟩
  | 0 => (veV_at _ c l).trans ((cols_v0 kv c _).trans ((hk _).trans (congrArg (lin H W) (Fin.ext (by show 256 + l.val % 64 = 256 + (0 * 64 + l.val % 64); omega)))))
  | 1 => (voV_at _ c l).trans ((cols_v0 kv c _).trans ((hk _).trans (congrArg (lin H W) (Fin.ext (by show 256 + (64 + l.val % 64) = 256 + (1 * 64 + l.val % 64); omega)))))
  | 2 => (veV_at _ c l).trans ((cols_v1 kv c _).trans ((hk _).trans (congrArg (lin H W) (Fin.ext (by show 384 + l.val % 64 = 256 + (2 * 64 + l.val % 64); omega)))))
  | 3 => (voV_at _ c l).trans ((cols_v1 kv c _).trans ((hk _).trans (congrArg (lin H W) (Fin.ext (by show 384 + (64 + l.val % 64) = 256 + (3 * 64 + l.val % 64); omega)))))

/-- A tile's own rows. -/
theorem scr_own (f : Fin 8192 → Fin 64 → EReal) (j : Fin 8) (x : Fin 1152) (i : Fin 2) (a : Fin 512) (hx : x.val = 128 + 512 * i.val + a.val) (e : Fin 64) :
    scrRow f j x e = f (rowN j i a) e := by
  unfold scrRow
  rw [dif_neg (by omega)]
  exact congrArg (fun n => f n e) (Fin.ext (by show 1024 * j.val + (x.val - 128) = 1024 * j.val + 512 * i.val + a.val; omega))

section
variable {r : Args Ideal} {D : Lay} {j : Fin 8} (h : Holds r D j)
include h

theorem Holds.hk0 (a : Fin 512) (k : Fin 1024) : hV r.xc0 r.lk (ix2 a k) = D.hk (rowN j 0 a) k := by
  rw [hV_at]; unfold Lay.hk; simp only [h.xc0, h.lk]
theorem Holds.hk1 (a : Fin 512) (k : Fin 1024) : hV r.xc1 r.lk (ix2 a k) = D.hk (rowN j 1 a) k := by
  rw [hV_at]; unfold Lay.hk; simp only [h.xc1, h.lk]
theorem Holds.hq0 (a : Fin 512) (k : Fin 1024) : hV r.xc0 r.lb (ix2 a k) = D.hq (rowN j 0 a) k := by
  rw [hV_at]; unfold Lay.hq; simp only [h.xc0, h.lb]
theorem Holds.hq1 (a : Fin 512) (k : Fin 1024) : hV r.xc1 r.lb (ix2 a k) = D.hq (rowN j 1 a) k := by
  rw [hV_at]; unfold Lay.hq; simp only [h.xc1, h.lb]
theorem Holds.kv0 (a o : Fin 512) : r.kv0 (ix2 a o) = lin (D.hk (rowN j 0 a)) D.wkv o := by
  unfold Args.kv0; rw [kvV_at]; unfold lin; simp only [h.hk0, h.wk]
theorem Holds.kv1 (a o : Fin 512) : r.kv1 (ix2 a o) = lin (D.hk (rowN j 1 a)) D.wkv o := by
  unfold Args.kv1; rw [kvV_at]; unfold lin; simp only [h.hk1, h.wk]

theorem Holds.keys (base : Vec Ideal S4x256x128 .bf16)
    (hb : ∀ (g : Fin 4) (p : Fin 256) (x : Fin 128), base (ix3 g p x) = scrRow (D.keys g) j ⟨x.val, by omega⟩ (pdim p)) :
    KOk D j (View.canon (r.lk1 base)) := by
  intro g p x
  unfold Args.lk1 Args.lk0
  by_cases h1 : 640 ≤ x.val
  · rw [LK1_hit _ _ _ _ _ h1, scr_own _ j x 1 ⟨x.val - 640, by omega⟩ (by show x.val = 128 + 512 * 1 + (x.val - 640); omega)]
    exact ktG_at _ _ _ _ _ p _ _ _ _ _ (h.kv1 _) h.kg (fun e => h.co1 e _) (fun e => h.si1 e _) g
  · rw [LK1_skip _ _ _ _ _ (by omega)]
    by_cases h2 : 128 ≤ x.val
    · rw [LK0_hit _ _ _ _ _ h2 (by omega), scr_own _ j x 0 ⟨x.val - 128, by omega⟩ (by show x.val = 128 + 512 * 0 + (x.val - 128); omega)]
      exact ktG_at _ _ _ _ _ p _ _ _ _ _ (h.kv0 _) h.kg (fun e => h.co0 e _) (fun e => h.si0 e _) g
    · rw [LK0_skip _ _ _ _ _ (by omega), baseK_at _ _ _ _ (by omega)]
      exact hb g p ⟨x.val, by omega⟩

theorem Holds.vals (base : Vec Ideal S4x128x128 .bf16) (L : List (View.Piece (Elt Ideal) S4x1152x256 .bf16))
    (hb : ∀ (g : Fin 4) (x l : Fin 128), base (ix3 g x l) = scrRow (D.vals g) j ⟨x.val, by omega⟩ ⟨l.val % 64, by omega⟩)
    (hL : ∀ (g : Fin 4) (x : Fin 1152) (l : Fin 256), 128 ≤ l.val → View.canon L (ix3 g x l) = 1) :
    VOk D j (View.canon (r.lv1 base L)) := by
  intro g x l
  unfold Args.lv1 Args.lv0
  by_cases hl : l.val < 128
  · rw [if_pos hl]
    by_cases h1 : 640 ≤ x.val
    · rw [LV1_hit _ _ _ _ _ h1 hl, scr_own _ j x 1 ⟨x.val - 640, by omega⟩ (by show x.val = 128 + 512 * 1 + (x.val - 640); omega)]
      exact vG_at _ _ _ _ _ (h.kv1 _) g
    · rw [LV1_skip _ _ _ _ _ (by omega)]
      by_cases h2 : 128 ≤ x.val
      · rw [LV0_hit _ _ _ _ _ h2 (by omega) hl, scr_own _ j x 0 ⟨x.val - 128, by omega⟩ (by show x.val = 128 + 512 * 0 + (x.val - 128); omega)]
        exact vG_at _ _ _ _ _ (h.kv0 _) g
      · rw [LV0_skip _ _ _ _ _ (by omega), baseV_at _ _ _ _ _ (by omega) hl]
        exact hb g ⟨x.val, by omega⟩ ⟨l.val, hl⟩
  · rw [if_neg hl, LV1_lanes _ _ _ _ _ (by omega), LV0_lanes _ _ _ _ _ (by omega), baseV_lanes _ _ _ _ _ (by omega)]
    exact hL g x l (by omega)

variable (hf : D.Fine)
include hf

theorem Holds.que0 (ws0 ws1 : Vec Ideal S1024x512 .bf16)
    (hw0 : ∀ k (x : Fin 512), ws0 (ix2 k x) = D.win k (qsrc ⟨x.val, by omega⟩))
    (hw1 : ∀ k (x : Fin 512), ws1 (ix2 k x) = D.win k (qsrc ⟨512 + x.val, by omega⟩)) (g : Fin 4) (a : Fin 512) (d : Fin 4) (e : Fin 64) :
    queV (F := Ideal) (hV r.xc0 r.lb) ws0 ws1 r.cq0 r.sq0 r.qa r.qb g (ix2 a (pcol d e)) = D.qrys ⟨4 * g.val + d.val, by omega⟩ (rowN j 0 a) e * (k8 : EReal) := by
  have e1 : (fun k => hV r.xc0 r.lb (ix2 a k)) = D.hq (rowN j 0 a) := funext fun k => h.hq0 a k
  have e2 := queV_of a D.qg (D.co (rowN j 0 a)) (D.si (rowN j 0 a)) hf.qg (hf.co _) (hf.si _) (hV r.xc0 r.lb) ws0 ws1 r.cq0 r.sq0 r.qa r.qb D.win
    hw0 hw1 (fun l => h.cq0 a l) (fun l => h.sq0 a l) h.qa h.qb g d e
  rw [e1] at e2
  exact e2

theorem Holds.que1 (ws0 ws1 : Vec Ideal S1024x512 .bf16)
    (hw0 : ∀ k (x : Fin 512), ws0 (ix2 k x) = D.win k (qsrc ⟨x.val, by omega⟩))
    (hw1 : ∀ k (x : Fin 512), ws1 (ix2 k x) = D.win k (qsrc ⟨512 + x.val, by omega⟩)) (g : Fin 4) (a : Fin 512) (d : Fin 4) (e : Fin 64) :
    queV (F := Ideal) (hV r.xc1 r.lb) ws0 ws1 r.cq1 r.sq1 r.qa r.qb g (ix2 a (pcol d e)) = D.qrys ⟨4 * g.val + d.val, by omega⟩ (rowN j 1 a) e * (k8 : EReal) := by
  have e1 : (fun k => hV r.xc1 r.lb (ix2 a k)) = D.hq (rowN j 1 a) := funext fun k => h.hq1 a k
  have e2 := queV_of a D.qg (D.co (rowN j 1 a)) (D.si (rowN j 1 a)) hf.qg (hf.co _) (hf.si _) (hV r.xc1 r.lb) ws0 ws1 r.cq1 r.sq1 r.qa r.qb D.win
    hw0 hw1 (fun l => h.cq1 a l) (fun l => h.sq1 a l) h.qa h.qb g d e
  rw [e1] at e2
  exact e2

/-- A chunk's attention. -/
theorem Holds.chunk (i : Fin 2) (t : Fin 4 → Fin 4 → Fin 2 → FVec Ideal S128x128 .f32) (q : Fin 4 → FVec Ideal S512x256 .bf16)
    (kw vw : Fin 4 → Fin 4 → Vec Ideal S1x256x256 .bf16) (cut : Fin 4 → FVec Ideal S128x128 .f32 → FVec Ideal S128x128 .f32)
    (ht : ∀ b n p, t b n p = atTile (rowsV (q n) b) (kw b n) (vw b n) (cut b) (r.sk n) p)
    (hq : ∀ (n : Fin 4) (a : Fin 512) (d : Fin 4) (e : Fin 64), q n (ix2 a (pcol d e)) = D.qrys ⟨4 * n.val + d.val, by omega⟩ (rowN j i a) e * (k8 : EReal))
    (hk : ∀ (b n : Fin 4) (p c : Fin 256), kw b n (ix3 0 p c) = scrRow (D.keys n) j ⟨512 * i.val + 128 * b.val + c.val, by omega⟩ (pdim p))
    (hv : ∀ (b n : Fin 4) (c l : Fin 256), vw b n (ix3 0 c l)
      = if l.val < 128 then scrRow (D.vals n) j ⟨512 * i.val + 128 * b.val + c.val, by omega⟩ ⟨l.val % 64, by omega⟩ else 1)
    (hcut : ∀ (b : Fin 4) (s : FVec Ideal S128x128 .f32) (a c : Fin 128), cut b s (ix2 a c) = if 8 * j.val + 4 * i.val + b.val = 0 then ⊥ else s (ix2 a c))
    (a : Fin 512) (n : Fin 4) (p : Fin 2) (l : Fin 128) :
    t ⟨a.val / 128, by omega⟩ n p (ix2 ⟨a.val % 128, by omega⟩ l) = D.att (rowN j i a) ⟨256 * n.val + 128 * p.val + l.val, by omega⟩ := by
  rw [ht]
  have hb : ∀ b : Fin 4, 8 * j.val + 4 * i.val + b.val < 64 := fun b => by omega
  have e := tile_att D hf ⟨8 * j.val + 4 * i.val + a.val / 128, by omega⟩ ⟨a.val / 128, by omega⟩ n
    (fun u => ⟨128 * (8 * j.val + 4 * i.val + a.val / 128) + u.val, by omega⟩) (fun u => rfl) (q n) (kw ⟨a.val / 128, by omega⟩ n) (vw ⟨a.val / 128, by omega⟩ n)
    (cut ⟨a.val / 128, by omega⟩) (r.sk n)
    (fun u d e => (hq n _ d e).trans (congrArg (fun z => D.qrys ⟨4 * n.val + d.val, by omega⟩ z e * (k8 : EReal))
      (Fin.ext (by show 1024 * j.val + 512 * i.val + (128 * (a.val / 128) + u.val) = 128 * (8 * j.val + 4 * i.val + a.val / 128) + u.val; omega))))
    (fun p c => (hk _ n p c).trans (band_scr (D.keys n) j ⟨8 * j.val + 4 * i.val + a.val / 128, by omega⟩ (4 * i.val + a.val / 128) (by show 8 * j.val + 4 * i.val + a.val / 128 = 8 * j.val + (4 * i.val + a.val / 128); omega) (by omega) c _
      (by show 512 * i.val + 128 * (a.val / 128) + c.val = 128 * (4 * i.val + a.val / 128) + c.val; omega) _))
    (fun c l => (hv _ n c l).trans (by
      rw [band_scr (D.vals n) j ⟨8 * j.val + 4 * i.val + a.val / 128, by omega⟩ (4 * i.val + a.val / 128) (by show 8 * j.val + 4 * i.val + a.val / 128 = 8 * j.val + (4 * i.val + a.val / 128); omega) (by omega) c _
        (by show 512 * i.val + 128 * (a.val / 128) + c.val = 128 * (4 * i.val + a.val / 128) + c.val; omega)]))
    (fun s u c => hcut _ s u c) (fun d => h.sk n d) p ⟨a.val % 128, by omega⟩ l ⟨256 * n.val + 128 * p.val + l.val, by omega⟩ rfl
  refine e.trans (congrArg (fun z => D.att z _) (Fin.ext ?_))
  show 128 * (8 * j.val + 4 * i.val + a.val / 128) + a.val % 128 = 1024 * j.val + 512 * i.val + a.val
  omega

omit hf in
/-- A grid point's output, from its two chunks' attention. -/
theorem Holds.out (t0 t1 : Fin 4 → Fin 4 → Fin 2 → FVec Ideal S128x128 .f32)
    (h0 : ∀ (a : Fin 512) (n : Fin 4) (p : Fin 2) (l : Fin 128), t0 ⟨a.val / 128, by omega⟩ n p (ix2 ⟨a.val % 128, by omega⟩ l) = D.att (rowN j 0 a) ⟨256 * n.val + 128 * p.val + l.val, by omega⟩)
    (h1 : ∀ (a : Fin 512) (n : Fin 4) (p : Fin 2) (l : Fin 128), t1 ⟨a.val / 128, by omega⟩ n p (ix2 ⟨a.val % 128, by omega⟩ l) = D.att (rowN j 1 a) ⟨256 * n.val + 128 * p.val + l.val, by omega⟩)
    (a o : Fin 1024) :
    View.canon (LOut (F := Ideal) (gaV t0 (mmV (hV r.xc0 r.lb) r.wz0) (mmV (hV r.xc0 r.lb) r.wz1)) (gaV t1 (mmV (hV r.xc1 r.lb) r.wz0) (mmV (hV r.xc1 r.lb) r.wz1))
      r.xo00 r.xo01 r.xo10 r.xo11 r.wo0 r.wo1) (ix3 0 a o) = D.out ⟨1024 * j.val + a.val, by omega⟩ o := by
  rw [LOut_at]
  have hx := h.xo ⟨a.val % 512, by omega⟩ ⟨o.val % 512, by omega⟩
  by_cases ha : a.val < 512 <;> by_cases ho : o.val < 512
  · rw [if_pos ha, if_pos ha, if_pos ho, if_pos ho]
    have eN : rowN j 0 ⟨a.val % 512, by omega⟩ = ⟨1024 * j.val + a.val, by omega⟩ := Fin.ext (by show 1024 * j.val + 512 * 0 + a.val % 512 = 1024 * j.val + a.val; omega)
    have eO : (⟨o.val % 512, by omega⟩ : Fin 1024) = o := Fin.ext (by show o.val % 512 = o.val; omega)
    rw [← eN]
    refine chunk_out D _ _ t0 (fun n p l => h0 _ n p l) _ (fun k => h.hq0 _ k) _ _ h.wz0 h.wz1 _ _ _ o ((hx 0 0).trans (congrArg _ (Fin.ext ?_))) (fun k => (h.wo0 k _).trans (congrArg _ eO))
    show 512 * 0 + o.val % 512 = o.val; omega
  · rw [if_pos ha, if_pos ha, if_neg ho, if_neg ho]
    have eN : rowN j 0 ⟨a.val % 512, by omega⟩ = ⟨1024 * j.val + a.val, by omega⟩ := Fin.ext (by show 1024 * j.val + 512 * 0 + a.val % 512 = 1024 * j.val + a.val; omega)
    have eO : (⟨512 + o.val % 512, by omega⟩ : Fin 1024) = o := Fin.ext (by show 512 + o.val % 512 = o.val; omega)
    rw [← eN]
    refine chunk_out D _ _ t0 (fun n p l => h0 _ n p l) _ (fun k => h.hq0 _ k) _ _ h.wz0 h.wz1 _ _ _ o ((hx 0 1).trans (congrArg _ (Fin.ext ?_))) (fun k => (h.wo1 k _).trans (congrArg _ eO))
    show 512 * 1 + o.val % 512 = o.val; omega
  · rw [if_neg ha, if_neg ha, if_pos ho, if_pos ho]
    have eN : rowN j 1 ⟨a.val % 512, by omega⟩ = ⟨1024 * j.val + a.val, by omega⟩ := Fin.ext (by show 1024 * j.val + 512 * 1 + a.val % 512 = 1024 * j.val + a.val; omega)
    have eO : (⟨o.val % 512, by omega⟩ : Fin 1024) = o := Fin.ext (by show o.val % 512 = o.val; omega)
    rw [← eN]
    refine chunk_out D _ _ t1 (fun n p l => h1 _ n p l) _ (fun k => h.hq1 _ k) _ _ h.wz0 h.wz1 _ _ _ o ((hx 1 0).trans (congrArg _ (Fin.ext ?_))) (fun k => (h.wo0 k _).trans (congrArg _ eO))
    show 512 * 0 + o.val % 512 = o.val; omega
  · rw [if_neg ha, if_neg ha, if_neg ho, if_neg ho]
    have eN : rowN j 1 ⟨a.val % 512, by omega⟩ = ⟨1024 * j.val + a.val, by omega⟩ := Fin.ext (by show 1024 * j.val + 512 * 1 + a.val % 512 = 1024 * j.val + a.val; omega)
    have eO : (⟨512 + o.val % 512, by omega⟩ : Fin 1024) = o := Fin.ext (by show 512 + o.val % 512 = o.val; omega)
    rw [← eN]
    refine chunk_out D _ _ t1 (fun n p l => h1 _ n p l) _ (fun k => h.hq1 _ k) _ _ h.wz0 h.wz1 _ _ _ o ((hx 1 1).trans (congrArg _ (Fin.ext ?_))) (fun k => (h.wo1 k _).trans (congrArg _ eO))
    show 512 * 1 + o.val % 512 = o.val; omega

end

/-- The cut on the first block of a sequence. -/
theorem cut_flag : ∀ j : Fin 8, (Scalar.cmpi .eq (BitVec.ofNat 32 j.val) 0#32 = 1#1) ↔ j.val = 0 := by decide

theorem cut0_at (r : Args Ideal) (D : Lay) (j : Fin 8) (h : Holds r D j) (s : FVec Ideal S128x128 .f32) (a c : Fin 128) : ∀ b : Fin 4,
    (four (cutV (Scalar.cmpi .eq (BitVec.ofNat 32 (r.i 1)) 0#32)) id id id : Fin 4 → FVec Ideal S128x128 .f32 → FVec Ideal S128x128 .f32) b s (ix2 a c)
      = if 8 * j.val + 4 * (0 : Fin 2).val + b.val = 0 then ⊥ else s (ix2 a c)
  | 0 => (cutV_at _ s a c).trans (by
      rw [h.i1]
      by_cases hj : j.val = 0
      · rw [if_pos ((cut_flag j).mpr hj)]; exact (if_pos (show 8 * j.val + 4 * 0 + 0 = 0 by omega)).symm
      · rw [if_neg (fun e => hj ((cut_flag j).mp e))]; exact (if_neg (show ¬8 * j.val + 4 * 0 + 0 = 0 by omega)).symm)
  | 1 => (if_neg (show ¬8 * j.val + 4 * 0 + 1 = 0 by omega)).symm
  | 2 => (if_neg (show ¬8 * j.val + 4 * 0 + 2 = 0 by omega)).symm
  | 3 => (if_neg (show ¬8 * j.val + 4 * 0 + 3 = 0 by omega)).symm

theorem cut1_at (j : Fin 8) (s : FVec Ideal S128x128 .f32) (a c : Fin 128) : ∀ b : Fin 4,
    (four id id id id : Fin 4 → FVec Ideal S128x128 .f32 → FVec Ideal S128x128 .f32) b s (ix2 a c)
      = if 8 * j.val + 4 * (1 : Fin 2).val + b.val = 0 then ⊥ else s (ix2 a c)
  | 0 => (if_neg (show ¬8 * j.val + 4 * 1 + 0 = 0 by omega)).symm
  | 1 => (if_neg (show ¬8 * j.val + 4 * 1 + 1 = 0 by omega)).symm
  | 2 => (if_neg (show ¬8 * j.val + 4 * 1 + 2 = 0 by omega)).symm
  | 3 => (if_neg (show ¬8 * j.val + 4 * 1 + 3 = 0 by omega)).symm

end Cert.YocoB

end
-- ==== Proof.B.WordsA.lean ====
/-
  The words of the run of a grid point, the first of all: queries, windows and the attention of every block.
-/
module

public import proofs.«01_k».proof.Proof.Gen.KernelBIdeal.Frame.RunA
public import proofs.«01_k».proof.Proof.B.Args

@[expose] public section

set_option maxRecDepth 16384

noncomputable section

namespace Cert.YocoB

open Idealize.ShloMosaic Cert.KernelBIdeal Cert.KernelBIdeal.Gen

variable {F : FTy → Type} [FloatOps F] [Named F] (r : Args F)

/-- The queries of the four groups. -/
def qA0 : Fin 4 → FVec F S512x256 .bf16 := four (kernelRun0_A.sl.v324 r.c r.m2 r.h2 r.m4 r.h4 r.m9 r.h9 r.m10 r.h10 r.m11 r.h11 r.m12 r.h12 r.m13 r.h13 r.m14 r.h14 r.m20 r.x0 r.x2 r.x7 r.x8 r.x9 r.x10 r.x11 r.x12) (kernelRun0_A.sl.v379 r.c r.m2 r.h2 r.m4 r.h4 r.m9 r.h9 r.m10 r.h10 r.m11 r.h11 r.m12 r.h12 r.m13 r.h13 r.m14 r.h14 r.m20 r.x0 r.x2 r.x7 r.x8 r.x9 r.x10 r.x11 r.x12) (kernelRun0_A.sl.v440 r.c r.m2 r.h2 r.m4 r.h4 r.m9 r.h9 r.m10 r.h10 r.m11 r.h11 r.m12 r.h12 r.m13 r.h13 r.m14 r.h14 r.m20 r.x0 r.x2 r.x7 r.x8 r.x9 r.x10 r.x11 r.x12) (kernelRun0_A.sl.v495 r.c r.m2 r.h2 r.m4 r.h4 r.m9 r.h9 r.m10 r.h10 r.m11 r.h11 r.m12 r.h12 r.m13 r.h13 r.m14 r.h14 r.m20 r.x0 r.x2 r.x7 r.x8 r.x9 r.x10 r.x11 r.x12)

/-- The windows of keys, by query block and group. -/
def kA0 : Fin 4 → Fin 4 → Vec F S1x256x256 .bf16 :=
  four (four (kernelRun0_A.sl.v528 r.c r.m2 r.h2 r.m3 r.h3 r.m5 r.h5 r.m6 r.h6 r.m7 r.h7 r.m8 r.h8 r.m18 r.x0 r.x1 r.x3 r.x4 r.x5 r.x6) (kernelRun0_A.sl.v541 r.c r.m2 r.h2 r.m3 r.h3 r.m5 r.h5 r.m6 r.h6 r.m7 r.h7 r.m8 r.h8 r.m18 r.x0 r.x1 r.x3 r.x4 r.x5 r.x6) (kernelRun0_A.sl.v554 r.c r.m2 r.h2 r.m3 r.h3 r.m5 r.h5 r.m6 r.h6 r.m7 r.h7 r.m8 r.h8 r.m18 r.x0 r.x1 r.x3 r.x4 r.x5 r.x6) (kernelRun0_A.sl.v689 r.c r.m2 r.h2 r.m3 r.h3 r.m5 r.h5 r.m6 r.h6 r.m7 r.h7 r.m8 r.h8 r.m18 r.x0 r.x1 r.x3 r.x4 r.x5 r.x6))
    (four (kernelRun0_A.sl.v824 r.c r.m2 r.h2 r.m3 r.h3 r.m5 r.h5 r.m6 r.h6 r.m7 r.h7 r.m8 r.h8 r.m18 r.x0 r.x1 r.x3 r.x4 r.x5 r.x6) (kernelRun0_A.sl.v964 r.c r.m2 r.h2 r.m3 r.h3 r.m5 r.h5 r.m6 r.h6 r.m7 r.h7 r.m8 r.h8 r.m18 r.x0 r.x1 r.x3 r.x4 r.x5 r.x6) (kernelRun0_A.sl.v1099 r.c r.m2 r.h2 r.m3 r.h3 r.m5 r.h5 r.m6 r.h6 r.m7 r.h7 r.m8 r.h8 r.m18 r.x0 r.x1 r.x3 r.x4 r.x5 r.x6) (kernelRun0_A.sl.v1222 r.c r.m2 r.h2 r.m3 r.h3 r.m5 r.h5 r.m6 r.h6 r.m7 r.h7 r.m8 r.h8 r.m18 r.x0 r.x1 r.x3 r.x4 r.x5 r.x6))
    (four (kernelRun0_A.sl.v1350 r.c r.m2 r.h2 r.m3 r.h3 r.m5 r.h5 r.m6 r.h6 r.m7 r.h7 r.m8 r.h8 r.m18 r.x0 r.x1 r.x3 r.x4 r.x5 r.x6) (kernelRun0_A.sl.v1473 r.c r.m2 r.h2 r.m3 r.h3 r.m5 r.h5 r.m6 r.h6 r.m7 r.h7 r.m8 r.h8 r.m18 r.x0 r.x1 r.x3 r.x4 r.x5 r.x6) (kernelRun0_A.sl.v1596 r.c r.m2 r.h2 r.m3 r.h3 r.m5 r.h5 r.m6 r.h6 r.m7 r.h7 r.m8 r.h8 r.m18 r.x0 r.x1 r.x3 r.x4 r.x5 r.x6) (kernelRun0_A.sl.v1880 r.c r.m2 r.h2 r.m3 r.h3 r.m5 r.h5 r.m6 r.h6 r.m7 r.h7 r.m8 r.h8 r.m18 r.x0 r.x1 r.x3 r.x4 r.x5 r.x6))
    (four (kernelRun0_A.sl.v2003 r.c r.m2 r.h2 r.m3 r.h3 r.m5 r.h5 r.m6 r.h6 r.m7 r.h7 r.m8 r.h8 r.m18 r.x0 r.x1 r.x3 r.x4 r.x5 r.x6) (kernelRun0_A.sl.v2242 r.c r.m2 r.h2 r.m3 r.h3 r.m5 r.h5 r.m6 r.h6 r.m7 r.h7 r.m8 r.h8 r.m18 r.x0 r.x1 r.x3 r.x4 r.x5 r.x6) (kernelRun0_A.sl.v2365 r.c r.m2 r.h2 r.m3 r.h3 r.m5 r.h5 r.m6 r.h6 r.m7 r.h7 r.m8 r.h8 r.m18 r.x0 r.x1 r.x3 r.x4 r.x5 r.x6) (kernelRun0_A.sl.v2488 r.c r.m2 r.h2 r.m3 r.h3 r.m5 r.h5 r.m6 r.h6 r.m7 r.h7 r.m8 r.h8 r.m18 r.x0 r.x1 r.x3 r.x4 r.x5 r.x6))

/-- The windows of values, by query block and group. -/
def vA0 : Fin 4 → Fin 4 → Vec F S1x256x256 .bf16 :=
  four (four (kernelRun0_A.sl.v622 r.c r.m2 r.h2 r.m3 r.h3 r.m5 r.h5 r.m19 r.x0 r.x1 r.x3) (kernelRun0_A.sl.v757 r.c r.m2 r.h2 r.m3 r.h3 r.m5 r.h5 r.m19 r.x0 r.x1 r.x3) (kernelRun0_A.sl.v897 r.c r.m2 r.h2 r.m3 r.h3 r.m5 r.h5 r.m19 r.x0 r.x1 r.x3) (kernelRun0_A.sl.v1032 r.c r.m2 r.h2 r.m3 r.h3 r.m5 r.h5 r.m19 r.x0 r.x1 r.x3))
    (four (kernelRun0_A.sl.v1155 r.c r.m2 r.h2 r.m3 r.h3 r.m5 r.h5 r.m19 r.x0 r.x1 r.x3) (kernelRun0_A.sl.v1283 r.c r.m2 r.h2 r.m3 r.h3 r.m5 r.h5 r.m19 r.x0 r.x1 r.x3) (kernelRun0_A.sl.v1406 r.c r.m2 r.h2 r.m3 r.h3 r.m5 r.h5 r.m19 r.x0 r.x1 r.x3) (kernelRun0_A.sl.v1529 r.c r.m2 r.h2 r.m3 r.h3 r.m5 r.h5 r.m19 r.x0 r.x1 r.x3))
    (four (kernelRun0_A.sl.v1813 r.c r.m2 r.h2 r.m3 r.h3 r.m5 r.h5 r.m19 r.x0 r.x1 r.x3) (kernelRun0_A.sl.v1936 r.c r.m2 r.h2 r.m3 r.h3 r.m5 r.h5 r.m19 r.x0 r.x1 r.x3) (kernelRun0_A.sl.v2175 r.c r.m2 r.h2 r.m3 r.h3 r.m5 r.h5 r.m19 r.x0 r.x1 r.x3) (kernelRun0_A.sl.v2298 r.c r.m2 r.h2 r.m3 r.h3 r.m5 r.h5 r.m19 r.x0 r.x1 r.x3))
    (four (kernelRun0_A.sl.v2421 r.c r.m2 r.h2 r.m3 r.h3 r.m5 r.h5 r.m19 r.x0 r.x1 r.x3) (kernelRun0_A.sl.v2660 r.c r.m2 r.h2 r.m3 r.h3 r.m5 r.h5 r.m19 r.x0 r.x1 r.x3) (kernelRun0_A.sl.v2770 r.c r.m2 r.h2 r.m3 r.h3 r.m5 r.h5 r.m19 r.x0 r.x1 r.x3) (kernelRun0_A.sl.v2880 r.c r.m2 r.h2 r.m3 r.h3 r.m5 r.h5 r.m19 r.x0 r.x1 r.x3))

/-- The attention, by query block, group and pair of heads. -/
def tA0 : Fin 4 → Fin 4 → Fin 2 → FVec F S128x128 .f32 :=
  four (four (pair (kernelRun0_A.sl.r_17 r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.r_20 r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)) (pair (kernelRun0_A.sl.r_35 r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.r_40 r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)) (pair (kernelRun0_A.sl.r_56 r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.r_62 r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)) (pair (kernelRun0_A.sl.r_76 r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.v1088 r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)))
    (four (pair (kernelRun0_A.sl.r_90 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.r_91 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)) (pair (kernelRun0_A.sl.r_95 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.v1339 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)) (pair (kernelRun0_A.sl.r_103 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.r_104 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)) (pair (kernelRun0_A.sl.r_108 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.r_109 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)))
    (four (pair (kernelRun0_A.sl.r_121 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.r_122 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)) (pair (kernelRun0_A.sl.r_128 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.v1992 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)) (pair (kernelRun0_A.sl.r_133 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.v2231 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)) (pair (kernelRun0_A.sl.r_141 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.r_142 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)))
    (four (pair (kernelRun0_A.sl.r_146 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.r_147 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)) (pair (kernelRun0_A.sl.r_155 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.r_156 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)) (pair (kernelRun0_A.sl.r_169 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.r_170 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)) (pair (kernelRun0_A.sl.r_179 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.r_180 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)))

/-- The queries of the four groups. -/
def qA1 : Fin 4 → FVec F S512x256 .bf16 := four (kernelRun0_A.sl.v2066 r.c r.m2 r.h2 r.m4 r.h4 r.m9 r.h9 r.m10 r.h10 r.m11 r.h11 r.m12 r.h12 r.m13 r.h13 r.m14 r.h14 r.m20 r.x0 r.x2 r.x7 r.x8 r.x9 r.x10 r.x11 r.x12) (kernelRun0_A.sl.v2121 r.c r.m2 r.h2 r.m4 r.h4 r.m9 r.h9 r.m10 r.h10 r.m11 r.h11 r.m12 r.h12 r.m13 r.h13 r.m14 r.h14 r.m20 r.x0 r.x2 r.x7 r.x8 r.x9 r.x10 r.x11 r.x12) (kernelRun0_A.sl.v2551 r.c r.m2 r.h2 r.m4 r.h4 r.m9 r.h9 r.m10 r.h10 r.m11 r.h11 r.m12 r.h12 r.m13 r.h13 r.m14 r.h14 r.m20 r.x0 r.x2 r.x7 r.x8 r.x9 r.x10 r.x11 r.x12) (kernelRun0_A.sl.v2606 r.c r.m2 r.h2 r.m4 r.h4 r.m9 r.h9 r.m10 r.h10 r.m11 r.h11 r.m12 r.h12 r.m13 r.h13 r.m14 r.h14 r.m20 r.x0 r.x2 r.x7 r.x8 r.x9 r.x10 r.x11 r.x12)

/-- The windows of keys, by query block and group. -/
def kA1 : Fin 4 → Fin 4 → Vec F S1x256x256 .bf16 :=
  four (four (kernelRun0_A.sl.v2947 r.c r.m2 r.h2 r.m3 r.h3 r.m5 r.h5 r.m6 r.h6 r.m7 r.h7 r.m8 r.h8 r.m18 r.x0 r.x1 r.x3 r.x4 r.x5 r.x6) (kernelRun0_A.sl.v2960 r.c r.m2 r.h2 r.m3 r.h3 r.m5 r.h5 r.m6 r.h6 r.m7 r.h7 r.m8 r.h8 r.m18 r.x0 r.x1 r.x3 r.x4 r.x5 r.x6) (kernelRun0_A.sl.v2973 r.c r.m2 r.h2 r.m3 r.h3 r.m5 r.h5 r.m6 r.h6 r.m7 r.h7 r.m8 r.h8 r.m18 r.x0 r.x1 r.x3 r.x4 r.x5 r.x6) (kernelRun0_A.sl.v3096 r.c r.m2 r.h2 r.m3 r.h3 r.m5 r.h5 r.m6 r.h6 r.m7 r.h7 r.m8 r.h8 r.m18 r.x0 r.x1 r.x3 r.x4 r.x5 r.x6))
    (four (kernelRun0_A.sl.v3219 r.c r.m2 r.h2 r.m3 r.h3 r.m5 r.h5 r.m6 r.h6 r.m7 r.h7 r.m8 r.h8 r.m18 r.x0 r.x1 r.x3 r.x4 r.x5 r.x6) (kernelRun0_A.sl.v3342 r.c r.m2 r.h2 r.m3 r.h3 r.m5 r.h5 r.m6 r.h6 r.m7 r.h7 r.m8 r.h8 r.m18 r.x0 r.x1 r.x3 r.x4 r.x5 r.x6) (kernelRun0_A.sl.v3482 r.c r.m2 r.h2 r.m3 r.h3 r.m5 r.h5 r.m6 r.h6 r.m7 r.h7 r.m8 r.h8 r.m18 r.x0 r.x1 r.x3 r.x4 r.x5 r.x6) (kernelRun0_A.sl.v3605 r.c r.m2 r.h2 r.m3 r.h3 r.m5 r.h5 r.m6 r.h6 r.m7 r.h7 r.m8 r.h8 r.m18 r.x0 r.x1 r.x3 r.x4 r.x5 r.x6))
    (four (kernelRun0_A.sl.v3728 r.c r.m2 r.h2 r.m3 r.h3 r.m5 r.h5 r.m6 r.h6 r.m7 r.h7 r.m8 r.h8 r.m18 r.x0 r.x1 r.x3 r.x4 r.x5 r.x6) (kernelRun0_A.sl.v3860 r.c r.m2 r.h2 r.m3 r.h3 r.m5 r.h5 r.m6 r.h6 r.m7 r.h7 r.m8 r.h8 r.m18 r.x0 r.x1 r.x3 r.x4 r.x5 r.x6) (kernelRun0_A.sl.v3983 r.c r.m2 r.h2 r.m3 r.h3 r.m5 r.h5 r.m6 r.h6 r.m7 r.h7 r.m8 r.h8 r.m18 r.x0 r.x1 r.x3 r.x4 r.x5 r.x6) (kernelRun0_A.sl.v4106 r.c r.m2 r.h2 r.m3 r.h3 r.m5 r.h5 r.m6 r.h6 r.m7 r.h7 r.m8 r.h8 r.m18 r.x0 r.x1 r.x3 r.x4 r.x5 r.x6))
    (four (kernelRun0_A.sl.v4234 r.c r.m2 r.h2 r.m3 r.h3 r.m5 r.h5 r.m6 r.h6 r.m7 r.h7 r.m8 r.h8 r.m18 r.x0 r.x1 r.x3 r.x4 r.x5 r.x6) (kernelRun0_A.sl.v4357 r.c r.m2 r.h2 r.m3 r.h3 r.m5 r.h5 r.m6 r.h6 r.m7 r.h7 r.m8 r.h8 r.m18 r.x0 r.x1 r.x3 r.x4 r.x5 r.x6) (kernelRun0_A.sl.v4480 r.c r.m2 r.h2 r.m3 r.h3 r.m5 r.h5 r.m6 r.h6 r.m7 r.h7 r.m8 r.h8 r.m18 r.x0 r.x1 r.x3 r.x4 r.x5 r.x6) (kernelRun0_A.sl.v4608 r.c r.m2 r.h2 r.m3 r.h3 r.m5 r.h5 r.m6 r.h6 r.m7 r.h7 r.m8 r.h8 r.m18 r.x0 r.x1 r.x3 r.x4 r.x5 r.x6))

/-- The windows of values, by query block and group. -/
def vA1 : Fin 4 → Fin 4 → Vec F S1x256x256 .bf16 :=
  four (four (kernelRun0_A.sl.v3029 r.c r.m2 r.h2 r.m3 r.h3 r.m5 r.h5 r.m19 r.x0 r.x1 r.x3) (kernelRun0_A.sl.v3152 r.c r.m2 r.h2 r.m3 r.h3 r.m5 r.h5 r.m19 r.x0 r.x1 r.x3) (kernelRun0_A.sl.v3275 r.c r.m2 r.h2 r.m3 r.h3 r.m5 r.h5 r.m19 r.x0 r.x1 r.x3) (kernelRun0_A.sl.v3415 r.c r.m2 r.h2 r.m3 r.h3 r.m5 r.h5 r.m19 r.x0 r.x1 r.x3))
    (four (kernelRun0_A.sl.v3538 r.c r.m2 r.h2 r.m3 r.h3 r.m5 r.h5 r.m19 r.x0 r.x1 r.x3) (kernelRun0_A.sl.v3661 r.c r.m2 r.h2 r.m3 r.h3 r.m5 r.h5 r.m19 r.x0 r.x1 r.x3) (kernelRun0_A.sl.v3793 r.c r.m2 r.h2 r.m3 r.h3 r.m5 r.h5 r.m19 r.x0 r.x1 r.x3) (kernelRun0_A.sl.v3916 r.c r.m2 r.h2 r.m3 r.h3 r.m5 r.h5 r.m19 r.x0 r.x1 r.x3))
    (four (kernelRun0_A.sl.v4039 r.c r.m2 r.h2 r.m3 r.h3 r.m5 r.h5 r.m19 r.x0 r.x1 r.x3) (kernelRun0_A.sl.v4167 r.c r.m2 r.h2 r.m3 r.h3 r.m5 r.h5 r.m19 r.x0 r.x1 r.x3) (kernelRun0_A.sl.v4290 r.c r.m2 r.h2 r.m3 r.h3 r.m5 r.h5 r.m19 r.x0 r.x1 r.x3) (kernelRun0_A.sl.v4413 r.c r.m2 r.h2 r.m3 r.h3 r.m5 r.h5 r.m19 r.x0 r.x1 r.x3))
    (four (kernelRun0_A.sl.v4541 r.c r.m2 r.h2 r.m3 r.h3 r.m5 r.h5 r.m19 r.x0 r.x1 r.x3) (kernelRun0_A.sl.v4664 r.c r.m2 r.h2 r.m3 r.h3 r.m5 r.h5 r.m19 r.x0 r.x1 r.x3) (kernelRun0_A.sl.v4774 r.c r.m2 r.h2 r.m3 r.h3 r.m5 r.h5 r.m19 r.x0 r.x1 r.x3) (kernelRun0_A.sl.v4884 r.c r.m2 r.h2 r.m3 r.h3 r.m5 r.h5 r.m19 r.x0 r.x1 r.x3))

/-- The attention, by query block, group and pair of heads. -/
def tA1 : Fin 4 → Fin 4 → Fin 2 → FVec F S128x128 .f32 :=
  four (four (pair (kernelRun0_A.sl.r_182 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.v3085 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)) (pair (kernelRun0_A.sl.r_197 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.r_198 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)) (pair (kernelRun0_A.sl.r_200 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.v3331 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)) (pair (kernelRun0_A.sl.r_204 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.v3471 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)))
    (four (pair (kernelRun0_A.sl.r_214 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.r_215 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)) (pair (kernelRun0_A.sl.r_221 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.v3717 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)) (pair (kernelRun0_A.sl.r_223 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.v3849 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)) (pair (kernelRun0_A.sl.r_236 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.r_237 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)))
    (four (pair (kernelRun0_A.sl.r_244 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.v4095 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)) (pair (kernelRun0_A.sl.r_247 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.v4223 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)) (pair (kernelRun0_A.sl.r_256 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.r_257 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)) (pair (kernelRun0_A.sl.r_261 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.v4469 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)))
    (four (pair (kernelRun0_A.sl.r_273 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.r_274 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)) (pair (kernelRun0_A.sl.r_280 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.v4720 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)) (pair (kernelRun0_A.sl.r_287 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13) (kernelRun0_A.sl.r_288 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)) (atTile (rowsV (qA1 r 3) 3) (kA1 r 3 3) (vA1 r 3 3) id (r.sk 3)))

/-- The gated attention of the first chunk. -/
def yA0 : FVec F S512x1024 .bf16 := (kernelRun0_A.sl.v3352 r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)
/-- The gated attention of the second chunk. -/
def yA1 : FVec F S512x1024 .bf16 := (kernelRun0_A.sl.r_300 r.c r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m18 r.m19 r.m20 r.x0 r.x1 r.x2 r.x3 r.x4 r.x5 r.x6 r.x7 r.x8 r.x9 r.x10 r.x11 r.x12 r.x13)

end Cert.YocoB

end
-- ==== Proof.B.RunA.lean ====
/-
  What the run stores, and what its queries, windows and gated attention are computed from.
-/
module

public import proofs.«01_k».proof.Proof.B.WordsA

@[expose] public section

set_option maxRecDepth 16384

noncomputable section

namespace Cert.YocoB

open Idealize.ShloMosaic Cert.KernelBIdeal Cert.KernelBIdeal.Gen

variable {F : FTy → Type} [FloatOps F] [Named F] (r : Args F)

/-- The keys before the point's first row. -/
def bkA : Vec F S4x256x128 .bf16 := (k0_pay11 k0_pay9)
/-- The values before the point's first row. -/
def bvA : Vec F S4x128x128 .bf16 := (k0_pay12 k0_pay10)

theorem out_A (hc0 : cond0_0 r.i) (hc1 : cond0_1 r.i) (hc2 : ¬cond0_2 r.i) : (kernelRun0_A r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m16 r.h16 r.m17 r.h17 r.m18 r.h18 r.m19 r.h19 r.m20 r.h20 hc0 hc1 hc2 r.x0 r.x1 r.x2 r.x3 r.x4 r.x5 r.x6 r.x7 r.x8 r.x9 r.x10 r.x11 r.x12 r.x13 r.x14).1 = LOut (yA0 r) (yA1 r) r.xo00 r.xo01 r.xo10 r.xo11 r.wo0 r.wo1 := by rfl

theorem keys_A (hc0 : cond0_0 r.i) (hc1 : cond0_1 r.i) (hc2 : ¬cond0_2 r.i) : (kernelRun0_A r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m16 r.h16 r.m17 r.h17 r.m18 r.h18 r.m19 r.h19 r.m20 r.h20 hc0 hc1 hc2 r.x0 r.x1 r.x2 r.x3 r.x4 r.x5 r.x6 r.x7 r.x8 r.x9 r.x10 r.x11 r.x12 r.x13 r.x14).2.1 = r.lk1 bkA := by rfl

theorem vals_A (hc0 : cond0_0 r.i) (hc1 : cond0_1 r.i) (hc2 : ¬cond0_2 r.i) : (kernelRun0_A r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m16 r.h16 r.m17 r.h17 r.m18 r.h18 r.m19 r.h19 r.m20 r.h20 hc0 hc1 hc2 r.x0 r.x1 r.x2 r.x3 r.x4 r.x5 r.x6 r.x7 r.x8 r.x9 r.x10 r.x11 r.x12 r.x13 r.x14).2.2.1 = r.lv1 bvA onesV := by rfl

theorem wq_A (hc0 : cond0_0 r.i) (hc1 : cond0_1 r.i) (hc2 : ¬cond0_2 r.i) : (kernelRun0_A r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m16 r.h16 r.m17 r.h17 r.m18 r.h18 r.m19 r.h19 r.m20 r.h20 hc0 hc1 hc2 r.x0 r.x1 r.x2 r.x3 r.x4 r.x5 r.x6 r.x7 r.x8 r.x9 r.x10 r.x11 r.x12 r.x13 r.x14).2.2.2.1 = r.lq := by rfl

theorem yA0_eq : yA0 r = gaV (tA0 r) (mmV (hV r.xc0 r.lb) r.wz0) (mmV (hV r.xc0 r.lb) r.wz1) := by rfl

theorem yA1_eq : yA1 r = gaV (tA1 r) (mmV (hV r.xc1 r.lb) r.wz0) (mmV (hV r.xc1 r.lb) r.wz1) := by rfl

theorem qA0_0 : qA0 r 0 = queV (hV r.xc0 r.lb) (r.m20.view.readCov r.lq (Rect.unit (s := S1024x1024) ![0, 0] S1024x512.size inb_S1024x1024_S1024x512_0_0).toLoadRect) (r.m20.view.readCov r.lq (Rect.unit (s := S1024x1024) ![0, 512] S1024x512.size inb_S1024x1024_S1024x512_0_512).toLoadRect) r.cq0 r.sq0 r.qa r.qb 0 := by rfl
theorem qA0_1 : qA0 r 1 = queV (hV r.xc0 r.lb) (r.m20.view.readCov r.lq (Rect.unit (s := S1024x1024) ![0, 0] S1024x512.size inb_S1024x1024_S1024x512_0_0).toLoadRect) (r.m20.view.readCov r.lq (Rect.unit (s := S1024x1024) ![0, 512] S1024x512.size inb_S1024x1024_S1024x512_0_512).toLoadRect) r.cq0 r.sq0 r.qa r.qb 1 := by rfl
theorem qA0_2 : qA0 r 2 = queV (hV r.xc0 r.lb) (r.m20.view.readCov r.lq (Rect.unit (s := S1024x1024) ![0, 0] S1024x512.size inb_S1024x1024_S1024x512_0_0).toLoadRect) (r.m20.view.readCov r.lq (Rect.unit (s := S1024x1024) ![0, 512] S1024x512.size inb_S1024x1024_S1024x512_0_512).toLoadRect) r.cq0 r.sq0 r.qa r.qb 2 := by rfl
theorem qA0_3 : qA0 r 3 = queV (hV r.xc0 r.lb) (r.m20.view.readCov r.lq (Rect.unit (s := S1024x1024) ![0, 0] S1024x512.size inb_S1024x1024_S1024x512_0_0).toLoadRect) (r.m20.view.readCov r.lq (Rect.unit (s := S1024x1024) ![0, 512] S1024x512.size inb_S1024x1024_S1024x512_0_512).toLoadRect) r.cq0 r.sq0 r.qa r.qb 3 := by rfl

theorem qA0_eq : ∀ n, qA0 r n = queV (hV r.xc0 r.lb) (r.m20.view.readCov r.lq (Rect.unit (s := S1024x1024) ![0, 0] S1024x512.size inb_S1024x1024_S1024x512_0_0).toLoadRect) (r.m20.view.readCov r.lq (Rect.unit (s := S1024x1024) ![0, 512] S1024x512.size inb_S1024x1024_S1024x512_0_512).toLoadRect) r.cq0 r.sq0 r.qa r.qb n
  | 0 => qA0_0 r
  | 1 => qA0_1 r
  | 2 => qA0_2 r
  | 3 => qA0_3 r

theorem qA1_0 : qA1 r 0 = queV (hV r.xc1 r.lb) (r.m20.view.readCov r.lq (Rect.unit (s := S1024x1024) ![0, 0] S1024x512.size inb_S1024x1024_S1024x512_0_0).toLoadRect) (r.m20.view.readCov r.lq (Rect.unit (s := S1024x1024) ![0, 512] S1024x512.size inb_S1024x1024_S1024x512_0_512).toLoadRect) r.cq1 r.sq1 r.qa r.qb 0 := by rfl
theorem qA1_1 : qA1 r 1 = queV (hV r.xc1 r.lb) (r.m20.view.readCov r.lq (Rect.unit (s := S1024x1024) ![0, 0] S1024x512.size inb_S1024x1024_S1024x512_0_0).toLoadRect) (r.m20.view.readCov r.lq (Rect.unit (s := S1024x1024) ![0, 512] S1024x512.size inb_S1024x1024_S1024x512_0_512).toLoadRect) r.cq1 r.sq1 r.qa r.qb 1 := by rfl
theorem qA1_2 : qA1 r 2 = queV (hV r.xc1 r.lb) (r.m20.view.readCov r.lq (Rect.unit (s := S1024x1024) ![0, 0] S1024x512.size inb_S1024x1024_S1024x512_0_0).toLoadRect) (r.m20.view.readCov r.lq (Rect.unit (s := S1024x1024) ![0, 512] S1024x512.size inb_S1024x1024_S1024x512_0_512).toLoadRect) r.cq1 r.sq1 r.qa r.qb 2 := by rfl
theorem qA1_3 : qA1 r 3 = queV (hV r.xc1 r.lb) (r.m20.view.readCov r.lq (Rect.unit (s := S1024x1024) ![0, 0] S1024x512.size inb_S1024x1024_S1024x512_0_0).toLoadRect) (r.m20.view.readCov r.lq (Rect.unit (s := S1024x1024) ![0, 512] S1024x512.size inb_S1024x1024_S1024x512_0_512).toLoadRect) r.cq1 r.sq1 r.qa r.qb 3 := by rfl

theorem qA1_eq : ∀ n, qA1 r n = queV (hV r.xc1 r.lb) (r.m20.view.readCov r.lq (Rect.unit (s := S1024x1024) ![0, 0] S1024x512.size inb_S1024x1024_S1024x512_0_0).toLoadRect) (r.m20.view.readCov r.lq (Rect.unit (s := S1024x1024) ![0, 512] S1024x512.size inb_S1024x1024_S1024x512_0_512).toLoadRect) r.cq1 r.sq1 r.qa r.qb n
  | 0 => qA1_0 r
  | 1 => qA1_1 r
  | 2 => qA1_2 r
  | 3 => qA1_3 r

theorem kA0_00 : kA0 r 0 0 = r.m18.view.readCov (r.lk0 bkA) (Rect.unit (s := S4x256x1152) ![0, 0, 0] S1x256x256.size inb_S4x256x1152_S1x256x256_0_0_0).toLoadRect := by rfl
theorem vA0_00 : vA0 r 0 0 = r.m19.view.readCov (r.lv0 bvA onesV) (Rect.unit (s := S4x1152x256) ![0, 0, 0] S1x256x256.size inb_S4x1152x256_S1x256x256_0_0_0).toLoadRect := by rfl
theorem kA0_01 : kA0 r 0 1 = r.m18.view.readCov (r.lk0 bkA) (Rect.unit (s := S4x256x1152) ![1, 0, 0] S1x256x256.size inb_S4x256x1152_S1x256x256_1_0_0).toLoadRect := by rfl
theorem vA0_01 : vA0 r 0 1 = r.m19.view.readCov (r.lv0 bvA onesV) (Rect.unit (s := S4x1152x256) ![1, 0, 0] S1x256x256.size inb_S4x1152x256_S1x256x256_1_0_0).toLoadRect := by rfl
theorem kA0_02 : kA0 r 0 2 = r.m18.view.readCov (r.lk0 bkA) (Rect.unit (s := S4x256x1152) ![2, 0, 0] S1x256x256.size inb_S4x256x1152_S1x256x256_2_0_0).toLoadRect := by rfl
theorem vA0_02 : vA0 r 0 2 = r.m19.view.readCov (r.lv0 bvA onesV) (Rect.unit (s := S4x1152x256) ![2, 0, 0] S1x256x256.size inb_S4x1152x256_S1x256x256_2_0_0).toLoadRect := by rfl
theorem kA0_03 : kA0 r 0 3 = r.m18.view.readCov (r.lk0 bkA) (Rect.unit (s := S4x256x1152) ![3, 0, 0] S1x256x256.size inb_S4x256x1152_S1x256x256_3_0_0).toLoadRect := by rfl
theorem vA0_03 : vA0 r 0 3 = r.m19.view.readCov (r.lv0 bvA onesV) (Rect.unit (s := S4x1152x256) ![3, 0, 0] S1x256x256.size inb_S4x1152x256_S1x256x256_3_0_0).toLoadRect := by rfl
theorem kA0_10 : kA0 r 1 0 = r.m18.view.readCov (r.lk0 bkA) (Rect.unit (s := S4x256x1152) ![0, 0, 128] S1x256x256.size inb_S4x256x1152_S1x256x256_0_0_128).toLoadRect := by rfl
theorem vA0_10 : vA0 r 1 0 = r.m19.view.readCov (r.lv0 bvA onesV) (Rect.unit (s := S4x1152x256) ![0, 128, 0] S1x256x256.size inb_S4x1152x256_S1x256x256_0_128_0).toLoadRect := by rfl
theorem kA0_11 : kA0 r 1 1 = r.m18.view.readCov (r.lk0 bkA) (Rect.unit (s := S4x256x1152) ![1, 0, 128] S1x256x256.size inb_S4x256x1152_S1x256x256_1_0_128).toLoadRect := by rfl
theorem vA0_11 : vA0 r 1 1 = r.m19.view.readCov (r.lv0 bvA onesV) (Rect.unit (s := S4x1152x256) ![1, 128, 0] S1x256x256.size inb_S4x1152x256_S1x256x256_1_128_0).toLoadRect := by rfl
theorem kA0_12 : kA0 r 1 2 = r.m18.view.readCov (r.lk0 bkA) (Rect.unit (s := S4x256x1152) ![2, 0, 128] S1x256x256.size inb_S4x256x1152_S1x256x256_2_0_128).toLoadRect := by rfl
theorem vA0_12 : vA0 r 1 2 = r.m19.view.readCov (r.lv0 bvA onesV) (Rect.unit (s := S4x1152x256) ![2, 128, 0] S1x256x256.size inb_S4x1152x256_S1x256x256_2_128_0).toLoadRect := by rfl
theorem kA0_13 : kA0 r 1 3 = r.m18.view.readCov (r.lk0 bkA) (Rect.unit (s := S4x256x1152) ![3, 0, 128] S1x256x256.size inb_S4x256x1152_S1x256x256_3_0_128).toLoadRect := by rfl
theorem vA0_13 : vA0 r 1 3 = r.m19.view.readCov (r.lv0 bvA onesV) (Rect.unit (s := S4x1152x256) ![3, 128, 0] S1x256x256.size inb_S4x1152x256_S1x256x256_3_128_0).toLoadRect := by rfl
theorem kA0_20 : kA0 r 2 0 = r.m18.view.readCov (r.lk0 bkA) (Rect.unit (s := S4x256x1152) ![0, 0, 256] S1x256x256.size inb_S4x256x1152_S1x256x256_0_0_256).toLoadRect := by rfl
theorem vA0_20 : vA0 r 2 0 = r.m19.view.readCov (r.lv1 bvA onesV) (Rect.unit (s := S4x1152x256) ![0, 256, 0] S1x256x256.size inb_S4x1152x256_S1x256x256_0_256_0).toLoadRect := by rfl
theorem kA0_21 : kA0 r 2 1 = r.m18.view.readCov (r.lk0 bkA) (Rect.unit (s := S4x256x1152) ![1, 0, 256] S1x256x256.size inb_S4x256x1152_S1x256x256_1_0_256).toLoadRect := by rfl
theorem vA0_21 : vA0 r 2 1 = r.m19.view.readCov (r.lv1 bvA onesV) (Rect.unit (s := S4x1152x256) ![1, 256, 0] S1x256x256.size inb_S4x1152x256_S1x256x256_1_256_0).toLoadRect := by rfl
theorem kA0_22 : kA0 r 2 2 = r.m18.view.readCov (r.lk0 bkA) (Rect.unit (s := S4x256x1152) ![2, 0, 256] S1x256x256.size inb_S4x256x1152_S1x256x256_2_0_256).toLoadRect := by rfl
theorem vA0_22 : vA0 r 2 2 = r.m19.view.readCov (r.lv1 bvA onesV) (Rect.unit (s := S4x1152x256) ![2, 256, 0] S1x256x256.size inb_S4x1152x256_S1x256x256_2_256_0).toLoadRect := by rfl
theorem kA0_23 : kA0 r 2 3 = r.m18.view.readCov (r.lk1 bkA) (Rect.unit (s := S4x256x1152) ![3, 0, 256] S1x256x256.size inb_S4x256x1152_S1x256x256_3_0_256).toLoadRect := by rfl
theorem vA0_23 : vA0 r 2 3 = r.m19.view.readCov (r.lv1 bvA onesV) (Rect.unit (s := S4x1152x256) ![3, 256, 0] S1x256x256.size inb_S4x1152x256_S1x256x256_3_256_0).toLoadRect := by rfl
theorem kA0_30 : kA0 r 3 0 = r.m18.view.readCov (r.lk1 bkA) (Rect.unit (s := S4x256x1152) ![0, 0, 384] S1x256x256.size inb_S4x256x1152_S1x256x256_0_0_384).toLoadRect := by rfl
theorem vA0_30 : vA0 r 3 0 = r.m19.view.readCov (r.lv1 bvA onesV) (Rect.unit (s := S4x1152x256) ![0, 384, 0] S1x256x256.size inb_S4x1152x256_S1x256x256_0_384_0).toLoadRect := by rfl
theorem kA0_31 : kA0 r 3 1 = r.m18.view.readCov (r.lk1 bkA) (Rect.unit (s := S4x256x1152) ![1, 0, 384] S1x256x256.size inb_S4x256x1152_S1x256x256_1_0_384).toLoadRect := by rfl
theorem vA0_31 : vA0 r 3 1 = r.m19.view.readCov (r.lv1 bvA onesV) (Rect.unit (s := S4x1152x256) ![1, 384, 0] S1x256x256.size inb_S4x1152x256_S1x256x256_1_384_0).toLoadRect := by rfl
theorem kA0_32 : kA0 r 3 2 = r.m18.view.readCov (r.lk1 bkA) (Rect.unit (s := S4x256x1152) ![2, 0, 384] S1x256x256.size inb_S4x256x1152_S1x256x256_2_0_384).toLoadRect := by rfl
theorem vA0_32 : vA0 r 3 2 = r.m19.view.readCov (r.lv1 bvA onesV) (Rect.unit (s := S4x1152x256) ![2, 384, 0] S1x256x256.size inb_S4x1152x256_S1x256x256_2_384_0).toLoadRect := by rfl
theorem kA0_33 : kA0 r 3 3 = r.m18.view.readCov (r.lk1 bkA) (Rect.unit (s := S4x256x1152) ![3, 0, 384] S1x256x256.size inb_S4x256x1152_S1x256x256_3_0_384).toLoadRect := by rfl
theorem vA0_33 : vA0 r 3 3 = r.m19.view.readCov (r.lv1 bvA onesV) (Rect.unit (s := S4x1152x256) ![3, 384, 0] S1x256x256.size inb_S4x1152x256_S1x256x256_3_384_0).toLoadRect := by rfl
theorem kA1_00 : kA1 r 0 0 = r.m18.view.readCov (r.lk1 bkA) (Rect.unit (s := S4x256x1152) ![0, 0, 512] S1x256x256.size inb_S4x256x1152_S1x256x256_0_0_512).toLoadRect := by rfl
theorem vA1_00 : vA1 r 0 0 = r.m19.view.readCov (r.lv1 bvA onesV) (Rect.unit (s := S4x1152x256) ![0, 512, 0] S1x256x256.size inb_S4x1152x256_S1x256x256_0_512_0).toLoadRect := by rfl
theorem kA1_01 : kA1 r 0 1 = r.m18.view.readCov (r.lk1 bkA) (Rect.unit (s := S4x256x1152) ![1, 0, 512] S1x256x256.size inb_S4x256x1152_S1x256x256_1_0_512).toLoadRect := by rfl
theorem vA1_01 : vA1 r 0 1 = r.m19.view.readCov (r.lv1 bvA onesV) (Rect.unit (s := S4x1152x256) ![1, 512, 0] S1x256x256.size inb_S4x1152x256_S1x256x256_1_512_0).toLoadRect := by rfl
theorem kA1_02 : kA1 r 0 2 = r.m18.view.readCov (r.lk1 bkA) (Rect.unit (s := S4x256x1152) ![2, 0, 512] S1x256x256.size inb_S4x256x1152_S1x256x256_2_0_512).toLoadRect := by rfl
theorem vA1_02 : vA1 r 0 2 = r.m19.view.readCov (r.lv1 bvA onesV) (Rect.unit (s := S4x1152x256) ![2, 512, 0] S1x256x256.size inb_S4x1152x256_S1x256x256_2_512_0).toLoadRect := by rfl
theorem kA1_03 : kA1 r 0 3 = r.m18.view.readCov (r.lk1 bkA) (Rect.unit (s := S4x256x1152) ![3, 0, 512] S1x256x256.size inb_S4x256x1152_S1x256x256_3_0_512).toLoadRect := by rfl
theorem vA1_03 : vA1 r 0 3 = r.m19.view.readCov (r.lv1 bvA onesV) (Rect.unit (s := S4x1152x256) ![3, 512, 0] S1x256x256.size inb_S4x1152x256_S1x256x256_3_512_0).toLoadRect := by rfl
theorem kA1_10 : kA1 r 1 0 = r.m18.view.readCov (r.lk1 bkA) (Rect.unit (s := S4x256x1152) ![0, 0, 640] S1x256x256.size inb_S4x256x1152_S1x256x256_0_0_640).toLoadRect := by rfl
theorem vA1_10 : vA1 r 1 0 = r.m19.view.readCov (r.lv1 bvA onesV) (Rect.unit (s := S4x1152x256) ![0, 640, 0] S1x256x256.size inb_S4x1152x256_S1x256x256_0_640_0).toLoadRect := by rfl
theorem kA1_11 : kA1 r 1 1 = r.m18.view.readCov (r.lk1 bkA) (Rect.unit (s := S4x256x1152) ![1, 0, 640] S1x256x256.size inb_S4x256x1152_S1x256x256_1_0_640).toLoadRect := by rfl
theorem vA1_11 : vA1 r 1 1 = r.m19.view.readCov (r.lv1 bvA onesV) (Rect.unit (s := S4x1152x256) ![1, 640, 0] S1x256x256.size inb_S4x1152x256_S1x256x256_1_640_0).toLoadRect := by rfl
theorem kA1_12 : kA1 r 1 2 = r.m18.view.readCov (r.lk1 bkA) (Rect.unit (s := S4x256x1152) ![2, 0, 640] S1x256x256.size inb_S4x256x1152_S1x256x256_2_0_640).toLoadRect := by rfl
theorem vA1_12 : vA1 r 1 2 = r.m19.view.readCov (r.lv1 bvA onesV) (Rect.unit (s := S4x1152x256) ![2, 640, 0] S1x256x256.size inb_S4x1152x256_S1x256x256_2_640_0).toLoadRect := by rfl
theorem kA1_13 : kA1 r 1 3 = r.m18.view.readCov (r.lk1 bkA) (Rect.unit (s := S4x256x1152) ![3, 0, 640] S1x256x256.size inb_S4x256x1152_S1x256x256_3_0_640).toLoadRect := by rfl
theorem vA1_13 : vA1 r 1 3 = r.m19.view.readCov (r.lv1 bvA onesV) (Rect.unit (s := S4x1152x256) ![3, 640, 0] S1x256x256.size inb_S4x1152x256_S1x256x256_3_640_0).toLoadRect := by rfl
theorem kA1_20 : kA1 r 2 0 = r.m18.view.readCov (r.lk1 bkA) (Rect.unit (s := S4x256x1152) ![0, 0, 768] S1x256x256.size inb_S4x256x1152_S1x256x256_0_0_768).toLoadRect := by rfl
theorem vA1_20 : vA1 r 2 0 = r.m19.view.readCov (r.lv1 bvA onesV) (Rect.unit (s := S4x1152x256) ![0, 768, 0] S1x256x256.size inb_S4x1152x256_S1x256x256_0_768_0).toLoadRect := by rfl
theorem kA1_21 : kA1 r 2 1 = r.m18.view.readCov (r.lk1 bkA) (Rect.unit (s := S4x256x1152) ![1, 0, 768] S1x256x256.size inb_S4x256x1152_S1x256x256_1_0_768).toLoadRect := by rfl
theorem vA1_21 : vA1 r 2 1 = r.m19.view.readCov (r.lv1 bvA onesV) (Rect.unit (s := S4x1152x256) ![1, 768, 0] S1x256x256.size inb_S4x1152x256_S1x256x256_1_768_0).toLoadRect := by rfl
theorem kA1_22 : kA1 r 2 2 = r.m18.view.readCov (r.lk1 bkA) (Rect.unit (s := S4x256x1152) ![2, 0, 768] S1x256x256.size inb_S4x256x1152_S1x256x256_2_0_768).toLoadRect := by rfl
theorem vA1_22 : vA1 r 2 2 = r.m19.view.readCov (r.lv1 bvA onesV) (Rect.unit (s := S4x1152x256) ![2, 768, 0] S1x256x256.size inb_S4x1152x256_S1x256x256_2_768_0).toLoadRect := by rfl
theorem kA1_23 : kA1 r 2 3 = r.m18.view.readCov (r.lk1 bkA) (Rect.unit (s := S4x256x1152) ![3, 0, 768] S1x256x256.size inb_S4x256x1152_S1x256x256_3_0_768).toLoadRect := by rfl
theorem vA1_23 : vA1 r 2 3 = r.m19.view.readCov (r.lv1 bvA onesV) (Rect.unit (s := S4x1152x256) ![3, 768, 0] S1x256x256.size inb_S4x1152x256_S1x256x256_3_768_0).toLoadRect := by rfl
theorem kA1_30 : kA1 r 3 0 = r.m18.view.readCov (r.lk1 bkA) (Rect.unit (s := S4x256x1152) ![0, 0, 896] S1x256x256.size inb_S4x256x1152_S1x256x256_0_0_896).toLoadRect := by rfl
theorem vA1_30 : vA1 r 3 0 = r.m19.view.readCov (r.lv1 bvA onesV) (Rect.unit (s := S4x1152x256) ![0, 896, 0] S1x256x256.size inb_S4x1152x256_S1x256x256_0_896_0).toLoadRect := by rfl
theorem kA1_31 : kA1 r 3 1 = r.m18.view.readCov (r.lk1 bkA) (Rect.unit (s := S4x256x1152) ![1, 0, 896] S1x256x256.size inb_S4x256x1152_S1x256x256_1_0_896).toLoadRect := by rfl
theorem vA1_31 : vA1 r 3 1 = r.m19.view.readCov (r.lv1 bvA onesV) (Rect.unit (s := S4x1152x256) ![1, 896, 0] S1x256x256.size inb_S4x1152x256_S1x256x256_1_896_0).toLoadRect := by rfl
theorem kA1_32 : kA1 r 3 2 = r.m18.view.readCov (r.lk1 bkA) (Rect.unit (s := S4x256x1152) ![2, 0, 896] S1x256x256.size inb_S4x256x1152_S1x256x256_2_0_896).toLoadRect := by rfl
theorem vA1_32 : vA1 r 3 2 = r.m19.view.readCov (r.lv1 bvA onesV) (Rect.unit (s := S4x1152x256) ![2, 896, 0] S1x256x256.size inb_S4x1152x256_S1x256x256_2_896_0).toLoadRect := by rfl
theorem kA1_33 : kA1 r 3 3 = r.m18.view.readCov (r.lk1 bkA) (Rect.unit (s := S4x256x1152) ![3, 0, 896] S1x256x256.size inb_S4x256x1152_S1x256x256_3_0_896).toLoadRect := by rfl
theorem vA1_33 : vA1 r 3 3 = r.m19.view.readCov (r.lv1 bvA onesV) (Rect.unit (s := S4x1152x256) ![3, 896, 0] S1x256x256.size inb_S4x1152x256_S1x256x256_3_896_0).toLoadRect := by rfl

end Cert.YocoB

end
-- ==== Proof.B.WinA.lean ====
/-
  The windows of keys and values the run's tiles read, at an index.
-/
module

public import proofs.«01_k».proof.Proof.B.Wins
public import proofs.«01_k».proof.Proof.B.RunA

@[expose] public section

set_option maxRecDepth 16384

noncomputable section

namespace Cert.YocoB

open Idealize.ShloMosaic Cert.KernelBIdeal Cert.KernelBIdeal.Gen

variable {F : FTy → Type} [FloatOps F] [Named F] (r : Args F)

theorem kA0_at (p : Fin 256) (c : Fin 256) : ∀ (b n : Fin 4), kA0 r b n (ix3 0 p c)
    = View.canon (r.lk1 bkA) (ix3 n p ⟨512 * 0 + 128 * b.val + c.val, by omega⟩)
  | 0, 0 => (congrFun (kA0_00 r) _).trans (winK0 _ _ p _ 0 0 (by decide) (by decide) _ c)
  | 0, 1 => (congrFun (kA0_01 r) _).trans (winK0 _ _ p _ 1 0 (by decide) (by decide) _ c)
  | 0, 2 => (congrFun (kA0_02 r) _).trans (winK0 _ _ p _ 2 0 (by decide) (by decide) _ c)
  | 0, 3 => (congrFun (kA0_03 r) _).trans (winK0 _ _ p _ 3 0 (by decide) (by decide) _ c)
  | 1, 0 => (congrFun (kA0_10 r) _).trans (winK0 _ _ p _ 0 128 (by decide) (by decide) _ c)
  | 1, 1 => (congrFun (kA0_11 r) _).trans (winK0 _ _ p _ 1 128 (by decide) (by decide) _ c)
  | 1, 2 => (congrFun (kA0_12 r) _).trans (winK0 _ _ p _ 2 128 (by decide) (by decide) _ c)
  | 1, 3 => (congrFun (kA0_13 r) _).trans (winK0 _ _ p _ 3 128 (by decide) (by decide) _ c)
  | 2, 0 => (congrFun (kA0_20 r) _).trans (winK0 _ _ p _ 0 256 (by decide) (by decide) _ c)
  | 2, 1 => (congrFun (kA0_21 r) _).trans (winK0 _ _ p _ 1 256 (by decide) (by decide) _ c)
  | 2, 2 => (congrFun (kA0_22 r) _).trans (winK0 _ _ p _ 2 256 (by decide) (by decide) _ c)
  | 2, 3 => (congrFun (kA0_23 r) _).trans (winK _ p _ 3 256 (by decide) (by decide) _ c)
  | 3, 0 => (congrFun (kA0_30 r) _).trans (winK _ p _ 0 384 (by decide) (by decide) _ c)
  | 3, 1 => (congrFun (kA0_31 r) _).trans (winK _ p _ 1 384 (by decide) (by decide) _ c)
  | 3, 2 => (congrFun (kA0_32 r) _).trans (winK _ p _ 2 384 (by decide) (by decide) _ c)
  | 3, 3 => (congrFun (kA0_33 r) _).trans (winK _ p _ 3 384 (by decide) (by decide) _ c)

theorem vA0_at (c : Fin 256) (l : Fin 256) : ∀ (b n : Fin 4), vA0 r b n (ix3 0 c l)
    = View.canon (r.lv1 bvA onesV) (ix3 n ⟨512 * 0 + 128 * b.val + c.val, by omega⟩ l)
  | 0, 0 => (congrFun (vA0_00 r) _).trans (winV0 _ _ l _ 0 0 (by decide) (by decide) _ c)
  | 0, 1 => (congrFun (vA0_01 r) _).trans (winV0 _ _ l _ 1 0 (by decide) (by decide) _ c)
  | 0, 2 => (congrFun (vA0_02 r) _).trans (winV0 _ _ l _ 2 0 (by decide) (by decide) _ c)
  | 0, 3 => (congrFun (vA0_03 r) _).trans (winV0 _ _ l _ 3 0 (by decide) (by decide) _ c)
  | 1, 0 => (congrFun (vA0_10 r) _).trans (winV0 _ _ l _ 0 128 (by decide) (by decide) _ c)
  | 1, 1 => (congrFun (vA0_11 r) _).trans (winV0 _ _ l _ 1 128 (by decide) (by decide) _ c)
  | 1, 2 => (congrFun (vA0_12 r) _).trans (winV0 _ _ l _ 2 128 (by decide) (by decide) _ c)
  | 1, 3 => (congrFun (vA0_13 r) _).trans (winV0 _ _ l _ 3 128 (by decide) (by decide) _ c)
  | 2, 0 => (congrFun (vA0_20 r) _).trans (winV _ l _ 0 256 (by decide) (by decide) _ c)
  | 2, 1 => (congrFun (vA0_21 r) _).trans (winV _ l _ 1 256 (by decide) (by decide) _ c)
  | 2, 2 => (congrFun (vA0_22 r) _).trans (winV _ l _ 2 256 (by decide) (by decide) _ c)
  | 2, 3 => (congrFun (vA0_23 r) _).trans (winV _ l _ 3 256 (by decide) (by decide) _ c)
  | 3, 0 => (congrFun (vA0_30 r) _).trans (winV _ l _ 0 384 (by decide) (by decide) _ c)
  | 3, 1 => (congrFun (vA0_31 r) _).trans (winV _ l _ 1 384 (by decide) (by decide) _ c)
  | 3, 2 => (congrFun (vA0_32 r) _).trans (winV _ l _ 2 384 (by decide) (by decide) _ c)
  | 3, 3 => (congrFun (vA0_33 r) _).trans (winV _ l _ 3 384 (by decide) (by decide) _ c)

theorem kA1_at (p : Fin 256) (c : Fin 256) : ∀ (b n : Fin 4), kA1 r b n (ix3 0 p c)
    = View.canon (r.lk1 bkA) (ix3 n p ⟨512 * 1 + 128 * b.val + c.val, by omega⟩)
  | 0, 0 => (congrFun (kA1_00 r) _).trans (winK _ p _ 0 512 (by decide) (by decide) _ c)
  | 0, 1 => (congrFun (kA1_01 r) _).trans (winK _ p _ 1 512 (by decide) (by decide) _ c)
  | 0, 2 => (congrFun (kA1_02 r) _).trans (winK _ p _ 2 512 (by decide) (by decide) _ c)
  | 0, 3 => (congrFun (kA1_03 r) _).trans (winK _ p _ 3 512 (by decide) (by decide) _ c)
  | 1, 0 => (congrFun (kA1_10 r) _).trans (winK _ p _ 0 640 (by decide) (by decide) _ c)
  | 1, 1 => (congrFun (kA1_11 r) _).trans (winK _ p _ 1 640 (by decide) (by decide) _ c)
  | 1, 2 => (congrFun (kA1_12 r) _).trans (winK _ p _ 2 640 (by decide) (by decide) _ c)
  | 1, 3 => (congrFun (kA1_13 r) _).trans (winK _ p _ 3 640 (by decide) (by decide) _ c)
  | 2, 0 => (congrFun (kA1_20 r) _).trans (winK _ p _ 0 768 (by decide) (by decide) _ c)
  | 2, 1 => (congrFun (kA1_21 r) _).trans (winK _ p _ 1 768 (by decide) (by decide) _ c)
  | 2, 2 => (congrFun (kA1_22 r) _).trans (winK _ p _ 2 768 (by decide) (by decide) _ c)
  | 2, 3 => (congrFun (kA1_23 r) _).trans (winK _ p _ 3 768 (by decide) (by decide) _ c)
  | 3, 0 => (congrFun (kA1_30 r) _).trans (winK _ p _ 0 896 (by decide) (by decide) _ c)
  | 3, 1 => (congrFun (kA1_31 r) _).trans (winK _ p _ 1 896 (by decide) (by decide) _ c)
  | 3, 2 => (congrFun (kA1_32 r) _).trans (winK _ p _ 2 896 (by decide) (by decide) _ c)
  | 3, 3 => (congrFun (kA1_33 r) _).trans (winK _ p _ 3 896 (by decide) (by decide) _ c)

theorem vA1_at (c : Fin 256) (l : Fin 256) : ∀ (b n : Fin 4), vA1 r b n (ix3 0 c l)
    = View.canon (r.lv1 bvA onesV) (ix3 n ⟨512 * 1 + 128 * b.val + c.val, by omega⟩ l)
  | 0, 0 => (congrFun (vA1_00 r) _).trans (winV _ l _ 0 512 (by decide) (by decide) _ c)
  | 0, 1 => (congrFun (vA1_01 r) _).trans (winV _ l _ 1 512 (by decide) (by decide) _ c)
  | 0, 2 => (congrFun (vA1_02 r) _).trans (winV _ l _ 2 512 (by decide) (by decide) _ c)
  | 0, 3 => (congrFun (vA1_03 r) _).trans (winV _ l _ 3 512 (by decide) (by decide) _ c)
  | 1, 0 => (congrFun (vA1_10 r) _).trans (winV _ l _ 0 640 (by decide) (by decide) _ c)
  | 1, 1 => (congrFun (vA1_11 r) _).trans (winV _ l _ 1 640 (by decide) (by decide) _ c)
  | 1, 2 => (congrFun (vA1_12 r) _).trans (winV _ l _ 2 640 (by decide) (by decide) _ c)
  | 1, 3 => (congrFun (vA1_13 r) _).trans (winV _ l _ 3 640 (by decide) (by decide) _ c)
  | 2, 0 => (congrFun (vA1_20 r) _).trans (winV _ l _ 0 768 (by decide) (by decide) _ c)
  | 2, 1 => (congrFun (vA1_21 r) _).trans (winV _ l _ 1 768 (by decide) (by decide) _ c)
  | 2, 2 => (congrFun (vA1_22 r) _).trans (winV _ l _ 2 768 (by decide) (by decide) _ c)
  | 2, 3 => (congrFun (vA1_23 r) _).trans (winV _ l _ 3 768 (by decide) (by decide) _ c)
  | 3, 0 => (congrFun (vA1_30 r) _).trans (winV _ l _ 0 896 (by decide) (by decide) _ c)
  | 3, 1 => (congrFun (vA1_31 r) _).trans (winV _ l _ 1 896 (by decide) (by decide) _ c)
  | 3, 2 => (congrFun (vA1_32 r) _).trans (winV _ l _ 2 896 (by decide) (by decide) _ c)
  | 3, 3 => (congrFun (vA1_33 r) _).trans (winV _ l _ 3 896 (by decide) (by decide) _ c)

end Cert.YocoB

end
-- ==== Proof.B.TilesA0.lean ====
/-
  The attention of every query block of the chunk is the attention of its queries over its windows.
-/
module

public import proofs.«01_k».proof.Proof.B.WordsA

@[expose] public section

set_option maxRecDepth 16384

noncomputable section

namespace Cert.YocoB

open Idealize.ShloMosaic Cert.KernelBIdeal Cert.KernelBIdeal.Gen

variable {F : FTy → Type} [FloatOps F] [Named F] (r : Args F)

theorem tA0_000 : tA0 r 0 0 0 = atTile (rowsV (qA0 r 0) 0) (kA0 r 0 0) (vA0 r 0 0) (cutV (Scalar.cmpi .eq (BitVec.ofNat 32 (r.i 1)) 0#32)) (r.sk 0) 0 := by rfl
theorem tA0_001 : tA0 r 0 0 1 = atTile (rowsV (qA0 r 0) 0) (kA0 r 0 0) (vA0 r 0 0) (cutV (Scalar.cmpi .eq (BitVec.ofNat 32 (r.i 1)) 0#32)) (r.sk 0) 1 := by rfl
theorem tA0_010 : tA0 r 0 1 0 = atTile (rowsV (qA0 r 1) 0) (kA0 r 0 1) (vA0 r 0 1) (cutV (Scalar.cmpi .eq (BitVec.ofNat 32 (r.i 1)) 0#32)) (r.sk 1) 0 := by rfl
theorem tA0_011 : tA0 r 0 1 1 = atTile (rowsV (qA0 r 1) 0) (kA0 r 0 1) (vA0 r 0 1) (cutV (Scalar.cmpi .eq (BitVec.ofNat 32 (r.i 1)) 0#32)) (r.sk 1) 1 := by rfl
theorem tA0_020 : tA0 r 0 2 0 = atTile (rowsV (qA0 r 2) 0) (kA0 r 0 2) (vA0 r 0 2) (cutV (Scalar.cmpi .eq (BitVec.ofNat 32 (r.i 1)) 0#32)) (r.sk 2) 0 := by rfl
theorem tA0_021 : tA0 r 0 2 1 = atTile (rowsV (qA0 r 2) 0) (kA0 r 0 2) (vA0 r 0 2) (cutV (Scalar.cmpi .eq (BitVec.ofNat 32 (r.i 1)) 0#32)) (r.sk 2) 1 := by rfl
theorem tA0_030 : tA0 r 0 3 0 = atTile (rowsV (qA0 r 3) 0) (kA0 r 0 3) (vA0 r 0 3) (cutV (Scalar.cmpi .eq (BitVec.ofNat 32 (r.i 1)) 0#32)) (r.sk 3) 0 := by rfl
theorem tA0_031 : tA0 r 0 3 1 = atTile (rowsV (qA0 r 3) 0) (kA0 r 0 3) (vA0 r 0 3) (cutV (Scalar.cmpi .eq (BitVec.ofNat 32 (r.i 1)) 0#32)) (r.sk 3) 1 := by rfl
theorem tA0_100 : tA0 r 1 0 0 = atTile (rowsV (qA0 r 0) 1) (kA0 r 1 0) (vA0 r 1 0) id (r.sk 0) 0 := by rfl
theorem tA0_101 : tA0 r 1 0 1 = atTile (rowsV (qA0 r 0) 1) (kA0 r 1 0) (vA0 r 1 0) id (r.sk 0) 1 := by rfl
theorem tA0_110 : tA0 r 1 1 0 = atTile (rowsV (qA0 r 1) 1) (kA0 r 1 1) (vA0 r 1 1) id (r.sk 1) 0 := by rfl
theorem tA0_111 : tA0 r 1 1 1 = atTile (rowsV (qA0 r 1) 1) (kA0 r 1 1) (vA0 r 1 1) id (r.sk 1) 1 := by rfl
theorem tA0_120 : tA0 r 1 2 0 = atTile (rowsV (qA0 r 2) 1) (kA0 r 1 2) (vA0 r 1 2) id (r.sk 2) 0 := by rfl
theorem tA0_121 : tA0 r 1 2 1 = atTile (rowsV (qA0 r 2) 1) (kA0 r 1 2) (vA0 r 1 2) id (r.sk 2) 1 := by rfl
theorem tA0_130 : tA0 r 1 3 0 = atTile (rowsV (qA0 r 3) 1) (kA0 r 1 3) (vA0 r 1 3) id (r.sk 3) 0 := by rfl
theorem tA0_131 : tA0 r 1 3 1 = atTile (rowsV (qA0 r 3) 1) (kA0 r 1 3) (vA0 r 1 3) id (r.sk 3) 1 := by rfl
theorem tA0_200 : tA0 r 2 0 0 = atTile (rowsV (qA0 r 0) 2) (kA0 r 2 0) (vA0 r 2 0) id (r.sk 0) 0 := by rfl
theorem tA0_201 : tA0 r 2 0 1 = atTile (rowsV (qA0 r 0) 2) (kA0 r 2 0) (vA0 r 2 0) id (r.sk 0) 1 := by rfl
theorem tA0_210 : tA0 r 2 1 0 = atTile (rowsV (qA0 r 1) 2) (kA0 r 2 1) (vA0 r 2 1) id (r.sk 1) 0 := by rfl
theorem tA0_211 : tA0 r 2 1 1 = atTile (rowsV (qA0 r 1) 2) (kA0 r 2 1) (vA0 r 2 1) id (r.sk 1) 1 := by rfl
theorem tA0_220 : tA0 r 2 2 0 = atTile (rowsV (qA0 r 2) 2) (kA0 r 2 2) (vA0 r 2 2) id (r.sk 2) 0 := by rfl
theorem tA0_221 : tA0 r 2 2 1 = atTile (rowsV (qA0 r 2) 2) (kA0 r 2 2) (vA0 r 2 2) id (r.sk 2) 1 := by rfl
theorem tA0_230 : tA0 r 2 3 0 = atTile (rowsV (qA0 r 3) 2) (kA0 r 2 3) (vA0 r 2 3) id (r.sk 3) 0 := by rfl
theorem tA0_231 : tA0 r 2 3 1 = atTile (rowsV (qA0 r 3) 2) (kA0 r 2 3) (vA0 r 2 3) id (r.sk 3) 1 := by rfl
theorem tA0_300 : tA0 r 3 0 0 = atTile (rowsV (qA0 r 0) 3) (kA0 r 3 0) (vA0 r 3 0) id (r.sk 0) 0 := by rfl
theorem tA0_301 : tA0 r 3 0 1 = atTile (rowsV (qA0 r 0) 3) (kA0 r 3 0) (vA0 r 3 0) id (r.sk 0) 1 := by rfl
theorem tA0_310 : tA0 r 3 1 0 = atTile (rowsV (qA0 r 1) 3) (kA0 r 3 1) (vA0 r 3 1) id (r.sk 1) 0 := by rfl
theorem tA0_311 : tA0 r 3 1 1 = atTile (rowsV (qA0 r 1) 3) (kA0 r 3 1) (vA0 r 3 1) id (r.sk 1) 1 := by rfl
theorem tA0_320 : tA0 r 3 2 0 = atTile (rowsV (qA0 r 2) 3) (kA0 r 3 2) (vA0 r 3 2) id (r.sk 2) 0 := by rfl
theorem tA0_321 : tA0 r 3 2 1 = atTile (rowsV (qA0 r 2) 3) (kA0 r 3 2) (vA0 r 3 2) id (r.sk 2) 1 := by rfl
theorem tA0_330 : tA0 r 3 3 0 = atTile (rowsV (qA0 r 3) 3) (kA0 r 3 3) (vA0 r 3 3) id (r.sk 3) 0 := by rfl
theorem tA0_331 : tA0 r 3 3 1 = atTile (rowsV (qA0 r 3) 3) (kA0 r 3 3) (vA0 r 3 3) id (r.sk 3) 1 := by rfl

/-- What the chunk's query blocks do to the scores of the block before. -/
def cutA0 : Fin 4 → FVec F S128x128 .f32 → FVec F S128x128 .f32 := four (cutV (Scalar.cmpi .eq (BitVec.ofNat 32 (r.i 1)) 0#32)) id id id

theorem tA0_eq : ∀ (b n : Fin 4) (p : Fin 2), tA0 r b n p = atTile (rowsV (qA0 r n) b) (kA0 r b n) (vA0 r b n) (cutA0 r b) (r.sk n) p
  | 0, 0, 0 => tA0_000 r
  | 0, 0, 1 => tA0_001 r
  | 0, 1, 0 => tA0_010 r
  | 0, 1, 1 => tA0_011 r
  | 0, 2, 0 => tA0_020 r
  | 0, 2, 1 => tA0_021 r
  | 0, 3, 0 => tA0_030 r
  | 0, 3, 1 => tA0_031 r
  | 1, 0, 0 => tA0_100 r
  | 1, 0, 1 => tA0_101 r
  | 1, 1, 0 => tA0_110 r
  | 1, 1, 1 => tA0_111 r
  | 1, 2, 0 => tA0_120 r
  | 1, 2, 1 => tA0_121 r
  | 1, 3, 0 => tA0_130 r
  | 1, 3, 1 => tA0_131 r
  | 2, 0, 0 => tA0_200 r
  | 2, 0, 1 => tA0_201 r
  | 2, 1, 0 => tA0_210 r
  | 2, 1, 1 => tA0_211 r
  | 2, 2, 0 => tA0_220 r
  | 2, 2, 1 => tA0_221 r
  | 2, 3, 0 => tA0_230 r
  | 2, 3, 1 => tA0_231 r
  | 3, 0, 0 => tA0_300 r
  | 3, 0, 1 => tA0_301 r
  | 3, 1, 0 => tA0_310 r
  | 3, 1, 1 => tA0_311 r
  | 3, 2, 0 => tA0_320 r
  | 3, 2, 1 => tA0_321 r
  | 3, 3, 0 => tA0_330 r
  | 3, 3, 1 => tA0_331 r

end Cert.YocoB

end
-- ==== Proof.B.TilesA1.lean ====
/-
  The attention of every query block of the chunk is the attention of its queries over its windows.
-/
module

public import proofs.«01_k».proof.Proof.B.WordsA

@[expose] public section

set_option maxRecDepth 16384

noncomputable section

namespace Cert.YocoB

open Idealize.ShloMosaic Cert.KernelBIdeal Cert.KernelBIdeal.Gen

variable {F : FTy → Type} [FloatOps F] [Named F] (r : Args F)

theorem tA1_000 : tA1 r 0 0 0 = atTile (rowsV (qA1 r 0) 0) (kA1 r 0 0) (vA1 r 0 0) id (r.sk 0) 0 := by rfl
theorem tA1_001 : tA1 r 0 0 1 = atTile (rowsV (qA1 r 0) 0) (kA1 r 0 0) (vA1 r 0 0) id (r.sk 0) 1 := by rfl
theorem tA1_010 : tA1 r 0 1 0 = atTile (rowsV (qA1 r 1) 0) (kA1 r 0 1) (vA1 r 0 1) id (r.sk 1) 0 := by rfl
theorem tA1_011 : tA1 r 0 1 1 = atTile (rowsV (qA1 r 1) 0) (kA1 r 0 1) (vA1 r 0 1) id (r.sk 1) 1 := by rfl
theorem tA1_020 : tA1 r 0 2 0 = atTile (rowsV (qA1 r 2) 0) (kA1 r 0 2) (vA1 r 0 2) id (r.sk 2) 0 := by rfl
theorem tA1_021 : tA1 r 0 2 1 = atTile (rowsV (qA1 r 2) 0) (kA1 r 0 2) (vA1 r 0 2) id (r.sk 2) 1 := by rfl
theorem tA1_030 : tA1 r 0 3 0 = atTile (rowsV (qA1 r 3) 0) (kA1 r 0 3) (vA1 r 0 3) id (r.sk 3) 0 := by rfl
theorem tA1_031 : tA1 r 0 3 1 = atTile (rowsV (qA1 r 3) 0) (kA1 r 0 3) (vA1 r 0 3) id (r.sk 3) 1 := by rfl
theorem tA1_100 : tA1 r 1 0 0 = atTile (rowsV (qA1 r 0) 1) (kA1 r 1 0) (vA1 r 1 0) id (r.sk 0) 0 := by rfl
theorem tA1_101 : tA1 r 1 0 1 = atTile (rowsV (qA1 r 0) 1) (kA1 r 1 0) (vA1 r 1 0) id (r.sk 0) 1 := by rfl
theorem tA1_110 : tA1 r 1 1 0 = atTile (rowsV (qA1 r 1) 1) (kA1 r 1 1) (vA1 r 1 1) id (r.sk 1) 0 := by rfl
theorem tA1_111 : tA1 r 1 1 1 = atTile (rowsV (qA1 r 1) 1) (kA1 r 1 1) (vA1 r 1 1) id (r.sk 1) 1 := by rfl
theorem tA1_120 : tA1 r 1 2 0 = atTile (rowsV (qA1 r 2) 1) (kA1 r 1 2) (vA1 r 1 2) id (r.sk 2) 0 := by rfl
theorem tA1_121 : tA1 r 1 2 1 = atTile (rowsV (qA1 r 2) 1) (kA1 r 1 2) (vA1 r 1 2) id (r.sk 2) 1 := by rfl
theorem tA1_130 : tA1 r 1 3 0 = atTile (rowsV (qA1 r 3) 1) (kA1 r 1 3) (vA1 r 1 3) id (r.sk 3) 0 := by rfl
theorem tA1_131 : tA1 r 1 3 1 = atTile (rowsV (qA1 r 3) 1) (kA1 r 1 3) (vA1 r 1 3) id (r.sk 3) 1 := by rfl
theorem tA1_200 : tA1 r 2 0 0 = atTile (rowsV (qA1 r 0) 2) (kA1 r 2 0) (vA1 r 2 0) id (r.sk 0) 0 := by rfl
theorem tA1_201 : tA1 r 2 0 1 = atTile (rowsV (qA1 r 0) 2) (kA1 r 2 0) (vA1 r 2 0) id (r.sk 0) 1 := by rfl
theorem tA1_210 : tA1 r 2 1 0 = atTile (rowsV (qA1 r 1) 2) (kA1 r 2 1) (vA1 r 2 1) id (r.sk 1) 0 := by rfl
theorem tA1_211 : tA1 r 2 1 1 = atTile (rowsV (qA1 r 1) 2) (kA1 r 2 1) (vA1 r 2 1) id (r.sk 1) 1 := by rfl
theorem tA1_220 : tA1 r 2 2 0 = atTile (rowsV (qA1 r 2) 2) (kA1 r 2 2) (vA1 r 2 2) id (r.sk 2) 0 := by rfl
theorem tA1_221 : tA1 r 2 2 1 = atTile (rowsV (qA1 r 2) 2) (kA1 r 2 2) (vA1 r 2 2) id (r.sk 2) 1 := by rfl
theorem tA1_230 : tA1 r 2 3 0 = atTile (rowsV (qA1 r 3) 2) (kA1 r 2 3) (vA1 r 2 3) id (r.sk 3) 0 := by rfl
theorem tA1_231 : tA1 r 2 3 1 = atTile (rowsV (qA1 r 3) 2) (kA1 r 2 3) (vA1 r 2 3) id (r.sk 3) 1 := by rfl
theorem tA1_300 : tA1 r 3 0 0 = atTile (rowsV (qA1 r 0) 3) (kA1 r 3 0) (vA1 r 3 0) id (r.sk 0) 0 := by rfl
theorem tA1_301 : tA1 r 3 0 1 = atTile (rowsV (qA1 r 0) 3) (kA1 r 3 0) (vA1 r 3 0) id (r.sk 0) 1 := by rfl
theorem tA1_310 : tA1 r 3 1 0 = atTile (rowsV (qA1 r 1) 3) (kA1 r 3 1) (vA1 r 3 1) id (r.sk 1) 0 := by rfl
theorem tA1_311 : tA1 r 3 1 1 = atTile (rowsV (qA1 r 1) 3) (kA1 r 3 1) (vA1 r 3 1) id (r.sk 1) 1 := by rfl
theorem tA1_320 : tA1 r 3 2 0 = atTile (rowsV (qA1 r 2) 3) (kA1 r 3 2) (vA1 r 3 2) id (r.sk 2) 0 := by rfl
theorem tA1_321 : tA1 r 3 2 1 = atTile (rowsV (qA1 r 2) 3) (kA1 r 3 2) (vA1 r 3 2) id (r.sk 2) 1 := by rfl

/-- What the chunk's query blocks do to the scores of the block before. -/
def cutA1 (F : FTy → Type) : Fin 4 → FVec F S128x128 .f32 → FVec F S128x128 .f32 := four id id id id

theorem tA1_eq : ∀ (b n : Fin 4) (p : Fin 2), tA1 r b n p = atTile (rowsV (qA1 r n) b) (kA1 r b n) (vA1 r b n) (cutA1 F b) (r.sk n) p
  | 0, 0, 0 => tA1_000 r
  | 0, 0, 1 => tA1_001 r
  | 0, 1, 0 => tA1_010 r
  | 0, 1, 1 => tA1_011 r
  | 0, 2, 0 => tA1_020 r
  | 0, 2, 1 => tA1_021 r
  | 0, 3, 0 => tA1_030 r
  | 0, 3, 1 => tA1_031 r
  | 1, 0, 0 => tA1_100 r
  | 1, 0, 1 => tA1_101 r
  | 1, 1, 0 => tA1_110 r
  | 1, 1, 1 => tA1_111 r
  | 1, 2, 0 => tA1_120 r
  | 1, 2, 1 => tA1_121 r
  | 1, 3, 0 => tA1_130 r
  | 1, 3, 1 => tA1_131 r
  | 2, 0, 0 => tA1_200 r
  | 2, 0, 1 => tA1_201 r
  | 2, 1, 0 => tA1_210 r
  | 2, 1, 1 => tA1_211 r
  | 2, 2, 0 => tA1_220 r
  | 2, 2, 1 => tA1_221 r
  | 2, 3, 0 => tA1_230 r
  | 2, 3, 1 => tA1_231 r
  | 3, 0, 0 => tA1_300 r
  | 3, 0, 1 => tA1_301 r
  | 3, 1, 0 => tA1_310 r
  | 3, 1, 1 => tA1_311 r
  | 3, 2, 0 => tA1_320 r
  | 3, 2, 1 => tA1_321 r
  | 3, 3, 0 => rfl
  | 3, 3, 1 => rfl

end Cert.YocoB

end
-- ==== Proof.B.PointA.lean ====
/-
  What a grid point of run A leaves and gives, in the layer's formulas.
-/
module

public import proofs.«01_k».proof.Proof.B.Point
public import proofs.«01_k».proof.Proof.B.WinA
public import proofs.«01_k».proof.Proof.B.TilesA0
public import proofs.«01_k».proof.Proof.B.TilesA1

@[expose] public section

set_option maxRecDepth 16384

noncomputable section

namespace Cert.YocoB

open Idealize.ShloMosaic Cert.KernelBIdeal Cert.KernelBIdeal.Gen Cert.YocoPieces

variable {r : Args Ideal} {D : Lay} {j : Fin 8} (h : Holds r D j)

theorem baseK_A (hj : j.val = 0) (g : Fin 4) (p : Fin 256) (x : Fin 128) :
    (bkA : Vec Ideal S4x256x128 .bf16) (ix3 g p x) = scrRow (D.keys g) j ⟨x.val, by omega⟩ (pdim p) := by
  have e : (bkA : Vec Ideal S4x256x128 .bf16) (ix3 g p x) = Ideal.ofBits .bf16 0x0000#16 := by
    pointwise [bkA, k0_pay11, k0_pay9]
  rw [e]
  unfold scrRow
  rw [dif_pos (show x.val < 128 by omega), dif_pos hj]
  simp [Ideal.ofBits, Ideal.ieee, -EReal.coe_mul]

theorem baseV_A (hj : j.val = 0) (g : Fin 4) (x l : Fin 128) :
    (bvA : Vec Ideal S4x128x128 .bf16) (ix3 g x l) = scrRow (D.vals g) j ⟨x.val, by omega⟩ ⟨l.val % 64, by omega⟩ := by
  have e : (bvA : Vec Ideal S4x128x128 .bf16) (ix3 g x l) = Ideal.ofBits .bf16 0x0000#16 := by
    pointwise [bvA, k0_pay12, k0_pay10]
  rw [e]
  unfold scrRow
  rw [dif_pos (show x.val < 128 by omega), dif_pos hj]
  simp [Ideal.ofBits, Ideal.ieee, -EReal.coe_mul]

theorem readQ {sg : RefSig} {κ : Kind} {sp : Space} (v : View sg κ sp S1024x1024 .bf16) (L : List (View.Piece (Elt Ideal) S1024x1024 .bf16)) {o : ℕ}
    {inb : ∀ a : Fin 2, (![0, o] : Fin 2 → ℕ) a + S1024x512.size a ≤ S1024x1024.size a} (k : Fin 1024) (x : Fin 512) (x' : Fin 1024) (hx : x'.val = o + x.val) :
    v.readCov L (Rect.unit (s := S1024x1024) ![0, o] S1024x512.size inb).toLoadRect (ix2 k x) = View.canon L (ix2 k x') :=
  readCov_unit (S := S1024x1024) v L (ix2 k x) (ix2 k x') (fun a => by
    match a with
    | ⟨0, _⟩ => exact (Nat.zero_add k.val).symm
    | ⟨1, _⟩ => exact hx)

theorem ones_A (g : Fin 4) (x : Fin 1152) (l : Fin 256) (hl : 128 ≤ l.val) : View.canon (onesV (F := Ideal)) (ix3 g x l) = 1 := by
  rw [onesV_at g x l hl]
  have e : (k0_pay8 (F := Ideal)) (ix3 g x ⟨l.val - 128, by omega⟩) = Ideal.ofBits .bf16 0x3F80#16 := by
    pointwise [k0_pay8]
  rw [e]
  simp [Ideal.ofBits, Ideal.ieee, -EReal.coe_mul]
  try norm_num

include h

/-- The keys the point leaves. -/
theorem keysOk_A (hj : j.val = 0) : KOk D j (View.canon (r.lk1 bkA)) := h.keys _ (baseK_A hj)
/-- The values the point leaves. -/
theorem valsOk_A (hj : j.val = 0) : VOk D j (View.canon (r.lv1 bvA onesV)) := h.vals _ _ (baseV_A hj) ones_A

/-- The point's output. -/
theorem point_A (hf : D.Fine) (hj : j.val = 0) (a o : Fin 1024) :
    View.canon (LOut (yA0 r) (yA1 r) r.xo00 r.xo01 r.xo10 r.xo11 r.wo0 r.wo1) (ix3 0 a o) = D.out ⟨1024 * j.val + a.val, by omega⟩ o := by
  rw [yA0_eq, yA1_eq]
  have hK := keysOk_A h hj
  have hV' := valsOk_A h hj
  refine h.out _ _ (fun a n p l => ?_) (fun a n p l => ?_) a o
  · exact h.chunk hf 0 _ _ _ _ _ (tA0_eq r)
      (fun n a d e => (congrFun (qA0_eq r n) _).trans (h.que0 hf _ _ (fun k x => (readQ r.m20.view r.lq k x ⟨x.val, by omega⟩ (by show x.val = 0 + x.val; omega)).trans (h.lq k _)) (fun k x => (readQ r.m20.view r.lq k x ⟨512 + x.val, by omega⟩ rfl).trans (h.lq k _)) n a d e))
      (fun b n p c => (kA0_at r p c b n).trans (hK n p _)) (fun b n c l => (vA0_at r c l b n).trans (hV' n _ l))
      (fun b s a c => cut0_at r D j h s a c b) a n p l
  · exact h.chunk hf 1 _ _ _ _ _ (tA1_eq r)
      (fun n a d e => (congrFun (qA1_eq r n) _).trans (h.que1 hf _ _ (fun k x => (readQ r.m20.view r.lq k x ⟨x.val, by omega⟩ (by show x.val = 0 + x.val; omega)).trans (h.lq k _)) (fun k x => (readQ r.m20.view r.lq k x ⟨512 + x.val, by omega⟩ rfl).trans (h.lq k _)) n a d e))
      (fun b n p c => (kA1_at r p c b n).trans (hK n p _)) (fun b n c l => (vA1_at r c l b n).trans (hV' n _ l))
      (fun b s a c => cut1_at j s a c b) a n p l

end Cert.YocoB

end
-- ==== Proof.B.WordsB.lean ====
/-
  The words of the run of a grid point, not the first of its sequence: queries, windows and the attention of every block.
-/
module

public import proofs.«01_k».proof.Proof.Gen.KernelBIdeal.Frame.RunB
public import proofs.«01_k».proof.Proof.B.Args

@[expose] public section

set_option maxRecDepth 16384

noncomputable section

namespace Cert.YocoB

open Idealize.ShloMosaic Cert.KernelBIdeal Cert.KernelBIdeal.Gen

variable {F : FTy → Type} [FloatOps F] [Named F] (r : Args F)

/-- The queries of the four groups. -/
def qB0 : Fin 4 → FVec F S512x256 .bf16 := four (kernelRun0_B.sl.v324 r.c r.m2 r.h2 r.m4 r.h4 r.m11 r.h11 r.m12 r.h12 r.m13 r.h13 r.m14 r.h14 r.m20 r.h20 r.x0 r.x2 r.x9 r.x10 r.x11 r.x12 r.s2) (kernelRun0_B.sl.v379 r.c r.m2 r.h2 r.m4 r.h4 r.m11 r.h11 r.m12 r.h12 r.m13 r.h13 r.m14 r.h14 r.m20 r.h20 r.x0 r.x2 r.x9 r.x10 r.x11 r.x12 r.s2) (kernelRun0_B.sl.v440 r.c r.m2 r.h2 r.m4 r.h4 r.m11 r.h11 r.m12 r.h12 r.m13 r.h13 r.m14 r.h14 r.m20 r.h20 r.x0 r.x2 r.x9 r.x10 r.x11 r.x12 r.s2) (kernelRun0_B.sl.v495 r.c r.m2 r.h2 r.m4 r.h4 r.m11 r.h11 r.m12 r.h12 r.m13 r.h13 r.m14 r.h14 r.m20 r.h20 r.x0 r.x2 r.x9 r.x10 r.x11 r.x12 r.s2)

/-- The windows of keys, by query block and group. -/
def kB0 : Fin 4 → Fin 4 → Vec F S1x256x256 .bf16 :=
  four (four (kernelRun0_B.sl.v528 r.c r.m2 r.h2 r.m3 r.h3 r.m5 r.h5 r.m6 r.h6 r.m7 r.h7 r.m8 r.h8 r.m18 r.h18 r.x0 r.x1 r.x3 r.x4 r.x5 r.x6 r.s0) (kernelRun0_B.sl.v541 r.c r.m2 r.h2 r.m3 r.h3 r.m5 r.h5 r.m6 r.h6 r.m7 r.h7 r.m8 r.h8 r.m18 r.h18 r.x0 r.x1 r.x3 r.x4 r.x5 r.x6 r.s0) (kernelRun0_B.sl.v554 r.c r.m2 r.h2 r.m3 r.h3 r.m5 r.h5 r.m6 r.h6 r.m7 r.h7 r.m8 r.h8 r.m18 r.h18 r.x0 r.x1 r.x3 r.x4 r.x5 r.x6 r.s0) (kernelRun0_B.sl.v689 r.c r.m2 r.h2 r.m3 r.h3 r.m5 r.h5 r.m6 r.h6 r.m7 r.h7 r.m8 r.h8 r.m18 r.h18 r.x0 r.x1 r.x3 r.x4 r.x5 r.x6 r.s0))
    (four (kernelRun0_B.sl.v824 r.c r.m2 r.h2 r.m3 r.h3 r.m5 r.h5 r.m6 r.h6 r.m7 r.h7 r.m8 r.h8 r.m18 r.h18 r.x0 r.x1 r.x3 r.x4 r.x5 r.x6 r.s0) (kernelRun0_B.sl.v964 r.c r.m2 r.h2 r.m3 r.h3 r.m5 r.h5 r.m6 r.h6 r.m7 r.h7 r.m8 r.h8 r.m18 r.h18 r.x0 r.x1 r.x3 r.x4 r.x5 r.x6 r.s0) (kernelRun0_B.sl.v1099 r.c r.m2 r.h2 r.m3 r.h3 r.m5 r.h5 r.m6 r.h6 r.m7 r.h7 r.m8 r.h8 r.m18 r.h18 r.x0 r.x1 r.x3 r.x4 r.x5 r.x6 r.s0) (kernelRun0_B.sl.v1222 r.c r.m2 r.h2 r.m3 r.h3 r.m5 r.h5 r.m6 r.h6 r.m7 r.h7 r.m8 r.h8 r.m18 r.h18 r.x0 r.x1 r.x3 r.x4 r.x5 r.x6 r.s0))
    (four (kernelRun0_B.sl.v1350 r.c r.m2 r.h2 r.m3 r.h3 r.m5 r.h5 r.m6 r.h6 r.m7 r.h7 r.m8 r.h8 r.m18 r.h18 r.x0 r.x1 r.x3 r.x4 r.x5 r.x6 r.s0) (kernelRun0_B.sl.v1473 r.c r.m2 r.h2 r.m3 r.h3 r.m5 r.h5 r.m6 r.h6 r.m7 r.h7 r.m8 r.h8 r.m18 r.h18 r.x0 r.x1 r.x3 r.x4 r.x5 r.x6 r.s0) (kernelRun0_B.sl.v1596 r.c r.m2 r.h2 r.m3 r.h3 r.m5 r.h5 r.m6 r.h6 r.m7 r.h7 r.m8 r.h8 r.m18 r.h18 r.x0 r.x1 r.x3 r.x4 r.x5 r.x6 r.s0) (kernelRun0_B.sl.v1880 r.c r.m2 r.h2 r.m3 r.h3 r.m5 r.h5 r.m6 r.h6 r.m7 r.h7 r.m8 r.h8 r.m18 r.h18 r.x0 r.x1 r.x3 r.x4 r.x5 r.x6 r.s0))
    (four (kernelRun0_B.sl.v2003 r.c r.m2 r.h2 r.m3 r.h3 r.m5 r.h5 r.m6 r.h6 r.m7 r.h7 r.m8 r.h8 r.m18 r.h18 r.x0 r.x1 r.x3 r.x4 r.x5 r.x6 r.s0) (kernelRun0_B.sl.v2242 r.c r.m2 r.h2 r.m3 r.h3 r.m5 r.h5 r.m6 r.h6 r.m7 r.h7 r.m8 r.h8 r.m18 r.h18 r.x0 r.x1 r.x3 r.x4 r.x5 r.x6 r.s0) (kernelRun0_B.sl.v2365 r.c r.m2 r.h2 r.m3 r.h3 r.m5 r.h5 r.m6 r.h6 r.m7 r.h7 r.m8 r.h8 r.m18 r.h18 r.x0 r.x1 r.x3 r.x4 r.x5 r.x6 r.s0) (kernelRun0_B.sl.v2488 r.c r.m2 r.h2 r.m3 r.h3 r.m5 r.h5 r.m6 r.h6 r.m7 r.h7 r.m8 r.h8 r.m18 r.h18 r.x0 r.x1 r.x3 r.x4 r.x5 r.x6 r.s0))

/-- The windows of values, by query block and group. -/
def vB0 : Fin 4 → Fin 4 → Vec F S1x256x256 .bf16 :=
  four (four (kernelRun0_B.sl.v622 r.c r.m2 r.h2 r.m3 r.h3 r.m5 r.h5 r.m19 r.h19 r.x0 r.x1 r.x3 r.s1) (kernelRun0_B.sl.v757 r.c r.m2 r.h2 r.m3 r.h3 r.m5 r.h5 r.m19 r.h19 r.x0 r.x1 r.x3 r.s1) (kernelRun0_B.sl.v897 r.c r.m2 r.h2 r.m3 r.h3 r.m5 r.h5 r.m19 r.h19 r.x0 r.x1 r.x3 r.s1) (kernelRun0_B.sl.v1032 r.c r.m2 r.h2 r.m3 r.h3 r.m5 r.h5 r.m19 r.h19 r.x0 r.x1 r.x3 r.s1))
    (four (kernelRun0_B.sl.v1155 r.c r.m2 r.h2 r.m3 r.h3 r.m5 r.h5 r.m19 r.h19 r.x0 r.x1 r.x3 r.s1) (kernelRun0_B.sl.v1283 r.c r.m2 r.h2 r.m3 r.h3 r.m5 r.h5 r.m19 r.h19 r.x0 r.x1 r.x3 r.s1) (kernelRun0_B.sl.v1406 r.c r.m2 r.h2 r.m3 r.h3 r.m5 r.h5 r.m19 r.h19 r.x0 r.x1 r.x3 r.s1) (kernelRun0_B.sl.v1529 r.c r.m2 r.h2 r.m3 r.h3 r.m5 r.h5 r.m19 r.h19 r.x0 r.x1 r.x3 r.s1))
    (four (kernelRun0_B.sl.v1813 r.c r.m2 r.h2 r.m3 r.h3 r.m5 r.h5 r.m19 r.h19 r.x0 r.x1 r.x3 r.s1) (kernelRun0_B.sl.v1936 r.c r.m2 r.h2 r.m3 r.h3 r.m5 r.h5 r.m19 r.h19 r.x0 r.x1 r.x3 r.s1) (kernelRun0_B.sl.v2175 r.c r.m2 r.h2 r.m3 r.h3 r.m5 r.h5 r.m19 r.h19 r.x0 r.x1 r.x3 r.s1) (kernelRun0_B.sl.v2298 r.c r.m2 r.h2 r.m3 r.h3 r.m5 r.h5 r.m19 r.h19 r.x0 r.x1 r.x3 r.s1))
    (four (kernelRun0_B.sl.v2421 r.c r.m2 r.h2 r.m3 r.h3 r.m5 r.h5 r.m19 r.h19 r.x0 r.x1 r.x3 r.s1) (kernelRun0_B.sl.v2660 r.c r.m2 r.h2 r.m3 r.h3 r.m5 r.h5 r.m19 r.h19 r.x0 r.x1 r.x3 r.s1) (kernelRun0_B.sl.v2770 r.c r.m2 r.h2 r.m3 r.h3 r.m5 r.h5 r.m19 r.h19 r.x0 r.x1 r.x3 r.s1) (kernelRun0_B.sl.v2880 r.c r.m2 r.h2 r.m3 r.h3 r.m5 r.h5 r.m19 r.h19 r.x0 r.x1 r.x3 r.s1))

/-- The attention, by query block, group and pair of heads. -/
def tB0 : Fin 4 → Fin 4 → Fin 2 → FVec F S128x128 .f32 :=
  four (four (pair (kernelRun0_B.sl.r_17 r.c r.i r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.r_20 r.c r.i r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)) (pair (kernelRun0_B.sl.r_35 r.c r.i r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.r_40 r.c r.i r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)) (pair (kernelRun0_B.sl.r_56 r.c r.i r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.r_62 r.c r.i r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)) (pair (kernelRun0_B.sl.r_76 r.c r.i r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.v1088 r.c r.i r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)))
    (four (pair (kernelRun0_B.sl.r_90 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.r_91 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)) (pair (kernelRun0_B.sl.r_95 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.v1339 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)) (pair (kernelRun0_B.sl.r_103 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.r_104 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)) (pair (kernelRun0_B.sl.r_108 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.r_109 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)))
    (four (pair (kernelRun0_B.sl.r_121 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.r_122 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)) (pair (kernelRun0_B.sl.r_128 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.v1992 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)) (pair (kernelRun0_B.sl.r_133 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.v2231 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)) (pair (kernelRun0_B.sl.r_141 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.r_142 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)))
    (four (pair (kernelRun0_B.sl.r_146 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.r_147 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)) (pair (kernelRun0_B.sl.r_155 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.r_156 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)) (pair (kernelRun0_B.sl.r_169 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.r_170 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)) (pair (kernelRun0_B.sl.r_179 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.r_180 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)))

/-- The queries of the four groups. -/
def qB1 : Fin 4 → FVec F S512x256 .bf16 := four (kernelRun0_B.sl.v2066 r.c r.m2 r.h2 r.m4 r.h4 r.m11 r.h11 r.m12 r.h12 r.m13 r.h13 r.m14 r.h14 r.m20 r.h20 r.x0 r.x2 r.x9 r.x10 r.x11 r.x12 r.s2) (kernelRun0_B.sl.v2121 r.c r.m2 r.h2 r.m4 r.h4 r.m11 r.h11 r.m12 r.h12 r.m13 r.h13 r.m14 r.h14 r.m20 r.h20 r.x0 r.x2 r.x9 r.x10 r.x11 r.x12 r.s2) (kernelRun0_B.sl.v2551 r.c r.m2 r.h2 r.m4 r.h4 r.m11 r.h11 r.m12 r.h12 r.m13 r.h13 r.m14 r.h14 r.m20 r.h20 r.x0 r.x2 r.x9 r.x10 r.x11 r.x12 r.s2) (kernelRun0_B.sl.v2606 r.c r.m2 r.h2 r.m4 r.h4 r.m11 r.h11 r.m12 r.h12 r.m13 r.h13 r.m14 r.h14 r.m20 r.h20 r.x0 r.x2 r.x9 r.x10 r.x11 r.x12 r.s2)

/-- The windows of keys, by query block and group. -/
def kB1 : Fin 4 → Fin 4 → Vec F S1x256x256 .bf16 :=
  four (four (kernelRun0_B.sl.v2947 r.c r.m2 r.h2 r.m3 r.h3 r.m5 r.h5 r.m6 r.h6 r.m7 r.h7 r.m8 r.h8 r.m18 r.h18 r.x0 r.x1 r.x3 r.x4 r.x5 r.x6 r.s0) (kernelRun0_B.sl.v2960 r.c r.m2 r.h2 r.m3 r.h3 r.m5 r.h5 r.m6 r.h6 r.m7 r.h7 r.m8 r.h8 r.m18 r.h18 r.x0 r.x1 r.x3 r.x4 r.x5 r.x6 r.s0) (kernelRun0_B.sl.v2973 r.c r.m2 r.h2 r.m3 r.h3 r.m5 r.h5 r.m6 r.h6 r.m7 r.h7 r.m8 r.h8 r.m18 r.h18 r.x0 r.x1 r.x3 r.x4 r.x5 r.x6 r.s0) (kernelRun0_B.sl.v3096 r.c r.m2 r.h2 r.m3 r.h3 r.m5 r.h5 r.m6 r.h6 r.m7 r.h7 r.m8 r.h8 r.m18 r.h18 r.x0 r.x1 r.x3 r.x4 r.x5 r.x6 r.s0))
    (four (kernelRun0_B.sl.v3219 r.c r.m2 r.h2 r.m3 r.h3 r.m5 r.h5 r.m6 r.h6 r.m7 r.h7 r.m8 r.h8 r.m18 r.h18 r.x0 r.x1 r.x3 r.x4 r.x5 r.x6 r.s0) (kernelRun0_B.sl.v3342 r.c r.m2 r.h2 r.m3 r.h3 r.m5 r.h5 r.m6 r.h6 r.m7 r.h7 r.m8 r.h8 r.m18 r.h18 r.x0 r.x1 r.x3 r.x4 r.x5 r.x6 r.s0) (kernelRun0_B.sl.v3482 r.c r.m2 r.h2 r.m3 r.h3 r.m5 r.h5 r.m6 r.h6 r.m7 r.h7 r.m8 r.h8 r.m18 r.h18 r.x0 r.x1 r.x3 r.x4 r.x5 r.x6 r.s0) (kernelRun0_B.sl.v3605 r.c r.m2 r.h2 r.m3 r.h3 r.m5 r.h5 r.m6 r.h6 r.m7 r.h7 r.m8 r.h8 r.m18 r.h18 r.x0 r.x1 r.x3 r.x4 r.x5 r.x6 r.s0))
    (four (kernelRun0_B.sl.v3728 r.c r.m2 r.h2 r.m3 r.h3 r.m5 r.h5 r.m6 r.h6 r.m7 r.h7 r.m8 r.h8 r.m18 r.h18 r.x0 r.x1 r.x3 r.x4 r.x5 r.x6 r.s0) (kernelRun0_B.sl.v3860 r.c r.m2 r.h2 r.m3 r.h3 r.m5 r.h5 r.m6 r.h6 r.m7 r.h7 r.m8 r.h8 r.m18 r.h18 r.x0 r.x1 r.x3 r.x4 r.x5 r.x6 r.s0) (kernelRun0_B.sl.v3983 r.c r.m2 r.h2 r.m3 r.h3 r.m5 r.h5 r.m6 r.h6 r.m7 r.h7 r.m8 r.h8 r.m18 r.h18 r.x0 r.x1 r.x3 r.x4 r.x5 r.x6 r.s0) (kernelRun0_B.sl.v4106 r.c r.m2 r.h2 r.m3 r.h3 r.m5 r.h5 r.m6 r.h6 r.m7 r.h7 r.m8 r.h8 r.m18 r.h18 r.x0 r.x1 r.x3 r.x4 r.x5 r.x6 r.s0))
    (four (kernelRun0_B.sl.v4234 r.c r.m2 r.h2 r.m3 r.h3 r.m5 r.h5 r.m6 r.h6 r.m7 r.h7 r.m8 r.h8 r.m18 r.h18 r.x0 r.x1 r.x3 r.x4 r.x5 r.x6 r.s0) (kernelRun0_B.sl.v4357 r.c r.m2 r.h2 r.m3 r.h3 r.m5 r.h5 r.m6 r.h6 r.m7 r.h7 r.m8 r.h8 r.m18 r.h18 r.x0 r.x1 r.x3 r.x4 r.x5 r.x6 r.s0) (kernelRun0_B.sl.v4480 r.c r.m2 r.h2 r.m3 r.h3 r.m5 r.h5 r.m6 r.h6 r.m7 r.h7 r.m8 r.h8 r.m18 r.h18 r.x0 r.x1 r.x3 r.x4 r.x5 r.x6 r.s0) (kernelRun0_B.sl.v4608 r.c r.m2 r.h2 r.m3 r.h3 r.m5 r.h5 r.m6 r.h6 r.m7 r.h7 r.m8 r.h8 r.m18 r.h18 r.x0 r.x1 r.x3 r.x4 r.x5 r.x6 r.s0))

/-- The windows of values, by query block and group. -/
def vB1 : Fin 4 → Fin 4 → Vec F S1x256x256 .bf16 :=
  four (four (kernelRun0_B.sl.v3029 r.c r.m2 r.h2 r.m3 r.h3 r.m5 r.h5 r.m19 r.h19 r.x0 r.x1 r.x3 r.s1) (kernelRun0_B.sl.v3152 r.c r.m2 r.h2 r.m3 r.h3 r.m5 r.h5 r.m19 r.h19 r.x0 r.x1 r.x3 r.s1) (kernelRun0_B.sl.v3275 r.c r.m2 r.h2 r.m3 r.h3 r.m5 r.h5 r.m19 r.h19 r.x0 r.x1 r.x3 r.s1) (kernelRun0_B.sl.v3415 r.c r.m2 r.h2 r.m3 r.h3 r.m5 r.h5 r.m19 r.h19 r.x0 r.x1 r.x3 r.s1))
    (four (kernelRun0_B.sl.v3538 r.c r.m2 r.h2 r.m3 r.h3 r.m5 r.h5 r.m19 r.h19 r.x0 r.x1 r.x3 r.s1) (kernelRun0_B.sl.v3661 r.c r.m2 r.h2 r.m3 r.h3 r.m5 r.h5 r.m19 r.h19 r.x0 r.x1 r.x3 r.s1) (kernelRun0_B.sl.v3793 r.c r.m2 r.h2 r.m3 r.h3 r.m5 r.h5 r.m19 r.h19 r.x0 r.x1 r.x3 r.s1) (kernelRun0_B.sl.v3916 r.c r.m2 r.h2 r.m3 r.h3 r.m5 r.h5 r.m19 r.h19 r.x0 r.x1 r.x3 r.s1))
    (four (kernelRun0_B.sl.v4039 r.c r.m2 r.h2 r.m3 r.h3 r.m5 r.h5 r.m19 r.h19 r.x0 r.x1 r.x3 r.s1) (kernelRun0_B.sl.v4167 r.c r.m2 r.h2 r.m3 r.h3 r.m5 r.h5 r.m19 r.h19 r.x0 r.x1 r.x3 r.s1) (kernelRun0_B.sl.v4290 r.c r.m2 r.h2 r.m3 r.h3 r.m5 r.h5 r.m19 r.h19 r.x0 r.x1 r.x3 r.s1) (kernelRun0_B.sl.v4413 r.c r.m2 r.h2 r.m3 r.h3 r.m5 r.h5 r.m19 r.h19 r.x0 r.x1 r.x3 r.s1))
    (four (kernelRun0_B.sl.v4541 r.c r.m2 r.h2 r.m3 r.h3 r.m5 r.h5 r.m19 r.h19 r.x0 r.x1 r.x3 r.s1) (kernelRun0_B.sl.v4664 r.c r.m2 r.h2 r.m3 r.h3 r.m5 r.h5 r.m19 r.h19 r.x0 r.x1 r.x3 r.s1) (kernelRun0_B.sl.v4774 r.c r.m2 r.h2 r.m3 r.h3 r.m5 r.h5 r.m19 r.h19 r.x0 r.x1 r.x3 r.s1) (kernelRun0_B.sl.v4884 r.c r.m2 r.h2 r.m3 r.h3 r.m5 r.h5 r.m19 r.h19 r.x0 r.x1 r.x3 r.s1))

/-- The attention, by query block, group and pair of heads. -/
def tB1 : Fin 4 → Fin 4 → Fin 2 → FVec F S128x128 .f32 :=
  four (four (pair (kernelRun0_B.sl.r_182 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.v3085 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)) (pair (kernelRun0_B.sl.r_197 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.r_198 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)) (pair (kernelRun0_B.sl.r_200 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.v3331 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)) (pair (kernelRun0_B.sl.r_204 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.v3471 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)))
    (four (pair (kernelRun0_B.sl.r_214 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.r_215 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)) (pair (kernelRun0_B.sl.r_221 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.v3717 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)) (pair (kernelRun0_B.sl.r_223 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.v3849 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)) (pair (kernelRun0_B.sl.r_236 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.r_237 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)))
    (four (pair (kernelRun0_B.sl.r_244 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.v4095 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)) (pair (kernelRun0_B.sl.r_247 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.v4223 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)) (pair (kernelRun0_B.sl.r_256 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.r_257 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)) (pair (kernelRun0_B.sl.r_261 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.v4469 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)))
    (four (pair (kernelRun0_B.sl.r_273 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.r_274 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)) (pair (kernelRun0_B.sl.r_280 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.v4720 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)) (pair (kernelRun0_B.sl.r_287 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2) (kernelRun0_B.sl.r_288 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.h18 r.m19 r.h19 r.m20 r.h20 r.x0 r.x1 r.x2 r.x3 r.x4 r.x5 r.x6 r.x9 r.x10 r.x11 r.x12 r.x13 r.s0 r.s1 r.s2)) (atTile (rowsV (qB1 r 3) 3) (kB1 r 3 3) (vB1 r 3 3) id (r.sk 3)))

/-- The gated attention of the first chunk. -/
def yB0 : FVec F S512x1024 .bf16 := (kernelRun0_B.sl.v3352 r.c r.i r.m2 r.h2 r.m3 r.h3 r.m4 r.h4 r.m5 r.h5 r.m6 r.h6 r.m7 r.h7 r.m8 r.h8 r.m9 r.h9 r.m11 r.h11 r.m12 r.h12 r.m13 r.h13 r.m14 r.h14 r.m15 r.h15 r.m18 r.h18 r.m19 r.h19 r.m20 r.h20 r.x0 r.x1 r.x2 r.x3 r.x4 r.x5 r.x6 r.x7 r.x9 r.x10 r.x11 r.x12 r.x13 r.s0 r.s1 r.s2)
/-- The gated attention of the second chunk. -/
def yB1 : FVec F S512x1024 .bf16 := (kernelRun0_B.sl.r_300 r.c r.m2 r.h2 r.m3 r.h3 r.m4 r.h4 r.m5 r.h5 r.m6 r.h6 r.m7 r.h7 r.m8 r.h8 r.m9 r.h9 r.m11 r.h11 r.m12 r.h12 r.m13 r.h13 r.m14 r.h14 r.m15 r.h15 r.m18 r.h18 r.m19 r.h19 r.m20 r.h20 r.x0 r.x1 r.x2 r.x3 r.x4 r.x5 r.x6 r.x7 r.x9 r.x10 r.x11 r.x12 r.x13 r.s0 r.s1 r.s2)

end Cert.YocoB

end
-- ==== Proof.B.RunB.lean ====
/-
  What the run stores, and what its queries, windows and gated attention are computed from.
-/
module

public import proofs.«01_k».proof.Proof.B.WordsB

@[expose] public section

set_option maxRecDepth 16384

noncomputable section

namespace Cert.YocoB

open Idealize.ShloMosaic Cert.KernelBIdeal Cert.KernelBIdeal.Gen

variable {F : FTy → Type} [FloatOps F] [Named F] (r : Args F)

/-- The keys before the point's first row. -/
def bkB : Vec F S4x256x128 .bf16 := (k0_pay11 (View.readAt (Elt F) r.m18.view (Rect.unit (s := S4x256x1152) ![0, 0, 1024] S4x256x128.size inb_S4x256x1152_S4x256x128_0_0_1024).toLoadRect (Memref.IsWhole.unread r.h18 r.s0)))
/-- The values before the point's first row. -/
def bvB : Vec F S4x128x128 .bf16 := (k0_pay12 (View.readAt (Elt F) r.m19.view (Rect.unit (s := S4x1152x256) ![0, 1024, 0] S4x128x128.size inb_S4x1152x256_S4x128x128_0_1024_0).toLoadRect (Memref.IsWhole.unread r.h19 r.s1)))

theorem out_B (hc0 : ¬cond0_0 r.i) (hc1 : ¬cond0_1 r.i) (hc2 : cond0_2 r.i) : (kernelRun0_B r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m16 r.h16 r.m17 r.h17 r.m18 r.h18 r.m19 r.h19 r.m20 r.h20 hc0 hc1 hc2 r.x0 r.x1 r.x2 r.x3 r.x4 r.x5 r.x6 r.x7 r.x8 r.x9 r.x10 r.x11 r.x12 r.x13 r.x14 r.s0 r.s1 r.s2).1 = LOut (yB0 r) (yB1 r) r.xo00 r.xo01 r.xo10 r.xo11 r.wo0 r.wo1 := by rfl

theorem keys_B (hc0 : ¬cond0_0 r.i) (hc1 : ¬cond0_1 r.i) (hc2 : cond0_2 r.i) : (kernelRun0_B r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m16 r.h16 r.m17 r.h17 r.m18 r.h18 r.m19 r.h19 r.m20 r.h20 hc0 hc1 hc2 r.x0 r.x1 r.x2 r.x3 r.x4 r.x5 r.x6 r.x7 r.x8 r.x9 r.x10 r.x11 r.x12 r.x13 r.x14 r.s0 r.s1 r.s2).2.1 = r.lk1 (bkB r) := by rfl

theorem vals_B (hc0 : ¬cond0_0 r.i) (hc1 : ¬cond0_1 r.i) (hc2 : cond0_2 r.i) : (kernelRun0_B r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m16 r.h16 r.m17 r.h17 r.m18 r.h18 r.m19 r.h19 r.m20 r.h20 hc0 hc1 hc2 r.x0 r.x1 r.x2 r.x3 r.x4 r.x5 r.x6 r.x7 r.x8 r.x9 r.x10 r.x11 r.x12 r.x13 r.x14 r.s0 r.s1 r.s2).2.2.1 = r.lv1 (bvB r) [] := by rfl

theorem wq_B (hc0 : ¬cond0_0 r.i) (hc1 : ¬cond0_1 r.i) (hc2 : cond0_2 r.i) : (kernelRun0_B r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m16 r.h16 r.m17 r.h17 r.m18 r.h18 r.m19 r.h19 r.m20 r.h20 hc0 hc1 hc2 r.x0 r.x1 r.x2 r.x3 r.x4 r.x5 r.x6 r.x7 r.x8 r.x9 r.x10 r.x11 r.x12 r.x13 r.x14 r.s0 r.s1 r.s2).2.2.2.1 = [] := by rfl

theorem yB0_eq : yB0 r = gaV (tB0 r) (mmV (hV r.xc0 r.lb) r.wz0) (mmV (hV r.xc0 r.lb) r.wz1) := by rfl

theorem yB1_eq : yB1 r = gaV (tB1 r) (mmV (hV r.xc1 r.lb) r.wz0) (mmV (hV r.xc1 r.lb) r.wz1) := by rfl

theorem qB0_0 : qB0 r 0 = queV (hV r.xc0 r.lb) r.ws0 r.ws1 r.cq0 r.sq0 r.qa r.qb 0 := by rfl
theorem qB0_1 : qB0 r 1 = queV (hV r.xc0 r.lb) r.ws0 r.ws1 r.cq0 r.sq0 r.qa r.qb 1 := by rfl
theorem qB0_2 : qB0 r 2 = queV (hV r.xc0 r.lb) r.ws0 r.ws1 r.cq0 r.sq0 r.qa r.qb 2 := by rfl
theorem qB0_3 : qB0 r 3 = queV (hV r.xc0 r.lb) r.ws0 r.ws1 r.cq0 r.sq0 r.qa r.qb 3 := by rfl

theorem qB0_eq : ∀ n, qB0 r n = queV (hV r.xc0 r.lb) r.ws0 r.ws1 r.cq0 r.sq0 r.qa r.qb n
  | 0 => qB0_0 r
  | 1 => qB0_1 r
  | 2 => qB0_2 r
  | 3 => qB0_3 r

theorem qB1_0 : qB1 r 0 = queV (hV r.xc1 r.lb) r.ws0 r.ws1 r.cq1 r.sq1 r.qa r.qb 0 := by rfl
theorem qB1_1 : qB1 r 1 = queV (hV r.xc1 r.lb) r.ws0 r.ws1 r.cq1 r.sq1 r.qa r.qb 1 := by rfl
theorem qB1_2 : qB1 r 2 = queV (hV r.xc1 r.lb) r.ws0 r.ws1 r.cq1 r.sq1 r.qa r.qb 2 := by rfl
theorem qB1_3 : qB1 r 3 = queV (hV r.xc1 r.lb) r.ws0 r.ws1 r.cq1 r.sq1 r.qa r.qb 3 := by rfl

theorem qB1_eq : ∀ n, qB1 r n = queV (hV r.xc1 r.lb) r.ws0 r.ws1 r.cq1 r.sq1 r.qa r.qb n
  | 0 => qB1_0 r
  | 1 => qB1_1 r
  | 2 => qB1_2 r
  | 3 => qB1_3 r

theorem kB0_00 : kB0 r 0 0 = r.m18.view.readCov (r.lk0 (bkB r)) (Rect.unit (s := S4x256x1152) ![0, 0, 0] S1x256x256.size inb_S4x256x1152_S1x256x256_0_0_0).toLoadRect := by rfl
theorem vB0_00 : vB0 r 0 0 = View.readAt (Elt F) r.m19.view (Rect.unit (s := S4x1152x256) ![0, 0, 0] S1x256x256.size inb_S4x1152x256_S1x256x256_0_0_0).toLoadRect (r.m19.view.writes (Elt F) (Memref.IsWhole.unread r.h19 r.s1) (r.lv0 (bvB r) [])) := by rfl
theorem kB0_01 : kB0 r 0 1 = r.m18.view.readCov (r.lk0 (bkB r)) (Rect.unit (s := S4x256x1152) ![1, 0, 0] S1x256x256.size inb_S4x256x1152_S1x256x256_1_0_0).toLoadRect := by rfl
theorem vB0_01 : vB0 r 0 1 = View.readAt (Elt F) r.m19.view (Rect.unit (s := S4x1152x256) ![1, 0, 0] S1x256x256.size inb_S4x1152x256_S1x256x256_1_0_0).toLoadRect (r.m19.view.writes (Elt F) (Memref.IsWhole.unread r.h19 r.s1) (r.lv0 (bvB r) [])) := by rfl
theorem kB0_02 : kB0 r 0 2 = r.m18.view.readCov (r.lk0 (bkB r)) (Rect.unit (s := S4x256x1152) ![2, 0, 0] S1x256x256.size inb_S4x256x1152_S1x256x256_2_0_0).toLoadRect := by rfl
theorem vB0_02 : vB0 r 0 2 = View.readAt (Elt F) r.m19.view (Rect.unit (s := S4x1152x256) ![2, 0, 0] S1x256x256.size inb_S4x1152x256_S1x256x256_2_0_0).toLoadRect (r.m19.view.writes (Elt F) (Memref.IsWhole.unread r.h19 r.s1) (r.lv0 (bvB r) [])) := by rfl
theorem kB0_03 : kB0 r 0 3 = r.m18.view.readCov (r.lk0 (bkB r)) (Rect.unit (s := S4x256x1152) ![3, 0, 0] S1x256x256.size inb_S4x256x1152_S1x256x256_3_0_0).toLoadRect := by rfl
theorem vB0_03 : vB0 r 0 3 = View.readAt (Elt F) r.m19.view (Rect.unit (s := S4x1152x256) ![3, 0, 0] S1x256x256.size inb_S4x1152x256_S1x256x256_3_0_0).toLoadRect (r.m19.view.writes (Elt F) (Memref.IsWhole.unread r.h19 r.s1) (r.lv0 (bvB r) [])) := by rfl
theorem kB0_10 : kB0 r 1 0 = r.m18.view.readCov (r.lk0 (bkB r)) (Rect.unit (s := S4x256x1152) ![0, 0, 128] S1x256x256.size inb_S4x256x1152_S1x256x256_0_0_128).toLoadRect := by rfl
theorem vB0_10 : vB0 r 1 0 = View.readAt (Elt F) r.m19.view (Rect.unit (s := S4x1152x256) ![0, 128, 0] S1x256x256.size inb_S4x1152x256_S1x256x256_0_128_0).toLoadRect (r.m19.view.writes (Elt F) (Memref.IsWhole.unread r.h19 r.s1) (r.lv0 (bvB r) [])) := by rfl
theorem kB0_11 : kB0 r 1 1 = r.m18.view.readCov (r.lk0 (bkB r)) (Rect.unit (s := S4x256x1152) ![1, 0, 128] S1x256x256.size inb_S4x256x1152_S1x256x256_1_0_128).toLoadRect := by rfl
theorem vB0_11 : vB0 r 1 1 = View.readAt (Elt F) r.m19.view (Rect.unit (s := S4x1152x256) ![1, 128, 0] S1x256x256.size inb_S4x1152x256_S1x256x256_1_128_0).toLoadRect (r.m19.view.writes (Elt F) (Memref.IsWhole.unread r.h19 r.s1) (r.lv0 (bvB r) [])) := by rfl
theorem kB0_12 : kB0 r 1 2 = r.m18.view.readCov (r.lk0 (bkB r)) (Rect.unit (s := S4x256x1152) ![2, 0, 128] S1x256x256.size inb_S4x256x1152_S1x256x256_2_0_128).toLoadRect := by rfl
theorem vB0_12 : vB0 r 1 2 = View.readAt (Elt F) r.m19.view (Rect.unit (s := S4x1152x256) ![2, 128, 0] S1x256x256.size inb_S4x1152x256_S1x256x256_2_128_0).toLoadRect (r.m19.view.writes (Elt F) (Memref.IsWhole.unread r.h19 r.s1) (r.lv0 (bvB r) [])) := by rfl
theorem kB0_13 : kB0 r 1 3 = r.m18.view.readCov (r.lk0 (bkB r)) (Rect.unit (s := S4x256x1152) ![3, 0, 128] S1x256x256.size inb_S4x256x1152_S1x256x256_3_0_128).toLoadRect := by rfl
theorem vB0_13 : vB0 r 1 3 = View.readAt (Elt F) r.m19.view (Rect.unit (s := S4x1152x256) ![3, 128, 0] S1x256x256.size inb_S4x1152x256_S1x256x256_3_128_0).toLoadRect (r.m19.view.writes (Elt F) (Memref.IsWhole.unread r.h19 r.s1) (r.lv0 (bvB r) [])) := by rfl
theorem kB0_20 : kB0 r 2 0 = r.m18.view.readCov (r.lk0 (bkB r)) (Rect.unit (s := S4x256x1152) ![0, 0, 256] S1x256x256.size inb_S4x256x1152_S1x256x256_0_0_256).toLoadRect := by rfl
theorem vB0_20 : vB0 r 2 0 = View.readAt (Elt F) r.m19.view (Rect.unit (s := S4x1152x256) ![0, 256, 0] S1x256x256.size inb_S4x1152x256_S1x256x256_0_256_0).toLoadRect (r.m19.view.writes (Elt F) (Memref.IsWhole.unread r.h19 r.s1) (r.lv1 (bvB r) [])) := by rfl
theorem kB0_21 : kB0 r 2 1 = r.m18.view.readCov (r.lk0 (bkB r)) (Rect.unit (s := S4x256x1152) ![1, 0, 256] S1x256x256.size inb_S4x256x1152_S1x256x256_1_0_256).toLoadRect := by rfl
theorem vB0_21 : vB0 r 2 1 = View.readAt (Elt F) r.m19.view (Rect.unit (s := S4x1152x256) ![1, 256, 0] S1x256x256.size inb_S4x1152x256_S1x256x256_1_256_0).toLoadRect (r.m19.view.writes (Elt F) (Memref.IsWhole.unread r.h19 r.s1) (r.lv1 (bvB r) [])) := by rfl
theorem kB0_22 : kB0 r 2 2 = r.m18.view.readCov (r.lk0 (bkB r)) (Rect.unit (s := S4x256x1152) ![2, 0, 256] S1x256x256.size inb_S4x256x1152_S1x256x256_2_0_256).toLoadRect := by rfl
theorem vB0_22 : vB0 r 2 2 = View.readAt (Elt F) r.m19.view (Rect.unit (s := S4x1152x256) ![2, 256, 0] S1x256x256.size inb_S4x1152x256_S1x256x256_2_256_0).toLoadRect (r.m19.view.writes (Elt F) (Memref.IsWhole.unread r.h19 r.s1) (r.lv1 (bvB r) [])) := by rfl
theorem kB0_23 : kB0 r 2 3 = r.m18.view.readCov (r.lk1 (bkB r)) (Rect.unit (s := S4x256x1152) ![3, 0, 256] S1x256x256.size inb_S4x256x1152_S1x256x256_3_0_256).toLoadRect := by rfl
theorem vB0_23 : vB0 r 2 3 = View.readAt (Elt F) r.m19.view (Rect.unit (s := S4x1152x256) ![3, 256, 0] S1x256x256.size inb_S4x1152x256_S1x256x256_3_256_0).toLoadRect (r.m19.view.writes (Elt F) (Memref.IsWhole.unread r.h19 r.s1) (r.lv1 (bvB r) [])) := by rfl
theorem kB0_30 : kB0 r 3 0 = r.m18.view.readCov (r.lk1 (bkB r)) (Rect.unit (s := S4x256x1152) ![0, 0, 384] S1x256x256.size inb_S4x256x1152_S1x256x256_0_0_384).toLoadRect := by rfl
theorem vB0_30 : vB0 r 3 0 = View.readAt (Elt F) r.m19.view (Rect.unit (s := S4x1152x256) ![0, 384, 0] S1x256x256.size inb_S4x1152x256_S1x256x256_0_384_0).toLoadRect (r.m19.view.writes (Elt F) (Memref.IsWhole.unread r.h19 r.s1) (r.lv1 (bvB r) [])) := by rfl
theorem kB0_31 : kB0 r 3 1 = r.m18.view.readCov (r.lk1 (bkB r)) (Rect.unit (s := S4x256x1152) ![1, 0, 384] S1x256x256.size inb_S4x256x1152_S1x256x256_1_0_384).toLoadRect := by rfl
theorem vB0_31 : vB0 r 3 1 = View.readAt (Elt F) r.m19.view (Rect.unit (s := S4x1152x256) ![1, 384, 0] S1x256x256.size inb_S4x1152x256_S1x256x256_1_384_0).toLoadRect (r.m19.view.writes (Elt F) (Memref.IsWhole.unread r.h19 r.s1) (r.lv1 (bvB r) [])) := by rfl
theorem kB0_32 : kB0 r 3 2 = r.m18.view.readCov (r.lk1 (bkB r)) (Rect.unit (s := S4x256x1152) ![2, 0, 384] S1x256x256.size inb_S4x256x1152_S1x256x256_2_0_384).toLoadRect := by rfl
theorem vB0_32 : vB0 r 3 2 = View.readAt (Elt F) r.m19.view (Rect.unit (s := S4x1152x256) ![2, 384, 0] S1x256x256.size inb_S4x1152x256_S1x256x256_2_384_0).toLoadRect (r.m19.view.writes (Elt F) (Memref.IsWhole.unread r.h19 r.s1) (r.lv1 (bvB r) [])) := by rfl
theorem kB0_33 : kB0 r 3 3 = r.m18.view.readCov (r.lk1 (bkB r)) (Rect.unit (s := S4x256x1152) ![3, 0, 384] S1x256x256.size inb_S4x256x1152_S1x256x256_3_0_384).toLoadRect := by rfl
theorem vB0_33 : vB0 r 3 3 = View.readAt (Elt F) r.m19.view (Rect.unit (s := S4x1152x256) ![3, 384, 0] S1x256x256.size inb_S4x1152x256_S1x256x256_3_384_0).toLoadRect (r.m19.view.writes (Elt F) (Memref.IsWhole.unread r.h19 r.s1) (r.lv1 (bvB r) [])) := by rfl
theorem kB1_00 : kB1 r 0 0 = r.m18.view.readCov (r.lk1 (bkB r)) (Rect.unit (s := S4x256x1152) ![0, 0, 512] S1x256x256.size inb_S4x256x1152_S1x256x256_0_0_512).toLoadRect := by rfl
theorem vB1_00 : vB1 r 0 0 = View.readAt (Elt F) r.m19.view (Rect.unit (s := S4x1152x256) ![0, 512, 0] S1x256x256.size inb_S4x1152x256_S1x256x256_0_512_0).toLoadRect (r.m19.view.writes (Elt F) (Memref.IsWhole.unread r.h19 r.s1) (r.lv1 (bvB r) [])) := by rfl
theorem kB1_01 : kB1 r 0 1 = r.m18.view.readCov (r.lk1 (bkB r)) (Rect.unit (s := S4x256x1152) ![1, 0, 512] S1x256x256.size inb_S4x256x1152_S1x256x256_1_0_512).toLoadRect := by rfl
theorem vB1_01 : vB1 r 0 1 = View.readAt (Elt F) r.m19.view (Rect.unit (s := S4x1152x256) ![1, 512, 0] S1x256x256.size inb_S4x1152x256_S1x256x256_1_512_0).toLoadRect (r.m19.view.writes (Elt F) (Memref.IsWhole.unread r.h19 r.s1) (r.lv1 (bvB r) [])) := by rfl
theorem kB1_02 : kB1 r 0 2 = r.m18.view.readCov (r.lk1 (bkB r)) (Rect.unit (s := S4x256x1152) ![2, 0, 512] S1x256x256.size inb_S4x256x1152_S1x256x256_2_0_512).toLoadRect := by rfl
theorem vB1_02 : vB1 r 0 2 = View.readAt (Elt F) r.m19.view (Rect.unit (s := S4x1152x256) ![2, 512, 0] S1x256x256.size inb_S4x1152x256_S1x256x256_2_512_0).toLoadRect (r.m19.view.writes (Elt F) (Memref.IsWhole.unread r.h19 r.s1) (r.lv1 (bvB r) [])) := by rfl
theorem kB1_03 : kB1 r 0 3 = r.m18.view.readCov (r.lk1 (bkB r)) (Rect.unit (s := S4x256x1152) ![3, 0, 512] S1x256x256.size inb_S4x256x1152_S1x256x256_3_0_512).toLoadRect := by rfl
theorem vB1_03 : vB1 r 0 3 = View.readAt (Elt F) r.m19.view (Rect.unit (s := S4x1152x256) ![3, 512, 0] S1x256x256.size inb_S4x1152x256_S1x256x256_3_512_0).toLoadRect (r.m19.view.writes (Elt F) (Memref.IsWhole.unread r.h19 r.s1) (r.lv1 (bvB r) [])) := by rfl
theorem kB1_10 : kB1 r 1 0 = r.m18.view.readCov (r.lk1 (bkB r)) (Rect.unit (s := S4x256x1152) ![0, 0, 640] S1x256x256.size inb_S4x256x1152_S1x256x256_0_0_640).toLoadRect := by rfl
theorem vB1_10 : vB1 r 1 0 = View.readAt (Elt F) r.m19.view (Rect.unit (s := S4x1152x256) ![0, 640, 0] S1x256x256.size inb_S4x1152x256_S1x256x256_0_640_0).toLoadRect (r.m19.view.writes (Elt F) (Memref.IsWhole.unread r.h19 r.s1) (r.lv1 (bvB r) [])) := by rfl
theorem kB1_11 : kB1 r 1 1 = r.m18.view.readCov (r.lk1 (bkB r)) (Rect.unit (s := S4x256x1152) ![1, 0, 640] S1x256x256.size inb_S4x256x1152_S1x256x256_1_0_640).toLoadRect := by rfl
theorem vB1_11 : vB1 r 1 1 = View.readAt (Elt F) r.m19.view (Rect.unit (s := S4x1152x256) ![1, 640, 0] S1x256x256.size inb_S4x1152x256_S1x256x256_1_640_0).toLoadRect (r.m19.view.writes (Elt F) (Memref.IsWhole.unread r.h19 r.s1) (r.lv1 (bvB r) [])) := by rfl
theorem kB1_12 : kB1 r 1 2 = r.m18.view.readCov (r.lk1 (bkB r)) (Rect.unit (s := S4x256x1152) ![2, 0, 640] S1x256x256.size inb_S4x256x1152_S1x256x256_2_0_640).toLoadRect := by rfl
theorem vB1_12 : vB1 r 1 2 = View.readAt (Elt F) r.m19.view (Rect.unit (s := S4x1152x256) ![2, 640, 0] S1x256x256.size inb_S4x1152x256_S1x256x256_2_640_0).toLoadRect (r.m19.view.writes (Elt F) (Memref.IsWhole.unread r.h19 r.s1) (r.lv1 (bvB r) [])) := by rfl
theorem kB1_13 : kB1 r 1 3 = r.m18.view.readCov (r.lk1 (bkB r)) (Rect.unit (s := S4x256x1152) ![3, 0, 640] S1x256x256.size inb_S4x256x1152_S1x256x256_3_0_640).toLoadRect := by rfl
theorem vB1_13 : vB1 r 1 3 = View.readAt (Elt F) r.m19.view (Rect.unit (s := S4x1152x256) ![3, 640, 0] S1x256x256.size inb_S4x1152x256_S1x256x256_3_640_0).toLoadRect (r.m19.view.writes (Elt F) (Memref.IsWhole.unread r.h19 r.s1) (r.lv1 (bvB r) [])) := by rfl
theorem kB1_20 : kB1 r 2 0 = r.m18.view.readCov (r.lk1 (bkB r)) (Rect.unit (s := S4x256x1152) ![0, 0, 768] S1x256x256.size inb_S4x256x1152_S1x256x256_0_0_768).toLoadRect := by rfl
theorem vB1_20 : vB1 r 2 0 = View.readAt (Elt F) r.m19.view (Rect.unit (s := S4x1152x256) ![0, 768, 0] S1x256x256.size inb_S4x1152x256_S1x256x256_0_768_0).toLoadRect (r.m19.view.writes (Elt F) (Memref.IsWhole.unread r.h19 r.s1) (r.lv1 (bvB r) [])) := by rfl
theorem kB1_21 : kB1 r 2 1 = r.m18.view.readCov (r.lk1 (bkB r)) (Rect.unit (s := S4x256x1152) ![1, 0, 768] S1x256x256.size inb_S4x256x1152_S1x256x256_1_0_768).toLoadRect := by rfl
theorem vB1_21 : vB1 r 2 1 = View.readAt (Elt F) r.m19.view (Rect.unit (s := S4x1152x256) ![1, 768, 0] S1x256x256.size inb_S4x1152x256_S1x256x256_1_768_0).toLoadRect (r.m19.view.writes (Elt F) (Memref.IsWhole.unread r.h19 r.s1) (r.lv1 (bvB r) [])) := by rfl
theorem kB1_22 : kB1 r 2 2 = r.m18.view.readCov (r.lk1 (bkB r)) (Rect.unit (s := S4x256x1152) ![2, 0, 768] S1x256x256.size inb_S4x256x1152_S1x256x256_2_0_768).toLoadRect := by rfl
theorem vB1_22 : vB1 r 2 2 = View.readAt (Elt F) r.m19.view (Rect.unit (s := S4x1152x256) ![2, 768, 0] S1x256x256.size inb_S4x1152x256_S1x256x256_2_768_0).toLoadRect (r.m19.view.writes (Elt F) (Memref.IsWhole.unread r.h19 r.s1) (r.lv1 (bvB r) [])) := by rfl
theorem kB1_23 : kB1 r 2 3 = r.m18.view.readCov (r.lk1 (bkB r)) (Rect.unit (s := S4x256x1152) ![3, 0, 768] S1x256x256.size inb_S4x256x1152_S1x256x256_3_0_768).toLoadRect := by rfl
theorem vB1_23 : vB1 r 2 3 = View.readAt (Elt F) r.m19.view (Rect.unit (s := S4x1152x256) ![3, 768, 0] S1x256x256.size inb_S4x1152x256_S1x256x256_3_768_0).toLoadRect (r.m19.view.writes (Elt F) (Memref.IsWhole.unread r.h19 r.s1) (r.lv1 (bvB r) [])) := by rfl
theorem kB1_30 : kB1 r 3 0 = r.m18.view.readCov (r.lk1 (bkB r)) (Rect.unit (s := S4x256x1152) ![0, 0, 896] S1x256x256.size inb_S4x256x1152_S1x256x256_0_0_896).toLoadRect := by rfl
theorem vB1_30 : vB1 r 3 0 = View.readAt (Elt F) r.m19.view (Rect.unit (s := S4x1152x256) ![0, 896, 0] S1x256x256.size inb_S4x1152x256_S1x256x256_0_896_0).toLoadRect (r.m19.view.writes (Elt F) (Memref.IsWhole.unread r.h19 r.s1) (r.lv1 (bvB r) [])) := by rfl
theorem kB1_31 : kB1 r 3 1 = r.m18.view.readCov (r.lk1 (bkB r)) (Rect.unit (s := S4x256x1152) ![1, 0, 896] S1x256x256.size inb_S4x256x1152_S1x256x256_1_0_896).toLoadRect := by rfl
theorem vB1_31 : vB1 r 3 1 = View.readAt (Elt F) r.m19.view (Rect.unit (s := S4x1152x256) ![1, 896, 0] S1x256x256.size inb_S4x1152x256_S1x256x256_1_896_0).toLoadRect (r.m19.view.writes (Elt F) (Memref.IsWhole.unread r.h19 r.s1) (r.lv1 (bvB r) [])) := by rfl
theorem kB1_32 : kB1 r 3 2 = r.m18.view.readCov (r.lk1 (bkB r)) (Rect.unit (s := S4x256x1152) ![2, 0, 896] S1x256x256.size inb_S4x256x1152_S1x256x256_2_0_896).toLoadRect := by rfl
theorem vB1_32 : vB1 r 3 2 = View.readAt (Elt F) r.m19.view (Rect.unit (s := S4x1152x256) ![2, 896, 0] S1x256x256.size inb_S4x1152x256_S1x256x256_2_896_0).toLoadRect (r.m19.view.writes (Elt F) (Memref.IsWhole.unread r.h19 r.s1) (r.lv1 (bvB r) [])) := by rfl
theorem kB1_33 : kB1 r 3 3 = r.m18.view.readCov (r.lk1 (bkB r)) (Rect.unit (s := S4x256x1152) ![3, 0, 896] S1x256x256.size inb_S4x256x1152_S1x256x256_3_0_896).toLoadRect := by rfl
theorem vB1_33 : vB1 r 3 3 = View.readAt (Elt F) r.m19.view (Rect.unit (s := S4x1152x256) ![3, 896, 0] S1x256x256.size inb_S4x1152x256_S1x256x256_3_896_0).toLoadRect (r.m19.view.writes (Elt F) (Memref.IsWhole.unread r.h19 r.s1) (r.lv1 (bvB r) [])) := by rfl

end Cert.YocoB

end
-- ==== Proof.B.WinB.lean ====
/-
  The windows of keys and values the run's tiles read, at an index.
-/
module

public import proofs.«01_k».proof.Proof.B.Wins
public import proofs.«01_k».proof.Proof.B.RunB

@[expose] public section

set_option maxRecDepth 16384

noncomputable section

namespace Cert.YocoB

open Idealize.ShloMosaic Cert.KernelBIdeal Cert.KernelBIdeal.Gen

variable {F : FTy → Type} [FloatOps F] [Named F] (r : Args F)

theorem kB0_at (p : Fin 256) (c : Fin 256) : ∀ (b n : Fin 4), kB0 r b n (ix3 0 p c)
    = View.canon (r.lk1 (bkB r)) (ix3 n p ⟨512 * 0 + 128 * b.val + c.val, by omega⟩)
  | 0, 0 => (congrFun (kB0_00 r) _).trans (winK0 _ _ p _ 0 0 (by decide) (by decide) _ c)
  | 0, 1 => (congrFun (kB0_01 r) _).trans (winK0 _ _ p _ 1 0 (by decide) (by decide) _ c)
  | 0, 2 => (congrFun (kB0_02 r) _).trans (winK0 _ _ p _ 2 0 (by decide) (by decide) _ c)
  | 0, 3 => (congrFun (kB0_03 r) _).trans (winK0 _ _ p _ 3 0 (by decide) (by decide) _ c)
  | 1, 0 => (congrFun (kB0_10 r) _).trans (winK0 _ _ p _ 0 128 (by decide) (by decide) _ c)
  | 1, 1 => (congrFun (kB0_11 r) _).trans (winK0 _ _ p _ 1 128 (by decide) (by decide) _ c)
  | 1, 2 => (congrFun (kB0_12 r) _).trans (winK0 _ _ p _ 2 128 (by decide) (by decide) _ c)
  | 1, 3 => (congrFun (kB0_13 r) _).trans (winK0 _ _ p _ 3 128 (by decide) (by decide) _ c)
  | 2, 0 => (congrFun (kB0_20 r) _).trans (winK0 _ _ p _ 0 256 (by decide) (by decide) _ c)
  | 2, 1 => (congrFun (kB0_21 r) _).trans (winK0 _ _ p _ 1 256 (by decide) (by decide) _ c)
  | 2, 2 => (congrFun (kB0_22 r) _).trans (winK0 _ _ p _ 2 256 (by decide) (by decide) _ c)
  | 2, 3 => (congrFun (kB0_23 r) _).trans (winK _ p _ 3 256 (by decide) (by decide) _ c)
  | 3, 0 => (congrFun (kB0_30 r) _).trans (winK _ p _ 0 384 (by decide) (by decide) _ c)
  | 3, 1 => (congrFun (kB0_31 r) _).trans (winK _ p _ 1 384 (by decide) (by decide) _ c)
  | 3, 2 => (congrFun (kB0_32 r) _).trans (winK _ p _ 2 384 (by decide) (by decide) _ c)
  | 3, 3 => (congrFun (kB0_33 r) _).trans (winK _ p _ 3 384 (by decide) (by decide) _ c)

theorem vB0_at (c : Fin 256) (l : Fin 256) : ∀ (b n : Fin 4), vB0 r b n (ix3 0 c l)
    = View.canon (r.lv1 (bvB r) (wholeV r.s1)) (ix3 n ⟨512 * 0 + 128 * b.val + c.val, by omega⟩ l)
  | 0, 0 => (congrFun (vB0_00 r) _).trans (winX0 _ _ l _ _ 0 0 (by decide) (by decide) _ c)
  | 0, 1 => (congrFun (vB0_01 r) _).trans (winX0 _ _ l _ _ 1 0 (by decide) (by decide) _ c)
  | 0, 2 => (congrFun (vB0_02 r) _).trans (winX0 _ _ l _ _ 2 0 (by decide) (by decide) _ c)
  | 0, 3 => (congrFun (vB0_03 r) _).trans (winX0 _ _ l _ _ 3 0 (by decide) (by decide) _ c)
  | 1, 0 => (congrFun (vB0_10 r) _).trans (winX0 _ _ l _ _ 0 128 (by decide) (by decide) _ c)
  | 1, 1 => (congrFun (vB0_11 r) _).trans (winX0 _ _ l _ _ 1 128 (by decide) (by decide) _ c)
  | 1, 2 => (congrFun (vB0_12 r) _).trans (winX0 _ _ l _ _ 2 128 (by decide) (by decide) _ c)
  | 1, 3 => (congrFun (vB0_13 r) _).trans (winX0 _ _ l _ _ 3 128 (by decide) (by decide) _ c)
  | 2, 0 => (congrFun (vB0_20 r) _).trans (winX _ l _ _ 0 256 (by decide) (by decide) _ c)
  | 2, 1 => (congrFun (vB0_21 r) _).trans (winX _ l _ _ 1 256 (by decide) (by decide) _ c)
  | 2, 2 => (congrFun (vB0_22 r) _).trans (winX _ l _ _ 2 256 (by decide) (by decide) _ c)
  | 2, 3 => (congrFun (vB0_23 r) _).trans (winX _ l _ _ 3 256 (by decide) (by decide) _ c)
  | 3, 0 => (congrFun (vB0_30 r) _).trans (winX _ l _ _ 0 384 (by decide) (by decide) _ c)
  | 3, 1 => (congrFun (vB0_31 r) _).trans (winX _ l _ _ 1 384 (by decide) (by decide) _ c)
  | 3, 2 => (congrFun (vB0_32 r) _).trans (winX _ l _ _ 2 384 (by decide) (by decide) _ c)
  | 3, 3 => (congrFun (vB0_33 r) _).trans (winX _ l _ _ 3 384 (by decide) (by decide) _ c)

theorem kB1_at (p : Fin 256) (c : Fin 256) : ∀ (b n : Fin 4), kB1 r b n (ix3 0 p c)
    = View.canon (r.lk1 (bkB r)) (ix3 n p ⟨512 * 1 + 128 * b.val + c.val, by omega⟩)
  | 0, 0 => (congrFun (kB1_00 r) _).trans (winK _ p _ 0 512 (by decide) (by decide) _ c)
  | 0, 1 => (congrFun (kB1_01 r) _).trans (winK _ p _ 1 512 (by decide) (by decide) _ c)
  | 0, 2 => (congrFun (kB1_02 r) _).trans (winK _ p _ 2 512 (by decide) (by decide) _ c)
  | 0, 3 => (congrFun (kB1_03 r) _).trans (winK _ p _ 3 512 (by decide) (by decide) _ c)
  | 1, 0 => (congrFun (kB1_10 r) _).trans (winK _ p _ 0 640 (by decide) (by decide) _ c)
  | 1, 1 => (congrFun (kB1_11 r) _).trans (winK _ p _ 1 640 (by decide) (by decide) _ c)
  | 1, 2 => (congrFun (kB1_12 r) _).trans (winK _ p _ 2 640 (by decide) (by decide) _ c)
  | 1, 3 => (congrFun (kB1_13 r) _).trans (winK _ p _ 3 640 (by decide) (by decide) _ c)
  | 2, 0 => (congrFun (kB1_20 r) _).trans (winK _ p _ 0 768 (by decide) (by decide) _ c)
  | 2, 1 => (congrFun (kB1_21 r) _).trans (winK _ p _ 1 768 (by decide) (by decide) _ c)
  | 2, 2 => (congrFun (kB1_22 r) _).trans (winK _ p _ 2 768 (by decide) (by decide) _ c)
  | 2, 3 => (congrFun (kB1_23 r) _).trans (winK _ p _ 3 768 (by decide) (by decide) _ c)
  | 3, 0 => (congrFun (kB1_30 r) _).trans (winK _ p _ 0 896 (by decide) (by decide) _ c)
  | 3, 1 => (congrFun (kB1_31 r) _).trans (winK _ p _ 1 896 (by decide) (by decide) _ c)
  | 3, 2 => (congrFun (kB1_32 r) _).trans (winK _ p _ 2 896 (by decide) (by decide) _ c)
  | 3, 3 => (congrFun (kB1_33 r) _).trans (winK _ p _ 3 896 (by decide) (by decide) _ c)

theorem vB1_at (c : Fin 256) (l : Fin 256) : ∀ (b n : Fin 4), vB1 r b n (ix3 0 c l)
    = View.canon (r.lv1 (bvB r) (wholeV r.s1)) (ix3 n ⟨512 * 1 + 128 * b.val + c.val, by omega⟩ l)
  | 0, 0 => (congrFun (vB1_00 r) _).trans (winX _ l _ _ 0 512 (by decide) (by decide) _ c)
  | 0, 1 => (congrFun (vB1_01 r) _).trans (winX _ l _ _ 1 512 (by decide) (by decide) _ c)
  | 0, 2 => (congrFun (vB1_02 r) _).trans (winX _ l _ _ 2 512 (by decide) (by decide) _ c)
  | 0, 3 => (congrFun (vB1_03 r) _).trans (winX _ l _ _ 3 512 (by decide) (by decide) _ c)
  | 1, 0 => (congrFun (vB1_10 r) _).trans (winX _ l _ _ 0 640 (by decide) (by decide) _ c)
  | 1, 1 => (congrFun (vB1_11 r) _).trans (winX _ l _ _ 1 640 (by decide) (by decide) _ c)
  | 1, 2 => (congrFun (vB1_12 r) _).trans (winX _ l _ _ 2 640 (by decide) (by decide) _ c)
  | 1, 3 => (congrFun (vB1_13 r) _).trans (winX _ l _ _ 3 640 (by decide) (by decide) _ c)
  | 2, 0 => (congrFun (vB1_20 r) _).trans (winX _ l _ _ 0 768 (by decide) (by decide) _ c)
  | 2, 1 => (congrFun (vB1_21 r) _).trans (winX _ l _ _ 1 768 (by decide) (by decide) _ c)
  | 2, 2 => (congrFun (vB1_22 r) _).trans (winX _ l _ _ 2 768 (by decide) (by decide) _ c)
  | 2, 3 => (congrFun (vB1_23 r) _).trans (winX _ l _ _ 3 768 (by decide) (by decide) _ c)
  | 3, 0 => (congrFun (vB1_30 r) _).trans (winX _ l _ _ 0 896 (by decide) (by decide) _ c)
  | 3, 1 => (congrFun (vB1_31 r) _).trans (winX _ l _ _ 1 896 (by decide) (by decide) _ c)
  | 3, 2 => (congrFun (vB1_32 r) _).trans (winX _ l _ _ 2 896 (by decide) (by decide) _ c)
  | 3, 3 => (congrFun (vB1_33 r) _).trans (winX _ l _ _ 3 896 (by decide) (by decide) _ c)

end Cert.YocoB

end
-- ==== Proof.B.TilesB0.lean ====
/-
  The attention of every query block of the chunk is the attention of its queries over its windows.
-/
module

public import proofs.«01_k».proof.Proof.B.WordsB

@[expose] public section

set_option maxRecDepth 16384

noncomputable section

namespace Cert.YocoB

open Idealize.ShloMosaic Cert.KernelBIdeal Cert.KernelBIdeal.Gen

variable {F : FTy → Type} [FloatOps F] [Named F] (r : Args F)

theorem tB0_000 : tB0 r 0 0 0 = atTile (rowsV (qB0 r 0) 0) (kB0 r 0 0) (vB0 r 0 0) (cutV (Scalar.cmpi .eq (BitVec.ofNat 32 (r.i 1)) 0#32)) (r.sk 0) 0 := by rfl
theorem tB0_001 : tB0 r 0 0 1 = atTile (rowsV (qB0 r 0) 0) (kB0 r 0 0) (vB0 r 0 0) (cutV (Scalar.cmpi .eq (BitVec.ofNat 32 (r.i 1)) 0#32)) (r.sk 0) 1 := by rfl
theorem tB0_010 : tB0 r 0 1 0 = atTile (rowsV (qB0 r 1) 0) (kB0 r 0 1) (vB0 r 0 1) (cutV (Scalar.cmpi .eq (BitVec.ofNat 32 (r.i 1)) 0#32)) (r.sk 1) 0 := by rfl
theorem tB0_011 : tB0 r 0 1 1 = atTile (rowsV (qB0 r 1) 0) (kB0 r 0 1) (vB0 r 0 1) (cutV (Scalar.cmpi .eq (BitVec.ofNat 32 (r.i 1)) 0#32)) (r.sk 1) 1 := by rfl
theorem tB0_020 : tB0 r 0 2 0 = atTile (rowsV (qB0 r 2) 0) (kB0 r 0 2) (vB0 r 0 2) (cutV (Scalar.cmpi .eq (BitVec.ofNat 32 (r.i 1)) 0#32)) (r.sk 2) 0 := by rfl
theorem tB0_021 : tB0 r 0 2 1 = atTile (rowsV (qB0 r 2) 0) (kB0 r 0 2) (vB0 r 0 2) (cutV (Scalar.cmpi .eq (BitVec.ofNat 32 (r.i 1)) 0#32)) (r.sk 2) 1 := by rfl
theorem tB0_030 : tB0 r 0 3 0 = atTile (rowsV (qB0 r 3) 0) (kB0 r 0 3) (vB0 r 0 3) (cutV (Scalar.cmpi .eq (BitVec.ofNat 32 (r.i 1)) 0#32)) (r.sk 3) 0 := by rfl
theorem tB0_031 : tB0 r 0 3 1 = atTile (rowsV (qB0 r 3) 0) (kB0 r 0 3) (vB0 r 0 3) (cutV (Scalar.cmpi .eq (BitVec.ofNat 32 (r.i 1)) 0#32)) (r.sk 3) 1 := by rfl
theorem tB0_100 : tB0 r 1 0 0 = atTile (rowsV (qB0 r 0) 1) (kB0 r 1 0) (vB0 r 1 0) id (r.sk 0) 0 := by rfl
theorem tB0_101 : tB0 r 1 0 1 = atTile (rowsV (qB0 r 0) 1) (kB0 r 1 0) (vB0 r 1 0) id (r.sk 0) 1 := by rfl
theorem tB0_110 : tB0 r 1 1 0 = atTile (rowsV (qB0 r 1) 1) (kB0 r 1 1) (vB0 r 1 1) id (r.sk 1) 0 := by rfl
theorem tB0_111 : tB0 r 1 1 1 = atTile (rowsV (qB0 r 1) 1) (kB0 r 1 1) (vB0 r 1 1) id (r.sk 1) 1 := by rfl
theorem tB0_120 : tB0 r 1 2 0 = atTile (rowsV (qB0 r 2) 1) (kB0 r 1 2) (vB0 r 1 2) id (r.sk 2) 0 := by rfl
theorem tB0_121 : tB0 r 1 2 1 = atTile (rowsV (qB0 r 2) 1) (kB0 r 1 2) (vB0 r 1 2) id (r.sk 2) 1 := by rfl
theorem tB0_130 : tB0 r 1 3 0 = atTile (rowsV (qB0 r 3) 1) (kB0 r 1 3) (vB0 r 1 3) id (r.sk 3) 0 := by rfl
theorem tB0_131 : tB0 r 1 3 1 = atTile (rowsV (qB0 r 3) 1) (kB0 r 1 3) (vB0 r 1 3) id (r.sk 3) 1 := by rfl
theorem tB0_200 : tB0 r 2 0 0 = atTile (rowsV (qB0 r 0) 2) (kB0 r 2 0) (vB0 r 2 0) id (r.sk 0) 0 := by rfl
theorem tB0_201 : tB0 r 2 0 1 = atTile (rowsV (qB0 r 0) 2) (kB0 r 2 0) (vB0 r 2 0) id (r.sk 0) 1 := by rfl
theorem tB0_210 : tB0 r 2 1 0 = atTile (rowsV (qB0 r 1) 2) (kB0 r 2 1) (vB0 r 2 1) id (r.sk 1) 0 := by rfl
theorem tB0_211 : tB0 r 2 1 1 = atTile (rowsV (qB0 r 1) 2) (kB0 r 2 1) (vB0 r 2 1) id (r.sk 1) 1 := by rfl
theorem tB0_220 : tB0 r 2 2 0 = atTile (rowsV (qB0 r 2) 2) (kB0 r 2 2) (vB0 r 2 2) id (r.sk 2) 0 := by rfl
theorem tB0_221 : tB0 r 2 2 1 = atTile (rowsV (qB0 r 2) 2) (kB0 r 2 2) (vB0 r 2 2) id (r.sk 2) 1 := by rfl
theorem tB0_230 : tB0 r 2 3 0 = atTile (rowsV (qB0 r 3) 2) (kB0 r 2 3) (vB0 r 2 3) id (r.sk 3) 0 := by rfl
theorem tB0_231 : tB0 r 2 3 1 = atTile (rowsV (qB0 r 3) 2) (kB0 r 2 3) (vB0 r 2 3) id (r.sk 3) 1 := by rfl
theorem tB0_300 : tB0 r 3 0 0 = atTile (rowsV (qB0 r 0) 3) (kB0 r 3 0) (vB0 r 3 0) id (r.sk 0) 0 := by rfl
theorem tB0_301 : tB0 r 3 0 1 = atTile (rowsV (qB0 r 0) 3) (kB0 r 3 0) (vB0 r 3 0) id (r.sk 0) 1 := by rfl
theorem tB0_310 : tB0 r 3 1 0 = atTile (rowsV (qB0 r 1) 3) (kB0 r 3 1) (vB0 r 3 1) id (r.sk 1) 0 := by rfl
theorem tB0_311 : tB0 r 3 1 1 = atTile (rowsV (qB0 r 1) 3) (kB0 r 3 1) (vB0 r 3 1) id (r.sk 1) 1 := by rfl
theorem tB0_320 : tB0 r 3 2 0 = atTile (rowsV (qB0 r 2) 3) (kB0 r 3 2) (vB0 r 3 2) id (r.sk 2) 0 := by rfl
theorem tB0_321 : tB0 r 3 2 1 = atTile (rowsV (qB0 r 2) 3) (kB0 r 3 2) (vB0 r 3 2) id (r.sk 2) 1 := by rfl
theorem tB0_330 : tB0 r 3 3 0 = atTile (rowsV (qB0 r 3) 3) (kB0 r 3 3) (vB0 r 3 3) id (r.sk 3) 0 := by rfl
theorem tB0_331 : tB0 r 3 3 1 = atTile (rowsV (qB0 r 3) 3) (kB0 r 3 3) (vB0 r 3 3) id (r.sk 3) 1 := by rfl

/-- What the chunk's query blocks do to the scores of the block before. -/
def cutB0 : Fin 4 → FVec F S128x128 .f32 → FVec F S128x128 .f32 := four (cutV (Scalar.cmpi .eq (BitVec.ofNat 32 (r.i 1)) 0#32)) id id id

theorem tB0_eq : ∀ (b n : Fin 4) (p : Fin 2), tB0 r b n p = atTile (rowsV (qB0 r n) b) (kB0 r b n) (vB0 r b n) (cutB0 r b) (r.sk n) p
  | 0, 0, 0 => tB0_000 r
  | 0, 0, 1 => tB0_001 r
  | 0, 1, 0 => tB0_010 r
  | 0, 1, 1 => tB0_011 r
  | 0, 2, 0 => tB0_020 r
  | 0, 2, 1 => tB0_021 r
  | 0, 3, 0 => tB0_030 r
  | 0, 3, 1 => tB0_031 r
  | 1, 0, 0 => tB0_100 r
  | 1, 0, 1 => tB0_101 r
  | 1, 1, 0 => tB0_110 r
  | 1, 1, 1 => tB0_111 r
  | 1, 2, 0 => tB0_120 r
  | 1, 2, 1 => tB0_121 r
  | 1, 3, 0 => tB0_130 r
  | 1, 3, 1 => tB0_131 r
  | 2, 0, 0 => tB0_200 r
  | 2, 0, 1 => tB0_201 r
  | 2, 1, 0 => tB0_210 r
  | 2, 1, 1 => tB0_211 r
  | 2, 2, 0 => tB0_220 r
  | 2, 2, 1 => tB0_221 r
  | 2, 3, 0 => tB0_230 r
  | 2, 3, 1 => tB0_231 r
  | 3, 0, 0 => tB0_300 r
  | 3, 0, 1 => tB0_301 r
  | 3, 1, 0 => tB0_310 r
  | 3, 1, 1 => tB0_311 r
  | 3, 2, 0 => tB0_320 r
  | 3, 2, 1 => tB0_321 r
  | 3, 3, 0 => tB0_330 r
  | 3, 3, 1 => tB0_331 r

end Cert.YocoB

end
-- ==== Proof.B.TilesB1.lean ====
/-
  The attention of every query block of the chunk is the attention of its queries over its windows.
-/
module

public import proofs.«01_k».proof.Proof.B.WordsB

@[expose] public section

set_option maxRecDepth 16384

noncomputable section

namespace Cert.YocoB

open Idealize.ShloMosaic Cert.KernelBIdeal Cert.KernelBIdeal.Gen

variable {F : FTy → Type} [FloatOps F] [Named F] (r : Args F)

theorem tB1_000 : tB1 r 0 0 0 = atTile (rowsV (qB1 r 0) 0) (kB1 r 0 0) (vB1 r 0 0) id (r.sk 0) 0 := by rfl
theorem tB1_001 : tB1 r 0 0 1 = atTile (rowsV (qB1 r 0) 0) (kB1 r 0 0) (vB1 r 0 0) id (r.sk 0) 1 := by rfl
theorem tB1_010 : tB1 r 0 1 0 = atTile (rowsV (qB1 r 1) 0) (kB1 r 0 1) (vB1 r 0 1) id (r.sk 1) 0 := by rfl
theorem tB1_011 : tB1 r 0 1 1 = atTile (rowsV (qB1 r 1) 0) (kB1 r 0 1) (vB1 r 0 1) id (r.sk 1) 1 := by rfl
theorem tB1_020 : tB1 r 0 2 0 = atTile (rowsV (qB1 r 2) 0) (kB1 r 0 2) (vB1 r 0 2) id (r.sk 2) 0 := by rfl
theorem tB1_021 : tB1 r 0 2 1 = atTile (rowsV (qB1 r 2) 0) (kB1 r 0 2) (vB1 r 0 2) id (r.sk 2) 1 := by rfl
theorem tB1_030 : tB1 r 0 3 0 = atTile (rowsV (qB1 r 3) 0) (kB1 r 0 3) (vB1 r 0 3) id (r.sk 3) 0 := by rfl
theorem tB1_031 : tB1 r 0 3 1 = atTile (rowsV (qB1 r 3) 0) (kB1 r 0 3) (vB1 r 0 3) id (r.sk 3) 1 := by rfl
theorem tB1_100 : tB1 r 1 0 0 = atTile (rowsV (qB1 r 0) 1) (kB1 r 1 0) (vB1 r 1 0) id (r.sk 0) 0 := by rfl
theorem tB1_101 : tB1 r 1 0 1 = atTile (rowsV (qB1 r 0) 1) (kB1 r 1 0) (vB1 r 1 0) id (r.sk 0) 1 := by rfl
theorem tB1_110 : tB1 r 1 1 0 = atTile (rowsV (qB1 r 1) 1) (kB1 r 1 1) (vB1 r 1 1) id (r.sk 1) 0 := by rfl
theorem tB1_111 : tB1 r 1 1 1 = atTile (rowsV (qB1 r 1) 1) (kB1 r 1 1) (vB1 r 1 1) id (r.sk 1) 1 := by rfl
theorem tB1_120 : tB1 r 1 2 0 = atTile (rowsV (qB1 r 2) 1) (kB1 r 1 2) (vB1 r 1 2) id (r.sk 2) 0 := by rfl
theorem tB1_121 : tB1 r 1 2 1 = atTile (rowsV (qB1 r 2) 1) (kB1 r 1 2) (vB1 r 1 2) id (r.sk 2) 1 := by rfl
theorem tB1_130 : tB1 r 1 3 0 = atTile (rowsV (qB1 r 3) 1) (kB1 r 1 3) (vB1 r 1 3) id (r.sk 3) 0 := by rfl
theorem tB1_131 : tB1 r 1 3 1 = atTile (rowsV (qB1 r 3) 1) (kB1 r 1 3) (vB1 r 1 3) id (r.sk 3) 1 := by rfl
theorem tB1_200 : tB1 r 2 0 0 = atTile (rowsV (qB1 r 0) 2) (kB1 r 2 0) (vB1 r 2 0) id (r.sk 0) 0 := by rfl
theorem tB1_201 : tB1 r 2 0 1 = atTile (rowsV (qB1 r 0) 2) (kB1 r 2 0) (vB1 r 2 0) id (r.sk 0) 1 := by rfl
theorem tB1_210 : tB1 r 2 1 0 = atTile (rowsV (qB1 r 1) 2) (kB1 r 2 1) (vB1 r 2 1) id (r.sk 1) 0 := by rfl
theorem tB1_211 : tB1 r 2 1 1 = atTile (rowsV (qB1 r 1) 2) (kB1 r 2 1) (vB1 r 2 1) id (r.sk 1) 1 := by rfl
theorem tB1_220 : tB1 r 2 2 0 = atTile (rowsV (qB1 r 2) 2) (kB1 r 2 2) (vB1 r 2 2) id (r.sk 2) 0 := by rfl
theorem tB1_221 : tB1 r 2 2 1 = atTile (rowsV (qB1 r 2) 2) (kB1 r 2 2) (vB1 r 2 2) id (r.sk 2) 1 := by rfl
theorem tB1_230 : tB1 r 2 3 0 = atTile (rowsV (qB1 r 3) 2) (kB1 r 2 3) (vB1 r 2 3) id (r.sk 3) 0 := by rfl
theorem tB1_231 : tB1 r 2 3 1 = atTile (rowsV (qB1 r 3) 2) (kB1 r 2 3) (vB1 r 2 3) id (r.sk 3) 1 := by rfl
theorem tB1_300 : tB1 r 3 0 0 = atTile (rowsV (qB1 r 0) 3) (kB1 r 3 0) (vB1 r 3 0) id (r.sk 0) 0 := by rfl
theorem tB1_301 : tB1 r 3 0 1 = atTile (rowsV (qB1 r 0) 3) (kB1 r 3 0) (vB1 r 3 0) id (r.sk 0) 1 := by rfl
theorem tB1_310 : tB1 r 3 1 0 = atTile (rowsV (qB1 r 1) 3) (kB1 r 3 1) (vB1 r 3 1) id (r.sk 1) 0 := by rfl
theorem tB1_311 : tB1 r 3 1 1 = atTile (rowsV (qB1 r 1) 3) (kB1 r 3 1) (vB1 r 3 1) id (r.sk 1) 1 := by rfl
theorem tB1_320 : tB1 r 3 2 0 = atTile (rowsV (qB1 r 2) 3) (kB1 r 3 2) (vB1 r 3 2) id (r.sk 2) 0 := by rfl
theorem tB1_321 : tB1 r 3 2 1 = atTile (rowsV (qB1 r 2) 3) (kB1 r 3 2) (vB1 r 3 2) id (r.sk 2) 1 := by rfl

/-- What the chunk's query blocks do to the scores of the block before. -/
def cutB1 (F : FTy → Type) : Fin 4 → FVec F S128x128 .f32 → FVec F S128x128 .f32 := four id id id id

theorem tB1_eq : ∀ (b n : Fin 4) (p : Fin 2), tB1 r b n p = atTile (rowsV (qB1 r n) b) (kB1 r b n) (vB1 r b n) (cutB1 F b) (r.sk n) p
  | 0, 0, 0 => tB1_000 r
  | 0, 0, 1 => tB1_001 r
  | 0, 1, 0 => tB1_010 r
  | 0, 1, 1 => tB1_011 r
  | 0, 2, 0 => tB1_020 r
  | 0, 2, 1 => tB1_021 r
  | 0, 3, 0 => tB1_030 r
  | 0, 3, 1 => tB1_031 r
  | 1, 0, 0 => tB1_100 r
  | 1, 0, 1 => tB1_101 r
  | 1, 1, 0 => tB1_110 r
  | 1, 1, 1 => tB1_111 r
  | 1, 2, 0 => tB1_120 r
  | 1, 2, 1 => tB1_121 r
  | 1, 3, 0 => tB1_130 r
  | 1, 3, 1 => tB1_131 r
  | 2, 0, 0 => tB1_200 r
  | 2, 0, 1 => tB1_201 r
  | 2, 1, 0 => tB1_210 r
  | 2, 1, 1 => tB1_211 r
  | 2, 2, 0 => tB1_220 r
  | 2, 2, 1 => tB1_221 r
  | 2, 3, 0 => tB1_230 r
  | 2, 3, 1 => tB1_231 r
  | 3, 0, 0 => tB1_300 r
  | 3, 0, 1 => tB1_301 r
  | 3, 1, 0 => tB1_310 r
  | 3, 1, 1 => tB1_311 r
  | 3, 2, 0 => tB1_320 r
  | 3, 2, 1 => tB1_321 r
  | 3, 3, 0 => rfl
  | 3, 3, 1 => rfl

end Cert.YocoB

end
-- ==== Proof.B.PointB.lean ====
/-
  What a grid point of run B leaves and gives, in the layer's formulas.
-/
module

public import proofs.«01_k».proof.Proof.B.Point
public import proofs.«01_k».proof.Proof.B.WinB
public import proofs.«01_k».proof.Proof.B.TilesB0
public import proofs.«01_k».proof.Proof.B.TilesB1

@[expose] public section

set_option maxRecDepth 16384

noncomputable section

namespace Cert.YocoB

open Idealize.ShloMosaic Cert.KernelBIdeal Cert.KernelBIdeal.Gen Cert.YocoPieces

variable {r : Args Ideal} {D : Lay} {j : Fin 8} (h : Holds r D j)

theorem baseK_B (j' : Fin 8) (hj : j.val = j'.val + 1) (h0 : KOk D j' r.s0) (g : Fin 4) (p : Fin 256) (x : Fin 128) :
    bkB r (ix3 g p x) = scrRow (D.keys g) j ⟨x.val, by omega⟩ (pdim p) := by
  have e : ∀ A : Vec Ideal S4x256x128 .bf16, k0_pay11 A (ix3 g p x) = A (ix3 g p x) := fun A => by pointwise [k0_pay11]
  unfold bkB
  refine (e _).trans ((ld3 r.h18 r.s0 g p x g p ⟨1024 + x.val, by omega⟩ (by omega) (by omega) rfl).trans ((h0 g p _).trans ?_))
  exact (scr_prev (D.keys g) j j' hj ⟨x.val, by omega⟩ (by show x.val < 128; omega) _ rfl _).symm

theorem baseV_B (j' : Fin 8) (hj : j.val = j'.val + 1) (h0 : VOk D j' r.s1) (g : Fin 4) (x l : Fin 128) :
    bvB r (ix3 g x l) = scrRow (D.vals g) j ⟨x.val, by omega⟩ ⟨l.val % 64, by omega⟩ := by
  have e : ∀ A : Vec Ideal S4x128x128 .bf16, k0_pay12 A (ix3 g x l) = A (ix3 g x l) := fun A => by pointwise [k0_pay12]
  unfold bvB
  refine (e _).trans ((ld3 r.h19 r.s1 g x l g ⟨1024 + x.val, by omega⟩ ⟨l.val, by omega⟩ (by omega) rfl (by show l.val = 0 + l.val; omega)).trans ((h0 g _ _).trans ?_))
  rw [if_pos (show l.val < 128 by omega)]
  exact (scr_prev (D.vals g) j j' hj ⟨x.val, by omega⟩ (by show x.val < 128; omega) _ rfl _).symm

include h

/-- The keys the point leaves. -/
theorem keysOk_B (j' : Fin 8) (hj : j.val = j'.val + 1) (h0 : KOk D j' r.s0) : KOk D j (View.canon (r.lk1 (bkB r))) := h.keys _ (baseK_B j' hj h0)
/-- The values the point leaves. -/
theorem valsOk_B (j' : Fin 8) (hj : j.val = j'.val + 1) (h1 : VOk D j' r.s1) : VOk D j (View.canon (r.lv1 (bvB r) (wholeV r.s1))) :=
  h.vals _ _ (baseV_B j' hj h1) (fun g x l hl => (wholeV_at _ _).trans ((h1 g x l).trans (if_neg (by omega))))

/-- The point's output. -/
theorem point_B (hf : D.Fine) (j' : Fin 8) (hj : j.val = j'.val + 1) (h0 : KOk D j' r.s0) (h1 : VOk D j' r.s1) (hQ : QOk D r.s2) (a o : Fin 1024) :
    View.canon (LOut (yB0 r) (yB1 r) r.xo00 r.xo01 r.xo10 r.xo11 r.wo0 r.wo1) (ix3 0 a o) = D.out ⟨1024 * j.val + a.val, by omega⟩ o := by
  rw [yB0_eq, yB1_eq]
  have hK := keysOk_B h j' hj h0
  have hV' := valsOk_B h j' hj h1
  refine h.out _ _ (fun a n p l => ?_) (fun a n p l => ?_) a o
  · exact h.chunk hf 0 _ _ _ _ _ (tB0_eq r)
      (fun n a d e => (congrFun (qB0_eq r n) _).trans (h.que0 hf _ _ (fun k x => (ld2 r.h20 r.s2 k x k ⟨x.val, by omega⟩ (by omega) (by show x.val = 0 + x.val; omega)).trans (hQ k _)) (fun k x => (ld2 r.h20 r.s2 k x k ⟨512 + x.val, by omega⟩ (by omega) rfl).trans (hQ k _)) n a d e))
      (fun b n p c => (kB0_at r p c b n).trans (hK n p _)) (fun b n c l => (vB0_at r c l b n).trans (hV' n _ l))
      (fun b s a c => cut0_at r D j h s a c b) a n p l
  · exact h.chunk hf 1 _ _ _ _ _ (tB1_eq r)
      (fun n a d e => (congrFun (qB1_eq r n) _).trans (h.que1 hf _ _ (fun k x => (ld2 r.h20 r.s2 k x k ⟨x.val, by omega⟩ (by omega) (by show x.val = 0 + x.val; omega)).trans (hQ k _)) (fun k x => (ld2 r.h20 r.s2 k x k ⟨512 + x.val, by omega⟩ (by omega) rfl).trans (hQ k _)) n a d e))
      (fun b n p c => (kB1_at r p c b n).trans (hK n p _)) (fun b n c l => (vB1_at r c l b n).trans (hV' n _ l))
      (fun b s a c => cut1_at j s a c b) a n p l

end Cert.YocoB

end
-- ==== Proof.B.WordsC.lean ====
/-
  The words of the run of a grid point, the first of its sequence, not of all: queries, windows and the attention of every block.
-/
module

public import proofs.«01_k».proof.Proof.Gen.KernelBIdeal.Frame.RunC
public import proofs.«01_k».proof.Proof.B.Args

@[expose] public section

set_option maxRecDepth 16384

noncomputable section

namespace Cert.YocoB

open Idealize.ShloMosaic Cert.KernelBIdeal Cert.KernelBIdeal.Gen

variable {F : FTy → Type} [FloatOps F] [Named F] (r : Args F)

/-- The queries of the four groups. -/
def qC0 : Fin 4 → FVec F S512x256 .bf16 := four (kernelRun0_C.sl.v324 r.c r.m2 r.h2 r.m4 r.h4 r.m11 r.h11 r.m12 r.h12 r.m13 r.h13 r.m14 r.h14 r.m20 r.h20 r.x0 r.x2 r.x9 r.x10 r.x11 r.x12 r.s2) (kernelRun0_C.sl.v379 r.c r.m2 r.h2 r.m4 r.h4 r.m11 r.h11 r.m12 r.h12 r.m13 r.h13 r.m14 r.h14 r.m20 r.h20 r.x0 r.x2 r.x9 r.x10 r.x11 r.x12 r.s2) (kernelRun0_C.sl.v440 r.c r.m2 r.h2 r.m4 r.h4 r.m11 r.h11 r.m12 r.h12 r.m13 r.h13 r.m14 r.h14 r.m20 r.h20 r.x0 r.x2 r.x9 r.x10 r.x11 r.x12 r.s2) (kernelRun0_C.sl.v495 r.c r.m2 r.h2 r.m4 r.h4 r.m11 r.h11 r.m12 r.h12 r.m13 r.h13 r.m14 r.h14 r.m20 r.h20 r.x0 r.x2 r.x9 r.x10 r.x11 r.x12 r.s2)

/-- The windows of keys, by query block and group. -/
def kC0 : Fin 4 → Fin 4 → Vec F S1x256x256 .bf16 :=
  four (four (kernelRun0_C.sl.v528 r.c r.m2 r.h2 r.m3 r.h3 r.m5 r.h5 r.m6 r.h6 r.m7 r.h7 r.m8 r.h8 r.m18 r.x0 r.x1 r.x3 r.x4 r.x5 r.x6) (kernelRun0_C.sl.v541 r.c r.m2 r.h2 r.m3 r.h3 r.m5 r.h5 r.m6 r.h6 r.m7 r.h7 r.m8 r.h8 r.m18 r.x0 r.x1 r.x3 r.x4 r.x5 r.x6) (kernelRun0_C.sl.v554 r.c r.m2 r.h2 r.m3 r.h3 r.m5 r.h5 r.m6 r.h6 r.m7 r.h7 r.m8 r.h8 r.m18 r.x0 r.x1 r.x3 r.x4 r.x5 r.x6) (kernelRun0_C.sl.v689 r.c r.m2 r.h2 r.m3 r.h3 r.m5 r.h5 r.m6 r.h6 r.m7 r.h7 r.m8 r.h8 r.m18 r.x0 r.x1 r.x3 r.x4 r.x5 r.x6))
    (four (kernelRun0_C.sl.v824 r.c r.m2 r.h2 r.m3 r.h3 r.m5 r.h5 r.m6 r.h6 r.m7 r.h7 r.m8 r.h8 r.m18 r.x0 r.x1 r.x3 r.x4 r.x5 r.x6) (kernelRun0_C.sl.v964 r.c r.m2 r.h2 r.m3 r.h3 r.m5 r.h5 r.m6 r.h6 r.m7 r.h7 r.m8 r.h8 r.m18 r.x0 r.x1 r.x3 r.x4 r.x5 r.x6) (kernelRun0_C.sl.v1099 r.c r.m2 r.h2 r.m3 r.h3 r.m5 r.h5 r.m6 r.h6 r.m7 r.h7 r.m8 r.h8 r.m18 r.x0 r.x1 r.x3 r.x4 r.x5 r.x6) (kernelRun0_C.sl.v1222 r.c r.m2 r.h2 r.m3 r.h3 r.m5 r.h5 r.m6 r.h6 r.m7 r.h7 r.m8 r.h8 r.m18 r.x0 r.x1 r.x3 r.x4 r.x5 r.x6))
    (four (kernelRun0_C.sl.v1350 r.c r.m2 r.h2 r.m3 r.h3 r.m5 r.h5 r.m6 r.h6 r.m7 r.h7 r.m8 r.h8 r.m18 r.x0 r.x1 r.x3 r.x4 r.x5 r.x6) (kernelRun0_C.sl.v1473 r.c r.m2 r.h2 r.m3 r.h3 r.m5 r.h5 r.m6 r.h6 r.m7 r.h7 r.m8 r.h8 r.m18 r.x0 r.x1 r.x3 r.x4 r.x5 r.x6) (kernelRun0_C.sl.v1596 r.c r.m2 r.h2 r.m3 r.h3 r.m5 r.h5 r.m6 r.h6 r.m7 r.h7 r.m8 r.h8 r.m18 r.x0 r.x1 r.x3 r.x4 r.x5 r.x6) (kernelRun0_C.sl.v1880 r.c r.m2 r.h2 r.m3 r.h3 r.m5 r.h5 r.m6 r.h6 r.m7 r.h7 r.m8 r.h8 r.m18 r.x0 r.x1 r.x3 r.x4 r.x5 r.x6))
    (four (kernelRun0_C.sl.v2003 r.c r.m2 r.h2 r.m3 r.h3 r.m5 r.h5 r.m6 r.h6 r.m7 r.h7 r.m8 r.h8 r.m18 r.x0 r.x1 r.x3 r.x4 r.x5 r.x6) (kernelRun0_C.sl.v2242 r.c r.m2 r.h2 r.m3 r.h3 r.m5 r.h5 r.m6 r.h6 r.m7 r.h7 r.m8 r.h8 r.m18 r.x0 r.x1 r.x3 r.x4 r.x5 r.x6) (kernelRun0_C.sl.v2365 r.c r.m2 r.h2 r.m3 r.h3 r.m5 r.h5 r.m6 r.h6 r.m7 r.h7 r.m8 r.h8 r.m18 r.x0 r.x1 r.x3 r.x4 r.x5 r.x6) (kernelRun0_C.sl.v2488 r.c r.m2 r.h2 r.m3 r.h3 r.m5 r.h5 r.m6 r.h6 r.m7 r.h7 r.m8 r.h8 r.m18 r.x0 r.x1 r.x3 r.x4 r.x5 r.x6))

/-- The windows of values, by query block and group. -/
def vC0 : Fin 4 → Fin 4 → Vec F S1x256x256 .bf16 :=
  four (four (kernelRun0_C.sl.v622 r.c r.m2 r.h2 r.m3 r.h3 r.m5 r.h5 r.m19 r.h19 r.x0 r.x1 r.x3 r.s1) (kernelRun0_C.sl.v757 r.c r.m2 r.h2 r.m3 r.h3 r.m5 r.h5 r.m19 r.h19 r.x0 r.x1 r.x3 r.s1) (kernelRun0_C.sl.v897 r.c r.m2 r.h2 r.m3 r.h3 r.m5 r.h5 r.m19 r.h19 r.x0 r.x1 r.x3 r.s1) (kernelRun0_C.sl.v1032 r.c r.m2 r.h2 r.m3 r.h3 r.m5 r.h5 r.m19 r.h19 r.x0 r.x1 r.x3 r.s1))
    (four (kernelRun0_C.sl.v1155 r.c r.m2 r.h2 r.m3 r.h3 r.m5 r.h5 r.m19 r.h19 r.x0 r.x1 r.x3 r.s1) (kernelRun0_C.sl.v1283 r.c r.m2 r.h2 r.m3 r.h3 r.m5 r.h5 r.m19 r.h19 r.x0 r.x1 r.x3 r.s1) (kernelRun0_C.sl.v1406 r.c r.m2 r.h2 r.m3 r.h3 r.m5 r.h5 r.m19 r.h19 r.x0 r.x1 r.x3 r.s1) (kernelRun0_C.sl.v1529 r.c r.m2 r.h2 r.m3 r.h3 r.m5 r.h5 r.m19 r.h19 r.x0 r.x1 r.x3 r.s1))
    (four (kernelRun0_C.sl.v1813 r.c r.m2 r.h2 r.m3 r.h3 r.m5 r.h5 r.m19 r.h19 r.x0 r.x1 r.x3 r.s1) (kernelRun0_C.sl.v1936 r.c r.m2 r.h2 r.m3 r.h3 r.m5 r.h5 r.m19 r.h19 r.x0 r.x1 r.x3 r.s1) (kernelRun0_C.sl.v2175 r.c r.m2 r.h2 r.m3 r.h3 r.m5 r.h5 r.m19 r.h19 r.x0 r.x1 r.x3 r.s1) (kernelRun0_C.sl.v2298 r.c r.m2 r.h2 r.m3 r.h3 r.m5 r.h5 r.m19 r.h19 r.x0 r.x1 r.x3 r.s1))
    (four (kernelRun0_C.sl.v2421 r.c r.m2 r.h2 r.m3 r.h3 r.m5 r.h5 r.m19 r.h19 r.x0 r.x1 r.x3 r.s1) (kernelRun0_C.sl.v2660 r.c r.m2 r.h2 r.m3 r.h3 r.m5 r.h5 r.m19 r.h19 r.x0 r.x1 r.x3 r.s1) (kernelRun0_C.sl.v2770 r.c r.m2 r.h2 r.m3 r.h3 r.m5 r.h5 r.m19 r.h19 r.x0 r.x1 r.x3 r.s1) (kernelRun0_C.sl.v2880 r.c r.m2 r.h2 r.m3 r.h3 r.m5 r.h5 r.m19 r.h19 r.x0 r.x1 r.x3 r.s1))

/-- The attention, by query block, group and pair of heads. -/
def tC0 : Fin 4 → Fin 4 → Fin 2 → FVec F S128x128 .f32 :=
  four (four (pair (kernelRun0_C.sl.r_17 r.c r.i r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.r_20 r.c r.i r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)) (pair (kernelRun0_C.sl.r_35 r.c r.i r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.r_40 r.c r.i r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)) (pair (kernelRun0_C.sl.r_56 r.c r.i r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.r_62 r.c r.i r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)) (pair (kernelRun0_C.sl.r_76 r.c r.i r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.v1088 r.c r.i r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)))
    (four (pair (kernelRun0_C.sl.r_90 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.r_91 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)) (pair (kernelRun0_C.sl.r_95 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.v1339 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)) (pair (kernelRun0_C.sl.r_103 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.r_104 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)) (pair (kernelRun0_C.sl.r_108 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.r_109 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)))
    (four (pair (kernelRun0_C.sl.r_121 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.r_122 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)) (pair (kernelRun0_C.sl.r_128 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.v1992 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)) (pair (kernelRun0_C.sl.r_133 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.v2231 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)) (pair (kernelRun0_C.sl.r_141 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.r_142 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)))
    (four (pair (kernelRun0_C.sl.r_146 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.r_147 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)) (pair (kernelRun0_C.sl.r_155 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.r_156 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)) (pair (kernelRun0_C.sl.r_169 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.r_170 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)) (pair (kernelRun0_C.sl.r_179 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.r_180 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)))

/-- The queries of the four groups. -/
def qC1 : Fin 4 → FVec F S512x256 .bf16 := four (kernelRun0_C.sl.v2066 r.c r.m2 r.h2 r.m4 r.h4 r.m11 r.h11 r.m12 r.h12 r.m13 r.h13 r.m14 r.h14 r.m20 r.h20 r.x0 r.x2 r.x9 r.x10 r.x11 r.x12 r.s2) (kernelRun0_C.sl.v2121 r.c r.m2 r.h2 r.m4 r.h4 r.m11 r.h11 r.m12 r.h12 r.m13 r.h13 r.m14 r.h14 r.m20 r.h20 r.x0 r.x2 r.x9 r.x10 r.x11 r.x12 r.s2) (kernelRun0_C.sl.v2551 r.c r.m2 r.h2 r.m4 r.h4 r.m11 r.h11 r.m12 r.h12 r.m13 r.h13 r.m14 r.h14 r.m20 r.h20 r.x0 r.x2 r.x9 r.x10 r.x11 r.x12 r.s2) (kernelRun0_C.sl.v2606 r.c r.m2 r.h2 r.m4 r.h4 r.m11 r.h11 r.m12 r.h12 r.m13 r.h13 r.m14 r.h14 r.m20 r.h20 r.x0 r.x2 r.x9 r.x10 r.x11 r.x12 r.s2)

/-- The windows of keys, by query block and group. -/
def kC1 : Fin 4 → Fin 4 → Vec F S1x256x256 .bf16 :=
  four (four (kernelRun0_C.sl.v2947 r.c r.m2 r.h2 r.m3 r.h3 r.m5 r.h5 r.m6 r.h6 r.m7 r.h7 r.m8 r.h8 r.m18 r.x0 r.x1 r.x3 r.x4 r.x5 r.x6) (kernelRun0_C.sl.v2960 r.c r.m2 r.h2 r.m3 r.h3 r.m5 r.h5 r.m6 r.h6 r.m7 r.h7 r.m8 r.h8 r.m18 r.x0 r.x1 r.x3 r.x4 r.x5 r.x6) (kernelRun0_C.sl.v2973 r.c r.m2 r.h2 r.m3 r.h3 r.m5 r.h5 r.m6 r.h6 r.m7 r.h7 r.m8 r.h8 r.m18 r.x0 r.x1 r.x3 r.x4 r.x5 r.x6) (kernelRun0_C.sl.v3096 r.c r.m2 r.h2 r.m3 r.h3 r.m5 r.h5 r.m6 r.h6 r.m7 r.h7 r.m8 r.h8 r.m18 r.x0 r.x1 r.x3 r.x4 r.x5 r.x6))
    (four (kernelRun0_C.sl.v3219 r.c r.m2 r.h2 r.m3 r.h3 r.m5 r.h5 r.m6 r.h6 r.m7 r.h7 r.m8 r.h8 r.m18 r.x0 r.x1 r.x3 r.x4 r.x5 r.x6) (kernelRun0_C.sl.v3342 r.c r.m2 r.h2 r.m3 r.h3 r.m5 r.h5 r.m6 r.h6 r.m7 r.h7 r.m8 r.h8 r.m18 r.x0 r.x1 r.x3 r.x4 r.x5 r.x6) (kernelRun0_C.sl.v3482 r.c r.m2 r.h2 r.m3 r.h3 r.m5 r.h5 r.m6 r.h6 r.m7 r.h7 r.m8 r.h8 r.m18 r.x0 r.x1 r.x3 r.x4 r.x5 r.x6) (kernelRun0_C.sl.v3605 r.c r.m2 r.h2 r.m3 r.h3 r.m5 r.h5 r.m6 r.h6 r.m7 r.h7 r.m8 r.h8 r.m18 r.x0 r.x1 r.x3 r.x4 r.x5 r.x6))
    (four (kernelRun0_C.sl.v3728 r.c r.m2 r.h2 r.m3 r.h3 r.m5 r.h5 r.m6 r.h6 r.m7 r.h7 r.m8 r.h8 r.m18 r.x0 r.x1 r.x3 r.x4 r.x5 r.x6) (kernelRun0_C.sl.v3860 r.c r.m2 r.h2 r.m3 r.h3 r.m5 r.h5 r.m6 r.h6 r.m7 r.h7 r.m8 r.h8 r.m18 r.x0 r.x1 r.x3 r.x4 r.x5 r.x6) (kernelRun0_C.sl.v3983 r.c r.m2 r.h2 r.m3 r.h3 r.m5 r.h5 r.m6 r.h6 r.m7 r.h7 r.m8 r.h8 r.m18 r.x0 r.x1 r.x3 r.x4 r.x5 r.x6) (kernelRun0_C.sl.v4106 r.c r.m2 r.h2 r.m3 r.h3 r.m5 r.h5 r.m6 r.h6 r.m7 r.h7 r.m8 r.h8 r.m18 r.x0 r.x1 r.x3 r.x4 r.x5 r.x6))
    (four (kernelRun0_C.sl.v4234 r.c r.m2 r.h2 r.m3 r.h3 r.m5 r.h5 r.m6 r.h6 r.m7 r.h7 r.m8 r.h8 r.m18 r.x0 r.x1 r.x3 r.x4 r.x5 r.x6) (kernelRun0_C.sl.v4357 r.c r.m2 r.h2 r.m3 r.h3 r.m5 r.h5 r.m6 r.h6 r.m7 r.h7 r.m8 r.h8 r.m18 r.x0 r.x1 r.x3 r.x4 r.x5 r.x6) (kernelRun0_C.sl.v4480 r.c r.m2 r.h2 r.m3 r.h3 r.m5 r.h5 r.m6 r.h6 r.m7 r.h7 r.m8 r.h8 r.m18 r.x0 r.x1 r.x3 r.x4 r.x5 r.x6) (kernelRun0_C.sl.v4608 r.c r.m2 r.h2 r.m3 r.h3 r.m5 r.h5 r.m6 r.h6 r.m7 r.h7 r.m8 r.h8 r.m18 r.x0 r.x1 r.x3 r.x4 r.x5 r.x6))

/-- The windows of values, by query block and group. -/
def vC1 : Fin 4 → Fin 4 → Vec F S1x256x256 .bf16 :=
  four (four (kernelRun0_C.sl.v3029 r.c r.m2 r.h2 r.m3 r.h3 r.m5 r.h5 r.m19 r.h19 r.x0 r.x1 r.x3 r.s1) (kernelRun0_C.sl.v3152 r.c r.m2 r.h2 r.m3 r.h3 r.m5 r.h5 r.m19 r.h19 r.x0 r.x1 r.x3 r.s1) (kernelRun0_C.sl.v3275 r.c r.m2 r.h2 r.m3 r.h3 r.m5 r.h5 r.m19 r.h19 r.x0 r.x1 r.x3 r.s1) (kernelRun0_C.sl.v3415 r.c r.m2 r.h2 r.m3 r.h3 r.m5 r.h5 r.m19 r.h19 r.x0 r.x1 r.x3 r.s1))
    (four (kernelRun0_C.sl.v3538 r.c r.m2 r.h2 r.m3 r.h3 r.m5 r.h5 r.m19 r.h19 r.x0 r.x1 r.x3 r.s1) (kernelRun0_C.sl.v3661 r.c r.m2 r.h2 r.m3 r.h3 r.m5 r.h5 r.m19 r.h19 r.x0 r.x1 r.x3 r.s1) (kernelRun0_C.sl.v3793 r.c r.m2 r.h2 r.m3 r.h3 r.m5 r.h5 r.m19 r.h19 r.x0 r.x1 r.x3 r.s1) (kernelRun0_C.sl.v3916 r.c r.m2 r.h2 r.m3 r.h3 r.m5 r.h5 r.m19 r.h19 r.x0 r.x1 r.x3 r.s1))
    (four (kernelRun0_C.sl.v4039 r.c r.m2 r.h2 r.m3 r.h3 r.m5 r.h5 r.m19 r.h19 r.x0 r.x1 r.x3 r.s1) (kernelRun0_C.sl.v4167 r.c r.m2 r.h2 r.m3 r.h3 r.m5 r.h5 r.m19 r.h19 r.x0 r.x1 r.x3 r.s1) (kernelRun0_C.sl.v4290 r.c r.m2 r.h2 r.m3 r.h3 r.m5 r.h5 r.m19 r.h19 r.x0 r.x1 r.x3 r.s1) (kernelRun0_C.sl.v4413 r.c r.m2 r.h2 r.m3 r.h3 r.m5 r.h5 r.m19 r.h19 r.x0 r.x1 r.x3 r.s1))
    (four (kernelRun0_C.sl.v4541 r.c r.m2 r.h2 r.m3 r.h3 r.m5 r.h5 r.m19 r.h19 r.x0 r.x1 r.x3 r.s1) (kernelRun0_C.sl.v4664 r.c r.m2 r.h2 r.m3 r.h3 r.m5 r.h5 r.m19 r.h19 r.x0 r.x1 r.x3 r.s1) (kernelRun0_C.sl.v4774 r.c r.m2 r.h2 r.m3 r.h3 r.m5 r.h5 r.m19 r.h19 r.x0 r.x1 r.x3 r.s1) (kernelRun0_C.sl.v4884 r.c r.m2 r.h2 r.m3 r.h3 r.m5 r.h5 r.m19 r.h19 r.x0 r.x1 r.x3 r.s1))

/-- The attention, by query block, group and pair of heads. -/
def tC1 : Fin 4 → Fin 4 → Fin 2 → FVec F S128x128 .f32 :=
  four (four (pair (kernelRun0_C.sl.r_182 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.v3085 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)) (pair (kernelRun0_C.sl.r_197 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.r_198 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)) (pair (kernelRun0_C.sl.r_200 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.v3331 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)) (pair (kernelRun0_C.sl.r_204 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.v3471 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)))
    (four (pair (kernelRun0_C.sl.r_214 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.r_215 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)) (pair (kernelRun0_C.sl.r_221 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.v3717 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)) (pair (kernelRun0_C.sl.r_223 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.v3849 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)) (pair (kernelRun0_C.sl.r_236 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.r_237 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)))
    (four (pair (kernelRun0_C.sl.r_244 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.v4095 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)) (pair (kernelRun0_C.sl.r_247 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.v4223 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)) (pair (kernelRun0_C.sl.r_256 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.r_257 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)) (pair (kernelRun0_C.sl.r_261 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.v4469 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)))
    (four (pair (kernelRun0_C.sl.r_273 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.r_274 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)) (pair (kernelRun0_C.sl.r_280 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.v4720 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)) (pair (kernelRun0_C.sl.r_287 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2) (kernelRun0_C.sl.r_288 r.c r.m2 r.h2 r.m3 r.h3 r.m4 r.h4 r.m5 r.h5 r.m6 r.h6 r.m7 r.h7 r.m8 r.h8 r.m11 r.h11 r.m12 r.h12 r.m13 r.h13 r.m14 r.h14 r.m15 r.h15 r.m18 r.m19 r.h19 r.m20 r.h20 r.x0 r.x1 r.x2 r.x3 r.x4 r.x5 r.x6 r.x9 r.x10 r.x11 r.x12 r.x13 r.s1 r.s2)) (atTile (rowsV (qC1 r 3) 3) (kC1 r 3 3) (vC1 r 3 3) id (r.sk 3)))

/-- The gated attention of the first chunk. -/
def yC0 : FVec F S512x1024 .bf16 := (kernelRun0_C.sl.v3352 r.c r.i r.m2 r.h2 r.m3 r.h3 r.m4 r.h4 r.m5 r.h5 r.m6 r.h6 r.m7 r.h7 r.m8 r.h8 r.m9 r.h9 r.m11 r.h11 r.m12 r.h12 r.m13 r.h13 r.m14 r.h14 r.m15 r.h15 r.m18 r.m19 r.h19 r.m20 r.h20 r.x0 r.x1 r.x2 r.x3 r.x4 r.x5 r.x6 r.x7 r.x9 r.x10 r.x11 r.x12 r.x13 r.s1 r.s2)
/-- The gated attention of the second chunk. -/
def yC1 : FVec F S512x1024 .bf16 := (kernelRun0_C.sl.r_300 r.c r.m2 r.h2 r.m3 r.h3 r.m4 r.h4 r.m5 r.h5 r.m6 r.h6 r.m7 r.h7 r.m8 r.h8 r.m9 r.h9 r.m11 r.h11 r.m12 r.h12 r.m13 r.h13 r.m14 r.h14 r.m15 r.h15 r.m18 r.m19 r.h19 r.m20 r.h20 r.x0 r.x1 r.x2 r.x3 r.x4 r.x5 r.x6 r.x7 r.x9 r.x10 r.x11 r.x12 r.x13 r.s1 r.s2)

end Cert.YocoB

end
-- ==== Proof.B.RunC.lean ====
/-
  What the run stores, and what its queries, windows and gated attention are computed from.
-/
module

public import proofs.«01_k».proof.Proof.B.WordsC

@[expose] public section

set_option maxRecDepth 16384

noncomputable section

namespace Cert.YocoB

open Idealize.ShloMosaic Cert.KernelBIdeal Cert.KernelBIdeal.Gen

variable {F : FTy → Type} [FloatOps F] [Named F] (r : Args F)

/-- The keys before the point's first row. -/
def bkC : Vec F S4x256x128 .bf16 := (k0_pay11 k0_pay9)
/-- The values before the point's first row. -/
def bvC : Vec F S4x128x128 .bf16 := (k0_pay12 k0_pay10)

theorem out_C (hc0 : ¬cond0_0 r.i) (hc1 : cond0_1 r.i) (hc2 : ¬cond0_2 r.i) : (kernelRun0_C r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m16 r.h16 r.m17 r.h17 r.m18 r.h18 r.m19 r.h19 r.m20 r.h20 hc0 hc1 hc2 r.x0 r.x1 r.x2 r.x3 r.x4 r.x5 r.x6 r.x7 r.x8 r.x9 r.x10 r.x11 r.x12 r.x13 r.x14 r.s1 r.s2).1 = LOut (yC0 r) (yC1 r) r.xo00 r.xo01 r.xo10 r.xo11 r.wo0 r.wo1 := by rfl

theorem keys_C (hc0 : ¬cond0_0 r.i) (hc1 : cond0_1 r.i) (hc2 : ¬cond0_2 r.i) : (kernelRun0_C r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m16 r.h16 r.m17 r.h17 r.m18 r.h18 r.m19 r.h19 r.m20 r.h20 hc0 hc1 hc2 r.x0 r.x1 r.x2 r.x3 r.x4 r.x5 r.x6 r.x7 r.x8 r.x9 r.x10 r.x11 r.x12 r.x13 r.x14 r.s1 r.s2).2.1 = r.lk1 bkC := by rfl

theorem vals_C (hc0 : ¬cond0_0 r.i) (hc1 : cond0_1 r.i) (hc2 : ¬cond0_2 r.i) : (kernelRun0_C r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m16 r.h16 r.m17 r.h17 r.m18 r.h18 r.m19 r.h19 r.m20 r.h20 hc0 hc1 hc2 r.x0 r.x1 r.x2 r.x3 r.x4 r.x5 r.x6 r.x7 r.x8 r.x9 r.x10 r.x11 r.x12 r.x13 r.x14 r.s1 r.s2).2.2.1 = r.lv1 bvC [] := by rfl

theorem wq_C (hc0 : ¬cond0_0 r.i) (hc1 : cond0_1 r.i) (hc2 : ¬cond0_2 r.i) : (kernelRun0_C r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m16 r.h16 r.m17 r.h17 r.m18 r.h18 r.m19 r.h19 r.m20 r.h20 hc0 hc1 hc2 r.x0 r.x1 r.x2 r.x3 r.x4 r.x5 r.x6 r.x7 r.x8 r.x9 r.x10 r.x11 r.x12 r.x13 r.x14 r.s1 r.s2).2.2.2.1 = [] := by rfl

theorem yC0_eq : yC0 r = gaV (tC0 r) (mmV (hV r.xc0 r.lb) r.wz0) (mmV (hV r.xc0 r.lb) r.wz1) := by rfl

theorem yC1_eq : yC1 r = gaV (tC1 r) (mmV (hV r.xc1 r.lb) r.wz0) (mmV (hV r.xc1 r.lb) r.wz1) := by rfl

theorem qC0_0 : qC0 r 0 = queV (hV r.xc0 r.lb) r.ws0 r.ws1 r.cq0 r.sq0 r.qa r.qb 0 := by rfl
theorem qC0_1 : qC0 r 1 = queV (hV r.xc0 r.lb) r.ws0 r.ws1 r.cq0 r.sq0 r.qa r.qb 1 := by rfl
theorem qC0_2 : qC0 r 2 = queV (hV r.xc0 r.lb) r.ws0 r.ws1 r.cq0 r.sq0 r.qa r.qb 2 := by rfl
theorem qC0_3 : qC0 r 3 = queV (hV r.xc0 r.lb) r.ws0 r.ws1 r.cq0 r.sq0 r.qa r.qb 3 := by rfl

theorem qC0_eq : ∀ n, qC0 r n = queV (hV r.xc0 r.lb) r.ws0 r.ws1 r.cq0 r.sq0 r.qa r.qb n
  | 0 => qC0_0 r
  | 1 => qC0_1 r
  | 2 => qC0_2 r
  | 3 => qC0_3 r

theorem qC1_0 : qC1 r 0 = queV (hV r.xc1 r.lb) r.ws0 r.ws1 r.cq1 r.sq1 r.qa r.qb 0 := by rfl
theorem qC1_1 : qC1 r 1 = queV (hV r.xc1 r.lb) r.ws0 r.ws1 r.cq1 r.sq1 r.qa r.qb 1 := by rfl
theorem qC1_2 : qC1 r 2 = queV (hV r.xc1 r.lb) r.ws0 r.ws1 r.cq1 r.sq1 r.qa r.qb 2 := by rfl
theorem qC1_3 : qC1 r 3 = queV (hV r.xc1 r.lb) r.ws0 r.ws1 r.cq1 r.sq1 r.qa r.qb 3 := by rfl

theorem qC1_eq : ∀ n, qC1 r n = queV (hV r.xc1 r.lb) r.ws0 r.ws1 r.cq1 r.sq1 r.qa r.qb n
  | 0 => qC1_0 r
  | 1 => qC1_1 r
  | 2 => qC1_2 r
  | 3 => qC1_3 r

theorem kC0_00 : kC0 r 0 0 = r.m18.view.readCov (r.lk0 bkC) (Rect.unit (s := S4x256x1152) ![0, 0, 0] S1x256x256.size inb_S4x256x1152_S1x256x256_0_0_0).toLoadRect := by rfl
theorem vC0_00 : vC0 r 0 0 = View.readAt (Elt F) r.m19.view (Rect.unit (s := S4x1152x256) ![0, 0, 0] S1x256x256.size inb_S4x1152x256_S1x256x256_0_0_0).toLoadRect (r.m19.view.writes (Elt F) (Memref.IsWhole.unread r.h19 r.s1) (r.lv0 bvC [])) := by rfl
theorem kC0_01 : kC0 r 0 1 = r.m18.view.readCov (r.lk0 bkC) (Rect.unit (s := S4x256x1152) ![1, 0, 0] S1x256x256.size inb_S4x256x1152_S1x256x256_1_0_0).toLoadRect := by rfl
theorem vC0_01 : vC0 r 0 1 = View.readAt (Elt F) r.m19.view (Rect.unit (s := S4x1152x256) ![1, 0, 0] S1x256x256.size inb_S4x1152x256_S1x256x256_1_0_0).toLoadRect (r.m19.view.writes (Elt F) (Memref.IsWhole.unread r.h19 r.s1) (r.lv0 bvC [])) := by rfl
theorem kC0_02 : kC0 r 0 2 = r.m18.view.readCov (r.lk0 bkC) (Rect.unit (s := S4x256x1152) ![2, 0, 0] S1x256x256.size inb_S4x256x1152_S1x256x256_2_0_0).toLoadRect := by rfl
theorem vC0_02 : vC0 r 0 2 = View.readAt (Elt F) r.m19.view (Rect.unit (s := S4x1152x256) ![2, 0, 0] S1x256x256.size inb_S4x1152x256_S1x256x256_2_0_0).toLoadRect (r.m19.view.writes (Elt F) (Memref.IsWhole.unread r.h19 r.s1) (r.lv0 bvC [])) := by rfl
theorem kC0_03 : kC0 r 0 3 = r.m18.view.readCov (r.lk0 bkC) (Rect.unit (s := S4x256x1152) ![3, 0, 0] S1x256x256.size inb_S4x256x1152_S1x256x256_3_0_0).toLoadRect := by rfl
theorem vC0_03 : vC0 r 0 3 = View.readAt (Elt F) r.m19.view (Rect.unit (s := S4x1152x256) ![3, 0, 0] S1x256x256.size inb_S4x1152x256_S1x256x256_3_0_0).toLoadRect (r.m19.view.writes (Elt F) (Memref.IsWhole.unread r.h19 r.s1) (r.lv0 bvC [])) := by rfl
theorem kC0_10 : kC0 r 1 0 = r.m18.view.readCov (r.lk0 bkC) (Rect.unit (s := S4x256x1152) ![0, 0, 128] S1x256x256.size inb_S4x256x1152_S1x256x256_0_0_128).toLoadRect := by rfl
theorem vC0_10 : vC0 r 1 0 = View.readAt (Elt F) r.m19.view (Rect.unit (s := S4x1152x256) ![0, 128, 0] S1x256x256.size inb_S4x1152x256_S1x256x256_0_128_0).toLoadRect (r.m19.view.writes (Elt F) (Memref.IsWhole.unread r.h19 r.s1) (r.lv0 bvC [])) := by rfl
theorem kC0_11 : kC0 r 1 1 = r.m18.view.readCov (r.lk0 bkC) (Rect.unit (s := S4x256x1152) ![1, 0, 128] S1x256x256.size inb_S4x256x1152_S1x256x256_1_0_128).toLoadRect := by rfl
theorem vC0_11 : vC0 r 1 1 = View.readAt (Elt F) r.m19.view (Rect.unit (s := S4x1152x256) ![1, 128, 0] S1x256x256.size inb_S4x1152x256_S1x256x256_1_128_0).toLoadRect (r.m19.view.writes (Elt F) (Memref.IsWhole.unread r.h19 r.s1) (r.lv0 bvC [])) := by rfl
theorem kC0_12 : kC0 r 1 2 = r.m18.view.readCov (r.lk0 bkC) (Rect.unit (s := S4x256x1152) ![2, 0, 128] S1x256x256.size inb_S4x256x1152_S1x256x256_2_0_128).toLoadRect := by rfl
theorem vC0_12 : vC0 r 1 2 = View.readAt (Elt F) r.m19.view (Rect.unit (s := S4x1152x256) ![2, 128, 0] S1x256x256.size inb_S4x1152x256_S1x256x256_2_128_0).toLoadRect (r.m19.view.writes (Elt F) (Memref.IsWhole.unread r.h19 r.s1) (r.lv0 bvC [])) := by rfl
theorem kC0_13 : kC0 r 1 3 = r.m18.view.readCov (r.lk0 bkC) (Rect.unit (s := S4x256x1152) ![3, 0, 128] S1x256x256.size inb_S4x256x1152_S1x256x256_3_0_128).toLoadRect := by rfl
theorem vC0_13 : vC0 r 1 3 = View.readAt (Elt F) r.m19.view (Rect.unit (s := S4x1152x256) ![3, 128, 0] S1x256x256.size inb_S4x1152x256_S1x256x256_3_128_0).toLoadRect (r.m19.view.writes (Elt F) (Memref.IsWhole.unread r.h19 r.s1) (r.lv0 bvC [])) := by rfl
theorem kC0_20 : kC0 r 2 0 = r.m18.view.readCov (r.lk0 bkC) (Rect.unit (s := S4x256x1152) ![0, 0, 256] S1x256x256.size inb_S4x256x1152_S1x256x256_0_0_256).toLoadRect := by rfl
theorem vC0_20 : vC0 r 2 0 = View.readAt (Elt F) r.m19.view (Rect.unit (s := S4x1152x256) ![0, 256, 0] S1x256x256.size inb_S4x1152x256_S1x256x256_0_256_0).toLoadRect (r.m19.view.writes (Elt F) (Memref.IsWhole.unread r.h19 r.s1) (r.lv1 bvC [])) := by rfl
theorem kC0_21 : kC0 r 2 1 = r.m18.view.readCov (r.lk0 bkC) (Rect.unit (s := S4x256x1152) ![1, 0, 256] S1x256x256.size inb_S4x256x1152_S1x256x256_1_0_256).toLoadRect := by rfl
theorem vC0_21 : vC0 r 2 1 = View.readAt (Elt F) r.m19.view (Rect.unit (s := S4x1152x256) ![1, 256, 0] S1x256x256.size inb_S4x1152x256_S1x256x256_1_256_0).toLoadRect (r.m19.view.writes (Elt F) (Memref.IsWhole.unread r.h19 r.s1) (r.lv1 bvC [])) := by rfl
theorem kC0_22 : kC0 r 2 2 = r.m18.view.readCov (r.lk0 bkC) (Rect.unit (s := S4x256x1152) ![2, 0, 256] S1x256x256.size inb_S4x256x1152_S1x256x256_2_0_256).toLoadRect := by rfl
theorem vC0_22 : vC0 r 2 2 = View.readAt (Elt F) r.m19.view (Rect.unit (s := S4x1152x256) ![2, 256, 0] S1x256x256.size inb_S4x1152x256_S1x256x256_2_256_0).toLoadRect (r.m19.view.writes (Elt F) (Memref.IsWhole.unread r.h19 r.s1) (r.lv1 bvC [])) := by rfl
theorem kC0_23 : kC0 r 2 3 = r.m18.view.readCov (r.lk1 bkC) (Rect.unit (s := S4x256x1152) ![3, 0, 256] S1x256x256.size inb_S4x256x1152_S1x256x256_3_0_256).toLoadRect := by rfl
theorem vC0_23 : vC0 r 2 3 = View.readAt (Elt F) r.m19.view (Rect.unit (s := S4x1152x256) ![3, 256, 0] S1x256x256.size inb_S4x1152x256_S1x256x256_3_256_0).toLoadRect (r.m19.view.writes (Elt F) (Memref.IsWhole.unread r.h19 r.s1) (r.lv1 bvC [])) := by rfl
theorem kC0_30 : kC0 r 3 0 = r.m18.view.readCov (r.lk1 bkC) (Rect.unit (s := S4x256x1152) ![0, 0, 384] S1x256x256.size inb_S4x256x1152_S1x256x256_0_0_384).toLoadRect := by rfl
theorem vC0_30 : vC0 r 3 0 = View.readAt (Elt F) r.m19.view (Rect.unit (s := S4x1152x256) ![0, 384, 0] S1x256x256.size inb_S4x1152x256_S1x256x256_0_384_0).toLoadRect (r.m19.view.writes (Elt F) (Memref.IsWhole.unread r.h19 r.s1) (r.lv1 bvC [])) := by rfl
theorem kC0_31 : kC0 r 3 1 = r.m18.view.readCov (r.lk1 bkC) (Rect.unit (s := S4x256x1152) ![1, 0, 384] S1x256x256.size inb_S4x256x1152_S1x256x256_1_0_384).toLoadRect := by rfl
theorem vC0_31 : vC0 r 3 1 = View.readAt (Elt F) r.m19.view (Rect.unit (s := S4x1152x256) ![1, 384, 0] S1x256x256.size inb_S4x1152x256_S1x256x256_1_384_0).toLoadRect (r.m19.view.writes (Elt F) (Memref.IsWhole.unread r.h19 r.s1) (r.lv1 bvC [])) := by rfl
theorem kC0_32 : kC0 r 3 2 = r.m18.view.readCov (r.lk1 bkC) (Rect.unit (s := S4x256x1152) ![2, 0, 384] S1x256x256.size inb_S4x256x1152_S1x256x256_2_0_384).toLoadRect := by rfl
theorem vC0_32 : vC0 r 3 2 = View.readAt (Elt F) r.m19.view (Rect.unit (s := S4x1152x256) ![2, 384, 0] S1x256x256.size inb_S4x1152x256_S1x256x256_2_384_0).toLoadRect (r.m19.view.writes (Elt F) (Memref.IsWhole.unread r.h19 r.s1) (r.lv1 bvC [])) := by rfl
theorem kC0_33 : kC0 r 3 3 = r.m18.view.readCov (r.lk1 bkC) (Rect.unit (s := S4x256x1152) ![3, 0, 384] S1x256x256.size inb_S4x256x1152_S1x256x256_3_0_384).toLoadRect := by rfl
theorem vC0_33 : vC0 r 3 3 = View.readAt (Elt F) r.m19.view (Rect.unit (s := S4x1152x256) ![3, 384, 0] S1x256x256.size inb_S4x1152x256_S1x256x256_3_384_0).toLoadRect (r.m19.view.writes (Elt F) (Memref.IsWhole.unread r.h19 r.s1) (r.lv1 bvC [])) := by rfl
theorem kC1_00 : kC1 r 0 0 = r.m18.view.readCov (r.lk1 bkC) (Rect.unit (s := S4x256x1152) ![0, 0, 512] S1x256x256.size inb_S4x256x1152_S1x256x256_0_0_512).toLoadRect := by rfl
theorem vC1_00 : vC1 r 0 0 = View.readAt (Elt F) r.m19.view (Rect.unit (s := S4x1152x256) ![0, 512, 0] S1x256x256.size inb_S4x1152x256_S1x256x256_0_512_0).toLoadRect (r.m19.view.writes (Elt F) (Memref.IsWhole.unread r.h19 r.s1) (r.lv1 bvC [])) := by rfl
theorem kC1_01 : kC1 r 0 1 = r.m18.view.readCov (r.lk1 bkC) (Rect.unit (s := S4x256x1152) ![1, 0, 512] S1x256x256.size inb_S4x256x1152_S1x256x256_1_0_512).toLoadRect := by rfl
theorem vC1_01 : vC1 r 0 1 = View.readAt (Elt F) r.m19.view (Rect.unit (s := S4x1152x256) ![1, 512, 0] S1x256x256.size inb_S4x1152x256_S1x256x256_1_512_0).toLoadRect (r.m19.view.writes (Elt F) (Memref.IsWhole.unread r.h19 r.s1) (r.lv1 bvC [])) := by rfl
theorem kC1_02 : kC1 r 0 2 = r.m18.view.readCov (r.lk1 bkC) (Rect.unit (s := S4x256x1152) ![2, 0, 512] S1x256x256.size inb_S4x256x1152_S1x256x256_2_0_512).toLoadRect := by rfl
theorem vC1_02 : vC1 r 0 2 = View.readAt (Elt F) r.m19.view (Rect.unit (s := S4x1152x256) ![2, 512, 0] S1x256x256.size inb_S4x1152x256_S1x256x256_2_512_0).toLoadRect (r.m19.view.writes (Elt F) (Memref.IsWhole.unread r.h19 r.s1) (r.lv1 bvC [])) := by rfl
theorem kC1_03 : kC1 r 0 3 = r.m18.view.readCov (r.lk1 bkC) (Rect.unit (s := S4x256x1152) ![3, 0, 512] S1x256x256.size inb_S4x256x1152_S1x256x256_3_0_512).toLoadRect := by rfl
theorem vC1_03 : vC1 r 0 3 = View.readAt (Elt F) r.m19.view (Rect.unit (s := S4x1152x256) ![3, 512, 0] S1x256x256.size inb_S4x1152x256_S1x256x256_3_512_0).toLoadRect (r.m19.view.writes (Elt F) (Memref.IsWhole.unread r.h19 r.s1) (r.lv1 bvC [])) := by rfl
theorem kC1_10 : kC1 r 1 0 = r.m18.view.readCov (r.lk1 bkC) (Rect.unit (s := S4x256x1152) ![0, 0, 640] S1x256x256.size inb_S4x256x1152_S1x256x256_0_0_640).toLoadRect := by rfl
theorem vC1_10 : vC1 r 1 0 = View.readAt (Elt F) r.m19.view (Rect.unit (s := S4x1152x256) ![0, 640, 0] S1x256x256.size inb_S4x1152x256_S1x256x256_0_640_0).toLoadRect (r.m19.view.writes (Elt F) (Memref.IsWhole.unread r.h19 r.s1) (r.lv1 bvC [])) := by rfl
theorem kC1_11 : kC1 r 1 1 = r.m18.view.readCov (r.lk1 bkC) (Rect.unit (s := S4x256x1152) ![1, 0, 640] S1x256x256.size inb_S4x256x1152_S1x256x256_1_0_640).toLoadRect := by rfl
theorem vC1_11 : vC1 r 1 1 = View.readAt (Elt F) r.m19.view (Rect.unit (s := S4x1152x256) ![1, 640, 0] S1x256x256.size inb_S4x1152x256_S1x256x256_1_640_0).toLoadRect (r.m19.view.writes (Elt F) (Memref.IsWhole.unread r.h19 r.s1) (r.lv1 bvC [])) := by rfl
theorem kC1_12 : kC1 r 1 2 = r.m18.view.readCov (r.lk1 bkC) (Rect.unit (s := S4x256x1152) ![2, 0, 640] S1x256x256.size inb_S4x256x1152_S1x256x256_2_0_640).toLoadRect := by rfl
theorem vC1_12 : vC1 r 1 2 = View.readAt (Elt F) r.m19.view (Rect.unit (s := S4x1152x256) ![2, 640, 0] S1x256x256.size inb_S4x1152x256_S1x256x256_2_640_0).toLoadRect (r.m19.view.writes (Elt F) (Memref.IsWhole.unread r.h19 r.s1) (r.lv1 bvC [])) := by rfl
theorem kC1_13 : kC1 r 1 3 = r.m18.view.readCov (r.lk1 bkC) (Rect.unit (s := S4x256x1152) ![3, 0, 640] S1x256x256.size inb_S4x256x1152_S1x256x256_3_0_640).toLoadRect := by rfl
theorem vC1_13 : vC1 r 1 3 = View.readAt (Elt F) r.m19.view (Rect.unit (s := S4x1152x256) ![3, 640, 0] S1x256x256.size inb_S4x1152x256_S1x256x256_3_640_0).toLoadRect (r.m19.view.writes (Elt F) (Memref.IsWhole.unread r.h19 r.s1) (r.lv1 bvC [])) := by rfl
theorem kC1_20 : kC1 r 2 0 = r.m18.view.readCov (r.lk1 bkC) (Rect.unit (s := S4x256x1152) ![0, 0, 768] S1x256x256.size inb_S4x256x1152_S1x256x256_0_0_768).toLoadRect := by rfl
theorem vC1_20 : vC1 r 2 0 = View.readAt (Elt F) r.m19.view (Rect.unit (s := S4x1152x256) ![0, 768, 0] S1x256x256.size inb_S4x1152x256_S1x256x256_0_768_0).toLoadRect (r.m19.view.writes (Elt F) (Memref.IsWhole.unread r.h19 r.s1) (r.lv1 bvC [])) := by rfl
theorem kC1_21 : kC1 r 2 1 = r.m18.view.readCov (r.lk1 bkC) (Rect.unit (s := S4x256x1152) ![1, 0, 768] S1x256x256.size inb_S4x256x1152_S1x256x256_1_0_768).toLoadRect := by rfl
theorem vC1_21 : vC1 r 2 1 = View.readAt (Elt F) r.m19.view (Rect.unit (s := S4x1152x256) ![1, 768, 0] S1x256x256.size inb_S4x1152x256_S1x256x256_1_768_0).toLoadRect (r.m19.view.writes (Elt F) (Memref.IsWhole.unread r.h19 r.s1) (r.lv1 bvC [])) := by rfl
theorem kC1_22 : kC1 r 2 2 = r.m18.view.readCov (r.lk1 bkC) (Rect.unit (s := S4x256x1152) ![2, 0, 768] S1x256x256.size inb_S4x256x1152_S1x256x256_2_0_768).toLoadRect := by rfl
theorem vC1_22 : vC1 r 2 2 = View.readAt (Elt F) r.m19.view (Rect.unit (s := S4x1152x256) ![2, 768, 0] S1x256x256.size inb_S4x1152x256_S1x256x256_2_768_0).toLoadRect (r.m19.view.writes (Elt F) (Memref.IsWhole.unread r.h19 r.s1) (r.lv1 bvC [])) := by rfl
theorem kC1_23 : kC1 r 2 3 = r.m18.view.readCov (r.lk1 bkC) (Rect.unit (s := S4x256x1152) ![3, 0, 768] S1x256x256.size inb_S4x256x1152_S1x256x256_3_0_768).toLoadRect := by rfl
theorem vC1_23 : vC1 r 2 3 = View.readAt (Elt F) r.m19.view (Rect.unit (s := S4x1152x256) ![3, 768, 0] S1x256x256.size inb_S4x1152x256_S1x256x256_3_768_0).toLoadRect (r.m19.view.writes (Elt F) (Memref.IsWhole.unread r.h19 r.s1) (r.lv1 bvC [])) := by rfl
theorem kC1_30 : kC1 r 3 0 = r.m18.view.readCov (r.lk1 bkC) (Rect.unit (s := S4x256x1152) ![0, 0, 896] S1x256x256.size inb_S4x256x1152_S1x256x256_0_0_896).toLoadRect := by rfl
theorem vC1_30 : vC1 r 3 0 = View.readAt (Elt F) r.m19.view (Rect.unit (s := S4x1152x256) ![0, 896, 0] S1x256x256.size inb_S4x1152x256_S1x256x256_0_896_0).toLoadRect (r.m19.view.writes (Elt F) (Memref.IsWhole.unread r.h19 r.s1) (r.lv1 bvC [])) := by rfl
theorem kC1_31 : kC1 r 3 1 = r.m18.view.readCov (r.lk1 bkC) (Rect.unit (s := S4x256x1152) ![1, 0, 896] S1x256x256.size inb_S4x256x1152_S1x256x256_1_0_896).toLoadRect := by rfl
theorem vC1_31 : vC1 r 3 1 = View.readAt (Elt F) r.m19.view (Rect.unit (s := S4x1152x256) ![1, 896, 0] S1x256x256.size inb_S4x1152x256_S1x256x256_1_896_0).toLoadRect (r.m19.view.writes (Elt F) (Memref.IsWhole.unread r.h19 r.s1) (r.lv1 bvC [])) := by rfl
theorem kC1_32 : kC1 r 3 2 = r.m18.view.readCov (r.lk1 bkC) (Rect.unit (s := S4x256x1152) ![2, 0, 896] S1x256x256.size inb_S4x256x1152_S1x256x256_2_0_896).toLoadRect := by rfl
theorem vC1_32 : vC1 r 3 2 = View.readAt (Elt F) r.m19.view (Rect.unit (s := S4x1152x256) ![2, 896, 0] S1x256x256.size inb_S4x1152x256_S1x256x256_2_896_0).toLoadRect (r.m19.view.writes (Elt F) (Memref.IsWhole.unread r.h19 r.s1) (r.lv1 bvC [])) := by rfl
theorem kC1_33 : kC1 r 3 3 = r.m18.view.readCov (r.lk1 bkC) (Rect.unit (s := S4x256x1152) ![3, 0, 896] S1x256x256.size inb_S4x256x1152_S1x256x256_3_0_896).toLoadRect := by rfl
theorem vC1_33 : vC1 r 3 3 = View.readAt (Elt F) r.m19.view (Rect.unit (s := S4x1152x256) ![3, 896, 0] S1x256x256.size inb_S4x1152x256_S1x256x256_3_896_0).toLoadRect (r.m19.view.writes (Elt F) (Memref.IsWhole.unread r.h19 r.s1) (r.lv1 bvC [])) := by rfl

end Cert.YocoB

end
-- ==== Proof.B.WinC.lean ====
/-
  The windows of keys and values the run's tiles read, at an index.
-/
module

public import proofs.«01_k».proof.Proof.B.Wins
public import proofs.«01_k».proof.Proof.B.RunC

@[expose] public section

set_option maxRecDepth 16384

noncomputable section

namespace Cert.YocoB

open Idealize.ShloMosaic Cert.KernelBIdeal Cert.KernelBIdeal.Gen

variable {F : FTy → Type} [FloatOps F] [Named F] (r : Args F)

theorem kC0_at (p : Fin 256) (c : Fin 256) : ∀ (b n : Fin 4), kC0 r b n (ix3 0 p c)
    = View.canon (r.lk1 bkC) (ix3 n p ⟨512 * 0 + 128 * b.val + c.val, by omega⟩)
  | 0, 0 => (congrFun (kC0_00 r) _).trans (winK0 _ _ p _ 0 0 (by decide) (by decide) _ c)
  | 0, 1 => (congrFun (kC0_01 r) _).trans (winK0 _ _ p _ 1 0 (by decide) (by decide) _ c)
  | 0, 2 => (congrFun (kC0_02 r) _).trans (winK0 _ _ p _ 2 0 (by decide) (by decide) _ c)
  | 0, 3 => (congrFun (kC0_03 r) _).trans (winK0 _ _ p _ 3 0 (by decide) (by decide) _ c)
  | 1, 0 => (congrFun (kC0_10 r) _).trans (winK0 _ _ p _ 0 128 (by decide) (by decide) _ c)
  | 1, 1 => (congrFun (kC0_11 r) _).trans (winK0 _ _ p _ 1 128 (by decide) (by decide) _ c)
  | 1, 2 => (congrFun (kC0_12 r) _).trans (winK0 _ _ p _ 2 128 (by decide) (by decide) _ c)
  | 1, 3 => (congrFun (kC0_13 r) _).trans (winK0 _ _ p _ 3 128 (by decide) (by decide) _ c)
  | 2, 0 => (congrFun (kC0_20 r) _).trans (winK0 _ _ p _ 0 256 (by decide) (by decide) _ c)
  | 2, 1 => (congrFun (kC0_21 r) _).trans (winK0 _ _ p _ 1 256 (by decide) (by decide) _ c)
  | 2, 2 => (congrFun (kC0_22 r) _).trans (winK0 _ _ p _ 2 256 (by decide) (by decide) _ c)
  | 2, 3 => (congrFun (kC0_23 r) _).trans (winK _ p _ 3 256 (by decide) (by decide) _ c)
  | 3, 0 => (congrFun (kC0_30 r) _).trans (winK _ p _ 0 384 (by decide) (by decide) _ c)
  | 3, 1 => (congrFun (kC0_31 r) _).trans (winK _ p _ 1 384 (by decide) (by decide) _ c)
  | 3, 2 => (congrFun (kC0_32 r) _).trans (winK _ p _ 2 384 (by decide) (by decide) _ c)
  | 3, 3 => (congrFun (kC0_33 r) _).trans (winK _ p _ 3 384 (by decide) (by decide) _ c)

theorem vC0_at (c : Fin 256) (l : Fin 256) : ∀ (b n : Fin 4), vC0 r b n (ix3 0 c l)
    = View.canon (r.lv1 bvC (wholeV r.s1)) (ix3 n ⟨512 * 0 + 128 * b.val + c.val, by omega⟩ l)
  | 0, 0 => (congrFun (vC0_00 r) _).trans (winX0 _ _ l _ _ 0 0 (by decide) (by decide) _ c)
  | 0, 1 => (congrFun (vC0_01 r) _).trans (winX0 _ _ l _ _ 1 0 (by decide) (by decide) _ c)
  | 0, 2 => (congrFun (vC0_02 r) _).trans (winX0 _ _ l _ _ 2 0 (by decide) (by decide) _ c)
  | 0, 3 => (congrFun (vC0_03 r) _).trans (winX0 _ _ l _ _ 3 0 (by decide) (by decide) _ c)
  | 1, 0 => (congrFun (vC0_10 r) _).trans (winX0 _ _ l _ _ 0 128 (by decide) (by decide) _ c)
  | 1, 1 => (congrFun (vC0_11 r) _).trans (winX0 _ _ l _ _ 1 128 (by decide) (by decide) _ c)
  | 1, 2 => (congrFun (vC0_12 r) _).trans (winX0 _ _ l _ _ 2 128 (by decide) (by decide) _ c)
  | 1, 3 => (congrFun (vC0_13 r) _).trans (winX0 _ _ l _ _ 3 128 (by decide) (by decide) _ c)
  | 2, 0 => (congrFun (vC0_20 r) _).trans (winX _ l _ _ 0 256 (by decide) (by decide) _ c)
  | 2, 1 => (congrFun (vC0_21 r) _).trans (winX _ l _ _ 1 256 (by decide) (by decide) _ c)
  | 2, 2 => (congrFun (vC0_22 r) _).trans (winX _ l _ _ 2 256 (by decide) (by decide) _ c)
  | 2, 3 => (congrFun (vC0_23 r) _).trans (winX _ l _ _ 3 256 (by decide) (by decide) _ c)
  | 3, 0 => (congrFun (vC0_30 r) _).trans (winX _ l _ _ 0 384 (by decide) (by decide) _ c)
  | 3, 1 => (congrFun (vC0_31 r) _).trans (winX _ l _ _ 1 384 (by decide) (by decide) _ c)
  | 3, 2 => (congrFun (vC0_32 r) _).trans (winX _ l _ _ 2 384 (by decide) (by decide) _ c)
  | 3, 3 => (congrFun (vC0_33 r) _).trans (winX _ l _ _ 3 384 (by decide) (by decide) _ c)

theorem kC1_at (p : Fin 256) (c : Fin 256) : ∀ (b n : Fin 4), kC1 r b n (ix3 0 p c)
    = View.canon (r.lk1 bkC) (ix3 n p ⟨512 * 1 + 128 * b.val + c.val, by omega⟩)
  | 0, 0 => (congrFun (kC1_00 r) _).trans (winK _ p _ 0 512 (by decide) (by decide) _ c)
  | 0, 1 => (congrFun (kC1_01 r) _).trans (winK _ p _ 1 512 (by decide) (by decide) _ c)
  | 0, 2 => (congrFun (kC1_02 r) _).trans (winK _ p _ 2 512 (by decide) (by decide) _ c)
  | 0, 3 => (congrFun (kC1_03 r) _).trans (winK _ p _ 3 512 (by decide) (by decide) _ c)
  | 1, 0 => (congrFun (kC1_10 r) _).trans (winK _ p _ 0 640 (by decide) (by decide) _ c)
  | 1, 1 => (congrFun (kC1_11 r) _).trans (winK _ p _ 1 640 (by decide) (by decide) _ c)
  | 1, 2 => (congrFun (kC1_12 r) _).trans (winK _ p _ 2 640 (by decide) (by decide) _ c)
  | 1, 3 => (congrFun (kC1_13 r) _).trans (winK _ p _ 3 640 (by decide) (by decide) _ c)
  | 2, 0 => (congrFun (kC1_20 r) _).trans (winK _ p _ 0 768 (by decide) (by decide) _ c)
  | 2, 1 => (congrFun (kC1_21 r) _).trans (winK _ p _ 1 768 (by decide) (by decide) _ c)
  | 2, 2 => (congrFun (kC1_22 r) _).trans (winK _ p _ 2 768 (by decide) (by decide) _ c)
  | 2, 3 => (congrFun (kC1_23 r) _).trans (winK _ p _ 3 768 (by decide) (by decide) _ c)
  | 3, 0 => (congrFun (kC1_30 r) _).trans (winK _ p _ 0 896 (by decide) (by decide) _ c)
  | 3, 1 => (congrFun (kC1_31 r) _).trans (winK _ p _ 1 896 (by decide) (by decide) _ c)
  | 3, 2 => (congrFun (kC1_32 r) _).trans (winK _ p _ 2 896 (by decide) (by decide) _ c)
  | 3, 3 => (congrFun (kC1_33 r) _).trans (winK _ p _ 3 896 (by decide) (by decide) _ c)

theorem vC1_at (c : Fin 256) (l : Fin 256) : ∀ (b n : Fin 4), vC1 r b n (ix3 0 c l)
    = View.canon (r.lv1 bvC (wholeV r.s1)) (ix3 n ⟨512 * 1 + 128 * b.val + c.val, by omega⟩ l)
  | 0, 0 => (congrFun (vC1_00 r) _).trans (winX _ l _ _ 0 512 (by decide) (by decide) _ c)
  | 0, 1 => (congrFun (vC1_01 r) _).trans (winX _ l _ _ 1 512 (by decide) (by decide) _ c)
  | 0, 2 => (congrFun (vC1_02 r) _).trans (winX _ l _ _ 2 512 (by decide) (by decide) _ c)
  | 0, 3 => (congrFun (vC1_03 r) _).trans (winX _ l _ _ 3 512 (by decide) (by decide) _ c)
  | 1, 0 => (congrFun (vC1_10 r) _).trans (winX _ l _ _ 0 640 (by decide) (by decide) _ c)
  | 1, 1 => (congrFun (vC1_11 r) _).trans (winX _ l _ _ 1 640 (by decide) (by decide) _ c)
  | 1, 2 => (congrFun (vC1_12 r) _).trans (winX _ l _ _ 2 640 (by decide) (by decide) _ c)
  | 1, 3 => (congrFun (vC1_13 r) _).trans (winX _ l _ _ 3 640 (by decide) (by decide) _ c)
  | 2, 0 => (congrFun (vC1_20 r) _).trans (winX _ l _ _ 0 768 (by decide) (by decide) _ c)
  | 2, 1 => (congrFun (vC1_21 r) _).trans (winX _ l _ _ 1 768 (by decide) (by decide) _ c)
  | 2, 2 => (congrFun (vC1_22 r) _).trans (winX _ l _ _ 2 768 (by decide) (by decide) _ c)
  | 2, 3 => (congrFun (vC1_23 r) _).trans (winX _ l _ _ 3 768 (by decide) (by decide) _ c)
  | 3, 0 => (congrFun (vC1_30 r) _).trans (winX _ l _ _ 0 896 (by decide) (by decide) _ c)
  | 3, 1 => (congrFun (vC1_31 r) _).trans (winX _ l _ _ 1 896 (by decide) (by decide) _ c)
  | 3, 2 => (congrFun (vC1_32 r) _).trans (winX _ l _ _ 2 896 (by decide) (by decide) _ c)
  | 3, 3 => (congrFun (vC1_33 r) _).trans (winX _ l _ _ 3 896 (by decide) (by decide) _ c)

end Cert.YocoB

end
-- ==== Proof.B.TilesC0.lean ====
/-
  The attention of every query block of the chunk is the attention of its queries over its windows.
-/
module

public import proofs.«01_k».proof.Proof.B.WordsC

@[expose] public section

set_option maxRecDepth 16384

noncomputable section

namespace Cert.YocoB

open Idealize.ShloMosaic Cert.KernelBIdeal Cert.KernelBIdeal.Gen

variable {F : FTy → Type} [FloatOps F] [Named F] (r : Args F)

theorem tC0_000 : tC0 r 0 0 0 = atTile (rowsV (qC0 r 0) 0) (kC0 r 0 0) (vC0 r 0 0) (cutV (Scalar.cmpi .eq (BitVec.ofNat 32 (r.i 1)) 0#32)) (r.sk 0) 0 := by rfl
theorem tC0_001 : tC0 r 0 0 1 = atTile (rowsV (qC0 r 0) 0) (kC0 r 0 0) (vC0 r 0 0) (cutV (Scalar.cmpi .eq (BitVec.ofNat 32 (r.i 1)) 0#32)) (r.sk 0) 1 := by rfl
theorem tC0_010 : tC0 r 0 1 0 = atTile (rowsV (qC0 r 1) 0) (kC0 r 0 1) (vC0 r 0 1) (cutV (Scalar.cmpi .eq (BitVec.ofNat 32 (r.i 1)) 0#32)) (r.sk 1) 0 := by rfl
theorem tC0_011 : tC0 r 0 1 1 = atTile (rowsV (qC0 r 1) 0) (kC0 r 0 1) (vC0 r 0 1) (cutV (Scalar.cmpi .eq (BitVec.ofNat 32 (r.i 1)) 0#32)) (r.sk 1) 1 := by rfl
theorem tC0_020 : tC0 r 0 2 0 = atTile (rowsV (qC0 r 2) 0) (kC0 r 0 2) (vC0 r 0 2) (cutV (Scalar.cmpi .eq (BitVec.ofNat 32 (r.i 1)) 0#32)) (r.sk 2) 0 := by rfl
theorem tC0_021 : tC0 r 0 2 1 = atTile (rowsV (qC0 r 2) 0) (kC0 r 0 2) (vC0 r 0 2) (cutV (Scalar.cmpi .eq (BitVec.ofNat 32 (r.i 1)) 0#32)) (r.sk 2) 1 := by rfl
theorem tC0_030 : tC0 r 0 3 0 = atTile (rowsV (qC0 r 3) 0) (kC0 r 0 3) (vC0 r 0 3) (cutV (Scalar.cmpi .eq (BitVec.ofNat 32 (r.i 1)) 0#32)) (r.sk 3) 0 := by rfl
theorem tC0_031 : tC0 r 0 3 1 = atTile (rowsV (qC0 r 3) 0) (kC0 r 0 3) (vC0 r 0 3) (cutV (Scalar.cmpi .eq (BitVec.ofNat 32 (r.i 1)) 0#32)) (r.sk 3) 1 := by rfl
theorem tC0_100 : tC0 r 1 0 0 = atTile (rowsV (qC0 r 0) 1) (kC0 r 1 0) (vC0 r 1 0) id (r.sk 0) 0 := by rfl
theorem tC0_101 : tC0 r 1 0 1 = atTile (rowsV (qC0 r 0) 1) (kC0 r 1 0) (vC0 r 1 0) id (r.sk 0) 1 := by rfl
theorem tC0_110 : tC0 r 1 1 0 = atTile (rowsV (qC0 r 1) 1) (kC0 r 1 1) (vC0 r 1 1) id (r.sk 1) 0 := by rfl
theorem tC0_111 : tC0 r 1 1 1 = atTile (rowsV (qC0 r 1) 1) (kC0 r 1 1) (vC0 r 1 1) id (r.sk 1) 1 := by rfl
theorem tC0_120 : tC0 r 1 2 0 = atTile (rowsV (qC0 r 2) 1) (kC0 r 1 2) (vC0 r 1 2) id (r.sk 2) 0 := by rfl
theorem tC0_121 : tC0 r 1 2 1 = atTile (rowsV (qC0 r 2) 1) (kC0 r 1 2) (vC0 r 1 2) id (r.sk 2) 1 := by rfl
theorem tC0_130 : tC0 r 1 3 0 = atTile (rowsV (qC0 r 3) 1) (kC0 r 1 3) (vC0 r 1 3) id (r.sk 3) 0 := by rfl
theorem tC0_131 : tC0 r 1 3 1 = atTile (rowsV (qC0 r 3) 1) (kC0 r 1 3) (vC0 r 1 3) id (r.sk 3) 1 := by rfl
theorem tC0_200 : tC0 r 2 0 0 = atTile (rowsV (qC0 r 0) 2) (kC0 r 2 0) (vC0 r 2 0) id (r.sk 0) 0 := by rfl
theorem tC0_201 : tC0 r 2 0 1 = atTile (rowsV (qC0 r 0) 2) (kC0 r 2 0) (vC0 r 2 0) id (r.sk 0) 1 := by rfl
theorem tC0_210 : tC0 r 2 1 0 = atTile (rowsV (qC0 r 1) 2) (kC0 r 2 1) (vC0 r 2 1) id (r.sk 1) 0 := by rfl
theorem tC0_211 : tC0 r 2 1 1 = atTile (rowsV (qC0 r 1) 2) (kC0 r 2 1) (vC0 r 2 1) id (r.sk 1) 1 := by rfl
theorem tC0_220 : tC0 r 2 2 0 = atTile (rowsV (qC0 r 2) 2) (kC0 r 2 2) (vC0 r 2 2) id (r.sk 2) 0 := by rfl
theorem tC0_221 : tC0 r 2 2 1 = atTile (rowsV (qC0 r 2) 2) (kC0 r 2 2) (vC0 r 2 2) id (r.sk 2) 1 := by rfl
theorem tC0_230 : tC0 r 2 3 0 = atTile (rowsV (qC0 r 3) 2) (kC0 r 2 3) (vC0 r 2 3) id (r.sk 3) 0 := by rfl
theorem tC0_231 : tC0 r 2 3 1 = atTile (rowsV (qC0 r 3) 2) (kC0 r 2 3) (vC0 r 2 3) id (r.sk 3) 1 := by rfl
theorem tC0_300 : tC0 r 3 0 0 = atTile (rowsV (qC0 r 0) 3) (kC0 r 3 0) (vC0 r 3 0) id (r.sk 0) 0 := by rfl
theorem tC0_301 : tC0 r 3 0 1 = atTile (rowsV (qC0 r 0) 3) (kC0 r 3 0) (vC0 r 3 0) id (r.sk 0) 1 := by rfl
theorem tC0_310 : tC0 r 3 1 0 = atTile (rowsV (qC0 r 1) 3) (kC0 r 3 1) (vC0 r 3 1) id (r.sk 1) 0 := by rfl
theorem tC0_311 : tC0 r 3 1 1 = atTile (rowsV (qC0 r 1) 3) (kC0 r 3 1) (vC0 r 3 1) id (r.sk 1) 1 := by rfl
theorem tC0_320 : tC0 r 3 2 0 = atTile (rowsV (qC0 r 2) 3) (kC0 r 3 2) (vC0 r 3 2) id (r.sk 2) 0 := by rfl
theorem tC0_321 : tC0 r 3 2 1 = atTile (rowsV (qC0 r 2) 3) (kC0 r 3 2) (vC0 r 3 2) id (r.sk 2) 1 := by rfl
theorem tC0_330 : tC0 r 3 3 0 = atTile (rowsV (qC0 r 3) 3) (kC0 r 3 3) (vC0 r 3 3) id (r.sk 3) 0 := by rfl
theorem tC0_331 : tC0 r 3 3 1 = atTile (rowsV (qC0 r 3) 3) (kC0 r 3 3) (vC0 r 3 3) id (r.sk 3) 1 := by rfl

/-- What the chunk's query blocks do to the scores of the block before. -/
def cutC0 : Fin 4 → FVec F S128x128 .f32 → FVec F S128x128 .f32 := four (cutV (Scalar.cmpi .eq (BitVec.ofNat 32 (r.i 1)) 0#32)) id id id

theorem tC0_eq : ∀ (b n : Fin 4) (p : Fin 2), tC0 r b n p = atTile (rowsV (qC0 r n) b) (kC0 r b n) (vC0 r b n) (cutC0 r b) (r.sk n) p
  | 0, 0, 0 => tC0_000 r
  | 0, 0, 1 => tC0_001 r
  | 0, 1, 0 => tC0_010 r
  | 0, 1, 1 => tC0_011 r
  | 0, 2, 0 => tC0_020 r
  | 0, 2, 1 => tC0_021 r
  | 0, 3, 0 => tC0_030 r
  | 0, 3, 1 => tC0_031 r
  | 1, 0, 0 => tC0_100 r
  | 1, 0, 1 => tC0_101 r
  | 1, 1, 0 => tC0_110 r
  | 1, 1, 1 => tC0_111 r
  | 1, 2, 0 => tC0_120 r
  | 1, 2, 1 => tC0_121 r
  | 1, 3, 0 => tC0_130 r
  | 1, 3, 1 => tC0_131 r
  | 2, 0, 0 => tC0_200 r
  | 2, 0, 1 => tC0_201 r
  | 2, 1, 0 => tC0_210 r
  | 2, 1, 1 => tC0_211 r
  | 2, 2, 0 => tC0_220 r
  | 2, 2, 1 => tC0_221 r
  | 2, 3, 0 => tC0_230 r
  | 2, 3, 1 => tC0_231 r
  | 3, 0, 0 => tC0_300 r
  | 3, 0, 1 => tC0_301 r
  | 3, 1, 0 => tC0_310 r
  | 3, 1, 1 => tC0_311 r
  | 3, 2, 0 => tC0_320 r
  | 3, 2, 1 => tC0_321 r
  | 3, 3, 0 => tC0_330 r
  | 3, 3, 1 => tC0_331 r

end Cert.YocoB

end
-- ==== Proof.B.TilesC1.lean ====
/-
  The attention of every query block of the chunk is the attention of its queries over its windows.
-/
module

public import proofs.«01_k».proof.Proof.B.WordsC

@[expose] public section

set_option maxRecDepth 16384

noncomputable section

namespace Cert.YocoB

open Idealize.ShloMosaic Cert.KernelBIdeal Cert.KernelBIdeal.Gen

variable {F : FTy → Type} [FloatOps F] [Named F] (r : Args F)

theorem tC1_000 : tC1 r 0 0 0 = atTile (rowsV (qC1 r 0) 0) (kC1 r 0 0) (vC1 r 0 0) id (r.sk 0) 0 := by rfl
theorem tC1_001 : tC1 r 0 0 1 = atTile (rowsV (qC1 r 0) 0) (kC1 r 0 0) (vC1 r 0 0) id (r.sk 0) 1 := by rfl
theorem tC1_010 : tC1 r 0 1 0 = atTile (rowsV (qC1 r 1) 0) (kC1 r 0 1) (vC1 r 0 1) id (r.sk 1) 0 := by rfl
theorem tC1_011 : tC1 r 0 1 1 = atTile (rowsV (qC1 r 1) 0) (kC1 r 0 1) (vC1 r 0 1) id (r.sk 1) 1 := by rfl
theorem tC1_020 : tC1 r 0 2 0 = atTile (rowsV (qC1 r 2) 0) (kC1 r 0 2) (vC1 r 0 2) id (r.sk 2) 0 := by rfl
theorem tC1_021 : tC1 r 0 2 1 = atTile (rowsV (qC1 r 2) 0) (kC1 r 0 2) (vC1 r 0 2) id (r.sk 2) 1 := by rfl
theorem tC1_030 : tC1 r 0 3 0 = atTile (rowsV (qC1 r 3) 0) (kC1 r 0 3) (vC1 r 0 3) id (r.sk 3) 0 := by rfl
theorem tC1_031 : tC1 r 0 3 1 = atTile (rowsV (qC1 r 3) 0) (kC1 r 0 3) (vC1 r 0 3) id (r.sk 3) 1 := by rfl
theorem tC1_100 : tC1 r 1 0 0 = atTile (rowsV (qC1 r 0) 1) (kC1 r 1 0) (vC1 r 1 0) id (r.sk 0) 0 := by rfl
theorem tC1_101 : tC1 r 1 0 1 = atTile (rowsV (qC1 r 0) 1) (kC1 r 1 0) (vC1 r 1 0) id (r.sk 0) 1 := by rfl
theorem tC1_110 : tC1 r 1 1 0 = atTile (rowsV (qC1 r 1) 1) (kC1 r 1 1) (vC1 r 1 1) id (r.sk 1) 0 := by rfl
theorem tC1_111 : tC1 r 1 1 1 = atTile (rowsV (qC1 r 1) 1) (kC1 r 1 1) (vC1 r 1 1) id (r.sk 1) 1 := by rfl
theorem tC1_120 : tC1 r 1 2 0 = atTile (rowsV (qC1 r 2) 1) (kC1 r 1 2) (vC1 r 1 2) id (r.sk 2) 0 := by rfl
theorem tC1_121 : tC1 r 1 2 1 = atTile (rowsV (qC1 r 2) 1) (kC1 r 1 2) (vC1 r 1 2) id (r.sk 2) 1 := by rfl
theorem tC1_130 : tC1 r 1 3 0 = atTile (rowsV (qC1 r 3) 1) (kC1 r 1 3) (vC1 r 1 3) id (r.sk 3) 0 := by rfl
theorem tC1_131 : tC1 r 1 3 1 = atTile (rowsV (qC1 r 3) 1) (kC1 r 1 3) (vC1 r 1 3) id (r.sk 3) 1 := by rfl
theorem tC1_200 : tC1 r 2 0 0 = atTile (rowsV (qC1 r 0) 2) (kC1 r 2 0) (vC1 r 2 0) id (r.sk 0) 0 := by rfl
theorem tC1_201 : tC1 r 2 0 1 = atTile (rowsV (qC1 r 0) 2) (kC1 r 2 0) (vC1 r 2 0) id (r.sk 0) 1 := by rfl
theorem tC1_210 : tC1 r 2 1 0 = atTile (rowsV (qC1 r 1) 2) (kC1 r 2 1) (vC1 r 2 1) id (r.sk 1) 0 := by rfl
theorem tC1_211 : tC1 r 2 1 1 = atTile (rowsV (qC1 r 1) 2) (kC1 r 2 1) (vC1 r 2 1) id (r.sk 1) 1 := by rfl
theorem tC1_220 : tC1 r 2 2 0 = atTile (rowsV (qC1 r 2) 2) (kC1 r 2 2) (vC1 r 2 2) id (r.sk 2) 0 := by rfl
theorem tC1_221 : tC1 r 2 2 1 = atTile (rowsV (qC1 r 2) 2) (kC1 r 2 2) (vC1 r 2 2) id (r.sk 2) 1 := by rfl
theorem tC1_230 : tC1 r 2 3 0 = atTile (rowsV (qC1 r 3) 2) (kC1 r 2 3) (vC1 r 2 3) id (r.sk 3) 0 := by rfl
theorem tC1_231 : tC1 r 2 3 1 = atTile (rowsV (qC1 r 3) 2) (kC1 r 2 3) (vC1 r 2 3) id (r.sk 3) 1 := by rfl
theorem tC1_300 : tC1 r 3 0 0 = atTile (rowsV (qC1 r 0) 3) (kC1 r 3 0) (vC1 r 3 0) id (r.sk 0) 0 := by rfl
theorem tC1_301 : tC1 r 3 0 1 = atTile (rowsV (qC1 r 0) 3) (kC1 r 3 0) (vC1 r 3 0) id (r.sk 0) 1 := by rfl
theorem tC1_310 : tC1 r 3 1 0 = atTile (rowsV (qC1 r 1) 3) (kC1 r 3 1) (vC1 r 3 1) id (r.sk 1) 0 := by rfl
theorem tC1_311 : tC1 r 3 1 1 = atTile (rowsV (qC1 r 1) 3) (kC1 r 3 1) (vC1 r 3 1) id (r.sk 1) 1 := by rfl
theorem tC1_320 : tC1 r 3 2 0 = atTile (rowsV (qC1 r 2) 3) (kC1 r 3 2) (vC1 r 3 2) id (r.sk 2) 0 := by rfl
theorem tC1_321 : tC1 r 3 2 1 = atTile (rowsV (qC1 r 2) 3) (kC1 r 3 2) (vC1 r 3 2) id (r.sk 2) 1 := by rfl

/-- What the chunk's query blocks do to the scores of the block before. -/
def cutC1 (F : FTy → Type) : Fin 4 → FVec F S128x128 .f32 → FVec F S128x128 .f32 := four id id id id

theorem tC1_eq : ∀ (b n : Fin 4) (p : Fin 2), tC1 r b n p = atTile (rowsV (qC1 r n) b) (kC1 r b n) (vC1 r b n) (cutC1 F b) (r.sk n) p
  | 0, 0, 0 => tC1_000 r
  | 0, 0, 1 => tC1_001 r
  | 0, 1, 0 => tC1_010 r
  | 0, 1, 1 => tC1_011 r
  | 0, 2, 0 => tC1_020 r
  | 0, 2, 1 => tC1_021 r
  | 0, 3, 0 => tC1_030 r
  | 0, 3, 1 => tC1_031 r
  | 1, 0, 0 => tC1_100 r
  | 1, 0, 1 => tC1_101 r
  | 1, 1, 0 => tC1_110 r
  | 1, 1, 1 => tC1_111 r
  | 1, 2, 0 => tC1_120 r
  | 1, 2, 1 => tC1_121 r
  | 1, 3, 0 => tC1_130 r
  | 1, 3, 1 => tC1_131 r
  | 2, 0, 0 => tC1_200 r
  | 2, 0, 1 => tC1_201 r
  | 2, 1, 0 => tC1_210 r
  | 2, 1, 1 => tC1_211 r
  | 2, 2, 0 => tC1_220 r
  | 2, 2, 1 => tC1_221 r
  | 2, 3, 0 => tC1_230 r
  | 2, 3, 1 => tC1_231 r
  | 3, 0, 0 => tC1_300 r
  | 3, 0, 1 => tC1_301 r
  | 3, 1, 0 => tC1_310 r
  | 3, 1, 1 => tC1_311 r
  | 3, 2, 0 => tC1_320 r
  | 3, 2, 1 => tC1_321 r
  | 3, 3, 0 => rfl
  | 3, 3, 1 => rfl

end Cert.YocoB

end
-- ==== Proof.B.PointC.lean ====
/-
  What a grid point of run C leaves and gives, in the layer's formulas.
-/
module

public import proofs.«01_k».proof.Proof.B.Point
public import proofs.«01_k».proof.Proof.B.WinC
public import proofs.«01_k».proof.Proof.B.TilesC0
public import proofs.«01_k».proof.Proof.B.TilesC1

@[expose] public section

set_option maxRecDepth 16384

noncomputable section

namespace Cert.YocoB

open Idealize.ShloMosaic Cert.KernelBIdeal Cert.KernelBIdeal.Gen Cert.YocoPieces

variable {r : Args Ideal} {D : Lay} {j : Fin 8} (h : Holds r D j)

theorem baseK_C (hj : j.val = 0) (g : Fin 4) (p : Fin 256) (x : Fin 128) :
    (bkC : Vec Ideal S4x256x128 .bf16) (ix3 g p x) = scrRow (D.keys g) j ⟨x.val, by omega⟩ (pdim p) := by
  have e : (bkC : Vec Ideal S4x256x128 .bf16) (ix3 g p x) = Ideal.ofBits .bf16 0x0000#16 := by
    pointwise [bkC, k0_pay11, k0_pay9]
  rw [e]
  unfold scrRow
  rw [dif_pos (show x.val < 128 by omega), dif_pos hj]
  simp [Ideal.ofBits, Ideal.ieee, -EReal.coe_mul]

theorem baseV_C (hj : j.val = 0) (g : Fin 4) (x l : Fin 128) :
    (bvC : Vec Ideal S4x128x128 .bf16) (ix3 g x l) = scrRow (D.vals g) j ⟨x.val, by omega⟩ ⟨l.val % 64, by omega⟩ := by
  have e : (bvC : Vec Ideal S4x128x128 .bf16) (ix3 g x l) = Ideal.ofBits .bf16 0x0000#16 := by
    pointwise [bvC, k0_pay12, k0_pay10]
  rw [e]
  unfold scrRow
  rw [dif_pos (show x.val < 128 by omega), dif_pos hj]
  simp [Ideal.ofBits, Ideal.ieee, -EReal.coe_mul]

include h

/-- The keys the point leaves. -/
theorem keysOk_C (hj : j.val = 0) : KOk D j (View.canon (r.lk1 bkC)) := h.keys _ (baseK_C hj)
/-- The values the point leaves. -/
theorem valsOk_C (hj : j.val = 0) (h1 : ∀ (g : Fin 4) (x : Fin 1152) (l : Fin 256), 128 ≤ l.val → r.s1 (ix3 g x l) = 1) :
    VOk D j (View.canon (r.lv1 bvC (wholeV r.s1))) :=
  h.vals _ _ (baseV_C hj) (fun g x l hl => (wholeV_at _ _).trans (h1 g x l hl))

/-- The point's output. -/
theorem point_C (hf : D.Fine) (hj : j.val = 0) (h1 : ∀ (g : Fin 4) (x : Fin 1152) (l : Fin 256), 128 ≤ l.val → r.s1 (ix3 g x l) = 1) (hQ : QOk D r.s2) (a o : Fin 1024) :
    View.canon (LOut (yC0 r) (yC1 r) r.xo00 r.xo01 r.xo10 r.xo11 r.wo0 r.wo1) (ix3 0 a o) = D.out ⟨1024 * j.val + a.val, by omega⟩ o := by
  rw [yC0_eq, yC1_eq]
  have hK := keysOk_C h hj
  have hV' := valsOk_C h hj h1
  refine h.out _ _ (fun a n p l => ?_) (fun a n p l => ?_) a o
  · exact h.chunk hf 0 _ _ _ _ _ (tC0_eq r)
      (fun n a d e => (congrFun (qC0_eq r n) _).trans (h.que0 hf _ _ (fun k x => (ld2 r.h20 r.s2 k x k ⟨x.val, by omega⟩ (by omega) (by show x.val = 0 + x.val; omega)).trans (hQ k _)) (fun k x => (ld2 r.h20 r.s2 k x k ⟨512 + x.val, by omega⟩ (by omega) rfl).trans (hQ k _)) n a d e))
      (fun b n p c => (kC0_at r p c b n).trans (hK n p _)) (fun b n c l => (vC0_at r c l b n).trans (hV' n _ l))
      (fun b s a c => cut0_at r D j h s a c b) a n p l
  · exact h.chunk hf 1 _ _ _ _ _ (tC1_eq r)
      (fun n a d e => (congrFun (qC1_eq r n) _).trans (h.que1 hf _ _ (fun k x => (ld2 r.h20 r.s2 k x k ⟨x.val, by omega⟩ (by omega) (by show x.val = 0 + x.val; omega)).trans (hQ k _)) (fun k x => (ld2 r.h20 r.s2 k x k ⟨512 + x.val, by omega⟩ (by omega) rfl).trans (hQ k _)) n a d e))
      (fun b n p c => (kC1_at r p c b n).trans (hK n p _)) (fun b n c l => (vC1_at r c l b n).trans (hV' n _ l))
      (fun b s a c => cut1_at j s a c b) a n p l

end Cert.YocoB

end
-- ==== Proof.B.Ref.lean ====
/-
  What the reference of layer B computes before its softmax, read at an index: the normalized rows, keys, values, queries
  and gates of `Cert.YocoB` on the rows of the whole array.
-/
module

public import proofs.«01_k».proof.Proof.Gen.ReferenceBIdeal.Read
public import proofs.«01_k».proof.Proof.B.Math

@[expose] public section

set_option maxRecDepth 16384

noncomputable section

namespace Cert.YocoB

open Idealize.ShloMosaic Cert.ReferenceBIdeal Cert.ReferenceBIdeal.Gen Cert.ReferenceBIdeal.Read

section
variable (x0 : Vec Ideal S4x8192x1024 .f32) (x1 : Vec Ideal S1024 .f32) (x2 : Vec Ideal S1024x512 .f32)
  (x3 : Vec Ideal S64 .f32) (x4 : Vec Ideal S1x1024 .f32) (x5 : Vec Ideal S1x1024x2048 .f32) (x6 : Vec Ideal S1x64 .f32)
  (x7 : Vec Ideal S1x16 .f32) (x8 : Vec Ideal S1x1024x1024 .f32)

/-- Row `n` of batch `b`. -/
abbrev xrow (b : Fin 4) (n : Fin 8192) : Fin 1024 → EReal := fun k => x0 (ix3 b n k)
/-- The row the keys and values are computed from. -/
abbrev hkv (b : Fin 4) (n : Fin 8192) : Fin 1024 → EReal := YocoA.hid (xrow x0 b n) fun k => x1 (ix1 k)
/-- The row the queries and gates are computed from. -/
abbrev hq (b : Fin 4) (n : Fin 8192) : Fin 1024 → EReal := YocoA.hid (xrow x0 b n) fun k => x4 (ix2 0 k)
/-- The weights of the keys and values. -/
abbrev wkv : Fin 1024 → Fin 512 → EReal := fun k o => x2 (ix2 k o)
/-- The weights of the queries and gates. -/
abbrev wqz : Fin 1024 → Fin 2048 → EReal := fun k o => x5 (ix3 0 k o)
/-- The keys' gain. -/
abbrev kgain : Fin 64 → EReal := fun e => x3 (ix1 e)
/-- The queries' gain. -/
abbrev qgain : Fin 64 → EReal := fun e => x6 (ix2 0 e)

/-- The angle of row `n` and pair `j`. -/
def ang (n : Fin 8192) (j : Fin 8) : EReal := val_main_v15 (F := Ideal) (ix2 n j)
/-- Its cosine. -/
def rcos (n : Fin 8192) (j : Fin 8) : EReal := Ideal.cos (ang n j)
/-- Its sine. -/
def rsin (n : Fin 8192) (j : Fin 8) : EReal := Ideal.sin (ang n j)

/-- Keys of the whole array. -/
abbrev keys (b : Fin 4) (g : Fin 4) (n : Fin 8192) : Fin 64 → EReal :=
  keyRow (rcos n) (rsin n) (hkv x0 x1 b n) (wkv x2) (kgain x3) g
/-- Values of the whole array. -/
abbrev vals (b : Fin 4) (g : Fin 4) (n : Fin 8192) : Fin 64 → EReal := valRow (hkv x0 x1 b n) (wkv x2) g
/-- Queries of the whole array. -/
abbrev qrys (b : Fin 4) (d : Fin 16) (n : Fin 8192) : Fin 64 → EReal :=
  qryRow (rcos n) (rsin n) (hq x0 x4 b n) (wqz x5) (qgain x6) d

theorem ref_cos (n : Fin 8192) (j : Fin 8) : val_main_v17 (F := Ideal) (ix4 0 n 0 j) = rcos n j := by
  pointwise [val_main_v17, val_main_v16, rcos, ang]

theorem ref_sin (n : Fin 8192) (j : Fin 8) : val_main_v19 (F := Ideal) (ix4 0 n 0 j) = rsin n j := by
  pointwise [val_main_v19, val_main_v18, rsin, ang]

theorem ref_h (b : Fin 4) (n : Fin 8192) (k : Fin 1024) : val_main_v32 (F := Ideal) x0 x1 (ix3 b n k) = hkv x0 x1 b n k := by
  pointwise [val_main_v32, val_main_v31, val_main_v30, val_main_v29, val_main_v28, val_main_v27, val_main_v26, val_main_v25,
    val_main_v24, val_main_v23, val_main_v22, val_main_v21, val_main_v20, val_main_cst_3, val_main_cst_4, val_main_cst_5,
    hkv, YocoA.hid, xrow, YocoA.rowLen, YocoA.eps]

theorem ref_hq (b : Fin 4) (n : Fin 8192) (k : Fin 1024) : val_main_v83 (F := Ideal) x0 x4 (ix3 b n k) = hq x0 x4 b n k := by
  pointwise [val_main_v83, val_main_v82, val_main_v81, val_main_v76, val_main_v29, val_main_v28, val_main_v27, val_main_v26, val_main_v25,
    val_main_v24, val_main_v23, val_main_v22, val_main_v21, val_main_v20, val_main_cst_3, val_main_cst_4, val_main_cst_5,
    hq, YocoA.hid, xrow, YocoA.rowLen, YocoA.eps]

theorem ref_kv (b : Fin 4) (n : Fin 8192) (o : Fin 512) :
    val_main_v33 (F := Ideal) x0 x1 x2 (ix3 b n o) = lin (hkv x0 x1 b n) (wkv x2) o := by
  pointwise [val_main_v33, ref_h, lin, wkv]

theorem ref_qz (b : Fin 4) (n : Fin 8192) (o : Fin 2048) :
    val_main_v84 (F := Ideal) x0 x4 x5 (ix3 b n o) = lin (hq x0 x4 b n) (wqz x5) o := by
  pointwise [val_main_v84, val_main_v77, ref_hq, lin, wqz]

theorem ref_k36 (b : Fin 4) (n : Fin 8192) (g : Fin 4) (e : Fin 64) :
    val_main_v36 (F := Ideal) x0 x1 x2 (ix4 b n g e) = lin (hkv x0 x1 b n) (wkv x2) ⟨g.val * 64 + e.val, by omega⟩ := by
  rw [← ref_kv]
  pointwise [val_main_v36, val_main_v34]

theorem ref_k49 (b : Fin 4) (n : Fin 8192) (g : Fin 4) (e : Fin 64) :
    val_main_v49 (F := Ideal) x0 x1 x2 x3 (ix4 b n g e)
      = unit64 (fun e => lin (hkv x0 x1 b n) (wkv x2) ⟨g.val * 64 + e.val, by omega⟩) (kgain x3) e := by
  pointwise [val_main_v49, val_main_v48, val_main_v47, val_main_v46, val_main_v45, val_main_v44, val_main_v43, val_main_v42,
    val_main_v41, val_main_v40, val_main_v39, val_main_v38, val_main_v37, val_main_cst_6, val_main_cst_7, val_main_cst_8, ref_k36,
    unit64, kgain, headLen, YocoA.eps]

theorem ref_q87 (b : Fin 4) (n : Fin 8192) (d : Fin 16) (e : Fin 64) :
    val_main_v87 (F := Ideal) x0 x4 x5 (ix4 b n d e) = lin (hq x0 x4 b n) (wqz x5) ⟨d.val * 64 + e.val, by omega⟩ := by
  rw [← ref_qz]
  pointwise [val_main_v87, val_main_v85]

theorem ref_q100 (b : Fin 4) (n : Fin 8192) (d : Fin 16) (e : Fin 64) :
    val_main_v100 (F := Ideal) x0 x4 x5 x6 (ix4 b n d e)
      = unit64 (fun e => lin (hq x0 x4 b n) (wqz x5) ⟨d.val * 64 + e.val, by omega⟩) (qgain x6) e := by
  pointwise [val_main_v100, val_main_v99, val_main_v98, val_main_v78, val_main_v97, val_main_v96, val_main_v95, val_main_v94, val_main_v93,
    val_main_v92, val_main_v91, val_main_v90, val_main_v89, val_main_v88, val_main_cst_11, val_main_cst_12, val_main_cst_13, ref_q87,
    unit64, qgain, headLen, YocoA.eps]

/-- The rotation as the reference writes it: two slices of 8 and the rest, put side by side. -/
theorem rope_of (c s : Fin 8 → EReal) (T : Fin 64 → EReal) (e : Fin 64) :
    (if h : e.val < 8 then T ⟨e.val, by omega⟩ * c ⟨e.val, h⟩ - T ⟨8 + e.val, by omega⟩ * s ⟨e.val, h⟩
      else if h' : e.val - 8 < 8 then T ⟨8 + (e.val - 8), by omega⟩ * c ⟨e.val - 8, h'⟩ + T ⟨e.val - 8, by omega⟩ * s ⟨e.val - 8, h'⟩
      else T ⟨16 + (e.val - 8 - 8), by omega⟩) = rope c s T e := by
  have kx : ∀ u u' : Fin 64, u.val = u'.val → T u = T u' := fun u u' h => congrArg T (Fin.ext h)
  unfold rope
  by_cases h1 : e.val < 8
  · rw [dif_pos h1, dif_pos h1, kx ⟨8 + e.val, by omega⟩ ⟨e.val + 8, by omega⟩ (Nat.add_comm _ _)]
  · rw [dif_neg h1, dif_neg h1]
    by_cases h2 : e.val < 16
    · rw [dif_pos h2, dif_pos (by omega), kx ⟨8 + (e.val - 8), by omega⟩ e (by show 8 + (e.val - 8) = e.val; omega)]
    · rw [dif_neg h2, dif_neg (by omega)]
      exact kx _ _ (by show 16 + (e.val - 8 - 8) = e.val; omega)

theorem ref_k63 (b : Fin 4) (n : Fin 8192) (g : Fin 4) (e : Fin 64) :
    val_main_v63 (F := Ideal) x0 x1 x2 x3 (ix4 b n g e) = keys x0 x1 x2 x3 b g n e := by
  refine Eq.trans ?_ (rope_of (rcos n) (rsin n) (fun e => unit64 (fun e => lin (hkv x0 x1 b n) (wkv x2) ⟨g.val * 64 + e.val, by omega⟩) (kgain x3) e) e)
  pointwise [val_main_v63, val_main_v62, val_main_v61, val_main_v60, val_main_v59, val_main_v58, val_main_v57, val_main_v56,
    val_main_v55, val_main_v54, val_main_v53, val_main_v52, val_main_v51, val_main_v50, ref_k49, ref_cos, ref_sin]

theorem ref_q114 (b : Fin 4) (n : Fin 8192) (d : Fin 16) (e : Fin 64) :
    val_main_v114 (F := Ideal) x0 x4 x5 x6 (ix4 b n d e) = qrys x0 x4 x5 x6 b d n e := by
  refine Eq.trans ?_ (rope_of (rcos n) (rsin n) (fun e => unit64 (fun e => lin (hq x0 x4 b n) (wqz x5) ⟨d.val * 64 + e.val, by omega⟩) (qgain x6) e) e)
  pointwise [val_main_v114, val_main_v113, val_main_v112, val_main_v111, val_main_v110, val_main_v109, val_main_v108, val_main_v107,
    val_main_v106, val_main_v105, val_main_v104, val_main_v103, val_main_v102, val_main_v101, ref_q100, ref_cos, ref_sin]

end

end Cert.YocoB

end
-- ==== Proof.B.Host.lean ====
/-
  The arrays layer B's host code prepares, as entries of the arrays the program starts from.
-/
module

public import proofs.«01_k».proof.Proof.Gen.KernelBIdeal.Frame.Runs
public import proofs.«01_k».proof.Proof.B.Ref
public import proofs.«01_k».proof.Proof.B.Holds
public import proofs.«01_k».proof.Proof.B.Mask
public import Idealize.ShloMosaic.Lib.StableHlo.ReadAt

@[expose] public section

set_option maxRecDepth 16384

noncomputable section

namespace Cert.YocoB

open Idealize.ShloMosaic Cert.KernelBIdeal Cert.KernelBIdeal.Gen

variable (m : (ℓ : Loc nD τ sig) → Buf (Elt Ideal) ℓ) (c : Dev nD)

/-- The arrays the program starts from. -/
abbrev b0 : Vec Ideal S4x8192x1024 .f32 := m (c.tc.loc main_arg0)
abbrev b1 : Vec Ideal S1024 .f32 := m (c.tc.loc main_arg1)
abbrev b2 : Vec Ideal S1024x512 .f32 := m (c.tc.loc main_arg2)
abbrev b3 : Vec Ideal S64 .f32 := m (c.tc.loc main_arg3)
abbrev b4 : Vec Ideal S1x1024 .f32 := m (c.tc.loc main_arg4)
abbrev b5 : Vec Ideal S1x1024x2048 .f32 := m (c.tc.loc main_arg5)
abbrev b6 : Vec Ideal S1x64 .f32 := m (c.tc.loc main_arg6)
abbrev b7 : Vec Ideal S1x16 .f32 := m (c.tc.loc main_arg7)
abbrev b8 : Vec Ideal S1x1024x1024 .f32 := m (c.tc.loc main_arg8)

theorem host69 (q : Fin 1024) : (V m c main_v69 : Vec Ideal S1x1024 .f32) (ix2 0 q) = b1 m c (ix1 q) := by
  unfold V
  after_reads_at

theorem host70 (q : Fin 1024) : (V m c main_v70 : Vec Ideal S1x1024 .f32) (ix2 0 q) = b4 m c (ix2 0 q) := by
  unfold V
  after_reads_at

theorem host71 (k : Fin 1024) (o : Fin 512) : (V m c main_v71 : Vec Ideal S1024x512 .bf16) (ix2 k o) = b2 m c (ix2 k o) := by
  unfold V
  after_reads_at

theorem host72 (e : Fin 64) : (V m c main_v72 : Vec Ideal S64x1 .f32) (ix2 e 0) = b3 m c (ix1 e) := by
  unfold V
  after_reads_at

theorem host73 (k : Fin 1024) (o : Fin 2048) : (V m c main_v73 : Vec Ideal S1024x2048 .bf16) (ix2 k o) = b5 m c (ix3 0 k o) := by
  unfold V
  after_reads_at

theorem host74 (k o : Fin 1024) : (V m c main_v74 : Vec Ideal S1024x1024 .bf16) (ix2 k o) = b8 m c (ix3 0 k o) := by
  unfold V
  after_reads_at

theorem host4 (h : Fin 16) : (V m c main_v4 : Vec Ideal S16 .f32) (ix1 h) = b7 m c (ix2 0 h) := by
  unfold V
  after_reads_at

theorem host28 (i : Fin 16) (e : Fin 8) (a : Fin 512) :
    (V m c main_v28 : Vec Ideal S16x8x512 .f32) (ix3 i e a) = rcos ⟨512 * i.val + a.val, by omega⟩ e := by
  unfold V rcos ang
  after_reads_at
  pointwise [Cert.ReferenceBIdeal.Read.val_main_v15, Cert.ReferenceBIdeal.Read.val_main_v14, Cert.ReferenceBIdeal.Read.val_main_v13, Cert.ReferenceBIdeal.Read.val_main_v12, Cert.ReferenceBIdeal.Read.val_main_v11, Cert.ReferenceBIdeal.Read.val_main_v10, Cert.ReferenceBIdeal.Read.val_main_v9, Cert.ReferenceBIdeal.Read.val_main_v8, Cert.ReferenceBIdeal.Read.val_main_v7, Cert.ReferenceBIdeal.Read.val_main_v6, Cert.ReferenceBIdeal.Read.val_main_v5, Cert.ReferenceBIdeal.Read.val_main_v4, Cert.ReferenceBIdeal.Read.val_main_v3, Cert.ReferenceBIdeal.Read.val_main_v2, Cert.ReferenceBIdeal.Read.val_main_v1, Cert.ReferenceBIdeal.Read.val_main_v0, Cert.ReferenceBIdeal.Read.val_main_cst, Cert.ReferenceBIdeal.Read.val_main_cst_0, Cert.ReferenceBIdeal.Read.val_main_cst_1, Cert.ReferenceBIdeal.Read.val_main_cst_2]
  rw [show i.val * 512 + a.val = 512 * i.val + a.val by omega]

theorem host31 (i : Fin 16) (e : Fin 8) (a : Fin 512) :
    (V m c main_v31 : Vec Ideal S16x8x512 .f32) (ix3 i e a) = rsin ⟨512 * i.val + a.val, by omega⟩ e := by
  unfold V rsin ang
  after_reads_at
  pointwise [Cert.ReferenceBIdeal.Read.val_main_v15, Cert.ReferenceBIdeal.Read.val_main_v14, Cert.ReferenceBIdeal.Read.val_main_v13, Cert.ReferenceBIdeal.Read.val_main_v12, Cert.ReferenceBIdeal.Read.val_main_v11, Cert.ReferenceBIdeal.Read.val_main_v10, Cert.ReferenceBIdeal.Read.val_main_v9, Cert.ReferenceBIdeal.Read.val_main_v8, Cert.ReferenceBIdeal.Read.val_main_v7, Cert.ReferenceBIdeal.Read.val_main_v6, Cert.ReferenceBIdeal.Read.val_main_v5, Cert.ReferenceBIdeal.Read.val_main_v4, Cert.ReferenceBIdeal.Read.val_main_v3, Cert.ReferenceBIdeal.Read.val_main_v2, Cert.ReferenceBIdeal.Read.val_main_v1, Cert.ReferenceBIdeal.Read.val_main_v0, Cert.ReferenceBIdeal.Read.val_main_cst, Cert.ReferenceBIdeal.Read.val_main_cst_0, Cert.ReferenceBIdeal.Read.val_main_cst_1, Cert.ReferenceBIdeal.Read.val_main_cst_2]
  rw [show i.val * 512 + a.val = 512 * i.val + a.val by omega]

theorem host57 (l : Fin 128) :
    (V m c main_v57 : Vec Ideal S1x128 .f32) (ix2 0 l) = b6 m c (ix2 0 (pdim ⟨l.val, by omega⟩)) := by
  unfold V
  after_reads_at
  split
  · rename_i hl
    refine Eq.trans ?_ (show b6 m c (ix2 0 ⟨l.val % 32, by omega⟩) = b6 m c (ix2 0 (pdim ⟨l.val, by omega⟩)) from congrArg (fun e => b6 m c (ix2 0 e)) (Eq.symm (Fin.ext (show (pdim _).val = _ by
      unfold pdim
      rw [if_pos (show l.val < 128 by omega), if_pos (show l.val % 32 < 8 by omega)]
      try (dsimp only)
      try omega))))
    after_reads_at
  · rename_i hl
    refine Eq.trans ?_ (show b6 m c (ix2 0 ⟨16 + (l.val % 32 - 8), by omega⟩) = b6 m c (ix2 0 (pdim ⟨l.val, by omega⟩)) from congrArg (fun e => b6 m c (ix2 0 e)) (Eq.symm (Fin.ext (show (pdim _).val = _ by
      unfold pdim
      rw [if_pos (show l.val < 128 by omega), if_neg (show ¬l.val % 32 < 8 by omega)]
      try (dsimp only)
      try omega))))
    after_reads_at

theorem host61 (l : Fin 128) :
    (V m c main_v61 : Vec Ideal S1x128 .f32) (ix2 0 l) = b6 m c (ix2 0 (pdim ⟨128 + l.val, by omega⟩)) := by
  unfold V
  after_reads_at
  split
  · rename_i hl
    refine Eq.trans ?_ (show b6 m c (ix2 0 ⟨8 + l.val % 32, by omega⟩) = b6 m c (ix2 0 (pdim ⟨128 + l.val, by omega⟩)) from congrArg (fun e => b6 m c (ix2 0 e)) (Eq.symm (Fin.ext (show (pdim _).val = _ by
      unfold pdim
      rw [if_neg (show ¬128 + l.val < 128 by omega), if_pos (show (128 + l.val) % 32 < 8 by omega)]
      try (dsimp only)
      try omega))))
    after_reads_at
  · rename_i hl
    refine Eq.trans ?_ (show b6 m c (ix2 0 ⟨40 + (l.val % 32 - 8), by omega⟩) = b6 m c (ix2 0 (pdim ⟨128 + l.val, by omega⟩)) from congrArg (fun e => b6 m c (ix2 0 e)) (Eq.symm (Fin.ext (show (pdim _).val = _ by
      unfold pdim
      rw [if_neg (show ¬128 + l.val < 128 by omega), if_neg (show ¬(128 + l.val) % 32 < 8 by omega)]
      try (dsimp only)
      try omega))))
    after_reads_at

theorem lit3_at : ∀ l : Fin 256, lit3 (S256.rowMajor (ix1 l)) = BitVec.ofNat 32 (l.val % 128 / 32 * 64 + (pdim l).val) := by
  decide +kernel

theorem host68 (p l : Fin 256) :
    (V m c main_v68 : Vec Ideal S256x256 .bf16) (ix2 p l) = if p.val = l.val % 128 / 32 * 64 + (pdim l).val then (1 : EReal) else (0 : EReal) := by
  unfold V
  after_reads_at
  rw [lit3_at]
  by_cases h : p.val = l.val % 128 / 32 * 64 + (pdim l).val
  · rw [if_pos h, ← h]
    simp [IntOp.cmpi, Scalar.select]
  · rw [if_neg h]
    have hp : BitVec.ofNat 32 p.val ≠ BitVec.ofNat 32 (l.val % 128 / 32 * 64 + (pdim l).val) := fun e => by
      have e' := congrArg BitVec.toNat e
      rw [BitVec.toNat_ofNat, BitVec.toNat_ofNat] at e'
      omega
    have hb : (BitVec.ofNat 32 p.val == BitVec.ofNat 32 (l.val % 128 / 32 * 64 + (pdim l).val)) = false := beq_eq_false_iff_ne.mpr hp
    show Scalar.select (BitVec.ofBool (BitVec.ofNat 32 p.val == BitVec.ofNat 32 (l.val % 128 / 32 * 64 + (pdim l).val))) (1 : EReal) 0 = 0
    rw [hb]
    simp [Scalar.select]

/-- A column of a table of eight, gathered by the column's number. -/
theorem gather_col (x : Vec Ideal S8192x8 .f32) (idx : IVec S128x1 32) (n : Fin 8192) (l : Fin 128) (e : Fin 8)
    (he : idx (ix2 l 0) = BitVec.ofNat 32 e.val) :
    Host.gather gather_S8192x8_S128x1_S8192x128_0_1_n_n_1_1_81921 x idx (ix2 n l) = x (ix2 n e) := by
  unfold Host.gather
  congr 1
  funext a
  refine Fin.ext ?_
  show (gather_S8192x8_S128x1_S8192x128_0_1_n_n_1_1_81921).start (ix2 n l) idx a + (gather_S8192x8_S128x1_S8192x128_0_1_n_n_1_1_81921).batchCoord (ix2 n l) a
    + (gather_S8192x8_S128x1_S8192x128_0_1_n_n_1_1_81921).offCoord (ix2 n l) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show ¬(0 : Fin 2) ∈ gather_S8192x8_S128x1_S8192x128_0_1_n_n_1_1_81921.startIndexMap from fun h => absurd (List.mem_singleton.mp h) (by decide))]
    unfold GatherDims.offCoord
    rw [dif_pos (by decide)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x8_S128x1_S8192x128_0_1_n_n_1_1_81921.startIndexMap from List.mem_singleton.mpr rfl)]
    have hsi : (gather_S8192x8_S128x1_S8192x128_0_1_n_n_1_1_81921).siIdx (ix2 n l) ⟨List.idxOf (1 : Fin 2) gather_S8192x8_S128x1_S8192x128_0_1_n_n_1_1_81921.startIndexMap,
        List.idxOf_lt_length_iff.2 (List.mem_singleton.mpr rfl)⟩ = ix2 l 0 := by
      funext b
      refine Fin.ext ?_
      match b with
      | ⟨0, _⟩ => rfl
      | ⟨1, _⟩ => rfl
    refine (congrArg (fun w : BitVec 32 => min w.toInt.toNat 7) ((congrArg idx hsi).trans he)).trans ?_
    exact (by decide : ∀ e : Fin 8, min (BitVec.ofNat 32 e.val).toInt.toNat 7 = e.val) e

def cosTab : Vec Ideal S8192x8 .f32 := (Host.cos (F := Ideal)
            (mulf
              (broadcastInDim S8192x8 ![0, 1] bcast_S8192x1_S8192x8_0_1
                (broadcastInDim S8192x1 ![0] bcast_S8192_S8192x1_0 (sitofp FTy.f32 (iotaInDim S8192 32 0))))
              (broadcastInDim S8192x8 ![0, 1] bcast_S1x8_S8192x8_0_1
                (broadcastInDim S1x8 ![1] bcast_S8_S1x8_1
                  (Host.powf (broadcastInDim S8 ![] bcast_S_S8 (constant S_ FTy.f32 1223959552#32))
                    (Host.divf
                      (Host.negf
                        (addf (broadcastInDim S8 ![] bcast_S_S8 (constant S_ FTy.f32 0#32))
                          (mulf (broadcastInDim S8 ![] bcast_S_S8 (constant S_ FTy.f32 1073741824#32))
                            (sitofp FTy.f32 (iotaInDim S8 32 0)))))
                      (broadcastInDim S8 ![] bcast_S_S8 (constant S_ FTy.f32 1098907648#32))))))))

theorem cosTab_at (n : Fin 8192) (e : Fin 8) : cosTab (ix2 n e) = rcos n e := by
  unfold cosTab rcos ang
  pointwise [Cert.ReferenceBIdeal.Read.val_main_v15, Cert.ReferenceBIdeal.Read.val_main_v14, Cert.ReferenceBIdeal.Read.val_main_v13, Cert.ReferenceBIdeal.Read.val_main_v12, Cert.ReferenceBIdeal.Read.val_main_v11, Cert.ReferenceBIdeal.Read.val_main_v10, Cert.ReferenceBIdeal.Read.val_main_v9, Cert.ReferenceBIdeal.Read.val_main_v8, Cert.ReferenceBIdeal.Read.val_main_v7, Cert.ReferenceBIdeal.Read.val_main_v6, Cert.ReferenceBIdeal.Read.val_main_v5, Cert.ReferenceBIdeal.Read.val_main_v4, Cert.ReferenceBIdeal.Read.val_main_v3, Cert.ReferenceBIdeal.Read.val_main_v2, Cert.ReferenceBIdeal.Read.val_main_v1, Cert.ReferenceBIdeal.Read.val_main_v0, Cert.ReferenceBIdeal.Read.val_main_cst, Cert.ReferenceBIdeal.Read.val_main_cst_0, Cert.ReferenceBIdeal.Read.val_main_cst_1, Cert.ReferenceBIdeal.Read.val_main_cst_2]

def sinTab : Vec Ideal S8192x8 .f32 := (Host.sin (F := Ideal)
            (mulf
              (broadcastInDim S8192x8 ![0, 1] bcast_S8192x1_S8192x8_0_1
                (broadcastInDim S8192x1 ![0] bcast_S8192_S8192x1_0 (sitofp FTy.f32 (iotaInDim S8192 32 0))))
              (broadcastInDim S8192x8 ![0, 1] bcast_S1x8_S8192x8_0_1
                (broadcastInDim S1x8 ![1] bcast_S8_S1x8_1
                  (Host.powf (broadcastInDim S8 ![] bcast_S_S8 (constant S_ FTy.f32 1223959552#32))
                    (Host.divf
                      (Host.negf
                        (addf (broadcastInDim S8 ![] bcast_S_S8 (constant S_ FTy.f32 0#32))
                          (mulf (broadcastInDim S8 ![] bcast_S_S8 (constant S_ FTy.f32 1073741824#32))
                            (sitofp FTy.f32 (iotaInDim S8 32 0)))))
                      (broadcastInDim S8 ![] bcast_S_S8 (constant S_ FTy.f32 1098907648#32))))))))

theorem sinTab_at (n : Fin 8192) (e : Fin 8) : sinTab (ix2 n e) = rsin n e := by
  unfold sinTab rsin ang
  pointwise [Cert.ReferenceBIdeal.Read.val_main_v15, Cert.ReferenceBIdeal.Read.val_main_v14, Cert.ReferenceBIdeal.Read.val_main_v13, Cert.ReferenceBIdeal.Read.val_main_v12, Cert.ReferenceBIdeal.Read.val_main_v11, Cert.ReferenceBIdeal.Read.val_main_v10, Cert.ReferenceBIdeal.Read.val_main_v9, Cert.ReferenceBIdeal.Read.val_main_v8, Cert.ReferenceBIdeal.Read.val_main_v7, Cert.ReferenceBIdeal.Read.val_main_v6, Cert.ReferenceBIdeal.Read.val_main_v5, Cert.ReferenceBIdeal.Read.val_main_v4, Cert.ReferenceBIdeal.Read.val_main_v3, Cert.ReferenceBIdeal.Read.val_main_v2, Cert.ReferenceBIdeal.Read.val_main_v1, Cert.ReferenceBIdeal.Read.val_main_v0, Cert.ReferenceBIdeal.Read.val_main_cst, Cert.ReferenceBIdeal.Read.val_main_cst_0, Cert.ReferenceBIdeal.Read.val_main_cst_1, Cert.ReferenceBIdeal.Read.val_main_cst_2]

theorem lit0_at : ∀ l : Fin 128, (broadcastInDim S128x1 ![0] bcast_S128_S128x1_0
            (select (constantI S128 1 0#1)
              (addi (fun i => lit0 (S128.rowMajor i)) (broadcastInDim S128 ![] bcast_S_S128 (constantI S_ 32 8#32)))
              fun i => lit0 (S128.rowMajor i))) (ix2 l 0) = BitVec.ofNat 32 (l.val % 8) := by
  decide +kernel

theorem lit2_at : ∀ l : Fin 128, (broadcastInDim S128x1 ![0] bcast_S128_S128x1_0
            (select (constantI S128 1 0#1)
              (addi (fun i => lit2 (S128.rowMajor i)) (broadcastInDim S128 ![] bcast_S_S128 (constantI S_ 32 8#32)))
              fun i => lit2 (S128.rowMajor i))) (ix2 l 0) = BitVec.ofNat 32 (l.val % 8) := by
  decide +kernel

theorem lit1_at : ∀ l : Fin 128, lit1 (S128.rowMajor (ix1 l)) = if l.val % 32 < 8 then 1#1 else 0#1 := by
  decide +kernel

theorem col_at (x : Vec Ideal S8192x8 .f32) (w : EReal) (idx : IVec S128x1 32) (n : Fin 8192) (l : Fin 128)
    (he : idx (ix2 l 0) = BitVec.ofNat 32 (l.val % 8)) :
    Scalar.select (lit1 (S128.rowMajor (ix1 l))) (Host.gather gather_S8192x8_S128x1_S8192x128_0_1_n_n_1_1_81921 x idx (ix2 n l) : EReal) w
      = if l.val % 32 < 8 then (x (ix2 n ⟨l.val % 8, by omega⟩) : EReal) else w := by
  rw [gather_col x idx n l ⟨l.val % 8, by omega⟩ he, lit1_at]
  by_cases h : l.val % 32 < 8
  · rw [if_pos h, if_pos h]
    simp [Scalar.select]
  · rw [if_neg h, if_neg h]
    simp [Scalar.select]

theorem scale_eq : Ideal.div (Ideal.ofBits FTy.f32 1040187392#32) (Ideal.log (Ideal.ofBits FTy.f32 1073741824#32)) = ((k8 : ℝ) : EReal) := by
  have e1 : Ideal.ofBits FTy.f32 1040187392#32 = ((1 / 8 : ℝ) : EReal) := by
    simp [Ideal.ofBits, Ideal.ieee, -EReal.coe_mul]
    norm_num
  have e2 : Ideal.ofBits FTy.f32 1073741824#32 = ((2 : ℝ) : EReal) := by
    simp [Ideal.ofBits, Ideal.ieee, -EReal.coe_mul]
    try norm_num
  have e3 : Ideal.log ((2 : ℝ) : EReal) = ((Real.log 2 : ℝ) : EReal) := by
    show (if (2 : ℝ) ≤ 0 then (⊥ : EReal) else ((Real.log 2 : ℝ) : EReal)) = _
    rw [if_neg (by norm_num)]
  have h0 : ((Real.log 2 : ℝ) : EReal) ≠ 0 := by
    have := (Real.log_pos (by norm_num : (1 : ℝ) < 2)).ne'
    exact_mod_cast this
  rw [e1, e2, e3]
  unfold Ideal.div
  rw [if_neg h0, ← EReal.coe_inv, ← EReal.coe_mul]

theorem one_eq : (id (constant (F := Ideal) S_ FTy.f32 1065353216#32) ix0 : EReal) = 1 := by
  show Ideal.ofBits .f32 1065353216#32 = 1
  simp [Ideal.ofBits, Ideal.ieee, -EReal.coe_mul]
  try norm_num

theorem zero_eq : (id (constant (F := Ideal) S_ FTy.f32 0#32) ix0 : EReal) = 0 := by
  show Ideal.ofBits .f32 0#32 = 0
  simp [Ideal.ofBits, Ideal.ieee, -EReal.coe_mul]

theorem host39 (n : Fin 8192) (l : Fin 128) :
    (V m c main_v39 : Vec Ideal S8192x128 .f32) (ix2 n l) = (if l.val % 32 < 8 then rcos n ⟨l.val % 8, by omega⟩ else (1 : EReal)) * ((k8 : ℝ) : EReal) := by
  unfold V
  after_reads_at
  rw [scale_eq]
  refine congrArg (· * ((k8 : ℝ) : EReal)) ?_
  refine (col_at cosTab _ _ n l (lit0_at l)).trans ?_
  rw [cosTab_at]
  rw [one_eq]

theorem host47 (n : Fin 8192) (l : Fin 128) :
    (V m c main_v47 : Vec Ideal S8192x128 .f32) (ix2 n l) = (if l.val % 32 < 8 then rsin n ⟨l.val % 8, by omega⟩ else (0 : EReal)) * ((k8 : ℝ) : EReal) := by
  unfold V
  after_reads_at
  rw [scale_eq]
  refine congrArg (· * ((k8 : ℝ) : EReal)) ?_
  refine (col_at sinTab _ _ n l (lit2_at l)).trans ?_
  rw [sinTab_at]
  rw [zero_eq]

end Cert.YocoB

end
-- ==== Proof.B.RefK.lean ====
/-
  The bands, the mask and the scores of the reference of layer B at an index.
-/
module

public import proofs.«01_k».proof.Proof.B.Ref
public import proofs.«01_k».proof.Proof.B.Soft

@[expose] public section

set_option maxRecDepth 16384

noncomputable section

namespace Cert.YocoB

open Idealize.ShloMosaic Cert.ReferenceBIdeal Cert.ReferenceBIdeal.Gen Cert.ReferenceBIdeal.Read

section
variable (x0 : Vec Ideal S4x8192x1024 .f32) (x1 : Vec Ideal S1024 .f32) (x2 : Vec Ideal S1024x512 .f32)
  (x3 : Vec Ideal S64 .f32) (x4 : Vec Ideal S1x1024 .f32) (x5 : Vec Ideal S1x1024x2048 .f32) (x6 : Vec Ideal S1x64 .f32)

theorem ref_k64 (b : Fin 4) (m : Fin 64) (a : Fin 128) (g : Fin 4) (e : Fin 64) :
    val_main_v64 (F := Ideal) x0 x1 x2 x3 (ix5 b m a g e) = keys x0 x1 x2 x3 b g ⟨m.val * 128 + a.val, by omega⟩ e := by
  refine Eq.trans ?_ (ref_k63 x0 x1 x2 x3 b ⟨m.val * 128 + a.val, by omega⟩ g e)
  pointwise [val_main_v64]

theorem cut63 (A : FVec Ideal S4x64x128x4x64 .f32) (b : Fin 4) (m : Fin 63) (c : Fin 128) (g : Fin 4) (e : Fin 64) :
    extractStridedSlice S4x63x128x4x64 ![0, 0, 0, 0, 0] A slices_S4x64x128x4x64_S4x63x128x4x64_0_0_0_0_0 (ix5 b m c g e)
      = A (ix5 b ⟨m.val, by omega⟩ c g e) := by
  pointwise []

theorem none66 (i : S4x1x128x4x64.Idx) : val_main_v66 (F := Ideal) i = 0 := by
  show Ideal.ofBits .f32 0x00000000#32 = 0
  simp [Ideal.ofBits, Ideal.ieee, -EReal.coe_mul]

theorem two68 (A : FVec Ideal S4x1x128x4x64 .f32) (B : FVec Ideal S4x63x128x4x64 .f32) (b : Fin 4) (m : Fin 64) (c : Fin 128) (g : Fin 4) (e : Fin 64) :
    concatenate S4x64x128x4x64 1 [⟨S4x1x128x4x64, A⟩, ⟨S4x63x128x4x64, B⟩] concatenates_S4x1x128x4x64_S4x63x128x4x64_S4x64x128x4x64_d1 (ix5 b m c g e)
      = if h : m.val < 1 then A (ix5 b ⟨m.val, h⟩ c g e) else B (ix5 b ⟨m.val - 1, by omega⟩ c g e) := by
  pointwise []

theorem ref_k68 (b : Fin 4) (m : Fin 64) (c : Fin 256) (hc : c.val < 128) (g : Fin 4) (e : Fin 64) :
    val_main_v68 (F := Ideal) x0 x1 x2 x3 (ix5 b m ⟨c.val, hc⟩ g e) = bandRow (keys x0 x1 x2 x3 b g) m c e := by
  unfold bandRow
  rw [dif_pos hc]
  refine (two68 _ _ b m ⟨c.val, hc⟩ g e).trans ?_
  by_cases h : m.val = 0
  · rw [dif_pos h, dif_pos (by omega)]
    exact none66 _
  · rw [dif_neg h, dif_neg (by omega)]
    refine (cut63 _ b ⟨m.val - 1, by omega⟩ ⟨c.val, hc⟩ g e).trans ((ref_k64 x0 x1 x2 x3 b ⟨m.val - 1, by omega⟩ ⟨c.val, hc⟩ g e).trans ?_)
    exact congrArg (fun n => keys x0 x1 x2 x3 b g n e) (Fin.ext (by show (m.val - 1) * 128 + c.val = 128 * (m.val - 1) + c.val; omega))

theorem ref_k69 (b : Fin 4) (m : Fin 64) (c : Fin 256) (g : Fin 4) (e : Fin 64) :
    val_main_v69 (F := Ideal) x0 x1 x2 x3 (ix5 b m c g e) = bandRow (keys x0 x1 x2 x3 b g) m c e := by
  pointwise [val_main_v69, ref_k64]
  by_cases hc : c.val < 128
  · rw [dif_pos hc]; exact ref_k68 x0 x1 x2 x3 b m c hc g e
  · rw [dif_neg hc]
    unfold bandRow
    rw [dif_neg hc]
    exact congrArg (fun n => keys x0 x1 x2 x3 b g n e) (Fin.ext (by show m.val * 128 + (c.val - 128) = 128 * m.val + (c.val - 128); omega))

end

end Cert.YocoB

end
-- ==== Proof.B.RefV.lean ====
/-
  The bands, the mask and the scores of the reference of layer B at an index.
-/
module

public import proofs.«01_k».proof.Proof.B.Ref
public import proofs.«01_k».proof.Proof.B.Soft

@[expose] public section

set_option maxRecDepth 16384

noncomputable section

namespace Cert.YocoB

open Idealize.ShloMosaic Cert.ReferenceBIdeal Cert.ReferenceBIdeal.Gen Cert.ReferenceBIdeal.Read

section
variable (x0 : Vec Ideal S4x8192x1024 .f32) (x1 : Vec Ideal S1024 .f32) (x2 : Vec Ideal S1024x512 .f32)
  (x3 : Vec Ideal S64 .f32) (x4 : Vec Ideal S1x1024 .f32) (x5 : Vec Ideal S1x1024x2048 .f32) (x6 : Vec Ideal S1x64 .f32)

theorem ref_v35 (b : Fin 4) (n : Fin 8192) (c : Fin 256) :
    val_main_v35 (F := Ideal) x0 x1 x2 (ix3 b n c) = lin (hkv x0 x1 b n) (wkv x2) ⟨256 + c.val, by omega⟩ := by
  rw [← ref_kv]
  pointwise [val_main_v35]

theorem ref_v70 (b : Fin 4) (m : Fin 64) (a : Fin 128) (g : Fin 4) (e : Fin 64) :
    val_main_v70 (F := Ideal) x0 x1 x2 (ix5 b m a g e) = vals x0 x1 x2 b g ⟨m.val * 128 + a.val, by omega⟩ e := by
  refine Eq.trans ?_ (ref_v35 x0 x1 x2 b ⟨m.val * 128 + a.val, by omega⟩ ⟨g.val * 64 + e.val, by omega⟩)
  pointwise [val_main_v70]

theorem ref_v74 (b : Fin 4) (m : Fin 64) (c : Fin 256) (hc : c.val < 128) (g : Fin 4) (e : Fin 64) :
    val_main_v74 (F := Ideal) x0 x1 x2 (ix5 b m ⟨c.val, hc⟩ g e) = bandRow (vals x0 x1 x2 b g) m c e := by
  unfold bandRow
  rw [dif_pos hc]
  pointwise [val_main_v74, val_main_v72, val_main_v73, val_main_cst_10, ref_v70]
  by_cases h : m.val = 0
  · rw [dif_pos h, dif_pos (by omega)]
  · rw [dif_neg h, dif_neg (by omega)]
    exact congrArg (fun n => vals x0 x1 x2 b g n e) (Fin.ext (by show (m.val - 1) * 128 + c.val = 128 * (m.val - 1) + c.val; omega))

theorem ref_v75 (b : Fin 4) (m : Fin 64) (c : Fin 256) (g : Fin 4) (e : Fin 64) :
    val_main_v75 (F := Ideal) x0 x1 x2 (ix5 b m c g e) = bandRow (vals x0 x1 x2 b g) m c e := by
  pointwise [val_main_v75, ref_v70]
  by_cases hc : c.val < 128
  · rw [dif_pos hc]; exact ref_v74 x0 x1 x2 b m c hc g e
  · rw [dif_neg hc]
    unfold bandRow
    rw [dif_neg hc]
    exact congrArg (fun n => vals x0 x1 x2 b g n e) (Fin.ext (by show m.val * 128 + (c.val - 128) = 128 * m.val + (c.val - 128); omega))

end

end Cert.YocoB

end
-- ==== Proof.B.RefQ.lean ====
/-
  The bands, the mask and the scores of the reference of layer B at an index.
-/
module

public import proofs.«01_k».proof.Proof.B.Ref
public import proofs.«01_k».proof.Proof.B.Soft

@[expose] public section

set_option maxRecDepth 16384

noncomputable section

namespace Cert.YocoB

open Idealize.ShloMosaic Cert.ReferenceBIdeal Cert.ReferenceBIdeal.Gen Cert.ReferenceBIdeal.Read

section
variable (x0 : Vec Ideal S4x8192x1024 .f32) (x1 : Vec Ideal S1024 .f32) (x2 : Vec Ideal S1024x512 .f32)
  (x3 : Vec Ideal S64 .f32) (x4 : Vec Ideal S1x1024 .f32) (x5 : Vec Ideal S1x1024x2048 .f32) (x6 : Vec Ideal S1x64 .f32)

theorem ref_q115 (b : Fin 4) (m : Fin 64) (a : Fin 128) (g q : Fin 4) (e : Fin 64) :
    val_main_v115 (F := Ideal) x0 x4 x5 x6 (ix6 b m a g q e)
      = qrys x0 x4 x5 x6 b ⟨g.val * 4 + q.val, by omega⟩ ⟨m.val * 128 + a.val, by omega⟩ e := by
  rw [← ref_q114]
  pointwise [val_main_v115]

end

end Cert.YocoB

end
-- ==== Proof.B.RefM.lean ====
/-
  The bands, the mask and the scores of the reference of layer B at an index.
-/
module

public import proofs.«01_k».proof.Proof.B.Ref
public import proofs.«01_k».proof.Proof.B.Soft

@[expose] public section

set_option maxRecDepth 16384

noncomputable section

namespace Cert.YocoB

open Idealize.ShloMosaic Cert.ReferenceBIdeal Cert.ReferenceBIdeal.Gen Cert.ReferenceBIdeal.Read

/-- The mask on a block's queries and keys, without the sequence's start. -/
theorem mask_band : ∀ (a : Fin 128) (c : Fin 256),
    IntOp.andi (IntOp.cmpi .sle (BitVec.ofNat 32 c.val) (IntOp.addi (BitVec.ofNat 32 a.val) 128#32))
      (IntOp.cmpi .sgt (BitVec.ofNat 32 c.val) (IntOp.addi (BitVec.ofNat 32 a.val) 0#32))
      = if c.val ≤ a.val + 128 ∧ a.val < c.val then 1#1 else 0#1 := by decide +kernel
/-- The mask on the keys before the sequence's first row. -/
theorem mask_start : ∀ (m : Fin 64) (c : Fin 256),
    IntOp.ori (IntOp.cmpi .sgt (BitVec.ofNat 32 m.val) 0#32) (IntOp.cmpi .sge (BitVec.ofNat 32 c.val) 128#32)
      = if 0 < m.val ∨ 128 ≤ c.val then 1#1 else 0#1 := by decide +kernel

theorem ref_m136 (m : Fin 64) (a : Fin 128) (c : Fin 256) :
    val_main_v136 (F := Ideal) (ix3 m a c) = if Sees m a c then 1#1 else 0#1 := by
  have e : val_main_v136 (F := Ideal) (ix3 m a c) = IntOp.andi
      (IntOp.andi (IntOp.cmpi .sle (BitVec.ofNat 32 c.val) (IntOp.addi (BitVec.ofNat 32 a.val) 128#32))
        (IntOp.cmpi .sgt (BitVec.ofNat 32 c.val) (IntOp.addi (BitVec.ofNat 32 a.val) 0#32)))
      (IntOp.ori (IntOp.cmpi .sgt (BitVec.ofNat 32 m.val) 0#32) (IntOp.cmpi .sge (BitVec.ofNat 32 c.val) 128#32)) := by
    pointwise [val_main_v136, val_main_v135, val_main_v134, val_main_v133, val_main_v132, val_main_v131, val_main_v130, val_main_v129,
      val_main_v128, val_main_v127, val_main_v126, val_main_v125, val_main_v124, val_main_v123, val_main_v122, val_main_v121,
      val_main_c, val_main_c_15, val_main_c_16, val_main_c_17]
  rw [e, mask_band, mask_start]
  by_cases h1 : c.val ≤ a.val + 128 ∧ a.val < c.val <;> by_cases h2 : 0 < m.val ∨ 128 ≤ c.val
  · rw [if_pos h1, if_pos h2, if_pos (show Sees m a c from ⟨h1.1, h1.2, h2⟩)]; rfl
  · rw [if_pos h1, if_neg h2, if_neg (fun h : Sees m a c => h2 h.2.2)]; rfl
  · rw [if_neg h1, if_pos h2, if_neg (fun h : Sees m a c => h1 ⟨h.1, h.2.1⟩)]; rfl
  · rw [if_neg h1, if_neg h2, if_neg (fun h : Sees m a c => h1 ⟨h.1, h.2.1⟩)]; rfl

theorem sel_if {α : Type} (P : Prop) [Decidable P] (x y : α) : Scalar.select (if P then 1#1 else 0#1) x y = if P then x else y := by
  unfold Scalar.select; split <;> simp

end Cert.YocoB

end
-- ==== Proof.B.RefT.lean ====
/-
  The bands, the mask and the scores of the reference of layer B at an index.
-/
module

public import proofs.«01_k».proof.Proof.B.RefK
public import proofs.«01_k».proof.Proof.B.RefV
public import proofs.«01_k».proof.Proof.B.RefQ
public import proofs.«01_k».proof.Proof.B.RefM
public import proofs.«01_k».proof.Proof.B.Soft

@[expose] public section

set_option maxRecDepth 16384

noncomputable section

namespace Cert.YocoB

open Idealize.ShloMosaic Cert.ReferenceBIdeal Cert.ReferenceBIdeal.Gen Cert.ReferenceBIdeal.Read

section
variable (x0 : Vec Ideal S4x8192x1024 .f32) (x1 : Vec Ideal S1024 .f32) (x2 : Vec Ideal S1024x512 .f32)
  (x3 : Vec Ideal S64 .f32) (x4 : Vec Ideal S1x1024 .f32) (x5 : Vec Ideal S1x1024x2048 .f32) (x6 : Vec Ideal S1x64 .f32)

theorem ref_s120 (b : Fin 4) (m : Fin 64) (g q : Fin 4) (a : Fin 128) (c : Fin 256) :
    val_main_v120 (F := Ideal) x0 x1 x2 x3 x4 x5 x6 (ix6 b m g q a c)
      = (∑ e : Fin 64, bandRow (keys x0 x1 x2 x3 b g) m c e
          * qrys x0 x4 x5 x6 b ⟨g.val * 4 + q.val, by omega⟩ ⟨m.val * 128 + a.val, by omega⟩ e) * ((1 / 8 : ℝ) : EReal) := by
  rw [← bits_8th]
  pointwise [val_main_v120, val_main_v119, val_main_v118, val_main_v117, val_main_cst_14, ref_k69, ref_q115]

theorem ref_s138 (b : Fin 4) (m : Fin 64) (g q : Fin 4) (a : Fin 128) (c : Fin 256) :
    val_main_v138 (F := Ideal) x0 x1 x2 x3 x4 x5 x6 (ix6 b m g q a c)
      = if Sees m a c then (∑ e : Fin 64, bandRow (keys x0 x1 x2 x3 b g) m c e
          * qrys x0 x4 x5 x6 b ⟨g.val * 4 + q.val, by omega⟩ ⟨m.val * 128 + a.val, by omega⟩ e) * ((1 / 8 : ℝ) : EReal) else ⊥ := by
  rw [← ref_s120, ← floor_bot, ← sel_if, ← ref_m136]
  pointwise [val_main_v138, val_main_call0_v0, val_main_call0_v1, val_main_call0_v2, val_main_v137, val_main_cst_18]
  rfl

end

end Cert.YocoB

end
-- ==== Proof.B.RefO.lean ====
/-
  The attention and the output of the reference of layer B at an index.
-/
module

public import proofs.«01_k».proof.Proof.B.RefT
public import proofs.«01_k».proof.Proof.B.Lay

@[expose] public section

set_option maxRecDepth 16384

noncomputable section

namespace Cert.YocoB

open Idealize.ShloMosaic Cert.ReferenceBIdeal Cert.ReferenceBIdeal.Gen Cert.ReferenceBIdeal.Read

section
variable (x0 : Vec Ideal S4x8192x1024 .f32) (x1 : Vec Ideal S1024 .f32) (x2 : Vec Ideal S1024x512 .f32)
  (x3 : Vec Ideal S64 .f32) (x4 : Vec Ideal S1x1024 .f32) (x5 : Vec Ideal S1x1024x2048 .f32) (x6 : Vec Ideal S1x64 .f32)
  (x7 : Vec Ideal S1x16 .f32) (x8 : Vec Ideal S1x1024x1024 .f32)

/-- What the reference is given on batch `b`. -/
def refLay (b : Fin 4) : Lay where
  X := fun n k => x0 (ix3 b n k)
  lk := fun k => x1 (ix1 k)
  lb := fun k => x4 (ix2 0 k)
  wkv := fun k o => x2 (ix2 k o)
  kg := fun e => x3 (ix1 e)
  qg := fun e => x6 (ix2 0 e)
  co := rcos
  si := rsin
  win := fun k o => x5 (ix3 0 k o)
  sk := fun h => x7 (ix2 0 h)
  wo := fun k o => x8 (ix3 0 k o)

theorem ref_116 (g q : Fin 4) : val_main_v116 (F := Ideal) x7 (ix6 0 0 g q 0 0) = x7 (ix2 0 ⟨g.val * 4 + q.val, by omega⟩) := by
  pointwise [val_main_v116, val_main_v79]

theorem drop_six (b : Fin 4) (m : Fin 64) (g q : Fin 4) (a : Fin 128) (i : S4x64x4x4x128x256.Idx) :
    reducesTo_S4x64x4x4x128x256_S4x64x4x4x128_d5.drop i = ix5 b m g q a ↔ ∃ c : Fin 256, ix6 b m g q a c = i := by
  constructor
  · intro e
    refine ⟨i 5, ?_⟩
    funext a
    apply Fin.ext
    match a with
    | ⟨0, _⟩ => exact (congrArg Fin.val (congrFun e ⟨0, by decide⟩)).symm
    | ⟨1, _⟩ => exact (congrArg Fin.val (congrFun e ⟨1, by decide⟩)).symm
    | ⟨2, _⟩ => exact (congrArg Fin.val (congrFun e ⟨2, by decide⟩)).symm
    | ⟨3, _⟩ => exact (congrArg Fin.val (congrFun e ⟨3, by decide⟩)).symm
    | ⟨4, _⟩ => exact (congrArg Fin.val (congrFun e ⟨4, by decide⟩)).symm
    | ⟨5, _⟩ => rfl
  · rintro ⟨c, rfl⟩
    funext d
    apply Fin.ext
    match d with
    | ⟨0, _⟩ => rfl
    | ⟨1, _⟩ => rfl
    | ⟨2, _⟩ => rfl
    | ⟨3, _⟩ => rfl
    | ⟨4, _⟩ => rfl

theorem top_six (A : FVec Ideal S4x64x4x4x128x256 .f32) (z : EReal) (b : Fin 4) (m : Fin 64) (g q : Fin 4) (a : Fin 128) :
    Finset.fold max z A (Finset.univ.filter fun i => reducesTo_S4x64x4x4x128x256_S4x64x4x4x128_d5.drop i = ix5 b m g q a)
      = Finset.fold max z (fun c : Fin 256 => A (ix6 b m g q a c)) Finset.univ :=
  Finset.fold_filter_eq_fold_of_fiber max _ (fun c : Fin 256 => ix6 b m g q a c) (fun _ _ e => congrFun e 5) (drop_six b m g q a) z A

theorem sum_six (A : FVec Ideal S4x64x4x4x128x256 .f32) (b : Fin 4) (m : Fin 64) (g q : Fin 4) (a : Fin 128) :
    Ideal.hostReduceAdd reducesTo_S4x64x4x4x128x256_S4x64x4x4x128_d5 A 0 (ix5 b m g q a) = ∑ c : Fin 256, A (ix6 b m g q a c) :=
  (congrArg ((0 : EReal) + ·) (Finset.sum_filter_eq_sum_of_fiber _ (fun c : Fin 256 => ix6 b m g q a c) (fun _ _ e => congrFun e 5)
    (drop_six b m g q a) A)).trans (zero_add _)

theorem max_gen (A : FVec Ideal S4x64x4x4x128 .f32) (B : FVec Ideal S1x1x4x4x1x1 .f32) (b : Fin 4) (m : Fin 64) (g q : Fin 4) (a : Fin 128) :
    maximumf (broadcastInDim S4x64x4x4x128x1 ![0, 1, 2, 3, 4] bcast_S4x64x4x4x128_S4x64x4x4x128x1_0_1_2_3_4 A) (broadcastInDim S4x64x4x4x128x1 ![0, 1, 2, 3, 4, 5] bcast_S1x1x4x4x1x1_S4x64x4x4x128x1_0_1_2_3_4_5 B)
        (ix6 b m g q a 0)
      = max (A (ix5 b m g q a)) (B (ix6 0 0 g q 0 0)) := by
  pointwise []

theorem res_gen (X : FVec Ideal S4x8192x1024 .f32) (A : FVec Ideal S4x8192x1024 .f32) (C : FVec Ideal S4x8192x1024 .f32)
    (B : FVec Ideal S1024x1024 .f32) (b : Fin 4) (n : Fin 8192) (o : Fin 1024) :
    addf X (Host.dotGeneral dot_S4x8192x1024_S1024x1024_S4x8192x1024_2_0_01_1_n_n none (mulf A C) B) (ix3 b n o)
      = X (ix3 b n o) + ∑ l : Fin 1024, A (ix3 b n l) * C (ix3 b n l) * B (ix2 l o) := by
  pointwise []

theorem ref_80 (l o : Fin 1024) : val_main_v80 (F := Ideal) x8 (ix2 l o) = x8 (ix3 0 l o) := by
  pointwise [val_main_v80]

theorem ref_139 (b : Fin 4) (m : Fin 64) (g q : Fin 4) (a : Fin 128) :
    val_main_v139 (F := Ideal) x0 x1 x2 x3 x4 x5 x6 (ix5 b m g q a)
      = Finset.fold max ⊥ (fun c : Fin 256 => val_main_v138 (F := Ideal) x0 x1 x2 x3 x4 x5 x6 (ix6 b m g q a c)) Finset.univ := by
  rw [← floor_bot]
  pointwise [val_main_v139, val_main_cst_19]
  exact top_six _ _ b m g q a

theorem ref_142 (b : Fin 4) (m : Fin 64) (g q : Fin 4) (a : Fin 128) :
    val_main_v142 (F := Ideal) x0 x1 x2 x3 x4 x5 x6 x7 (ix6 b m g q a 0)
      = max (val_main_v139 (F := Ideal) x0 x1 x2 x3 x4 x5 x6 (ix5 b m g q a)) (val_main_v116 (F := Ideal) x7 (ix6 0 0 g q 0 0)) := by
  exact max_gen _ _ b m g q a

theorem ref_145 (b : Fin 4) (m : Fin 64) (g q : Fin 4) (a : Fin 128) (c : Fin 256) :
    val_main_v145 (F := Ideal) x0 x1 x2 x3 x4 x5 x6 x7 (ix6 b m g q a c)
      = Ideal.exp (val_main_v138 (F := Ideal) x0 x1 x2 x3 x4 x5 x6 (ix6 b m g q a c) - val_main_v142 (F := Ideal) x0 x1 x2 x3 x4 x5 x6 x7 (ix6 b m g q a 0)) := by
  pointwise [val_main_v145, val_main_v144, val_main_v143]

theorem ref_151 (b : Fin 4) (m : Fin 64) (g q : Fin 4) (a : Fin 128) :
    val_main_v151 (F := Ideal) x0 x1 x2 x3 x4 x5 x6 x7 (ix6 b m g q a 0)
      = (∑ c : Fin 256, val_main_v145 (F := Ideal) x0 x1 x2 x3 x4 x5 x6 x7 (ix6 b m g q a c))
        + Ideal.exp (val_main_v116 (F := Ideal) x7 (ix6 0 0 g q 0 0) - val_main_v142 (F := Ideal) x0 x1 x2 x3 x4 x5 x6 x7 (ix6 b m g q a 0)) := by
  pointwise [val_main_v151, val_main_v150, val_main_v149, val_main_v148, val_main_v147, val_main_v146, val_main_cst_20]
  exact congrArg (· + _) (sum_six _ b m g q a)

theorem ref_153 (b : Fin 4) (m : Fin 64) (g q : Fin 4) (a : Fin 128) (c : Fin 256) :
    val_main_v153 (F := Ideal) x0 x1 x2 x3 x4 x5 x6 x7 (ix6 b m g q a c)
      = Ideal.div (val_main_v145 (F := Ideal) x0 x1 x2 x3 x4 x5 x6 x7 (ix6 b m g q a c)) (val_main_v151 (F := Ideal) x0 x1 x2 x3 x4 x5 x6 x7 (ix6 b m g q a 0)) := by
  pointwise [val_main_v153, val_main_v152]

theorem ref_154 (b : Fin 4) (m : Fin 64) (g q : Fin 4) (a : Fin 128) (e : Fin 64) :
    val_main_v154 (F := Ideal) x0 x1 x2 x3 x4 x5 x6 x7 (ix6 b m g e q a)
      = ∑ c : Fin 256, val_main_v75 (F := Ideal) x0 x1 x2 (ix5 b m c g e) * val_main_v153 (F := Ideal) x0 x1 x2 x3 x4 x5 x6 x7 (ix6 b m g q a c) := by
  pointwise [val_main_v154]

theorem flat_156 (A : FVec Ideal S4x64x4x64x4x128 .f32) (b : Fin 4) (m : Fin 64) (g q : Fin 4) (a : Fin 128) (e : Fin 64) :
    shapeCast S4x8192x1024 (transpose S4x64x128x4x4x64 [0, 1, 5, 2, 4, 3] A transposes_S4x64x4x64x4x128_S4x64x128x4x4x64_0_1_5_2_4_3)
        shapeCasts_S4x64x128x4x4x64_S4x8192x1024 (ix3 b ⟨m.val * 128 + a.val, by omega⟩ ⟨(g.val * 4 + q.val) * 64 + e.val, by omega⟩)
      = A (ix6 b m g e q a) := by
  pointwise []

theorem ref_163 (b : Fin 4) (n : Fin 8192) (l : Fin 1024) :
    val_main_v163 (F := Ideal) x0 x4 x5 (ix3 b n l)
      = val_main_v86 (F := Ideal) x0 x4 x5 (ix3 b n l) * Ideal.logistic (val_main_v86 (F := Ideal) x0 x4 x5 (ix3 b n l)) := by
  pointwise [val_main_v163, val_main_v162, val_main_v161, val_main_v160, val_main_v159, val_main_v158, val_main_v157, val_main_cst_21, val_main_cst_22]
  rfl

theorem ref_86 (b : Fin 4) (n : Fin 8192) (l : Fin 1024) :
    val_main_v86 (F := Ideal) x0 x4 x5 (ix3 b n l) = lin (hq x0 x4 b n) (wqz x5) ⟨1024 + l.val, by omega⟩ := by
  refine Eq.trans ?_ (ref_qz x0 x4 x5 b n ⟨1024 + l.val, by omega⟩)
  pointwise [val_main_v86]

theorem ref_166 (b : Fin 4) (n : Fin 8192) (o : Fin 1024) :
    val_main_v166 (F := Ideal) x0 x1 x2 x3 x4 x5 x6 x7 x8 (ix3 b n o)
      = x0 (ix3 b n o) + ∑ l : Fin 1024, val_main_v156 (F := Ideal) x0 x1 x2 x3 x4 x5 x6 x7 (ix3 b n l) * val_main_v163 (F := Ideal) x0 x4 x5 (ix3 b n l) * x8 (ix3 0 l o) := by
  refine (res_gen x0 (val_main_v156 (F := Ideal) x0 x1 x2 x3 x4 x5 x6 x7) (val_main_v163 (F := Ideal) x0 x4 x5) (val_main_v80 (F := Ideal) x8) b n o).trans ?_
  exact congrArg (x0 (ix3 b n o) + ·) (Finset.sum_congr rfl fun l _ => by rw [ref_80])

theorem real_score {q : Fin 64 → EReal} {k : Fin 256 → Fin 64 → EReal} (hq : ∀ e, Real' (q e)) (hk : ∀ c e, Real' (k c e)) (c : Fin 256) :
    (∑ e : Fin 64, k c e * q e) * ((1 / 8 : ℝ) : EReal) = ((score q k c : ℝ) : EReal) := by
  have h : Real' (∑ e : Fin 64, q e * k c e) := Real'.sum _ fun e => (hq e).mul (hk c e)
  have e1 : (∑ e : Fin 64, k c e * q e) = ∑ e : Fin 64, q e * k c e := Finset.sum_congr rfl fun e _ => mul_comm _ _
  rw [e1, h.eq, ← EReal.coe_mul]
  unfold score
  congr 1
  ring

variable (hf : ∀ b, (refLay x0 x1 x2 x3 x4 x5 x6 x7 x8 b).Fine)
include hf

theorem ref_sc (b : Fin 4) (m : Fin 64) (g q : Fin 4) (a : Fin 128) (c : Fin 256) :
    val_main_v138 (F := Ideal) x0 x1 x2 x3 x4 x5 x6 (ix6 b m g q a c)
      = if Sees m a c then ((score ((refLay x0 x1 x2 x3 x4 x5 x6 x7 x8 b).qrys ⟨g.val * 4 + q.val, by omega⟩ ⟨m.val * 128 + a.val, by omega⟩)
          (bandRow ((refLay x0 x1 x2 x3 x4 x5 x6 x7 x8 b).keys g) m) c : ℝ) : EReal) else ⊥ := by
  rw [← real_score ((hf b).qrys _ _) (fun c e => real_band (fun n e => (hf b).keys g n e) m c e)]
  exact ref_s138 x0 x1 x2 x3 x4 x5 x6 b m g q a c

theorem ref_max (b : Fin 4) (m : Fin 64) (g q : Fin 4) (a : Fin 128) :
    Real' (val_main_v142 (F := Ideal) x0 x1 x2 x3 x4 x5 x6 x7 (ix6 b m g q a 0)) := by
  rw [ref_142, ref_139, ref_116]
  have hs := ref_sc x0 x1 x2 x3 x4 x5 x6 x7 x8 hf b m g q a
  have h1 : Real' (Finset.fold max ⊥ (fun c : Fin 256 => val_main_v138 (F := Ideal) x0 x1 x2 x3 x4 x5 x6 (ix6 b m g q a c)) Finset.univ) := by
    refine real_fold _ (fun c => ?_) (⟨128 + a.val, by omega⟩ : Fin 256) ?_
    · rw [hs]
      split
      · exact .inl ⟨_, rfl⟩
      · exact .inr rfl
    · rw [hs, if_pos (show Sees m a ⟨128 + a.val, by omega⟩ from ⟨by show 128 + a.val ≤ a.val + 128; omega, by show a.val < 128 + a.val; omega, Or.inr (by show 128 ≤ 128 + a.val; omega)⟩)]
      exact ⟨_, rfl⟩
  have h2 : Real' (x7 (ix2 0 ⟨g.val * 4 + q.val, by omega⟩)) := (hf b).sk ⟨g.val * 4 + q.val, by omega⟩
  rcases max_choice (Finset.fold max ⊥ (fun c : Fin 256 => val_main_v138 (F := Ideal) x0 x1 x2 x3 x4 x5 x6 (ix6 b m g q a c)) Finset.univ)
    (x7 (ix2 0 ⟨g.val * 4 + q.val, by omega⟩)) with e | e
  · rw [e]; exact h1
  · rw [e]; exact h2

theorem ref_att (b : Fin 4) (m : Fin 64) (g q : Fin 4) (a : Fin 128) (e : Fin 64) :
    val_main_v154 (F := Ideal) x0 x1 x2 x3 x4 x5 x6 x7 (ix6 b m g e q a)
      = attn (Sees m a) (score ((refLay x0 x1 x2 x3 x4 x5 x6 x7 x8 b).qrys ⟨g.val * 4 + q.val, by omega⟩ ⟨m.val * 128 + a.val, by omega⟩)
          (bandRow ((refLay x0 x1 x2 x3 x4 x5 x6 x7 x8 b).keys g) m))
          (fun c => bandRow ((refLay x0 x1 x2 x3 x4 x5 x6 x7 x8 b).vals g) m c e)
          ((refLay x0 x1 x2 x3 x4 x5 x6 x7 x8 b).sk ⟨g.val * 4 + q.val, by omega⟩).toReal := by
  have hv : ∀ c : Fin 256, val_main_v75 (F := Ideal) x0 x1 x2 (ix5 b m c g e) = bandRow ((refLay x0 x1 x2 x3 x4 x5 x6 x7 x8 b).vals g) m c e :=
    fun c => ref_v75 x0 x1 x2 b m c g e
  have hM := (ref_max x0 x1 x2 x3 x4 x5 x6 x7 x8 hf b m g q a).eq
  have hσ : val_main_v116 (F := Ideal) x7 (ix6 0 0 g q 0 0) = (((refLay x0 x1 x2 x3 x4 x5 x6 x7 x8 b).sk ⟨g.val * 4 + q.val, by omega⟩).toReal : EReal) :=
    (ref_116 x7 g q).trans ((hf b).sk ⟨g.val * 4 + q.val, by omega⟩).eq
  rw [ref_154]
  simp only [ref_153, ref_151, ref_145, hσ, hv]
  rw [hM]
  exact soft_nat (Sees m a) _ _ _ (fun c => val_main_v138 (F := Ideal) x0 x1 x2 x3 x4 x5 x6 (ix6 b m g q a c))
    (fun c => bandRow ((refLay x0 x1 x2 x3 x4 x5 x6 x7 x8 b).vals g) m c e) (ref_sc x0 x1 x2 x3 x4 x5 x6 x7 x8 hf b m g q a)

theorem ref_at156 (b : Fin 4) (n : Fin 8192) (l : Fin 1024) :
    val_main_v156 (F := Ideal) x0 x1 x2 x3 x4 x5 x6 x7 (ix3 b n l) = (refLay x0 x1 x2 x3 x4 x5 x6 x7 x8 b).att n l := by
  have en : (⟨n.val / 128 * 128 + n.val % 128, by omega⟩ : Fin 8192) = n := Fin.ext (by show n.val / 128 * 128 + n.val % 128 = n.val; omega)
  have el : (⟨(l.val / 256 * 4 + l.val % 256 / 64) * 64 + l.val % 64, by omega⟩ : Fin 1024) = l :=
    Fin.ext (by show (l.val / 256 * 4 + l.val % 256 / 64) * 64 + l.val % 64 = l.val; omega)
  have e1 := flat_156 (val_main_v154 (F := Ideal) x0 x1 x2 x3 x4 x5 x6 x7) b ⟨n.val / 128, by omega⟩ ⟨l.val / 256, by omega⟩ ⟨l.val % 256 / 64, by omega⟩
    ⟨n.val % 128, by omega⟩ ⟨l.val % 64, by omega⟩
  rw [ref_att x0 x1 x2 x3 x4 x5 x6 x7 x8 hf] at e1
  dsimp only at e1
  have ed : (⟨l.val / 256 * 4 + l.val % 256 / 64, by omega⟩ : Fin 16) = ⟨l.val / 64, by omega⟩ := Fin.ext (by show l.val / 256 * 4 + l.val % 256 / 64 = l.val / 64; omega)
  rw [en, el, ed] at e1
  exact e1

/-- The reference's result. -/
theorem ref_out (b : Fin 4) (n : Fin 8192) (o : Fin 1024) :
    val_main_v166 (F := Ideal) x0 x1 x2 x3 x4 x5 x6 x7 x8 (ix3 b n o) = (refLay x0 x1 x2 x3 x4 x5 x6 x7 x8 b).out n o := by
  rw [ref_166]
  unfold Lay.out
  refine congrArg₂ (· + ·) rfl (Finset.sum_congr rfl fun l _ => ?_)
  rw [ref_at156 x0 x1 x2 x3 x4 x5 x6 x7 x8 hf, ref_163, ref_86]
  rfl

end

end Cert.YocoB

end
-- ==== Proof.B.Blocks.lean ====
/-
  The blocks a grid point of layer B works on, as entries of the arrays the program starts from.
-/
module

public import proofs.«01_k».proof.Proof.B.Host
public import proofs.«01_k».proof.Proof.B.RefO
public import proofs.«01_k».proof.Proof.B.Holds

@[expose] public section

set_option maxRecDepth 16384

noncomputable section

namespace Cert.YocoB

open Idealize.ShloMosaic Cert.KernelBIdeal Cert.KernelBIdeal.Gen

theorem at0 (t : Fin cfg0.N) : win0_0.index t 0 = t.val / 8 ∧ win0_0.index t 1 = t.val % 8 ∧ win0_0.index t 2 = 0 := by
  revert t; decide +kernel
theorem at1 (t : Fin cfg0.N) : win0_1.index t 0 = 0 ∧ win0_1.index t 1 = 0 := by
  revert t; decide +kernel
theorem at2 (t : Fin cfg0.N) : win0_2.index t 0 = 0 ∧ win0_2.index t 1 = 0 := by
  revert t; decide +kernel
theorem at3 (t : Fin cfg0.N) : win0_3.index t 0 = 0 ∧ win0_3.index t 1 = 0 := by
  revert t; decide +kernel
theorem at4 (t : Fin cfg0.N) : win0_4.index t 0 = 0 ∧ win0_4.index t 1 = 0 := by
  revert t; decide +kernel
theorem at5 (t : Fin cfg0.N) : win0_5.index t 0 = t.val % 8 ∧ win0_5.index t 1 = 0 ∧ win0_5.index t 2 = 0 := by
  revert t; decide +kernel
theorem at6 (t : Fin cfg0.N) : win0_6.index t 0 = t.val % 8 ∧ win0_6.index t 1 = 0 ∧ win0_6.index t 2 = 0 := by
  revert t; decide +kernel
theorem at7 (t : Fin cfg0.N) : win0_7.index t 0 = 0 ∧ win0_7.index t 1 = 0 := by
  revert t; decide +kernel
theorem at8 (t : Fin cfg0.N) : win0_8.index t 0 = 0 ∧ win0_8.index t 1 = 0 := by
  revert t; decide +kernel
theorem at9 (t : Fin cfg0.N) : win0_9.index t 0 = 0 ∧ win0_9.index t 1 = 0 := by
  revert t; decide +kernel
theorem at10 (t : Fin cfg0.N) : win0_10.index t 0 = 0 ∧ win0_10.index t 1 = 0 := by
  revert t; decide +kernel
theorem at11 (t : Fin cfg0.N) : win0_11.index t 0 = t.val % 8 ∧ win0_11.index t 1 = 0 := by
  revert t; decide +kernel
theorem at12 (t : Fin cfg0.N) : win0_12.index t 0 = t.val % 8 ∧ win0_12.index t 1 = 0 := by
  revert t; decide +kernel
theorem at13 (t : Fin cfg0.N) : win0_13.index t 0 = 0 := by
  revert t; decide +kernel
theorem at14 (t : Fin cfg0.N) : win0_14.index t 0 = 0 ∧ win0_14.index t 1 = 0 := by
  revert t; decide +kernel

variable (m : (ℓ : Loc nD τ sig) → Buf (Elt Ideal) ℓ) (c : Dev nD) (t : Fin cfg0.N)

theorem blk0 (r q : Fin 1024) (b : Fin 4) (R : Fin 8192) (hb : b.val = t.val / 8) (hR : R.val = 1024 * (t.val % 8) + r.val) :
    (iblk m c 0 t : Vec Ideal S1x1024x1024 .f32) (ix3 0 r q) = b0 m c (ix3 b R q) := by
  have hi := at0 t
  unfold iblk
  rw [View.read_apply]
  show V m c main_arg0 _ = _
  rw [V_main_arg0]
  show m _ _ = m _ _
  congr 1
  funext a
  apply Fin.ext
  match a with
  | ⟨0, _⟩ => show win0_0.index t 0 * 1 + 1 * 0 = b.val; rw [hi.1]; omega
  | ⟨1, _⟩ => show win0_0.index t 1 * 1024 + 1 * r.val = R.val; rw [hi.2.1]; omega
  | ⟨2, _⟩ => show win0_0.index t 2 * 1024 + 1 * q.val = q.val; rw [hi.2.2]; omega

theorem blk1 (q : Fin 1024) :
    (iblk m c 1 t : Vec Ideal S1x1024 .f32) (ix2 0 q) = b1 m c (ix1 q) := by
  have hi := at1 t
  refine Eq.trans ?_ (host69 m c q)
  unfold iblk
  rw [View.read_apply]
  show V m c main_v69 _ = V m c main_v69 _
  congr 1
  funext a'
  apply Fin.ext
  match a' with
  | ⟨0, _⟩ => show win0_1.index t 0 * 1 + 1 * 0 = 0; rw [hi.1]
  | ⟨1, _⟩ => show win0_1.index t 1 * 1024 + 1 * q.val = q.val; rw [hi.2]; omega

theorem blk2 (q : Fin 1024) :
    (iblk m c 2 t : Vec Ideal S1x1024 .f32) (ix2 0 q) = b4 m c (ix2 0 q) := by
  have hi := at2 t
  refine Eq.trans ?_ (host70 m c q)
  unfold iblk
  rw [View.read_apply]
  show V m c main_v70 _ = V m c main_v70 _
  congr 1
  funext a'
  apply Fin.ext
  match a' with
  | ⟨0, _⟩ => show win0_2.index t 0 * 1 + 1 * 0 = 0; rw [hi.1]
  | ⟨1, _⟩ => show win0_2.index t 1 * 1024 + 1 * q.val = q.val; rw [hi.2]; omega

theorem blk3 (k : Fin 1024) (o : Fin 512) :
    (iblk m c 3 t : Vec Ideal S1024x512 .bf16) (ix2 k o) = b2 m c (ix2 k o) := by
  have hi := at3 t
  refine Eq.trans ?_ (host71 m c k o)
  unfold iblk
  rw [View.read_apply]
  show V m c main_v71 _ = V m c main_v71 _
  congr 1
  funext a'
  apply Fin.ext
  match a' with
  | ⟨0, _⟩ => show win0_3.index t 0 * 1024 + 1 * k.val = k.val; rw [hi.1]; omega
  | ⟨1, _⟩ => show win0_3.index t 1 * 512 + 1 * o.val = o.val; rw [hi.2]; omega

theorem blk4 (e : Fin 64) :
    (iblk m c 4 t : Vec Ideal S64x1 .f32) (ix2 e 0) = b3 m c (ix1 e) := by
  have hi := at4 t
  refine Eq.trans ?_ (host72 m c e)
  unfold iblk
  rw [View.read_apply]
  show V m c main_v72 _ = V m c main_v72 _
  congr 1
  funext a'
  apply Fin.ext
  match a' with
  | ⟨0, _⟩ => show win0_4.index t 0 * 64 + 1 * e.val = e.val; rw [hi.1]; omega
  | ⟨1, _⟩ => show win0_4.index t 1 * 1 + 1 * 0 = 0; rw [hi.2]

theorem blk5 (i : Fin 2) (e : Fin 8) (a : Fin 512) :
    (iblk m c 5 t : Vec Ideal S2x8x512 .f32) (ix3 i e a) = rcos ⟨1024 * (t.val % 8) + 512 * i.val + a.val, by omega⟩ e := by
  have hi := at5 t
  refine Eq.trans ?_ ((host28 m c ⟨2 * (t.val % 8) + i.val, by omega⟩ e a).trans (congrArg (fun n => rcos n e) (Fin.ext (by dsimp only; omega))))
  unfold iblk
  rw [View.read_apply]
  show V m c main_v28 _ = V m c main_v28 _
  congr 1
  funext a'
  apply Fin.ext
  match a' with
  | ⟨0, _⟩ => show win0_5.index t 0 * 2 + 1 * i.val = 2 * (t.val % 8) + i.val; rw [hi.1]; omega
  | ⟨1, _⟩ => show win0_5.index t 1 * 8 + 1 * e.val = e.val; rw [hi.2.1]; omega
  | ⟨2, _⟩ => show win0_5.index t 2 * 512 + 1 * a.val = a.val; rw [hi.2.2]; omega

theorem blk6 (i : Fin 2) (e : Fin 8) (a : Fin 512) :
    (iblk m c 6 t : Vec Ideal S2x8x512 .f32) (ix3 i e a) = rsin ⟨1024 * (t.val % 8) + 512 * i.val + a.val, by omega⟩ e := by
  have hi := at6 t
  refine Eq.trans ?_ ((host31 m c ⟨2 * (t.val % 8) + i.val, by omega⟩ e a).trans (congrArg (fun n => rsin n e) (Fin.ext (by dsimp only; omega))))
  unfold iblk
  rw [View.read_apply]
  show V m c main_v31 _ = V m c main_v31 _
  congr 1
  funext a'
  apply Fin.ext
  match a' with
  | ⟨0, _⟩ => show win0_6.index t 0 * 2 + 1 * i.val = 2 * (t.val % 8) + i.val; rw [hi.1]; omega
  | ⟨1, _⟩ => show win0_6.index t 1 * 8 + 1 * e.val = e.val; rw [hi.2.1]; omega
  | ⟨2, _⟩ => show win0_6.index t 2 * 512 + 1 * a.val = a.val; rw [hi.2.2]; omega

theorem blk7 (k : Fin 1024) (o : Fin 2048) :
    (iblk m c 7 t : Vec Ideal S1024x2048 .bf16) (ix2 k o) = b5 m c (ix3 0 k o) := by
  have hi := at7 t
  refine Eq.trans ?_ (host73 m c k o)
  unfold iblk
  rw [View.read_apply]
  show V m c main_v73 _ = V m c main_v73 _
  congr 1
  funext a'
  apply Fin.ext
  match a' with
  | ⟨0, _⟩ => show win0_7.index t 0 * 1024 + 1 * k.val = k.val; rw [hi.1]; omega
  | ⟨1, _⟩ => show win0_7.index t 1 * 2048 + 1 * o.val = o.val; rw [hi.2]; omega

theorem blk8 (p l : Fin 256) :
    (iblk m c 8 t : Vec Ideal S256x256 .bf16) (ix2 p l) = if p.val = l.val % 128 / 32 * 64 + (pdim l).val then (1 : EReal) else (0 : EReal) := by
  have hi := at8 t
  refine Eq.trans ?_ (host68 m c p l)
  unfold iblk
  rw [View.read_apply]
  show V m c main_v68 _ = V m c main_v68 _
  congr 1
  funext a'
  apply Fin.ext
  match a' with
  | ⟨0, _⟩ => show win0_8.index t 0 * 256 + 1 * p.val = p.val; rw [hi.1]; omega
  | ⟨1, _⟩ => show win0_8.index t 1 * 256 + 1 * l.val = l.val; rw [hi.2]; omega

theorem blk9 (l : Fin 128) :
    (iblk m c 9 t : Vec Ideal S1x128 .f32) (ix2 0 l) = b6 m c (ix2 0 (pdim ⟨l.val, by omega⟩)) := by
  have hi := at9 t
  refine Eq.trans ?_ (host57 m c l)
  unfold iblk
  rw [View.read_apply]
  show V m c main_v57 _ = V m c main_v57 _
  congr 1
  funext a'
  apply Fin.ext
  match a' with
  | ⟨0, _⟩ => show win0_9.index t 0 * 1 + 1 * 0 = 0; rw [hi.1]
  | ⟨1, _⟩ => show win0_9.index t 1 * 128 + 1 * l.val = l.val; rw [hi.2]; omega

theorem blk10 (l : Fin 128) :
    (iblk m c 10 t : Vec Ideal S1x128 .f32) (ix2 0 l) = b6 m c (ix2 0 (pdim ⟨128 + l.val, by omega⟩)) := by
  have hi := at10 t
  refine Eq.trans ?_ (host61 m c l)
  unfold iblk
  rw [View.read_apply]
  show V m c main_v61 _ = V m c main_v61 _
  congr 1
  funext a'
  apply Fin.ext
  match a' with
  | ⟨0, _⟩ => show win0_10.index t 0 * 1 + 1 * 0 = 0; rw [hi.1]
  | ⟨1, _⟩ => show win0_10.index t 1 * 128 + 1 * l.val = l.val; rw [hi.2]; omega

theorem blk11 (a : Fin 1024) (l : Fin 128) :
    (iblk m c 11 t : Vec Ideal S1024x128 .f32) (ix2 a l) = (if l.val % 32 < 8 then rcos ⟨1024 * (t.val % 8) + a.val, by omega⟩ ⟨l.val % 8, by omega⟩ else (1 : EReal)) * ((k8 : ℝ) : EReal) := by
  have hi := at11 t
  refine Eq.trans ?_ (host39 m c ⟨1024 * (t.val % 8) + a.val, by omega⟩ l)
  unfold iblk
  rw [View.read_apply]
  show V m c main_v39 _ = V m c main_v39 _
  congr 1
  funext a'
  apply Fin.ext
  match a' with
  | ⟨0, _⟩ => show win0_11.index t 0 * 1024 + 1 * a.val = 1024 * (t.val % 8) + a.val; rw [hi.1]; omega
  | ⟨1, _⟩ => show win0_11.index t 1 * 128 + 1 * l.val = l.val; rw [hi.2]; omega

theorem blk12 (a : Fin 1024) (l : Fin 128) :
    (iblk m c 12 t : Vec Ideal S1024x128 .f32) (ix2 a l) = (if l.val % 32 < 8 then rsin ⟨1024 * (t.val % 8) + a.val, by omega⟩ ⟨l.val % 8, by omega⟩ else (0 : EReal)) * ((k8 : ℝ) : EReal) := by
  have hi := at12 t
  refine Eq.trans ?_ (host47 m c ⟨1024 * (t.val % 8) + a.val, by omega⟩ l)
  unfold iblk
  rw [View.read_apply]
  show V m c main_v47 _ = V m c main_v47 _
  congr 1
  funext a'
  apply Fin.ext
  match a' with
  | ⟨0, _⟩ => show win0_12.index t 0 * 1024 + 1 * a.val = 1024 * (t.val % 8) + a.val; rw [hi.1]; omega
  | ⟨1, _⟩ => show win0_12.index t 1 * 128 + 1 * l.val = l.val; rw [hi.2]; omega

theorem blk13 (h : Fin 16) :
    (iblk m c 13 t : Vec Ideal S16 .f32) (ix1 h) = b7 m c (ix2 0 h) := by
  have hi := at13 t
  refine Eq.trans ?_ (host4 m c h)
  unfold iblk
  rw [View.read_apply]
  show V m c main_v4 _ = V m c main_v4 _
  congr 1
  funext a'
  apply Fin.ext
  match a' with
  | ⟨0, _⟩ => show win0_13.index t 0 * 16 + 1 * h.val = h.val; rw [hi]; omega

theorem blk14 (k o : Fin 1024) :
    (iblk m c 14 t : Vec Ideal S1024x1024 .bf16) (ix2 k o) = b8 m c (ix3 0 k o) := by
  have hi := at14 t
  refine Eq.trans ?_ (host74 m c k o)
  unfold iblk
  rw [View.read_apply]
  show V m c main_v74 _ = V m c main_v74 _
  congr 1
  funext a'
  apply Fin.ext
  match a' with
  | ⟨0, _⟩ => show win0_14.index t 0 * 1024 + 1 * k.val = k.val; rw [hi.1]; omega
  | ⟨1, _⟩ => show win0_14.index t 1 * 1024 + 1 * o.val = o.val; rw [hi.2]; omega

end Cert.YocoB

end
-- ==== Proof.B.Array.lean ====
/-
  What layer B's program leaves in its result, entry by entry, over the arrays it starts from.
-/
module

public import proofs.«01_k».proof.Proof.Gen.KernelBIdeal.Value
public import proofs.«01_k».proof.Proof.B.PointA
public import proofs.«01_k».proof.Proof.B.PointB
public import proofs.«01_k».proof.Proof.B.PointC
public import proofs.«01_k».proof.Proof.B.Blocks

@[expose] public section

set_option maxRecDepth 16384

noncomputable section

namespace Cert.YocoB

open Idealize.ShloMosaic Cert.KernelBIdeal Cert.KernelBIdeal.Gen Cert.KernelBIdeal.Value Cert.YocoPieces

variable (m : (ℓ : Loc nD τ sig) → Buf (Elt Ideal) ℓ) (c : Dev nD) (t : Fin cfg0.N)

theorem hN (t : Fin cfg0.N) : t.val < 32 := lt_of_lt_of_eq t.isLt (show cfg0.N = 32 from N_0)

/-- The blocks point `t` works on, over scratch contents `s0`, `s1`, `s2`. -/
def argsAt (s0 : Vec Ideal S4x256x1152 .bf16) (s1 : Vec Ideal S4x1152x256 .bf16) (s2 : Vec Ideal S1024x1024 .bf16) : Args Ideal where
  c := c
  i := grid0.coords t
  m2 := ms0_0 t
  h2 := hs0_0 t
  m3 := ms0_1 t
  h3 := hs0_1 t
  m4 := ms0_2 t
  h4 := hs0_2 t
  m5 := ms0_3 t
  h5 := hs0_3 t
  m6 := ms0_4 t
  h6 := hs0_4 t
  m7 := ms0_5 t
  h7 := hs0_5 t
  m8 := ms0_6 t
  h8 := hs0_6 t
  m9 := ms0_7 t
  h9 := hs0_7 t
  m10 := ms0_8 t
  h10 := hs0_8 t
  m11 := ms0_9 t
  h11 := hs0_9 t
  m12 := ms0_10 t
  h12 := hs0_10 t
  m13 := ms0_11 t
  h13 := hs0_11 t
  m14 := ms0_12 t
  h14 := hs0_12 t
  m15 := ms0_13 t
  h15 := hs0_13 t
  m16 := ms0_14 t
  h16 := hs0_14 t
  m17 := ms0_15 t
  h17 := hs0_15 t
  m18 := scM0_0
  h18 := Memref.isWhole_whole _
  m19 := scM0_1
  h19 := Memref.isWhole_whole _
  m20 := scM0_2
  h20 := Memref.isWhole_whole _
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  s0 := s0
  s1 := s1
  s2 := s2

/-- The layer's formulas on the sequence point `t` works on. -/
def layAt : Lay := refLay (b0 m c) (b1 m c) (b2 m c) (b3 m c) (b4 m c) (b5 m c) (b6 m c) (b7 m c) (b8 m c) ⟨t.val / 8, by have := hN t; omega⟩
/-- The tile point `t` works on. -/
abbrev tileAt : Fin 8 := ⟨t.val % 8, by omega⟩

theorem tile_at : ((grid0.coords t) 1).val = t.val % 8 := by
  revert t; decide +kernel

attribute [local irreducible] iblk outsAt0

theorem holds (s0 : Vec Ideal S4x256x1152 .bf16) (s1 : Vec Ideal S4x1152x256 .bf16) (s2 : Vec Ideal S1024x1024 .bf16) :
    Holds (argsAt m c t s0 s1 s2) (layAt m c t) (tileAt t) :=
  ⟨tile_at t,
    fun a k => blk0 m c t a k ⟨t.val / 8, by have := hN t; omega⟩ ⟨1024 * (t.val % 8) + a.val, by omega⟩ rfl rfl,
    fun a => blk1 m c t a,
    fun a => blk2 m c t a,
    fun a k => blk3 m c t a k,
    fun a => blk4 m c t a,
    fun a k o => blk5 m c t a k o,
    fun a k o => blk6 m c t a k o,
    fun a k => blk7 m c t a k,
    fun a k => blk8 m c t a k,
    fun a => blk9 m c t a,
    fun a => blk10 m c t a,
    fun a k => blk11 m c t a k,
    fun a k => blk12 m c t a k,
    fun a => blk13 m c t a,
    fun a k => blk14 m c t a k⟩

/-- What point `t` leaves: the result block and the three scratches. -/
abbrev left (n : ℕ) (hn : n < cfg0.N) := outsAt0 m c n hn
abbrev prev := outsAt0 m c (t.val - 1) (Nat.lt_of_le_of_lt (Nat.sub_le _ _) t.isLt)

abbrev rA : Args Ideal := argsAt m c t (fun _ => (0 : EReal)) (fun _ => (0 : EReal)) (fun _ => (0 : EReal))
abbrev rB : Args Ideal := argsAt m c t (prev m c t).2.1 (prev m c t).2.2.1 (prev m c t).2.2.2
abbrev rC : Args Ideal := argsAt m c t (fun _ => (0 : EReal)) (prev m c t).2.2.1 (prev m c t).2.2.2

theorem end_out_A (r : Args Ideal) (hc0 : cond0_0 r.i) (hc1 : cond0_1 r.i) (hc2 : ¬cond0_2 r.i) :
    out0_A_15 r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m16 r.h16 r.m17 r.h17 r.m18 r.h18 r.m19 r.h19 r.m20 r.h20 hc0 hc1 hc2 r.x0 r.x1 r.x2 r.x3 r.x4 r.x5 r.x6 r.x7 r.x8 r.x9 r.x10 r.x11 r.x12 r.x13 r.x14
      = View.canon (LOut (yA0 r) (yA1 r) r.xo00 r.xo01 r.xo10 r.xo11 r.wo0 r.wo1) := by
  unfold out0_A_15
  funext y
  rw [View.read_writes_junk_apply_eq_canon]
  exact congrArg (fun L => View.canon L y) (out_A r hc0 hc1 hc2)

theorem end_keys_A (r : Args Ideal) (hc0 : cond0_0 r.i) (hc1 : cond0_1 r.i) (hc2 : ¬cond0_2 r.i) :
    sout0_A_0 r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m16 r.h16 r.m17 r.h17 r.m18 r.h18 r.m19 r.h19 r.m20 r.h20 hc0 hc1 hc2 r.x0 r.x1 r.x2 r.x3 r.x4 r.x5 r.x6 r.x7 r.x8 r.x9 r.x10 r.x11 r.x12 r.x13 r.x14
      = View.canon (r.lk1 bkA) := by
  unfold sout0_A_0
  funext y
  rw [View.read_writes_junk_apply_eq_canon]
  exact congrArg (fun L => View.canon L y) (keys_A r hc0 hc1 hc2)

theorem end_vals_A (r : Args Ideal) (hc0 : cond0_0 r.i) (hc1 : cond0_1 r.i) (hc2 : ¬cond0_2 r.i) :
    sout0_A_1 r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m16 r.h16 r.m17 r.h17 r.m18 r.h18 r.m19 r.h19 r.m20 r.h20 hc0 hc1 hc2 r.x0 r.x1 r.x2 r.x3 r.x4 r.x5 r.x6 r.x7 r.x8 r.x9 r.x10 r.x11 r.x12 r.x13 r.x14
      = View.canon (r.lv1 bvA onesV) := by
  unfold sout0_A_1
  funext y
  rw [View.read_writes_junk_apply_eq_canon]
  exact congrArg (fun L => View.canon L y) (vals_A r hc0 hc1 hc2)

theorem end_wq_A (r : Args Ideal) (hc0 : cond0_0 r.i) (hc1 : cond0_1 r.i) (hc2 : ¬cond0_2 r.i) :
    sout0_A_2 r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m16 r.h16 r.m17 r.h17 r.m18 r.h18 r.m19 r.h19 r.m20 r.h20 hc0 hc1 hc2 r.x0 r.x1 r.x2 r.x3 r.x4 r.x5 r.x6 r.x7 r.x8 r.x9 r.x10 r.x11 r.x12 r.x13 r.x14
      = View.canon r.lq := by
  unfold sout0_A_2
  funext y
  rw [View.read_writes_junk_apply_eq_canon]
  exact congrArg (fun L => View.canon L y) (wq_A r hc0 hc1 hc2)

theorem end_out_B (r : Args Ideal) (hc0 : ¬cond0_0 r.i) (hc1 : ¬cond0_1 r.i) (hc2 : cond0_2 r.i) :
    out0_B_15 r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m16 r.h16 r.m17 r.h17 r.m18 r.h18 r.m19 r.h19 r.m20 r.h20 hc0 hc1 hc2 r.x0 r.x1 r.x2 r.x3 r.x4 r.x5 r.x6 r.x7 r.x8 r.x9 r.x10 r.x11 r.x12 r.x13 r.x14 r.s0 r.s1 r.s2
      = View.canon (LOut (yB0 r) (yB1 r) r.xo00 r.xo01 r.xo10 r.xo11 r.wo0 r.wo1) := by
  unfold out0_B_15
  funext y
  rw [View.read_writes_junk_apply_eq_canon]
  exact congrArg (fun L => View.canon L y) (out_B r hc0 hc1 hc2)

theorem end_keys_B (r : Args Ideal) (hc0 : ¬cond0_0 r.i) (hc1 : ¬cond0_1 r.i) (hc2 : cond0_2 r.i) :
    sout0_B_0 r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m16 r.h16 r.m17 r.h17 r.m18 r.h18 r.m19 r.h19 r.m20 r.h20 hc0 hc1 hc2 r.x0 r.x1 r.x2 r.x3 r.x4 r.x5 r.x6 r.x7 r.x8 r.x9 r.x10 r.x11 r.x12 r.x13 r.x14 r.s0 r.s1 r.s2
      = View.canon (r.lk1 (bkB r)) := by
  unfold sout0_B_0
  funext y
  rw [View.read_writes_junk_apply_eq_canon]
  exact congrArg (fun L => View.canon L y) (keys_B r hc0 hc1 hc2)

theorem end_vals_B (r : Args Ideal) (hc0 : ¬cond0_0 r.i) (hc1 : ¬cond0_1 r.i) (hc2 : cond0_2 r.i) :
    sout0_B_1 r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m16 r.h16 r.m17 r.h17 r.m18 r.h18 r.m19 r.h19 r.m20 r.h20 hc0 hc1 hc2 r.x0 r.x1 r.x2 r.x3 r.x4 r.x5 r.x6 r.x7 r.x8 r.x9 r.x10 r.x11 r.x12 r.x13 r.x14 r.s0 r.s1 r.s2
      = View.canon (r.lv1 (bvB r) (wholeV r.s1)) := by
  unfold sout0_B_1
  funext y
  refine (read_over _ _ _ (Memref.IsWhole.read_unread _ _) (fun a => by omega) y _).trans ?_
  exact congrArg (fun L => View.canon (L ++ wholeV r.s1) y) (vals_B r hc0 hc1 hc2)

theorem end_out_C (r : Args Ideal) (hc0 : ¬cond0_0 r.i) (hc1 : cond0_1 r.i) (hc2 : ¬cond0_2 r.i) :
    out0_C_15 r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m16 r.h16 r.m17 r.h17 r.m18 r.h18 r.m19 r.h19 r.m20 r.h20 hc0 hc1 hc2 r.x0 r.x1 r.x2 r.x3 r.x4 r.x5 r.x6 r.x7 r.x8 r.x9 r.x10 r.x11 r.x12 r.x13 r.x14 r.s1 r.s2
      = View.canon (LOut (yC0 r) (yC1 r) r.xo00 r.xo01 r.xo10 r.xo11 r.wo0 r.wo1) := by
  unfold out0_C_15
  funext y
  rw [View.read_writes_junk_apply_eq_canon]
  exact congrArg (fun L => View.canon L y) (out_C r hc0 hc1 hc2)

theorem end_keys_C (r : Args Ideal) (hc0 : ¬cond0_0 r.i) (hc1 : cond0_1 r.i) (hc2 : ¬cond0_2 r.i) :
    sout0_C_0 r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m16 r.h16 r.m17 r.h17 r.m18 r.h18 r.m19 r.h19 r.m20 r.h20 hc0 hc1 hc2 r.x0 r.x1 r.x2 r.x3 r.x4 r.x5 r.x6 r.x7 r.x8 r.x9 r.x10 r.x11 r.x12 r.x13 r.x14 r.s1 r.s2
      = View.canon (r.lk1 bkC) := by
  unfold sout0_C_0
  funext y
  rw [View.read_writes_junk_apply_eq_canon]
  exact congrArg (fun L => View.canon L y) (keys_C r hc0 hc1 hc2)

theorem end_vals_C (r : Args Ideal) (hc0 : ¬cond0_0 r.i) (hc1 : cond0_1 r.i) (hc2 : ¬cond0_2 r.i) :
    sout0_C_1 r.c r.i r.m2 r.h2 r.m3 r.h3 r.m4 r.h4 r.m5 r.h5 r.m6 r.h6 r.m7 r.h7 r.m8 r.h8 r.m9 r.h9 r.m10 r.h10 r.m11 r.h11 r.m12 r.h12 r.m13 r.h13 r.m14 r.h14 r.m15 r.h15 r.m16 r.h16 r.m17 r.h17 r.m18 r.h18 r.m19 r.h19 r.m20 r.h20 hc0 hc1 hc2 r.x0 r.x1 r.x2 r.x3 r.x4 r.x5 r.x6 r.x7 r.x8 r.x9 r.x10 r.x11 r.x12 r.x13 r.x14 r.s1 r.s2
      = View.canon (r.lv1 bvC (wholeV r.s1)) := by
  unfold sout0_C_1
  funext y
  refine (read_over _ _ _ (Memref.IsWhole.read_unread _ _) (fun a => by omega) y _).trans ?_
  exact congrArg (fun L => View.canon (L ++ wholeV r.s1) y) (vals_C r hc0 hc1 hc2)

theorem lit_out_A {c : Dev nD} {i : grid0.Coords} {m2 : Memref sig .tc .vmem S1x1024x1024 .f32} {h2 : m2.IsWhole} {m3 : Memref sig .tc .vmem S1x1024 .f32} {h3 : m3.IsWhole} {m4 : Memref sig .tc .vmem S1x1024 .f32} {h4 : m4.IsWhole} {m5 : Memref sig .tc .vmem S1024x512 .bf16} {h5 : m5.IsWhole} {m6 : Memref sig .tc .vmem S64x1 .f32} {h6 : m6.IsWhole} {m7 : Memref sig .tc .vmem S2x8x512 .f32} {h7 : m7.IsWhole} {m8 : Memref sig .tc .vmem S2x8x512 .f32} {h8 : m8.IsWhole} {m9 : Memref sig .tc .vmem S1024x2048 .bf16} {h9 : m9.IsWhole} {m10 : Memref sig .tc .vmem S256x256 .bf16} {h10 : m10.IsWhole} {m11 : Memref sig .tc .vmem S1x128 .f32} {h11 : m11.IsWhole} {m12 : Memref sig .tc .vmem S1x128 .f32} {h12 : m12.IsWhole} {m13 : Memref sig .tc .vmem S1024x128 .f32} {h13 : m13.IsWhole} {m14 : Memref sig .tc .vmem S1024x128 .f32} {h14 : m14.IsWhole} {m15 : Memref sig .tc .smem S16 .f32} {h15 : m15.IsWhole} {m16 : Memref sig .tc .vmem S1024x1024 .bf16} {h16 : m16.IsWhole} {m17 : Memref sig .tc .vmem S1x1024x1024 .f32} {h17 : m17.IsWhole} {m18 : Memref sig .tc .vmem S4x256x1152 .bf16} {h18 : m18.IsWhole} {m19 : Memref sig .tc .vmem S4x1152x256 .bf16} {h19 : m19.IsWhole} {m20 : Memref sig .tc .vmem S1024x1024 .bf16} {h20 : m20.IsWhole} {x0 : Vec Ideal S1x1024x1024 .f32} {x1 : Vec Ideal S1x1024 .f32} {x2 : Vec Ideal S1x1024 .f32} {x3 : Vec Ideal S1024x512 .bf16} {x4 : Vec Ideal S64x1 .f32} {x5 : Vec Ideal S2x8x512 .f32} {x6 : Vec Ideal S2x8x512 .f32} {x7 : Vec Ideal S1024x2048 .bf16} {x8 : Vec Ideal S256x256 .bf16} {x9 : Vec Ideal S1x128 .f32} {x10 : Vec Ideal S1x128 .f32} {x11 : Vec Ideal S1024x128 .f32} {x12 : Vec Ideal S1024x128 .f32} {x13 : Vec Ideal S16 .f32} {x14 : Vec Ideal S1024x1024 .bf16} {s0 : Vec Ideal S4x256x1152 .bf16} {s1 : Vec Ideal S4x1152x256 .bf16} {s2 : Vec Ideal S1024x1024 .bf16} {r : Args Ideal} (hr : r = Args.mk c i m2 h2 m3 h3 m4 h4 m5 h5 m6 h6 m7 h7 m8 h8 m9 h9 m10 h10 m11 h11 m12 h12 m13 h13 m14 h14 m15 h15 m16 h16 m17 h17 m18 h18 m19 h19 m20 h20 x0 x1 x2 x3 x4 x5 x6 x7 x8 x9 x10 x11 x12 x13 x14 s0 s1 s2) (hc0 : cond0_0 i) (hc1 : cond0_1 i) (hc2 : ¬cond0_2 i) :
    out0_A_15 c i m2 h2 m3 h3 m4 h4 m5 h5 m6 h6 m7 h7 m8 h8 m9 h9 m10 h10 m11 h11 m12 h12 m13 h13 m14 h14 m15 h15 m16 h16 m17 h17 m18 h18 m19 h19 m20 h20 hc0 hc1 hc2 x0 x1 x2 x3 x4 x5 x6 x7 x8 x9 x10 x11 x12 x13 x14
      = View.canon (LOut (yA0 r) (yA1 r) r.xo00 r.xo01 r.xo10 r.xo11 r.wo0 r.wo1) := by
  subst hr
  exact end_out_A (Args.mk c i m2 h2 m3 h3 m4 h4 m5 h5 m6 h6 m7 h7 m8 h8 m9 h9 m10 h10 m11 h11 m12 h12 m13 h13 m14 h14 m15 h15 m16 h16 m17 h17 m18 h18 m19 h19 m20 h20 x0 x1 x2 x3 x4 x5 x6 x7 x8 x9 x10 x11 x12 x13 x14 s0 s1 s2) hc0 hc1 hc2

theorem lit_keys_A {c : Dev nD} {i : grid0.Coords} {m2 : Memref sig .tc .vmem S1x1024x1024 .f32} {h2 : m2.IsWhole} {m3 : Memref sig .tc .vmem S1x1024 .f32} {h3 : m3.IsWhole} {m4 : Memref sig .tc .vmem S1x1024 .f32} {h4 : m4.IsWhole} {m5 : Memref sig .tc .vmem S1024x512 .bf16} {h5 : m5.IsWhole} {m6 : Memref sig .tc .vmem S64x1 .f32} {h6 : m6.IsWhole} {m7 : Memref sig .tc .vmem S2x8x512 .f32} {h7 : m7.IsWhole} {m8 : Memref sig .tc .vmem S2x8x512 .f32} {h8 : m8.IsWhole} {m9 : Memref sig .tc .vmem S1024x2048 .bf16} {h9 : m9.IsWhole} {m10 : Memref sig .tc .vmem S256x256 .bf16} {h10 : m10.IsWhole} {m11 : Memref sig .tc .vmem S1x128 .f32} {h11 : m11.IsWhole} {m12 : Memref sig .tc .vmem S1x128 .f32} {h12 : m12.IsWhole} {m13 : Memref sig .tc .vmem S1024x128 .f32} {h13 : m13.IsWhole} {m14 : Memref sig .tc .vmem S1024x128 .f32} {h14 : m14.IsWhole} {m15 : Memref sig .tc .smem S16 .f32} {h15 : m15.IsWhole} {m16 : Memref sig .tc .vmem S1024x1024 .bf16} {h16 : m16.IsWhole} {m17 : Memref sig .tc .vmem S1x1024x1024 .f32} {h17 : m17.IsWhole} {m18 : Memref sig .tc .vmem S4x256x1152 .bf16} {h18 : m18.IsWhole} {m19 : Memref sig .tc .vmem S4x1152x256 .bf16} {h19 : m19.IsWhole} {m20 : Memref sig .tc .vmem S1024x1024 .bf16} {h20 : m20.IsWhole} {x0 : Vec Ideal S1x1024x1024 .f32} {x1 : Vec Ideal S1x1024 .f32} {x2 : Vec Ideal S1x1024 .f32} {x3 : Vec Ideal S1024x512 .bf16} {x4 : Vec Ideal S64x1 .f32} {x5 : Vec Ideal S2x8x512 .f32} {x6 : Vec Ideal S2x8x512 .f32} {x7 : Vec Ideal S1024x2048 .bf16} {x8 : Vec Ideal S256x256 .bf16} {x9 : Vec Ideal S1x128 .f32} {x10 : Vec Ideal S1x128 .f32} {x11 : Vec Ideal S1024x128 .f32} {x12 : Vec Ideal S1024x128 .f32} {x13 : Vec Ideal S16 .f32} {x14 : Vec Ideal S1024x1024 .bf16} {s0 : Vec Ideal S4x256x1152 .bf16} {s1 : Vec Ideal S4x1152x256 .bf16} {s2 : Vec Ideal S1024x1024 .bf16} {r : Args Ideal} (hr : r = Args.mk c i m2 h2 m3 h3 m4 h4 m5 h5 m6 h6 m7 h7 m8 h8 m9 h9 m10 h10 m11 h11 m12 h12 m13 h13 m14 h14 m15 h15 m16 h16 m17 h17 m18 h18 m19 h19 m20 h20 x0 x1 x2 x3 x4 x5 x6 x7 x8 x9 x10 x11 x12 x13 x14 s0 s1 s2) (hc0 : cond0_0 i) (hc1 : cond0_1 i) (hc2 : ¬cond0_2 i) :
    sout0_A_0 c i m2 h2 m3 h3 m4 h4 m5 h5 m6 h6 m7 h7 m8 h8 m9 h9 m10 h10 m11 h11 m12 h12 m13 h13 m14 h14 m15 h15 m16 h16 m17 h17 m18 h18 m19 h19 m20 h20 hc0 hc1 hc2 x0 x1 x2 x3 x4 x5 x6 x7 x8 x9 x10 x11 x12 x13 x14
      = View.canon (r.lk1 bkA) := by
  subst hr
  exact end_keys_A (Args.mk c i m2 h2 m3 h3 m4 h4 m5 h5 m6 h6 m7 h7 m8 h8 m9 h9 m10 h10 m11 h11 m12 h12 m13 h13 m14 h14 m15 h15 m16 h16 m17 h17 m18 h18 m19 h19 m20 h20 x0 x1 x2 x3 x4 x5 x6 x7 x8 x9 x10 x11 x12 x13 x14 s0 s1 s2) hc0 hc1 hc2

theorem lit_vals_A {c : Dev nD} {i : grid0.Coords} {m2 : Memref sig .tc .vmem S1x1024x1024 .f32} {h2 : m2.IsWhole} {m3 : Memref sig .tc .vmem S1x1024 .f32} {h3 : m3.IsWhole} {m4 : Memref sig .tc .vmem S1x1024 .f32} {h4 : m4.IsWhole} {m5 : Memref sig .tc .vmem S1024x512 .bf16} {h5 : m5.IsWhole} {m6 : Memref sig .tc .vmem S64x1 .f32} {h6 : m6.IsWhole} {m7 : Memref sig .tc .vmem S2x8x512 .f32} {h7 : m7.IsWhole} {m8 : Memref sig .tc .vmem S2x8x512 .f32} {h8 : m8.IsWhole} {m9 : Memref sig .tc .vmem S1024x2048 .bf16} {h9 : m9.IsWhole} {m10 : Memref sig .tc .vmem S256x256 .bf16} {h10 : m10.IsWhole} {m11 : Memref sig .tc .vmem S1x128 .f32} {h11 : m11.IsWhole} {m12 : Memref sig .tc .vmem S1x128 .f32} {h12 : m12.IsWhole} {m13 : Memref sig .tc .vmem S1024x128 .f32} {h13 : m13.IsWhole} {m14 : Memref sig .tc .vmem S1024x128 .f32} {h14 : m14.IsWhole} {m15 : Memref sig .tc .smem S16 .f32} {h15 : m15.IsWhole} {m16 : Memref sig .tc .vmem S1024x1024 .bf16} {h16 : m16.IsWhole} {m17 : Memref sig .tc .vmem S1x1024x1024 .f32} {h17 : m17.IsWhole} {m18 : Memref sig .tc .vmem S4x256x1152 .bf16} {h18 : m18.IsWhole} {m19 : Memref sig .tc .vmem S4x1152x256 .bf16} {h19 : m19.IsWhole} {m20 : Memref sig .tc .vmem S1024x1024 .bf16} {h20 : m20.IsWhole} {x0 : Vec Ideal S1x1024x1024 .f32} {x1 : Vec Ideal S1x1024 .f32} {x2 : Vec Ideal S1x1024 .f32} {x3 : Vec Ideal S1024x512 .bf16} {x4 : Vec Ideal S64x1 .f32} {x5 : Vec Ideal S2x8x512 .f32} {x6 : Vec Ideal S2x8x512 .f32} {x7 : Vec Ideal S1024x2048 .bf16} {x8 : Vec Ideal S256x256 .bf16} {x9 : Vec Ideal S1x128 .f32} {x10 : Vec Ideal S1x128 .f32} {x11 : Vec Ideal S1024x128 .f32} {x12 : Vec Ideal S1024x128 .f32} {x13 : Vec Ideal S16 .f32} {x14 : Vec Ideal S1024x1024 .bf16} {s0 : Vec Ideal S4x256x1152 .bf16} {s1 : Vec Ideal S4x1152x256 .bf16} {s2 : Vec Ideal S1024x1024 .bf16} {r : Args Ideal} (hr : r = Args.mk c i m2 h2 m3 h3 m4 h4 m5 h5 m6 h6 m7 h7 m8 h8 m9 h9 m10 h10 m11 h11 m12 h12 m13 h13 m14 h14 m15 h15 m16 h16 m17 h17 m18 h18 m19 h19 m20 h20 x0 x1 x2 x3 x4 x5 x6 x7 x8 x9 x10 x11 x12 x13 x14 s0 s1 s2) (hc0 : cond0_0 i) (hc1 : cond0_1 i) (hc2 : ¬cond0_2 i) :
    sout0_A_1 c i m2 h2 m3 h3 m4 h4 m5 h5 m6 h6 m7 h7 m8 h8 m9 h9 m10 h10 m11 h11 m12 h12 m13 h13 m14 h14 m15 h15 m16 h16 m17 h17 m18 h18 m19 h19 m20 h20 hc0 hc1 hc2 x0 x1 x2 x3 x4 x5 x6 x7 x8 x9 x10 x11 x12 x13 x14
      = View.canon (r.lv1 bvA onesV) := by
  subst hr
  exact end_vals_A (Args.mk c i m2 h2 m3 h3 m4 h4 m5 h5 m6 h6 m7 h7 m8 h8 m9 h9 m10 h10 m11 h11 m12 h12 m13 h13 m14 h14 m15 h15 m16 h16 m17 h17 m18 h18 m19 h19 m20 h20 x0 x1 x2 x3 x4 x5 x6 x7 x8 x9 x10 x11 x12 x13 x14 s0 s1 s2) hc0 hc1 hc2

theorem lit_wq_A {c : Dev nD} {i : grid0.Coords} {m2 : Memref sig .tc .vmem S1x1024x1024 .f32} {h2 : m2.IsWhole} {m3 : Memref sig .tc .vmem S1x1024 .f32} {h3 : m3.IsWhole} {m4 : Memref sig .tc .vmem S1x1024 .f32} {h4 : m4.IsWhole} {m5 : Memref sig .tc .vmem S1024x512 .bf16} {h5 : m5.IsWhole} {m6 : Memref sig .tc .vmem S64x1 .f32} {h6 : m6.IsWhole} {m7 : Memref sig .tc .vmem S2x8x512 .f32} {h7 : m7.IsWhole} {m8 : Memref sig .tc .vmem S2x8x512 .f32} {h8 : m8.IsWhole} {m9 : Memref sig .tc .vmem S1024x2048 .bf16} {h9 : m9.IsWhole} {m10 : Memref sig .tc .vmem S256x256 .bf16} {h10 : m10.IsWhole} {m11 : Memref sig .tc .vmem S1x128 .f32} {h11 : m11.IsWhole} {m12 : Memref sig .tc .vmem S1x128 .f32} {h12 : m12.IsWhole} {m13 : Memref sig .tc .vmem S1024x128 .f32} {h13 : m13.IsWhole} {m14 : Memref sig .tc .vmem S1024x128 .f32} {h14 : m14.IsWhole} {m15 : Memref sig .tc .smem S16 .f32} {h15 : m15.IsWhole} {m16 : Memref sig .tc .vmem S1024x1024 .bf16} {h16 : m16.IsWhole} {m17 : Memref sig .tc .vmem S1x1024x1024 .f32} {h17 : m17.IsWhole} {m18 : Memref sig .tc .vmem S4x256x1152 .bf16} {h18 : m18.IsWhole} {m19 : Memref sig .tc .vmem S4x1152x256 .bf16} {h19 : m19.IsWhole} {m20 : Memref sig .tc .vmem S1024x1024 .bf16} {h20 : m20.IsWhole} {x0 : Vec Ideal S1x1024x1024 .f32} {x1 : Vec Ideal S1x1024 .f32} {x2 : Vec Ideal S1x1024 .f32} {x3 : Vec Ideal S1024x512 .bf16} {x4 : Vec Ideal S64x1 .f32} {x5 : Vec Ideal S2x8x512 .f32} {x6 : Vec Ideal S2x8x512 .f32} {x7 : Vec Ideal S1024x2048 .bf16} {x8 : Vec Ideal S256x256 .bf16} {x9 : Vec Ideal S1x128 .f32} {x10 : Vec Ideal S1x128 .f32} {x11 : Vec Ideal S1024x128 .f32} {x12 : Vec Ideal S1024x128 .f32} {x13 : Vec Ideal S16 .f32} {x14 : Vec Ideal S1024x1024 .bf16} {s0 : Vec Ideal S4x256x1152 .bf16} {s1 : Vec Ideal S4x1152x256 .bf16} {s2 : Vec Ideal S1024x1024 .bf16} {r : Args Ideal} (hr : r = Args.mk c i m2 h2 m3 h3 m4 h4 m5 h5 m6 h6 m7 h7 m8 h8 m9 h9 m10 h10 m11 h11 m12 h12 m13 h13 m14 h14 m15 h15 m16 h16 m17 h17 m18 h18 m19 h19 m20 h20 x0 x1 x2 x3 x4 x5 x6 x7 x8 x9 x10 x11 x12 x13 x14 s0 s1 s2) (hc0 : cond0_0 i) (hc1 : cond0_1 i) (hc2 : ¬cond0_2 i) :
    sout0_A_2 c i m2 h2 m3 h3 m4 h4 m5 h5 m6 h6 m7 h7 m8 h8 m9 h9 m10 h10 m11 h11 m12 h12 m13 h13 m14 h14 m15 h15 m16 h16 m17 h17 m18 h18 m19 h19 m20 h20 hc0 hc1 hc2 x0 x1 x2 x3 x4 x5 x6 x7 x8 x9 x10 x11 x12 x13 x14
      = View.canon r.lq := by
  subst hr
  exact end_wq_A (Args.mk c i m2 h2 m3 h3 m4 h4 m5 h5 m6 h6 m7 h7 m8 h8 m9 h9 m10 h10 m11 h11 m12 h12 m13 h13 m14 h14 m15 h15 m16 h16 m17 h17 m18 h18 m19 h19 m20 h20 x0 x1 x2 x3 x4 x5 x6 x7 x8 x9 x10 x11 x12 x13 x14 s0 s1 s2) hc0 hc1 hc2

theorem lit_out_B {c : Dev nD} {i : grid0.Coords} {m2 : Memref sig .tc .vmem S1x1024x1024 .f32} {h2 : m2.IsWhole} {m3 : Memref sig .tc .vmem S1x1024 .f32} {h3 : m3.IsWhole} {m4 : Memref sig .tc .vmem S1x1024 .f32} {h4 : m4.IsWhole} {m5 : Memref sig .tc .vmem S1024x512 .bf16} {h5 : m5.IsWhole} {m6 : Memref sig .tc .vmem S64x1 .f32} {h6 : m6.IsWhole} {m7 : Memref sig .tc .vmem S2x8x512 .f32} {h7 : m7.IsWhole} {m8 : Memref sig .tc .vmem S2x8x512 .f32} {h8 : m8.IsWhole} {m9 : Memref sig .tc .vmem S1024x2048 .bf16} {h9 : m9.IsWhole} {m10 : Memref sig .tc .vmem S256x256 .bf16} {h10 : m10.IsWhole} {m11 : Memref sig .tc .vmem S1x128 .f32} {h11 : m11.IsWhole} {m12 : Memref sig .tc .vmem S1x128 .f32} {h12 : m12.IsWhole} {m13 : Memref sig .tc .vmem S1024x128 .f32} {h13 : m13.IsWhole} {m14 : Memref sig .tc .vmem S1024x128 .f32} {h14 : m14.IsWhole} {m15 : Memref sig .tc .smem S16 .f32} {h15 : m15.IsWhole} {m16 : Memref sig .tc .vmem S1024x1024 .bf16} {h16 : m16.IsWhole} {m17 : Memref sig .tc .vmem S1x1024x1024 .f32} {h17 : m17.IsWhole} {m18 : Memref sig .tc .vmem S4x256x1152 .bf16} {h18 : m18.IsWhole} {m19 : Memref sig .tc .vmem S4x1152x256 .bf16} {h19 : m19.IsWhole} {m20 : Memref sig .tc .vmem S1024x1024 .bf16} {h20 : m20.IsWhole} {x0 : Vec Ideal S1x1024x1024 .f32} {x1 : Vec Ideal S1x1024 .f32} {x2 : Vec Ideal S1x1024 .f32} {x3 : Vec Ideal S1024x512 .bf16} {x4 : Vec Ideal S64x1 .f32} {x5 : Vec Ideal S2x8x512 .f32} {x6 : Vec Ideal S2x8x512 .f32} {x7 : Vec Ideal S1024x2048 .bf16} {x8 : Vec Ideal S256x256 .bf16} {x9 : Vec Ideal S1x128 .f32} {x10 : Vec Ideal S1x128 .f32} {x11 : Vec Ideal S1024x128 .f32} {x12 : Vec Ideal S1024x128 .f32} {x13 : Vec Ideal S16 .f32} {x14 : Vec Ideal S1024x1024 .bf16} {s0 : Vec Ideal S4x256x1152 .bf16} {s1 : Vec Ideal S4x1152x256 .bf16} {s2 : Vec Ideal S1024x1024 .bf16} {r : Args Ideal} (hr : r = Args.mk c i m2 h2 m3 h3 m4 h4 m5 h5 m6 h6 m7 h7 m8 h8 m9 h9 m10 h10 m11 h11 m12 h12 m13 h13 m14 h14 m15 h15 m16 h16 m17 h17 m18 h18 m19 h19 m20 h20 x0 x1 x2 x3 x4 x5 x6 x7 x8 x9 x10 x11 x12 x13 x14 s0 s1 s2) (hc0 : ¬cond0_0 i) (hc1 : ¬cond0_1 i) (hc2 : cond0_2 i) :
    out0_B_15 c i m2 h2 m3 h3 m4 h4 m5 h5 m6 h6 m7 h7 m8 h8 m9 h9 m10 h10 m11 h11 m12 h12 m13 h13 m14 h14 m15 h15 m16 h16 m17 h17 m18 h18 m19 h19 m20 h20 hc0 hc1 hc2 x0 x1 x2 x3 x4 x5 x6 x7 x8 x9 x10 x11 x12 x13 x14 s0 s1 s2
      = View.canon (LOut (yB0 r) (yB1 r) r.xo00 r.xo01 r.xo10 r.xo11 r.wo0 r.wo1) := by
  subst hr
  exact end_out_B (Args.mk c i m2 h2 m3 h3 m4 h4 m5 h5 m6 h6 m7 h7 m8 h8 m9 h9 m10 h10 m11 h11 m12 h12 m13 h13 m14 h14 m15 h15 m16 h16 m17 h17 m18 h18 m19 h19 m20 h20 x0 x1 x2 x3 x4 x5 x6 x7 x8 x9 x10 x11 x12 x13 x14 s0 s1 s2) hc0 hc1 hc2

theorem lit_keys_B {c : Dev nD} {i : grid0.Coords} {m2 : Memref sig .tc .vmem S1x1024x1024 .f32} {h2 : m2.IsWhole} {m3 : Memref sig .tc .vmem S1x1024 .f32} {h3 : m3.IsWhole} {m4 : Memref sig .tc .vmem S1x1024 .f32} {h4 : m4.IsWhole} {m5 : Memref sig .tc .vmem S1024x512 .bf16} {h5 : m5.IsWhole} {m6 : Memref sig .tc .vmem S64x1 .f32} {h6 : m6.IsWhole} {m7 : Memref sig .tc .vmem S2x8x512 .f32} {h7 : m7.IsWhole} {m8 : Memref sig .tc .vmem S2x8x512 .f32} {h8 : m8.IsWhole} {m9 : Memref sig .tc .vmem S1024x2048 .bf16} {h9 : m9.IsWhole} {m10 : Memref sig .tc .vmem S256x256 .bf16} {h10 : m10.IsWhole} {m11 : Memref sig .tc .vmem S1x128 .f32} {h11 : m11.IsWhole} {m12 : Memref sig .tc .vmem S1x128 .f32} {h12 : m12.IsWhole} {m13 : Memref sig .tc .vmem S1024x128 .f32} {h13 : m13.IsWhole} {m14 : Memref sig .tc .vmem S1024x128 .f32} {h14 : m14.IsWhole} {m15 : Memref sig .tc .smem S16 .f32} {h15 : m15.IsWhole} {m16 : Memref sig .tc .vmem S1024x1024 .bf16} {h16 : m16.IsWhole} {m17 : Memref sig .tc .vmem S1x1024x1024 .f32} {h17 : m17.IsWhole} {m18 : Memref sig .tc .vmem S4x256x1152 .bf16} {h18 : m18.IsWhole} {m19 : Memref sig .tc .vmem S4x1152x256 .bf16} {h19 : m19.IsWhole} {m20 : Memref sig .tc .vmem S1024x1024 .bf16} {h20 : m20.IsWhole} {x0 : Vec Ideal S1x1024x1024 .f32} {x1 : Vec Ideal S1x1024 .f32} {x2 : Vec Ideal S1x1024 .f32} {x3 : Vec Ideal S1024x512 .bf16} {x4 : Vec Ideal S64x1 .f32} {x5 : Vec Ideal S2x8x512 .f32} {x6 : Vec Ideal S2x8x512 .f32} {x7 : Vec Ideal S1024x2048 .bf16} {x8 : Vec Ideal S256x256 .bf16} {x9 : Vec Ideal S1x128 .f32} {x10 : Vec Ideal S1x128 .f32} {x11 : Vec Ideal S1024x128 .f32} {x12 : Vec Ideal S1024x128 .f32} {x13 : Vec Ideal S16 .f32} {x14 : Vec Ideal S1024x1024 .bf16} {s0 : Vec Ideal S4x256x1152 .bf16} {s1 : Vec Ideal S4x1152x256 .bf16} {s2 : Vec Ideal S1024x1024 .bf16} {r : Args Ideal} (hr : r = Args.mk c i m2 h2 m3 h3 m4 h4 m5 h5 m6 h6 m7 h7 m8 h8 m9 h9 m10 h10 m11 h11 m12 h12 m13 h13 m14 h14 m15 h15 m16 h16 m17 h17 m18 h18 m19 h19 m20 h20 x0 x1 x2 x3 x4 x5 x6 x7 x8 x9 x10 x11 x12 x13 x14 s0 s1 s2) (hc0 : ¬cond0_0 i) (hc1 : ¬cond0_1 i) (hc2 : cond0_2 i) :
    sout0_B_0 c i m2 h2 m3 h3 m4 h4 m5 h5 m6 h6 m7 h7 m8 h8 m9 h9 m10 h10 m11 h11 m12 h12 m13 h13 m14 h14 m15 h15 m16 h16 m17 h17 m18 h18 m19 h19 m20 h20 hc0 hc1 hc2 x0 x1 x2 x3 x4 x5 x6 x7 x8 x9 x10 x11 x12 x13 x14 s0 s1 s2
      = View.canon (r.lk1 (bkB r)) := by
  subst hr
  exact end_keys_B (Args.mk c i m2 h2 m3 h3 m4 h4 m5 h5 m6 h6 m7 h7 m8 h8 m9 h9 m10 h10 m11 h11 m12 h12 m13 h13 m14 h14 m15 h15 m16 h16 m17 h17 m18 h18 m19 h19 m20 h20 x0 x1 x2 x3 x4 x5 x6 x7 x8 x9 x10 x11 x12 x13 x14 s0 s1 s2) hc0 hc1 hc2

theorem lit_vals_B {c : Dev nD} {i : grid0.Coords} {m2 : Memref sig .tc .vmem S1x1024x1024 .f32} {h2 : m2.IsWhole} {m3 : Memref sig .tc .vmem S1x1024 .f32} {h3 : m3.IsWhole} {m4 : Memref sig .tc .vmem S1x1024 .f32} {h4 : m4.IsWhole} {m5 : Memref sig .tc .vmem S1024x512 .bf16} {h5 : m5.IsWhole} {m6 : Memref sig .tc .vmem S64x1 .f32} {h6 : m6.IsWhole} {m7 : Memref sig .tc .vmem S2x8x512 .f32} {h7 : m7.IsWhole} {m8 : Memref sig .tc .vmem S2x8x512 .f32} {h8 : m8.IsWhole} {m9 : Memref sig .tc .vmem S1024x2048 .bf16} {h9 : m9.IsWhole} {m10 : Memref sig .tc .vmem S256x256 .bf16} {h10 : m10.IsWhole} {m11 : Memref sig .tc .vmem S1x128 .f32} {h11 : m11.IsWhole} {m12 : Memref sig .tc .vmem S1x128 .f32} {h12 : m12.IsWhole} {m13 : Memref sig .tc .vmem S1024x128 .f32} {h13 : m13.IsWhole} {m14 : Memref sig .tc .vmem S1024x128 .f32} {h14 : m14.IsWhole} {m15 : Memref sig .tc .smem S16 .f32} {h15 : m15.IsWhole} {m16 : Memref sig .tc .vmem S1024x1024 .bf16} {h16 : m16.IsWhole} {m17 : Memref sig .tc .vmem S1x1024x1024 .f32} {h17 : m17.IsWhole} {m18 : Memref sig .tc .vmem S4x256x1152 .bf16} {h18 : m18.IsWhole} {m19 : Memref sig .tc .vmem S4x1152x256 .bf16} {h19 : m19.IsWhole} {m20 : Memref sig .tc .vmem S1024x1024 .bf16} {h20 : m20.IsWhole} {x0 : Vec Ideal S1x1024x1024 .f32} {x1 : Vec Ideal S1x1024 .f32} {x2 : Vec Ideal S1x1024 .f32} {x3 : Vec Ideal S1024x512 .bf16} {x4 : Vec Ideal S64x1 .f32} {x5 : Vec Ideal S2x8x512 .f32} {x6 : Vec Ideal S2x8x512 .f32} {x7 : Vec Ideal S1024x2048 .bf16} {x8 : Vec Ideal S256x256 .bf16} {x9 : Vec Ideal S1x128 .f32} {x10 : Vec Ideal S1x128 .f32} {x11 : Vec Ideal S1024x128 .f32} {x12 : Vec Ideal S1024x128 .f32} {x13 : Vec Ideal S16 .f32} {x14 : Vec Ideal S1024x1024 .bf16} {s0 : Vec Ideal S4x256x1152 .bf16} {s1 : Vec Ideal S4x1152x256 .bf16} {s2 : Vec Ideal S1024x1024 .bf16} {r : Args Ideal} (hr : r = Args.mk c i m2 h2 m3 h3 m4 h4 m5 h5 m6 h6 m7 h7 m8 h8 m9 h9 m10 h10 m11 h11 m12 h12 m13 h13 m14 h14 m15 h15 m16 h16 m17 h17 m18 h18 m19 h19 m20 h20 x0 x1 x2 x3 x4 x5 x6 x7 x8 x9 x10 x11 x12 x13 x14 s0 s1 s2) (hc0 : ¬cond0_0 i) (hc1 : ¬cond0_1 i) (hc2 : cond0_2 i) :
    sout0_B_1 c i m2 h2 m3 h3 m4 h4 m5 h5 m6 h6 m7 h7 m8 h8 m9 h9 m10 h10 m11 h11 m12 h12 m13 h13 m14 h14 m15 h15 m16 h16 m17 h17 m18 h18 m19 h19 m20 h20 hc0 hc1 hc2 x0 x1 x2 x3 x4 x5 x6 x7 x8 x9 x10 x11 x12 x13 x14 s0 s1 s2
      = View.canon (r.lv1 (bvB r) (wholeV r.s1)) := by
  subst hr
  exact end_vals_B (Args.mk c i m2 h2 m3 h3 m4 h4 m5 h5 m6 h6 m7 h7 m8 h8 m9 h9 m10 h10 m11 h11 m12 h12 m13 h13 m14 h14 m15 h15 m16 h16 m17 h17 m18 h18 m19 h19 m20 h20 x0 x1 x2 x3 x4 x5 x6 x7 x8 x9 x10 x11 x12 x13 x14 s0 s1 s2) hc0 hc1 hc2

theorem lit_out_C {c : Dev nD} {i : grid0.Coords} {m2 : Memref sig .tc .vmem S1x1024x1024 .f32} {h2 : m2.IsWhole} {m3 : Memref sig .tc .vmem S1x1024 .f32} {h3 : m3.IsWhole} {m4 : Memref sig .tc .vmem S1x1024 .f32} {h4 : m4.IsWhole} {m5 : Memref sig .tc .vmem S1024x512 .bf16} {h5 : m5.IsWhole} {m6 : Memref sig .tc .vmem S64x1 .f32} {h6 : m6.IsWhole} {m7 : Memref sig .tc .vmem S2x8x512 .f32} {h7 : m7.IsWhole} {m8 : Memref sig .tc .vmem S2x8x512 .f32} {h8 : m8.IsWhole} {m9 : Memref sig .tc .vmem S1024x2048 .bf16} {h9 : m9.IsWhole} {m10 : Memref sig .tc .vmem S256x256 .bf16} {h10 : m10.IsWhole} {m11 : Memref sig .tc .vmem S1x128 .f32} {h11 : m11.IsWhole} {m12 : Memref sig .tc .vmem S1x128 .f32} {h12 : m12.IsWhole} {m13 : Memref sig .tc .vmem S1024x128 .f32} {h13 : m13.IsWhole} {m14 : Memref sig .tc .vmem S1024x128 .f32} {h14 : m14.IsWhole} {m15 : Memref sig .tc .smem S16 .f32} {h15 : m15.IsWhole} {m16 : Memref sig .tc .vmem S1024x1024 .bf16} {h16 : m16.IsWhole} {m17 : Memref sig .tc .vmem S1x1024x1024 .f32} {h17 : m17.IsWhole} {m18 : Memref sig .tc .vmem S4x256x1152 .bf16} {h18 : m18.IsWhole} {m19 : Memref sig .tc .vmem S4x1152x256 .bf16} {h19 : m19.IsWhole} {m20 : Memref sig .tc .vmem S1024x1024 .bf16} {h20 : m20.IsWhole} {x0 : Vec Ideal S1x1024x1024 .f32} {x1 : Vec Ideal S1x1024 .f32} {x2 : Vec Ideal S1x1024 .f32} {x3 : Vec Ideal S1024x512 .bf16} {x4 : Vec Ideal S64x1 .f32} {x5 : Vec Ideal S2x8x512 .f32} {x6 : Vec Ideal S2x8x512 .f32} {x7 : Vec Ideal S1024x2048 .bf16} {x8 : Vec Ideal S256x256 .bf16} {x9 : Vec Ideal S1x128 .f32} {x10 : Vec Ideal S1x128 .f32} {x11 : Vec Ideal S1024x128 .f32} {x12 : Vec Ideal S1024x128 .f32} {x13 : Vec Ideal S16 .f32} {x14 : Vec Ideal S1024x1024 .bf16} {s0 : Vec Ideal S4x256x1152 .bf16} {s1 : Vec Ideal S4x1152x256 .bf16} {s2 : Vec Ideal S1024x1024 .bf16} {r : Args Ideal} (hr : r = Args.mk c i m2 h2 m3 h3 m4 h4 m5 h5 m6 h6 m7 h7 m8 h8 m9 h9 m10 h10 m11 h11 m12 h12 m13 h13 m14 h14 m15 h15 m16 h16 m17 h17 m18 h18 m19 h19 m20 h20 x0 x1 x2 x3 x4 x5 x6 x7 x8 x9 x10 x11 x12 x13 x14 s0 s1 s2) (hc0 : ¬cond0_0 i) (hc1 : cond0_1 i) (hc2 : ¬cond0_2 i) :
    out0_C_15 c i m2 h2 m3 h3 m4 h4 m5 h5 m6 h6 m7 h7 m8 h8 m9 h9 m10 h10 m11 h11 m12 h12 m13 h13 m14 h14 m15 h15 m16 h16 m17 h17 m18 h18 m19 h19 m20 h20 hc0 hc1 hc2 x0 x1 x2 x3 x4 x5 x6 x7 x8 x9 x10 x11 x12 x13 x14 s1 s2
      = View.canon (LOut (yC0 r) (yC1 r) r.xo00 r.xo01 r.xo10 r.xo11 r.wo0 r.wo1) := by
  subst hr
  exact end_out_C (Args.mk c i m2 h2 m3 h3 m4 h4 m5 h5 m6 h6 m7 h7 m8 h8 m9 h9 m10 h10 m11 h11 m12 h12 m13 h13 m14 h14 m15 h15 m16 h16 m17 h17 m18 h18 m19 h19 m20 h20 x0 x1 x2 x3 x4 x5 x6 x7 x8 x9 x10 x11 x12 x13 x14 s0 s1 s2) hc0 hc1 hc2

theorem lit_keys_C {c : Dev nD} {i : grid0.Coords} {m2 : Memref sig .tc .vmem S1x1024x1024 .f32} {h2 : m2.IsWhole} {m3 : Memref sig .tc .vmem S1x1024 .f32} {h3 : m3.IsWhole} {m4 : Memref sig .tc .vmem S1x1024 .f32} {h4 : m4.IsWhole} {m5 : Memref sig .tc .vmem S1024x512 .bf16} {h5 : m5.IsWhole} {m6 : Memref sig .tc .vmem S64x1 .f32} {h6 : m6.IsWhole} {m7 : Memref sig .tc .vmem S2x8x512 .f32} {h7 : m7.IsWhole} {m8 : Memref sig .tc .vmem S2x8x512 .f32} {h8 : m8.IsWhole} {m9 : Memref sig .tc .vmem S1024x2048 .bf16} {h9 : m9.IsWhole} {m10 : Memref sig .tc .vmem S256x256 .bf16} {h10 : m10.IsWhole} {m11 : Memref sig .tc .vmem S1x128 .f32} {h11 : m11.IsWhole} {m12 : Memref sig .tc .vmem S1x128 .f32} {h12 : m12.IsWhole} {m13 : Memref sig .tc .vmem S1024x128 .f32} {h13 : m13.IsWhole} {m14 : Memref sig .tc .vmem S1024x128 .f32} {h14 : m14.IsWhole} {m15 : Memref sig .tc .smem S16 .f32} {h15 : m15.IsWhole} {m16 : Memref sig .tc .vmem S1024x1024 .bf16} {h16 : m16.IsWhole} {m17 : Memref sig .tc .vmem S1x1024x1024 .f32} {h17 : m17.IsWhole} {m18 : Memref sig .tc .vmem S4x256x1152 .bf16} {h18 : m18.IsWhole} {m19 : Memref sig .tc .vmem S4x1152x256 .bf16} {h19 : m19.IsWhole} {m20 : Memref sig .tc .vmem S1024x1024 .bf16} {h20 : m20.IsWhole} {x0 : Vec Ideal S1x1024x1024 .f32} {x1 : Vec Ideal S1x1024 .f32} {x2 : Vec Ideal S1x1024 .f32} {x3 : Vec Ideal S1024x512 .bf16} {x4 : Vec Ideal S64x1 .f32} {x5 : Vec Ideal S2x8x512 .f32} {x6 : Vec Ideal S2x8x512 .f32} {x7 : Vec Ideal S1024x2048 .bf16} {x8 : Vec Ideal S256x256 .bf16} {x9 : Vec Ideal S1x128 .f32} {x10 : Vec Ideal S1x128 .f32} {x11 : Vec Ideal S1024x128 .f32} {x12 : Vec Ideal S1024x128 .f32} {x13 : Vec Ideal S16 .f32} {x14 : Vec Ideal S1024x1024 .bf16} {s0 : Vec Ideal S4x256x1152 .bf16} {s1 : Vec Ideal S4x1152x256 .bf16} {s2 : Vec Ideal S1024x1024 .bf16} {r : Args Ideal} (hr : r = Args.mk c i m2 h2 m3 h3 m4 h4 m5 h5 m6 h6 m7 h7 m8 h8 m9 h9 m10 h10 m11 h11 m12 h12 m13 h13 m14 h14 m15 h15 m16 h16 m17 h17 m18 h18 m19 h19 m20 h20 x0 x1 x2 x3 x4 x5 x6 x7 x8 x9 x10 x11 x12 x13 x14 s0 s1 s2) (hc0 : ¬cond0_0 i) (hc1 : cond0_1 i) (hc2 : ¬cond0_2 i) :
    sout0_C_0 c i m2 h2 m3 h3 m4 h4 m5 h5 m6 h6 m7 h7 m8 h8 m9 h9 m10 h10 m11 h11 m12 h12 m13 h13 m14 h14 m15 h15 m16 h16 m17 h17 m18 h18 m19 h19 m20 h20 hc0 hc1 hc2 x0 x1 x2 x3 x4 x5 x6 x7 x8 x9 x10 x11 x12 x13 x14 s1 s2
      = View.canon (r.lk1 bkC) := by
  subst hr
  exact end_keys_C (Args.mk c i m2 h2 m3 h3 m4 h4 m5 h5 m6 h6 m7 h7 m8 h8 m9 h9 m10 h10 m11 h11 m12 h12 m13 h13 m14 h14 m15 h15 m16 h16 m17 h17 m18 h18 m19 h19 m20 h20 x0 x1 x2 x3 x4 x5 x6 x7 x8 x9 x10 x11 x12 x13 x14 s0 s1 s2) hc0 hc1 hc2

theorem lit_vals_C {c : Dev nD} {i : grid0.Coords} {m2 : Memref sig .tc .vmem S1x1024x1024 .f32} {h2 : m2.IsWhole} {m3 : Memref sig .tc .vmem S1x1024 .f32} {h3 : m3.IsWhole} {m4 : Memref sig .tc .vmem S1x1024 .f32} {h4 : m4.IsWhole} {m5 : Memref sig .tc .vmem S1024x512 .bf16} {h5 : m5.IsWhole} {m6 : Memref sig .tc .vmem S64x1 .f32} {h6 : m6.IsWhole} {m7 : Memref sig .tc .vmem S2x8x512 .f32} {h7 : m7.IsWhole} {m8 : Memref sig .tc .vmem S2x8x512 .f32} {h8 : m8.IsWhole} {m9 : Memref sig .tc .vmem S1024x2048 .bf16} {h9 : m9.IsWhole} {m10 : Memref sig .tc .vmem S256x256 .bf16} {h10 : m10.IsWhole} {m11 : Memref sig .tc .vmem S1x128 .f32} {h11 : m11.IsWhole} {m12 : Memref sig .tc .vmem S1x128 .f32} {h12 : m12.IsWhole} {m13 : Memref sig .tc .vmem S1024x128 .f32} {h13 : m13.IsWhole} {m14 : Memref sig .tc .vmem S1024x128 .f32} {h14 : m14.IsWhole} {m15 : Memref sig .tc .smem S16 .f32} {h15 : m15.IsWhole} {m16 : Memref sig .tc .vmem S1024x1024 .bf16} {h16 : m16.IsWhole} {m17 : Memref sig .tc .vmem S1x1024x1024 .f32} {h17 : m17.IsWhole} {m18 : Memref sig .tc .vmem S4x256x1152 .bf16} {h18 : m18.IsWhole} {m19 : Memref sig .tc .vmem S4x1152x256 .bf16} {h19 : m19.IsWhole} {m20 : Memref sig .tc .vmem S1024x1024 .bf16} {h20 : m20.IsWhole} {x0 : Vec Ideal S1x1024x1024 .f32} {x1 : Vec Ideal S1x1024 .f32} {x2 : Vec Ideal S1x1024 .f32} {x3 : Vec Ideal S1024x512 .bf16} {x4 : Vec Ideal S64x1 .f32} {x5 : Vec Ideal S2x8x512 .f32} {x6 : Vec Ideal S2x8x512 .f32} {x7 : Vec Ideal S1024x2048 .bf16} {x8 : Vec Ideal S256x256 .bf16} {x9 : Vec Ideal S1x128 .f32} {x10 : Vec Ideal S1x128 .f32} {x11 : Vec Ideal S1024x128 .f32} {x12 : Vec Ideal S1024x128 .f32} {x13 : Vec Ideal S16 .f32} {x14 : Vec Ideal S1024x1024 .bf16} {s0 : Vec Ideal S4x256x1152 .bf16} {s1 : Vec Ideal S4x1152x256 .bf16} {s2 : Vec Ideal S1024x1024 .bf16} {r : Args Ideal} (hr : r = Args.mk c i m2 h2 m3 h3 m4 h4 m5 h5 m6 h6 m7 h7 m8 h8 m9 h9 m10 h10 m11 h11 m12 h12 m13 h13 m14 h14 m15 h15 m16 h16 m17 h17 m18 h18 m19 h19 m20 h20 x0 x1 x2 x3 x4 x5 x6 x7 x8 x9 x10 x11 x12 x13 x14 s0 s1 s2) (hc0 : ¬cond0_0 i) (hc1 : cond0_1 i) (hc2 : ¬cond0_2 i) :
    sout0_C_1 c i m2 h2 m3 h3 m4 h4 m5 h5 m6 h6 m7 h7 m8 h8 m9 h9 m10 h10 m11 h11 m12 h12 m13 h13 m14 h14 m15 h15 m16 h16 m17 h17 m18 h18 m19 h19 m20 h20 hc0 hc1 hc2 x0 x1 x2 x3 x4 x5 x6 x7 x8 x9 x10 x11 x12 x13 x14 s1 s2
      = View.canon (r.lv1 bvC (wholeV r.s1)) := by
  subst hr
  exact end_vals_C (Args.mk c i m2 h2 m3 h3 m4 h4 m5 h5 m6 h6 m7 h7 m8 h8 m9 h9 m10 h10 m11 h11 m12 h12 m13 h13 m14 h14 m15 h15 m16 h16 m17 h17 m18 h18 m19 h19 m20 h20 x0 x1 x2 x3 x4 x5 x6 x7 x8 x9 x10 x11 x12 x13 x14 s0 s1 s2) hc0 hc1 hc2

theorem at_out_A (h0 : t.val % 32 = 0) (h1 : t.val % 8 = 0) (h2 : ¬1 ≤ t.val % 8) :
    (left m c t.val t.isLt).1 = View.canon (LOut (yA0 (rA m c t)) (yA1 (rA m c t)) (rA m c t).xo00 (rA m c t).xo01 (rA m c t).xo10 (rA m c t).xo11 (rA m c t).wo0 (rA m c t).wo1) := by
  refine (congrArg (fun z => z.1) (outsAt0_A m c t h0 h1 h2)).trans ?_
  dsimp only
  refine lit_out_A (s0 := fun _ => (0 : EReal)) (s1 := fun _ => (0 : EReal)) (s2 := fun _ => (0 : EReal)) (r := rA m c t) ?_ _ _ _
  rfl

theorem at_keys_A (h0 : t.val % 32 = 0) (h1 : t.val % 8 = 0) (h2 : ¬1 ≤ t.val % 8) :
    (left m c t.val t.isLt).2.1 = View.canon ((rA m c t).lk1 bkA) := by
  refine (congrArg (fun z => z.2.1) (outsAt0_A m c t h0 h1 h2)).trans ?_
  dsimp only
  refine lit_keys_A (s0 := fun _ => (0 : EReal)) (s1 := fun _ => (0 : EReal)) (s2 := fun _ => (0 : EReal)) (r := rA m c t) ?_ _ _ _
  rfl

theorem at_vals_A (h0 : t.val % 32 = 0) (h1 : t.val % 8 = 0) (h2 : ¬1 ≤ t.val % 8) :
    (left m c t.val t.isLt).2.2.1 = View.canon ((rA m c t).lv1 bvA onesV) := by
  refine (congrArg (fun z => z.2.2.1) (outsAt0_A m c t h0 h1 h2)).trans ?_
  dsimp only
  refine lit_vals_A (s0 := fun _ => (0 : EReal)) (s1 := fun _ => (0 : EReal)) (s2 := fun _ => (0 : EReal)) (r := rA m c t) ?_ _ _ _
  rfl

theorem at_wq_A (h0 : t.val % 32 = 0) (h1 : t.val % 8 = 0) (h2 : ¬1 ≤ t.val % 8) :
    (left m c t.val t.isLt).2.2.2 = View.canon (rA m c t).lq := by
  refine (congrArg (fun z => z.2.2.2) (outsAt0_A m c t h0 h1 h2)).trans ?_
  dsimp only
  refine lit_wq_A (s0 := fun _ => (0 : EReal)) (s1 := fun _ => (0 : EReal)) (s2 := fun _ => (0 : EReal)) (r := rA m c t) ?_ _ _ _
  rfl

theorem at_out_B (h0 : ¬t.val % 32 = 0) (h1 : ¬t.val % 8 = 0) (h2 : 1 ≤ t.val % 8) :
    (left m c t.val t.isLt).1 = View.canon (LOut (yB0 (rB m c t)) (yB1 (rB m c t)) (rB m c t).xo00 (rB m c t).xo01 (rB m c t).xo10 (rB m c t).xo11 (rB m c t).wo0 (rB m c t).wo1) := by
  refine (congrArg (fun z => z.1) (outsAt0_B m c t h0 h1 h2)).trans ?_
  dsimp only
  refine lit_out_B (s0 := (prev m c t).2.1) (s1 := (prev m c t).2.2.1) (s2 := (prev m c t).2.2.2) (r := rB m c t) ?_ _ _ _
  rfl

theorem at_keys_B (h0 : ¬t.val % 32 = 0) (h1 : ¬t.val % 8 = 0) (h2 : 1 ≤ t.val % 8) :
    (left m c t.val t.isLt).2.1 = View.canon ((rB m c t).lk1 (bkB (rB m c t))) := by
  refine (congrArg (fun z => z.2.1) (outsAt0_B m c t h0 h1 h2)).trans ?_
  dsimp only
  refine lit_keys_B (s0 := (prev m c t).2.1) (s1 := (prev m c t).2.2.1) (s2 := (prev m c t).2.2.2) (r := rB m c t) ?_ _ _ _
  rfl

theorem at_vals_B (h0 : ¬t.val % 32 = 0) (h1 : ¬t.val % 8 = 0) (h2 : 1 ≤ t.val % 8) :
    (left m c t.val t.isLt).2.2.1 = View.canon ((rB m c t).lv1 (bvB (rB m c t)) (wholeV (rB m c t).s1)) := by
  refine (congrArg (fun z => z.2.2.1) (outsAt0_B m c t h0 h1 h2)).trans ?_
  dsimp only
  refine lit_vals_B (s0 := (prev m c t).2.1) (s1 := (prev m c t).2.2.1) (s2 := (prev m c t).2.2.2) (r := rB m c t) ?_ _ _ _
  rfl

theorem at_wq_B (h0 : ¬t.val % 32 = 0) (h1 : ¬t.val % 8 = 0) (h2 : 1 ≤ t.val % 8) : (left m c t.val t.isLt).2.2.2 = (prev m c t).2.2.2 :=
  congrArg (fun z => z.2.2.2) (outsAt0_B m c t h0 h1 h2)

theorem at_out_C (h0 : ¬t.val % 32 = 0) (h1 : t.val % 8 = 0) (h2 : ¬1 ≤ t.val % 8) :
    (left m c t.val t.isLt).1 = View.canon (LOut (yC0 (rC m c t)) (yC1 (rC m c t)) (rC m c t).xo00 (rC m c t).xo01 (rC m c t).xo10 (rC m c t).xo11 (rC m c t).wo0 (rC m c t).wo1) := by
  refine (congrArg (fun z => z.1) (outsAt0_C m c t h0 h1 h2)).trans ?_
  dsimp only
  refine lit_out_C (s0 := fun _ => (0 : EReal)) (s1 := (prev m c t).2.2.1) (s2 := (prev m c t).2.2.2) (r := rC m c t) ?_ _ _ _
  rfl

theorem at_keys_C (h0 : ¬t.val % 32 = 0) (h1 : t.val % 8 = 0) (h2 : ¬1 ≤ t.val % 8) :
    (left m c t.val t.isLt).2.1 = View.canon ((rC m c t).lk1 bkC) := by
  refine (congrArg (fun z => z.2.1) (outsAt0_C m c t h0 h1 h2)).trans ?_
  dsimp only
  refine lit_keys_C (s0 := fun _ => (0 : EReal)) (s1 := (prev m c t).2.2.1) (s2 := (prev m c t).2.2.2) (r := rC m c t) ?_ _ _ _
  rfl

theorem at_vals_C (h0 : ¬t.val % 32 = 0) (h1 : t.val % 8 = 0) (h2 : ¬1 ≤ t.val % 8) :
    (left m c t.val t.isLt).2.2.1 = View.canon ((rC m c t).lv1 bvC (wholeV (rC m c t).s1)) := by
  refine (congrArg (fun z => z.2.2.1) (outsAt0_C m c t h0 h1 h2)).trans ?_
  dsimp only
  refine lit_vals_C (s0 := fun _ => (0 : EReal)) (s1 := (prev m c t).2.2.1) (s2 := (prev m c t).2.2.2) (r := rC m c t) ?_ _ _ _
  rfl

theorem at_wq_C (h0 : ¬t.val % 32 = 0) (h1 : t.val % 8 = 0) (h2 : ¬1 ≤ t.val % 8) : (left m c t.val t.isLt).2.2.2 = (prev m c t).2.2.2 :=
  congrArg (fun z => z.2.2.2) (outsAt0_C m c t h0 h1 h2)

/-- What the three scratches hold after point `t`. -/
structure Kept (t : Fin cfg0.N) : Prop where
  keys : KOk (layAt m c t) (tileAt t) (left m c t.val t.isLt).2.1
  vals : VOk (layAt m c t) (tileAt t) (left m c t.val t.isLt).2.2.1
  wq : QOk (layAt m c t) (left m c t.val t.isLt).2.2.2

theorem kept_A (h0 : t.val % 32 = 0) (h1 : t.val % 8 = 0) (h2 : ¬1 ≤ t.val % 8) : Kept m c t where
  keys := by rw [at_keys_A m c t h0 h1 h2]; exact keysOk_A (holds m c t _ _ _) h1
  vals := by rw [at_vals_A m c t h0 h1 h2]; exact valsOk_A (holds m c t _ _ _) h1
  wq := by rw [at_wq_A m c t h0 h1 h2]; exact fun k x => (holds m c t _ _ _).lq k x

/-- The point before `t`. -/
abbrev before : Fin cfg0.N := ⟨t.val - 1, Nat.lt_of_le_of_lt (Nat.sub_le _ _) t.isLt⟩

theorem layAt_before (h2 : 1 ≤ t.val % 8) : layAt m c (before t) = layAt m c t := by
  unfold layAt
  exact congrArg _ (Fin.ext (by show (t.val - 1) / 8 = t.val / 8; omega))

theorem kept_B (h0 : ¬t.val % 32 = 0) (h1 : ¬t.val % 8 = 0) (h2 : 1 ≤ t.val % 8) (hp : Kept m c (before t)) : Kept m c t where
  keys := by
    have k := hp.keys
    rw [layAt_before m c t h2] at k
    rw [at_keys_B m c t h0 h1 h2]
    exact keysOk_B (r := rB m c t) (holds m c t _ _ _) (tileAt (before t)) (by show t.val % 8 = (t.val - 1) % 8 + 1; omega) k
  vals := by
    have k := hp.vals
    rw [layAt_before m c t h2] at k
    rw [at_vals_B m c t h0 h1 h2]
    exact valsOk_B (r := rB m c t) (holds m c t _ _ _) (tileAt (before t)) (by show t.val % 8 = (t.val - 1) % 8 + 1; omega) k
  wq := by
    rw [at_wq_B m c t h0 h1 h2]
    exact hp.wq

theorem kept_C (h0 : ¬t.val % 32 = 0) (h1 : t.val % 8 = 0) (h2 : ¬1 ≤ t.val % 8) (hp : Kept m c (before t)) : Kept m c t where
  keys := by rw [at_keys_C m c t h0 h1 h2]; exact keysOk_C (holds m c t _ _ _) h1
  vals := by
    rw [at_vals_C m c t h0 h1 h2]
    exact valsOk_C (r := rC m c t) (holds m c t _ _ _) h1 (fun g x l hl => (hp.vals g x l).trans (if_neg (by omega)))
  wq := by
    rw [at_wq_C m c t h0 h1 h2]
    exact hp.wq

theorem kept : ∀ (n : ℕ) (hn : n < cfg0.N), Kept m c ⟨n, hn⟩
  | 0, hn => kept_A m c ⟨0, hn⟩ (Nat.zero_mod _) (Nat.zero_mod _) (by show ¬1 ≤ 0 % 8; omega)
  | n + 1, hn => by
    have hp : Kept m c (before ⟨n + 1, hn⟩) := kept n (Nat.lt_of_succ_lt hn)
    have hlt := hN ⟨n + 1, hn⟩
    by_cases h1 : (n + 1) % 8 = 0
    · exact kept_C m c ⟨n + 1, hn⟩ (by show ¬(n + 1) % 32 = 0; dsimp only at hlt; omega) h1 (by show ¬1 ≤ (n + 1) % 8; omega) hp
    · exact kept_B m c ⟨n + 1, hn⟩ (by show ¬(n + 1) % 32 = 0; omega) h1 (by show 1 ≤ (n + 1) % 8; omega) hp

theorem out_at (hf : (layAt m c t).Fine) (a o : Fin 1024) :
    ((left m c t.val t.isLt).1 : Vec Ideal S1x1024x1024 .f32) (ix3 0 a o) = (layAt m c t).out ⟨1024 * (t.val % 8) + a.val, by omega⟩ o := by
  have hlt := hN t
  by_cases h1 : t.val % 8 = 0
  · by_cases h0 : t.val % 32 = 0
    · rw [at_out_A m c t h0 h1 (by omega)]
      exact point_A (r := rA m c t) (holds m c t _ _ _) hf h1 a o
    · have hp : Kept m c (before t) := kept m c (t.val - 1) _
      rw [at_out_C m c t h0 h1 (by omega)]
      exact point_C (r := rC m c t) (holds m c t _ _ _) hf h1 (fun g x l hl => (hp.vals g x l).trans (if_neg (by omega))) hp.wq a o
  · have hp : Kept m c (before t) := kept m c (t.val - 1) _
    have h2 : 1 ≤ t.val % 8 := by omega
    have kk := hp.keys
    have kv := hp.vals
    rw [layAt_before m c t h2] at kk kv
    rw [at_out_B m c t (by omega) h1 h2]
    exact point_B (r := rB m c t) (holds m c t _ _ _) hf (tileAt (before t)) (by show t.val % 8 = (t.val - 1) % 8 + 1; omega) kk kv hp.wq a o

theorem G15_at (hf : ∀ b : Fin 4, (refLay (b0 m c) (b1 m c) (b2 m c) (b3 m c) (b4 m c) (b5 m c) (b6 m c) (b7 m c) (b8 m c) b).Fine)
    (b : Fin 4) (R : Fin 8192) (n : Fin 1024) :
    (G15 m c : Vec Ideal S4x8192x1024 .f32) (ix3 b R n)
      = (refLay (b0 m c) (b1 m c) (b2 m c) (b3 m c) (b4 m c) (b5 m c) (b6 m c) (b7 m c) (b8 m c) b).out R n := by
  have hp : pt15Of (ix3 b R n) = 8 * b.val + R.val / 1024 := by
    show 8 * (b.val / 1 - 0) + 1 * (R.val / 1024 - 0) + 1 * (n.val / 1024 - 0) = _
    omega
  have hlt : 8 * b.val + R.val / 1024 < cfg0.N := by rw [show cfg0.N = 32 from N_0]; omega
  have hh : pt15Of (ix3 b R n) < cfg0.N := by rw [hp]; exact hlt
  unfold G15
  rw [dif_pos hh, ← outsAt0_sweep m c _ hh]
  have hl : loc15Of (ix3 b R n) = ix3 0 (⟨R.val % 1024, by omega⟩ : Fin 1024) n := by
    funext a
    apply Fin.ext
    match a with
    | ⟨0, _⟩ => show b.val % 1 = 0; omega
    | ⟨1, _⟩ => show R.val % 1024 = R.val % 1024; rfl
    | ⟨2, _⟩ => show n.val % 1024 = n.val; omega
  rw [hl]
  have := out_at m c ⟨8 * b.val + R.val / 1024, hlt⟩ (hf _) ⟨R.val % 1024, by omega⟩ n
  have hb : (⟨(8 * b.val + R.val / 1024) / 8, by omega⟩ : Fin 4) = b := Fin.ext (by dsimp only; omega)
  have hR : (⟨1024 * ((8 * b.val + R.val / 1024) % 8) + R.val % 1024, by omega⟩ : Fin 8192) = R := Fin.ext (by dsimp only; omega)
  unfold layAt at this
  dsimp only at this
  rw [hb, hR] at this
  rw [← this]
  simp only [hp, left]

end Cert.YocoB

end
-- ==== Proof.B.Fine.lean ====
/-
  From the precondition: what keeps layer B's scores and sinks real.
-/
module

public import proofs.«01_k».proof.Pre_finite_b
public import Idealize.ShloMosaic.Lib.ReduceAll
public import proofs.«01_k».proof.Proof.B.RefO

@[expose] public section

set_option maxRecDepth 16384

noncomputable section

namespace Cert.YocoB

open Idealize.ShloMosaic Cert.ReferenceBIdeal Cert.ReferenceBIdeal.Gen

theorem real_of_cmp (a : EReal) (h : Ideal.cmp .olt (max a (-a)) (Ideal.ofBits .f32 0x7F800000#32) = 1#1) : Real' a := by
  have e : Ideal.ofBits .f32 0x7F800000#32 = ⊤ := by simp [Ideal.ofBits, Ideal.ieee]
  rw [e] at h
  have hlt : max a (-a) < ⊤ := by
    by_contra hc
    simp only [Ideal.cmp, decide_eq_false hc] at h
    exact absurd h (by decide)
  have h1 : a < ⊤ := lt_of_le_of_lt (le_max_left _ _) hlt
  have h2 : -a < ⊤ := lt_of_le_of_lt (le_max_right _ _) hlt
  have h3 : a ≠ ⊥ := by
    rintro rfl
    simp at h2
  exact ⟨a.toReal, (EReal.coe_toReal h1.ne h3).symm⟩

section
variable [Cert.Pre_finite_b.Facts]

theorem fine_args (x0 : Vec Ideal S4x8192x1024 .f32) (x1 : Vec Ideal S1024 .f32) (x2 : Vec Ideal S1024x512 .f32)
    (x3 : Vec Ideal S64 .f32) (x4 : Vec Ideal S1x1024 .f32) (x5 : Vec Ideal S1x1024x2048 .f32) (x6 : Vec Ideal S1x64 .f32)
    (x7 : Vec Ideal S1x16 .f32) (x8 : Vec Ideal S1x1024x1024 .f32)
    (h : Cert.Pre_finite_b.fn (F := Ideal) x0 x1 x2 x3 x4 x5 x6 x7 x8 = fun _ => 1#1) :
    (∀ i, Real' (x3 i)) ∧ (∀ i, Real' (x6 i)) ∧ (∀ i, Real' (x7 i)) := by
  have h0 := congrFun h ix0
  unfold Cert.Pre_finite_b.fn at h0
  dsimp only at h0
  obtain ⟨h0, a7⟩ := IntOp.andi_eq_one.1 h0
  obtain ⟨a3, a6⟩ := IntOp.andi_eq_one.1 h0
  exact ⟨fun i => real_of_cmp _ (Host.reduce_andi_all _ _ _ _ _ a3 i), fun i => real_of_cmp _ (Host.reduce_andi_all _ _ _ _ _ a6 i),
    fun i => real_of_cmp _ (Host.reduce_andi_all _ _ _ _ _ a7 i)⟩

end

theorem ang_eq (n : Fin 8192) (j : Fin 8) : ang n j = ((((BitVec.ofNat 32 n.val).toInt : ℝ)) : EReal) *
    Ideal.pow (Ideal.ofBits .f32 1223959552#32)
      (Ideal.div (-(Ideal.ofBits .f32 1073741824#32 * ((((BitVec.ofNat 32 j.val).toInt : ℝ)) : EReal))) (Ideal.ofBits .f32 1098907648#32)) := by
  unfold ang
  pointwise [Cert.ReferenceBIdeal.Read.val_main_v15, Cert.ReferenceBIdeal.Read.val_main_v14, Cert.ReferenceBIdeal.Read.val_main_v13, Cert.ReferenceBIdeal.Read.val_main_v12, Cert.ReferenceBIdeal.Read.val_main_v11, Cert.ReferenceBIdeal.Read.val_main_v10, Cert.ReferenceBIdeal.Read.val_main_v9, Cert.ReferenceBIdeal.Read.val_main_v8, Cert.ReferenceBIdeal.Read.val_main_v7, Cert.ReferenceBIdeal.Read.val_main_v6, Cert.ReferenceBIdeal.Read.val_main_v5, Cert.ReferenceBIdeal.Read.val_main_v4, Cert.ReferenceBIdeal.Read.val_main_v3, Cert.ReferenceBIdeal.Read.val_main_v2, Cert.ReferenceBIdeal.Read.val_main_v1, Cert.ReferenceBIdeal.Read.val_main_v0, Cert.ReferenceBIdeal.Read.val_main_cst, Cert.ReferenceBIdeal.Read.val_main_cst_0, Cert.ReferenceBIdeal.Read.val_main_cst_1, Cert.ReferenceBIdeal.Read.val_main_cst_2]
  rfl

/-- The angle of a row and a pair is real. -/
theorem real_ang (n : Fin 8192) (j : Fin 8) : Real' (ang n j) := by
  have e1 : Ideal.ofBits .f32 1223959552#32 = ((500000 : ℝ) : EReal) := by
    simp [Ideal.ofBits, Ideal.ieee, -EReal.coe_mul]
    norm_num
  have e2 : Ideal.ofBits .f32 1073741824#32 = ((2 : ℝ) : EReal) := by
    simp [Ideal.ofBits, Ideal.ieee, -EReal.coe_mul]
    try norm_num
  have e3 : Ideal.ofBits .f32 1098907648#32 = ((16 : ℝ) : EReal) := by
    simp [Ideal.ofBits, Ideal.ieee, -EReal.coe_mul]
    try norm_num
  have h0 : ((16 : ℝ) : EReal) ≠ 0 := by
    exact_mod_cast (by norm_num : (16 : ℝ) ≠ 0)
  rw [ang_eq, e1, e2, e3]
  unfold Ideal.div
  rw [if_neg h0, ← EReal.coe_mul, ← EReal.coe_neg, ← EReal.coe_inv, ← EReal.coe_mul]
  refine ⟨((BitVec.ofNat 32 n.val).toInt : ℝ) * Real.rpow 500000 (-(2 * ((BitVec.ofNat 32 j.val).toInt : ℝ)) * (16 : ℝ)⁻¹), ?_⟩
  rw [EReal.coe_mul]
  rfl

theorem real_rcos (n : Fin 8192) (j : Fin 8) : Real' (rcos n j) := by
  obtain ⟨a, ha⟩ := real_ang n j
  unfold rcos
  rw [ha]
  exact ⟨Real.cos a, rfl⟩

theorem real_rsin (n : Fin 8192) (j : Fin 8) : Real' (rsin n j) := by
  obtain ⟨a, ha⟩ := real_ang n j
  unfold rsin
  rw [ha]
  exact ⟨Real.sin a, rfl⟩

theorem fine_lay [Cert.Pre_finite_b.Facts] (x0 : Vec Ideal S4x8192x1024 .f32) (x1 : Vec Ideal S1024 .f32) (x2 : Vec Ideal S1024x512 .f32)
    (x3 : Vec Ideal S64 .f32) (x4 : Vec Ideal S1x1024 .f32) (x5 : Vec Ideal S1x1024x2048 .f32) (x6 : Vec Ideal S1x64 .f32)
    (x7 : Vec Ideal S1x16 .f32) (x8 : Vec Ideal S1x1024x1024 .f32)
    (h : Cert.Pre_finite_b.fn (F := Ideal) x0 x1 x2 x3 x4 x5 x6 x7 x8 = fun _ => 1#1) (b : Fin 4) :
    (refLay x0 x1 x2 x3 x4 x5 x6 x7 x8 b).Fine := by
  obtain ⟨f3, f6, f7⟩ := fine_args x0 x1 x2 x3 x4 x5 x6 x7 x8 h
  exact ⟨fun e => f3 _, fun e => f6 _, real_rcos, real_rsin, fun h => f7 _⟩

end Cert.YocoB

end
-- ==== Proof.B.Claim.lean ====
/-
  Layer B: from the same arrays the kernel's idealization and the reference's end with the same result, where what its
  scores are made of is finite.
-/
module

public import proofs.«01_k».proof.Defs
public import proofs.«01_k».proof.Proof.B.Array
public import proofs.«01_k».proof.Proof.B.Fine
public import proofs.«01_k».proof.Proof.Gen.ReferenceBIdeal.Run

@[expose] public section

set_option maxRecDepth 16384

noncomputable section

namespace Cert.YocoB

open Idealize.ShloMosaic Idealize.SL.Sem Cert.KernelBIdeal.Value

variable (m : (ℓ : Loc Cert.KernelBIdeal.nD Cert.KernelBIdeal.τ Cert.KernelBIdeal.sig) → Buf (Elt Ideal) ℓ) (c : Dev Cert.KernelBIdeal.nD)

theorem result_eq (hf : ∀ b : Fin 4, (refLay (b0 m c) (b1 m c) (b2 m c) (b3 m c) (b4 m c) (b5 m c) (b6 m c) (b7 m c) (b8 m c) b).Fine) :
    Cert.ReferenceBIdeal.Read.val_main_v166 (F := Ideal) (b0 m c) (b1 m c) (b2 m c) (b3 m c) (b4 m c) (b5 m c) (b6 m c) (b7 m c) (b8 m c)
      = (G15 m c : Vec Ideal Cert.KernelBIdeal.S4x8192x1024 .f32) := by
  funext j
  idx_vars j
  exact (ref_out _ _ _ _ _ _ _ _ _ hf _ _ _).trans (G15_at m c hf _ _ _).symm

theorem algebraic [Cert.Pre_finite_b.Facts] : Cert.algebraic_KernelBIdeal_ReferenceBIdeal_pre_finite_b := by
  intro m g m' g' hpre hm
  refine ⟨G15 m, Cert.KernelBIdeal.Value.run m g, ?_⟩
  refine (θ_run _ _ _).mono (fun r h c => ?_) (Cert.ReferenceBIdeal.Value.run m' g')
  obtain ⟨e0, hargs⟩ := h c
  obtain ⟨h0, h1, h2, h3, h4, h5, h6, h7, h8⟩ := hm c
  refine ⟨e0.trans ?_, hargs⟩
  rw [Cert.ReferenceBIdeal.Read.val_main_v166_eq,
    show StableHlo.launchContents m' c (Proc.devRef .tc Cert.ReferenceBIdeal.main_arg0) = b0 m c from h0,
    show StableHlo.launchContents m' c (Proc.devRef .tc Cert.ReferenceBIdeal.main_arg1) = b1 m c from h1,
    show StableHlo.launchContents m' c (Proc.devRef .tc Cert.ReferenceBIdeal.main_arg2) = b2 m c from h2,
    show StableHlo.launchContents m' c (Proc.devRef .tc Cert.ReferenceBIdeal.main_arg3) = b3 m c from h3,
    show StableHlo.launchContents m' c (Proc.devRef .tc Cert.ReferenceBIdeal.main_arg4) = b4 m c from h4,
    show StableHlo.launchContents m' c (Proc.devRef .tc Cert.ReferenceBIdeal.main_arg5) = b5 m c from h5,
    show StableHlo.launchContents m' c (Proc.devRef .tc Cert.ReferenceBIdeal.main_arg6) = b6 m c from h6,
    show StableHlo.launchContents m' c (Proc.devRef .tc Cert.ReferenceBIdeal.main_arg7) = b7 m c from h7,
    show StableHlo.launchContents m' c (Proc.devRef .tc Cert.ReferenceBIdeal.main_arg8) = b8 m c from h8]
  exact result_eq m c (fine_lay _ _ _ _ _ _ _ _ _ (hpre c))

end Cert.YocoB

end
-- ==== Proof.lean ====
/-
  The proof of `Cert.Claim`: the frames of the three programs of each layer, the named constants of layer B, and the
  equality of each idealized kernel's results with its reference's (`Cert.YocoA.algebraic`, `Cert.YocoB.algebraic`).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelB
public import proofs.«01_k».proof.Proof.Gen.KernelB.Frame
public import proofs.«01_k».proof.Proof.Gen.KernelBIdeal
public import proofs.«01_k».proof.Proof.Gen.KernelBIdeal.Frame
public import proofs.«01_k».proof.Proof.Gen.ReferenceBIdeal
public import proofs.«01_k».proof.Proof.Gen.ReferenceBIdeal.Run
public import proofs.«01_k».proof.Proof.Gen.Pre_finite_b
public import proofs.«01_k».proof.Proof.A.Claim
public import proofs.«01_k».proof.Proof.B.Claim

@[expose] public section

noncomputable section

namespace Cert.Proof

open Idealize.ShloMosaic Idealize.SL.Sem

/-- The reference of layer A runs, leaves its arguments as they were, and declares no semaphore. -/
theorem frame_ref : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- The reference of layer B runs, leaves its arguments as they were, and declares no semaphore. -/
theorem frame_refB : Cert.quiescent_ReferenceBIdeal := fun m ρ _ =>
  (θ_run Cert.ReferenceBIdeal.defs _ _).mono
    (fun r h => ⟨fun c => (h c).2, sem_eq_zero_of_no_sems (by decide) r.2⟩)
    (Cert.ReferenceBIdeal.Value.run (F := Ideal) m ρ)

/-- The same where the arguments are finite. -/
theorem frame_refB_pre [Cert.Pre_finite_b.Facts] : Cert.quiescent_ReferenceBIdeal_pre_finite_b := fun m ρ _ =>
  (θ_run Cert.ReferenceBIdeal.defs _ _).mono
    (fun r h => ⟨fun c => (h c).2, sem_eq_zero_of_no_sems (by decide) r.2⟩)
    (Cert.ReferenceBIdeal.Value.run (F := Ideal) m ρ)

/-- The three constants of layer B stand for minus infinity, infinity and the reciprocal of the logarithm of 2. -/
theorem named : Cert.preserves_KernelB_KernelBIdeal :=
  ⟨IdealRules.named_const.statement Cert.KernelBIdeal.κ "neg_inf" .f32 0xF149F2CA#32 ⊥ rfl,
    IdealRules.named_const.statement Cert.KernelBIdeal.κ "pos_inf" .f32 0x7F7FFFFF#32 ⊤ rfl,
    IdealRules.named_const.statement Cert.KernelBIdeal.κ "log2e" .f32 0x3FB8AA3B#32 (((Real.log 2)⁻¹ : ℝ) : EReal) rfl⟩

/-- Every claim of the two layers. -/
theorem claim : Cert.Claim :=
  ⟨Cert.Kernel.Gen.facts, Cert.KernelIdeal.Gen.facts, Cert.ReferenceIdeal.Gen.facts,
    Cert.KernelB.Gen.facts, Cert.KernelBIdeal.Gen.facts, Cert.ReferenceBIdeal.Gen.facts, Cert.Pre_finite_b.Gen.facts,
    fun m ρ _ => Cert.Kernel.Gen.frame m ρ, fun m ρ _ => Cert.KernelIdeal.Gen.frame m ρ, frame_ref,
    fun m ρ _ => Cert.KernelB.Gen.frame m ρ, fun m ρ _ => Cert.KernelBIdeal.Gen.frame m ρ,
    fun m ρ _ => Cert.KernelBIdeal.Gen.frame m ρ, frame_refB, frame_refB_pre,
    trivial, Cert.YocoA.algebraic, named, Cert.YocoB.algebraic⟩

end Cert.Proof

end
